-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v52_0)) (v1 : (c : Dev Cert.Kernel2Ideal.nD) → Buf (Elt Ideal) ((c.tc : Thread Cert.Kernel2Ideal.nD Cert.Kernel2Ideal.τ).loc Cert.Kernel2Ideal.main_v52_1)) (v2 : (c : Dev Cert.Kernel2Ideal.nD) → Buf (Elt Ideal) ((c.tc : Thread Cert.Kernel2Ideal.nD Cert.Kernel2Ideal.τ).loc Cert.Kernel2Ideal.main_v52_2)) (v3 : (c : Dev Cert.Kernel2Ideal.nD) → Buf (Elt Ideal) ((c.tc : Thread Cert.Kernel2Ideal.nD Cert.Kernel2Ideal.τ).loc Cert.Kernel2Ideal.main_v52_3)) (v4 : (c : Dev Cert.Kernel2Ideal.nD) → Buf (Elt Ideal) ((c.tc : Thread Cert.Kernel2Ideal.nD Cert.Kernel2Ideal.τ).loc Cert.Kernel2Ideal.main_v52_4)) (v5 : (c : Dev Cert.Kernel2Ideal.nD) → Buf (Elt Ideal) ((c.tc : Thread Cert.Kernel2Ideal.nD Cert.Kernel2Ideal.τ).loc Cert.Kernel2Ideal.main_v52_5)) (v6 : (c : Dev Cert.Kernel2Ideal.nD) → Buf (Elt Ideal) ((c.tc : Thread Cert.Kernel2Ideal.nD Cert.Kernel2Ideal.τ).loc Cert.Kernel2Ideal.main_v52_6)) (v7 : (c : Dev Cert.Kernel2Ideal.nD) → Buf (Elt Ideal) ((c.tc : Thread Cert.Kernel2Ideal.nD Cert.Kernel2Ideal.τ).loc Cert.Kernel2Ideal.main_v52_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v52_0) = v0 c
          ∧ r.2.mem ((c.tc : Thread Cert.Kernel2Ideal.nD Cert.Kernel2Ideal.τ).loc Cert.Kernel2Ideal.main_v52_1) = v1 c
          ∧ r.2.mem ((c.tc : Thread Cert.Kernel2Ideal.nD Cert.Kernel2Ideal.τ).loc Cert.Kernel2Ideal.main_v52_2) = v2 c
          ∧ r.2.mem ((c.tc : Thread Cert.Kernel2Ideal.nD Cert.Kernel2Ideal.τ).loc Cert.Kernel2Ideal.main_v52_3) = v3 c
          ∧ r.2.mem ((c.tc : Thread Cert.Kernel2Ideal.nD Cert.Kernel2Ideal.τ).loc Cert.Kernel2Ideal.main_v52_4) = v4 c
          ∧ r.2.mem ((c.tc : Thread Cert.Kernel2Ideal.nD Cert.Kernel2Ideal.τ).loc Cert.Kernel2Ideal.main_v52_5) = v5 c
          ∧ r.2.mem ((c.tc : Thread Cert.Kernel2Ideal.nD Cert.Kernel2Ideal.τ).loc Cert.Kernel2Ideal.main_v52_6) = v6 c
          ∧ r.2.mem ((c.tc : Thread Cert.Kernel2Ideal.nD Cert.Kernel2Ideal.τ).loc Cert.Kernel2Ideal.main_v52_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v164) = v0 c
          ∧ r.2.mem ((c.tc : Thread Cert.Reference2Ideal.nD Cert.Reference2Ideal.τ).loc Cert.Reference2Ideal.main_v165) = v1 c
          ∧ r.2.mem ((c.tc : Thread Cert.Reference2Ideal.nD Cert.Reference2Ideal.τ).loc Cert.Reference2Ideal.main_v167) = v2 c
          ∧ r.2.mem ((c.tc : Thread Cert.Reference2Ideal.nD Cert.Reference2Ideal.τ).loc Cert.Reference2Ideal.main_v169) = v3 c
          ∧ r.2.mem ((c.tc : Thread Cert.Reference2Ideal.nD Cert.Reference2Ideal.τ).loc Cert.Reference2Ideal.main_v171) = v4 c
          ∧ r.2.mem ((c.tc : Thread Cert.Reference2Ideal.nD Cert.Reference2Ideal.τ).loc Cert.Reference2Ideal.main_v173) = v5 c
          ∧ r.2.mem ((c.tc : Thread Cert.Reference2Ideal.nD Cert.Reference2Ideal.τ).loc Cert.Reference2Ideal.main_v136) = v6 c
          ∧ r.2.mem ((c.tc : Thread Cert.Reference2Ideal.nD Cert.Reference2Ideal.τ).loc Cert.Reference2Ideal.main_v159) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "chunk_decay_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.Kernel3Ideal.κ "chunk_decay_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.Kernel3Ideal.κ "chunk_decay_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.Kernel3Ideal.κ "chunk_decay_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.Kernel3Ideal.κ "chunk_decay_4" .f32 0x3F475303#32 ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  ∧ IdealRules.named_const.Statement Cert.Kernel3Ideal.κ "chunk_decay_5" .f32 0x3F61E7C9#32 ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.Kernel3Ideal.κ "chunk_decay_6" .f32 0x3F707C6F#32 ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  ∧ IdealRules.named_const.Statement Cert.Kernel3Ideal.κ "chunk_decay_7" .f32 0x3F781F6D#32 ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v81_0)) (v1 : (c : Dev Cert.Kernel3Ideal.nD) → Buf (Elt Ideal) ((c.tc : Thread Cert.Kernel3Ideal.nD Cert.Kernel3Ideal.τ).loc Cert.Kernel3Ideal.main_v81_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v81_0) = v0 c
          ∧ r.2.mem ((c.tc : Thread Cert.Kernel3Ideal.nD Cert.Kernel3Ideal.τ).loc Cert.Kernel3Ideal.main_v81_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v161) = v0 c
          ∧ r.2.mem ((c.tc : Thread Cert.Reference3Ideal.nD Cert.Reference3Ideal.τ).loc Cert.Reference3Ideal.main_v162) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "masked" .f32 0xF149F2CA#32 ⊥

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_v133) = v1 c
          ∧ r.2.mem ((c.tc : Thread Cert.Reference4Ideal.nD Cert.Reference4Ideal.τ).loc Cert.Reference4Ideal.main_v135) = v2 c
          ∧ r.2.mem ((c.tc : Thread Cert.Reference4Ideal.nD Cert.Reference4Ideal.τ).loc Cert.Reference4Ideal.main_v129) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)) (v7 : (c : Dev Cert.Kernel5Ideal.nD) → Buf (Elt Ideal) ((c.tc : Thread Cert.Kernel5Ideal.nD Cert.Kernel5Ideal.τ).loc Cert.Kernel5Ideal.main_v10_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_v10_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v102) = v0 c
          ∧ r.2.mem ((c.tc : Thread Cert.Reference5Ideal.nD Cert.Reference5Ideal.τ).loc Cert.Reference5Ideal.main_v104) = v1 c
          ∧ r.2.mem ((c.tc : Thread Cert.Reference5Ideal.nD Cert.Reference5Ideal.τ).loc Cert.Reference5Ideal.main_v106) = v2 c
          ∧ r.2.mem ((c.tc : Thread Cert.Reference5Ideal.nD Cert.Reference5Ideal.τ).loc Cert.Reference5Ideal.main_v108) = v3 c
          ∧ r.2.mem ((c.tc : Thread Cert.Reference5Ideal.nD Cert.Reference5Ideal.τ).loc Cert.Reference5Ideal.main_v109) = v4 c
          ∧ r.2.mem ((c.tc : Thread Cert.Reference5Ideal.nD Cert.Reference5Ideal.τ).loc Cert.Reference5Ideal.main_v110) = v5 c
          ∧ r.2.mem ((c.tc : Thread Cert.Reference5Ideal.nD Cert.Reference5Ideal.τ).loc Cert.Reference5Ideal.main_v91) = v6 c
          ∧ r.2.mem ((c.tc : Thread Cert.Reference5Ideal.nD Cert.Reference5Ideal.τ).loc Cert.Reference5Ideal.main_v100) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v37) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_v41) = v3 c
          ∧ r.2.mem ((c.tc : Thread Cert.Reference6Ideal.nD Cert.Reference6Ideal.τ).loc Cert.Reference6Ideal.main_v43) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)) (v4 : (c : Dev Cert.Kernel7Ideal.nD) → Buf (Elt Ideal) ((c.tc : Thread Cert.Kernel7Ideal.nD Cert.Kernel7Ideal.τ).loc Cert.Kernel7Ideal.main_v6_4)) (v5 : (c : Dev Cert.Kernel7Ideal.nD) → Buf (Elt Ideal) ((c.tc : Thread Cert.Kernel7Ideal.nD Cert.Kernel7Ideal.τ).loc Cert.Kernel7Ideal.main_v6_5)) (v6 : (c : Dev Cert.Kernel7Ideal.nD) → Buf (Elt Ideal) ((c.tc : Thread Cert.Kernel7Ideal.nD Cert.Kernel7Ideal.τ).loc Cert.Kernel7Ideal.main_v6_6)) (v7 : (c : Dev Cert.Kernel7Ideal.nD) → Buf (Elt Ideal) ((c.tc : Thread Cert.Kernel7Ideal.nD Cert.Kernel7Ideal.τ).loc Cert.Kernel7Ideal.main_v6_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_v6_4) = v4 c
          ∧ r.2.mem ((c.tc : Thread Cert.Kernel7Ideal.nD Cert.Kernel7Ideal.τ).loc Cert.Kernel7Ideal.main_v6_5) = v5 c
          ∧ r.2.mem ((c.tc : Thread Cert.Kernel7Ideal.nD Cert.Kernel7Ideal.τ).loc Cert.Kernel7Ideal.main_v6_6) = v6 c
          ∧ r.2.mem ((c.tc : Thread Cert.Kernel7Ideal.nD Cert.Kernel7Ideal.τ).loc Cert.Kernel7Ideal.main_v6_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v28) = v2 c
          ∧ r.2.mem ((c.tc : Thread Cert.Reference7Ideal.nD Cert.Reference7Ideal.τ).loc Cert.Reference7Ideal.main_v30) = v3 c
          ∧ r.2.mem ((c.tc : Thread Cert.Reference7Ideal.nD Cert.Reference7Ideal.τ).loc Cert.Reference7Ideal.main_v32) = v4 c
          ∧ r.2.mem ((c.tc : Thread Cert.Reference7Ideal.nD Cert.Reference7Ideal.τ).loc Cert.Reference7Ideal.main_v34) = v5 c
          ∧ r.2.mem ((c.tc : Thread Cert.Reference7Ideal.nD Cert.Reference7Ideal.τ).loc Cert.Reference7Ideal.main_v36) = v6 c
          ∧ r.2.mem ((c.tc : Thread Cert.Reference7Ideal.nD Cert.Reference7Ideal.τ).loc Cert.Reference7Ideal.main_v38) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v10) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_v29) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S1x8192x1024 : Shape := ⟨3, ![1, 8192, 1024]⟩
abbrev S1x1024 : Shape := ⟨2, ![1, 1024]⟩
abbrev S1x1024x5648 : Shape := ⟨3, ![1, 1024, 5648]⟩
abbrev S1x8192x1536 : Shape := ⟨3, ![1, 8192, 1536]⟩
abbrev S1x8192x16 : Shape := ⟨3, ![1, 8192, 16]⟩
abbrev S1x8192x512 : Shape := ⟨3, ![1, 8192, 512]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5648 : S_.BroadcastsInDim S1x1024x5648 (![] : Fin 0 → Fin S1x1024x5648.rank)
  reducesTo_S1x1024x5648_S_d0_1_2 : S1x1024x5648.ReducesTo [0, 1, 2] S_
  bcast_S_S1x8192x1536 : S_.BroadcastsInDim S1x8192x1536 (![] : Fin 0 → Fin S1x8192x1536.rank)
  reducesTo_S1x8192x1536_S_d0_1_2 : S1x8192x1536.ReducesTo [0, 1, 2] S_
  bcast_S_S1x8192x16 : S_.BroadcastsInDim S1x8192x16 (![] : Fin 0 → Fin S1x8192x16.rank)
  reducesTo_S1x8192x16_S_d0_1_2 : S1x8192x16.ReducesTo [0, 1, 2] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part2 {F : FTy → Type} [FloatOps F] (main_arg9 : FVec F S1x8192x1024 .f32) (main_arg10 : FVec F S1x8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x8192x1024 .f32 := Host.absf main_arg9
  let main_cst_14 : FVec F S_ .f32 := constant S_ .f32 0x7F800000#32
  let main_v33 : FVec F S1x8192x1024 .f32 := broadcastInDim S1x8192x1024 ![] bcast_S_S1x8192x1024 main_cst_14
  let main_v34 : IVec S1x8192x1024 1 := cmpf .olt main_v32 main_v33
  let main_c_15 : IVec S_ 1 := constantI S_ 1 1#1
  let main_v35 : IVec S_ 1 := (fun x v => Host.reduce IntOp.andi x v reducesTo_S1x8192x1024_S_d0_1_2 h_S_) main_v34 main_c_15
  let main_v36 : FVec F S1x8192x1024 .f32 := Host.absf main_arg10
  let main_cst_16 : FVec F S_ .f32 := constant S_ .f32 0x7F800000#32
  let main_v37 : FVec F S1x8192x1024 .f32 := broadcastInDim S1x8192x1024 ![] bcast_S_S1x8192x1024 main_cst_16
  let main_v38 : IVec S1x8192x1024 1 := cmpf .olt main_v36 main_v37
  let main_c_17 : IVec S_ 1 := constantI S_ 1 1#1
  let main_v39 : IVec S_ 1 := (fun x v => Host.reduce IntOp.andi x v reducesTo_S1x8192x1024_S_d0_1_2 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg5 : FVec F S1x8192x1536 .f32) (main_arg6 : FVec F S1x8192x16 .f32) (main_arg7 : FVec F S1x8192x512 .f32) (main_arg8 : FVec F S1x8192x512 .f32) (main_arg9 : FVec F S1x8192x1024 .f32) (main_arg10 : FVec F S1x8192x1024 .f32) (main_v3 : IVec S_ 1) (main_v7 : IVec S_ 1) (main_v11 : IVec S_ 1) (main_v15 : IVec S_ 1) : IVec S_ 1 :=
  let main_v16 : FVec F S1x8192x1536 .f32 := Host.absf main_arg5
  let main_cst_6 : FVec F S_ .f32 := constant S_ .f32 0x7F800000#32
  let main_v17 : FVec F S1x8192x1536 .f32 := broadcastInDim S1x8192x1536 ![] bcast_S_S1x8192x1536 main_cst_6
  let main_v18 : IVec S1x8192x1536 1 := cmpf .olt main_v16 main_v17
  let main_c_7 : IVec S_ 1 := constantI S_ 1 1#1
  let main_v19 : IVec S_ 1 := (fun x v => Host.reduce IntOp.andi x v reducesTo_S1x8192x1536_S_d0_1_2 h_S_) main_v18 main_c_7
  let main_v20 : FVec F S1x8192x16 .f32 := Host.absf main_arg6
  let main_cst_8 : FVec F S_ .f32 := constant S_ .f32 0x7F800000#32
  let main_v21 : FVec F S1x8192x16 .f32 := broadcastInDim S1x8192x16 ![] bcast_S_S1x8192x16 main_cst_8
  let main_v22 : IVec S1x8192x16 1 := cmpf .olt main_v20 main_v21
  let main_c_9 : IVec S_ 1 := constantI S_ 1 1#1
  let main_v23 : IVec S_ 1 := (fun x v => Host.reduce IntOp.andi x v reducesTo_S1x8192x16_S_d0_1_2 h_S_) main_v22 main_c_9
  let main_v24 : FVec F S1x8192x512 .f32 := Host.absf main_arg7
  let main_cst_10 : FVec F S_ .f32 := constant S_ .f32 0x7F800000#32
  let main_v25 : FVec F S1x8192x512 .f32 := broadcastInDim S1x8192x512 ![] bcast_S_S1x8192x512 main_cst_10
  let main_v26 : IVec S1x8192x512 1 := cmpf .olt main_v24 main_v25
  let main_c_11 : IVec S_ 1 := constantI S_ 1 1#1
  let main_v27 : IVec S_ 1 := (fun x v => Host.reduce IntOp.andi x v reducesTo_S1x8192x512_S_d0_1_2 h_S_) main_v26 main_c_11
  let main_v28 : FVec F S1x8192x512 .f32 := Host.absf main_arg8
  let main_cst_12 : FVec F S_ .f32 := constant S_ .f32 0x7F800000#32
  let main_v29 : FVec F S1x8192x512 .f32 := broadcastInDim S1x8192x512 ![] bcast_S_S1x8192x512 main_cst_12
  let main_v30 : IVec S1x8192x512 1 := cmpf .olt main_v28 main_v29
  let main_c_13 : IVec S_ 1 := constantI S_ 1 1#1
  let main_v31 : IVec S_ 1 := (fun x v => Host.reduce IntOp.andi x v reducesTo_S1x8192x512_S_d0_1_2 h_S_) main_v30 main_c_13
  fn_part2 (F := F) main_arg9 main_arg10 main_v3 main_v7 main_v11 main_v15 main_v19 main_v23 main_v27 main_v31

def fn {F : FTy → Type} [FloatOps F] (main_arg0 : FVec F S1x8192x1024 .f32) (main_arg1 : FVec F S1x1024 .f32) (main_arg2 : FVec F S1x1024x5648 .f32) (main_arg3 : FVec F S1x8192x1024 .f32) (main_arg4 : FVec F S1x8192x1024 .f32) (main_arg5 : FVec F S1x8192x1536 .f32) (main_arg6 : FVec F S1x8192x16 .f32) (main_arg7 : FVec F S1x8192x512 .f32) (main_arg8 : FVec F S1x8192x512 .f32) (main_arg9 : FVec F S1x8192x1024 .f32) (main_arg10 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x5648 .f32 := Host.absf main_arg2
  let main_cst_2 : FVec F S_ .f32 := constant S_ .f32 0x7F800000#32
  let main_v9 : FVec F S1x1024x5648 .f32 := broadcastInDim S1x1024x5648 ![] bcast_S_S1x1024x5648 main_cst_2
  let main_v10 : IVec S1x1024x5648 1 := cmpf .olt main_v8 main_v9
  let main_c_3 : IVec S_ 1 := constantI S_ 1 1#1
  let main_v11 : IVec S_ 1 := (fun x v => Host.reduce IntOp.andi x v reducesTo_S1x1024x5648_S_d0_1_2 h_S_) main_v10 main_c_3
  let main_v12 : FVec F S1x8192x1024 .f32 := Host.absf main_arg4
  let main_cst_4 : FVec F S_ .f32 := constant S_ .f32 0x7F800000#32
  let main_v13 : FVec F S1x8192x1024 .f32 := broadcastInDim S1x8192x1024 ![] bcast_S_S1x8192x1024 main_cst_4
  let main_v14 : IVec S1x8192x1024 1 := cmpf .olt main_v12 main_v13
  let main_c_5 : IVec S_ 1 := constantI S_ 1 1#1
  let main_v15 : IVec S_ 1 := (fun x v => Host.reduce IntOp.andi x v reducesTo_S1x8192x1024_S_d0_1_2 h_S_) main_v14 main_c_5
  fn_part1 (F := F) main_arg5 main_arg6 main_arg7 main_arg8 main_arg9 main_arg10 main_v3 main_v7 main_v11 main_v15
-- ==== Pre_finite2.lean ====
abbrev S1x8192x1024 : Shape := ⟨3, ![1, 8192, 1024]⟩
abbrev S1x2048x1024 : Shape := ⟨3, ![1, 2048, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x8192x2816 : Shape := ⟨3, ![1, 8192, 2816]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x2816 : S_.BroadcastsInDim S1x3x2816 (![] : Fin 0 → Fin S1x3x2816.rank)
  reducesTo_S1x3x2816_S_d0_1_2 : S1x3x2816.ReducesTo [0, 1, 2] S_
  bcast_S_S1x8192x2816 : S_.BroadcastsInDim S1x8192x2816 (![] : Fin 0 → Fin S1x8192x2816.rank)
  reducesTo_S1x8192x2816_S_d0_1_2 : S1x8192x2816.ReducesTo [0, 1, 2] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S1x8192x2816 .f32) (main_arg9 : FVec F S1x8192x2816 .f32) (main_arg10 : FVec F S1x8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x8192x2816 .f32 := Host.absf main_arg8
  let main_cst_14 : FVec F S_ .f32 := constant S_ .f32 0x7F800000#32
  let main_v33 : FVec F S1x8192x2816 .f32 := broadcastInDim S1x8192x2816 ![] bcast_S_S1x8192x2816 main_cst_14
  let main_v34 : IVec S1x8192x2816 1 := cmpf .olt main_v32 main_v33
  let main_c_15 : IVec S_ 1 := constantI S_ 1 1#1
  let main_v35 : IVec S_ 1 := (fun x v => Host.reduce IntOp.andi x v reducesTo_S1x8192x2816_S_d0_1_2 h_S_) main_v34 main_c_15
  let main_v36 : FVec F S1x8192x2816 .f32 := Host.absf main_arg9
  let main_cst_16 : FVec F S_ .f32 := constant S_ .f32 0x7F800000#32
  let main_v37 : FVec F S1x8192x2816 .f32 := broadcastInDim S1x8192x2816 ![] bcast_S_S1x8192x2816 main_cst_16
  let main_v38 : IVec S1x8192x2816 1 := cmpf .olt main_v36 main_v37
  let main_c_17 : IVec S_ 1 := constantI S_ 1 1#1
  let main_v39 : IVec S_ 1 := (fun x v => Host.reduce IntOp.andi x v reducesTo_S1x8192x2816_S_d0_1_2 h_S_) main_v38 main_c_17
  let main_v40 : FVec F S1x8192x1024 .f32 := Host.absf main_arg10
  let main_cst_18 : FVec F S_ .f32 := constant S_ .f32 0x7F800000#32
  let main_v41 : FVec F S1x8192x1024 .f32 := broadcastInDim S1x8192x1024 ![] bcast_S_S1x8192x1024 main_cst_18
  let main_v42 : IVec S1x8192x1024 1 := cmpf .olt main_v40 main_v41
  let main_c_19 : IVec S_ 1 := constantI S_ 1 1#1
  let main_v43 : IVec S_ 1 := (fun x v => Host.reduce IntOp.andi x v reducesTo_S1x8192x1024_S_d0_1_2 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1x1024 .f32) (main_arg5 : FVec F S1x1024 .f32) (main_arg6 : FVec F S1x1024x5632 .f32) (main_arg7 : FVec F S1x3x2816 .f32) (main_arg8 : FVec F S1x8192x2816 .f32) (main_arg9 : FVec F S1x8192x2816 .f32) (main_arg10 : FVec F S1x8192x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024x5632 .f32 := Host.absf main_arg6
  let main_cst_10 : FVec F S_ .f32 := constant S_ .f32 0x7F800000#32
  let main_v25 : FVec F S1x1024x5632 .f32 := broadcastInDim S1x1024x5632 ![] bcast_S_S1x1024x5632 main_cst_10
  let main_v26 : IVec S1x1024x5632 1 := cmpf .olt main_v24 main_v25
  let main_c_11 : IVec S_ 1 := constantI S_ 1 1#1
  let main_v27 : IVec S_ 1 := (fun x v => Host.reduce IntOp.andi x v reducesTo_S1x1024x5632_S_d0_1_2 h_S_) main_v26 main_c_11
  let main_v28 : FVec F S1x3x2816 .f32 := Host.absf main_arg7
  let main_cst_12 : FVec F S_ .f32 := constant S_ .f32 0x7F800000#32
  let main_v29 : FVec F S1x3x2816 .f32 := broadcastInDim S1x3x2816 ![] bcast_S_S1x3x2816 main_cst_12
  let main_v30 : IVec S1x3x2816 1 := cmpf .olt main_v28 main_v29
  let main_c_13 : IVec S_ 1 := constantI S_ 1 1#1
  let main_v31 : IVec S_ 1 := (fun x v => Host.reduce IntOp.andi x v reducesTo_S1x3x2816_S_d0_1_2 h_S_) main_v30 main_c_13
  fn_part2 (F := F) main_arg8 main_arg9 main_arg10 main_v3 main_v7 main_v11 main_v15 main_v19 main_v23 main_v27 main_v31

def fn {F : FTy → Type} [FloatOps F] (main_arg0 : FVec F S1x8192x1024 .f32) (main_arg1 : FVec F S1x8192x1024 .f32) (main_arg2 : FVec F S1x8192x1024 .f32) (main_arg3 : FVec F S1x2048x1024 .f32) (main_arg4 : FVec F S1x1024 .f32) (main_arg5 : FVec F S1x1024 .f32) (main_arg6 : FVec F S1x1024x5632 .f32) (main_arg7 : FVec F S1x3x2816 .f32) (main_arg8 : FVec F S1x8192x2816 .f32) (main_arg9 : FVec F S1x8192x2816 .f32) (main_arg10 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : FVec F S1x8192x1024 .f32 := Host.absf main_arg2
  let main_cst_2 : FVec F S_ .f32 := constant S_ .f32 0x7F800000#32
  let main_v9 : FVec F S1x8192x1024 .f32 := broadcastInDim S1x8192x1024 ![] bcast_S_S1x8192x1024 main_cst_2
  let main_v10 : IVec S1x8192x1024 1 := cmpf .olt main_v8 main_v9
  let main_c_3 : IVec S_ 1 := constantI S_ 1 1#1
  let main_v11 : IVec S_ 1 := (fun x v => Host.reduce IntOp.andi x v reducesTo_S1x8192x1024_S_d0_1_2 h_S_) main_v10 main_c_3
  let main_v12 : FVec F S1x2048x1024 .f32 := Host.absf main_arg3
  let main_cst_4 : FVec F S_ .f32 := constant S_ .f32 0x7F800000#32
  let main_v13 : FVec F S1x2048x1024 .f32 := broadcastInDim S1x2048x1024 ![] bcast_S_S1x2048x1024 main_cst_4
  let main_v14 : IVec S1x2048x1024 1 := cmpf .olt main_v12 main_v13
  let main_c_5 : IVec S_ 1 := constantI S_ 1 1#1
  let main_v15 : IVec S_ 1 := (fun x v => Host.reduce IntOp.andi x v reducesTo_S1x2048x1024_S_d0_1_2 h_S_) main_v14 main_c_5
  fn_part1 (F := F) main_arg4 main_arg5 main_arg6 main_arg7 main_arg8 main_arg9 main_arg10 main_v3 main_v7 main_v11 main_v15
-- ==== Pre_finite5.lean ====
abbrev S1x8192x2816 : Shape := ⟨3, ![1, 8192, 2816]⟩
abbrev S1x8192x1024 : Shape := ⟨3, ![1, 8192, 1024]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S_ : Shape := ⟨0, ![]⟩

class Facts : Prop where
  bcast_S_S1x8192x2816 : S_.BroadcastsInDim S1x8192x2816 (![] : Fin 0 → Fin S1x8192x2816.rank)
  reducesTo_S1x8192x2816_S_d0_1_2 : S1x8192x2816.ReducesTo [0, 1, 2] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_
  bcast_S_S1x3x2816 : S_.BroadcastsInDim S1x3x2816 (![] : Fin 0 → Fin S1x3x2816.rank)
  reducesTo_S1x3x2816_S_d0_1_2 : S1x3x2816.ReducesTo [0, 1, 2] S_
  bcast_S_S1x2816 : S_.BroadcastsInDim S1x2816 (![] : Fin 0 → Fin S1x2816.rank)
  reducesTo_S1x2816_S_d0_1 : S1x2816.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1x3x2816 .f32) (main_arg5 : FVec F S1x2816 .f32) (main_arg6 : FVec F S1x2816x1024 .f32) (main_arg7 : FVec F S1x1024 .f32) (main_v3 : IVec S_ 1) (main_v7 : IVec S_ 1) (main_v11 : IVec S_ 1) (main_v15 : IVec S_ 1) : IVec S_ 1 :=
  let main_v16 : FVec F S1x3x2816 .f32 := Host.absf main_arg4
  let main_cst_6 : FVec F S_ .f32 := constant S_ .f32 0x7F800000#32
  let main_v17 : FVec F S1x3x2816 .f32 := broadcastInDim S1x3x2816 ![] bcast_S_S1x3x2816 main_cst_6
  let main_v18 : IVec S1x3x2816 1 := cmpf .olt main_v16 main_v17
  let main_c_7 : IVec S_ 1 := constantI S_ 1 1#1
  let main_v19 : IVec S_ 1 := (fun x v => Host.reduce IntOp.andi x v reducesTo_S1x3x2816_S_d0_1_2 h_S_) main_v18 main_c_7
  let main_v20 : FVec F S1x2816 .f32 := Host.absf main_arg5
  let main_cst_8 : FVec F S_ .f32 := constant S_ .f32 0x7F800000#32
  let main_v21 : FVec F S1x2816 .f32 := broadcastInDim S1x2816 ![] bcast_S_S1x2816 main_cst_8
  let main_v22 : IVec S1x2816 1 := cmpf .olt main_v20 main_v21
  let main_c_9 : IVec S_ 1 := constantI S_ 1 1#1
  let main_v23 : IVec S_ 1 := (fun x v => Host.reduce IntOp.andi x v reducesTo_S1x2816_S_d0_1 h_S_) main_v22 main_c_9
  let main_v24 : FVec F S1x2816x1024 .f32 := Host.absf main_arg6
  let main_cst_10 : FVec F S_ .f32 := constant S_ .f32 0x7F800000#32
  let main_v25 : FVec F S1x2816x1024 .f32 := broadcastInDim S1x2816x1024 ![] bcast_S_S1x2816x1024 main_cst_10
  let main_v26 : IVec S1x2816x1024 1 := cmpf .olt main_v24 main_v25
  let main_c_11 : IVec S_ 1 := constantI S_ 1 1#1
  let main_v27 : IVec S_ 1 := (fun x v => Host.reduce IntOp.andi x v reducesTo_S1x2816x1024_S_d0_1_2 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_v3 main_v7 main_v11 main_v15 main_v19 main_v23 main_v27 main_v31

def fn {F : FTy → Type} [FloatOps F] (main_arg0 : FVec F S1x8192x2816 .f32) (main_arg1 : FVec F S1x8192x2816 .f32) (main_arg2 : FVec F S1x8192x1024 .f32) (main_arg3 : FVec F S1x8192x1024 .f32) (main_arg4 : FVec F S1x3x2816 .f32) (main_arg5 : FVec F S1x2816 .f32) (main_arg6 : FVec F S1x2816x1024 .f32) (main_arg7 : FVec F S1x1024 .f32) : IVec S_ 1 :=
  let main_v0 : FVec F S1x8192x2816 .f32 := Host.absf main_arg0
  let main_cst : FVec F S_ .f32 := constant S_ .f32 0x7F800000#32
  let main_v1 : FVec F S1x8192x2816 .f32 := broadcastInDim S1x8192x2816 ![] bcast_S_S1x8192x2816 main_cst
  let main_v2 : IVec S1x8192x2816 1 := cmpf .olt main_v0 main_v1
  let main_c : IVec S_ 1 := constantI S_ 1 1#1
  let main_v3 : IVec S_ 1 := (fun x v => Host.reduce IntOp.andi x v reducesTo_S1x8192x2816_S_d0_1_2 h_S_) main_v2 main_c
  let main_v4 : FVec F S1x8192x2816 .f32 := Host.absf main_arg1
  let main_cst_0 : FVec F S_ .f32 := constant S_ .f32 0x7F800000#32
  let main_v5 : FVec F S1x8192x2816 .f32 := broadcastInDim S1x8192x2816 ![] bcast_S_S1x8192x2816 main_cst_0
  let main_v6 : IVec S1x8192x2816 1 := cmpf .olt main_v4 main_v5
  let main_c_1 : IVec S_ 1 := constantI S_ 1 1#1
  let main_v7 : IVec S_ 1 := (fun x v => Host.reduce IntOp.andi x v reducesTo_S1x8192x2816_S_d0_1_2 h_S_) main_v6 main_c_1
  let main_v8 : FVec F S1x8192x1024 .f32 := Host.absf main_arg2
  let main_cst_2 : FVec F S_ .f32 := constant S_ .f32 0x7F800000#32
  let main_v9 : FVec F S1x8192x1024 .f32 := broadcastInDim S1x8192x1024 ![] bcast_S_S1x8192x1024 main_cst_2
  let main_v10 : IVec S1x8192x1024 1 := cmpf .olt main_v8 main_v9
  let main_c_3 : IVec S_ 1 := constantI S_ 1 1#1
  let main_v11 : IVec S_ 1 := (fun x v => Host.reduce IntOp.andi x v reducesTo_S1x8192x1024_S_d0_1_2 h_S_) main_v10 main_c_3
  let main_v12 : FVec F S1x8192x1024 .f32 := Host.absf main_arg3
  let main_cst_4 : FVec F S_ .f32 := constant S_ .f32 0x7F800000#32
  let main_v13 : FVec F S1x8192x1024 .f32 := broadcastInDim S1x8192x1024 ![] bcast_S_S1x8192x1024 main_cst_4
  let main_v14 : IVec S1x8192x1024 1 := cmpf .olt main_v12 main_v13
  let main_c_5 : IVec S_ 1 := constantI S_ 1 1#1
  let main_v15 : IVec S_ 1 := (fun x v => Host.reduce IntOp.andi x v reducesTo_S1x8192x1024_S_d0_1_2 h_S_) main_v14 main_c_5
  fn_part1 (F := F) main_arg4 main_arg5 main_arg6 main_arg7 main_v3 main_v7 main_v11 main_v15
-- ==== Kernel.lean ====
abbrev S1x8192x1024 : Shape := ⟨3, ![1, 8192, 1024]⟩
abbrev S1x1024 : Shape := ⟨2, ![1, 1024]⟩
abbrev S1x1024x5648 : Shape := ⟨3, ![1, 1024, 5648]⟩
abbrev S1x8192x1536 : Shape := ⟨3, ![1, 8192, 1536]⟩
abbrev S1x8192x16 : Shape := ⟨3, ![1, 8192, 16]⟩
abbrev S1x8192x512 : Shape := ⟨3, ![1, 8192, 512]⟩
abbrev S1024x5648 : Shape := ⟨2, ![1024, 5648]⟩
abbrev S5648x1024 : Shape := ⟨2, ![5648, 1024]⟩
abbrev S16x1024 : Shape := ⟨2, ![16, 1024]⟩
abbrev S_ : Shape := ⟨0, ![]⟩
abbrev S128x1024 : Shape := ⟨2, ![128, 1024]⟩
abbrev S8192x16 : Shape := ⟨2, ![8192, 16]⟩
abbrev S8192x128 : Shape := ⟨2, ![8192, 128]⟩
abbrev S8192x1024 : Shape := ⟨2, ![8192, 1024]⟩
abbrev S8192x1536 : Shape := ⟨2, ![8192, 1536]⟩
abbrev S8192x512 : Shape := ⟨2, ![8192, 512]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S1024x1024 : Shape := ⟨2, ![1024, 1024]⟩
abbrev S1536x1024 : Shape := ⟨2, ![1536, 1024]⟩
abbrev S512 : Shape := ⟨1, ![512]⟩
abbrev S512x1 : Shape := ⟨2, ![512, 1]⟩
abbrev S1024 : Shape := ⟨1, ![1024]⟩

abbrev nBuf : Space → Nat
  | .hbm => 39
  | .vmem => 24
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5648, .f32⟩
  | .hbm, ⟨3, _⟩ => ⟨S1x8192x1024, .f32⟩
  | .hbm, ⟨4, _⟩ => ⟨S1x8192x1024, .f32⟩
  | .hbm, ⟨5, _⟩ => ⟨S1x8192x1536, .f32⟩
  | .hbm, ⟨6, _⟩ => ⟨S1x8192x16, .f32⟩
  | .hbm, ⟨7, _⟩ => ⟨S1x8192x512, .f32⟩
  | .hbm, ⟨8, _⟩ => ⟨S1x8192x512, .f32⟩
  | .hbm, ⟨9, _⟩ => ⟨S1x8192x1024, .f32⟩
  | .hbm, ⟨10, _⟩ => ⟨S1x8192x1024, .f32⟩
  | .hbm, ⟨11, _⟩ => ⟨S1024x5648, .f32⟩
  | .hbm, ⟨12, _⟩ => ⟨S5648x1024, .f32⟩
  | .hbm, ⟨13, _⟩ => ⟨S5648x1024, .bf16⟩
  | .hbm, ⟨14, _⟩ => ⟨S16x1024, .bf16⟩
  | .hbm, ⟨15, _⟩ => ⟨S_, .i32⟩
  | .hbm, ⟨16, _⟩ => ⟨S_, .bf16⟩
  | .hbm, ⟨17, _⟩ => ⟨S128x1024, .bf16⟩
  | .hbm, ⟨18, _⟩ => ⟨S8192x16, .f32⟩
  | .hbm, ⟨19, _⟩ => ⟨S_, .i32⟩
  | .hbm, ⟨20, _⟩ => ⟨S_, .f32⟩
  | .hbm, ⟨21, _⟩ => ⟨S8192x128, .f32⟩
  | .hbm, ⟨22, _⟩ => ⟨S8192x128, .bf16⟩
  | .hbm, ⟨23, _⟩ => ⟨S8192x1024, .f32⟩
  | .hbm, ⟨24, _⟩ => ⟨S8192x1024, .bf16⟩
  | .hbm, ⟨25, _⟩ => ⟨S8192x1536, .f32⟩
  | .hbm, ⟨26, _⟩ => ⟨S8192x1536, .bf16⟩
  | .hbm, ⟨27, _⟩ => ⟨S8192x512, .f32⟩
  | .hbm, ⟨28, _⟩ => ⟨S8192x512, .bf16⟩
  | .hbm, ⟨29, _⟩ => ⟨S8192x512, .f32⟩
  | .hbm, ⟨30, _⟩ => ⟨S8192x512, .bf16⟩
  | .hbm, ⟨31, _⟩ => ⟨S8192x1024, .f32⟩
  | .hbm, ⟨32, _⟩ => ⟨S8192x1024, .bf16⟩
  | .hbm, ⟨33, _⟩ => ⟨S8192x1024, .f32⟩
  | .hbm, ⟨34, _⟩ => ⟨S8192x1024, .bf16⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S5648x1024, .bf16⟩
  | .local _ .vmem, ⟨20, _⟩ => ⟨S128x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5648x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S1x8192x1024 : Shape := ⟨3, ![1, 8192, 1024]⟩
abbrev S1x1024 : Shape := ⟨2, ![1, 1024]⟩
abbrev S1x1024x5648 : Shape := ⟨3, ![1, 1024, 5648]⟩
abbrev S1x8192x1536 : Shape := ⟨3, ![1, 8192, 1536]⟩
abbrev S1x8192x16 : Shape := ⟨3, ![1, 8192, 16]⟩
abbrev S1x8192x512 : Shape := ⟨3, ![1, 8192, 512]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5648 : Shape := ⟨2, ![1024, 5648]⟩
abbrev S1x8192x5648 : Shape := ⟨3, ![1, 8192, 5648]⟩
abbrev S8192 : Shape := ⟨1, ![8192]⟩
abbrev S8192x1024 : Shape := ⟨2, ![8192, 1024]⟩

abbrev nBuf : Space → Nat
  | .hbm => 72
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5648, .f32⟩
  | .hbm, ⟨3, _⟩ => ⟨S1x8192x1024, .f32⟩
  | .hbm, ⟨4, _⟩ => ⟨S1x8192x1024, .f32⟩
  | .hbm, ⟨5, _⟩ => ⟨S1x8192x1536, .f32⟩
  | .hbm, ⟨6, _⟩ => ⟨S1x8192x16, .f32⟩
  | .hbm, ⟨7, _⟩ => ⟨S1x8192x512, .f32⟩
  | .hbm, ⟨8, _⟩ => ⟨S1x8192x512, .f32⟩
  | .hbm, ⟨9, _⟩ => ⟨S1x8192x1024, .f32⟩
  | .hbm, ⟨10, _⟩ => ⟨S1x8192x1024, .f32⟩
  | .hbm, ⟨11, _⟩ => ⟨S1024, .f32⟩
  | .hbm, ⟨12, _⟩ => ⟨S1x8192x1024, .f32⟩
  | .hbm, ⟨13, _⟩ => ⟨S_, .f32⟩
  | .hbm, ⟨14, _⟩ => ⟨S1x8192, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1, .f32⟩
  | .hbm, ⟨23, _⟩ => ⟨S1x8192x1, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S1x8192x1024, .f32⟩
  | .hbm, ⟨28, _⟩ => ⟨S1x8192x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S1024x5648, .f32⟩
  | .hbm, ⟨33, _⟩ => ⟨S1x8192x5648, .f32⟩
  | .hbm, ⟨34, _⟩ => ⟨S1x8192x1024, .f32⟩
  | .hbm, ⟨35, _⟩ => ⟨S1x8192x1536, .f32⟩
  | .hbm, ⟨36, _⟩ => ⟨S1x8192x16, .f32⟩
  | .hbm, ⟨37, _⟩ => ⟨S1x8192x512, .f32⟩
  | .hbm, ⟨38, _⟩ => ⟨S1x8192x512, .f32⟩
  | .hbm, ⟨39, _⟩ => ⟨S1x8192x1024, .f32⟩
  | .hbm, ⟨40, _⟩ => ⟨S1x8192x1024, .f32⟩
  | .hbm, ⟨41, _⟩ => ⟨S1x8192x5648, .f32⟩
  | .hbm, ⟨42, _⟩ => ⟨S1x8192x1024, .f32⟩
  | .hbm, ⟨43, _⟩ => ⟨S1x8192x1024, .f32⟩
  | .hbm, ⟨44, _⟩ => ⟨S_, .f32⟩
  | .hbm, ⟨45, _⟩ => ⟨S1x1024, .f32⟩
  | .hbm, ⟨46, _⟩ => ⟨S1x1x1024, .f32⟩
  | .hbm, ⟨47, _⟩ => ⟨S1x8192x1024, .f32⟩
  | .hbm, ⟨48, _⟩ => ⟨S1x8192x1024, .f32⟩
  | .hbm, ⟨49, _⟩ => ⟨S_, .f32⟩
  | .hbm, ⟨50, _⟩ => ⟨S1024, .f32⟩
  | .hbm, ⟨51, _⟩ => ⟨S1x8192x1024, .f32⟩
  | .hbm, ⟨52, _⟩ => ⟨S_, .f32⟩
  | .hbm, ⟨53, _⟩ => ⟨S1x8192, .f32⟩
  | .hbm, ⟨54, _⟩ => ⟨S1x8192x1, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1, .f32⟩
  | .hbm, ⟨59, _⟩ => ⟨S_, .f32⟩
  | .hbm, ⟨60, _⟩ => ⟨S1x8192x1, .f32⟩
  | .hbm, ⟨61, _⟩ => ⟨S1x8192x1, .f32⟩
  | .hbm, ⟨62, _⟩ => ⟨S_, .f32⟩
  | .hbm, ⟨63, _⟩ => ⟨S8192, .f32⟩
  | .hbm, ⟨64, _⟩ => ⟨S1x8192, .f32⟩
  | .hbm, ⟨65, _⟩ => ⟨S1x8192x1024, .f32⟩
  | .hbm, ⟨66, _⟩ => ⟨S1x8192x1024, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x1024, .f32⟩
  | .hbm, ⟨71, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel2.lean ====
abbrev S1x8192x1024 : Shape := ⟨3, ![1, 8192, 1024]⟩
abbrev S1x2048x1024 : Shape := ⟨3, ![1, 2048, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x8192x2816 : Shape := ⟨3, ![1, 8192, 2816]⟩
abbrev S1x8192x2048 : Shape := ⟨3, ![1, 8192, 2048]⟩
abbrev S2048x1024 : Shape := ⟨2, ![2048, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S3x2816 : Shape := ⟨2, ![3, 2816]⟩
abbrev S8x2816 : Shape := ⟨2, ![8, 2816]⟩
abbrev S5632x1024 : Shape := ⟨2, ![5632, 1024]⟩
abbrev S8192x2816 : Shape := ⟨2, ![8192, 2816]⟩
abbrev S8192x1024 : Shape := ⟨2, ![8192, 1024]⟩
abbrev S256x2816 : Shape := ⟨2, ![256, 2816]⟩
abbrev S256x1024 : Shape := ⟨2, ![256, 1024]⟩
abbrev S264x2816 : Shape := ⟨2, ![264, 2816]⟩
abbrev S1x2816 : Shape := ⟨2, ![1, 2816]⟩
abbrev S2816 : Shape := ⟨1, ![2816]⟩
abbrev S2816x1024 : Shape := ⟨2, ![2816, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 79
  | .vmem => 31
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x2048x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x3x2816, .f32⟩
  | .hbm, ⟨8, _⟩ => ⟨S1x8192x2816, .f32⟩
  | .hbm, ⟨9, _⟩ => ⟨S1x8192x2816, .f32⟩
  | .hbm, ⟨10, _⟩ => ⟨S1x8192x1024, .f32⟩
  | .hbm, ⟨11, _⟩ => ⟨S1x8192x2048, .f32⟩
  | .hbm, ⟨12, _⟩ => ⟨S2048x1024, .f32⟩
  | .hbm, ⟨13, _⟩ => ⟨S1x8192x1024, .f32⟩
  | .hbm, ⟨14, _⟩ => ⟨S1024, .f32⟩
  | .hbm, ⟨15, _⟩ => ⟨S1x8192x1024, .f32⟩
  | .hbm, ⟨16, _⟩ => ⟨S_, .f32⟩
  | .hbm, ⟨17, _⟩ => ⟨S1x8192, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S1024, .f32⟩
  | .hbm, ⟨33, _⟩ => ⟨S1x8192x1024, .f32⟩
  | .hbm, ⟨34, _⟩ => ⟨S_, .f32⟩
  | .hbm, ⟨35, _⟩ => ⟨S1x8192, .f32⟩
  | .hbm, ⟨36, _⟩ => ⟨S1x8192x1, .f32⟩
  | .hbm, ⟨37, _⟩ => ⟨S_, .f32⟩
  | .hbm, ⟨38, _⟩ => ⟨S1x8192x1, .f32⟩
  | .hbm, ⟨39, _⟩ => ⟨S1x8192x1, .f32⟩
  | .hbm, ⟨40, _⟩ => ⟨S_, .f32⟩
  | .hbm, ⟨41, _⟩ => ⟨S1x8192x1, .f32⟩
  | .hbm, ⟨42, _⟩ => ⟨S1x8192x1, .f32⟩
  | .hbm, ⟨43, _⟩ => ⟨S1x8192x1, .f32⟩
  | .hbm, ⟨44, _⟩ => ⟨S1x8192x1024, .f32⟩
  | .hbm, ⟨45, _⟩ => ⟨S1x8192x1024, .f32⟩
  | .hbm, ⟨46, _⟩ => ⟨S1x1x1024, .f32⟩
  | .hbm, ⟨47, _⟩ => ⟨S1x8192x1024, .f32⟩
  | .hbm, ⟨48, _⟩ => ⟨S1x8192x1024, .f32⟩
  | .hbm, ⟨49, _⟩ => ⟨S1024x5632, .f32⟩
  | .hbm, ⟨50, _⟩ => ⟨S1x8192x5632, .f32⟩
  | .hbm, ⟨51, _⟩ => ⟨S1x8192x2816, .f32⟩
  | .hbm, ⟨52, _⟩ => ⟨S1x8192x2816, .f32⟩
  | .hbm, ⟨53, _⟩ => ⟨S3x2816, .f32⟩
  | .hbm, ⟨54, _⟩ => ⟨S_, .i32⟩
  | .hbm, ⟨55, _⟩ => ⟨S_, .f32⟩
  | .hbm, ⟨56, _⟩ => ⟨S8x2816, .f32⟩
  | .hbm, ⟨57, _⟩ => ⟨S1024x5632, .f32⟩
  | .hbm, ⟨58, _⟩ => ⟨S5632x1024, .f32⟩
  | .hbm, ⟨59, _⟩ => ⟨S5632x1024, .bf16⟩
  | .hbm, ⟨60, _⟩ => ⟨S8192x2816, .f32⟩
  | .hbm, ⟨61, _⟩ => ⟨S8192x2816, .bf16⟩
  | .hbm, ⟨62, _⟩ => ⟨S8192x2816, .f32⟩
  | .hbm, ⟨63, _⟩ => ⟨S8192x2816, .bf16⟩
  | .hbm, ⟨64, _⟩ => ⟨S8192x2816, .f32⟩
  | .hbm, ⟨65, _⟩ => ⟨S8192x2816, .bf16⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S2048x1024, .f32⟩
  | .hbm, ⟨70, _⟩ => ⟨S2048x1024, .bf16⟩
  | .hbm, ⟨71, _⟩ => ⟨S8192x2816, .bf16⟩
  | .hbm, ⟨72, _⟩ => ⟨S8192x1024, .f32⟩
  | .hbm, ⟨73, _⟩ => ⟨S8192x1024, .bf16⟩
  | .hbm, ⟨74, _⟩ => ⟨S8192x1024, .bf16⟩
  | .hbm, ⟨75, _⟩ => ⟨S8192x1024, .bf16⟩
  | .hbm, ⟨76, _⟩ => ⟨S8x2816, .f32⟩
  | .hbm, ⟨77, _⟩ => ⟨S1x1024, .f32⟩
  | .hbm, ⟨78, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x2816, .f32⟩
  | .local _ .vmem, ⟨13, _⟩ => ⟨S5632x1024, .bf16⟩
  | .local _ .vmem, ⟨14, _⟩ => ⟨S1x1024, .f32⟩
  | .local _ .vmem, ⟨15, _⟩ => ⟨S1x1024, .f32⟩
  | .local _ .vmem, ⟨16, _⟩ => ⟨S2048x1024, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S8x2816, .f32⟩
  | .local _ .vmem, ⟨28, _⟩ => ⟨S1x1024, .f32⟩
  | .local _ .vmem, ⟨29, _⟩ => ⟨S1x1024, .f32⟩
  | .local _ .vmem, ⟨30, _⟩ => ⟨S8x2816, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52_0 : Ref sig .tc := ⟨.hbm, 71, rfl⟩
abbrev main_v52_1 : Ref sig .tc := ⟨.hbm, 72, rfl⟩
abbrev main_v52_2 : Ref sig .tc := ⟨.hbm, 73, rfl⟩
abbrev main_v52_3 : Ref sig .tc := ⟨.hbm, 74, rfl⟩
abbrev main_v52_4 : Ref sig .tc := ⟨.hbm, 75, rfl⟩
abbrev main_v52_5 : Ref sig .tc := ⟨.hbm, 76, rfl⟩
abbrev main_v52_6 : Ref sig .tc := ⟨.hbm, 77, rfl⟩
abbrev main_v52_7 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference2Ideal.lean ====
abbrev S1x8192x1024 : Shape := ⟨3, ![1, 8192, 1024]⟩
abbrev S1x2048x1024 : Shape := ⟨3, ![1, 2048, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x8192x2816 : Shape := ⟨3, ![1, 8192, 2816]⟩
abbrev S_ : Shape := ⟨0, ![]⟩
abbrev S1x8192x2048 : Shape := ⟨3, ![1, 8192, 2048]⟩
abbrev S2048x1024 : Shape := ⟨2, ![2048, 1024]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S3x2816 : Shape := ⟨2, ![3, 2816]⟩
abbrev S2816 : Shape := ⟨1, ![2816]⟩
abbrev S1x2x2816 : Shape := ⟨3, ![1, 2, 2816]⟩
abbrev S1x8194x2816 : Shape := ⟨3, ![1, 8194, 2816]⟩
abbrev S1x2816 : Shape := ⟨2, ![1, 2816]⟩
abbrev S1x1x2816 : Shape := ⟨3, ![1, 1, 2816]⟩
abbrev S8192 : Shape := ⟨1, ![8192]⟩
abbrev S8192x2816 : Shape := ⟨2, ![8192, 2816]⟩
abbrev S8192x1024 : Shape := ⟨2, ![8192, 1024]⟩
abbrev S8x2816 : Shape := ⟨2, ![8, 2816]⟩

abbrev nBuf : Space → Nat
  | .hbm => 223
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x8192x1024, .f32⟩
  | 3 => ⟨S1x2048x1024, .f32⟩
  | 4 => ⟨S1x1024, .f32⟩
  | 5 => ⟨S1x1024, .f32⟩
  | 6 => ⟨S1x1024x5632, .f32⟩
  | 7 => ⟨S1x3x2816, .f32⟩
  | 8 => ⟨S1x8192x2816, .f32⟩
  | 9 => ⟨S1x8192x2816, .f32⟩
  | 10 => ⟨S1x8192x1024, .f32⟩
  | 11 => ⟨S_, .f32⟩
  | 12 => ⟨S1x8192x1024, .f32⟩
  | 13 => ⟨S_, .f32⟩
  | 14 => ⟨S1x8192x2816, .f32⟩
  | 15 => ⟨S1x8192x2048, .f32⟩
  | 16 => ⟨S2048x1024, .f32⟩
  | 17 => ⟨S1x8192x1024, .f32⟩
  | 18 => ⟨S1x8192x1024, .f32⟩
  | 19 => ⟨S1024, .f32⟩
  | 20 => ⟨S1x8192x1024, .f32⟩
  | 21 => ⟨S_, .f32⟩
  | 22 => ⟨S1x8192, .f32⟩
  | 23 => ⟨S1x8192x1, .f32⟩
  | 24 => ⟨S_, .f32⟩
  | 25 => ⟨S1x8192x1, .f32⟩
  | 26 => ⟨S1x8192x1, .f32⟩
  | 27 => ⟨S_, .f32⟩
  | 28 => ⟨S1x8192x1, .f32⟩
  | 29 => ⟨S1x8192x1, .f32⟩
  | 30 => ⟨S1x8192x1, .f32⟩
  | 31 => ⟨S1x8192x1, .f32⟩
  | 32 => ⟨S_, .f32⟩
  | 33 => ⟨S1x8192x1, .f32⟩
  | 34 => ⟨S1x8192x1, .f32⟩
  | 35 => ⟨S1x8192x1024, .f32⟩
  | 36 => ⟨S1x8192x1024, .f32⟩
  | 37 => ⟨S1x1x1024, .f32⟩
  | 38 => ⟨S1x8192x1024, .f32⟩
  | 39 => ⟨S1x8192x1024, .f32⟩
  | 40 => ⟨S1x8192x1024, .f32⟩
  | 41 => ⟨S1024, .f32⟩
  | 42 => ⟨S1x8192x1024, .f32⟩
  | 43 => ⟨S_, .f32⟩
  | 44 => ⟨S1x8192, .f32⟩
  | 45 => ⟨S1x8192x1, .f32⟩
  | 46 => ⟨S_, .f32⟩
  | 47 => ⟨S1x8192x1, .f32⟩
  | 48 => ⟨S1x8192x1, .f32⟩
  | 49 => ⟨S_, .f32⟩
  | 50 => ⟨S1x8192x1, .f32⟩
  | 51 => ⟨S1x8192x1, .f32⟩
  | 52 => ⟨S1x8192x1, .f32⟩
  | 53 => ⟨S1x8192x1, .f32⟩
  | 54 => ⟨S_, .f32⟩
  | 55 => ⟨S1x8192x1, .f32⟩
  | 56 => ⟨S1x8192x1, .f32⟩
  | 57 => ⟨S1x8192x1024, .f32⟩
  | 58 => ⟨S1x8192x1024, .f32⟩
  | 59 => ⟨S1x1x1024, .f32⟩
  | 60 => ⟨S1x8192x1024, .f32⟩
  | 61 => ⟨S1x8192x1024, .f32⟩
  | 62 => ⟨S1024x5632, .f32⟩
  | 63 => ⟨S1x8192x5632, .f32⟩
  | 64 => ⟨S1x8192x2816, .f32⟩
  | 65 => ⟨S1x8192x2816, .f32⟩
  | 66 => ⟨S1x8192x2816, .f32⟩
  | 67 => ⟨S3x2816, .f32⟩
  | 68 => ⟨S_, .f32⟩
  | 69 => ⟨S2816, .f32⟩
  | 70 => ⟨S_, .f32⟩
  | 71 => ⟨S1x2x2816, .f32⟩
  | 72 => ⟨S1x8194x2816, .f32⟩
  | 73 => ⟨S_, .f32⟩
  | 74 => ⟨S1x2x2816, .f32⟩
  | 75 => ⟨S1x2816, .f32⟩
  | 76 => ⟨S2816, .f32⟩
  | 77 => ⟨S1x8192x2816, .f32⟩
  | 78 => ⟨S1x1x2816, .f32⟩
  | 79 => ⟨S1x8192x2816, .f32⟩
  | 80 => ⟨S1x8192x2816, .f32⟩
  | 81 => ⟨S_, .f32⟩
  | 82 => ⟨S1x8192x2816, .f32⟩
  | 83 => ⟨S1x8192x2816, .f32⟩
  | 84 => ⟨S1x2816, .f32⟩
  | 85 => ⟨S2816, .f32⟩
  | 86 => ⟨S1x8192x2816, .f32⟩
  | 87 => ⟨S1x1x2816, .f32⟩
  | 88 => ⟨S1x8192x2816, .f32⟩
  | 89 => ⟨S1x8192x2816, .f32⟩
  | 90 => ⟨S1x8192x2816, .f32⟩
  | 91 => ⟨S1x2816, .f32⟩
  | 92 => ⟨S2816, .f32⟩
  | 93 => ⟨S1x8192x2816, .f32⟩
  | 94 => ⟨S1x1x2816, .f32⟩
  | 95 => ⟨S1x8192x2816, .f32⟩
  | 96 => ⟨S1x8192x2816, .f32⟩
  | 97 => ⟨S1x8192x2816, .f32⟩
  | 98 => ⟨S1x1x2816, .f32⟩
  | 99 => ⟨S1x8192x2816, .f32⟩
  | 100 => ⟨S1x8192x2816, .f32⟩
  | 101 => ⟨S1x8192x2816, .f32⟩
  | 102 => ⟨S1x8192x2816, .f32⟩
  | 103 => ⟨S1x8192x2816, .f32⟩
  | 104 => ⟨S1x8192x2816, .f32⟩
  | 105 => ⟨S1x8192x2816, .f32⟩
  | 106 => ⟨S_, .f32⟩
  | 107 => ⟨S1x2816, .f32⟩
  | 108 => ⟨S1x1x2816, .f32⟩
  | 109 => ⟨S_, .f32⟩
  | 110 => ⟨S2816, .f32⟩
  | 111 => ⟨S_, .f32⟩
  | 112 => ⟨S1x8194x2816, .f32⟩
  | 113 => ⟨S1x2816, .f32⟩
  | 114 => ⟨S_, .f32⟩
  | 115 => ⟨S3x2816, .f32⟩
  | 116 => ⟨S1x8192x2816, .f32⟩
  | 117 => ⟨S1x8192x2816, .f32⟩
  | 118 => ⟨S1x8192x2816, .f32⟩
  | 119 => ⟨S_, .f32⟩
  | 120 => ⟨S1x2816, .f32⟩
  | 121 => ⟨S1x1x2816, .f32⟩
  | 122 => ⟨S_, .f32⟩
  | 123 => ⟨S2816, .f32⟩
  | 124 => ⟨S_, .f32⟩
  | 125 => ⟨S1x8194x2816, .f32⟩
  | 126 => ⟨S1x8194x2816, .f32⟩
  | 127 => ⟨S1x2816, .f32⟩
  | _ => ⟨S1x8192x1024, .f32⟩

abbrev hbmTy0_1 (i : Nat) : BufTy := match i % 128 with
  | 0 => ⟨S_, .f32⟩
  | 1 => ⟨S3x2816, .f32⟩
  | 2 => ⟨S3x2816, .f32⟩
  | 3 => ⟨S1x8192x2816, .f32⟩
  | 4 => ⟨S1x8192x2816, .f32⟩
  | 5 => ⟨S1x8192x2816, .f32⟩
  | 6 => ⟨S_, .f32⟩
  | 7 => ⟨S1x2816, .f32⟩
  | 8 => ⟨S1x1x2816, .f32⟩
  | 9 => ⟨S_, .f32⟩
  | 10 => ⟨S2816, .f32⟩
  | 11 => ⟨S_, .f32⟩
  | 12 => ⟨S1x8194x2816, .f32⟩
  | 13 => ⟨S1x8194x2816, .f32⟩
  | 14 => ⟨S1x2816, .f32⟩
  | 15 => ⟨S_, .f32⟩
  | 16 => ⟨S3x2816, .f32⟩
  | 17 => ⟨S3x2816, .f32⟩
  | 18 => ⟨S1x2x2816, .f32⟩
  | 19 => ⟨S1x8192x2816, .f32⟩
  | 20 => ⟨S1x3x2816, .f32⟩
  | 21 => ⟨S1x8192x5632, .f32⟩
  | 22 => ⟨S1x8192x1024, .f32⟩
  | 23 => ⟨S1x8192x1024, .f32⟩
  | 24 => ⟨S_, .f32⟩
  | 25 => ⟨S1x1024, .f32⟩
  | 26 => ⟨S1x1x1024, .f32⟩
  | 27 => ⟨S1x8192x1024, .f32⟩
  | 28 => ⟨S1x8192x1024, .f32⟩
  | 29 => ⟨S_, .f32⟩
  | 30 => ⟨S1024, .f32⟩
  | 31 => ⟨S1x8192x1024, .f32⟩
  | 32 => ⟨S_, .f32⟩
  | 33 => ⟨S1x8192, .f32⟩
  | 34 => ⟨S1x8192x1, .f32⟩
  | 35 => ⟨S1x8192x1024, .f32⟩
  | 36 => ⟨S1x8192x1024, .f32⟩
  | 37 => ⟨S1x8192x1024, .f32⟩
  | 38 => ⟨S1x8192x1, .f32⟩
  | 39 => ⟨S_, .f32⟩
  | 40 => ⟨S1x8192x1, .f32⟩
  | 41 => ⟨S1x8192x1, .f32⟩
  | 42 => ⟨S_, .f32⟩
  | 43 => ⟨S8192, .f32⟩
  | 44 => ⟨S1x8192, .f32⟩
  | 45 => ⟨S1x8192x1024, .f32⟩
  | 46 => ⟨S1x8192x1024, .f32⟩
  | 47 => ⟨S1x8192x1024, .f32⟩
  | 48 => ⟨S1x8192x1024, .f32⟩
  | 49 => ⟨S1x8192x1024, .f32⟩
  | 50 => ⟨S1x1024, .f32⟩
  | 51 => ⟨S1x8192x1024, .f32⟩
  | 52 => ⟨S1x8192x1024, .f32⟩
  | 53 => ⟨S_, .f32⟩
  | 54 => ⟨S1x1024, .f32⟩
  | 55 => ⟨S1x1x1024, .f32⟩
  | 56 => ⟨S1x8192x1024, .f32⟩
  | 57 => ⟨S1x8192x1024, .f32⟩
  | 58 => ⟨S_, .f32⟩
  | 59 => ⟨S1024, .f32⟩
  | 60 => ⟨S1x8192x1024, .f32⟩
  | 61 => ⟨S_, .f32⟩
  | 62 => ⟨S1x8192, .f32⟩
  | 63 => ⟨S1x8192x1, .f32⟩
  | 64 => ⟨S1x8192x1024, .f32⟩
  | 65 => ⟨S1x8192x1024, .f32⟩
  | 66 => ⟨S1x8192x1, .f32⟩
  | 67 => ⟨S_, .f32⟩
  | 68 => ⟨S1x8192x1, .f32⟩
  | 69 => ⟨S1x8192x1, .f32⟩
  | 70 => ⟨S_, .f32⟩
  | 71 => ⟨S8192, .f32⟩
  | 72 => ⟨S1x8192, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x1024, .f32⟩
  | 79 => ⟨S1x8192x2048, .f32⟩
  | 80 => ⟨S1x8192x1024, .f32⟩
  | 81 => ⟨S1x8192x1024, .f32⟩
  | 82 => ⟨S8192x2816, .f32⟩
  | 83 => ⟨S8192x2816, .bf16⟩
  | 84 => ⟨S8192x1024, .f32⟩
  | 85 => ⟨S8192x1024, .f32⟩
  | 86 => ⟨S8192x1024, .bf16⟩
  | 87 => ⟨S8192x1024, .f32⟩
  | 88 => ⟨S8192x1024, .bf16⟩
  | 89 => ⟨S8192x1024, .f32⟩
  | 90 => ⟨S8192x1024, .bf16⟩
  | 91 => ⟨S3x2816, .f32⟩
  | 92 => ⟨S_, .i32⟩
  | 93 => ⟨S_, .f32⟩
  | 94 => ⟨S8x2816, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_v85 : Ref sig .tc := ⟨.hbm, 113, rfl⟩
abbrev main_cst_16 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_20 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_21 : Ref sig .tc := ⟨.hbm, 134, rfl⟩
abbrev main_v101 : Ref sig .tc := ⟨.hbm, 135, rfl⟩
abbrev main_v102 : Ref sig .tc := ⟨.hbm, 136, rfl⟩
abbrev main_cst_22 : Ref sig .tc := ⟨.hbm, 137, rfl⟩
abbrev main_v103 : Ref sig .tc := ⟨.hbm, 138, rfl⟩
abbrev main_cst_23 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_24 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_25 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_26 : Ref sig .tc := ⟨.hbm, 157, rfl⟩
abbrev main_v119 : Ref sig .tc := ⟨.hbm, 158, rfl⟩
abbrev main_v120 : Ref sig .tc := ⟨.hbm, 159, rfl⟩
abbrev main_cst_27 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_28 : Ref sig .tc := ⟨.hbm, 167, rfl⟩
abbrev main_v127 : Ref sig .tc := ⟨.hbm, 168, rfl⟩
abbrev main_v128 : Ref sig .tc := ⟨.hbm, 169, rfl⟩
abbrev main_cst_29 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_30 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_31 : Ref sig .tc := ⟨.hbm, 186, rfl⟩
abbrev main_v143 : Ref sig .tc := ⟨.hbm, 187, rfl⟩
abbrev main_v144 : Ref sig .tc := ⟨.hbm, 188, rfl⟩
abbrev main_cst_32 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_33 : Ref sig .tc := ⟨.hbm, 195, rfl⟩
abbrev main_v150 : Ref sig .tc := ⟨.hbm, 196, rfl⟩
abbrev main_v151 : Ref sig .tc := ⟨.hbm, 197, rfl⟩
abbrev main_cst_34 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_c : Ref sig .tc := ⟨.hbm, 220, rfl⟩
abbrev main_call0_v0 : Ref sig .tc := ⟨.hbm, 221, rfl⟩
abbrev main_v173 : Ref sig .tc := ⟨.hbm, 222, rfl⟩

abbrev nD : Nat := 1
abbrev τ : Topo := Topo.v7x

variable {F : FTy → Type} [FloatOps F]
-- ==== Kernel3.lean ====
abbrev S1x8192x512 : Shape := ⟨3, ![1, 8192, 512]⟩
abbrev S1x8192x1024 : Shape := ⟨3, ![1, 8192, 1024]⟩
abbrev S1x1024 : Shape := ⟨2, ![1, 1024]⟩
abbrev S8192x512 : Shape := ⟨2, ![8192, 512]⟩
abbrev S8192x1024 : Shape := ⟨2, ![8192, 1024]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8 : Shape := ⟨1, ![8]⟩
abbrev S8x1x1 : Shape := ⟨3, ![8, 1, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x128x128 : Shape := ⟨3, ![8, 128, 128]⟩
abbrev S1x128x1 : Shape := ⟨3, ![1, 128, 1]⟩
abbrev S8x128x1 : Shape := ⟨3, ![8, 128, 1]⟩
abbrev S8x1x128 : Shape := ⟨3, ![8, 1, 128]⟩
abbrev S8x126x128 : Shape := ⟨3, ![8, 126, 128]⟩
abbrev S8x1x128x128 : Shape := ⟨4, ![8, 1, 128, 128]⟩
abbrev S8x5x128x128 : Shape := ⟨4, ![8, 5, 128, 128]⟩
abbrev S64x8x64x128 : Shape := ⟨4, ![64, 8, 64, 128]⟩
abbrev S128x512 : Shape := ⟨2, ![128, 512]⟩
abbrev S128x1024 : Shape := ⟨2, ![128, 1024]⟩
abbrev S1x8x64x128 : Shape := ⟨4, ![1, 8, 64, 128]⟩
abbrev S8x64x128 : Shape := ⟨3, ![8, 64, 128]⟩
abbrev S512x128 : Shape := ⟨2, ![512, 128]⟩
abbrev S1x1x128x128 : Shape := ⟨4, ![1, 1, 128, 128]⟩
abbrev S128x64 : Shape := ⟨2, ![128, 64]⟩
abbrev S1x1x1x128 : Shape := ⟨4, ![1, 1, 1, 128]⟩
abbrev S1x64x128 : Shape := ⟨3, ![1, 64, 128]⟩
abbrev S64x128 : Shape := ⟨2, ![64, 128]⟩

abbrev nBuf : Space → Nat
  | .hbm => 103
  | .vmem => 19
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x1024, .f32⟩
  | .hbm, ⟨3, _⟩ => ⟨S1x8192x1024, .f32⟩
  | .hbm, ⟨4, _⟩ => ⟨S1x1024, .f32⟩
  | .hbm, ⟨5, _⟩ => ⟨S8192x512, .f32⟩
  | .hbm, ⟨6, _⟩ => ⟨S8192x512, .bf16⟩
  | .hbm, ⟨7, _⟩ => ⟨S8192x512, .f32⟩
  | .hbm, ⟨8, _⟩ => ⟨S8192x512, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1024, .bf16⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S8192, .f32⟩
  | .hbm, ⟨28, _⟩ => ⟨S8192x1, .f32⟩
  | .hbm, ⟨29, _⟩ => ⟨S1x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x128, .f32⟩
  | .hbm, ⟨36, _⟩ => ⟨S8192x32, .f32⟩
  | .hbm, ⟨37, _⟩ => ⟨S8192x32, .f32⟩
  | .hbm, ⟨38, _⟩ => ⟨S8192x128, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S8x1x1, .f32⟩
  | .hbm, ⟨49, _⟩ => ⟨S128, .f32⟩
  | .hbm, ⟨50, _⟩ => ⟨S128x1, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S_, .f32⟩
  | .hbm, ⟨56, _⟩ => ⟨S128x128, .f32⟩
  | .hbm, ⟨57, _⟩ => ⟨S128x128, .i1⟩
  | .hbm, ⟨58, _⟩ => ⟨S_, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S8x128x128, .f32⟩
  | .hbm, ⟨63, _⟩ => ⟨S8x128x128, .f32⟩
  | .hbm, ⟨64, _⟩ => ⟨S8x128x128, .f32⟩
  | .hbm, ⟨65, _⟩ => ⟨S8x128x128, .f32⟩
  | .hbm, ⟨66, _⟩ => ⟨S_, .f32⟩
  | .hbm, ⟨67, _⟩ => ⟨S_, .f32⟩
  | .hbm, ⟨68, _⟩ => ⟨S8x128x128, .i1⟩
  | .hbm, ⟨69, _⟩ => ⟨S8x128x128, .f32⟩
  | .hbm, ⟨70, _⟩ => ⟨S8x128x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S1x128x1, .f32⟩
  | .hbm, ⟨75, _⟩ => ⟨S8x128x1, .f32⟩
  | .hbm, ⟨76, _⟩ => ⟨S8x128x1, .f32⟩
  | .hbm, ⟨77, _⟩ => ⟨S8x128x1, .f32⟩
  | .hbm, ⟨78, _⟩ => ⟨S8x128x1, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S1x128x1, .f32⟩
  | .hbm, ⟨83, _⟩ => ⟨S8x128x1, .f32⟩
  | .hbm, ⟨84, _⟩ => ⟨S8x128x1, .f32⟩
  | .hbm, ⟨85, _⟩ => ⟨S8x128x1, .f32⟩
  | .hbm, ⟨86, _⟩ => ⟨S8x128x1, .f32⟩
  | .hbm, ⟨87, _⟩ => ⟨S8x1x128, .f32⟩
  | .hbm, ⟨88, _⟩ => ⟨S8x1x128, .f32⟩
  | .hbm, ⟨89, _⟩ => ⟨S_, .f32⟩
  | .hbm, ⟨90, _⟩ => ⟨S8x126x128, .f32⟩
  | .hbm, ⟨91, _⟩ => ⟨S8x128x128, .f32⟩
  | .hbm, ⟨92, _⟩ => ⟨S8x128x128, .f32⟩
  | .hbm, ⟨93, _⟩ => ⟨S8x128x128, .f32⟩
  | .hbm, ⟨94, _⟩ => ⟨S8x128x128, .f32⟩
  | .hbm, ⟨95, _⟩ => ⟨S8x1x128x128, .f32⟩
  | .hbm, ⟨96, _⟩ => ⟨S8x1x128x128, .f32⟩
  | .hbm, ⟨97, _⟩ => ⟨S8x1x128x128, .f32⟩
  | .hbm, ⟨98, _⟩ => ⟨S8x1x128x128, .f32⟩
  | .hbm, ⟨99, _⟩ => ⟨S8x1x128x128, .f32⟩
  | .hbm, ⟨100, _⟩ => ⟨S8x5x128x128, .f32⟩
  | .hbm, ⟨101, _⟩ => ⟨S8192x1024, .bf16⟩
  | .hbm, ⟨102, _⟩ => ⟨S64x8x64x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x1024, .f32⟩
  | .local _ .vmem, ⟨13, _⟩ => ⟨S8x5x128x128, .f32⟩
  | .local _ .vmem, ⟨14, _⟩ => ⟨S128x1024, .bf16⟩
  | .local _ .vmem, ⟨15, _⟩ => ⟨S128x1024, .bf16⟩
  | .local _ .vmem, ⟨16, _⟩ => ⟨S1x8x64x128, .f32⟩
  | .local _ .vmem, ⟨17, _⟩ => ⟨S1x8x64x128, .f32⟩
  | .local _ .vmem, ⟨18, _⟩ => ⟨S8x64x128, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81_0 : Ref sig .tc := ⟨.hbm, 101, rfl⟩
abbrev main_v81_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x5x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel3Ideal.lean ====
variable {F : FTy → Type} [FloatOps F] [Named F]
def κ : String → Option EReal := fun
  | "chunk_decay_0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "chunk_decay_1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "chunk_decay_2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "chunk_decay_3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "chunk_decay_4" => some ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  | "chunk_decay_5" => some ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "chunk_decay_6" => some ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  | "chunk_decay_7" => some ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | _ => none
-- ==== Reference3Ideal.lean ====
abbrev S1x8192x512 : Shape := ⟨3, ![1, 8192, 512]⟩
abbrev S1x8192x1024 : Shape := ⟨3, ![1, 8192, 1024]⟩
abbrev S1x1024 : Shape := ⟨2, ![1, 1024]⟩
abbrev S1024 : Shape := ⟨1, ![1024]⟩
abbrev S1x8192x8x64 : Shape := ⟨4, ![1, 8192, 8, 64]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x8x32 : Shape := ⟨4, ![1, 8192, 8, 32]⟩
abbrev S1x8192x8x128 : Shape := ⟨4, ![1, 8192, 8, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x64x128x8x64 : Shape := ⟨5, ![1, 64, 128, 8, 64]⟩
abbrev S1x64x128x8x128 : Shape := ⟨5, ![1, 64, 128, 8, 128]⟩
abbrev S1x64x8x128x128 : Shape := ⟨5, ![1, 64, 8, 128, 128]⟩
abbrev S1x1x8x128x128 : Shape := ⟨5, ![1, 1, 8, 128, 128]⟩
abbrev S8x1 : Shape := ⟨2, ![8, 1]⟩
abbrev S8x128 : Shape := ⟨2, ![8, 128]⟩
abbrev S128x8 : Shape := ⟨2, ![128, 8]⟩
abbrev S1x1x128x8x1 : Shape := ⟨5, ![1, 1, 128, 8, 1]⟩
abbrev S1x64x8x64x128 : Shape := ⟨5, ![1, 64, 8, 64, 128]⟩
abbrev S1x1x8x64x128 : Shape := ⟨5, ![1, 1, 8, 64, 128]⟩
abbrev S1x8x64x128 : Shape := ⟨4, ![1, 8, 64, 128]⟩
abbrev S64x1x8x64x128 : Shape := ⟨5, ![64, 1, 8, 64, 128]⟩
abbrev S1x8x1x1 : Shape := ⟨4, ![1, 8, 1, 1]⟩
abbrev S1x8192x8 : Shape := ⟨3, ![1, 8192, 8]⟩
abbrev S1x8192x8x1 : Shape := ⟨4, ![1, 8192, 8, 1]⟩
abbrev S1x1x1024 : Shape := ⟨3, ![1, 1, 1024]⟩
abbrev S8192x1024 : Shape := ⟨2, ![8192, 1024]⟩
abbrev S64x8x64x128 : Shape := ⟨4, ![64, 8, 64, 128]⟩

abbrev nBuf : Space → Nat
  | .hbm => 227
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x8192x1024, .f32⟩
  | 3 => ⟨S1x8192x1024, .f32⟩
  | 4 => ⟨S1x1024, .f32⟩
  | 5 => ⟨S1024, .f32⟩
  | 6 => ⟨S1x8192x8x64, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S8192, .f32⟩
  | 22 => ⟨S8192x1, .f32⟩
  | 23 => ⟨S1x32, .f32⟩
  | 24 => ⟨S8192x32, .f32⟩
  | 25 => ⟨S8192x32, .f32⟩
  | 26 => ⟨S8192x32, .f32⟩
  | 27 => ⟨S8192x32, .f32⟩
  | 28 => ⟨S1x8192x1x32, .f32⟩
  | 29 => ⟨S8192x32, .f32⟩
  | 30 => ⟨S1x8192x1x32, .f32⟩
  | 31 => ⟨S1x8192x8x32, .f32⟩
  | 32 => ⟨S1x8192x8x32, .f32⟩
  | 33 => ⟨S1x8192x8x32, .f32⟩
  | 34 => ⟨S1x8192x8x32, .f32⟩
  | 35 => ⟨S1x8192x8x32, .f32⟩
  | 36 => ⟨S1x8192x8x32, .f32⟩
  | 37 => ⟨S1x8192x8x32, .f32⟩
  | 38 => ⟨S1x8192x8x32, .f32⟩
  | 39 => ⟨S1x8192x8x32, .f32⟩
  | 40 => ⟨S1x8192x8x32, .f32⟩
  | 41 => ⟨S1x8192x8x32, .f32⟩
  | 42 => ⟨S1x8192x8x32, .f32⟩
  | 43 => ⟨S1x8192x8x64, .f32⟩
  | 44 => ⟨S1x8192x8x64, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S8192, .f32⟩
  | 60 => ⟨S8192x1, .f32⟩
  | 61 => ⟨S1x32, .f32⟩
  | 62 => ⟨S8192x32, .f32⟩
  | 63 => ⟨S8192x32, .f32⟩
  | 64 => ⟨S8192x32, .f32⟩
  | 65 => ⟨S8192x32, .f32⟩
  | 66 => ⟨S1x8192x1x32, .f32⟩
  | 67 => ⟨S8192x32, .f32⟩
  | 68 => ⟨S1x8192x1x32, .f32⟩
  | 69 => ⟨S1x8192x8x32, .f32⟩
  | 70 => ⟨S1x8192x8x32, .f32⟩
  | 71 => ⟨S1x8192x8x32, .f32⟩
  | 72 => ⟨S1x8192x8x32, .f32⟩
  | 73 => ⟨S1x8192x8x32, .f32⟩
  | 74 => ⟨S1x8192x8x32, .f32⟩
  | 75 => ⟨S1x8192x8x32, .f32⟩
  | 76 => ⟨S1x8192x8x32, .f32⟩
  | 77 => ⟨S1x8192x8x32, .f32⟩
  | 78 => ⟨S1x8192x8x32, .f32⟩
  | 79 => ⟨S1x8192x8x32, .f32⟩
  | 80 => ⟨S1x8192x8x32, .f32⟩
  | 81 => ⟨S1x8192x8x64, .f32⟩
  | 82 => ⟨S_, .f32⟩
  | 83 => ⟨S1x8192x8x64, .f32⟩
  | 84 => ⟨S1x8192x8x64, .f32⟩
  | 85 => ⟨S1x8192x8x128, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S8, .f32⟩
  | 94 => ⟨S8, .f32⟩
  | 95 => ⟨S128, .f32⟩
  | 96 => ⟨S128x1, .f32⟩
  | 97 => ⟨S1x128, .f32⟩
  | 98 => ⟨S128x128, .f32⟩
  | 99 => ⟨S128x128, .f32⟩
  | 100 => ⟨S128x128, .f32⟩
  | 101 => ⟨S_, .f32⟩
  | 102 => ⟨S128x128, .f32⟩
  | 103 => ⟨S128x128, .i1⟩
  | 104 => ⟨S8x1x1, .f32⟩
  | 105 => ⟨S_, .f32⟩
  | 106 => ⟨S128x128, .f32⟩
  | 107 => ⟨S128x128, .f32⟩
  | 108 => ⟨S1x128x128, .f32⟩
  | 109 => ⟨S8x128x128, .f32⟩
  | 110 => ⟨S8x128x128, .f32⟩
  | 111 => ⟨S8x128x128, .f32⟩
  | 112 => ⟨S8x128x128, .f32⟩
  | 113 => ⟨S_, .f32⟩
  | 114 => ⟨S_, .f32⟩
  | 115 => ⟨S8x128x128, .i1⟩
  | 116 => ⟨S8x128x128, .f32⟩
  | 117 => ⟨S8x128x128, .f32⟩
  | 118 => ⟨S1x64x128x8x64, .f32⟩
  | 119 => ⟨S1x64x128x8x64, .f32⟩
  | 120 => ⟨S1x64x128x8x128, .f32⟩
  | 121 => ⟨S1x64x8x128x128, .f32⟩
  | 122 => ⟨S1x1x8x128x128, .f32⟩
  | 123 => ⟨S1x64x8x128x128, .f32⟩
  | 124 => ⟨S1x64x8x128x128, .f32⟩
  | 125 => ⟨S1x64x8x128x128, .f32⟩
  | 126 => ⟨S1x64x128x8x128, .f32⟩
  | 127 => ⟨S8x1, .f32⟩
  | _ => ⟨S1x8192x512, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S8x128, .f32⟩
  | 5 => ⟨S8x128, .f32⟩
  | 6 => ⟨S8x128, .f32⟩
  | 7 => ⟨S8x128, .f32⟩
  | 8 => ⟨S128x8, .f32⟩
  | 9 => ⟨S1x1x128x8x1, .f32⟩
  | 10 => ⟨S1x64x128x8x64, .f32⟩
  | 11 => ⟨S1x64x128x8x64, .f32⟩
  | 12 => ⟨S1x64x8x64x128, .f32⟩
  | 13 => ⟨S_, .f32⟩
  | 14 => ⟨S8, .f32⟩
  | 15 => ⟨S8, .f32⟩
  | 16 => ⟨S8, .f32⟩
  | 17 => ⟨S1x1x8x64x128, .f32⟩
  | 18 => ⟨S1x8x64x128, .f32⟩
  | 19 => ⟨S_, .f32⟩
  | 20 => ⟨S1x8x64x128, .f32⟩
  | 21 => ⟨S64x1x8x64x128, .f32⟩
  | 22 => ⟨S_, .f32⟩
  | 23 => ⟨S64x1x8x64x128, .f32⟩
  | 24 => ⟨S_, .i32⟩
  | 25 => ⟨S64x1x8x64x128, .f32⟩
  | 26 => ⟨S8, .f32⟩
  | 27 => ⟨S_, .i32⟩
  | 28 => ⟨S1x8x64x128, .f32⟩
  | 29 => ⟨S64x1x8x64x128, .f32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S1x1x8x64x128, .f32⟩
  | 37 => ⟨S1x8x64x128, .f32⟩
  | 38 => ⟨S8x1x1, .f32⟩
  | 39 => ⟨S1x8x1x1, .f32⟩
  | 40 => ⟨S1x8x64x128, .f32⟩
  | 41 => ⟨S1x8x64x128, .f32⟩
  | 42 => ⟨S1x8x64x128, .f32⟩
  | 43 => ⟨S1x1x8x64x128, .f32⟩
  | 44 => ⟨S_, .i32⟩
  | 45 => ⟨S_, .i32⟩
  | 46 => ⟨S_, .i32⟩
  | 47 => ⟨S_, .i32⟩
  | 48 => ⟨S64x1x8x64x128, .f32⟩
  | 49 => ⟨S_, .i32⟩
  | 50 => ⟨S_, .i32⟩
  | 51 => ⟨S1x64x8x64x128, .f32⟩
  | 52 => ⟨S8x1, .f32⟩
  | 53 => ⟨S_, .f32⟩
  | 54 => ⟨S128, .f32⟩
  | 55 => ⟨S128, .f32⟩
  | 56 => ⟨S1x128, .f32⟩
  | 57 => ⟨S8x128, .f32⟩
  | 58 => ⟨S8x128, .f32⟩
  | 59 => ⟨S8x128, .f32⟩
  | 60 => ⟨S8x128, .f32⟩
  | 61 => ⟨S128x8, .f32⟩
  | 62 => ⟨S1x1x128x8x1, .f32⟩
  | 63 => ⟨S1x64x128x8x64, .f32⟩
  | 64 => ⟨S1x64x128x8x64, .f32⟩
  | 65 => ⟨S1x64x8x128x128, .f32⟩
  | 66 => ⟨S1x64x128x8x128, .f32⟩
  | 67 => ⟨S1x64x128x8x128, .f32⟩
  | 68 => ⟨S1x8192x8x128, .f32⟩
  | 69 => ⟨S1x8192x8x128, .f32⟩
  | 70 => ⟨S_, .f32⟩
  | 71 => ⟨S1x8192x8, .f32⟩
  | 72 => ⟨S1x8192x8x1, .f32⟩
  | 73 => ⟨S_, .f32⟩
  | 74 => ⟨S1x8192x8x1, .f32⟩
  | 75 => ⟨S1x8192x8x1, .f32⟩
  | 76 => ⟨S_, .f32⟩
  | 77 => ⟨S1x8192x8x1, .f32⟩
  | 78 => ⟨S1x8192x8x1, .f32⟩
  | 79 => ⟨S1x8192x8x1, .f32⟩
  | 80 => ⟨S1x8192x8x128, .f32⟩
  | 81 => ⟨S1x8192x8x128, .f32⟩
  | 82 => ⟨S1x8192x1024, .f32⟩
  | 83 => ⟨S1x1x1024, .f32⟩
  | 84 => ⟨S1x8192x1024, .f32⟩
  | 85 => ⟨S1x8192x1024, .f32⟩
  | 86 => ⟨S1x8192x1024, .f32⟩
  | 87 => ⟨S1x8192x1024, .f32⟩
  | 88 => ⟨S_, .f32⟩
  | 89 => ⟨S1x8192x1024, .f32⟩
  | 90 => ⟨S1x8192x1024, .f32⟩
  | 91 => ⟨S_, .f32⟩
  | 92 => ⟨S1x8192x1024, .f32⟩
  | 93 => ⟨S1x8192x1024, .f32⟩
  | 94 => ⟨S1x8192x1024, .f32⟩
  | 95 => ⟨S1x8192x1024, .f32⟩
  | 96 => ⟨S8192x1024, .f32⟩
  | 97 => ⟨S8192x1024, .bf16⟩
  | 98 => ⟨S64x8x64x128, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_8 : Ref sig .tc := ⟨.hbm, 87, rfl⟩
abbrev main_v73 : Ref sig .tc := ⟨.hbm, 88, rfl⟩
abbrev main_v74 : Ref sig .tc := ⟨.hbm, 89, rfl⟩
abbrev main_cst_9 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_10 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_11 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_12 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_13 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_14 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_15 : Ref sig .tc := ⟨.hbm, 147, rfl⟩
abbrev main_v123 : Ref sig .tc := ⟨.hbm, 148, rfl⟩
abbrev main_v124 : Ref sig .tc := ⟨.hbm, 149, rfl⟩
abbrev main_cst_16 : Ref sig .tc := ⟨.hbm, 150, rfl⟩
abbrev main_v125 : Ref sig .tc := ⟨.hbm, 151, rfl⟩
abbrev main_c : Ref sig .tc := ⟨.hbm, 152, rfl⟩
abbrev main_v126_0 : Ref sig .tc := ⟨.hbm, 153, rfl⟩
abbrev main_v126_1 : Ref sig .tc := ⟨.hbm, 154, rfl⟩
abbrev main_v126_2 : Ref sig .tc := ⟨.hbm, 155, rfl⟩
abbrev main_v126_3 : Ref sig .tc := ⟨.hbm, 156, rfl⟩
abbrev main_v126_4 : Ref sig .tc := ⟨.hbm, 157, rfl⟩
abbrev main_while0c_c_25 : Ref sig .tc := ⟨.hbm, 158, rfl⟩
abbrev main_while0c_v163 : Ref sig .tc := ⟨.hbm, 159, rfl⟩
abbrev main_while0b_call1_c : Ref sig .tc := ⟨.hbm, 160, rfl⟩
abbrev main_while0b_call1_c_0 : Ref sig .tc := ⟨.hbm, 161, rfl⟩
abbrev main_while0b_call1_c_1 : Ref sig .tc := ⟨.hbm, 162, rfl⟩
abbrev main_while0b_call1_c_2 : Ref sig .tc := ⟨.hbm, 163, rfl⟩
abbrev main_while0b_call1_v0 : Ref sig .tc := ⟨.hbm, 164, rfl⟩
abbrev main_while0b_v163 : Ref sig .tc := ⟨.hbm, 165, rfl⟩
abbrev main_while0b_v164 : Ref sig .tc := ⟨.hbm, 166, rfl⟩
abbrev main_while0b_v165 : Ref sig .tc := ⟨.hbm, 167, rfl⟩
abbrev main_while0b_v166 : Ref sig .tc := ⟨.hbm, 168, rfl⟩
abbrev main_while0b_v167 : Ref sig .tc := ⟨.hbm, 169, rfl⟩
abbrev main_while0b_v168 : Ref sig .tc := ⟨.hbm, 170, rfl⟩
abbrev main_while0b_call2_v0 : Ref sig .tc := ⟨.hbm, 171, rfl⟩
abbrev main_while0b_call2_c : Ref sig .tc := ⟨.hbm, 172, rfl⟩
abbrev main_while0b_call2_c_0 : Ref sig .tc := ⟨.hbm, 173, rfl⟩
abbrev main_while0b_call2_c_1 : Ref sig .tc := ⟨.hbm, 174, rfl⟩
abbrev main_while0b_call2_c_2 : Ref sig .tc := ⟨.hbm, 175, rfl⟩
abbrev main_while0b_v169 : Ref sig .tc := ⟨.hbm, 176, rfl⟩
abbrev main_while0b_c_25 : Ref sig .tc := ⟨.hbm, 177, rfl⟩
abbrev main_while0b_v170 : Ref sig .tc := ⟨.hbm, 178, rfl⟩
abbrev main_v127 : Ref sig .tc := ⟨.hbm, 179, rfl⟩
abbrev main_v128 : Ref sig .tc := ⟨.hbm, 180, rfl⟩
abbrev main_cst_17 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_18 : Ref sig .tc := ⟨.hbm, 198, rfl⟩
abbrev main_v145 : Ref sig .tc := ⟨.hbm, 199, rfl⟩
abbrev main_v146 : Ref sig .tc := ⟨.hbm, 200, rfl⟩
abbrev main_cst_19 : Ref sig .tc := ⟨.hbm, 201, rfl⟩
abbrev main_v147 : Ref sig .tc := ⟨.hbm, 202, rfl⟩
abbrev main_v148 : Ref sig .tc := ⟨.hbm, 203, rfl⟩
abbrev main_cst_20 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_call3_v0 : Ref sig .tc := ⟨.hbm, 214, rfl⟩
abbrev main_call3_v1 : Ref sig .tc := ⟨.hbm, 215, rfl⟩
abbrev main_call3_cst : Ref sig .tc := ⟨.hbm, 216, rfl⟩
abbrev main_call3_v2 : Ref sig .tc := ⟨.hbm, 217, rfl⟩
abbrev main_call3_v3 : Ref sig .tc := ⟨.hbm, 218, rfl⟩
abbrev main_call3_cst_0 : Ref sig .tc := ⟨.hbm, 219, rfl⟩
abbrev main_call3_v4 : Ref sig .tc := ⟨.hbm, 220, rfl⟩
abbrev main_call3_v5 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩

abbrev nD : Nat := 1
abbrev τ : Topo := Topo.v7x

variable {F : FTy → Type} [FloatOps F]

abbrev main_while0_count : Scf.Loop 32 := ⟨0#32, 64#32, 1#32⟩
-- ==== Kernel4.lean ====
abbrev S1x8192x1024 : Shape := ⟨3, ![1, 8192, 1024]⟩
abbrev S1x8192x1536 : Shape := ⟨3, ![1, 8192, 1536]⟩
abbrev S1x8192x16 : Shape := ⟨3, ![1, 8192, 16]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S8192x16 : Shape := ⟨2, ![8192, 16]⟩
abbrev S_ : Shape := ⟨0, ![]⟩
abbrev S8192x128 : Shape := ⟨2, ![8192, 128]⟩
abbrev S4x1536 : Shape := ⟨2, ![4, 1536]⟩
abbrev S8x1536 : Shape := ⟨2, ![8, 1536]⟩
abbrev S1x128 : Shape := ⟨2, ![1, 128]⟩
abbrev S1x16x64 : Shape := ⟨3, ![1, 16, 64]⟩
abbrev S8192x1536 : Shape := ⟨2, ![8192, 1536]⟩
abbrev S8192x1024 : Shape := ⟨2, ![8192, 1024]⟩
abbrev S64x2x128x512 : Shape := ⟨4, ![64, 2, 128, 512]⟩
abbrev S128x1536 : Shape := ⟨2, ![128, 1536]⟩
abbrev S16x1536 : Shape := ⟨2, ![16, 1536]⟩
abbrev S128x128 : Shape := ⟨2, ![128, 128]⟩
abbrev S128x1024 : Shape := ⟨2, ![128, 1024]⟩
abbrev S1x2x128x512 : Shape := ⟨4, ![1, 2, 128, 512]⟩
abbrev S2x128x512 : Shape := ⟨3, ![2, 128, 512]⟩
abbrev S144x1536 : Shape := ⟨2, ![144, 1536]⟩
abbrev S128x1 : Shape := ⟨2, ![128, 1]⟩
abbrev S128x64 : Shape := ⟨2, ![128, 64]⟩
abbrev S1x128x512 : Shape := ⟨3, ![1, 128, 512]⟩
abbrev S128x512 : Shape := ⟨2, ![128, 512]⟩
abbrev S1x1x128x512 : Shape := ⟨4, ![1, 1, 128, 512]⟩
abbrev S1x512 : Shape := ⟨2, ![1, 512]⟩
abbrev S128 : Shape := ⟨1, ![128]⟩

abbrev nBuf : Space → Nat
  | .hbm => 33
  | .vmem => 26
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1536, .f32⟩
  | .hbm, ⟨2, _⟩ => ⟨S1x8192x16, .f32⟩
  | .hbm, ⟨3, _⟩ => ⟨S1x4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S8192x16, .f32⟩
  | .hbm, ⟨10, _⟩ => ⟨S_, .i32⟩
  | .hbm, ⟨11, _⟩ => ⟨S_, .f32⟩
  | .hbm, ⟨12, _⟩ => ⟨S8192x128, .f32⟩
  | .hbm, ⟨13, _⟩ => ⟨S4x1536, .f32⟩
  | .hbm, ⟨14, _⟩ => ⟨S_, .i32⟩
  | .hbm, ⟨15, _⟩ => ⟨S_, .f32⟩
  | .hbm, ⟨16, _⟩ => ⟨S8x1536, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S1x16x64, .f32⟩
  | .hbm, ⟨24, _⟩ => ⟨S1x1024, .f32⟩
  | .hbm, ⟨25, _⟩ => ⟨S8192x1536, .f32⟩
  | .hbm, ⟨26, _⟩ => ⟨S8192x1536, .bf16⟩
  | .hbm, ⟨27, _⟩ => ⟨S8192x1024, .f32⟩
  | .hbm, ⟨28, _⟩ => ⟨S8192x1024, .bf16⟩
  | .hbm, ⟨29, _⟩ => ⟨S8192x1024, .bf16⟩
  | .hbm, ⟨30, _⟩ => ⟨S8192x1024, .bf16⟩
  | .hbm, ⟨31, _⟩ => ⟨S8192x1536, .bf16⟩
  | .hbm, ⟨32, _⟩ => ⟨S64x2x128x512, .f32⟩
  | .local _ .vmem, ⟨0, _⟩ => ⟨S128x1536, .bf16⟩
  | .local _ .vmem, ⟨1, _⟩ => ⟨S128x1536, .bf16⟩
  | .local _ .vmem, ⟨2, _⟩ => ⟨S16x1536, .bf16⟩
  | .local _ .vmem, ⟨3, _⟩ => ⟨S16x1536, .bf16⟩
  | .local _ .vmem, ⟨4, _⟩ => ⟨S128x128, .f32⟩
  | .local _ .vmem, ⟨5, _⟩ => ⟨S128x128, .f32⟩
  | .local _ .vmem, ⟨6, _⟩ => ⟨S128x1024, .bf16⟩
  | .local _ .vmem, ⟨7, _⟩ => ⟨S128x1024, .bf16⟩
  | .local _ .vmem, ⟨8, _⟩ => ⟨S8x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1536, .bf16⟩
  | .local _ .vmem, ⟨19, _⟩ => ⟨S128x1536, .bf16⟩
  | .local _ .vmem, ⟨20, _⟩ => ⟨S1x2x128x512, .f32⟩
  | .local _ .vmem, ⟨21, _⟩ => ⟨S1x2x128x512, .f32⟩
  | .local _ .vmem, ⟨22, _⟩ => ⟨S2x128x512, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_c_2 : Ref sig .tc := ⟨.hbm, 20, rfl⟩
abbrev main_call3_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev main_v12_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel4Ideal.lean ====
variable {F : FTy → Type} [FloatOps F] [Named F]
def κ : String → Option EReal := fun
  | "masked" => some ⊥
  | _ => none
-- ==== Reference4Ideal.lean ====
abbrev S1x8192x1024 : Shape := ⟨3, ![1, 8192, 1024]⟩
abbrev S1x8192x1536 : Shape := ⟨3, ![1, 8192, 1536]⟩
abbrev S1x8192x16 : Shape := ⟨3, ![1, 8192, 16]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S1x3x1536 : Shape := ⟨3, ![1, 3, 1536]⟩
abbrev S1x8195x1536 : Shape := ⟨3, ![1, 8195, 1536]⟩
abbrev S1x1x1536 : Shape := ⟨3, ![1, 1, 1536]⟩
abbrev S1x8192x256 : Shape := ⟨3, ![1, 8192, 256]⟩
abbrev S1x64x128x2x8x64 : Shape := ⟨6, ![1, 64, 128, 2, 8, 64]⟩
abbrev S1x64x128x2x128 : Shape := ⟨5, ![1, 64, 128, 2, 128]⟩
abbrev S1x1x16 : Shape := ⟨3, ![1, 1, 16]⟩
abbrev S1x64x128x2x8 : Shape := ⟨5, ![1, 64, 128, 2, 8]⟩
abbrev S1x64x2x8x128 : Shape := ⟨5, ![1, 64, 2, 8, 128]⟩
abbrev S1x64x128x2x8x1 : Shape := ⟨6, ![1, 64, 128, 2, 8, 1]⟩
abbrev S128x128 : Shape := ⟨2, ![128, 128]⟩
abbrev S1x64x2x8x128x1 : Shape := ⟨6, ![1, 64, 2, 8, 128, 1]⟩
abbrev S1x64x2x8x1x128 : Shape := ⟨6, ![1, 64, 2, 8, 1, 128]⟩
abbrev S1x64x2x8x128x128 : Shape := ⟨6, ![1, 64, 2, 8, 128, 128]⟩
abbrev S1x64x2x128x128 : Shape := ⟨5, ![1, 64, 2, 128, 128]⟩
abbrev S1x64x2x1x128x128 : Shape := ⟨6, ![1, 64, 2, 1, 128, 128]⟩
abbrev S1x64x2x8x64x128 : Shape := ⟨6, ![1, 64, 2, 8, 64, 128]⟩
abbrev S1x64x2x8x1 : Shape := ⟨5, ![1, 64, 2, 8, 1]⟩
abbrev S1x64x2x8 : Shape := ⟨4, ![1, 64, 2, 8]⟩
abbrev S1x1x2x8x64x128 : Shape := ⟨6, ![1, 1, 2, 8, 64, 128]⟩
abbrev S1x2x8x64x128 : Shape := ⟨5, ![1, 2, 8, 64, 128]⟩
abbrev S64x1x2x8x64x128 : Shape := ⟨6, ![64, 1, 2, 8, 64, 128]⟩
abbrev S64x1x2x8 : Shape := ⟨4, ![64, 1, 2, 8]⟩
abbrev S1x1x2x8 : Shape := ⟨4, ![1, 1, 2, 8]⟩
abbrev S1x2x8 : Shape := ⟨3, ![1, 2, 8]⟩
abbrev S1x2x8x1x1 : Shape := ⟨5, ![1, 2, 8, 1, 1]⟩
abbrev S2x8x1 : Shape := ⟨3, ![2, 8, 1]⟩
abbrev S1x1x1x2x8x1 : Shape := ⟨6, ![1, 1, 1, 2, 8, 1]⟩
abbrev S1x8192 : Shape := ⟨2, ![1, 8192]⟩
abbrev S1x8192x1 : Shape := ⟨3, ![1, 8192, 1]⟩
abbrev S1x1x1024 : Shape := ⟨3, ![1, 1, 1024]⟩
abbrev S64x2x8x64x128 : Shape := ⟨5, ![64, 2, 8, 64, 128]⟩
abbrev S64x2x128x8x64 : Shape := ⟨5, ![64, 2, 128, 8, 64]⟩
abbrev S64x2x128x512 : Shape := ⟨4, ![64, 2, 128, 512]⟩
abbrev S8192x1024 : Shape := ⟨2, ![8192, 1024]⟩
abbrev S8192x1536 : Shape := ⟨2, ![8192, 1536]⟩

abbrev nBuf : Space → Nat
  | .hbm => 228
  | .vmem => 0
  | .smem => 0
  | _ => 0

abbrev hbmTy0_0 (i : Nat) : BufTy := match i % 128 with
  | 0 => ⟨S1x8192x1024, .f32⟩
  | 1 => ⟨S1x8192x1536, .f32⟩
  | 2 => ⟨S1x8192x16, .f32⟩
  | 3 => ⟨S1x4x1536, .f32⟩
  | 4 => ⟨S1x1536, .f32⟩
  | 5 => ⟨S1x16, .f32⟩
  | 6 => ⟨S1x16, .f32⟩
  | 7 => ⟨S1x16, .f32⟩
  | 8 => ⟨S1x1024, .f32⟩
  | 9 => ⟨S4x1536, .f32⟩
  | 10 => ⟨S1536, .f32⟩
  | 11 => ⟨S16, .f32⟩
  | 12 => ⟨S16, .f32⟩
  | 13 => ⟨S16, .f32⟩
  | 14 => ⟨S1024, .f32⟩
  | 15 => ⟨S_, .f32⟩
  | 16 => ⟨S1x3x1536, .f32⟩
  | 17 => ⟨S1x8195x1536, .f32⟩
  | 18 => ⟨S1x1536, .f32⟩
  | 19 => ⟨S1536, .f32⟩
  | 20 => ⟨S1x8192x1536, .f32⟩
  | 21 => ⟨S1x1x1536, .f32⟩
  | 22 => ⟨S1x8192x1536, .f32⟩
  | 23 => ⟨S1x8192x1536, .f32⟩
  | 24 => ⟨S_, .f32⟩
  | 25 => ⟨S1x8192x1536, .f32⟩
  | 26 => ⟨S1x8192x1536, .f32⟩
  | 27 => ⟨S1x1536, .f32⟩
  | 28 => ⟨S1536, .f32⟩
  | 29 => ⟨S1x8192x1536, .f32⟩
  | 30 => ⟨S1x1x1536, .f32⟩
  | 31 => ⟨S1x8192x1536, .f32⟩
  | 32 => ⟨S1x8192x1536, .f32⟩
  | 33 => ⟨S1x8192x1536, .f32⟩
  | 34 => ⟨S1x1536, .f32⟩
  | 35 => ⟨S1536, .f32⟩
  | 36 => ⟨S1x8192x1536, .f32⟩
  | 37 => ⟨S1x1x1536, .f32⟩
  | 38 => ⟨S1x8192x1536, .f32⟩
  | 39 => ⟨S1x8192x1536, .f32⟩
  | 40 => ⟨S1x8192x1536, .f32⟩
  | 41 => ⟨S1x1536, .f32⟩
  | 42 => ⟨S1536, .f32⟩
  | 43 => ⟨S1x8192x1536, .f32⟩
  | 44 => ⟨S1x1x1536, .f32⟩
  | 45 => ⟨S1x8192x1536, .f32⟩
  | 46 => ⟨S1x8192x1536, .f32⟩
  | 47 => ⟨S1x8192x1536, .f32⟩
  | 48 => ⟨S1x1x1536, .f32⟩
  | 49 => ⟨S1x8192x1536, .f32⟩
  | 50 => ⟨S1x8192x1536, .f32⟩
  | 51 => ⟨S1x8192x1536, .f32⟩
  | 52 => ⟨S1x8192x1536, .f32⟩
  | 53 => ⟨S_, .f32⟩
  | 54 => ⟨S1x8192x1536, .f32⟩
  | 55 => ⟨S1x8192x1536, .f32⟩
  | 56 => ⟨S_, .f32⟩
  | 57 => ⟨S1x8192x1536, .f32⟩
  | 58 => ⟨S1x8192x1536, .f32⟩
  | 59 => ⟨S1x8192x1536, .f32⟩
  | 60 => ⟨S1x8192x1024, .f32⟩
  | 61 => ⟨S1x8192x256, .f32⟩
  | 62 => ⟨S1x8192x256, .f32⟩
  | 63 => ⟨S1x64x128x2x8x64, .f32⟩
  | 64 => ⟨S1x64x128x2x128, .f32⟩
  | 65 => ⟨S1x64x128x2x128, .f32⟩
  | 66 => ⟨S1x1x16, .f32⟩
  | 67 => ⟨S1x8192x16, .f32⟩
  | 68 => ⟨S1x8192x16, .f32⟩
  | 69 => ⟨S_, .f32⟩
  | 70 => ⟨S1x8192x16, .f32⟩
  | 71 => ⟨S1x8192x16, .f32⟩
  | 72 => ⟨S1x8192x16, .f32⟩
  | 73 => ⟨S1x8192x16, .f32⟩
  | 74 => ⟨S1x8192x16, .i1⟩
  | 75 => ⟨S1x8192x16, .f32⟩
  | 76 => ⟨S1x8192x16, .f32⟩
  | 77 => ⟨S1x8192x16, .f32⟩
  | 78 => ⟨S1x8192x16, .f32⟩
  | 79 => ⟨S1x8192x16, .f32⟩
  | 80 => ⟨S1x8192x16, .f32⟩
  | 81 => ⟨S1x8192x16, .f32⟩
  | 82 => ⟨S1x8192x16, .f32⟩
  | 83 => ⟨S16, .f32⟩
  | 84 => ⟨S16, .f32⟩
  | 85 => ⟨S1x64x128x2x8, .f32⟩
  | 86 => ⟨S1x1x16, .f32⟩
  | 87 => ⟨S1x8192x16, .f32⟩
  | 88 => ⟨S1x8192x16, .f32⟩
  | 89 => ⟨S1x64x128x2x8, .f32⟩
  | 90 => ⟨S1x64x2x8x128, .f32⟩
  | 91 => ⟨S_, .f32⟩
  | 92 => ⟨S_, .f32⟩
  | 93 => ⟨S1x64x2x8x128, .f32⟩
  | 94 => ⟨S1x64x128x2x8x1, .f32⟩
  | 95 => ⟨S1x64x128x2x8x64, .f32⟩
  | 96 => ⟨S1x64x128x2x8x64, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x64x2x8x128x1, .f32⟩
  | 109 => ⟨S1x64x2x8x1x128, .f32⟩
  | 110 => ⟨S1x64x2x8x128x128, .f32⟩
  | 111 => ⟨S1x64x2x8x128x128, .f32⟩
  | 112 => ⟨S1x64x2x8x128x128, .f32⟩
  | 113 => ⟨S_, .f32⟩
  | 114 => ⟨S_, .f32⟩
  | 115 => ⟨S1x64x2x8x128x128, .i1⟩
  | 116 => ⟨S1x64x2x8x128x128, .f32⟩
  | 117 => ⟨S1x64x2x8x128x128, .f32⟩
  | 118 => ⟨S1x64x2x8x128x128, .f32⟩
  | 119 => ⟨S1x64x2x128x128, .f32⟩
  | 120 => ⟨S1x64x2x1x128x128, .f32⟩
  | 121 => ⟨S1x64x2x8x128x128, .f32⟩
  | 122 => ⟨S1x64x2x8x128x128, .f32⟩
  | 123 => ⟨S1x64x2x8x64x128, .f32⟩
  | 124 => ⟨S1x64x128x2x8x64, .f32⟩
  | 125 => ⟨S1x64x2x8x1, .f32⟩
  | 126 => ⟨S1x64x2x8x128, .f32⟩
  | 127 => ⟨S1x64x2x8x128, .f32⟩
  | _ => ⟨S1x8192x1024, .f32⟩

abbrev hbmTy0_1 (i : Nat) : BufTy := match i % 128 with
  | 0 => ⟨S1x64x2x8x128, .f32⟩
  | 1 => ⟨S1x64x128x2x8, .f32⟩
  | 2 => ⟨S1x64x128x2x8x1, .f32⟩
  | 3 => ⟨S1x64x128x2x8x64, .f32⟩
  | 4 => ⟨S1x64x128x2x8x64, .f32⟩
  | 5 => ⟨S1x64x2x8x64x128, .f32⟩
  | 6 => ⟨S1x64x2x8x1, .f32⟩
  | 7 => ⟨S1x64x2x8, .f32⟩
  | 8 => ⟨S1x64x2x8, .f32⟩
  | 9 => ⟨S1x1x2x8x64x128, .f32⟩
  | 10 => ⟨S1x2x8x64x128, .f32⟩
  | 11 => ⟨S_, .f32⟩
  | 12 => ⟨S1x2x8x64x128, .f32⟩
  | 13 => ⟨S64x1x2x8x64x128, .f32⟩
  | 14 => ⟨S64x1x2x8, .f32⟩
  | 15 => ⟨S_, .f32⟩
  | 16 => ⟨S64x1x2x8x64x128, .f32⟩
  | 17 => ⟨S_, .i32⟩
  | 18 => ⟨S64x1x2x8x64x128, .f32⟩
  | 19 => ⟨S64x1x2x8, .f32⟩
  | 20 => ⟨S_, .i32⟩
  | 21 => ⟨S1x2x8x64x128, .f32⟩
  | 22 => ⟨S64x1x2x8x64x128, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x1x2x8x64x128, .f32⟩
  | 31 => ⟨S1x2x8x64x128, .f32⟩
  | 32 => ⟨S_, .i32⟩
  | 33 => ⟨S_, .i32⟩
  | 34 => ⟨S_, .i32⟩
  | 35 => ⟨S1x1x2x8, .f32⟩
  | 36 => ⟨S1x2x8, .f32⟩
  | 37 => ⟨S1x2x8x1x1, .f32⟩
  | 38 => ⟨S1x2x8x64x128, .f32⟩
  | 39 => ⟨S1x2x8x64x128, .f32⟩
  | 40 => ⟨S1x2x8x64x128, .f32⟩
  | 41 => ⟨S1x1x2x8x64x128, .f32⟩
  | 42 => ⟨S_, .i32⟩
  | 43 => ⟨S_, .i32⟩
  | 44 => ⟨S_, .i32⟩
  | 45 => ⟨S_, .i32⟩
  | 46 => ⟨S_, .i32⟩
  | 47 => ⟨S64x1x2x8x64x128, .f32⟩
  | 48 => ⟨S_, .i32⟩
  | 49 => ⟨S_, .i32⟩
  | 50 => ⟨S1x64x2x8x64x128, .f32⟩
  | 51 => ⟨S1x64x2x8x128, .f32⟩
  | 52 => ⟨S1x64x128x2x8, .f32⟩
  | 53 => ⟨S1x64x128x2x8x1, .f32⟩
  | 54 => ⟨S1x64x2x8x64x128, .f32⟩
  | 55 => ⟨S1x64x128x2x8x64, .f32⟩
  | 56 => ⟨S1x64x128x2x8x64, .f32⟩
  | 57 => ⟨S1x64x128x2x8x64, .f32⟩
  | 58 => ⟨S1x64x128x2x8x64, .f32⟩
  | 59 => ⟨S2x8x1, .f32⟩
  | 60 => ⟨S1x1x1x2x8x1, .f32⟩
  | 61 => ⟨S1x64x128x2x8x64, .f32⟩
  | 62 => ⟨S1x64x128x2x8x64, .f32⟩
  | 63 => ⟨S1x64x128x2x8x64, .f32⟩
  | 64 => ⟨S1x8192x1024, .f32⟩
  | 65 => ⟨S1x8192x1024, .f32⟩
  | 66 => ⟨S1x8192x1024, .f32⟩
  | 67 => ⟨S_, .f32⟩
  | 68 => ⟨S1x8192x1024, .f32⟩
  | 69 => ⟨S1x8192x1024, .f32⟩
  | 70 => ⟨S_, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S_, .f32⟩
  | 77 => ⟨S1x8192, .f32⟩
  | 78 => ⟨S1x8192x1, .f32⟩
  | 79 => ⟨S_, .f32⟩
  | 80 => ⟨S1x8192x1, .f32⟩
  | 81 => ⟨S1x8192x1, .f32⟩
  | 82 => ⟨S_, .f32⟩
  | 83 => ⟨S1x8192x1, .f32⟩
  | 84 => ⟨S1x8192x1, .f32⟩
  | 85 => ⟨S1x8192x1, .f32⟩
  | 86 => ⟨S1x8192x1024, .f32⟩
  | 87 => ⟨S1x8192x1024, .f32⟩
  | 88 => ⟨S1x1x1024, .f32⟩
  | 89 => ⟨S1x8192x1024, .f32⟩
  | 90 => ⟨S1x8192x1024, .f32⟩
  | 91 => ⟨S64x2x8x64x128, .f32⟩
  | 92 => ⟨S64x2x128x8x64, .f32⟩
  | 93 => ⟨S64x2x128x512, .f32⟩
  | 94 => ⟨S8192x1024, .f32⟩
  | 95 => ⟨S8192x1024, .bf16⟩
  | 96 => ⟨S8192x1024, .f32⟩
  | 97 => ⟨S8192x1024, .bf16⟩
  | 98 => ⟨S8192x1536, .f32⟩
  | 99 => ⟨S8192x1536, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call2_call0_cst : Ref sig .tc := ⟨.hbm, 91, rfl⟩
abbrev main_call2_call0_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c : Ref sig .tc := ⟨.hbm, 97, rfl⟩
abbrev main_v63 : Ref sig .tc := ⟨.hbm, 98, rfl⟩
abbrev main_call3_v0 : Ref sig .tc := ⟨.hbm, 99, rfl⟩
abbrev main_call3_c : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_c_0 : Ref sig .tc := ⟨.hbm, 105, rfl⟩
abbrev main_call3_v5 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_1 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_2 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_3 : Ref sig .tc := ⟨.hbm, 143, rfl⟩
abbrev main_v95 : Ref sig .tc := ⟨.hbm, 144, rfl⟩
abbrev main_c_4 : Ref sig .tc := ⟨.hbm, 145, rfl⟩
abbrev main_v96_0 : Ref sig .tc := ⟨.hbm, 146, rfl⟩
abbrev main_v96_1 : Ref sig .tc := ⟨.hbm, 147, rfl⟩
abbrev main_v96_2 : Ref sig .tc := ⟨.hbm, 148, rfl⟩
abbrev main_v96_3 : Ref sig .tc := ⟨.hbm, 149, rfl⟩
abbrev main_v96_4 : Ref sig .tc := ⟨.hbm, 150, rfl⟩
abbrev main_while0c_c_12 : Ref sig .tc := ⟨.hbm, 151, rfl⟩
abbrev main_while0c_v136 : Ref sig .tc := ⟨.hbm, 152, rfl⟩
abbrev main_while0b_call5_c : Ref sig .tc := ⟨.hbm, 153, rfl⟩
abbrev main_while0b_call5_c_0 : Ref sig .tc := ⟨.hbm, 154, rfl⟩
abbrev main_while0b_call5_c_1 : Ref sig .tc := ⟨.hbm, 155, rfl⟩
abbrev main_while0b_call5_c_2 : Ref sig .tc := ⟨.hbm, 156, rfl⟩
abbrev main_while0b_call5_c_3 : Ref sig .tc := ⟨.hbm, 157, rfl⟩
abbrev main_while0b_call5_v0 : Ref sig .tc := ⟨.hbm, 158, rfl⟩
abbrev main_while0b_v136 : Ref sig .tc := ⟨.hbm, 159, rfl⟩
abbrev main_while0b_call6_c : Ref sig .tc := ⟨.hbm, 160, rfl⟩
abbrev main_while0b_call6_c_0 : Ref sig .tc := ⟨.hbm, 161, rfl⟩
abbrev main_while0b_call6_c_1 : Ref sig .tc := ⟨.hbm, 162, rfl⟩
abbrev main_while0b_call6_v0 : Ref sig .tc := ⟨.hbm, 163, rfl⟩
abbrev main_while0b_v137 : Ref sig .tc := ⟨.hbm, 164, rfl⟩
abbrev main_while0b_v138 : Ref sig .tc := ⟨.hbm, 165, rfl⟩
abbrev main_while0b_v139 : Ref sig .tc := ⟨.hbm, 166, rfl⟩
abbrev main_while0b_v140 : Ref sig .tc := ⟨.hbm, 167, rfl⟩
abbrev main_while0b_v141 : Ref sig .tc := ⟨.hbm, 168, rfl⟩
abbrev main_while0b_call7_v0 : Ref sig .tc := ⟨.hbm, 169, rfl⟩
abbrev main_while0b_call7_c : Ref sig .tc := ⟨.hbm, 170, rfl⟩
abbrev main_while0b_call7_c_0 : Ref sig .tc := ⟨.hbm, 171, rfl⟩
abbrev main_while0b_call7_c_1 : Ref sig .tc := ⟨.hbm, 172, rfl⟩
abbrev main_while0b_call7_c_2 : Ref sig .tc := ⟨.hbm, 173, rfl⟩
abbrev main_while0b_call7_c_3 : Ref sig .tc := ⟨.hbm, 174, rfl⟩
abbrev main_while0b_v142 : Ref sig .tc := ⟨.hbm, 175, rfl⟩
abbrev main_while0b_c_12 : Ref sig .tc := ⟨.hbm, 176, rfl⟩
abbrev main_while0b_v143 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_call8_v0 : Ref sig .tc := ⟨.hbm, 193, rfl⟩
abbrev main_call8_v1 : Ref sig .tc := ⟨.hbm, 194, rfl⟩
abbrev main_call8_cst : Ref sig .tc := ⟨.hbm, 195, rfl⟩
abbrev main_call8_v2 : Ref sig .tc := ⟨.hbm, 196, rfl⟩
abbrev main_call8_v3 : Ref sig .tc := ⟨.hbm, 197, rfl⟩
abbrev main_call8_cst_0 : Ref sig .tc := ⟨.hbm, 198, rfl⟩
abbrev main_call8_v4 : Ref sig .tc := ⟨.hbm, 199, rfl⟩
abbrev main_call8_v5 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_cst_5 : Ref sig .tc := ⟨.hbm, 204, rfl⟩
abbrev main_v115 : Ref sig .tc := ⟨.hbm, 205, rfl⟩
abbrev main_v116 : Ref sig .tc := ⟨.hbm, 206, rfl⟩
abbrev main_cst_6 : Ref sig .tc := ⟨.hbm, 207, rfl⟩
abbrev main_v117 : Ref sig .tc := ⟨.hbm, 208, rfl⟩
abbrev main_v118 : Ref sig .tc := ⟨.hbm, 209, rfl⟩
abbrev main_cst_7 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩

abbrev nD : Nat := 1
abbrev τ : Topo := Topo.v7x

variable {F : FTy → Type} [FloatOps F]

abbrev main_while0_count : Scf.Loop 32 := ⟨0#32, 64#32, 1#32⟩
-- ==== Kernel5.lean ====
abbrev S1x8192x2816 : Shape := ⟨3, ![1, 8192, 2816]⟩
abbrev S1x8192x1024 : Shape := ⟨3, ![1, 8192, 1024]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S3x2816 : Shape := ⟨2, ![3, 2816]⟩
abbrev S_ : Shape := ⟨0, ![]⟩
abbrev S8x2816 : Shape := ⟨2, ![8, 2816]⟩
abbrev S8192x2816 : Shape := ⟨2, ![8192, 2816]⟩
abbrev S8192x1024 : Shape := ⟨2, ![8192, 1024]⟩
abbrev S2816x1024 : Shape := ⟨2, ![2816, 1024]⟩
abbrev S8x128 : Shape := ⟨2, ![8, 128]⟩
abbrev S256x2816 : Shape := ⟨2, ![256, 2816]⟩
abbrev S256x1024 : Shape := ⟨2, ![256, 1024]⟩
abbrev S264x2816 : Shape := ⟨2, ![264, 2816]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩
abbrev S2816 : Shape := ⟨1, ![2816]⟩

abbrev nBuf : Space → Nat
  | .hbm => 28
  | .vmem => 26
  | .smem => 0
  | _ => 0

abbrev bufTy : (tb : Table) → Fin (tcTables nBuf tb) → BufTy
  | .hbm, ⟨0, _⟩ => ⟨S1x8192x2816, .f32⟩
  | .hbm, ⟨1, _⟩ => ⟨S1x8192x2816, .f32⟩
  | .hbm, ⟨2, _⟩ => ⟨S1x8192x1024, .f32⟩
  | .hbm, ⟨3, _⟩ => ⟨S1x8192x1024, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1x1024, .f32⟩
  | .hbm, ⟨8, _⟩ => ⟨S3x2816, .f32⟩
  | .hbm, ⟨9, _⟩ => ⟨S_, .i32⟩
  | .hbm, ⟨10, _⟩ => ⟨S_, .f32⟩
  | .hbm, ⟨11, _⟩ => ⟨S8x2816, .f32⟩
  | .hbm, ⟨12, _⟩ => ⟨S8192x2816, .f32⟩
  | .hbm, ⟨13, _⟩ => ⟨S8192x2816, .bf16⟩
  | .hbm, ⟨14, _⟩ => ⟨S8192x2816, .f32⟩
  | .hbm, ⟨15, _⟩ => ⟨S8192x2816, .bf16⟩
  | .hbm, ⟨16, _⟩ => ⟨S8192x1024, .f32⟩
  | .hbm, ⟨17, _⟩ => ⟨S8192x1024, .f32⟩
  | .hbm, ⟨18, _⟩ => ⟨S2816x1024, .f32⟩
  | .hbm, ⟨19, _⟩ => ⟨S2816x1024, .bf16⟩
  | .hbm, ⟨20, _⟩ => ⟨S8192x2816, .bf16⟩
  | .hbm, ⟨21, _⟩ => ⟨S8192x1024, .bf16⟩
  | .hbm, ⟨22, _⟩ => ⟨S8192x2816, .bf16⟩
  | .hbm, ⟨23, _⟩ => ⟨S8192x2816, .bf16⟩
  | .hbm, ⟨24, _⟩ => ⟨S8192x1024, .f32⟩
  | .hbm, ⟨25, _⟩ => ⟨S8x128, .f32⟩
  | .hbm, ⟨26, _⟩ => ⟨S1x1024, .f32⟩
  | .hbm, ⟨27, _⟩ => ⟨S1x2816, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S256x2816, .bf16⟩
  | .local _ .vmem, ⟨13, _⟩ => ⟨S256x2816, .bf16⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .f32⟩
  | .local _ .vmem, ⟨21, _⟩ => ⟨S256x1024, .f32⟩
  | .local _ .vmem, ⟨22, _⟩ => ⟨S8x128, .f32⟩
  | .local _ .vmem, ⟨23, _⟩ => ⟨S1x1024, .f32⟩
  | .local _ .vmem, ⟨24, _⟩ => ⟨S1x2816, .f32⟩
  | .local _ .vmem, ⟨25, _⟩ => ⟨S8x2816, .f32⟩
  | _, _ => ⟨S1x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference5Ideal.lean ====
abbrev S1x8192x2816 : Shape := ⟨3, ![1, 8192, 2816]⟩
abbrev S1x8192x1024 : Shape := ⟨3, ![1, 8192, 1024]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S_ : Shape := ⟨0, ![]⟩
abbrev S3x2816 : Shape := ⟨2, ![3, 2816]⟩
abbrev S2816 : Shape := ⟨1, ![2816]⟩
abbrev S1x2x2816 : Shape := ⟨3, ![1, 2, 2816]⟩
abbrev S1x8194x2816 : Shape := ⟨3, ![1, 8194, 2816]⟩
abbrev S1x1x2816 : Shape := ⟨3, ![1, 1, 2816]⟩
abbrev S2816x1024 : Shape := ⟨2, ![2816, 1024]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S8192x2816 : Shape := ⟨2, ![8192, 2816]⟩
abbrev S8192x1024 : Shape := ⟨2, ![8192, 1024]⟩
abbrev S8x128 : Shape := ⟨2, ![8, 128]⟩

abbrev nBuf : Space → Nat
  | .hbm => 157
  | .vmem => 0
  | .smem => 0
  | _ => 0

abbrev hbmTy0_0 (i : Nat) : BufTy := match i % 128 with
  | 0 => ⟨S1x8192x2816, .f32⟩
  | 1 => ⟨S1x8192x2816, .f32⟩
  | 2 => ⟨S1x8192x1024, .f32⟩
  | 3 => ⟨S1x8192x1024, .f32⟩
  | 4 => ⟨S1x3x2816, .f32⟩
  | 5 => ⟨S1x2816, .f32⟩
  | 6 => ⟨S1x2816x1024, .f32⟩
  | 7 => ⟨S1x1024, .f32⟩
  | 8 => ⟨S_, .f32⟩
  | 9 => ⟨S1x8192x2816, .f32⟩
  | 10 => ⟨S_, .f32⟩
  | 11 => ⟨S1x8192x1024, .f32⟩
  | 12 => ⟨S3x2816, .f32⟩
  | 13 => ⟨S2816, .f32⟩
  | 14 => ⟨S_, .f32⟩
  | 15 => ⟨S1x2x2816, .f32⟩
  | 16 => ⟨S1x8194x2816, .f32⟩
  | 17 => ⟨S1x2816, .f32⟩
  | 18 => ⟨S2816, .f32⟩
  | 19 => ⟨S1x8192x2816, .f32⟩
  | 20 => ⟨S1x1x2816, .f32⟩
  | 21 => ⟨S1x8192x2816, .f32⟩
  | 22 => ⟨S1x8192x2816, .f32⟩
  | 23 => ⟨S_, .f32⟩
  | 24 => ⟨S1x8192x2816, .f32⟩
  | 25 => ⟨S1x8192x2816, .f32⟩
  | 26 => ⟨S1x2816, .f32⟩
  | 27 => ⟨S2816, .f32⟩
  | 28 => ⟨S1x8192x2816, .f32⟩
  | 29 => ⟨S1x1x2816, .f32⟩
  | 30 => ⟨S1x8192x2816, .f32⟩
  | 31 => ⟨S1x8192x2816, .f32⟩
  | 32 => ⟨S1x8192x2816, .f32⟩
  | 33 => ⟨S1x2816, .f32⟩
  | 34 => ⟨S2816, .f32⟩
  | 35 => ⟨S1x8192x2816, .f32⟩
  | 36 => ⟨S1x1x2816, .f32⟩
  | 37 => ⟨S1x8192x2816, .f32⟩
  | 38 => ⟨S1x8192x2816, .f32⟩
  | 39 => ⟨S1x8192x2816, .f32⟩
  | 40 => ⟨S1x1x2816, .f32⟩
  | 41 => ⟨S1x8192x2816, .f32⟩
  | 42 => ⟨S1x8192x2816, .f32⟩
  | 43 => ⟨S1x8192x2816, .f32⟩
  | 44 => ⟨S1x8192x2816, .f32⟩
  | 45 => ⟨S1x8192x2816, .f32⟩
  | 46 => ⟨S_, .f32⟩
  | 47 => ⟨S1x8192x2816, .f32⟩
  | 48 => ⟨S1x8192x2816, .f32⟩
  | 49 => ⟨S_, .f32⟩
  | 50 => ⟨S1x8192x2816, .f32⟩
  | 51 => ⟨S1x8192x2816, .f32⟩
  | 52 => ⟨S_, .f32⟩
  | 53 => ⟨S1x8192x2816, .f32⟩
  | 54 => ⟨S1x8192x2816, .f32⟩
  | 55 => ⟨S1x8192x2816, .f32⟩
  | 56 => ⟨S1x8192x2816, .f32⟩
  | 57 => ⟨S1x8192x2816, .f32⟩
  | 58 => ⟨S2816x1024, .f32⟩
  | 59 => ⟨S1x8192x1024, .f32⟩
  | 60 => ⟨S1x8192x1024, .f32⟩
  | 61 => ⟨S1024, .f32⟩
  | 62 => ⟨S1x8192x1024, .f32⟩
  | 63 => ⟨S_, .f32⟩
  | 64 => ⟨S1x8192, .f32⟩
  | 65 => ⟨S1x8192x1, .f32⟩
  | 66 => ⟨S_, .f32⟩
  | 67 => ⟨S1x8192x1, .f32⟩
  | 68 => ⟨S1x8192x1, .f32⟩
  | 69 => ⟨S_, .f32⟩
  | 70 => ⟨S1x8192x1, .f32⟩
  | 71 => ⟨S1x8192x1, .f32⟩
  | 72 => ⟨S1x8192x1, .f32⟩
  | 73 => ⟨S1x8192x1, .f32⟩
  | 74 => ⟨S_, .f32⟩
  | 75 => ⟨S1x8192x1, .f32⟩
  | 76 => ⟨S1x8192x1, .f32⟩
  | 77 => ⟨S1x8192x1024, .f32⟩
  | 78 => ⟨S1x8192x1024, .f32⟩
  | 79 => ⟨S1x1x1024, .f32⟩
  | 80 => ⟨S1x8192x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S_, .f32⟩
  | 86 => ⟨S1x8192x1024, .f32⟩
  | 87 => ⟨S1x8192x1024, .f32⟩
  | 88 => ⟨S_, .f32⟩
  | 89 => ⟨S1x8192, .f32⟩
  | 90 => ⟨S_, .f32⟩
  | 91 => ⟨S1x8192, .f32⟩
  | 92 => ⟨S1x8192, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1x8192, .f32⟩
  | 101 => ⟨S_, .f32⟩
  | 102 => ⟨S1x8192, .f32⟩
  | 103 => ⟨S1x8192, .f32⟩
  | 104 => ⟨S1x8192x1024, .f32⟩
  | 105 => ⟨S1x8192x1024, .f32⟩
  | 106 => ⟨S1x8192x1024, .f32⟩
  | 107 => ⟨S_, .f32⟩
  | 108 => ⟨S1x1024, .f32⟩
  | 109 => ⟨S1x1x1024, .f32⟩
  | 110 => ⟨S1x8192x1024, .f32⟩
  | 111 => ⟨S1x8192x1024, .f32⟩
  | 112 => ⟨S_, .f32⟩
  | 113 => ⟨S1024, .f32⟩
  | 114 => ⟨S1x8192x1024, .f32⟩
  | 115 => ⟨S_, .f32⟩
  | 116 => ⟨S1x8192, .f32⟩
  | 117 => ⟨S1x8192x1, .f32⟩
  | 118 => ⟨S1x8192x1024, .f32⟩
  | 119 => ⟨S1x8192x1024, .f32⟩
  | 120 => ⟨S1x8192x1, .f32⟩
  | 121 => ⟨S_, .f32⟩
  | 122 => ⟨S1x8192x1, .f32⟩
  | 123 => ⟨S1x8192x1, .f32⟩
  | 124 => ⟨S_, .f32⟩
  | 125 => ⟨S8192, .f32⟩
  | 126 => ⟨S1x8192, .f32⟩
  | 127 => ⟨S1x8192x1024, .f32⟩
  | _ => ⟨S1x8192x2816, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S1x8192x1024, .f32⟩
  | 4 => ⟨S1x1024, .f32⟩
  | 5 => ⟨S1x8192x2816, .f32⟩
  | 6 => ⟨S1x8192x2816, .f32⟩
  | 7 => ⟨S1x8192x2816, .f32⟩
  | 8 => ⟨S1x8192x2816, .f32⟩
  | 9 => ⟨S1x8192x2816, .f32⟩
  | 10 => ⟨S1x8192x2816, .f32⟩
  | 11 => ⟨S1x8192x2816, .f32⟩
  | 12 => ⟨S_, .f32⟩
  | 13 => ⟨S2816, .f32⟩
  | 14 => ⟨S1x2816, .f32⟩
  | 15 => ⟨S1x1x2816, .f32⟩
  | 16 => ⟨S_, .f32⟩
  | 17 => ⟨S2816, .f32⟩
  | 18 => ⟨S1x2816, .f32⟩
  | 19 => ⟨S8192x2816, .f32⟩
  | 20 => ⟨S8192x2816, .bf16⟩
  | 21 => ⟨S8192x1024, .f32⟩
  | 22 => ⟨S8192x1024, .bf16⟩
  | 23 => ⟨S8192x2816, .f32⟩
  | 24 => ⟨S8192x2816, .bf16⟩
  | 25 => ⟨S8192x2816, .f32⟩
  | 26 => ⟨S8192x2816, .bf16⟩
  | 27 => ⟨S8192x1024, .f32⟩
  | 28 => ⟨S8x128, .f32⟩
  | _ => ⟨S1x8192x2816, .f32⟩

abbrev hbmTy (i : Nat) : BufTy := match i / 128 with
  | 0 => hbmTy0_0 i
  | 1 => hbmTy0_1 i
  | _ => ⟨S1x8192x2816, .f32⟩

abbrev bufTy : (tb : Table) → Fin (tcTables nBuf tb) → BufTy
  | .hbm, ⟨i, _⟩ => hbmTy i
  | _, _ => ⟨S1x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v32_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v32_1 : Ref sig .tc := ⟨.hbm, 55, rfl⟩
abbrev main_v32_0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_cst_12 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_15 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_16 : Ref sig .tc := ⟨.hbm, 112, rfl⟩
abbrev main_v75 : Ref sig .tc := ⟨.hbm, 113, rfl⟩
abbrev main_v76 : Ref sig .tc := ⟨.hbm, 114, rfl⟩
abbrev main_cst_17 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩

abbrev nD : Nat := 1
abbrev τ : Topo := Topo.v7x

variable {F : FTy → Type} [FloatOps F]
-- ==== Kernel6.lean ====
abbrev S1x8192x1024 : Shape := ⟨3, ![1, 8192, 1024]⟩
abbrev S1x2048x1024 : Shape := ⟨3, ![1, 2048, 1024]⟩
abbrev S1x1024 : Shape := ⟨2, ![1, 1024]⟩
abbrev S1x1024x5632 : Shape := ⟨3, ![1, 1024, 5632]⟩
abbrev S1024x5632 : Shape := ⟨2, ![1024, 5632]⟩
abbrev S5632x1024 : Shape := ⟨2, ![5632, 1024]⟩
abbrev S8192x1024 : Shape := ⟨2, ![8192, 1024]⟩
abbrev S2048x1024 : Shape := ⟨2, ![2048, 1024]⟩
abbrev S8192x2816 : Shape := ⟨2, ![8192, 2816]⟩
abbrev S512x1024 : Shape := ⟨2, ![512, 1024]⟩
abbrev S512x2816 : Shape := ⟨2, ![512, 2816]⟩
abbrev S1024x1024 : Shape := ⟨2, ![1024, 1024]⟩
abbrev S512 : Shape := ⟨1, ![512]⟩
abbrev S512x1 : Shape := ⟨2, ![512, 1]⟩
abbrev S2816x1024 : Shape := ⟨2, ![2816, 1024]⟩

abbrev nBuf : Space → Nat
  | .hbm => 22
  | .vmem => 20
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x2048x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S2048x1024, .f32⟩
  | .hbm, ⟨16, _⟩ => ⟨S2048x1024, .bf16⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x2816, .bf16⟩
  | .hbm, ⟨21, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S5632x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5632x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S1x8192x1024 : Shape := ⟨3, ![1, 8192, 1024]⟩
abbrev S1x2048x1024 : Shape := ⟨3, ![1, 2048, 1024]⟩
abbrev S1x1024 : Shape := ⟨2, ![1, 1024]⟩
abbrev S1x1024x5632 : Shape := ⟨3, ![1, 1024, 5632]⟩
abbrev S1x8192x2048 : Shape := ⟨3, ![1, 8192, 2048]⟩
abbrev S2048x1024 : Shape := ⟨2, ![2048, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S8192x1024 : Shape := ⟨2, ![8192, 1024]⟩
abbrev S8192x2816 : Shape := ⟨2, ![8192, 2816]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x2048x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x8192x2048, .f32⟩
  | .hbm, ⟨8, _⟩ => ⟨S2048x1024, .f32⟩
  | .hbm, ⟨9, _⟩ => ⟨S1x8192x1024, .f32⟩
  | .hbm, ⟨10, _⟩ => ⟨S1024, .f32⟩
  | .hbm, ⟨11, _⟩ => ⟨S1x8192x1024, .f32⟩
  | .hbm, ⟨12, _⟩ => ⟨S_, .f32⟩
  | .hbm, ⟨13, _⟩ => ⟨S1x8192, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S1024, .f32⟩
  | .hbm, ⟨29, _⟩ => ⟨S1x8192x1024, .f32⟩
  | .hbm, ⟨30, _⟩ => ⟨S_, .f32⟩
  | .hbm, ⟨31, _⟩ => ⟨S1x8192, .f32⟩
  | .hbm, ⟨32, _⟩ => ⟨S1x8192x1, .f32⟩
  | .hbm, ⟨33, _⟩ => ⟨S_, .f32⟩
  | .hbm, ⟨34, _⟩ => ⟨S1x8192x1, .f32⟩
  | .hbm, ⟨35, _⟩ => ⟨S1x8192x1, .f32⟩
  | .hbm, ⟨36, _⟩ => ⟨S_, .f32⟩
  | .hbm, ⟨37, _⟩ => ⟨S1x8192x1, .f32⟩
  | .hbm, ⟨38, _⟩ => ⟨S1x8192x1, .f32⟩
  | .hbm, ⟨39, _⟩ => ⟨S1x8192x1, .f32⟩
  | .hbm, ⟨40, _⟩ => ⟨S1x8192x1024, .f32⟩
  | .hbm, ⟨41, _⟩ => ⟨S1x8192x1024, .f32⟩
  | .hbm, ⟨42, _⟩ => ⟨S1x1x1024, .f32⟩
  | .hbm, ⟨43, _⟩ => ⟨S1x8192x1024, .f32⟩
  | .hbm, ⟨44, _⟩ => ⟨S1x8192x1024, .f32⟩
  | .hbm, ⟨45, _⟩ => ⟨S1024x5632, .f32⟩
  | .hbm, ⟨46, _⟩ => ⟨S1x8192x5632, .f32⟩
  | .hbm, ⟨47, _⟩ => ⟨S1x8192x2816, .f32⟩
  | .hbm, ⟨48, _⟩ => ⟨S1x8192x2816, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S8192x2816, .f32⟩
  | .hbm, ⟨54, _⟩ => ⟨S8192x2816, .bf16⟩
  | .hbm, ⟨55, _⟩ => ⟨S8192x2816, .f32⟩
  | .hbm, ⟨56, _⟩ => ⟨S8192x2816, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel7.lean ====
abbrev S1x8192x1024 : Shape := ⟨3, ![1, 8192, 1024]⟩
abbrev S1x1024 : Shape := ⟨2, ![1, 1024]⟩
abbrev S1x1024x5648 : Shape := ⟨3, ![1, 1024, 5648]⟩
abbrev S1024x5648 : Shape := ⟨2, ![1024, 5648]⟩
abbrev S5648x1024 : Shape := ⟨2, ![5648, 1024]⟩
abbrev S16x1024 : Shape := ⟨2, ![16, 1024]⟩
abbrev S_ : Shape := ⟨0, ![]⟩
abbrev S128x1024 : Shape := ⟨2, ![128, 1024]⟩
abbrev S8192x1024 : Shape := ⟨2, ![8192, 1024]⟩
abbrev S8192x1536 : Shape := ⟨2, ![8192, 1536]⟩
abbrev S8192x512 : Shape := ⟨2, ![8192, 512]⟩
abbrev S8192x128 : Shape := ⟨2, ![8192, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1536x1024 : Shape := ⟨2, ![1536, 1024]⟩

abbrev nBuf : Space → Nat
  | .hbm => 19
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5648, .f32⟩
  | .hbm, ⟨3, _⟩ => ⟨S1024x5648, .f32⟩
  | .hbm, ⟨4, _⟩ => ⟨S5648x1024, .f32⟩
  | .hbm, ⟨5, _⟩ => ⟨S5648x1024, .bf16⟩
  | .hbm, ⟨6, _⟩ => ⟨S16x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1536, .bf16⟩
  | .hbm, ⟨14, _⟩ => ⟨S8192x512, .bf16⟩
  | .hbm, ⟨15, _⟩ => ⟨S8192x512, .bf16⟩
  | .hbm, ⟨16, _⟩ => ⟨S8192x1024, .bf16⟩
  | .hbm, ⟨17, _⟩ => ⟨S8192x1024, .bf16⟩
  | .hbm, ⟨18, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5648x1024, .bf16⟩
  | .local _ .vmem, ⟨4, _⟩ => ⟨S128x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1536, .bf16⟩
  | .local _ .vmem, ⟨10, _⟩ => ⟨S512x1536, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x128, .f32⟩
  | .local _ .vmem, ⟨20, _⟩ => ⟨S512x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev main_v6_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5648x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S1x8192x1024 : Shape := ⟨3, ![1, 8192, 1024]⟩
abbrev S1x1024 : Shape := ⟨2, ![1, 1024]⟩
abbrev S1x1024x5648 : Shape := ⟨3, ![1, 1024, 5648]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5648 : Shape := ⟨2, ![1024, 5648]⟩
abbrev S1x8192x5648 : Shape := ⟨3, ![1, 8192, 5648]⟩
abbrev S1x8192x1536 : Shape := ⟨3, ![1, 8192, 1536]⟩
abbrev S1x8192x16 : Shape := ⟨3, ![1, 8192, 16]⟩
abbrev S1x8192x512 : Shape := ⟨3, ![1, 8192, 512]⟩
abbrev S8192x1024 : Shape := ⟨2, ![8192, 1024]⟩
abbrev S8192x1536 : Shape := ⟨2, ![8192, 1536]⟩
abbrev S8192x512 : Shape := ⟨2, ![8192, 512]⟩
abbrev S8192x16 : Shape := ⟨2, ![8192, 16]⟩
abbrev S8192x128 : Shape := ⟨2, ![8192, 128]⟩

abbrev nBuf : Space → Nat
  | .hbm => 47
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5648, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1024x5648, .f32⟩
  | .hbm, ⟨21, _⟩ => ⟨S1x8192x5648, .f32⟩
  | .hbm, ⟨22, _⟩ => ⟨S1x8192x1024, .f32⟩
  | .hbm, ⟨23, _⟩ => ⟨S1x8192x1536, .f32⟩
  | .hbm, ⟨24, _⟩ => ⟨S1x8192x16, .f32⟩
  | .hbm, ⟨25, _⟩ => ⟨S1x8192x512, .f32⟩
  | .hbm, ⟨26, _⟩ => ⟨S1x8192x512, .f32⟩
  | .hbm, ⟨27, _⟩ => ⟨S1x8192x1024, .f32⟩
  | .hbm, ⟨28, _⟩ => ⟨S1x8192x1024, .f32⟩
  | .hbm, ⟨29, _⟩ => ⟨S8192x1024, .f32⟩
  | .hbm, ⟨30, _⟩ => ⟨S8192x1024, .bf16⟩
  | .hbm, ⟨31, _⟩ => ⟨S8192x1024, .f32⟩
  | .hbm, ⟨32, _⟩ => ⟨S8192x1024, .bf16⟩
  | .hbm, ⟨33, _⟩ => ⟨S8192x1536, .f32⟩
  | .hbm, ⟨34, _⟩ => ⟨S8192x1536, .bf16⟩
  | .hbm, ⟨35, _⟩ => ⟨S8192x512, .f32⟩
  | .hbm, ⟨36, _⟩ => ⟨S8192x512, .bf16⟩
  | .hbm, ⟨37, _⟩ => ⟨S8192x512, .f32⟩
  | .hbm, ⟨38, _⟩ => ⟨S8192x512, .bf16⟩
  | .hbm, ⟨39, _⟩ => ⟨S8192x1024, .f32⟩
  | .hbm, ⟨40, _⟩ => ⟨S8192x1024, .bf16⟩
  | .hbm, ⟨41, _⟩ => ⟨S8192x1024, .f32⟩
  | .hbm, ⟨42, _⟩ => ⟨S8192x1024, .bf16⟩
  | .hbm, ⟨43, _⟩ => ⟨S8192x16, .f32⟩
  | .hbm, ⟨44, _⟩ => ⟨S_, .i32⟩
  | .hbm, ⟨45, _⟩ => ⟨S_, .f32⟩
  | .hbm, ⟨46, _⟩ => ⟨S8192x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c : Ref sig .tc := ⟨.hbm, 44, rfl⟩
abbrev main_call0_v0 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel8.lean ====
abbrev S1x8192x2816 : Shape := ⟨3, ![1, 8192, 2816]⟩
abbrev S1x8192x1024 : Shape := ⟨3, ![1, 8192, 1024]⟩
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x8192x2816, .f32⟩
  | .hbm, ⟨1, _⟩ => ⟨S1x8192x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S8192x1024, .bf16⟩
  | .hbm, ⟨6, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S1x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1x8192x2816 : Shape := ⟨3, ![1, 8192, 2816]⟩
abbrev S1x8192x1024 : Shape := ⟨3, ![1, 8192, 1024]⟩
abbrev S_ : Shape := ⟨0, ![]⟩
abbrev S2816x1024 : Shape := ⟨2, ![2816, 1024]⟩
abbrev S8192x2816 : Shape := ⟨2, ![8192, 2816]⟩
abbrev S8192x1024 : Shape := ⟨2, ![8192, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S1x8192x2816, .f32⟩
  | .hbm, ⟨1, _⟩ => ⟨S1x8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S1x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S1x8192x1024 : Shape := ⟨3, ![1, 8192, 1024]⟩
abbrev S8192x1024 : Shape := ⟨2, ![8192, 1024]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S1024x1024, .bf16⟩
  | .hbm, ⟨10, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference9Ideal.lean ====
abbrev S1x8192x1024 : Shape := ⟨3, ![1, 8192, 1024]⟩
abbrev S_ : Shape := ⟨0, ![]⟩
abbrev S2048x1024 : Shape := ⟨2, ![2048, 1024]⟩
abbrev S1x8192x2048 : Shape := ⟨3, ![1, 8192, 2048]⟩
abbrev S8192x2048 : Shape := ⟨2, ![8192, 2048]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S_, .f32⟩
  | .hbm, ⟨4, _⟩ => ⟨S2048x1024, .f32⟩
  | .hbm, ⟨5, _⟩ => ⟨S1x8192x2048, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S1024x2048, .f32⟩
  | .hbm, ⟨10, _⟩ => ⟨S2048x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel10.lean ====
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference10Ideal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S_, .f32⟩
  | .hbm, ⟨5, _⟩ => ⟨S352x1024, .f32⟩
  | .hbm, ⟨6, _⟩ => ⟨S1x352x1024, .f32⟩
  | .hbm, ⟨7, _⟩ => ⟨S_, .f32⟩
  | .hbm, ⟨8, _⟩ => ⟨S1x352x1024, .f32⟩
  | .hbm, ⟨9, _⟩ => ⟨S1x352x1024, .f32⟩
  | .hbm, ⟨10, _⟩ => ⟨S_, .f32⟩
  | .hbm, ⟨11, _⟩ => ⟨S1x352x1024, .f32⟩
  | .hbm, ⟨12, _⟩ => ⟨S1x352x1024, .f32⟩
  | .hbm, ⟨13, _⟩ => ⟨S1x352x1024, .f32⟩
  | .hbm, ⟨14, _⟩ => ⟨S_, .f32⟩
  | .hbm, ⟨15, _⟩ => ⟨S1x352x1024, .f32⟩
  | .hbm, ⟨16, _⟩ => ⟨S1x352x1024, .f32⟩
  | .hbm, ⟨17, _⟩ => ⟨S1x352x1024, .f32⟩
  | .hbm, ⟨18, _⟩ => ⟨S_, .f32⟩
  | .hbm, ⟨19, _⟩ => ⟨S1x352x1024, .f32⟩
  | .hbm, ⟨20, _⟩ => ⟨S1x352x1024, .f32⟩
  | .hbm, ⟨21, _⟩ => ⟨S1x352x1024, .f32⟩
  | .hbm, ⟨22, _⟩ => ⟨S_, .f32⟩
  | .hbm, ⟨23, _⟩ => ⟨S1x352x1024, .f32⟩
  | .hbm, ⟨24, _⟩ => ⟨S1x352x1024, .f32⟩
  | .hbm, ⟨25, _⟩ => ⟨S_, .f32⟩
  | .hbm, ⟨26, _⟩ => ⟨S1x352x1024, .f32⟩
  | .hbm, ⟨27, _⟩ => ⟨S1x352x1024, .f32⟩
  | .hbm, ⟨28, _⟩ => ⟨S1x352x1024, .f32⟩
  | .hbm, ⟨29, _⟩ => ⟨S_, .f32⟩
  | .hbm, ⟨30, _⟩ => ⟨S1x352x1024, .f32⟩
  | .hbm, ⟨31, _⟩ => ⟨S1x352x1024, .f32⟩
  | .hbm, ⟨32, _⟩ => ⟨S1x352x1024, .f32⟩
  | .hbm, ⟨33, _⟩ => ⟨S_, .f32⟩
  | .hbm, ⟨34, _⟩ => ⟨S1x352x1024, .f32⟩
  | .hbm, ⟨35, _⟩ => ⟨S1x352x1024, .f32⟩
  | .hbm, ⟨36, _⟩ => ⟨S1x352x1024, .f32⟩
  | .hbm, ⟨37, _⟩ => ⟨S_, .f32⟩
  | .hbm, ⟨38, _⟩ => ⟨S1x352x1024, .f32⟩
  | .hbm, ⟨39, _⟩ => ⟨S1x352x1024, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel11.lean ====
abbrev S8x200x128 : Shape := ⟨3, ![8, 200, 128]⟩
abbrev S200x128 : Shape := ⟨2, ![200, 128]⟩
abbrev S1x200x128 : Shape := ⟨3, ![1, 200, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x200x128, .f32⟩
  | .hbm, ⟨1, _⟩ => ⟨S200x128, .f32⟩
  | .local _ .vmem, ⟨0, _⟩ => ⟨S8x200x128, .f32⟩
  | .local _ .vmem, ⟨1, _⟩ => ⟨S200x128, .f32⟩
  | _, _ => ⟨S8x200x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference11Ideal.lean ====
abbrev S8x200x128 : Shape := ⟨3, ![8, 200, 128]⟩
abbrev S_ : Shape := ⟨0, ![]⟩
abbrev S200x128 : Shape := ⟨2, ![200, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x200x128, .f32⟩
  | .hbm, ⟨1, _⟩ => ⟨S_, .f32⟩
  | .hbm, ⟨2, _⟩ => ⟨S200x128, .f32⟩
  | _, _ => ⟨S8x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.InOut.lean ====
module

public import proofs.«01_k».proof.Defs
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.In

open Cert.KernelIdeal Cert.KernelIdeal.Gen

variable {F : FTy → Type} [FloatOps F]

theorem hz : (![0, 0] : Fin 2 → Nat) = fun _ => 0 := funext fun a => by fin_cases a <;> rfl

/-- The gradient with respect to the normed rows, one block of 512 rows: the products of the cotangents with their rows
    of the transposed projection, added in the kernel's order. -/
def DH (x0 : Vec F S512x1024 .bf16) (x1 : Vec F S512x1536 .bf16) (x2 : Vec F S512x512 .bf16) (x3 : Vec F S512x512 .bf16) (x4 : Vec F S512x1024 .bf16) (x5 : Vec F S512x1024 .bf16) (x6 : Vec F S512x128 .bf16) (x10 : Vec F S5648x1024 .bf16) (x11 : Vec F S128x1024 .bf16) : FVec F S512x1024 .f32 :=
  k0_pay6 (k0_pay4 x6 x11 x0 (View.ld x10 (Rect.unit (s := S5648x1024) ![0, 0] S1024x1024.size inb_S5648x1024_S1024x1024_0_0)) x1 (View.ld x10 (Rect.unit (s := S5648x1024) ![1024, 0] S1536x1024.size inb_S5648x1024_S1536x1024_1024_0)) x2 (View.ld x10 (Rect.unit (s := S5648x1024) ![2576, 0] S512x1024.size inb_S5648x1024_S512x1024_2576_0))) (k0_pay5 x3 (View.ld x10 (Rect.unit (s := S5648x1024) ![3088, 0] S512x1024.size inb_S5648x1024_S512x1024_3088_0))) x4 (View.ld x10 (Rect.unit (s := S5648x1024) ![3600, 0] S1024x1024.size inb_S5648x1024_S1024x1024_3600_0)) x5 (View.ld x10 (Rect.unit (s := S5648x1024) ![4624, 0] S1024x1024.size inb_S5648x1024_S1024x1024_4624_0))

/-- The gradient of the norm with respect to its argument, one block. -/
def DX (x0 : Vec F S512x1024 .bf16) (x1 : Vec F S512x1536 .bf16) (x2 : Vec F S512x512 .bf16) (x3 : Vec F S512x512 .bf16) (x4 : Vec F S512x1024 .bf16) (x5 : Vec F S512x1024 .bf16) (x6 : Vec F S512x128 .bf16) (x7 : Vec F S512x1024 .f32) (x9 : Vec F S1x1024 .f32) (x10 : Vec F S5648x1024 .bf16) (x11 : Vec F S128x1024 .bf16) : FVec F S512x1024 .f32 :=
  k0_pay9 (k0_pay4 x6 x11 x0 (View.ld x10 (Rect.unit (s := S5648x1024) ![0, 0] S1024x1024.size inb_S5648x1024_S1024x1024_0_0)) x1 (View.ld x10 (Rect.unit (s := S5648x1024) ![1024, 0] S1536x1024.size inb_S5648x1024_S1536x1024_1024_0)) x2 (View.ld x10 (Rect.unit (s := S5648x1024) ![2576, 0] S512x1024.size inb_S5648x1024_S512x1024_2576_0))) (k0_pay5 x3 (View.ld x10 (Rect.unit (s := S5648x1024) ![3088, 0] S512x1024.size inb_S5648x1024_S512x1024_3088_0))) x4 (View.ld x10 (Rect.unit (s := S5648x1024) ![3600, 0] S1024x1024.size inb_S5648x1024_S1024x1024_3600_0)) x5 (View.ld x10 (Rect.unit (s := S5648x1024) ![4624, 0] S1024x1024.size inb_S5648x1024_S1024x1024_4624_0)) x7 x9

/-- The same block's product of the gradient with the rows, before the scale and the sum over rows. -/
def DHX (x0 : Vec F S512x1024 .bf16) (x1 : Vec F S512x1536 .bf16) (x2 : Vec F S512x512 .bf16) (x3 : Vec F S512x512 .bf16) (x4 : Vec F S512x1024 .bf16) (x5 : Vec F S512x1024 .bf16) (x6 : Vec F S512x128 .bf16) (x7 : Vec F S512x1024 .f32) (x10 : Vec F S5648x1024 .bf16) (x11 : Vec F S128x1024 .bf16) : FVec F S512x1024 .f32 :=
  k0_pay10 (k0_pay4 x6 x11 x0 (View.ld x10 (Rect.unit (s := S5648x1024) ![0, 0] S1024x1024.size inb_S5648x1024_S1024x1024_0_0)) x1 (View.ld x10 (Rect.unit (s := S5648x1024) ![1024, 0] S1536x1024.size inb_S5648x1024_S1536x1024_1024_0)) x2 (View.ld x10 (Rect.unit (s := S5648x1024) ![2576, 0] S512x1024.size inb_S5648x1024_S512x1024_2576_0))) (k0_pay5 x3 (View.ld x10 (Rect.unit (s := S5648x1024) ![3088, 0] S512x1024.size inb_S5648x1024_S512x1024_3088_0))) x4 (View.ld x10 (Rect.unit (s := S5648x1024) ![3600, 0] S1024x1024.size inb_S5648x1024_S1024x1024_3600_0)) x5 (View.ld x10 (Rect.unit (s := S5648x1024) ![4624, 0] S1024x1024.size inb_S5648x1024_S1024x1024_4624_0)) x7

theorem out_A12 (c : Dev nD) (i : grid0.Coords) (a1 : Memref sig .tc .vmem S512x1024 .bf16) (h1 : a1.IsWhole) (a2 : Memref sig .tc .vmem S512x1536 .bf16) (h2 : a2.IsWhole) (a3 : Memref sig .tc .vmem S512x512 .bf16) (h3 : a3.IsWhole) (a4 : Memref sig .tc .vmem S512x512 .bf16) (h4 : a4.IsWhole) (a5 : Memref sig .tc .vmem S512x1024 .bf16) (h5 : a5.IsWhole) (a6 : Memref sig .tc .vmem S512x1024 .bf16) (h6 : a6.IsWhole) (a7 : Memref sig .tc .vmem S512x128 .bf16) (h7 : a7.IsWhole) (a8 : Memref sig .tc .vmem S512x1024 .f32) (h8 : a8.IsWhole) (a9 : Memref sig .tc .vmem S512x1024 .f32) (h9 : a9.IsWhole) (a10 : Memref sig .tc .vmem S1x1024 .f32) (h10 : a10.IsWhole) (a11 : Memref sig .tc .vmem S5648x1024 .bf16) (h11 : a11.IsWhole) (a12 : Memref sig .tc .vmem S128x1024 .bf16) (h12 : a12.IsWhole) (a13 : Memref sig .tc .vmem S512x1024 .f32) (h13 : a13.IsWhole) (a14 : Memref sig .tc .vmem S1x1024 .f32) (h14 : a14.IsWhole) (hc : cond0_0 i)
    (x0 : Vec F S512x1024 .bf16) (x1 : Vec F S512x1536 .bf16) (x2 : Vec F S512x512 .bf16) (x3 : Vec F S512x512 .bf16) (x4 : Vec F S512x1024 .bf16) (x5 : Vec F S512x1024 .bf16) (x6 : Vec F S512x128 .bf16) (x7 : Vec F S512x1024 .f32) (x8 : Vec F S512x1024 .f32) (x9 : Vec F S1x1024 .f32) (x10 : Vec F S5648x1024 .bf16) (x11 : Vec F S128x1024 .bf16) :
    out0_A_12 c i a1 h1 a2 h2 a3 h3 a4 h4 a5 h5 a6 h6 a7 h7 a8 h8 a9 h9 a10 h10 a11 h11 a12 h12 a13 h13 a14 h14 hc x0 x1 x2 x3 x4 x5 x6 x7 x8 x9 x10 x11
      = k0_pay2 (DX x0 x1 x2 x3 x4 x5 x6 x7 x9 x10 x11) x8 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6 x7 x8 x9 x10 x11)]
  unfold kernelRun0_A
  dsimp only
  sl_unfold_words
  rw [View.canon_unit_zero (S := S512x1024) hz]
  simp only [View.readAt_eq_ld, Memref.IsWhole.read_unread, View.ld_unit_zero (S := S512x1024) hz, View.ld_unit_zero (S := S1x1024) hz, View.ld_unit_zero (S := S512x128) hz, View.ld_unit_zero (S := S512x1536) hz, View.ld_unit_zero (S := S512x512) hz, View.ld_unit_zero (S := S128x1024) hz]
  rfl

theorem out_A13 (c : Dev nD) (i : grid0.Coords) (a1 : Memref sig .tc .vmem S512x1024 .bf16) (h1 : a1.IsWhole) (a2 : Memref sig .tc .vmem S512x1536 .bf16) (h2 : a2.IsWhole) (a3 : Memref sig .tc .vmem S512x512 .bf16) (h3 : a3.IsWhole) (a4 : Memref sig .tc .vmem S512x512 .bf16) (h4 : a4.IsWhole) (a5 : Memref sig .tc .vmem S512x1024 .bf16) (h5 : a5.IsWhole) (a6 : Memref sig .tc .vmem S512x1024 .bf16) (h6 : a6.IsWhole) (a7 : Memref sig .tc .vmem S512x128 .bf16) (h7 : a7.IsWhole) (a8 : Memref sig .tc .vmem S512x1024 .f32) (h8 : a8.IsWhole) (a9 : Memref sig .tc .vmem S512x1024 .f32) (h9 : a9.IsWhole) (a10 : Memref sig .tc .vmem S1x1024 .f32) (h10 : a10.IsWhole) (a11 : Memref sig .tc .vmem S5648x1024 .bf16) (h11 : a11.IsWhole) (a12 : Memref sig .tc .vmem S128x1024 .bf16) (h12 : a12.IsWhole) (a13 : Memref sig .tc .vmem S512x1024 .f32) (h13 : a13.IsWhole) (a14 : Memref sig .tc .vmem S1x1024 .f32) (h14 : a14.IsWhole) (hc : cond0_0 i)
    (x0 : Vec F S512x1024 .bf16) (x1 : Vec F S512x1536 .bf16) (x2 : Vec F S512x512 .bf16) (x3 : Vec F S512x512 .bf16) (x4 : Vec F S512x1024 .bf16) (x5 : Vec F S512x1024 .bf16) (x6 : Vec F S512x128 .bf16) (x7 : Vec F S512x1024 .f32) (x8 : Vec F S512x1024 .f32) (x9 : Vec F S1x1024 .f32) (x10 : Vec F S5648x1024 .bf16) (x11 : Vec F S128x1024 .bf16) :
    out0_A_13 c i a1 h1 a2 h2 a3 h3 a4 h4 a5 h5 a6 h6 a7 h7 a8 h8 a9 h9 a10 h10 a11 h11 a12 h12 a13 h13 a14 h14 hc x0 x1 x2 x3 x4 x5 x6 x7 x8 x9 x10 x11
      = k0_pay1 (k0_pay8 x7) (DHX x0 x1 x2 x3 x4 x5 x6 x7 x10 x11) k0_pay3 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc x0 x1 x2 x3 x4 x5 x6 x7 x8 x9 x10 x11)]
  unfold kernelRun0_A
  dsimp only
  sl_unfold_words
  rw [View.canon_cons_unit_zero (S := S1x1024) hz]
  simp only [View.readCov_unit_zero (S := S1x1024) _ hz, View.readAt_eq_ld, Memref.IsWhole.read_unread, View.ld_unit_zero (S := S512x1024) hz, View.ld_unit_zero (S := S1x1024) hz, View.ld_unit_zero (S := S512x128) hz, View.ld_unit_zero (S := S512x1536) hz, View.ld_unit_zero (S := S512x512) hz, View.ld_unit_zero (S := S128x1024) hz]
  rfl

theorem out_B12 (c : Dev nD) (i : grid0.Coords) (a1 : Memref sig .tc .vmem S512x1024 .bf16) (h1 : a1.IsWhole) (a2 : Memref sig .tc .vmem S512x1536 .bf16) (h2 : a2.IsWhole) (a3 : Memref sig .tc .vmem S512x512 .bf16) (h3 : a3.IsWhole) (a4 : Memref sig .tc .vmem S512x512 .bf16) (h4 : a4.IsWhole) (a5 : Memref sig .tc .vmem S512x1024 .bf16) (h5 : a5.IsWhole) (a6 : Memref sig .tc .vmem S512x1024 .bf16) (h6 : a6.IsWhole) (a7 : Memref sig .tc .vmem S512x128 .bf16) (h7 : a7.IsWhole) (a8 : Memref sig .tc .vmem S512x1024 .f32) (h8 : a8.IsWhole) (a9 : Memref sig .tc .vmem S512x1024 .f32) (h9 : a9.IsWhole) (a10 : Memref sig .tc .vmem S1x1024 .f32) (h10 : a10.IsWhole) (a11 : Memref sig .tc .vmem S5648x1024 .bf16) (h11 : a11.IsWhole) (a12 : Memref sig .tc .vmem S128x1024 .bf16) (h12 : a12.IsWhole) (a13 : Memref sig .tc .vmem S512x1024 .f32) (h13 : a13.IsWhole) (a14 : Memref sig .tc .vmem S1x1024 .f32) (h14 : a14.IsWhole) (hc : ¬cond0_0 i)
    (x0 : Vec F S512x1024 .bf16) (x1 : Vec F S512x1536 .bf16) (x2 : Vec F S512x512 .bf16) (x3 : Vec F S512x512 .bf16) (x4 : Vec F S512x1024 .bf16) (x5 : Vec F S512x1024 .bf16) (x6 : Vec F S512x128 .bf16) (x7 : Vec F S512x1024 .f32) (x8 : Vec F S512x1024 .f32) (x9 : Vec F S1x1024 .f32) (x10 : Vec F S5648x1024 .bf16) (x11 : Vec F S128x1024 .bf16) (xo : Vec F S1x1024 .f32) :
    out0_B_12 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 xo
      = k0_pay2 (DX x0 x1 x2 x3 x4 x5 x6 x7 x9 x10 x11) x8 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 xo)]
  unfold kernelRun0_B
  dsimp only
  sl_unfold_words
  rw [View.canon_unit_zero (S := S512x1024) hz]
  simp only [View.readAt_eq_ld, Memref.IsWhole.read_unread, View.ld_unit_zero (S := S512x1024) hz, View.ld_unit_zero (S := S1x1024) hz, View.ld_unit_zero (S := S512x128) hz, View.ld_unit_zero (S := S512x1536) hz, View.ld_unit_zero (S := S512x512) hz, View.ld_unit_zero (S := S128x1024) hz]
  rfl

theorem out_B13 (c : Dev nD) (i : grid0.Coords) (a1 : Memref sig .tc .vmem S512x1024 .bf16) (h1 : a1.IsWhole) (a2 : Memref sig .tc .vmem S512x1536 .bf16) (h2 : a2.IsWhole) (a3 : Memref sig .tc .vmem S512x512 .bf16) (h3 : a3.IsWhole) (a4 : Memref sig .tc .vmem S512x512 .bf16) (h4 : a4.IsWhole) (a5 : Memref sig .tc .vmem S512x1024 .bf16) (h5 : a5.IsWhole) (a6 : Memref sig .tc .vmem S512x1024 .bf16) (h6 : a6.IsWhole) (a7 : Memref sig .tc .vmem S512x128 .bf16) (h7 : a7.IsWhole) (a8 : Memref sig .tc .vmem S512x1024 .f32) (h8 : a8.IsWhole) (a9 : Memref sig .tc .vmem S512x1024 .f32) (h9 : a9.IsWhole) (a10 : Memref sig .tc .vmem S1x1024 .f32) (h10 : a10.IsWhole) (a11 : Memref sig .tc .vmem S5648x1024 .bf16) (h11 : a11.IsWhole) (a12 : Memref sig .tc .vmem S128x1024 .bf16) (h12 : a12.IsWhole) (a13 : Memref sig .tc .vmem S512x1024 .f32) (h13 : a13.IsWhole) (a14 : Memref sig .tc .vmem S1x1024 .f32) (h14 : a14.IsWhole) (hc : ¬cond0_0 i)
    (x0 : Vec F S512x1024 .bf16) (x1 : Vec F S512x1536 .bf16) (x2 : Vec F S512x512 .bf16) (x3 : Vec F S512x512 .bf16) (x4 : Vec F S512x1024 .bf16) (x5 : Vec F S512x1024 .bf16) (x6 : Vec F S512x128 .bf16) (x7 : Vec F S512x1024 .f32) (x8 : Vec F S512x1024 .f32) (x9 : Vec F S1x1024 .f32) (x10 : Vec F S5648x1024 .bf16) (x11 : Vec F S128x1024 .bf16) (xo : Vec F S1x1024 .f32) :
    out0_B_13 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 xo
      = k0_pay1 (k0_pay8 x7) (DHX x0 x1 x2 x3 x4 x5 x6 x7 x10 x11) xo := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc x0 x1 x2 x3 x4 x5 x6 x7 x8 x9 x10 x11 xo)]
  unfold kernelRun0_B
  dsimp only
  sl_unfold_words
  rw [View.canon_unit_zero (S := S1x1024) hz]
  simp only [View.readAt_eq_ld, Memref.IsWhole.read_unread, View.ld_unit_zero (S := S512x1024) hz, View.ld_unit_zero (S := S1x1024) hz, View.ld_unit_zero (S := S512x128) hz, View.ld_unit_zero (S := S512x1536) hz, View.ld_unit_zero (S := S512x512) hz, View.ld_unit_zero (S := S128x1024) hz]
  rfl

end Cert.KernelIdeal.In
-- ==== Proof.Real.lean ====
module

public import Idealize.ShloMosaic.Lib.Pointwise
public import Idealize.ShloMosaic.Lib.KernelVsHost

@[expose] public section

set_option maxRecDepth 16384

noncomputable section

open Idealize.ShloMosaic

/-! Facts about extended reals that are real numbers, and the backward pass of an rms norm over a row of 1024. -/

namespace Cert.RealFacts

/-- A value is a real number. -/
def Fin' (x : EReal) : Prop := ∃ r : ℝ, x = (r : EReal)

theorem Fin'.coe (r : ℝ) : Fin' (r : EReal) := ⟨r, rfl⟩
theorem Fin'.zero : Fin' 0 := ⟨0, rfl⟩
theorem Fin'.add {x y : EReal} (hx : Fin' x) (hy : Fin' y) : Fin' (x + y) := by
  obtain ⟨a, rfl⟩ := hx; obtain ⟨b, rfl⟩ := hy; exact ⟨a + b, by push_cast; rfl⟩
theorem Fin'.sub {x y : EReal} (hx : Fin' x) (hy : Fin' y) : Fin' (x - y) := by
  obtain ⟨a, rfl⟩ := hx; obtain ⟨b, rfl⟩ := hy; exact ⟨a - b, by push_cast; rfl⟩
theorem Fin'.neg {x : EReal} (hx : Fin' x) : Fin' (-x) := by
  obtain ⟨a, rfl⟩ := hx; exact ⟨-a, by push_cast; rfl⟩
theorem Fin'.mul {x y : EReal} (hx : Fin' x) (hy : Fin' y) : Fin' (x * y) := by
  obtain ⟨a, rfl⟩ := hx; obtain ⟨b, rfl⟩ := hy; exact ⟨a * b, by push_cast; rfl⟩
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self ..)).add (ih fun i hi => h i (Finset.mem_insert_of_mem hi))

/-- A family of real values is the coercion of a family of reals. -/
theorem lift {ι : Type*} {f : ι → EReal} (h : ∀ i, Fin' (f i)) : ∃ g : ι → ℝ, f = fun i => (g i : EReal) :=
  ⟨fun i => (h i).choose, funext fun i => (h i).choose_spec⟩

theorem bits_1024 : Ideal.ofBits .f32 0x44800000#32 = ((1024 : ℝ) : EReal) := by
  simp [Ideal.ofBits, Ideal.ieee]
  norm_num
  rw [← EReal.coe_mul]
  norm_num
theorem bits_neg_half : Ideal.ofBits .f32 0xBF000000#32 = ((-(1 / 2) : ℝ) : EReal) := by
  simp [Ideal.ofBits, Ideal.ieee]
  norm_num
  rw [← EReal.coe_mul]
  norm_num
theorem bits_eps : ∃ e : ℝ, 0 < e ∧ Ideal.ofBits .f32 0x358637BD#32 = (e : EReal) := by
  refine ⟨_, ?_, by simp [Ideal.ofBits, Ideal.ieee]; rfl⟩
  norm_num

/-- The mean square of a row plus the guard. -/
def msq (x : Fin 1024 → EReal) : EReal :=
  Ideal.div (∑ k, x k * x k) (Ideal.ofBits .f32 0x44800000#32) + Ideal.ofBits .f32 0x358637BD#32

theorem msq_coe (x : Fin 1024 → ℝ) : ∃ s : ℝ, 0 < s ∧ msq (fun k => (x k : EReal)) = (s : EReal) := by
  obtain ⟨e, he, hb⟩ := bits_eps
  refine ⟨(∑ k, x k * x k) * (1 / 1024) + e, ?_, ?_⟩
  · have : 0 ≤ ∑ k, x k * x k := Finset.sum_nonneg fun k _ => mul_self_nonneg _
    positivity
  · unfold msq
    rw [hb, bits_1024, Ideal.div_coe (by norm_num)]
    push_cast [coe_sum]
    rfl

theorem rsqrt_coe {s : ℝ} (hs : 0 < s) : Ideal.rsqrt (s : EReal) = (((Real.sqrt s)⁻¹ : ℝ) : EReal) := by
  rw [Ideal.rsqrt_coe, if_neg (not_lt.mpr hs.le), if_neg hs.ne']

/-- The gradient of a row's rms norm with respect to the row, as a kernel computes it and as differentiation gives it:
    one value where the row, the weight and the cotangent are real numbers. -/
theorem rms_grad (x w h : Fin 1024 → EReal) (hx : ∀ k, Fin' (x k)) (hw : ∀ k, Fin' (w k)) (hh : ∀ k, Fin' (h k)) (a : EReal) (j : Fin 1024) :
    a + (Ideal.rsqrt (msq x) * (h j * w j)
        - x j * (Ideal.rsqrt (msq x) * Ideal.rsqrt (msq x) * Ideal.rsqrt (msq x))
          * Ideal.div (∑ k, h k * w k * x k) (Ideal.ofBits .f32 0x44800000#32))
      = a + h j * w j * Ideal.rsqrt (msq x)
        + x j * Ideal.div ((∑ k, x k * (h k * w k)) * (Ideal.ofBits .f32 0xBF000000#32 * Ideal.div (Ideal.rsqrt (msq x)) (msq x)))
            (Ideal.ofBits .f32 0x44800000#32)
        + Ideal.div ((∑ k, x k * (h k * w k)) * (Ideal.ofBits .f32 0xBF000000#32 * Ideal.div (Ideal.rsqrt (msq x)) (msq x)))
            (Ideal.ofBits .f32 0x44800000#32) * x j := by
  obtain ⟨x, rfl⟩ := lift hx
  obtain ⟨w, rfl⟩ := lift hw
  obtain ⟨h, rfl⟩ := lift hh
  obtain ⟨s, hs, hm⟩ := msq_coe x
  rw [hm, rsqrt_coe hs, bits_1024, bits_neg_half, Ideal.div_coe (by norm_num), Ideal.div_coe (by norm_num), Ideal.div_coe hs.ne']
  rw [add_assoc, add_assoc]
  congr 1
  have hS : ∑ k, x k * (h k * w k) = ∑ k, h k * w k * x k := Finset.sum_congr rfl fun k _ => by ring
  simp only [← EReal.coe_mul, ← coe_sum, ← EReal.coe_sub, ← EReal.coe_add]
  congr 1
  rw [hS]
  have h2 : (Real.sqrt s)⁻¹ * (Real.sqrt s)⁻¹ = 1 / s := by
    rw [← mul_inv, Real.mul_self_sqrt hs.le, one_div]
  rw [h2]
  ring

/-- A sum over the cells that keep one coordinate, where only one cell does. -/
theorem hostReduceAdd_one {s t : Shape} {axes : List (Fin s.rank)} (h : s.ReducesTo axes t) (x : s.Idx → EReal) (init : EReal)
    (j : t.Idx) (i₀ : s.Idx) (h0 : h.drop i₀ = j) (hu : ∀ i, h.drop i = j → i = i₀) :
    Ideal.hostReduceAdd h x init j = init + x i₀ := by
  unfold Ideal.hostReduceAdd
  rw [show Finset.univ.filter (fun i => h.drop i = j) = {i₀} from Finset.ext fun i => by
    simp only [Finset.mem_filter, Finset.mem_univ, true_and, Finset.mem_singleton]
    exact ⟨hu i, fun e => e ▸ h0⟩, Finset.sum_singleton]

/-- A matrix padded at its high ends, inside the operand. -/
theorem pad2_in {α : Type} {a b a' b' : ℕ} (hi : Fin 2 → ℕ) (x : (⟨2, ![a, b]⟩ : Shape).Idx → α) {u : Shape} (v : u.Idx → α)
    (h : (⟨2, ![a, b]⟩ : Shape).Pads ![0, 0] hi ![0, 0] ⟨2, ![a', b']⟩) (hu : 0 < u.numel) (i : Fin a') (j : Fin b') (hi' : i.val < a) (hj' : j.val < b) :
    pad ⟨2, ![a', b']⟩ ![0, 0] hi ![0, 0] x v h hu (ix2 i j) = x (ix2 ⟨i, hi'⟩ ⟨j, hj'⟩) := by
  refine pad_apply_of_inside _ _ _ _ _ _ _ _ _ fun c => ?_
  match c with
  | ⟨0, _⟩ => show i.val = 0 + i.val * (0 + 1); omega
  | ⟨1, _⟩ => show j.val = 0 + j.val * (0 + 1); omega

/-- The same outside the operand: the padding value. -/
theorem pad2_out {α : Type} {a b a' b' : ℕ} (hi : Fin 2 → ℕ) (x : (⟨2, ![a, b]⟩ : Shape).Idx → α) {u : Shape} (v : u.Idx → α)
    (h : (⟨2, ![a, b]⟩ : Shape).Pads ![0, 0] hi ![0, 0] ⟨2, ![a', b']⟩) (hu : 0 < u.numel) (i : Fin a') (j : Fin b') (ho : a ≤ i.val ∨ b ≤ j.val) :
    pad ⟨2, ![a', b']⟩ ![0, 0] hi ![0, 0] x v h hu (ix2 i j) = v (Shape.Idx.first hu) := by
  rcases ho with ho | ho
  · refine pad_apply_of_not_inside _ _ _ _ _ _ _ _ (0 : Fin 2) fun hc => ?_
    have := hc.2.2
    change (i.val - 0) / (0 + 1) < a at this
    simp only [Nat.sub_zero, Nat.zero_add, Nat.div_one] at this
    omega
  · refine pad_apply_of_not_inside _ _ _ _ _ _ _ _ (1 : Fin 2) fun hc => ?_
    have := hc.2.2
    change (j.val - 0) / (0 + 1) < b at this
    simp only [Nat.sub_zero, Nat.zero_add, Nat.div_one] at this
    omega

/-- The integer zero converted is zero. -/
theorem sitofp_zero' {s : Shape} {φ : FTy} (i : s.Idx) : (sitofp φ (constantI s 32 0#32) : FVec Ideal s φ) i = 0 := by
  show ((((0#32 : BitVec 32).toInt : ℤ) : ℝ) : EReal) = 0
  simp

end Cert.RealFacts
-- ==== Proof.InPoint.lean ====
module

public import proofs.«01_k».proof.Proof.InOut
public import proofs.«01_k».proof.Proof.Real

@[expose] public section

set_option maxRecDepth 16384

noncomputable section

open Idealize.ShloMosaic Idealize.ShloMosaic.TcCoe Idealize.SL.Sem

/-! One block of the input gradient read at an index, over the extended reals. -/

namespace Cert.KernelIdeal.In

open Cert.KernelIdeal Cert.KernelIdeal.Gen Cert.RealFacts

variable (x0 : Vec Ideal S512x1024 .bf16) (x1 : Vec Ideal S512x1536 .bf16) (x2 : Vec Ideal S512x512 .bf16) (x3 : Vec Ideal S512x512 .bf16)
  (x4 : Vec Ideal S512x1024 .bf16) (x5 : Vec Ideal S512x1024 .bf16) (x6 : Vec Ideal S512x128 .bf16) (x7 : Vec Ideal S512x1024 .f32)
  (x8 : Vec Ideal S512x1024 .f32) (x9 : Vec Ideal S1x1024 .f32) (x10 : Vec Ideal S5648x1024 .bf16) (x11 : Vec Ideal S128x1024 .bf16)

theorem DH_apply (p : Fin 512) (j : Fin 1024) : DH x0 x1 x2 x3 x4 x5 x6 x10 x11 (ix2 p j)
    = ∑ k : Fin 128, x6 (ix2 p k) * x11 (ix2 k j)
      + ∑ k : Fin 1024, x0 (ix2 p k) * x10 (ix2 ⟨k, by omega⟩ j)
      + ∑ k : Fin 1536, x1 (ix2 p k) * x10 (ix2 ⟨1024 + k, by omega⟩ j)
      + ∑ k : Fin 512, x2 (ix2 p k) * x10 (ix2 ⟨2576 + k, by omega⟩ j)
      + ∑ k : Fin 512, x3 (ix2 p k) * x10 (ix2 ⟨3088 + k, by omega⟩ j)
      + ∑ k : Fin 1024, x4 (ix2 p k) * x10 (ix2 ⟨3600 + k, by omega⟩ j)
      + ∑ k : Fin 1024, x5 (ix2 p k) * x10 (ix2 ⟨4624 + k, by omega⟩ j) := by
  unfold DH
  unfold_payloads
  pointwise

theorem pay8_apply (p : Fin 512) (u : Fin 1) : k0_pay8 x7 (ix2 p u) = Ideal.rsqrt (msq fun k => x7 (ix2 p k)) := by
  unfold_payloads
  pointwise [msq]

theorem pay9_eq (d : FVec Ideal S512x1024 .f32) (p : Fin 512) (j : Fin 1024) (h : DH x0 x1 x2 x3 x4 x5 x6 x10 x11 = d) :
    DX x0 x1 x2 x3 x4 x5 x6 x7 x9 x10 x11 (ix2 p j)
      = Ideal.rsqrt (msq fun k => x7 (ix2 p k)) * (d (ix2 p j) * x9 (ix2 0 j))
        - x7 (ix2 p j) * (Ideal.rsqrt (msq fun k => x7 (ix2 p k)) * Ideal.rsqrt (msq fun k => x7 (ix2 p k)) * Ideal.rsqrt (msq fun k => x7 (ix2 p k)))
          * Ideal.div (∑ k, d (ix2 p k) * x9 (ix2 0 k) * x7 (ix2 p k)) (Ideal.ofBits .f32 0x44800000#32) := by
  unfold DX
  unfold k0_pay9
  unfold DH at h
  rw [h]
  pointwise [pay8_apply, k0_pay7]

theorem gx_apply (p : Fin 512) (j : Fin 1024) : k0_pay2 (DX x0 x1 x2 x3 x4 x5 x6 x7 x9 x10 x11) x8 (ix2 p j)
      = x8 (ix2 p j) + (Ideal.rsqrt (msq fun k => x7 (ix2 p k)) * (DH x0 x1 x2 x3 x4 x5 x6 x10 x11 (ix2 p j) * x9 (ix2 0 j))
        - x7 (ix2 p j) * (Ideal.rsqrt (msq fun k => x7 (ix2 p k)) * Ideal.rsqrt (msq fun k => x7 (ix2 p k)) * Ideal.rsqrt (msq fun k => x7 (ix2 p k)))
          * Ideal.div (∑ k, DH x0 x1 x2 x3 x4 x5 x6 x10 x11 (ix2 p k) * x9 (ix2 0 k) * x7 (ix2 p k)) (Ideal.ofBits .f32 0x44800000#32)) := by
  rw [← pay9_eq x0 x1 x2 x3 x4 x5 x6 x7 x9 x10 x11 _ p j rfl]
  generalize DX x0 x1 x2 x3 x4 x5 x6 x7 x9 x10 x11 = d
  unfold k0_pay2
  pointwise

theorem DHX_eq (p : Fin 512) (j : Fin 1024) (d : FVec Ideal S512x1024 .f32) (h : DH x0 x1 x2 x3 x4 x5 x6 x10 x11 = d) :
    DHX x0 x1 x2 x3 x4 x5 x6 x7 x10 x11 (ix2 p j) = d (ix2 p j) * x7 (ix2 p j) := by
  unfold DHX k0_pay10 k0_pay7
  unfold DH at h
  rw [h]
  pointwise

theorem dw_apply (xo : Vec Ideal S1x1024 .f32) (u : Fin 1) (j : Fin 1024) :
    k0_pay1 (k0_pay8 x7) (DHX x0 x1 x2 x3 x4 x5 x6 x7 x10 x11) xo (ix2 u j)
      = xo (ix2 u j) + ∑ p : Fin 512, DH x0 x1 x2 x3 x4 x5 x6 x10 x11 (ix2 p j) * x7 (ix2 p j) * Ideal.rsqrt (msq fun k => x7 (ix2 p k)) := by
  have h := fun p j => DHX_eq x0 x1 x2 x3 x4 x5 x6 x7 x10 x11 p j _ rfl
  generalize DHX x0 x1 x2 x3 x4 x5 x6 x7 x10 x11 = d at h ⊢
  unfold k0_pay1
  pointwise [pay8_apply, h]

theorem pay3_apply (u : Fin 1) (j : Fin 1024) : (k0_pay3 : FVec Ideal S1x1024 .f32) (ix2 u j) = 0 := by
  unfold k0_pay3
  pointwise

end Cert.KernelIdeal.In
-- ==== Proof.InHost.lean ====
module

public import proofs.«01_k».proof.Proof.InPoint
public import proofs.«01_k».proof.Proof.Gen.KernelIdeal.Value
public import Idealize.ShloMosaic.Lib.StableHlo.Run
public import Idealize.ShloMosaic.Lib.StableHlo.RunRead

@[expose] public section

set_option maxRecDepth 16384

noncomputable section

open Idealize.ShloMosaic Idealize.ShloMosaic.TcCoe Idealize.SL.Sem

/-! The arrays the host prepares for the input gradient's kernel, read at an index. -/

namespace Cert.KernelIdeal.In

open Cert.KernelIdeal Cert.KernelIdeal.Gen Cert.RealFacts

variable (m : (ℓ : Loc nD τ sig) → Buf (Elt Ideal) ℓ) (c : Dev nD)

/-! The arguments, by name. -/
abbrev xin : FVec Ideal S1x8192x1024 .f32 := m (c.tc.loc main_arg0)
abbrev w0 : FVec Ideal S1x1024 .f32 := m (c.tc.loc main_arg1)
abbrev win : FVec Ideal S1x1024x5648 .f32 := m (c.tc.loc main_arg2)
abbrev dx1 : FVec Ideal S1x8192x1024 .f32 := m (c.tc.loc main_arg3)
abbrev dz : FVec Ideal S1x8192x1024 .f32 := m (c.tc.loc main_arg4)
abbrev dxbc : FVec Ideal S1x8192x1536 .f32 := m (c.tc.loc main_arg5)
abbrev ddt : FVec Ideal S1x8192x16 .f32 := m (c.tc.loc main_arg6)
abbrev dq : FVec Ideal S1x8192x512 .f32 := m (c.tc.loc main_arg7)
abbrev dk : FVec Ideal S1x8192x512 .f32 := m (c.tc.loc main_arg8)
abbrev dv : FVec Ideal S1x8192x1024 .f32 := m (c.tc.loc main_arg9)
abbrev dg : FVec Ideal S1x8192x1024 .f32 := m (c.tc.loc main_arg10)

theorem V_v2 (i : Fin 5648) (j : Fin 1024) : (V m c main_v2 : FVec Ideal S5648x1024 .bf16) (ix2 i j) = win m c (ix3 0 j i) := by
  unfold_abbrev_sides
  after_reads_simp
  pointwise

theorem V_v4 (i : Fin 128) (j : Fin 1024) :
    (V m c main_v4 : FVec Ideal S128x1024 .bf16) (ix2 i j) = if h : i.val < 16 then win m c (ix3 0 j ⟨2560 + i, by omega⟩) else 0 := by
  unfold_abbrev_sides
  after_reads_simp
  refine (show _ = pad S128x1024 ![0, 0] ![112, 0] ![0, 0] (extractStridedSlice S16x1024 ![2560, 0] (truncf .bf16 (transpose S5648x1024 [1, 0]
    (shapeCast S1024x5648 (win m c) shapeCasts_S1x1024x5648_S1024x5648)
    transposes_S1024x5648_S5648x1024_1_0 : FVec Ideal S5648x1024 .f32) bitsLt_bf16_f32 : FVec Ideal S5648x1024 .bf16) slices_S5648x1024_S16x1024_2560_0)
    (sitofp .bf16 (constantI S_ 32 0#32) : FVec Ideal S_ .bf16) pads_S16x1024_S128x1024_01120_000 h_S_ (ix2 i j) from rfl).trans ?_
  by_cases hi : i.val < 16
  · rw [dif_pos hi, pad2_in _ _ _ _ _ _ _ hi j.isLt]
    pointwise
  · rw [dif_neg hi, pad2_out _ _ _ _ _ _ _ (Or.inl (by omega)), sitofp_zero']

theorem V_v7 (t : Fin 8192) (k : Fin 128) :
    (V m c main_v7 : FVec Ideal S8192x128 .bf16) (ix2 t k) = if h : k.val < 16 then ddt m c (ix3 0 t ⟨k, h⟩) else 0 := by
  unfold_abbrev_sides
  after_reads_simp
  refine (show _ = pad S8192x128 ![0, 0] ![0, 112] ![0, 0]
    (shapeCast S8192x16 (ddt m c) shapeCasts_S1x8192x16_S8192x16)
    (sitofp .f32 (constantI S_ 32 0#32) : FVec Ideal S_ .f32) pads_S8192x16_S8192x128_000_01120 h_S_ (ix2 t k) from rfl).trans ?_
  by_cases hk : k.val < 16
  · rw [dif_pos hk, pad2_in _ _ _ _ _ _ _ t.isLt hk]
    pointwise
  · rw [dif_neg hk, pad2_out _ _ _ _ _ _ _ (Or.inr (by omega)), sitofp_zero']

theorem V_v9 (t : Fin 8192) (k : Fin 1024) : (V m c main_v9 : FVec Ideal S8192x1024 .bf16) (ix2 t k) = dz m c (ix3 0 t k) := by
  unfold_abbrev_sides
  after_reads_simp
  pointwise

theorem V_v11 (t : Fin 8192) (k : Fin 1536) : (V m c main_v11 : FVec Ideal S8192x1536 .bf16) (ix2 t k) = dxbc m c (ix3 0 t k) := by
  unfold_abbrev_sides
  after_reads_simp
  pointwise

theorem V_v13 (t : Fin 8192) (k : Fin 512) : (V m c main_v13 : FVec Ideal S8192x512 .bf16) (ix2 t k) = dq m c (ix3 0 t k) := by
  unfold_abbrev_sides
  after_reads_simp
  pointwise

theorem V_v15 (t : Fin 8192) (k : Fin 512) : (V m c main_v15 : FVec Ideal S8192x512 .bf16) (ix2 t k) = dk m c (ix3 0 t k) := by
  unfold_abbrev_sides
  after_reads_simp
  pointwise

theorem V_v17 (t : Fin 8192) (k : Fin 1024) : (V m c main_v17 : FVec Ideal S8192x1024 .bf16) (ix2 t k) = dv m c (ix3 0 t k) := by
  unfold_abbrev_sides
  after_reads_simp
  pointwise

theorem V_v19 (t : Fin 8192) (k : Fin 1024) : (V m c main_v19 : FVec Ideal S8192x1024 .bf16) (ix2 t k) = dg m c (ix3 0 t k) := by
  unfold_abbrev_sides
  after_reads_simp
  pointwise

theorem V_v20 (t : Fin 8192) (k : Fin 1024) : (V m c main_v20 : FVec Ideal S8192x1024 .f32) (ix2 t k) = xin m c (ix3 0 t k) := by
  unfold_abbrev_sides
  after_reads_simp
  pointwise

theorem V_v21 (t : Fin 8192) (k : Fin 1024) : (V m c main_v21 : FVec Ideal S8192x1024 .f32) (ix2 t k) = dx1 m c (ix3 0 t k) := by
  unfold_abbrev_sides
  after_reads_simp
  pointwise

theorem V_arg1 (k : Fin 1024) : (V m c main_arg1 : FVec Ideal S1x1024 .f32) (ix2 0 k) = w0 m c (ix2 0 k) :=
  congrFun (V_main_arg1 m c) _

end Cert.KernelIdeal.In
-- ==== Proof.InRef.lean ====
module

public import proofs.«01_k».proof.Proof.Gen.ReferenceIdeal.Read
public import proofs.«01_k».proof.Proof.Real

@[expose] public section

set_option maxRecDepth 16384

noncomputable section

open Idealize.ShloMosaic Idealize.ShloMosaic.TcCoe Idealize.SL.Sem

/-! The differentiated input projection read at an index. -/

namespace Cert.ReferenceIdeal.In

open Cert.ReferenceIdeal Cert.ReferenceIdeal.Gen Cert.ReferenceIdeal.Read Cert.RealFacts

variable (x0 : Vec Ideal S1x8192x1024 .f32) (x1 : Vec Ideal S1x1024 .f32) (x2 : Vec Ideal S1x1024x5648 .f32) (x3 x4 : Vec Ideal S1x8192x1024 .f32)
  (x5 : Vec Ideal S1x8192x1536 .f32) (x6 : Vec Ideal S1x8192x16 .f32) (x7 x8 : Vec Ideal S1x8192x512 .f32) (x9 x10 : Vec Ideal S1x8192x1024 .f32)

theorem v7_apply (t : Fin 8192) : val_main_v7 (F := Ideal) x0 (ix3 0 t 0) = msq fun k => x0 (ix3 0 t k) := by
  pointwise [val_main_v7, val_main_v6, val_main_v5, val_main_v4, val_main_v3, val_main_v2, val_main_v1, val_main_cst, val_main_cst_0, val_main_cst_1, msq]

/-- The gradient with respect to the normed rows: the cotangents against their columns of the projection. -/
def dh (t : Fin 8192) (j : Fin 1024) : EReal :=
  ∑ k : Fin 1024, x4 (ix3 0 t k) * x2 (ix3 0 j ⟨k, by omega⟩)
    + ∑ k : Fin 1536, x5 (ix3 0 t k) * x2 (ix3 0 j ⟨1024 + k, by omega⟩)
    + ∑ k : Fin 16, x6 (ix3 0 t k) * x2 (ix3 0 j ⟨2560 + k, by omega⟩)
    + ∑ k : Fin 512, x7 (ix3 0 t k) * x2 (ix3 0 j ⟨2576 + k, by omega⟩)
    + ∑ k : Fin 512, x8 (ix3 0 t k) * x2 (ix3 0 j ⟨3088 + k, by omega⟩)
    + ∑ k : Fin 1024, x9 (ix3 0 t k) * x2 (ix3 0 j ⟨3600 + k, by omega⟩)
    + ∑ k : Fin 1024, x10 (ix3 0 t k) * x2 (ix3 0 j ⟨4624 + k, by omega⟩)

/-- A sum over `a + b` positions in two parts. -/
theorem sum_split {n : ℕ} (a b : ℕ) (h : n = a + b) (f : Fin n → EReal) :
    ∑ k, f k = ∑ k : Fin a, f ⟨k, by omega⟩ + ∑ k : Fin b, f ⟨a + k, by omega⟩ := by
  subst h
  exact Fin.sum_univ_add f

theorem v27_apply (t : Fin 8192) (j : Fin 1024) :
    val_main_v27 (F := Ideal) x2 x4 x5 x6 x7 x8 x9 x10 (ix3 0 t j) = dh x2 x4 x5 x6 x7 x8 x9 x10 t j := by
  pointwise [val_main_v27, val_main_v17]
  rw [sum_split 4624 1024 rfl, sum_split 3600 1024 rfl, sum_split 3088 512 rfl, sum_split 2576 512 rfl, sum_split 2560 16 rfl, sum_split 1024 1536 rfl]
  unfold dh
  have seg : ∀ (n o : ℕ) (ho : o + n ≤ 5648) (y : Fin n → EReal),
      (∀ k : Fin n, val_main_v26 (F := Ideal) x4 x5 x6 x7 x8 x9 x10 (ix3 0 t ⟨o + k, by omega⟩) = y k) →
      ∑ k : Fin n, val_main_v26 (F := Ideal) x4 x5 x6 x7 x8 x9 x10 (ix3 0 t ⟨o + k, by omega⟩) * x2 (ix3 0 j ⟨o + k, by omega⟩)
        = ∑ k : Fin n, y k * x2 (ix3 0 j ⟨o + k, by omega⟩) :=
    fun n o ho y hy => Finset.sum_congr rfl fun k _ => by rw [hy k]
  refine congrArg₂ (· + ·) (congrArg₂ (· + ·) (congrArg₂ (· + ·) (congrArg₂ (· + ·) (congrArg₂ (· + ·) (congrArg₂ (· + ·) ?_ ?_) ?_) ?_) ?_) ?_) ?_
  · refine Finset.sum_congr rfl fun k _ => ?_
    pointwise [val_main_v26]
  all_goals
    apply seg _ _ (by norm_num)
    intro k
    have := k.isLt
    pointwise [val_main_v26]
    try
      repeat (first | rw [dif_pos (by omega)] | rw [dif_neg (by omega)])
      refine congrArg _ (congrArg (ix3 0 t) (Fin.ext ?_))
      show _ - _ = _
      omega

theorem red2 (y : Vec Ideal S1x8192x1 .f32) (init : EReal) (t : Fin 8192) :
    Ideal.hostReduceAdd reducesTo_S1x8192x1_S8192_d0_2 y init (ix1 t) = init + y (ix3 0 t 0) := by
  refine hostReduceAdd_one _ _ _ _ _ (funext fun b => by fin_cases b; rfl) fun i hi => ?_
  have h1 := congrFun hi 0
  funext b
  fin_cases b
  · exact Fin.ext (by have : (i 0).val < 1 := (i 0).isLt; show (i 0).val = 0; omega)
  · exact Fin.ext (congrArg Fin.val h1)
  · exact Fin.ext (by have : (i 2).val < 1 := (i 2).isLt; show (i 2).val = 0; omega)

theorem red1 (y : Vec Ideal S1x1x1024 .f32) (init : EReal) (t : Fin 1024) :
    Ideal.hostReduceAdd reducesTo_S1x1x1024_S1024_d0_1 y init (ix1 t) = init + y (ix3 0 0 t) := by
  refine hostReduceAdd_one _ _ _ _ _ (funext fun b => by fin_cases b; rfl) fun i hi => ?_
  have h1 := congrFun hi 0
  funext b
  fin_cases b
  · exact Fin.ext (by have : (i 0).val < 1 := (i 0).isLt; show (i 0).val = 0; omega)
  · exact Fin.ext (by have : (i 1).val < 1 := (i 1).isLt; show (i 1).val = 0; omega)
  · exact Fin.ext (congrArg Fin.val h1)

theorem v51_apply (t : Fin 8192) (j : Fin 1024) (h : Fin 1024 → EReal) (hh : ∀ k, dh x2 x4 x5 x6 x7 x8 x9 x10 t k = h k)
    (s : EReal) (hs : msq (fun k => x0 (ix3 0 t k)) = s) :
    val_main_v51 (F := Ideal) x0 x1 x2 x3 x4 x5 x6 x7 x8 x9 x10 (ix2 t j)
      = x3 (ix3 0 t j) + h j * x1 (ix2 0 j) * Ideal.rsqrt s
        + x0 (ix3 0 t j) * Ideal.div ((∑ k, x0 (ix3 0 t k) * (h k * x1 (ix2 0 k))) * (Ideal.ofBits .f32 0xBF000000#32 * Ideal.div (Ideal.rsqrt s) s))
            (Ideal.ofBits .f32 0x44800000#32)
        + Ideal.div ((∑ k, x0 (ix3 0 t k) * (h k * x1 (ix2 0 k))) * (Ideal.ofBits .f32 0xBF000000#32 * Ideal.div (Ideal.rsqrt s) s))
            (Ideal.ofBits .f32 0x44800000#32) * x0 (ix3 0 t j) := by
  have h27 := fun j => (v27_apply x2 x4 x5 x6 x7 x8 x9 x10 t j).trans (hh j)
  have h7 := (v7_apply x0 t).trans hs
  pointwise [val_main_v51, val_main_v49, val_main_v47, val_main_v48, val_main_v46, val_main_v45, val_main_v44, val_main_v43, val_main_v42, val_main_v41, val_main_v40, val_main_v39, val_main_v38, val_main_v37, val_main_v36, val_main_v35, val_main_v34, val_main_v32, val_main_v31, val_main_v14, val_main_v0, val_main_v11, val_main_v10, val_main_v9,val_main_v8, val_main_cst_2, val_main_cst_5, val_main_cst_6, val_main_cst_7, red2, h27, h7]

theorem v50_apply (u : Fin 1) (j : Fin 1024) : val_main_v50 (F := Ideal) x0 x2 x4 x5 x6 x7 x8 x9 x10 (ix2 u j)
    = ∑ t : Fin 8192, x0 (ix3 0 t j) * Ideal.rsqrt (msq fun k => x0 (ix3 0 t k)) * dh x2 x4 x5 x6 x7 x8 x9 x10 t j := by
  have h27 := fun t j => v27_apply x2 x4 x5 x6 x7 x8 x9 x10 t j
  have h7 := fun t => v7_apply x0 t
  pointwise [val_main_v50, val_main_v33, val_main_v30, val_main_v29, val_main_v28, val_main_v13, val_main_v12, val_main_v8, val_main_cst_3, val_main_cst_4, red1, h27, h7]

end Cert.ReferenceIdeal.In
-- ==== Proof.InRun.lean ====
module

public import proofs.«01_k».proof.Proof.InHost
public import proofs.«01_k».proof.Proof.InRef
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem

/-! What the input gradient's kernel leaves in its two result arrays, point by point of the grid. -/

namespace Cert.KernelIdeal.In

open Cert.KernelIdeal Cert.KernelIdeal.Gen Cert.RealFacts
open Cert.ReferenceIdeal.In (dh sum_split)

variable (m : (ℓ : Loc nD τ sig) → Buf (Elt Ideal) ℓ) (c : Dev nD)

/-- Row `p` of the block of grid point `n`. -/
def row (n : ℕ) (hn : n < cfg0.N) (p : Fin 512) : Fin 8192 := ⟨512 * n + p, by have : cfg0.N = 16 := N_0; omega⟩

theorem at0 : ∀ t : Fin cfg0.N, win0_0.index t = ![t.val, 0] := (by decide +kernel : ∀ t : Fin grid0.N, win0_0.index t = ![t.val, 0])

theorem blk0 (t : Fin cfg0.N) (p : Fin 512) (k : Fin 1024) :
    (iblk m c 0 t : FVec Ideal S512x1024 .bf16) (ix2 p k) = dz m c (ix3 0 (row t.val t.isLt p) k) := by
  refine Eq.trans ?_ (V_v9 m c (row t.val t.isLt p) k)
  blk_simp [iblk]
  refine congrArg _ (funext fun a => Fin.ext ?_)
  fin_cases a <;> blk_simp [at0] <;> simp [row] <;> omega

theorem at1 : ∀ t : Fin cfg0.N, win0_1.index t = ![t.val, 0] := (by decide +kernel : ∀ t : Fin grid0.N, win0_1.index t = ![t.val, 0])

theorem blk1 (t : Fin cfg0.N) (p : Fin 512) (k : Fin 1536) :
    (iblk m c 1 t : FVec Ideal S512x1536 .bf16) (ix2 p k) = dxbc m c (ix3 0 (row t.val t.isLt p) k) := by
  refine Eq.trans ?_ (V_v11 m c (row t.val t.isLt p) k)
  blk_simp [iblk]
  refine congrArg _ (funext fun a => Fin.ext ?_)
  fin_cases a <;> blk_simp [at1] <;> simp [row] <;> omega

theorem at2 : ∀ t : Fin cfg0.N, win0_2.index t = ![t.val, 0] := (by decide +kernel : ∀ t : Fin grid0.N, win0_2.index t = ![t.val, 0])

theorem blk2 (t : Fin cfg0.N) (p : Fin 512) (k : Fin 512) :
    (iblk m c 2 t : FVec Ideal S512x512 .bf16) (ix2 p k) = dq m c (ix3 0 (row t.val t.isLt p) k) := by
  refine Eq.trans ?_ (V_v13 m c (row t.val t.isLt p) k)
  blk_simp [iblk]
  refine congrArg _ (funext fun a => Fin.ext ?_)
  fin_cases a <;> blk_simp [at2] <;> simp [row] <;> omega

theorem at3 : ∀ t : Fin cfg0.N, win0_3.index t = ![t.val, 0] := (by decide +kernel : ∀ t : Fin grid0.N, win0_3.index t = ![t.val, 0])

theorem blk3 (t : Fin cfg0.N) (p : Fin 512) (k : Fin 512) :
    (iblk m c 3 t : FVec Ideal S512x512 .bf16) (ix2 p k) = dk m c (ix3 0 (row t.val t.isLt p) k) := by
  refine Eq.trans ?_ (V_v15 m c (row t.val t.isLt p) k)
  blk_simp [iblk]
  refine congrArg _ (funext fun a => Fin.ext ?_)
  fin_cases a <;> blk_simp [at3] <;> simp [row] <;> omega

theorem at4 : ∀ t : Fin cfg0.N, win0_4.index t = ![t.val, 0] := (by decide +kernel : ∀ t : Fin grid0.N, win0_4.index t = ![t.val, 0])

theorem blk4 (t : Fin cfg0.N) (p : Fin 512) (k : Fin 1024) :
    (iblk m c 4 t : FVec Ideal S512x1024 .bf16) (ix2 p k) = dv m c (ix3 0 (row t.val t.isLt p) k) := by
  refine Eq.trans ?_ (V_v17 m c (row t.val t.isLt p) k)
  blk_simp [iblk]
  refine congrArg _ (funext fun a => Fin.ext ?_)
  fin_cases a <;> blk_simp [at4] <;> simp [row] <;> omega

theorem at5 : ∀ t : Fin cfg0.N, win0_5.index t = ![t.val, 0] := (by decide +kernel : ∀ t : Fin grid0.N, win0_5.index t = ![t.val, 0])

theorem blk5 (t : Fin cfg0.N) (p : Fin 512) (k : Fin 1024) :
    (iblk m c 5 t : FVec Ideal S512x1024 .bf16) (ix2 p k) = dg m c (ix3 0 (row t.val t.isLt p) k) := by
  refine Eq.trans ?_ (V_v19 m c (row t.val t.isLt p) k)
  blk_simp [iblk]
  refine congrArg _ (funext fun a => Fin.ext ?_)
  fin_cases a <;> blk_simp [at5] <;> simp [row] <;> omega

theorem at6 : ∀ t : Fin cfg0.N, win0_6.index t = ![t.val, 0] := (by decide +kernel : ∀ t : Fin grid0.N, win0_6.index t = ![t.val, 0])

theorem blk6 (t : Fin cfg0.N) (p : Fin 512) (k : Fin 128) :
    (iblk m c 6 t : FVec Ideal S512x128 .bf16) (ix2 p k) = if h : k.val < 16 then ddt m c (ix3 0 (row t.val t.isLt p) ⟨k, h⟩) else 0 := by
  refine Eq.trans ?_ (V_v7 m c (row t.val t.isLt p) k)
  blk_simp [iblk]
  refine congrArg _ (funext fun a => Fin.ext ?_)
  fin_cases a <;> blk_simp [at6] <;> simp [row] <;> omega

theorem at7 : ∀ t : Fin cfg0.N, win0_7.index t = ![t.val, 0] := (by decide +kernel : ∀ t : Fin grid0.N, win0_7.index t = ![t.val, 0])

theorem blk7 (t : Fin cfg0.N) (p : Fin 512) (k : Fin 1024) :
    (iblk m c 7 t : FVec Ideal S512x1024 .f32) (ix2 p k) = xin m c (ix3 0 (row t.val t.isLt p) k) := by
  refine Eq.trans ?_ (V_v20 m c (row t.val t.isLt p) k)
  blk_simp [iblk]
  refine congrArg _ (funext fun a => Fin.ext ?_)
  fin_cases a <;> blk_simp [at7] <;> simp [row] <;> omega

theorem at8 : ∀ t : Fin cfg0.N, win0_8.index t = ![t.val, 0] := (by decide +kernel : ∀ t : Fin grid0.N, win0_8.index t = ![t.val, 0])

theorem blk8 (t : Fin cfg0.N) (p : Fin 512) (k : Fin 1024) :
    (iblk m c 8 t : FVec Ideal S512x1024 .f32) (ix2 p k) = dx1 m c (ix3 0 (row t.val t.isLt p) k) := by
  refine Eq.trans ?_ (V_v21 m c (row t.val t.isLt p) k)
  blk_simp [iblk]
  refine congrArg _ (funext fun a => Fin.ext ?_)
  fin_cases a <;> blk_simp [at8] <;> simp [row] <;> omega

theorem at9 : ∀ t : Fin cfg0.N, win0_9.index t = ![0, 0] := (by decide +kernel : ∀ t : Fin grid0.N, win0_9.index t = ![0, 0])

theorem blk9 (t : Fin cfg0.N) (p : Fin 1) (k : Fin 1024) :
    (iblk m c 9 t : FVec Ideal S1x1024 .f32) (ix2 p k) = w0 m c (ix2 0 k) := by
  refine Eq.trans ?_ (V_arg1 m c k)
  blk_simp [iblk]
  refine congrArg _ (funext fun a => Fin.ext ?_)
  fin_cases a <;> blk_simp [at9] <;> simp

theorem at10 : ∀ t : Fin cfg0.N, win0_10.index t = ![0, 0] := (by decide +kernel : ∀ t : Fin grid0.N, win0_10.index t = ![0, 0])

theorem blk10 (t : Fin cfg0.N) (p : Fin 5648) (k : Fin 1024) :
    (iblk m c 10 t : FVec Ideal S5648x1024 .bf16) (ix2 p k) = win m c (ix3 0 k p) := by
  refine Eq.trans ?_ (V_v2 m c p k)
  blk_simp [iblk]
  refine congrArg _ (funext fun a => Fin.ext ?_)
  fin_cases a <;> blk_simp [at10] <;> simp

theorem at11 : ∀ t : Fin cfg0.N, win0_11.index t = ![0, 0] := (by decide +kernel : ∀ t : Fin grid0.N, win0_11.index t = ![0, 0])

theorem blk11 (t : Fin cfg0.N) (p : Fin 128) (k : Fin 1024) :
    (iblk m c 11 t : FVec Ideal S128x1024 .bf16) (ix2 p k) = if h : p.val < 16 then win m c (ix3 0 k ⟨2560 + p, by omega⟩) else 0 := by
  refine Eq.trans ?_ (V_v4 m c p k)
  blk_simp [iblk]
  refine congrArg _ (funext fun a => Fin.ext ?_)
  fin_cases a <;> blk_simp [at11] <;> simp

/-- The cotangent of the normed rows as the reference sums it, at this program's arguments. -/
abbrev dhK (r : Fin 8192) (j : Fin 1024) : EReal :=
  dh (win m c) (dz m c) (dxbc m c) (ddt m c) (dq m c) (dk m c) (dv m c) (dg m c) r j

theorem DH_eq (t : Fin cfg0.N) (p : Fin 512) (j : Fin 1024) :
    DH (iblk m c 0 t) (iblk m c 1 t) (iblk m c 2 t) (iblk m c 3 t) (iblk m c 4 t) (iblk m c 5 t) (iblk m c 6 t) (iblk m c 10 t) (iblk m c 11 t) (ix2 p j) = dhK m c (row t.val t.isLt p) j := by
  rw [DH_apply]
  simp only [blk0, blk1, blk2, blk3, blk4, blk5, blk6, blk10, blk11]
  rw [sum_split 16 112 rfl]
  have h0 : ∀ k : Fin 112, ¬ 16 + k.val < 16 := fun k => by omega
  simp only [h0, Fin.is_lt, dite_true, dite_false, mul_zero, Finset.sum_const_zero, add_zero]
  unfold dhK dh
  ac_rfl

/-- The mean square of row `r` of the input. -/
abbrev ms (r : Fin 8192) : EReal := msq fun k => xin m c (ix3 0 r k)

/-- The input gradient at row `r`, as the kernel computes it. -/
def gxv (r : Fin 8192) (j : Fin 1024) : EReal :=
  dx1 m c (ix3 0 r j) + (Ideal.rsqrt (ms m c r) * (dhK m c r j * w0 m c (ix2 0 j))
    - xin m c (ix3 0 r j) * (Ideal.rsqrt (ms m c r) * Ideal.rsqrt (ms m c r) * Ideal.rsqrt (ms m c r))
      * Ideal.div (∑ k, dhK m c r k * w0 m c (ix2 0 k) * xin m c (ix3 0 r k)) (Ideal.ofBits .f32 0x44800000#32))

/-- Row `r`'s part of the gradient of the norm's weight, as the kernel computes it. -/
def dwv (r : Fin 8192) (j : Fin 1024) : EReal := dhK m c r j * xin m c (ix3 0 r j) * Ideal.rsqrt (ms m c r)

theorem outs1 (t : Fin cfg0.N) (p : Fin 512) (j : Fin 1024) :
    ((outsAt0 m c t.val t.isLt).1 : FVec Ideal S512x1024 .f32) (ix2 p j) = gxv m c (row t.val t.isLt p) j := by
  have h : ((outsAt0 m c t.val t.isLt).1 : FVec Ideal S512x1024 .f32)
      = k0_pay2 (DX (iblk m c 0 t) (iblk m c 1 t) (iblk m c 2 t) (iblk m c 3 t) (iblk m c 4 t) (iblk m c 5 t) (iblk m c 6 t) (iblk m c 7 t) (iblk m c 9 t) (iblk m c 10 t) (iblk m c 11 t)) (iblk m c 8 t) := by
    by_cases h0 : t.val % 16 = 0
    · rw [outsAt0_A m c t h0]
      dsimp only
      exact out_A12 ..
    · rw [outsAt0_B m c t h0]
      dsimp only
      exact out_B12 ..
  rw [h, gx_apply]
  simp only [DH_eq, blk7, blk8, blk9]
  rfl

/-- What grid point `n` adds to the weight's gradient. -/
def dwb (n : ℕ) (j : Fin 1024) : EReal := if hn : n < cfg0.N then ∑ p : Fin 512, dwv m c (row n hn p) j else 0

theorem outs2 (n : ℕ) (hn : n < cfg0.N) (u : Fin 1) (j : Fin 1024) :
    ((outsAt0 m c n hn).2 : FVec Ideal S1x1024 .f32) (ix2 u j) = ∑ s ∈ Finset.range (n + 1), dwb m c s j := by
  have hN : cfg0.N = 16 := N_0
  have step : ∀ (t : Fin cfg0.N) (xo : Vec Ideal S1x1024 .f32),
      k0_pay1 (k0_pay8 (iblk m c 7 t)) (DHX (iblk m c 0 t) (iblk m c 1 t) (iblk m c 2 t) (iblk m c 3 t) (iblk m c 4 t) (iblk m c 5 t) (iblk m c 6 t) (iblk m c 7 t) (iblk m c 10 t) (iblk m c 11 t)) xo (ix2 u j) = xo (ix2 u j) + dwb m c t.val j := by
    intro t xo
    rw [dw_apply]
    simp only [DH_eq, blk7]
    unfold dwb
    rw [dif_pos t.isLt]
    rfl
  have o2A : ∀ (t : Fin cfg0.N) (h0 : t.val % 16 = 0), (outsAt0 m c t.val t.isLt).2
      = k0_pay1 (k0_pay8 (iblk m c 7 t)) (DHX (iblk m c 0 t) (iblk m c 1 t) (iblk m c 2 t) (iblk m c 3 t) (iblk m c 4 t) (iblk m c 5 t) (iblk m c 6 t) (iblk m c 7 t) (iblk m c 10 t) (iblk m c 11 t)) (k0_pay3 (F := Ideal)) := fun t h0 => by
    rw [outsAt0_A m c t h0]
    dsimp only
    exact out_A13 ..
  have o2B : ∀ (t : Fin cfg0.N) (h0 : ¬ t.val % 16 = 0), (outsAt0 m c t.val t.isLt).2
      = k0_pay1 (k0_pay8 (iblk m c 7 t)) (DHX (iblk m c 0 t) (iblk m c 1 t) (iblk m c 2 t) (iblk m c 3 t) (iblk m c 4 t) (iblk m c 5 t) (iblk m c 6 t) (iblk m c 7 t) (iblk m c 10 t) (iblk m c 11 t)) (outsAt0 m c (t.val - 1) (Nat.lt_of_le_of_lt (Nat.sub_le t.val 1) t.isLt)).2 := fun t h0 => by
    rw [outsAt0_B m c t h0]
    dsimp only
    exact out_B13 ..
  induction n with
  | zero =>
    refine (congrFun (o2A ⟨0, hn⟩ (Nat.zero_mod _)) _).trans ((step ⟨0, hn⟩ _).trans ?_)
    rw [pay3_apply]
    simp
  | succ n ih =>
    have h0 : ¬ (n + 1) % 16 = 0 := by omega
    refine (congrFun (o2B ⟨n + 1, hn⟩ h0) _).trans ((step ⟨n + 1, hn⟩ _).trans ?_)
    rw [Finset.sum_range_succ]
    exact congrArg (· + dwb m c (n + 1) j) (ih (by omega))

/-- The input gradient, as an array. -/
def GX : FVec Ideal S8192x1024 .f32 := fun i => gxv m c (i 0) (i 1)

/-- The gradient of the norm's weight, as an array. -/
def GW : FVec Ideal S1x1024 .f32 := fun i => ∑ r, dwv m c r (i 1)

theorem at12 : ∀ t : Fin cfg0.N, win0_12.index t = ![t.val, 0] := (by decide +kernel : ∀ t : Fin grid0.N, win0_12.index t = ![t.val, 0])

theorem final12 : (dats m 0 c).arrAt 12 cfg0.N = GX m c := by
  refine (dats m 0 c).arrAt_eq_of_covers 12 _ (by decide +kernel) fun t hf y => ?_
  obtain ⟨p, j, rfl⟩ : ∃ (p : Fin 512) (j : Fin 1024), y = ix2 p j := ⟨y 0, y 1, eq_ix2 y⟩
  blk_simp
  have hy : ((win0_12.blk t).view.emb (ix2 p j) : S8192x1024.Idx) = ix2 (row t.val t.isLt p) j := by
    refine funext fun a => Fin.ext ?_
    fin_cases a <;> blk_simp [at12] <;> simp [row] <;> omega
  exact (outs1 m c t p j).trans (congrArg (GX m c) hy).symm

theorem at13 : ∀ t : Fin cfg0.N, win0_13.index t = ![0, 0] := (by decide +kernel : ∀ t : Fin grid0.N, win0_13.index t = ![0, 0])

/-- The sixteen points' sums are the sum over all rows. -/
theorem dw_total (j : Fin 1024) : ∑ s ∈ Finset.range 16, dwb m c s j = ∑ r, dwv m c r j := by
  have hN : cfg0.N = 16 := N_0
  rw [Finset.sum_range, Fin.sum_univ_tiles 16 512 rfl]
  refine Finset.sum_congr rfl fun s _ => ?_
  unfold dwb
  rw [dif_pos (by omega)]
  refine Finset.sum_congr rfl fun p _ => ?_
  congr 1
  apply Fin.ext
  show 512 * s.val + p.val = s.val * 512 + p.val
  omega

theorem final13 : (dats m 0 c).arrAt 13 cfg0.N = GW m c := by
  refine (dats m 0 c).arrAt_eq_of_covers 13 _ (by decide +kernel) fun t hf y => ?_
  obtain ⟨p, j, rfl⟩ : ∃ (p : Fin 1) (j : Fin 1024), y = ix2 p j := ⟨y 0, y 1, eq_ix2 y⟩
  blk_simp
  have hy : ((win0_13.blk t).view.emb (ix2 p j) : S1x1024.Idx) = ix2 p j := by
    refine funext fun a => Fin.ext ?_
    fin_cases a <;> blk_simp [at13] <;> simp
  have h15 : t.val = 15 := by have hN : cfg0.N = 16 := N_0; have := (flush0_13 t).mp hf; have := t.isLt; omega
  refine (outs2 m c t.val t.isLt p j).trans (Eq.trans ?_ (congrArg (GW m c) hy).symm)
  rw [h15, dw_total]
  rfl

end Cert.KernelIdeal.In
-- ==== Proof.Finite.lean ====
module

public import proofs.«01_k».proof.Proof.Gen.Pre_finite
public import proofs.«01_k».proof.Proof.Real
public import Idealize.ShloMosaic.Lib.ReduceAll
public import Idealize.ShloMosaic.Lib.Affine

@[expose] public section

set_option maxRecDepth 16384

noncomputable section

open Idealize.ShloMosaic

/-! What the precondition says: every element of the arrays it names is a real number. -/

namespace Cert.RealFacts

theorem bits_inf : Ideal.ofBits .f32 0x7F800000#32 = ⊤ := by
  simp [Ideal.ofBits, Ideal.ieee]

/-- An extended real whose absolute value is below the infinity is a real number. -/
theorem fin_of_lt {x : EReal} (h : max x (-x) < ⊤) : Fin' x := by
  have h1 : x ≠ ⊤ := by
    rintro rfl
    simp at h
  have h2 : x ≠ ⊥ := by
    rintro rfl
    simp at h
  exact ⟨x.toReal, (EReal.coe_toReal h1 h2).symm⟩

/-- The test "every absolute value is below the infinity", passed. -/
theorem all_fin {s u t : Shape} {axes : List (Fin s.rank)} [Subsingleton t.Idx] (x b : FVec Ideal s .f32) (one : IVec u 1) (h : s.ReducesTo axes t) (hu : 0 < u.numel)
    (hb : ∀ i, b i = ⊤) (j : t.Idx)
    (e : Host.reduce IntOp.andi (cmpf .olt (Host.absf x) b) one h hu j = 1#1) (i : s.Idx) : Fin' (x i) := by
  have h1 := Host.reduce_andi_all _ _ h hu j e i
  apply fin_of_lt
  by_contra hn
  have h2 : BitVec.ofBool (decide (max (x i) (-(x i)) < b i)) = 1#1 := by
    refine Eq.trans ?_ h1
    rfl
  rw [hb i, decide_eq_false hn] at h2
  exact absurd h2 (by decide)

end Cert.RealFacts
-- ==== Proof.InFinal.lean ====
module

public import proofs.«01_k».proof.Proof.InRun
public import proofs.«01_k».proof.Proof.Finite

@[expose] public section

set_option maxRecDepth 16384

noncomputable section

open Idealize.ShloMosaic Idealize.ShloMosaic.TcCoe Idealize.SL.Sem

/-! The input gradient's kernel and the differentiated input projection give the same arrays. -/

namespace Cert.In

open Cert.RealFacts Cert.KernelIdeal.In Cert.KernelIdeal.Gen

/-- The precondition, argument by argument. -/
theorem finite_args (x0 : FVec Ideal Cert.Pre_finite.S1x8192x1024 .f32) (x1 : FVec Ideal Cert.Pre_finite.S1x1024 .f32)
    (x2 : FVec Ideal Cert.Pre_finite.S1x1024x5648 .f32) (x3 x4 : FVec Ideal Cert.Pre_finite.S1x8192x1024 .f32)
    (x5 : FVec Ideal Cert.Pre_finite.S1x8192x1536 .f32) (x6 : FVec Ideal Cert.Pre_finite.S1x8192x16 .f32)
    (x7 x8 : FVec Ideal Cert.Pre_finite.S1x8192x512 .f32) (x9 x10 : FVec Ideal Cert.Pre_finite.S1x8192x1024 .f32)
    (j : Cert.Pre_finite.S_.Idx) (h : Cert.Pre_finite.fn (F := Ideal) x0 x1 x2 x3 x4 x5 x6 x7 x8 x9 x10 j = 1#1) :
    (∀ i, Fin' (x0 i)) ∧ (∀ i, Fin' (x1 i)) ∧ (∀ i, Fin' (x2 i)) ∧ (∀ i, Fin' (x4 i)) ∧ (∀ i, Fin' (x5 i)) ∧ (∀ i, Fin' (x6 i))
      ∧ (∀ i, Fin' (x7 i)) ∧ (∀ i, Fin' (x8 i)) ∧ (∀ i, Fin' (x9 i)) ∧ (∀ i, Fin' (x10 i)) := by
  unfold Cert.Pre_finite.fn Cert.Pre_finite.fn_part1 Cert.Pre_finite.fn_part2 at h
  obtain ⟨h, h10⟩ := IntOp.andi_eq_one.mp h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h2⟩ := IntOp.andi_eq_one.mp h
  obtain ⟨h0, h1⟩ := IntOp.andi_eq_one.mp h
  have sub : Subsingleton Cert.Pre_finite.S_.Idx := ⟨fun a b => funext fun k => k.elim0⟩
  exact ⟨all_fin _ _ _ _ _ (fun _ => bits_inf) _ h0, all_fin _ _ _ _ _ (fun _ => bits_inf) _ h1, all_fin _ _ _ _ _ (fun _ => bits_inf) _ h2,
    all_fin _ _ _ _ _ (fun _ => bits_inf) _ h4, all_fin _ _ _ _ _ (fun _ => bits_inf) _ h5, all_fin _ _ _ _ _ (fun _ => bits_inf) _ h6,
    all_fin _ _ _ _ _ (fun _ => bits_inf) _ h7, all_fin _ _ _ _ _ (fun _ => bits_inf) _ h8, all_fin _ _ _ _ _ (fun _ => bits_inf) _ h9,
    all_fin _ _ _ _ _ (fun _ => bits_inf) _ h10⟩

variable (m : (ℓ : Loc Cert.KernelIdeal.nD Cert.KernelIdeal.τ Cert.KernelIdeal.sig) → Buf (Elt Ideal) ℓ) (c : Dev Cert.KernelIdeal.nD)

theorem gx_eq (h : Cert.Pre_finite.fn (F := Ideal) (xin m c) (w0 m c) (win m c) (dx1 m c) (dz m c) (dxbc m c) (ddt m c) (dq m c) (dk m c) (dv m c) (dg m c) = fun _ => 1#1) :
    Cert.ReferenceIdeal.Read.val_main_v51 (F := Ideal) (xin m c) (w0 m c) (win m c) (dx1 m c) (dz m c) (dxbc m c) (ddt m c) (dq m c) (dk m c) (dv m c) (dg m c)
      = GX m c := by
  obtain ⟨f0, f1, f2, f4, f5, f6, f7, f8, f9, f10⟩ := finite_args _ _ _ _ _ _ _ _ _ _ _ (fun k => k.elim0) (congrFun h _)
  have fd : ∀ r j, Fin' (dhK m c r j) := fun r j => by
    unfold dhK Cert.ReferenceIdeal.In.dh
    have s : ∀ (n : ℕ) (a b : Fin n → EReal), (∀ k, Fin' (a k)) → (∀ k, Fin' (b k)) → Fin' (∑ k, a k * b k) :=
      fun n a b ha hb => Fin'.sum _ _ fun k _ => (ha k).mul (hb k)
    exact (((((((s _ _ _ (fun _ => f4 _) (fun _ => f2 _)).add (s _ _ _ (fun _ => f5 _) (fun _ => f2 _))).add (s _ _ _ (fun _ => f6 _) (fun _ => f2 _))).add
      (s _ _ _ (fun _ => f7 _) (fun _ => f2 _))).add (s _ _ _ (fun _ => f8 _) (fun _ => f2 _))).add (s _ _ _ (fun _ => f9 _) (fun _ => f2 _))).add
      (s _ _ _ (fun _ => f10 _) (fun _ => f2 _)))
  funext i
  obtain ⟨r, j, rfl⟩ : ∃ (r : Fin 8192) (j : Fin 1024), i = ix2 r j := ⟨i 0, i 1, funext fun a => by fin_cases a <;> rfl⟩
  rw [Cert.ReferenceIdeal.In.v51_apply _ _ _ _ _ _ _ _ _ _ _ r j (fun k => dhK m c r k) (fun _ => rfl) (ms m c r) rfl]
  exact (rms_grad (fun k => xin m c (ix3 0 r k)) (fun k => w0 m c (ix2 0 k)) (fun k => dhK m c r k) (fun _ => f0 _) (fun _ => f1 _) (fd r) (dx1 m c (ix3 0 r j)) j).symm

theorem gw_eq : Cert.ReferenceIdeal.Read.val_main_v50 (F := Ideal) (xin m c) (win m c) (dz m c) (dxbc m c) (ddt m c) (dq m c) (dk m c) (dv m c) (dg m c) = GW m c := by
  funext i
  obtain ⟨u, j, rfl⟩ : ∃ (u : Fin 1) (j : Fin 1024), i = ix2 u j := ⟨i 0, i 1, funext fun a => by fin_cases a <;> rfl⟩
  rw [Cert.ReferenceIdeal.In.v50_apply]
  refine Finset.sum_congr rfl fun r _ => ?_
  show _ = dhK m c r j * xin m c (ix3 0 r j) * Ideal.rsqrt (ms m c r)
  rw [mul_comm (dhK m c r j), mul_right_comm]

end Cert.In
-- ==== Proof.FbMath.lean ====
module

public import proofs.«01_k».proof.Proof.Real

@[expose] public section

set_option maxRecDepth 16384

noncomputable section

open Idealize.ShloMosaic Idealize.ShloMosaic.TcCoe Idealize.SL.Sem

/-! The gradients of the feed-forward's entry: two rms norms, the projections around them and the gate's convolution, entry by entry. -/

namespace Cert.FbMath

open Cert.RealFacts

/-- The arguments, read at an index. -/
structure Args where
  x : Fin 8192 → Fin 1024 → EReal
  ys : Fin 8192 → Fin 1024 → EReal
  yr : Fin 8192 → Fin 1024 → EReal
  wo : Fin 2048 → Fin 1024 → EReal
  pm : Fin 1024 → EReal
  pf : Fin 1024 → EReal
  up : Fin 1024 → Fin 5632 → EReal
  cw : Fin 3 → Fin 2816 → EReal
  dg : Fin 8192 → Fin 2816 → EReal
  dv : Fin 8192 → Fin 2816 → EReal
  dx : Fin 8192 → Fin 1024 → EReal

/-- The arguments of the two programs, by entry. -/
def args (x0 x1 x2 : Vec Ideal ⟨3, ![1, 8192, 1024]⟩ .f32) (x3 : Vec Ideal ⟨3, ![1, 2048, 1024]⟩ .f32) (x4 x5 : Vec Ideal ⟨2, ![1, 1024]⟩ .f32)
    (x6 : Vec Ideal ⟨3, ![1, 1024, 5632]⟩ .f32) (x7 : Vec Ideal ⟨3, ![1, 3, 2816]⟩ .f32) (x8 x9 : Vec Ideal ⟨3, ![1, 8192, 2816]⟩ .f32)
    (x10 : Vec Ideal ⟨3, ![1, 8192, 1024]⟩ .f32) : Args where
  x t j := x0 (ix3 0 t j)
  ys t j := x1 (ix3 0 t j)
  yr t j := x2 (ix3 0 t j)
  wo t j := x3 (ix3 0 t j)
  pm j := x4 (ix2 0 j)
  pf j := x5 (ix2 0 j)
  up t j := x6 (ix3 0 t j)
  cw t j := x7 (ix3 0 t j)
  dg t j := x8 (ix3 0 t j)
  dv t j := x9 (ix3 0 t j)
  dx t j := x10 (ix3 0 t j)

/-- The inverse root of a row's mean square. -/
def rs (x : Fin 1024 → EReal) : EReal := Ideal.rsqrt (msq x)

/-- The gradient of a row's rms norm as the kernel computes it. -/
def rk (x w h : Fin 1024 → EReal) (j : Fin 1024) : EReal :=
  rs x * (h j * w j) - x j * (rs x * rs x * rs x) * Ideal.div (∑ k, h k * w k * x k) (Ideal.ofBits .f32 0x44800000#32)

/-- What differentiation has for the derivative of the mean square, at every entry of the row. -/
def rm (x w h : Fin 1024 → EReal) : EReal :=
  Ideal.div ((∑ k, x k * (h k * w k)) * (Ideal.ofBits .f32 0xBF000000#32 * Ideal.div (rs x) (msq x))) (Ideal.ofBits .f32 0x44800000#32)

variable (a : Args)

def Y (t : Fin 8192) (j : Fin 1024) : EReal :=
  ∑ k : Fin 1024, a.ys t k * a.wo ⟨k, by omega⟩ j + ∑ k : Fin 1024, a.yr t k * a.wo ⟨1024 + k, by omega⟩ j
def X1 (t : Fin 8192) (j : Fin 1024) : EReal := a.x t j + Y a t j * rs (Y a t) * a.pm j
def G (t : Fin 8192) (j : Fin 2816) : EReal := ∑ k : Fin 1024, X1 a t k * rs (X1 a t) * a.pf k * a.up k ⟨j, by omega⟩
/-- The gate's gradient after the convolution, with nothing past the last row. -/
def D (r : Nat) (j : Fin 2816) : EReal := if h : r < 8192 then a.dg ⟨r, h⟩ j else 0
def DG (t : Fin 8192) (j : Fin 2816) : EReal := a.cw 0 j * D a (t.val + 2) j + a.cw 1 j * D a (t.val + 1) j + a.cw 2 j * D a t.val j
def DH (t : Fin 8192) (j : Fin 1024) : EReal := ∑ k : Fin 2816, DG a t k * a.up j ⟨k, by omega⟩ + ∑ k : Fin 2816, a.dv t k * a.up j ⟨2816 + k, by omega⟩
def DX (t : Fin 8192) (j : Fin 1024) : EReal := a.dx t j + rk (X1 a t) a.pf (DH a t) j
def DY (t : Fin 8192) (j : Fin 1024) : EReal := rk (Y a t) a.pm (DX a t) j
def DS (t : Fin 8192) (j : Fin 1024) : EReal := ∑ k : Fin 1024, DY a t k * a.wo ⟨j, by omega⟩ k
def DR (t : Fin 8192) (j : Fin 1024) : EReal := ∑ k : Fin 1024, DY a t k * a.wo ⟨1024 + j, by omega⟩ k
def DC (q : Fin 8) (j : Fin 2816) : EReal := if q.val < 3 then ∑ t : Fin 8192, D a (t.val + (2 - q.val)) j * G a t j else 0
def DF (j : Fin 1024) : EReal := ∑ t : Fin 8192, DH a t j * X1 a t j * rs (X1 a t)
def DM (j : Fin 1024) : EReal := ∑ t : Fin 8192, DX a t j * Y a t j * rs (Y a t)

/-- Every argument is a real number. -/
def Args.Real : Prop :=
  (∀ t j, Fin' (a.x t j)) ∧ (∀ t j, Fin' (a.ys t j)) ∧ (∀ t j, Fin' (a.yr t j)) ∧ (∀ t j, Fin' (a.wo t j)) ∧ (∀ j, Fin' (a.pm j)) ∧ (∀ j, Fin' (a.pf j))
    ∧ (∀ t j, Fin' (a.up t j)) ∧ (∀ t j, Fin' (a.cw t j)) ∧ (∀ t j, Fin' (a.dg t j)) ∧ (∀ t j, Fin' (a.dv t j)) ∧ (∀ t j, Fin' (a.dx t j))

theorem rs_fin {x : Fin 1024 → EReal} (hx : ∀ k, Fin' (x k)) : Fin' (rs x) := by
  obtain ⟨y, rfl⟩ := lift hx
  obtain ⟨s, hs, h⟩ := msq_coe y
  unfold rs
  rw [h, rsqrt_coe hs]
  exact ⟨_, rfl⟩

theorem div_fin {x : EReal} (hx : Fin' x) : Fin' (Ideal.div x (Ideal.ofBits .f32 0x44800000#32)) := by
  obtain ⟨y, rfl⟩ := hx
  rw [bits_1024, Ideal.div_coe (by norm_num)]
  exact ⟨_, by rw [EReal.coe_mul]⟩

theorem rk_fin {x w h : Fin 1024 → EReal} (hx : ∀ k, Fin' (x k)) (hw : ∀ k, Fin' (w k)) (hh : ∀ k, Fin' (h k)) (j : Fin 1024) : Fin' (rk x w h j) := by
  have r := rs_fin hx
  exact (r.mul ((hh j).mul (hw j))).sub (((hx j).mul ((r.mul r).mul r)).mul
    (div_fin (Fin'.sum _ _ fun k _ => ((hh k).mul (hw k)).mul (hx k))))

variable {a}

theorem Y_fin (h : a.Real) (t j) : Fin' (Y a t j) :=
  (Fin'.sum _ _ fun k _ => (h.2.1 t k).mul (h.2.2.2.1 _ j)).add (Fin'.sum _ _ fun k _ => (h.2.2.1 t k).mul (h.2.2.2.1 _ j))

theorem X1_fin (h : a.Real) (t j) : Fin' (X1 a t j) := (h.1 t j).add (((Y_fin h t j).mul (rs_fin (Y_fin h t))).mul (h.2.2.2.2.1 j))

theorem D_fin (h : a.Real) (r j) : Fin' (D a r j) := by
  unfold D
  split
  exacts [h.2.2.2.2.2.2.2.2.1 _ _, Fin'.zero]

theorem DG_fin (h : a.Real) (t j) : Fin' (DG a t j) := by
  have c := h.2.2.2.2.2.2.2.1
  exact (((c 0 j).mul (D_fin h _ j)).add ((c 1 j).mul (D_fin h _ j))).add ((c 2 j).mul (D_fin h _ j))

theorem DH_fin (h : a.Real) (t j) : Fin' (DH a t j) :=
  (Fin'.sum _ _ fun k _ => (DG_fin h t k).mul (h.2.2.2.2.2.2.1 _ _)).add (Fin'.sum _ _ fun k _ => (h.2.2.2.2.2.2.2.2.2.1 t k).mul (h.2.2.2.2.2.2.1 _ _))

theorem DX_fin (h : a.Real) (t j) : Fin' (DX a t j) := (h.2.2.2.2.2.2.2.2.2.2 t j).add (rk_fin (X1_fin h t) h.2.2.2.2.2.1 (DH_fin h t) j)

/-- The two forms of an rms norm's gradient agree on real numbers. -/
theorem rk_eq {x w h : Fin 1024 → EReal} (hx : ∀ k, Fin' (x k)) (hw : ∀ k, Fin' (w k)) (hh : ∀ k, Fin' (h k)) (b : EReal) (j : Fin 1024) :
    b + h j * w j * rs x + x j * rm x w h + rm x w h * x j = b + rk x w h j :=
  (rms_grad x w h hx hw hh b j).symm

theorem DX_eq (h : a.Real) (t : Fin 8192) (j : Fin 1024) :
    a.dx t j + DH a t j * a.pf j * rs (X1 a t) + X1 a t j * rm (X1 a t) a.pf (DH a t) + rm (X1 a t) a.pf (DH a t) * X1 a t j = DX a t j :=
  rk_eq (X1_fin h t) h.2.2.2.2.2.1 (DH_fin h t) _ j

theorem DY_eq (h : a.Real) (t : Fin 8192) (j : Fin 1024) :
    DX a t j * a.pm j * rs (Y a t) + Y a t j * rm (Y a t) a.pm (DX a t) + rm (Y a t) a.pm (DX a t) * Y a t j = DY a t j := by
  have e := rk_eq (Y_fin h t) h.2.2.2.2.1 (DX_fin h t) 0 j
  rw [zero_add, zero_add] at e
  exact e

end Cert.FbMath
-- ==== Proof.FbOut.lean ====
module

public import proofs.«01_k».proof.Defs
public import proofs.«01_k».proof.Proof.Gen.Kernel2Ideal.Frame
public import proofs.«01_k».proof.Proof.Real
public import Idealize.ShloMosaic.Lib.Pipeline.Value
public import Idealize.ShloMosaic.Lib.WritesUnit
public import Idealize.ShloMosaic.Lib.VecWindow
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

/-! What one point of the feed-forward's second backward kernel stores, as functions of its blocks. -/

namespace Cert.Kernel2Ideal.Fb

open Cert.Kernel2Ideal Cert.Kernel2Ideal.Gen

variable {F : FTy → Type} [FloatOps F]

theorem hz : (![0, 0] : Fin 2 → Nat) = fun _ => 0 := funext fun a => by fin_cases a <;> rfl

theorem ldz {Val : EltTy → Type} {e : EltTy} {n k : ℕ} (X : (⟨2, ![n, k]⟩ : Shape).Idx → Val e) (inb) : View.ld X (Rect.unit (s := ⟨2, ![n, k]⟩) ![0, 0] ![n, k] inb) = X :=
  View.ld_unit_zero (S := ⟨2, ![n, k]⟩) hz inb X

theorem rcz {Val : EltTy → Type} [∀ e, Nonempty (Val e)] {sig : RefSig} {κ : Kind} {sp : Space} {e : EltTy} {n k : ℕ} (v : View sig κ sp ⟨2, ![n, k]⟩ e) (inb) (w : (⟨2, ![n, k]⟩ : Shape).Idx → Val e) :
    v.readCov [(⟨Rect.unit ![0, 0] ![n, k] inb, w⟩ : View.Piece Val ⟨2, ![n, k]⟩ e)] (Rect.unit ![0, 0] ![n, k] inb).toLoadRect = w :=
  View.readCov_unit_zero (S := ⟨2, ![n, k]⟩) v hz inb w

/-- The gate's gradient before the convolution, one block, over the rows `cy` carried from the block after it. -/
def DG (x0 : Vec F S256x2816 .bf16) (cy : Vec F S8x2816 .f32) (x6 : Vec F S8x2816 .f32) : Vec F S256x2816 .bf16 :=
  k0_pay19 (k0_pay8 x0 cy) (k0_pay12 x0 cy (View.ld x6 (Rect.unit (s := S8x2816) ![0, 0] S1x2816.size inb_S8x2816_S1x2816_0_0))) (k0_pay14 x0 cy) (k0_pay15 (View.ld x6 (Rect.unit (s := S8x2816) ![1, 0] S1x2816.size inb_S8x2816_S1x2816_1_0))) (View.ld x6 (Rect.unit (s := S8x2816) ![2, 0] S1x2816.size inb_S8x2816_S1x2816_2_0))

/-- The gradient of the second norm's output, one block. -/
def DH (x0 : Vec F S256x2816 .bf16) (cy : Vec F S8x2816 .f32) (x6 : Vec F S8x2816 .f32) (x1 : Vec F S256x2816 .bf16) (x7 : Vec F S5632x1024 .bf16) : FVec F S256x1024 .f32 :=
  k0_pay20 (k0_pay8 x0 cy) (k0_pay12 x0 cy (View.ld x6 (Rect.unit (s := S8x2816) ![0, 0] S1x2816.size inb_S8x2816_S1x2816_0_0))) (k0_pay14 x0 cy) (k0_pay15 (View.ld x6 (Rect.unit (s := S8x2816) ![1, 0] S1x2816.size inb_S8x2816_S1x2816_1_0))) (View.ld x6 (Rect.unit (s := S8x2816) ![2, 0] S1x2816.size inb_S8x2816_S1x2816_2_0)) (View.ld x7 (Rect.unit (s := S5632x1024) ![0, 0] S2816x1024.size inb_S5632x1024_S2816x1024_0_0)) x1 (View.ld x7 (Rect.unit (s := S5632x1024) ![2816, 0] S2816x1024.size inb_S5632x1024_S2816x1024_2816_0))

/-- The residual stream's gradient between the two sub-layers, one block. -/
def DX (x0 : Vec F S256x2816 .bf16) (cy : Vec F S8x2816 .f32) (x6 : Vec F S8x2816 .f32) (x1 : Vec F S256x2816 .bf16) (x3 x4 : Vec F S256x1024 .f32) (x7 : Vec F S5632x1024 .bf16) (x8 : Vec F S1x1024 .f32) : FVec F S256x1024 .f32 :=
  k0_pay24 (DH x0 cy x6 x1 x7) x3 x8 x4

/-- The gradient of the mixers' projected output, one block. -/
def DY (x0 : Vec F S256x2816 .bf16) (cy : Vec F S8x2816 .f32) (x6 : Vec F S8x2816 .f32) (x1 : Vec F S256x2816 .bf16) (x3 x4 x5 : Vec F S256x1024 .f32) (x7 : Vec F S5632x1024 .bf16) (x8 x9 : Vec F S1x1024 .f32) : FVec F S256x1024 .bf16 :=
  k0_pay28 (DX x0 cy x6 x1 x3 x4 x7 x8) x5 x9

/-- Three rows stored one by one over a block. -/
def RW (w0 w1 w2 : FVec F S1x2816 .f32) (b : Vec F S8x2816 .f32) : Vec F S8x2816 .f32 := fun y =>
  if (y 0).val = 2 then w2 (ix2 0 (y 1))
  else if (y 0).val = 1 then w1 (ix2 0 (y 1))
  else if (y 0).val = 0 then w0 (ix2 0 (y 1))
  else b y

theorem rows3 {κ : Kind} {sp : Space} (v : View sig κ sp S8x2816 .f32) (f : v.ty.Contents (Elt F)) (w0 w1 w2 : FVec F S1x2816 .f32)
    (L : List (View.Piece (Elt F) S8x2816 .f32)) (i2 i1 i0) :
    v.read (Elt F) (v.writes (Elt F) f (⟨Rect.unit (s := S8x2816) ![2, 0] S1x2816.size i2, w2⟩ :: ⟨Rect.unit (s := S8x2816) ![1, 0] S1x2816.size i1, w1⟩
        :: ⟨Rect.unit (s := S8x2816) ![0, 0] S1x2816.size i0, w0⟩ :: L))
      = RW w0 w1 w2 (v.read (Elt F) (v.writes (Elt F) f L)) := by
  funext y
  unfold RW
  have hh : ∀ o : Nat, (y (0 : Fin 2)).val ≠ o → (y (0 : Fin 2)).val < o ∨ o + 1 ≤ (y (0 : Fin 2)).val := fun o h => by omega
  by_cases h2 : (y (0 : Fin 2)).val = 2
  · rw [if_pos h2]
    exact View.read_writes_cons_rows_of_mem v f _ _ _ y _ rfl h2 rfl
  rw [if_neg h2, View.read_writes_cons_rows_of_not_mem v f _ _ _ y rfl (W := 1) rfl (hh 2 h2)]
  by_cases h1 : (y (0 : Fin 2)).val = 1
  · rw [if_pos h1]
    exact View.read_writes_cons_rows_of_mem v f _ _ _ y _ rfl h1 rfl
  rw [if_neg h1, View.read_writes_cons_rows_of_not_mem v f _ _ _ y rfl (W := 1) rfl (hh 1 h1)]
  by_cases h0 : (y (0 : Fin 2)).val = 0
  · rw [if_pos h0]
    exact View.read_writes_cons_rows_of_mem v f _ _ _ y _ rfl h0 rfl
  rw [if_neg h0, View.read_writes_cons_rows_of_not_mem v f _ _ _ y rfl (W := 1) rfl (hh 0 h0)]

theorem covFill {κ : Kind} {sp : Space} (v : View sig κ sp S8x2816 .f32) (i0) (Z : S8x2816.Idx → Elt F .f32) (L : List (View.Piece (Elt F) S8x2816 .f32)) (r : Rect S8x2816) :
    v.readCov ((⟨Rect.unit (s := S8x2816) ![0, 0] ![8, 2816] i0, Z⟩ : View.Piece (Elt F) S8x2816 .f32) :: L) r.toLoadRect = View.ld Z r :=
  View.readCov_fill v i0 Z L r (by decide)

theorem covSkip {κ : Kind} {sp : Space} (v : View sig κ sp S8x2816 .f32) (o o' : Nat) (h : o + 1 ≤ o' ∨ o' + 1 ≤ o) (i0 i1) (Z : FVec F S1x2816 .f32)
    (L : List (View.Piece (Elt F) S8x2816 .f32)) :
    v.readCov ((⟨Rect.unit (s := S8x2816) ![o, 0] ![1, 2816] i0, Z⟩ : View.Piece (Elt F) S8x2816 .f32) :: L) (Rect.unit (s := S8x2816) ![o', 0] ![1, 2816] i1).toLoadRect
      = v.readCov L (Rect.unit (s := S8x2816) ![o', 0] ![1, 2816] i1).toLoadRect :=
  View.readCov_cons_of_disjoint v _ L _ (Rect.unit_disjoint (inb := i0) (inb' := i1) 0 h)

theorem readFill {κ : Kind} {sp : Space} (v : View sig κ sp S8x2816 .f32) (f : v.ty.Contents (Elt F)) (i0) (Z : S8x2816.Idx → Elt F .f32) (L : List (View.Piece (Elt F) S8x2816 .f32)) :
    v.read (Elt F) (v.writes (Elt F) f ((⟨Rect.unit (s := S8x2816) ![0, 0] ![8, 2816] i0, Z⟩ : View.Piece (Elt F) S8x2816 .f32) :: L)) = Z :=
  View.read_writes_full v f i0 Z L

variable (c : Dev nD) (i : grid0.Coords) (a1 : Memref sig .tc .vmem S256x2816 .bf16) (h1 : a1.IsWhole) (a2 : Memref sig .tc .vmem S256x2816 .bf16) (h2 : a2.IsWhole) (a3 : Memref sig .tc .vmem S256x2816 .bf16) (h3 : a3.IsWhole) (a4 : Memref sig .tc .vmem S256x1024 .f32) (h4 : a4.IsWhole) (a5 : Memref sig .tc .vmem S256x1024 .f32) (h5 : a5.IsWhole) (a6 : Memref sig .tc .vmem S256x1024 .f32) (h6 : a6.IsWhole) (a7 : Memref sig .tc .vmem S8x2816 .f32) (h7 : a7.IsWhole) (a8 : Memref sig .tc .vmem S5632x1024 .bf16) (h8 : a8.IsWhole) (a9 : Memref sig .tc .vmem S1x1024 .f32) (h9 : a9.IsWhole) (a10 : Memref sig .tc .vmem S1x1024 .f32) (h10 : a10.IsWhole) (a11 : Memref sig .tc .vmem S2048x1024 .bf16) (h11 : a11.IsWhole) (a12 : Memref sig .tc .vmem S256x2816 .bf16) (h12 : a12.IsWhole) (a13 : Memref sig .tc .vmem S256x1024 .f32) (h13 : a13.IsWhole) (a14 : Memref sig .tc .vmem S256x1024 .bf16) (h14 : a14.IsWhole) (a15 : Memref sig .tc .vmem S256x1024 .bf16) (h15 : a15.IsWhole) (a16 : Memref sig .tc .vmem S256x1024 .bf16) (h16 : a16.IsWhole) (a17 : Memref sig .tc .vmem S8x2816 .f32) (h17 : a17.IsWhole) (a18 : Memref sig .tc .vmem S1x1024 .f32) (h18 : a18.IsWhole) (a19 : Memref sig .tc .vmem S1x1024 .f32) (h19 : a19.IsWhole) (a20 : Memref sig .tc .vmem S8x2816 .f32) (h20 : a20.IsWhole) (hA : cond0_0 i) (hB : ¬cond0_0 i)
  (x0 : Vec F S256x2816 .bf16) (x1 : Vec F S256x2816 .bf16) (x2 : Vec F S256x2816 .bf16) (x3 : Vec F S256x1024 .f32) (x4 : Vec F S256x1024 .f32) (x5 : Vec F S256x1024 .f32) (x6 : Vec F S8x2816 .f32) (x7 : Vec F S5632x1024 .bf16) (x8 : Vec F S1x1024 .f32) (x9 : Vec F S1x1024 .f32) (x10 : Vec F S2048x1024 .bf16) (xo16 : Vec F S8x2816 .f32) (xo17 : Vec F S1x1024 .f32) (xo18 : Vec F S1x1024 .f32) (xs0 : Vec F S8x2816 .f32)

theorem out_A11 : out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10
    = DG x0 k0_pay3 x6 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10)]
  unfold kernelRun0_A
  dsimp only
  sl_unfold_words
  rw [View.canon_unit_zero (S := S256x2816) hz]
  simp only [rcz, View.readAt_eq_ld, Memref.IsWhole.read_unread, ldz]
  rfl

theorem out_A12 : out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10
    = DX x0 k0_pay3 x6 x1 x3 x4 x7 x8 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10)]
  unfold kernelRun0_A
  dsimp only
  sl_unfold_words
  rw [View.canon_unit_zero (S := S256x1024) hz]
  simp only [rcz, View.readAt_eq_ld, Memref.IsWhole.read_unread, ldz]
  rfl

theorem out_A13 : out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10
    = DY x0 k0_pay3 x6 x1 x3 x4 x5 x7 x8 x9 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10)]
  unfold kernelRun0_A
  dsimp only
  sl_unfold_words
  rw [View.canon_unit_zero (S := S256x1024) hz]
  simp only [rcz, View.readAt_eq_ld, Memref.IsWhole.read_unread, ldz]
  rfl

theorem out_A14 : out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10
    = k0_pay1 (DY x0 k0_pay3 x6 x1 x3 x4 x5 x7 x8 x9) (k0_pay29 (View.ld x10 (Rect.unit (s := S2048x1024) ![0, 0] S1024x1024.size inb_S2048x1024_S1024x1024_0_0))) (constant S256x1024 .f32 0x00000000#32) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10)]
  unfold kernelRun0_A
  dsimp only
  sl_unfold_words
  rw [View.canon_unit_zero (S := S256x1024) hz]
  simp only [rcz, View.readAt_eq_ld, Memref.IsWhole.read_unread, ldz]
  rfl

theorem out_A15 : out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10
    = k0_pay2 (DY x0 k0_pay3 x6 x1 x3 x4 x5 x7 x8 x9) (View.ld x10 (Rect.unit (s := S2048x1024) ![1024, 0] S1024x1024.size inb_S2048x1024_S1024x1024_1024_0)) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10)]
  unfold kernelRun0_A
  dsimp only
  sl_unfold_words
  rw [View.canon_unit_zero (S := S256x1024) hz]
  simp only [rcz, View.readAt_eq_ld, Memref.IsWhole.read_unread, ldz]
  rfl

theorem out_A17 : out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10
    = k0_pay23 (DH x0 k0_pay3 x6 x1 x7) x3 k0_pay5 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10)]
  unfold kernelRun0_A
  dsimp only
  sl_unfold_words
  rw [View.canon_cons_unit_zero (S := S1x1024) hz]
  simp only [rcz, View.readAt_eq_ld, Memref.IsWhole.read_unread, ldz]
  rfl

theorem out_A18 : out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10
    = k0_pay27 (DX x0 k0_pay3 x6 x1 x3 x4 x7 x8) x5 k0_pay6 := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10)]
  unfold kernelRun0_A
  dsimp only
  sl_unfold_words
  rw [View.canon_cons_unit_zero (S := S1x1024) hz]
  simp only [rcz, View.readAt_eq_ld, Memref.IsWhole.read_unread, ldz]
  rfl

theorem out_A16 : out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10
    = RW (k0_pay13 x0 k0_pay3 x2 (View.ld k0_pay4 (Rect.unit (s := S8x2816) ![0, 0] S1x2816.size inb_S8x2816_S1x2816_0_0))) (k0_pay16 (k0_pay10 x2) (k0_pay14 x0 k0_pay3) (View.ld k0_pay4 (Rect.unit (s := S8x2816) ![1, 0] S1x2816.size inb_S8x2816_S1x2816_1_0))) (k0_pay18 (k0_pay8 x0 k0_pay3) (k0_pay10 x2) (View.ld k0_pay4 (Rect.unit (s := S8x2816) ![2, 0] S1x2816.size inb_S8x2816_S1x2816_2_0))) k0_pay4 := by
  unfold out0_A_16 kernelRun0_A
  dsimp only
  sl_unfold_words
  refine (rows3 _ _ _ _ _ _ _ _ _).trans ?_
  simp only [↓covSkip _ 0 1 (by decide), ↓covSkip _ 0 2 (by decide), ↓covSkip _ 1 2 (by decide), covFill, readFill, rcz, View.readAt_eq_ld, Memref.IsWhole.read_unread, ldz]

theorem sout_A : sout0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10
    = k0_pay9 x0 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hA x0 x1 x2 x3 x4 x5 x6 x7 x8 x9 x10)]
  unfold kernelRun0_A
  dsimp only
  sl_unfold_words
  rw [View.canon_cons_unit_zero (S := S8x2816) hz]
  simp only [rcz, View.readAt_eq_ld, Memref.IsWhole.read_unread, ldz]

theorem out_B11 : out0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0
    = DG x0 xs0 x6 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0)]
  unfold kernelRun0_B
  dsimp only
  sl_unfold_words
  rw [View.canon_unit_zero (S := S256x2816) hz]
  simp only [rcz, View.readAt_eq_ld, Memref.IsWhole.read_unread, ldz]
  rfl

theorem out_B12 : out0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0
    = DX x0 xs0 x6 x1 x3 x4 x7 x8 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0)]
  unfold kernelRun0_B
  dsimp only
  sl_unfold_words
  rw [View.canon_unit_zero (S := S256x1024) hz]
  simp only [rcz, View.readAt_eq_ld, Memref.IsWhole.read_unread, ldz]
  rfl

theorem out_B13 : out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0
    = DY x0 xs0 x6 x1 x3 x4 x5 x7 x8 x9 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0)]
  unfold kernelRun0_B
  dsimp only
  sl_unfold_words
  rw [View.canon_unit_zero (S := S256x1024) hz]
  simp only [rcz, View.readAt_eq_ld, Memref.IsWhole.read_unread, ldz]
  rfl

theorem out_B14 : out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0
    = k0_pay1 (DY x0 xs0 x6 x1 x3 x4 x5 x7 x8 x9) (k0_pay29 (View.ld x10 (Rect.unit (s := S2048x1024) ![0, 0] S1024x1024.size inb_S2048x1024_S1024x1024_0_0))) (constant S256x1024 .f32 0x00000000#32) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0)]
  unfold kernelRun0_B
  dsimp only
  sl_unfold_words
  rw [View.canon_unit_zero (S := S256x1024) hz]
  simp only [rcz, View.readAt_eq_ld, Memref.IsWhole.read_unread, ldz]
  rfl

theorem out_B15 : out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0
    = k0_pay2 (DY x0 xs0 x6 x1 x3 x4 x5 x7 x8 x9) (View.ld x10 (Rect.unit (s := S2048x1024) ![1024, 0] S1024x1024.size inb_S2048x1024_S1024x1024_1024_0)) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0)]
  unfold kernelRun0_B
  dsimp only
  sl_unfold_words
  rw [View.canon_unit_zero (S := S256x1024) hz]
  simp only [rcz, View.readAt_eq_ld, Memref.IsWhole.read_unread, ldz]
  rfl

theorem out_B17 : out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0
    = k0_pay23 (DH x0 xs0 x6 x1 x7) x3 xo17 := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0)]
  unfold kernelRun0_B
  dsimp only
  sl_unfold_words
  rw [View.canon_unit_zero (S := S1x1024) hz]
  simp only [rcz, View.readAt_eq_ld, Memref.IsWhole.read_unread, ldz]
  rfl

theorem out_B18 : out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0
    = k0_pay27 (DX x0 xs0 x6 x1 x3 x4 x7 x8) x5 xo18 := by
  unfold out0_B_18
  rw [View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0)]
  unfold kernelRun0_B
  dsimp only
  sl_unfold_words
  rw [View.canon_unit_zero (S := S1x1024) hz]
  simp only [rcz, View.readAt_eq_ld, Memref.IsWhole.read_unread, ldz]
  rfl

theorem out_B16 : out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0
    = RW (k0_pay13 x0 xs0 x2 (View.ld xo16 (Rect.unit (s := S8x2816) ![0, 0] S1x2816.size inb_S8x2816_S1x2816_0_0))) (k0_pay16 (k0_pay10 x2) (k0_pay14 x0 xs0) (View.ld xo16 (Rect.unit (s := S8x2816) ![1, 0] S1x2816.size inb_S8x2816_S1x2816_1_0))) (k0_pay18 (k0_pay8 x0 xs0) (k0_pay10 x2) (View.ld xo16 (Rect.unit (s := S8x2816) ![2, 0] S1x2816.size inb_S8x2816_S1x2816_2_0))) xo16 := by
  unfold out0_B_16 kernelRun0_B
  dsimp only
  sl_unfold_words
  refine (rows3 _ _ _ _ _ _ _ _ _).trans ?_
  simp only [View.writes_nil, rcz, View.readAt_eq_ld, Memref.IsWhole.read_unread, ldz]

theorem sout_B : sout0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0
    = k0_pay9 x0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hB x0 x1 x2 x3 x4 x5 x6 x7 x8 x9 x10 xo16 xo17 xo18 xs0)]
  unfold kernelRun0_B
  dsimp only
  sl_unfold_words
  rw [View.canon_unit_zero (S := S8x2816) hz]
  simp only [rcz, View.readAt_eq_ld, Memref.IsWhole.read_unread, ldz]

end Cert.Kernel2Ideal.Fb
-- ==== Proof.FbPoint.lean ====
module

public import proofs.«01_k».proof.Proof.FbOut
public import proofs.«01_k».proof.Proof.Real

@[expose] public section

set_option maxRecDepth 16384

noncomputable section

open Idealize.ShloMosaic Idealize.ShloMosaic.TcCoe Idealize.SL.Sem

/-! One block of the feed-forward's second backward kernel read at an index, over the extended reals. -/

namespace Cert.Kernel2Ideal.Fb

open Cert.Kernel2Ideal Cert.Kernel2Ideal.Gen Cert.RealFacts

variable (x0 x1 x2 : Vec Ideal S256x2816 .bf16) (cy x6 : Vec Ideal S8x2816 .f32) (x3 x4 x5 : Vec Ideal S256x1024 .f32)
  (x7 : Vec Ideal S5632x1024 .bf16) (x8 x9 : Vec Ideal S1x1024 .f32) (x10 : Vec Ideal S2048x1024 .bf16)

/-- A block's rows followed by the eight carried rows. -/
def EX (r : Nat) (j : Fin 2816) : EReal :=
  if h : r < 256 then x0 (ix2 ⟨r, h⟩ j) else if h : r < 264 then cy (ix2 ⟨r - 256, by omega⟩ j) else 0

theorem pay8_apply (r : Fin 264) (j : Fin 2816) : k0_pay8 x0 cy (ix2 r j) = EX x0 cy r.val j := by
  unfold EX
  unfold_payloads
  pointwise

theorem pay17_apply (p : Fin 256) (j : Fin 2816) : k0_pay17 (k0_pay8 x0 cy) (ix2 p j) = EX x0 cy p.val j := by
  unfold k0_pay17
  pointwise [pay8_apply]

theorem pay14_apply (p : Fin 256) (j : Fin 2816) : k0_pay14 x0 cy (ix2 p j) = EX x0 cy (p.val + 1) j := by
  unfold k0_pay14
  pointwise [pay8_apply]
  rw [show (p.val + 264 - 263) % 264 = p.val + 1 from by omega]

theorem pay11_apply (p : Fin 256) (j : Fin 2816) : k0_pay11 x0 cy (ix2 p j) = EX x0 cy (p.val + 2) j := by
  unfold k0_pay11
  pointwise [pay8_apply]
  rw [show (p.val + 264 - 262) % 264 = p.val + 2 from by omega]

theorem DG_apply (p : Fin 256) (j : Fin 2816) : DG x0 cy x6 (ix2 p j)
    = x6 (ix2 0 j) * EX x0 cy (p.val + 2) j + x6 (ix2 1 j) * EX x0 cy (p.val + 1) j + x6 (ix2 2 j) * EX x0 cy p.val j := by
  unfold DG k0_pay19 k0_pay12 k0_pay15
  pointwise [pay17_apply, pay14_apply, pay11_apply]

theorem DH_apply (p : Fin 256) (j : Fin 1024) : DH x0 cy x6 x1 x7 (ix2 p j)
    = ∑ k : Fin 2816, DG x0 cy x6 (ix2 p k) * x7 (ix2 ⟨k, by omega⟩ j) + ∑ k : Fin 2816, x1 (ix2 p k) * x7 (ix2 ⟨2816 + k, by omega⟩ j) := by
  unfold DH k0_pay20
  show addf (matmul _ none (DG x0 cy x6) _ _) _ _ = _
  pointwise

theorem pay22_apply (p : Fin 256) (u : Fin 1) : k0_pay22 x3 (ix2 p u) = Ideal.rsqrt (msq fun k => x3 (ix2 p k)) := by
  unfold_payloads
  pointwise [msq]

theorem pay24_apply (d : FVec Ideal S256x1024 .f32) (p : Fin 256) (j : Fin 1024) : k0_pay24 d x3 x8 x4 (ix2 p j)
    = x4 (ix2 p j) + (Ideal.rsqrt (msq fun k => x3 (ix2 p k)) * (d (ix2 p j) * x8 (ix2 0 j))
        - x3 (ix2 p j) * (Ideal.rsqrt (msq fun k => x3 (ix2 p k)) * Ideal.rsqrt (msq fun k => x3 (ix2 p k)) * Ideal.rsqrt (msq fun k => x3 (ix2 p k)))
          * Ideal.div (∑ k, d (ix2 p k) * x8 (ix2 0 k) * x3 (ix2 p k)) (Ideal.ofBits .f32 0x44800000#32)) := by
  unfold k0_pay24
  pointwise [pay22_apply, k0_pay21]

theorem pay23_apply (d : FVec Ideal S256x1024 .f32) (xo : Vec Ideal S1x1024 .f32) (u : Fin 1) (j : Fin 1024) : k0_pay23 d x3 xo (ix2 u j)
    = xo (ix2 u j) + ∑ p : Fin 256, d (ix2 p j) * x3 (ix2 p j) * Ideal.rsqrt (msq fun k => x3 (ix2 p k)) := by
  unfold k0_pay23
  pointwise [pay22_apply, k0_pay21]

theorem pay27_apply (d : FVec Ideal S256x1024 .f32) (xo : Vec Ideal S1x1024 .f32) (u : Fin 1) (j : Fin 1024) : k0_pay27 d x5 xo (ix2 u j)
    = xo (ix2 u j) + ∑ p : Fin 256, d (ix2 p j) * x5 (ix2 p j) * Ideal.rsqrt (msq fun k => x5 (ix2 p k)) := by
  unfold_payloads
  pointwise [msq]

theorem pay28_apply (d : FVec Ideal S256x1024 .f32) (p : Fin 256) (j : Fin 1024) : k0_pay28 d x5 x9 (ix2 p j)
    = Ideal.rsqrt (msq fun k => x5 (ix2 p k)) * (d (ix2 p j) * x9 (ix2 0 j))
        - x5 (ix2 p j) * (Ideal.rsqrt (msq fun k => x5 (ix2 p k)) * Ideal.rsqrt (msq fun k => x5 (ix2 p k)) * Ideal.rsqrt (msq fun k => x5 (ix2 p k)))
          * Ideal.div (∑ k, d (ix2 p k) * x9 (ix2 0 k) * x5 (ix2 p k)) (Ideal.ofBits .f32 0x44800000#32) := by
  unfold_payloads
  pointwise [msq]

theorem dys_apply (d : FVec Ideal S256x1024 .bf16) (p : Fin 256) (j : Fin 1024) :
    k0_pay1 d (k0_pay29 (View.ld x10 (Rect.unit (s := S2048x1024) ![0, 0] S1024x1024.size inb_S2048x1024_S1024x1024_0_0))) (constant S256x1024 .f32 0x00000000#32) (ix2 p j)
      = ∑ k : Fin 1024, d (ix2 p k) * x10 (ix2 ⟨j, by omega⟩ k) := by
  unfold k0_pay1 k0_pay29
  pointwise

theorem dyr_apply (d : FVec Ideal S256x1024 .bf16) (p : Fin 256) (j : Fin 1024) :
    k0_pay2 d (View.ld x10 (Rect.unit (s := S2048x1024) ![1024, 0] S1024x1024.size inb_S2048x1024_S1024x1024_1024_0)) (ix2 p j)
      = ∑ k : Fin 1024, d (ix2 p k) * x10 (ix2 ⟨1024 + j, by omega⟩ k) := by
  unfold k0_pay2
  pointwise

theorem pay9_apply (q : Fin 8) (j : Fin 2816) : k0_pay9 x0 (ix2 q j) = x0 (ix2 ⟨q, by omega⟩ j) := by
  unfold k0_pay9 k0_pay7
  pointwise

theorem row_apply (o : Fin 8) (hi) (u : Fin 1) (j : Fin 2816) : View.ld x6 (Rect.unit (s := S8x2816) ![o.val, 0] S1x2816.size hi) (ix2 u j) = x6 (ix2 o j) := by
  unfold View.ld
  congr 1
  funext a
  apply Fin.ext
  match a with
  | ⟨0, _⟩ => show o.val + 1 * u.val = o.val; omega
  | ⟨1, _⟩ => show 0 + 1 * j.val = j.val; omega

theorem pay13_apply (w : Vec Ideal S1x2816 .f32) (u : Fin 1) (j : Fin 2816) : k0_pay13 x0 cy x2 w (ix2 u j)
    = w (ix2 u j) + ∑ p : Fin 256, EX x0 cy (p.val + 2) j * x2 (ix2 p j) := by
  unfold k0_pay13 k0_pay10
  pointwise [pay11_apply]

theorem pay16_apply (w : Vec Ideal S1x2816 .f32) (u : Fin 1) (j : Fin 2816) : k0_pay16 (k0_pay10 x2) (k0_pay14 x0 cy) w (ix2 u j)
    = w (ix2 u j) + ∑ p : Fin 256, EX x0 cy (p.val + 1) j * x2 (ix2 p j) := by
  unfold k0_pay16 k0_pay10
  pointwise [pay14_apply]

theorem pay18_apply (w : Vec Ideal S1x2816 .f32) (u : Fin 1) (j : Fin 2816) : k0_pay18 (k0_pay8 x0 cy) (k0_pay10 x2) w (ix2 u j)
    = w (ix2 u j) + ∑ p : Fin 256, EX x0 cy p.val j * x2 (ix2 p j) := by
  unfold k0_pay18 k0_pay10
  pointwise [pay17_apply]

theorem pay3_apply (u : Fin 8) (j : Fin 2816) : (k0_pay3 : FVec Ideal S8x2816 .f32) (ix2 u j) = 0 := by
  unfold k0_pay3
  pointwise

theorem pay4_apply (u : Fin 8) (j : Fin 2816) : (k0_pay4 : FVec Ideal S8x2816 .f32) (ix2 u j) = 0 := by
  unfold k0_pay4
  pointwise

theorem pay5_apply (u : Fin 1) (j : Fin 1024) : (k0_pay5 : FVec Ideal S1x1024 .f32) (ix2 u j) = 0 := by
  unfold k0_pay5
  pointwise

theorem pay6_apply (u : Fin 1) (j : Fin 1024) : (k0_pay6 : FVec Ideal S1x1024 .f32) (ix2 u j) = 0 := by
  unfold k0_pay6
  pointwise

/-- What a point adds to row `q` of the convolution weights' gradient. -/
def CW (q : Fin 8) (j : Fin 2816) : EReal := if q.val < 3 then ∑ p : Fin 256, EX x0 cy (p.val + (2 - q.val)) j * x2 (ix2 p j) else 0

theorem RW_apply (b : Vec Ideal S8x2816 .f32) (q : Fin 8) (j : Fin 2816) :
    RW (k0_pay13 x0 cy x2 (View.ld b (Rect.unit (s := S8x2816) ![0, 0] S1x2816.size inb_S8x2816_S1x2816_0_0)))
      (k0_pay16 (k0_pay10 x2) (k0_pay14 x0 cy) (View.ld b (Rect.unit (s := S8x2816) ![1, 0] S1x2816.size inb_S8x2816_S1x2816_1_0)))
      (k0_pay18 (k0_pay8 x0 cy) (k0_pay10 x2) (View.ld b (Rect.unit (s := S8x2816) ![2, 0] S1x2816.size inb_S8x2816_S1x2816_2_0))) b (ix2 q j)
      = b (ix2 q j) + CW x0 x2 cy q j := by
  unfold RW CW
  show (if q.val = 2 then k0_pay18 _ _ _ (ix2 0 j) else if q.val = 1 then k0_pay16 _ _ _ (ix2 0 j) else if q.val = 0 then k0_pay13 _ _ _ _ (ix2 0 j) else _) = _
  rw [pay13_apply, pay16_apply, pay18_apply]
  match q with
  | ⟨0, _⟩ => exact congrArg (· + _) (row_apply b 0 _ 0 j)
  | ⟨1, _⟩ => exact congrArg (· + _) (row_apply b 1 _ 0 j)
  | ⟨2, _⟩ => exact congrArg (· + _) (row_apply b 2 _ 0 j)
  | ⟨n + 3, h⟩ =>
    rw [if_neg (by simp), if_neg (by simp), if_neg (by simp), if_neg (by simp), add_zero]

end Cert.Kernel2Ideal.Fb
-- ==== Proof.FbHost.lean ====
module

public import proofs.«01_k».proof.Proof.FbMath
public import proofs.«01_k».proof.Proof.FbPoint
public import proofs.«01_k».proof.Proof.Gen.Kernel2Ideal.Value
public import Idealize.ShloMosaic.Lib.StableHlo.Run
public import Idealize.ShloMosaic.Lib.StableHlo.RunRead

@[expose] public section

set_option maxRecDepth 16384

noncomputable section

open Idealize.ShloMosaic Idealize.ShloMosaic.TcCoe Idealize.SL.Sem

/-! The arrays the kernel's host lines make, read at an index. -/

namespace Cert.Kernel2Ideal.Fb

open Cert.Kernel2Ideal Cert.Kernel2Ideal.Gen Cert.RealFacts Cert.FbMath

variable (m : (ℓ : Loc nD τ sig) → Buf (Elt Ideal) ℓ) (c : Dev nD)

/-- The arguments, by entry. -/
def A : Args := args (m (c.tc.loc main_arg0)) (m (c.tc.loc main_arg1)) (m (c.tc.loc main_arg2)) (m (c.tc.loc main_arg3)) (m (c.tc.loc main_arg4))
  (m (c.tc.loc main_arg5)) (m (c.tc.loc main_arg6)) (m (c.tc.loc main_arg7)) (m (c.tc.loc main_arg8)) (m (c.tc.loc main_arg9)) (m (c.tc.loc main_arg10))

theorem V_v2 (t : Fin 8192) (j : Fin 1024) : (V m c main_v2 : FVec Ideal S1x8192x1024 .f32) (ix3 0 t j) = Y (A m c) t j := by
  unfold_abbrev_sides
  after_reads_simp
  pointwise
  rfl

theorem V_v49 (t : Fin 8192) (j : Fin 1024) : (V m c main_v49 : FVec Ideal S8192x1024 .f32) (ix2 t j) = Y (A m c) t j := by
  unfold_abbrev_sides
  after_reads_simp
  pointwise
  rfl

theorem V_v42 (t : Fin 8192) (j : Fin 2816) : (V m c main_v42 : FVec Ideal S8192x2816 .bf16) (ix2 t j) = (A m c).dg t j := by
  unfold_abbrev_sides
  after_reads_simp
  pointwise

theorem V_v44 (t : Fin 8192) (j : Fin 2816) : (V m c main_v44 : FVec Ideal S8192x2816 .bf16) (ix2 t j) = (A m c).dv t j := by
  unfold_abbrev_sides
  after_reads_simp
  pointwise

theorem V_v48 (t : Fin 8192) (j : Fin 1024) : (V m c main_v48 : FVec Ideal S8192x1024 .f32) (ix2 t j) = (A m c).dx t j := by
  unfold_abbrev_sides
  after_reads_simp
  pointwise

theorem V_v40 (t : Fin 5632) (j : Fin 1024) : (V m c main_v40 : FVec Ideal S5632x1024 .bf16) (ix2 t j) = (A m c).up j t := by
  unfold_abbrev_sides
  after_reads_simp
  pointwise

theorem V_v51 (t : Fin 2048) (j : Fin 1024) : (V m c main_v51 : FVec Ideal S2048x1024 .bf16) (ix2 t j) = (A m c).wo t j := by
  unfold_abbrev_sides
  after_reads_simp
  pointwise

theorem cast_row (w : FVec Ideal S1x3x2816 .f32) (r : Fin 3) (j : Fin 2816) : shapeCast S3x2816 w shapeCasts_S1x3x2816_S3x2816 (ix2 r j) = w (ix3 0 r j) := by
  pointwise

theorem V_v37 (q : Fin 8) (j : Fin 2816) : (V m c main_v37 : FVec Ideal S8x2816 .f32) (ix2 q j) = if h : q.val < 3 then (A m c).cw ⟨q, h⟩ j else 0 := by
  unfold_abbrev_sides
  after_reads_simp
  refine (show _ = pad S8x2816 ![0, 0] ![5, 0] ![0, 0]
    (shapeCast S3x2816 (m (c.tc.loc main_arg7) : FVec Ideal S1x3x2816 .f32) shapeCasts_S1x3x2816_S3x2816)
    (sitofp .f32 (constantI S_ 32 0#32) : FVec Ideal S_ .f32) pads_S3x2816_S8x2816_050_000 h_S_ (ix2 q j) from rfl).trans ?_
  by_cases hq : q.val < 3
  · rw [dif_pos hq, pad2_in _ _ _ _ _ _ _ hq j.isLt]
    exact cast_row _ _ _
  · rw [dif_neg hq, pad2_out _ _ _ _ _ _ _ (Or.inl (by omega)), sitofp_zero']

theorem V_v47 (t : Fin 8192) (j : Fin 1024) : (V m c main_v47 : FVec Ideal S8192x1024 .f32) (ix2 t j) = X1 (A m c) t j := by
  unfold_abbrev_sides
  after_reads_simp
  pointwise
  rfl

theorem V_v46 (t : Fin 8192) (j : Fin 2816) : (V m c main_v46 : FVec Ideal S8192x2816 .bf16) (ix2 t j) = G (A m c) t j := by
  unfold_abbrev_sides
  after_reads_simp
  pointwise
  rfl

end Cert.Kernel2Ideal.Fb
-- ==== Proof.Rows.lean ====
module

public import proofs.«01_k».proof.Proof.Real

@[expose] public section

set_option maxRecDepth 16384

noncomputable section

open Idealize.ShloMosaic Idealize.ShloMosaic.TcCoe Idealize.SL.Sem

/-! Sums over shifted rows, rows padded with zeros, and sums over axes of one entry. -/

namespace Cert.RealFacts

/-- A sum over rows against the rows `s` before them, with nothing before the first: the rows `s` after them against the rows. -/
theorem shift_sum (N s : ℕ) (hs : s ≤ N) (f g : ℕ → EReal) :
    ∑ t : Fin N, f t.val * (if s ≤ t.val then g (t.val - s) else 0) = ∑ t : Fin N, (if t.val + s < N then f (t.val + s) else 0) * g t.val := by
  obtain ⟨M, rfl⟩ : ∃ M, N = M + s := ⟨N - s, by omega⟩
  rw [Fin.sum_univ_eq_sum_range (fun t => f t * (if s ≤ t then g (t - s) else 0)), Fin.sum_univ_eq_sum_range (fun t => (if t + s < M + s then f (t + s) else 0) * g t)]
  rw [add_comm M s, Finset.sum_range_add, add_comm s M, Finset.sum_range_add]
  have e1 : ∑ t ∈ Finset.range s, f t * (if s ≤ t then g (t - s) else 0) = 0 := Finset.sum_eq_zero fun t ht => by
    rw [if_neg (by have := Finset.mem_range.mp ht; omega), mul_zero]
  have e2 : ∑ t ∈ Finset.range s, (if M + t + s < M + s then f (M + t + s) else 0) * g (M + t) = 0 := Finset.sum_eq_zero fun t ht => by
    rw [if_neg (by omega), zero_mul]
  rw [e1, e2, zero_add, add_zero]
  refine Finset.sum_congr rfl fun t ht => ?_
  have := Finset.mem_range.mp ht
  rw [if_pos (by omega), if_pos (by omega), show s + t - s = t from by omega, add_comm t s]

/-- Rows padded before and after. -/
theorem pad_rows3 {α : Type} {n w n' : ℕ} (l : ℕ) (hi : Fin 3 → ℕ) (x : (⟨3, ![1, n, w]⟩ : Shape).Idx → α) {u : Shape} (v : u.Idx → α)
    (h : (⟨3, ![1, n, w]⟩ : Shape).Pads ![0, l, 0] hi ![0, 0, 0] ⟨3, ![1, n', w]⟩) (hu : 0 < u.numel) (i : Fin n') (j : Fin w) :
    pad ⟨3, ![1, n', w]⟩ ![0, l, 0] hi ![0, 0, 0] x v h hu (ix3 0 i j)
      = if hh : l ≤ i.val ∧ i.val - l < n then x (ix3 0 ⟨i.val - l, hh.2⟩ j) else v (Shape.Idx.first hu) := by
  by_cases hh : l ≤ i.val ∧ i.val - l < n
  · rw [dif_pos hh]
    refine pad_apply_of_inside _ _ _ _ _ _ _ _ _ fun c => ?_
    match c with
    | ⟨0, _⟩ => rfl
    | ⟨1, _⟩ => show i.val = l + (i.val - l) * (0 + 1); omega
    | ⟨2, _⟩ => show j.val = 0 + j.val * (0 + 1); omega
  · rw [dif_neg hh]
    refine pad_apply_of_not_inside _ _ _ _ _ _ _ _ (1 : Fin 3) fun hc => hh ⟨hc.1, ?_⟩
    have := hc.2.2
    change (i.val - l) / (0 + 1) < n at this
    simpa using this

theorem pad_rows2 {α : Type} {n w n' : ℕ} (l : ℕ) (hi : Fin 2 → ℕ) (x : (⟨2, ![n, w]⟩ : Shape).Idx → α) {u : Shape} (v : u.Idx → α)
    (h : (⟨2, ![n, w]⟩ : Shape).Pads ![l, 0] hi ![0, 0] ⟨2, ![n', w]⟩) (hu : 0 < u.numel) (i : Fin n') (j : Fin w) :
    pad ⟨2, ![n', w]⟩ ![l, 0] hi ![0, 0] x v h hu (ix2 i j)
      = if hh : l ≤ i.val ∧ i.val - l < n then x (ix2 ⟨i.val - l, hh.2⟩ j) else v (Shape.Idx.first hu) := by
  by_cases hh : l ≤ i.val ∧ i.val - l < n
  · rw [dif_pos hh]
    refine pad_apply_of_inside _ _ _ _ _ _ _ _ _ fun c => ?_
    match c with
    | ⟨0, _⟩ => show i.val = l + (i.val - l) * (0 + 1); omega
    | ⟨1, _⟩ => show j.val = 0 + j.val * (0 + 1); omega
  · rw [dif_neg hh]
    refine pad_apply_of_not_inside _ _ _ _ _ _ _ _ (0 : Fin 2) fun hc => hh ⟨hc.1, ?_⟩
    have := hc.2.2
    change (i.val - l) / (0 + 1) < n at this
    simpa using this

/-- A sum over the first two of three axes, each of one entry. -/
theorem red01 {n : ℕ} (h : (⟨3, ![1, 1, n]⟩ : Shape).ReducesTo [0, 1] ⟨1, ![n]⟩) (y : (⟨3, ![1, 1, n]⟩ : Shape).Idx → EReal) (init : EReal) (t : Fin n) :
    Ideal.hostReduceAdd h y init (ix1 t) = init + y (ix3 0 0 t) := by
  refine hostReduceAdd_one _ _ _ _ _ (funext fun b => by fin_cases b; rfl) fun i hi => ?_
  have h1 := congrFun hi 0
  funext b
  fin_cases b
  · exact Fin.ext (by have : (i 0).val < 1 := (i 0).isLt; show (i 0).val = 0; omega)
  · exact Fin.ext (by have : (i 1).val < 1 := (i 1).isLt; show (i 1).val = 0; omega)
  · exact Fin.ext (congrArg Fin.val h1)

/-- A sum over the first and last of three axes, each of one entry. -/
theorem red02 {n : ℕ} (h : (⟨3, ![1, n, 1]⟩ : Shape).ReducesTo [0, 2] ⟨1, ![n]⟩) (y : (⟨3, ![1, n, 1]⟩ : Shape).Idx → EReal) (init : EReal) (t : Fin n) :
    Ideal.hostReduceAdd h y init (ix1 t) = init + y (ix3 0 t 0) := by
  refine hostReduceAdd_one _ _ _ _ _ (funext fun b => by fin_cases b; rfl) fun i hi => ?_
  have h1 := congrFun hi 0
  funext b
  fin_cases b
  · exact Fin.ext (by have : (i 0).val < 1 := (i 0).isLt; show (i 0).val = 0; omega)
  · exact Fin.ext (congrArg Fin.val h1)
  · exact Fin.ext (by have : (i 2).val < 1 := (i 2).isLt; show (i 2).val = 0; omega)

/-- A sum over `a + b` positions in two parts. -/
theorem sum_parts {n : ℕ} (a b : ℕ) (h : n = a + b) (f : Fin n → EReal) :
    ∑ k, f k = ∑ k : Fin a, f ⟨k, by omega⟩ + ∑ k : Fin b, f ⟨a + k, by omega⟩ := by
  subst h
  exact Fin.sum_univ_add f

end Cert.RealFacts
-- ==== Proof.FbRun.lean ====
module

public import proofs.«01_k».proof.Proof.FbHost
public import proofs.«01_k».proof.Proof.Rows
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem

/-! What the feed-forward entry's backward kernel leaves in its result arrays, point by point of the grid, last rows first. -/

namespace Cert.Kernel2Ideal.Fb

open Cert.Kernel2Ideal Cert.Kernel2Ideal.Gen Cert.RealFacts Cert.FbMath

variable (m : (ℓ : Loc nD τ sig) → Buf (Elt Ideal) ℓ) (c : Dev nD)

/-- Row `p` of the block of grid point `n`. -/
def row (n : ℕ) (hn : n < cfg0.N) (p : Fin 256) : Fin 8192 := ⟨256 * (31 - n) + p, by omega⟩

theorem row_val (n : ℕ) (hn : n < cfg0.N) (p : Fin 256) : (row n hn p).val = 256 * (31 - n) + p.val := rfl

theorem at0 : ∀ t : Fin cfg0.N, win0_0.index t = ![31 - t.val, 0] := (by decide +kernel : ∀ t : Fin grid0.N, win0_0.index t = ![31 - t.val, 0])

theorem blk0 (t : Fin cfg0.N) (p : Fin 256) (k : Fin 2816) :
    (iblk m c 0 t : FVec Ideal S256x2816 .bf16) (ix2 p k) = (A m c).dg (row t.val t.isLt p) k := by
  refine Eq.trans ?_ (V_v42 m c (row t.val t.isLt p) k)
  blk_simp [iblk]
  refine congrArg _ (funext fun a => Fin.ext ?_)
  fin_cases a <;> blk_simp [at0] <;> simp [row] <;> omega

theorem at1 : ∀ t : Fin cfg0.N, win0_1.index t = ![31 - t.val, 0] := (by decide +kernel : ∀ t : Fin grid0.N, win0_1.index t = ![31 - t.val, 0])

theorem blk1 (t : Fin cfg0.N) (p : Fin 256) (k : Fin 2816) :
    (iblk m c 1 t : FVec Ideal S256x2816 .bf16) (ix2 p k) = (A m c).dv (row t.val t.isLt p) k := by
  refine Eq.trans ?_ (V_v44 m c (row t.val t.isLt p) k)
  blk_simp [iblk]
  refine congrArg _ (funext fun a => Fin.ext ?_)
  fin_cases a <;> blk_simp [at1] <;> simp [row] <;> omega

theorem at2 : ∀ t : Fin cfg0.N, win0_2.index t = ![31 - t.val, 0] := (by decide +kernel : ∀ t : Fin grid0.N, win0_2.index t = ![31 - t.val, 0])

theorem blk2 (t : Fin cfg0.N) (p : Fin 256) (k : Fin 2816) :
    (iblk m c 2 t : FVec Ideal S256x2816 .bf16) (ix2 p k) = G (A m c) (row t.val t.isLt p) k := by
  refine Eq.trans ?_ (V_v46 m c (row t.val t.isLt p) k)
  blk_simp [iblk]
  refine congrArg _ (funext fun a => Fin.ext ?_)
  fin_cases a <;> blk_simp [at2] <;> simp [row] <;> omega

theorem at3 : ∀ t : Fin cfg0.N, win0_3.index t = ![31 - t.val, 0] := (by decide +kernel : ∀ t : Fin grid0.N, win0_3.index t = ![31 - t.val, 0])

theorem blk3 (t : Fin cfg0.N) (p : Fin 256) (k : Fin 1024) :
    (iblk m c 3 t : FVec Ideal S256x1024 .f32) (ix2 p k) = X1 (A m c) (row t.val t.isLt p) k := by
  refine Eq.trans ?_ (V_v47 m c (row t.val t.isLt p) k)
  blk_simp [iblk]
  refine congrArg _ (funext fun a => Fin.ext ?_)
  fin_cases a <;> blk_simp [at3] <;> simp [row] <;> omega

theorem at4 : ∀ t : Fin cfg0.N, win0_4.index t = ![31 - t.val, 0] := (by decide +kernel : ∀ t : Fin grid0.N, win0_4.index t = ![31 - t.val, 0])

theorem blk4 (t : Fin cfg0.N) (p : Fin 256) (k : Fin 1024) :
    (iblk m c 4 t : FVec Ideal S256x1024 .f32) (ix2 p k) = (A m c).dx (row t.val t.isLt p) k := by
  refine Eq.trans ?_ (V_v48 m c (row t.val t.isLt p) k)
  blk_simp [iblk]
  refine congrArg _ (funext fun a => Fin.ext ?_)
  fin_cases a <;> blk_simp [at4] <;> simp [row] <;> omega

theorem at5 : ∀ t : Fin cfg0.N, win0_5.index t = ![31 - t.val, 0] := (by decide +kernel : ∀ t : Fin grid0.N, win0_5.index t = ![31 - t.val, 0])

theorem blk5 (t : Fin cfg0.N) (p : Fin 256) (k : Fin 1024) :
    (iblk m c 5 t : FVec Ideal S256x1024 .f32) (ix2 p k) = Y (A m c) (row t.val t.isLt p) k := by
  refine Eq.trans ?_ (V_v49 m c (row t.val t.isLt p) k)
  blk_simp [iblk]
  refine congrArg _ (funext fun a => Fin.ext ?_)
  fin_cases a <;> blk_simp [at5] <;> simp [row] <;> omega

theorem at6 : ∀ t : Fin cfg0.N, win0_6.index t = ![0, 0] := (by decide +kernel : ∀ t : Fin grid0.N, win0_6.index t = ![0, 0])

theorem blk6 (t : Fin cfg0.N) (p : Fin 8) (k : Fin 2816) :
    (iblk m c 6 t : FVec Ideal S8x2816 .f32) (ix2 p k) = if h : p.val < 3 then (A m c).cw ⟨p, h⟩ k else 0 := by
  refine Eq.trans ?_ (V_v37 m c p k)
  blk_simp [iblk]
  refine congrArg _ (funext fun a => Fin.ext ?_)
  fin_cases a <;> blk_simp [at6] <;> simp

theorem at7 : ∀ t : Fin cfg0.N, win0_7.index t = ![0, 0] := (by decide +kernel : ∀ t : Fin grid0.N, win0_7.index t = ![0, 0])

theorem blk7 (t : Fin cfg0.N) (p : Fin 5632) (k : Fin 1024) :
    (iblk m c 7 t : FVec Ideal S5632x1024 .bf16) (ix2 p k) = (A m c).up k p := by
  refine Eq.trans ?_ (V_v40 m c p k)
  blk_simp [iblk]
  refine congrArg _ (funext fun a => Fin.ext ?_)
  fin_cases a <;> blk_simp [at7] <;> simp

theorem at8 : ∀ t : Fin cfg0.N, win0_8.index t = ![0, 0] := (by decide +kernel : ∀ t : Fin grid0.N, win0_8.index t = ![0, 0])

theorem blk8 (t : Fin cfg0.N) (p : Fin 1) (k : Fin 1024) :
    (iblk m c 8 t : FVec Ideal S1x1024 .f32) (ix2 p k) = (A m c).pf k := by
  refine Eq.trans ?_ (congrFun (V_main_arg5 m c) (ix2 0 k))
  blk_simp [iblk]
  refine congrArg _ (funext fun a => Fin.ext ?_)
  fin_cases a <;> blk_simp [at8] <;> simp

theorem at9 : ∀ t : Fin cfg0.N, win0_9.index t = ![0, 0] := (by decide +kernel : ∀ t : Fin grid0.N, win0_9.index t = ![0, 0])

theorem blk9 (t : Fin cfg0.N) (p : Fin 1) (k : Fin 1024) :
    (iblk m c 9 t : FVec Ideal S1x1024 .f32) (ix2 p k) = (A m c).pm k := by
  refine Eq.trans ?_ (congrFun (V_main_arg4 m c) (ix2 0 k))
  blk_simp [iblk]
  refine congrArg _ (funext fun a => Fin.ext ?_)
  fin_cases a <;> blk_simp [at9] <;> simp

theorem at10 : ∀ t : Fin cfg0.N, win0_10.index t = ![0, 0] := (by decide +kernel : ∀ t : Fin grid0.N, win0_10.index t = ![0, 0])

theorem blk10 (t : Fin cfg0.N) (p : Fin 2048) (k : Fin 1024) :
    (iblk m c 10 t : FVec Ideal S2048x1024 .bf16) (ix2 p k) = (A m c).wo p k := by
  refine Eq.trans ?_ (V_v51 m c p k)
  blk_simp [iblk]
  refine congrArg _ (funext fun a => Fin.ext ?_)
  fin_cases a <;> blk_simp [at10] <;> simp

/-- What a point leaves, from its blocks, the rows carried into it and the sums before it. -/
def point (x0 x1 x2 : Vec Ideal S256x2816 .bf16) (x3 x4 x5 : Vec Ideal S256x1024 .f32) (x6 : Vec Ideal S8x2816 .f32) (x7 : Vec Ideal S5632x1024 .bf16)
    (x8 x9 : Vec Ideal S1x1024 .f32) (x10 : Vec Ideal S2048x1024 .bf16) (b16 : Vec Ideal S8x2816 .f32) (b17 b18 : Vec Ideal S1x1024 .f32) (cy : Vec Ideal S8x2816 .f32) :
    Vec Ideal S256x2816 .bf16 × Vec Ideal S256x1024 .f32 × Vec Ideal S256x1024 .bf16 × Vec Ideal S256x1024 .bf16 × Vec Ideal S256x1024 .bf16 × Vec Ideal S8x2816 .f32 × Vec Ideal S1x1024 .f32 × Vec Ideal S1x1024 .f32 × Vec Ideal S8x2816 .f32 :=
  (DG x0 cy x6, DX x0 cy x6 x1 x3 x4 x7 x8, DY x0 cy x6 x1 x3 x4 x5 x7 x8 x9,
    k0_pay1 (DY x0 cy x6 x1 x3 x4 x5 x7 x8 x9) (k0_pay29 (View.ld x10 (Rect.unit (s := S2048x1024) ![0, 0] S1024x1024.size inb_S2048x1024_S1024x1024_0_0))) (constant S256x1024 .f32 0x00000000#32),
    k0_pay2 (DY x0 cy x6 x1 x3 x4 x5 x7 x8 x9) (View.ld x10 (Rect.unit (s := S2048x1024) ![1024, 0] S1024x1024.size inb_S2048x1024_S1024x1024_1024_0)),
    RW (k0_pay13 x0 cy x2 (View.ld b16 (Rect.unit (s := S8x2816) ![0, 0] S1x2816.size inb_S8x2816_S1x2816_0_0))) (k0_pay16 (k0_pay10 x2) (k0_pay14 x0 cy) (View.ld b16 (Rect.unit (s := S8x2816) ![1, 0] S1x2816.size inb_S8x2816_S1x2816_1_0)))
      (k0_pay18 (k0_pay8 x0 cy) (k0_pay10 x2) (View.ld b16 (Rect.unit (s := S8x2816) ![2, 0] S1x2816.size inb_S8x2816_S1x2816_2_0))) b16,
    k0_pay23 (DH x0 cy x6 x1 x7) x3 b17, k0_pay27 (DX x0 cy x6 x1 x3 x4 x7 x8) x5 b18, k0_pay9 x0)

theorem outs_A (t : Fin cfg0.N) (h0 : t.val % 32 = 0) :
    outsAt0 m c t.val t.isLt = point (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay4 (F := Ideal)) (k0_pay5 (F := Ideal)) (k0_pay6 (F := Ideal)) (k0_pay3 (F := Ideal)) := by
  rw [outsAt0_A m c t h0]
  unfold point
  refine congrArg₂ Prod.mk (out_A11 ..) ?_
  refine congrArg₂ Prod.mk (out_A12 ..) ?_
  refine congrArg₂ Prod.mk (out_A13 ..) ?_
  refine congrArg₂ Prod.mk (out_A14 ..) ?_
  refine congrArg₂ Prod.mk (out_A15 ..) ?_
  refine congrArg₂ Prod.mk (out_A16 ..) ?_
  refine congrArg₂ Prod.mk (out_A17 ..) ?_
  refine congrArg₂ Prod.mk (out_A18 ..) ?_
  exact sout_A ..

theorem outs_B (t : Fin cfg0.N) (h0 : ¬ t.val % 32 = 0) :
    outsAt0 m c t.val t.isLt = point (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le t.val 1) t.isLt)).2.2.2.2.2.1 (outsAt0 m c (t.val - 1) (Nat.lt_of_le_of_lt (Nat.sub_le t.val 1) t.isLt)).2.2.2.2.2.2.1 (outsAt0 m c (t.val - 1) (Nat.lt_of_le_of_lt (Nat.sub_le t.val 1) t.isLt)).2.2.2.2.2.2.2.1 (outsAt0 m c (t.val - 1) (Nat.lt_of_le_of_lt (Nat.sub_le t.val 1) t.isLt)).2.2.2.2.2.2.2.2 := by
  rw [outsAt0_B m c t h0]
  generalize (outsAt0 m c (t.val - 1) (Nat.lt_of_le_of_lt (Nat.sub_le t.val 1) t.isLt)).2.2.2.2.2.1 = b16, (outsAt0 m c (t.val - 1) (Nat.lt_of_le_of_lt (Nat.sub_le t.val 1) t.isLt)).2.2.2.2.2.2.1 = b17, (outsAt0 m c (t.val - 1) (Nat.lt_of_le_of_lt (Nat.sub_le t.val 1) t.isLt)).2.2.2.2.2.2.2.1 = b18, (outsAt0 m c (t.val - 1) (Nat.lt_of_le_of_lt (Nat.sub_le t.val 1) t.isLt)).2.2.2.2.2.2.2.2 = cy
  unfold point
  refine congrArg₂ Prod.mk (out_B11 ..) ?_
  refine congrArg₂ Prod.mk (out_B12 ..) ?_
  refine congrArg₂ Prod.mk (out_B13 ..) ?_
  refine congrArg₂ Prod.mk (out_B14 ..) ?_
  refine congrArg₂ Prod.mk (out_B15 ..) ?_
  refine congrArg₂ Prod.mk (out_B16 ..) ?_
  refine congrArg₂ Prod.mk (out_B17 ..) ?_
  refine congrArg₂ Prod.mk (out_B18 ..) ?_
  exact sout_B ..

/-- The sums before a point and the rows carried into it. -/
def prev : (n : ℕ) → n < cfg0.N → Vec Ideal S8x2816 .f32 × Vec Ideal S1x1024 .f32 × Vec Ideal S1x1024 .f32 × Vec Ideal S8x2816 .f32
  | 0, _ => (k0_pay4 (F := Ideal), k0_pay5 (F := Ideal), k0_pay6 (F := Ideal), k0_pay3 (F := Ideal))
  | n + 1, hn => (outsAt0 m c n (Nat.lt_of_succ_lt hn)).2.2.2.2.2

theorem outs_eq (n : ℕ) (hn : n < cfg0.N) :
    outsAt0 m c n hn = point (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (prev m c n hn).1 (prev m c n hn).2.1 (prev m c n hn).2.2.1 (prev m c n hn).2.2.2 := by
  have hN : cfg0.N = 32 := N_0
  match n with
  | 0 => exact outs_A m c ⟨0, hn⟩ (Nat.zero_mod _)
  | n + 1 => exact outs_B m c ⟨n + 1, hn⟩ (by show ¬ (n + 1) % 32 = 0; omega)

theorem scr_eq (n : ℕ) (hn : n < cfg0.N) : (outsAt0 m c n hn).2.2.2.2.2.2.2.2 = k0_pay9 (iblk m c 0 ⟨n, hn⟩) := by
  rw [outs_eq]
  rfl

/-- The carried rows are the first rows of the block before, which lies after this one. -/
theorem carry (n : ℕ) (hn : n < cfg0.N) (q : Fin 8) (j : Fin 2816) :
    (prev m c n hn).2.2.2 (ix2 q j) = D (A m c) (256 * (32 - n) + q.val) j := by
  have hN : cfg0.N = 32 := N_0
  match n with
  | 0 => rw [D, dif_neg (by omega)]; exact pay3_apply q j
  | n + 1 =>
    refine (congrFun (scr_eq m c n (Nat.lt_of_succ_lt hn)) _).trans ?_
    rw [pay9_apply, blk0, D, dif_pos (by omega)]
    exact congrArg (fun r => (A m c).dg r j) (Fin.ext (by show 256 * (31 - n) + q.val = 256 * (32 - (n + 1)) + q.val; omega))

theorem ex_eq (n : ℕ) (hn : n < cfg0.N) (r : ℕ) (hr : r < 264) (j : Fin 2816) :
    EX (iblk m c 0 ⟨n, hn⟩) (prev m c n hn).2.2.2 r j = D (A m c) (256 * (31 - n) + r) j := by
  have hN : cfg0.N = 32 := N_0
  unfold EX
  by_cases h : r < 256
  · rw [dif_pos h, blk0, D, dif_pos (by omega)]
    rfl
  · rw [dif_neg h, dif_pos hr, carry]
    exact congrArg (fun r => D (A m c) r j) (by show 256 * (32 - n) + (r - 256) = 256 * (31 - n) + r; omega)

theorem dg_eq (n : ℕ) (hn : n < cfg0.N) (p : Fin 256) (j : Fin 2816) : DG (iblk m c 0 ⟨n, hn⟩) (prev m c n hn).2.2.2 (iblk m c 6 ⟨n, hn⟩) (ix2 p j) = Cert.FbMath.DG (A m c) (row n hn p) j := by
  rw [DG_apply, ex_eq m c n hn _ (by omega), ex_eq m c n hn _ (by omega), ex_eq m c n hn _ (by omega), blk6, blk6, blk6]
  rfl

theorem dh_eq (n : ℕ) (hn : n < cfg0.N) (p : Fin 256) (j : Fin 1024) : DH (iblk m c 0 ⟨n, hn⟩) (prev m c n hn).2.2.2 (iblk m c 6 ⟨n, hn⟩) (iblk m c 1 ⟨n, hn⟩) (iblk m c 7 ⟨n, hn⟩) (ix2 p j) = Cert.FbMath.DH (A m c) (row n hn p) j := by
  rw [DH_apply]
  simp only [dg_eq, blk1, blk7]
  rfl

theorem dx_eq (n : ℕ) (hn : n < cfg0.N) (p : Fin 256) (j : Fin 1024) : DX (iblk m c 0 ⟨n, hn⟩) (prev m c n hn).2.2.2 (iblk m c 6 ⟨n, hn⟩) (iblk m c 1 ⟨n, hn⟩) (iblk m c 3 ⟨n, hn⟩) (iblk m c 4 ⟨n, hn⟩) (iblk m c 7 ⟨n, hn⟩) (iblk m c 8 ⟨n, hn⟩) (ix2 p j) = Cert.FbMath.DX (A m c) (row n hn p) j := by
  unfold DX
  rw [pay24_apply]
  simp only [dh_eq, blk3, blk4, blk8]
  rfl

theorem dy_eq (n : ℕ) (hn : n < cfg0.N) (p : Fin 256) (j : Fin 1024) : DY (iblk m c 0 ⟨n, hn⟩) (prev m c n hn).2.2.2 (iblk m c 6 ⟨n, hn⟩) (iblk m c 1 ⟨n, hn⟩) (iblk m c 3 ⟨n, hn⟩) (iblk m c 4 ⟨n, hn⟩) (iblk m c 5 ⟨n, hn⟩) (iblk m c 7 ⟨n, hn⟩) (iblk m c 8 ⟨n, hn⟩) (iblk m c 9 ⟨n, hn⟩) (ix2 p j) = Cert.FbMath.DY (A m c) (row n hn p) j := by
  unfold DY
  rw [pay28_apply]
  simp only [dx_eq, blk5, blk9]
  rfl

theorem outs11 (n : ℕ) (hn : n < cfg0.N) (p : Fin 256) (j : Fin 2816) :
    ((outsAt0 m c n hn).1 : FVec Ideal S256x2816 .bf16) (ix2 p j) = Cert.FbMath.DG (A m c) (row n hn p) j := by
  rw [outs_eq]
  exact dg_eq m c n hn p j

theorem outs12 (n : ℕ) (hn : n < cfg0.N) (p : Fin 256) (j : Fin 1024) :
    ((outsAt0 m c n hn).2.1 : FVec Ideal S256x1024 .f32) (ix2 p j) = Cert.FbMath.DX (A m c) (row n hn p) j := by
  rw [outs_eq]
  exact dx_eq m c n hn p j

theorem outs13 (n : ℕ) (hn : n < cfg0.N) (p : Fin 256) (j : Fin 1024) :
    ((outsAt0 m c n hn).2.2.1 : FVec Ideal S256x1024 .bf16) (ix2 p j) = Cert.FbMath.DY (A m c) (row n hn p) j := by
  rw [outs_eq]
  exact dy_eq m c n hn p j

theorem outs14 (n : ℕ) (hn : n < cfg0.N) (p : Fin 256) (j : Fin 1024) :
    ((outsAt0 m c n hn).2.2.2.1 : FVec Ideal S256x1024 .bf16) (ix2 p j) = Cert.FbMath.DS (A m c) (row n hn p) j := by
  rw [outs_eq]
  refine (dys_apply _ _ p j).trans ?_
  simp only [dy_eq, blk10]
  rfl

theorem outs15 (n : ℕ) (hn : n < cfg0.N) (p : Fin 256) (j : Fin 1024) :
    ((outsAt0 m c n hn).2.2.2.2.1 : FVec Ideal S256x1024 .bf16) (ix2 p j) = Cert.FbMath.DR (A m c) (row n hn p) j := by
  rw [outs_eq]
  refine (dyr_apply _ _ p j).trans ?_
  simp only [dy_eq, blk10]
  rfl

/-- What grid point `n` adds to a sum over the rows. -/
def part (f : Fin 8192 → EReal) (n : ℕ) : EReal := if hn : n < cfg0.N then ∑ p : Fin 256, f (row n hn p) else 0

/-- The thirty-two points' parts are the sum over all rows. -/
theorem total (f : Fin 8192 → EReal) : ∑ s ∈ Finset.range (31 + 1), part f s = ∑ r, f r := by
  have hN : cfg0.N = 32 := N_0
  rw [Finset.sum_range, Fin.sum_univ_tiles 32 256 rfl, ← Equiv.sum_comp Fin.revPerm]
  refine Finset.sum_congr rfl fun s _ => ?_
  unfold part
  rw [dif_pos (by omega)]
  refine Finset.sum_congr rfl fun p _ => congrArg f (Fin.ext ?_)
  simp only [Fin.revPerm_apply, Fin.val_rev, row_val]
  omega

/-- Sums carried from point to point. -/
theorem accum (o pr : (n : ℕ) → n < cfg0.N → EReal) (f : Fin 8192 → EReal) (ho : ∀ n hn, o n hn = pr n hn + ∑ p : Fin 256, f (row n hn p))
    (h0 : ∀ h, pr 0 h = 0) (hs : ∀ n hn, pr (n + 1) hn = o n (Nat.lt_of_succ_lt hn)) (n : ℕ) (hn : n < cfg0.N) :
    o n hn = ∑ s ∈ Finset.range (n + 1), part f s := by
  have hp : ∀ n (hn : n < cfg0.N), ∑ p : Fin 256, f (row n hn p) = part f n := fun n hn => by rw [part, dif_pos hn]
  induction n with
  | zero => rw [ho, h0, hp, zero_add, Finset.sum_range_one]
  | succ n ih => rw [ho, hs, hp, ih (by omega), Finset.sum_range_succ _ (n + 1)]

theorem outs16 (n : ℕ) (hn : n < cfg0.N) (q : Fin 8) (j : Fin 2816) :
    ((outsAt0 m c n hn).2.2.2.2.2.1 : FVec Ideal S8x2816 .f32) (ix2 q j)
      = ∑ s ∈ Finset.range (n + 1), part (fun r => if q.val < 3 then D (A m c) (r.val + (2 - q.val)) j * G (A m c) r j else 0) s := by
  refine accum (fun n hn => (outsAt0 m c n hn).2.2.2.2.2.1 (ix2 q j)) (fun n hn => (prev m c n hn).1 (ix2 q j)) _ (fun n hn => ?_) (fun _ => pay4_apply q j) (fun n hn => rfl) n hn
  rw [outs_eq]
  refine (RW_apply _ _ _ _ q j).trans (congrArg (_ + ·) ?_)
  unfold CW
  by_cases h : q.val < 3
  · rw [if_pos h]
    refine Finset.sum_congr rfl fun p _ => ?_
    rw [if_pos h, ex_eq m c n hn _ (by omega), blk2, row_val, Nat.add_assoc]
  · simp only [if_neg h, Finset.sum_const_zero]

theorem sum_DC (a : Args) (q : Fin 8) (j : Fin 2816) : (∑ r, if q.val < 3 then D a (r.val + (2 - q.val)) j * G a r j else 0) = DC a q j := by
  unfold DC
  by_cases hq : q.val < 3
  · simp only [if_pos hq]
  · simp only [if_neg hq, Finset.sum_const_zero]

theorem outs17 (n : ℕ) (hn : n < cfg0.N) (u : Fin 1) (j : Fin 1024) :
    ((outsAt0 m c n hn).2.2.2.2.2.2.1 : FVec Ideal S1x1024 .f32) (ix2 u j)
      = ∑ s ∈ Finset.range (n + 1), part (fun r => Cert.FbMath.DH (A m c) r j * X1 (A m c) r j * rs (X1 (A m c) r)) s := by
  refine accum (fun n hn => (outsAt0 m c n hn).2.2.2.2.2.2.1 (ix2 u j)) (fun n hn => (prev m c n hn).2.1 (ix2 u j)) _ (fun n hn => ?_) (fun _ => pay5_apply u j) (fun n hn => rfl) n hn
  rw [outs_eq]
  refine (pay23_apply _ _ _ u j).trans (congrArg (_ + ·) ?_)
  simp only [dh_eq, blk3]
  rfl

theorem outs18 (n : ℕ) (hn : n < cfg0.N) (u : Fin 1) (j : Fin 1024) :
    ((outsAt0 m c n hn).2.2.2.2.2.2.2.1 : FVec Ideal S1x1024 .f32) (ix2 u j)
      = ∑ s ∈ Finset.range (n + 1), part (fun r => Cert.FbMath.DX (A m c) r j * Y (A m c) r j * rs (Y (A m c) r)) s := by
  refine accum (fun n hn => (outsAt0 m c n hn).2.2.2.2.2.2.2.1 (ix2 u j)) (fun n hn => (prev m c n hn).2.2.1 (ix2 u j)) _ (fun n hn => ?_) (fun _ => pay6_apply u j) (fun n hn => rfl) n hn
  rw [outs_eq]
  refine (pay27_apply _ _ _ u j).trans (congrArg (_ + ·) ?_)
  simp only [dx_eq, blk5]
  rfl

theorem at11 : ∀ t : Fin cfg0.N, win0_11.index t = ![31 - t.val, 0] := (by decide +kernel : ∀ t : Fin grid0.N, win0_11.index t = ![31 - t.val, 0])

theorem final11 : (dats m 0 c).arrAt 11 cfg0.N = (fun i => Cert.FbMath.DG (A m c) (i 0) (i 1) : FVec Ideal S8192x2816 .bf16) := by
  refine (dats m 0 c).arrAt_eq_of_covers 11 _ (by decide +kernel) fun t hf y => ?_
  obtain ⟨p, j, rfl⟩ : ∃ (p : Fin 256) (j : Fin 2816), y = ix2 p j := ⟨y 0, y 1, eq_ix2 y⟩
  blk_simp
  have hy : ((win0_11.blk t).view.emb (ix2 p j) : S8192x2816.Idx) = ix2 (row t.val t.isLt p) j := by
    refine funext fun a => Fin.ext ?_
    fin_cases a <;> blk_simp [at11] <;> simp [row] <;> omega
  exact (outs11 m c t.val t.isLt p j).trans (congrArg (fun i => Cert.FbMath.DG (A m c) (i 0) (i 1) : FVec Ideal S8192x2816 .bf16) hy).symm

theorem at12 : ∀ t : Fin cfg0.N, win0_12.index t = ![31 - t.val, 0] := (by decide +kernel : ∀ t : Fin grid0.N, win0_12.index t = ![31 - t.val, 0])

theorem final12 : (dats m 0 c).arrAt 12 cfg0.N = (fun i => Cert.FbMath.DX (A m c) (i 0) (i 1) : FVec Ideal S8192x1024 .f32) := by
  refine (dats m 0 c).arrAt_eq_of_covers 12 _ (by decide +kernel) fun t hf y => ?_
  obtain ⟨p, j, rfl⟩ : ∃ (p : Fin 256) (j : Fin 1024), y = ix2 p j := ⟨y 0, y 1, eq_ix2 y⟩
  blk_simp
  have hy : ((win0_12.blk t).view.emb (ix2 p j) : S8192x1024.Idx) = ix2 (row t.val t.isLt p) j := by
    refine funext fun a => Fin.ext ?_
    fin_cases a <;> blk_simp [at12] <;> simp [row] <;> omega
  exact (outs12 m c t.val t.isLt p j).trans (congrArg (fun i => Cert.FbMath.DX (A m c) (i 0) (i 1) : FVec Ideal S8192x1024 .f32) hy).symm

theorem at13 : ∀ t : Fin cfg0.N, win0_13.index t = ![31 - t.val, 0] := (by decide +kernel : ∀ t : Fin grid0.N, win0_13.index t = ![31 - t.val, 0])

theorem final13 : (dats m 0 c).arrAt 13 cfg0.N = (fun i => Cert.FbMath.DY (A m c) (i 0) (i 1) : FVec Ideal S8192x1024 .bf16) := by
  refine (dats m 0 c).arrAt_eq_of_covers 13 _ (by decide +kernel) fun t hf y => ?_
  obtain ⟨p, j, rfl⟩ : ∃ (p : Fin 256) (j : Fin 1024), y = ix2 p j := ⟨y 0, y 1, eq_ix2 y⟩
  blk_simp
  have hy : ((win0_13.blk t).view.emb (ix2 p j) : S8192x1024.Idx) = ix2 (row t.val t.isLt p) j := by
    refine funext fun a => Fin.ext ?_
    fin_cases a <;> blk_simp [at13] <;> simp [row] <;> omega
  exact (outs13 m c t.val t.isLt p j).trans (congrArg (fun i => Cert.FbMath.DY (A m c) (i 0) (i 1) : FVec Ideal S8192x1024 .bf16) hy).symm

theorem at14 : ∀ t : Fin cfg0.N, win0_14.index t = ![31 - t.val, 0] := (by decide +kernel : ∀ t : Fin grid0.N, win0_14.index t = ![31 - t.val, 0])

theorem final14 : (dats m 0 c).arrAt 14 cfg0.N = (fun i => Cert.FbMath.DS (A m c) (i 0) (i 1) : FVec Ideal S8192x1024 .bf16) := by
  refine (dats m 0 c).arrAt_eq_of_covers 14 _ (by decide +kernel) fun t hf y => ?_
  obtain ⟨p, j, rfl⟩ : ∃ (p : Fin 256) (j : Fin 1024), y = ix2 p j := ⟨y 0, y 1, eq_ix2 y⟩
  blk_simp
  have hy : ((win0_14.blk t).view.emb (ix2 p j) : S8192x1024.Idx) = ix2 (row t.val t.isLt p) j := by
    refine funext fun a => Fin.ext ?_
    fin_cases a <;> blk_simp [at14] <;> simp [row] <;> omega
  exact (outs14 m c t.val t.isLt p j).trans (congrArg (fun i => Cert.FbMath.DS (A m c) (i 0) (i 1) : FVec Ideal S8192x1024 .bf16) hy).symm

theorem at15 : ∀ t : Fin cfg0.N, win0_15.index t = ![31 - t.val, 0] := (by decide +kernel : ∀ t : Fin grid0.N, win0_15.index t = ![31 - t.val, 0])

theorem final15 : (dats m 0 c).arrAt 15 cfg0.N = (fun i => Cert.FbMath.DR (A m c) (i 0) (i 1) : FVec Ideal S8192x1024 .bf16) := by
  refine (dats m 0 c).arrAt_eq_of_covers 15 _ (by decide +kernel) fun t hf y => ?_
  obtain ⟨p, j, rfl⟩ : ∃ (p : Fin 256) (j : Fin 1024), y = ix2 p j := ⟨y 0, y 1, eq_ix2 y⟩
  blk_simp
  have hy : ((win0_15.blk t).view.emb (ix2 p j) : S8192x1024.Idx) = ix2 (row t.val t.isLt p) j := by
    refine funext fun a => Fin.ext ?_
    fin_cases a <;> blk_simp [at15] <;> simp [row] <;> omega
  exact (outs15 m c t.val t.isLt p j).trans (congrArg (fun i => Cert.FbMath.DR (A m c) (i 0) (i 1) : FVec Ideal S8192x1024 .bf16) hy).symm

theorem at16 : ∀ t : Fin cfg0.N, win0_16.index t = ![0, 0] := (by decide +kernel : ∀ t : Fin grid0.N, win0_16.index t = ![0, 0])

theorem final16 : (dats m 0 c).arrAt 16 cfg0.N = (fun i => DC (A m c) (i 0) (i 1) : FVec Ideal S8x2816 .f32) := by
  refine (dats m 0 c).arrAt_eq_of_covers 16 _ (by decide +kernel) fun t hf y => ?_
  obtain ⟨p, j, rfl⟩ : ∃ (p : Fin 8) (j : Fin 2816), y = ix2 p j := ⟨y 0, y 1, eq_ix2 y⟩
  blk_simp
  have hy : ((win0_16.blk t).view.emb (ix2 p j) : S8x2816.Idx) = ix2 p j := by
    refine funext fun a => Fin.ext ?_
    fin_cases a <;> blk_simp [at16] <;> simp
  have hl : t.val = 31 := by have hN : cfg0.N = 32 := N_0; have := (flush0_16 t).mp hf; have := t.isLt; omega
  refine (outs16 m c t.val t.isLt p j).trans (Eq.trans ?_ (congrArg (fun i => DC (A m c) (i 0) (i 1) : FVec Ideal S8x2816 .f32) hy).symm)
  rw [hl, total, sum_DC]
  rfl

theorem at17 : ∀ t : Fin cfg0.N, win0_17.index t = ![0, 0] := (by decide +kernel : ∀ t : Fin grid0.N, win0_17.index t = ![0, 0])

theorem final17 : (dats m 0 c).arrAt 17 cfg0.N = (fun i => DF (A m c) (i 1) : FVec Ideal S1x1024 .f32) := by
  refine (dats m 0 c).arrAt_eq_of_covers 17 _ (by decide +kernel) fun t hf y => ?_
  obtain ⟨p, j, rfl⟩ : ∃ (p : Fin 1) (j : Fin 1024), y = ix2 p j := ⟨y 0, y 1, eq_ix2 y⟩
  blk_simp
  have hy : ((win0_17.blk t).view.emb (ix2 p j) : S1x1024.Idx) = ix2 p j := by
    refine funext fun a => Fin.ext ?_
    fin_cases a <;> blk_simp [at17] <;> simp
  have hl : t.val = 31 := by have hN : cfg0.N = 32 := N_0; have := (flush0_17 t).mp hf; have := t.isLt; omega
  refine (outs17 m c t.val t.isLt p j).trans (Eq.trans ?_ (congrArg (fun i => DF (A m c) (i 1) : FVec Ideal S1x1024 .f32) hy).symm)
  rw [hl, total]
  rfl

theorem at18 : ∀ t : Fin cfg0.N, win0_18.index t = ![0, 0] := (by decide +kernel : ∀ t : Fin grid0.N, win0_18.index t = ![0, 0])

theorem final18 : (dats m 0 c).arrAt 18 cfg0.N = (fun i => DM (A m c) (i 1) : FVec Ideal S1x1024 .f32) := by
  refine (dats m 0 c).arrAt_eq_of_covers 18 _ (by decide +kernel) fun t hf y => ?_
  obtain ⟨p, j, rfl⟩ : ∃ (p : Fin 1) (j : Fin 1024), y = ix2 p j := ⟨y 0, y 1, eq_ix2 y⟩
  blk_simp
  have hy : ((win0_18.blk t).view.emb (ix2 p j) : S1x1024.Idx) = ix2 p j := by
    refine funext fun a => Fin.ext ?_
    fin_cases a <;> blk_simp [at18] <;> simp
  have hl : t.val = 31 := by have hN : cfg0.N = 32 := N_0; have := (flush0_18 t).mp hf; have := t.isLt; omega
  refine (outs18 m c t.val t.isLt p j).trans (Eq.trans ?_ (congrArg (fun i => DM (A m c) (i 1) : FVec Ideal S1x1024 .f32) hy).symm)
  rw [hl, total]
  rfl

end Cert.Kernel2Ideal.Fb
-- ==== Proof.FbRef.lean ====
module

public import proofs.«01_k».proof.Proof.FbMath
public import proofs.«01_k».proof.Proof.Rows
public import proofs.«01_k».proof.Proof.Gen.Reference2Ideal.Read

@[expose] public section

set_option maxRecDepth 16384

noncomputable section

open Idealize.ShloMosaic Idealize.ShloMosaic.TcCoe Idealize.SL.Sem

/-! The differentiated entry of the feed-forward, stage by stage, read at an index. -/

namespace Cert.Reference2Ideal.Fb

open Cert.Reference2Ideal Cert.Reference2Ideal.Gen Cert.Reference2Ideal.Read Cert.RealFacts Cert.FbMath

variable (x0 x1 x2 : Vec Ideal S1x8192x1024 .f32) (x3 : Vec Ideal S1x2048x1024 .f32) (x4 x5 : Vec Ideal S1x1024 .f32)
  (x6 : Vec Ideal S1x1024x5632 .f32) (x7 : Vec Ideal S1x3x2816 .f32) (x8 x9 : Vec Ideal S1x8192x2816 .f32) (x10 : Vec Ideal S1x8192x1024 .f32)

theorem v5_apply (t : Fin 8192) (j : Fin 1024) : (val_main_v5 (F := Ideal) x1 x2 x3) (ix3 0 t j) = Y (args x0 x1 x2 x3 x4 x5 x6 x7 x8 x9 x10) t j := by
  pointwise [val_main_v5, val_main_v0, val_main_cst, val_main_v4, val_main_v3, val_main_v2]
  rfl

theorem v13_apply (t : Fin 8192) : (val_main_v13 (F := Ideal) x1 x2 x3) (ix3 0 t 0) = msq (Y (args x0 x1 x2 x3 x4 x5 x6 x7 x8 x9 x10) t) := by
  have h := v5_apply x0 x1 x2 x3 x4 x5 x6 x7 x8 x9 x10
  pointwise [val_main_v13, val_main_v12, val_main_cst_3, val_main_v11, val_main_v10, val_main_cst_2, val_main_v9, val_main_v8, val_main_cst_1, val_main_v7, msq, h]

theorem v23_apply (t : Fin 8192) (j : Fin 1024) : (val_main_v23 (F := Ideal) x0 x1 x2 x3 x4) (ix3 0 t j) = X1 (args x0 x1 x2 x3 x4 x5 x6 x7 x8 x9 x10) t j := by
  have h := v5_apply x0 x1 x2 x3 x4 x5 x6 x7 x8 x9 x10
  have h' := v13_apply x0 x1 x2 x3 x4 x5 x6 x7 x8 x9 x10
  pointwise [val_main_v23, val_main_v22, val_main_v21, val_main_v20, val_main_v6, val_main_v19, val_main_v18, val_main_v14, h, h']
  rfl

theorem v31_apply (t : Fin 8192) : (val_main_v31 (F := Ideal) x0 x1 x2 x3 x4) (ix3 0 t 0) = msq (X1 (args x0 x1 x2 x3 x4 x5 x6 x7 x8 x9 x10) t) := by
  have h := v23_apply x0 x1 x2 x3 x4 x5 x6 x7 x8 x9 x10
  pointwise [val_main_v31, val_main_v30, val_main_cst_7, val_main_v29, val_main_v28, val_main_cst_6, val_main_v27, val_main_v26, val_main_cst_5, val_main_v25, msq, h]

theorem v45_apply (t : Fin 8192) (j : Fin 2816) : (val_main_v45 (F := Ideal) x0 x1 x2 x3 x4 x5 x6) (ix3 0 t j) = G (args x0 x1 x2 x3 x4 x5 x6 x7 x8 x9 x10) t j := by
  have h := v23_apply x0 x1 x2 x3 x4 x5 x6 x7 x8 x9 x10
  have h' := v31_apply x0 x1 x2 x3 x4 x5 x6 x7 x8 x9 x10
  pointwise [val_main_v45, val_main_v1, val_main_cst_0, val_main_v43, val_main_v42, val_main_v41, val_main_v40, val_main_v39, val_main_v38, val_main_v24, val_main_v37, val_main_v36, val_main_v32, h, h']
  rfl

theorem v110_apply (t : Fin 8192) (j : Fin 2816) : (val_main_v110 (F := Ideal) x7 x8) (ix3 0 t j) = DG (args x0 x1 x2 x3 x4 x5 x6 x7 x8 x9 x10) t j := by
  pointwise [val_main_v110, val_main_v105, val_main_v94]
  unfold val_main_v84 val_main_v93 val_main_v104
  rw [pad_rows3, pad_rows3, pad_rows3]
  have e79 : ∀ r : Fin 8192, (val_main_v79 (F := Ideal) x7 x8) (ix3 0 r j) = x7 (ix3 0 2 j) * x8 (ix3 0 r j) := fun r => by pointwise [val_main_v79, val_main_v77, val_main_v78, val_main_v69, val_main_v67, val_main_v66, val_main_v46]
  have e88 : ∀ r : Fin 8192, (val_main_v88 (F := Ideal) x7 x8) (ix3 0 r j) = x7 (ix3 0 1 j) * x8 (ix3 0 r j) := fun r => by pointwise [val_main_v88, val_main_v76, val_main_v87, val_main_v62, val_main_v60, val_main_v59, val_main_v46]
  have e99 : ∀ r : Fin 8192, (val_main_v99 (F := Ideal) x7 x8) (ix3 0 r j) = x7 (ix3 0 0 j) * x8 (ix3 0 r j) := fun r => by pointwise [val_main_v99, val_main_v76, val_main_v98, val_main_v54, val_main_v52, val_main_v51, val_main_v46]
  simp only [e79, e88, e99]
  have z15 : val_main_cst_15 (F := Ideal) (Shape.Idx.first h_S_) = 0 := by pointwise [val_main_cst_15]
  have z19 : val_main_cst_19 (F := Ideal) (Shape.Idx.first h_S_) = 0 := by pointwise [val_main_cst_19]
  have z23 : val_main_cst_23 (F := Ideal) (Shape.Idx.first h_S_) = 0 := by pointwise [val_main_cst_23]
  have d : ∀ s, (if hh : s ≤ 2 + t.val ∧ 2 + t.val - s < 8192 then x8 (ix3 0 ⟨2 + t.val - s, hh.2⟩ j) else 0) = if s ≤ 2 + t.val then D (args x0 x1 x2 x3 x4 x5 x6 x7 x8 x9 x10) (2 + t.val - s) j else 0 := fun s => by
    by_cases h1 : s ≤ 2 + t.val
    · by_cases h2 : 2 + t.val - s < 8192
      · rw [dif_pos ⟨h1, h2⟩, if_pos h1, D, dif_pos h2]; rfl
      · rw [dif_neg fun h => h2 h.2, if_pos h1, D, dif_neg h2]
    · rw [dif_neg fun h => h1 h.1, if_neg h1]
  have e : ∀ s, s ≤ 2 → ∀ (w z : EReal), z = 0 → (if hh : s ≤ 2 + t.val ∧ 2 + t.val - s < 8192 then w * x8 (ix3 0 ⟨2 + t.val - s, hh.2⟩ j) else z) = w * D (args x0 x1 x2 x3 x4 x5 x6 x7 x8 x9 x10) (t.val + (2 - s)) j := fun s hs w z hz => by
    rw [show t.val + (2 - s) = 2 + t.val - s from by omega]
    have h0 := d s
    rw [if_pos (by omega)] at h0
    rw [← h0, hz]
    split
    · rfl
    · rw [mul_zero]
  rw [e 2 (by omega) _ _ z15, e 1 (by omega) _ _ z19, e 0 (by omega) _ _ z23]
  unfold DG
  rw [add_comm (_ + _), add_comm (x7 (ix3 0 2 j) * _), ← add_assoc]
  rfl

theorem v113_apply (t : Fin 8192) (j : Fin 1024) : (val_main_v113 (F := Ideal) x6 x7 x8 x9) (ix3 0 t j) = DH (args x0 x1 x2 x3 x4 x5 x6 x7 x8 x9 x10) t j := by
  have h := v110_apply x0 x1 x2 x3 x4 x5 x6 x7 x8 x9 x10
  pointwise [val_main_v113, val_main_v41, val_main_v112, h]
  rfl

theorem v135_apply (t : Fin 8192) (j : Fin 1024) : (val_main_v135 (F := Ideal) x0 x1 x2 x3 x4 x5 x6 x7 x8 x9 x10) (ix3 0 t j)
    = x10 (ix3 0 t j) + DH (args x0 x1 x2 x3 x4 x5 x6 x7 x8 x9 x10) t j * x5 (ix2 0 j) * rs (X1 (args x0 x1 x2 x3 x4 x5 x6 x7 x8 x9 x10) t) + X1 (args x0 x1 x2 x3 x4 x5 x6 x7 x8 x9 x10) t j * rm (X1 (args x0 x1 x2 x3 x4 x5 x6 x7 x8 x9 x10) t) (fun k => x5 (ix2 0 k)) (DH (args x0 x1 x2 x3 x4 x5 x6 x7 x8 x9 x10) t)
      + rm (X1 (args x0 x1 x2 x3 x4 x5 x6 x7 x8 x9 x10) t) (fun k => x5 (ix2 0 k)) (DH (args x0 x1 x2 x3 x4 x5 x6 x7 x8 x9 x10) t) * X1 (args x0 x1 x2 x3 x4 x5 x6 x7 x8 x9 x10) t j := by
  have h := v23_apply x0 x1 x2 x3 x4 x5 x6 x7 x8 x9 x10
  have h' := v31_apply x0 x1 x2 x3 x4 x5 x6 x7 x8 x9 x10
  have h'' := v113_apply x0 x1 x2 x3 x4 x5 x6 x7 x8 x9 x10
  pointwise [val_main_v135, val_main_v134, val_main_v131, val_main_v130, val_main_v129, val_main_cst_29, val_main_v128, val_main_v127, val_main_cst_28, val_main_v126, val_main_v35, val_main_v33, val_main_v32, val_main_v34, val_main_cst_8, val_main_v122, val_main_v121, val_main_cst_27, val_main_v120, val_main_v118, val_main_v117, val_main_v38, val_main_v24, val_main_v133, val_main_v132, val_main_v125, val_main_v124, val_main_v123, red02, h, h', h'', rm, rs]

theorem v158_apply (d : Fin 8192 → Fin 1024 → EReal) (hd : ∀ t j, (val_main_v135 (F := Ideal) x0 x1 x2 x3 x4 x5 x6 x7 x8 x9 x10) (ix3 0 t j) = d t j) (t : Fin 8192) (j : Fin 1024) :
    (val_main_v158 (F := Ideal) x0 x1 x2 x3 x4 x5 x6 x7 x8 x9 x10) (ix3 0 t j)
    = d t j * x4 (ix2 0 j) * rs (Y (args x0 x1 x2 x3 x4 x5 x6 x7 x8 x9 x10) t) + Y (args x0 x1 x2 x3 x4 x5 x6 x7 x8 x9 x10) t j * rm (Y (args x0 x1 x2 x3 x4 x5 x6 x7 x8 x9 x10) t) (fun k => x4 (ix2 0 k)) (d t)
      + rm (Y (args x0 x1 x2 x3 x4 x5 x6 x7 x8 x9 x10) t) (fun k => x4 (ix2 0 k)) (d t) * Y (args x0 x1 x2 x3 x4 x5 x6 x7 x8 x9 x10) t j := by
  have h := v5_apply x0 x1 x2 x3 x4 x5 x6 x7 x8 x9 x10
  have h' := v13_apply x0 x1 x2 x3 x4 x5 x6 x7 x8 x9 x10
  pointwise [val_main_v158, val_main_v157, val_main_v154, val_main_v153, val_main_v152, val_main_cst_34, val_main_v151, val_main_v150, val_main_cst_33, val_main_v149, val_main_v17, val_main_v15, val_main_v14, val_main_v16, val_main_cst_4, val_main_v146, val_main_v145, val_main_cst_32, val_main_v144, val_main_v142, val_main_v141, val_main_v20, val_main_v6, val_main_v137, val_main_v156, val_main_v155, val_main_v148, val_main_v147, red02, h, h', hd, rm, rs]

theorem v136_apply (u : Fin 1) (j : Fin 1024) : (val_main_v136 (F := Ideal) x0 x1 x2 x3 x4 x6 x7 x8 x9) (ix2 u j) = DF (args x0 x1 x2 x3 x4 x5 x6 x7 x8 x9 x10) j := by
  have h := v23_apply x0 x1 x2 x3 x4 x5 x6 x7 x8 x9 x10
  have h' := v31_apply x0 x1 x2 x3 x4 x5 x6 x7 x8 x9 x10
  have h'' := v113_apply x0 x1 x2 x3 x4 x5 x6 x7 x8 x9 x10
  pointwise [val_main_v136, val_main_v119, val_main_cst_26, val_main_v116, val_main_v115, val_main_cst_25, val_main_v114, val_main_v37, val_main_v36, val_main_v32, red01, h, h', h'']
  exact Finset.sum_congr rfl fun t _ => (mul_comm _ _).trans (mul_assoc _ _ _).symm

theorem v159_apply (d : Fin 8192 → Fin 1024 → EReal) (hd : ∀ t j, (val_main_v135 (F := Ideal) x0 x1 x2 x3 x4 x5 x6 x7 x8 x9 x10) (ix3 0 t j) = d t j) (u : Fin 1) (j : Fin 1024) :
    (val_main_v159 (F := Ideal) x0 x1 x2 x3 x4 x5 x6 x7 x8 x9 x10) (ix2 u j) = ∑ t : Fin 8192, d t j * Y (args x0 x1 x2 x3 x4 x5 x6 x7 x8 x9 x10) t j * rs (Y (args x0 x1 x2 x3 x4 x5 x6 x7 x8 x9 x10) t) := by
  have h := v5_apply x0 x1 x2 x3 x4 x5 x6 x7 x8 x9 x10
  have h' := v13_apply x0 x1 x2 x3 x4 x5 x6 x7 x8 x9 x10
  pointwise [val_main_v159, val_main_v143, val_main_cst_31, val_main_v140, val_main_v139, val_main_cst_30, val_main_v138, val_main_v137, val_main_v19, val_main_v18, val_main_v14, red01, h, h', hd]
  exact Finset.sum_congr rfl fun t _ => (mul_comm _ _).trans (mul_assoc _ _ _).symm

theorem v164_apply (t : Fin 8192) (j : Fin 2816) : (val_main_v164 (F := Ideal) x7 x8) (ix2 t j) = DG (args x0 x1 x2 x3 x4 x5 x6 x7 x8 x9 x10) t j := by
  have h := v110_apply x0 x1 x2 x3 x4 x5 x6 x7 x8 x9 x10
  pointwise [val_main_v164, val_main_v163, h]

theorem v165_apply (t : Fin 8192) (j : Fin 1024) : (val_main_v165 (F := Ideal) x0 x1 x2 x3 x4 x5 x6 x7 x8 x9 x10) (ix2 t j) = (val_main_v135 (F := Ideal) x0 x1 x2 x3 x4 x5 x6 x7 x8 x9 x10) (ix3 0 t j) := by
  pointwise [val_main_v165]

theorem v167_apply (t : Fin 8192) (j : Fin 1024) : (val_main_v167 (F := Ideal) x0 x1 x2 x3 x4 x5 x6 x7 x8 x9 x10) (ix2 t j) = (val_main_v158 (F := Ideal) x0 x1 x2 x3 x4 x5 x6 x7 x8 x9 x10) (ix3 0 t j) := by
  pointwise [val_main_v167, val_main_v166]

theorem v169_apply (t : Fin 8192) (j : Fin 1024) : (val_main_v169 (F := Ideal) x0 x1 x2 x3 x4 x5 x6 x7 x8 x9 x10) (ix2 t j) = ∑ k : Fin 1024, (val_main_v158 (F := Ideal) x0 x1 x2 x3 x4 x5 x6 x7 x8 x9 x10) (ix3 0 t k) * x3 (ix3 0 ⟨j, by omega⟩ k) := by
  pointwise [val_main_v169, val_main_v168, val_main_v161, val_main_v160, val_main_v3]

theorem v171_apply (t : Fin 8192) (j : Fin 1024) : (val_main_v171 (F := Ideal) x0 x1 x2 x3 x4 x5 x6 x7 x8 x9 x10) (ix2 t j) = ∑ k : Fin 1024, (val_main_v158 (F := Ideal) x0 x1 x2 x3 x4 x5 x6 x7 x8 x9 x10) (ix3 0 t k) * x3 (ix3 0 ⟨1024 + j, by omega⟩ k) := by
  pointwise [val_main_v171, val_main_v170, val_main_v162, val_main_v160, val_main_v3]

/-- The rows the convolution reads: two rows of zeros before the gate's. -/
theorem v49_apply (r : Fin 8194) (j : Fin 2816) : (val_main_v49 (F := Ideal) x0 x1 x2 x3 x4 x5 x6) (ix3 0 r j) = if h : 2 ≤ r.val then G (args x0 x1 x2 x3 x4 x5 x6 x7 x8 x9 x10) ⟨r.val - 2, by omega⟩ j else 0 := by
  have h := v45_apply x0 x1 x2 x3 x4 x5 x6 x7 x8 x9 x10
  pointwise [val_main_v49, val_main_v48, val_main_cst_10, h]
  by_cases hr : 2 ≤ r.val
  · rw [dif_neg (by omega), dif_pos hr]
  · rw [dif_pos (by omega), dif_neg hr]

theorem v83_apply (j : Fin 2816) : (val_main_v83 (F := Ideal) x0 x1 x2 x3 x4 x5 x6 x8) (ix1 j) = ∑ t : Fin 8192, x8 (ix3 0 t j) * (val_main_v49 (F := Ideal) x0 x1 x2 x3 x4 x5 x6) (ix3 0 ⟨2 + t.val, by omega⟩ j) := by
  pointwise [val_main_v83, val_main_cst_14, val_main_v82, val_main_v81, val_main_cst_13, val_main_v80, val_main_v68, val_main_v77, red01]

theorem v92_apply (j : Fin 2816) : (val_main_v92 (F := Ideal) x0 x1 x2 x3 x4 x5 x6 x8) (ix1 j) = ∑ t : Fin 8192, x8 (ix3 0 t j) * (val_main_v49 (F := Ideal) x0 x1 x2 x3 x4 x5 x6) (ix3 0 ⟨1 + t.val, by omega⟩ j) := by
  pointwise [val_main_v92, val_main_cst_18, val_main_v91, val_main_v90, val_main_cst_17, val_main_v89, val_main_v61, val_main_v76, red01]

theorem v103_apply (j : Fin 2816) : (val_main_v103 (F := Ideal) x0 x1 x2 x3 x4 x5 x6 x8) (ix1 j) = ∑ t : Fin 8192, x8 (ix3 0 t j) * (val_main_v49 (F := Ideal) x0 x1 x2 x3 x4 x5 x6) (ix3 0 ⟨t.val, by omega⟩ j) := by
  pointwise [val_main_v103, val_main_cst_22, val_main_v102, val_main_v101, val_main_cst_21, val_main_v100, val_main_v53, val_main_v76, red01]

theorem v173_apply (q : Fin 8) (j : Fin 2816) : (val_main_v173 (F := Ideal) x0 x1 x2 x3 x4 x5 x6 x8) (ix2 q j) = DC (args x0 x1 x2 x3 x4 x5 x6 x7 x8 x9 x10) q j := by
  have h3 := v83_apply x0 x1 x2 x3 x4 x5 x6 x8
  have h2 := v92_apply x0 x1 x2 x3 x4 x5 x6 x8
  have h1 := v103_apply x0 x1 x2 x3 x4 x5 x6 x8
  pointwise [val_main_v173, val_main_v172, val_main_v111, val_main_v108, val_main_v97]
  have h0 := v49_apply x0 x1 x2 x3 x4 x5 x6 x7 x8 x9 x10
  have k : ∀ (s : ℕ) (hs : s < 3), ∑ t : Fin 8192, x8 (ix3 0 t j) * (val_main_v49 (F := Ideal) x0 x1 x2 x3 x4 x5 x6) (ix3 0 ⟨s + t.val, by omega⟩ j) = DC (args x0 x1 x2 x3 x4 x5 x6 x7 x8 x9 x10) ⟨s, by omega⟩ j := fun s hs => by
    unfold DC
    rw [if_pos hs]
    have h := shift_sum 8192 (2 - s) (by omega) (fun r => D (args x0 x1 x2 x3 x4 x5 x6 x7 x8 x9 x10) r j) (fun r => if hr : r < 8192 then G (args x0 x1 x2 x3 x4 x5 x6 x7 x8 x9 x10) ⟨r, hr⟩ j else 0)
    refine Eq.trans (Finset.sum_congr rfl fun t _ => ?_) (h.trans (Finset.sum_congr rfl fun t _ => ?_))
    · rw [h0]
      refine congrArg₂ (· * ·) (by rw [D, dif_pos t.isLt]; rfl) ?_
      by_cases ht : 2 ≤ s + t.val
      · rw [dif_pos ht, if_pos (by omega), dif_pos (by omega)]
        exact congrArg (fun r => G (args x0 x1 x2 x3 x4 x5 x6 x7 x8 x9 x10) r j) (Fin.ext (by show s + t.val - 2 = t.val - (2 - s); omega))
      · rw [dif_neg ht, if_neg (by omega)]
    · rw [dif_pos t.isLt]
      refine congrArg₂ (· * ·) ?_ rfl
      split
      · rfl
      · rw [D, dif_neg ‹_›]
  have z16 : val_main_cst_16 (F := Ideal) (Shape.Idx.first h_S_) = 0 := by pointwise [val_main_cst_16]
  have z20 : val_main_cst_20 (F := Ideal) (Shape.Idx.first h_S_) = 0 := by pointwise [val_main_cst_20]
  have z24 : val_main_cst_24 (F := Ideal) (Shape.Idx.first h_S_) = 0 := by pointwise [val_main_cst_24]
  have zc : val_main_call0_v0 (F := Ideal) (Shape.Idx.first h_S_) = 0 := by pointwise [val_main_call0_v0, val_main_c]; exact sitofp_zero' (s := S_) (Shape.Idx.first h_S_)
  have e85 : ∀ r : Fin 1, (val_main_v85 (F := Ideal) x0 x1 x2 x3 x4 x5 x6 x8) (ix2 r j) = DC (args x0 x1 x2 x3 x4 x5 x6 x7 x8 x9 x10) 2 j := fun r => by pointwise [val_main_v85]; rw [h3]; exact k 2 (by omega)
  have e95 : ∀ r : Fin 1, (val_main_v95 (F := Ideal) x0 x1 x2 x3 x4 x5 x6 x8) (ix2 r j) = DC (args x0 x1 x2 x3 x4 x5 x6 x7 x8 x9 x10) 1 j := fun r => by pointwise [val_main_v95]; rw [h2]; exact k 1 (by omega)
  have e106 : ∀ r : Fin 1, (val_main_v106 (F := Ideal) x0 x1 x2 x3 x4 x5 x6 x8) (ix2 r j) = DC (args x0 x1 x2 x3 x4 x5 x6 x7 x8 x9 x10) 0 j := fun r => by
    pointwise [val_main_v106]; rw [h1]
    refine Eq.trans (Finset.sum_congr rfl fun t _ => ?_) (k 0 (by omega))
    simp only [Nat.zero_add]
  unfold val_main_v86 val_main_v96 val_main_v107
  by_cases hq : q.val < 3
  · rw [dif_pos hq, pad_rows2, pad_rows2, pad_rows2, z16, z20, z24]
    simp only [e85, e95, e106]
    obtain ⟨q, h8⟩ := q
    change q < 3 at hq
    interval_cases q
    · rw [dif_neg (by simp), dif_neg (by simp), dif_pos (by simp), zero_add, zero_add]; rfl
    · rw [dif_neg (by simp), dif_pos (by simp), dif_neg (by simp), zero_add, add_zero]; rfl
    · rw [dif_pos (by simp), dif_neg (by simp), dif_neg (by simp), add_zero, add_zero]; rfl
  · rw [dif_neg hq, zc, DC, if_neg hq]

end Cert.Reference2Ideal.Fb
-- ==== Proof.FbFinal.lean ====
module

public import proofs.«01_k».proof.Defs
public import proofs.«01_k».proof.Proof.FbRun
public import proofs.«01_k».proof.Proof.FbRef
public import proofs.«01_k».proof.Proof.Finite
public import proofs.«01_k».proof.Proof.Gen.Kernel2.Frame
public import proofs.«01_k».proof.Proof.Gen.Pre_finite2

@[expose] public section

set_option maxRecDepth 16384

noncomputable section

open Idealize.ShloMosaic Idealize.ShloMosaic.TcCoe Idealize.SL.Sem Idealize.ShloMosaic.StableHlo

/-! The feed-forward entry's backward kernel and the differentiated forward lines give the same arrays. -/

namespace Cert.Fb

open Cert.RealFacts Cert.FbMath Cert.Reference2Ideal.Read Cert.Reference2Ideal.Fb

variable (x0 x1 x2 : FVec Ideal Cert.Pre_finite2.S1x8192x1024 .f32) (x3 : FVec Ideal Cert.Pre_finite2.S1x2048x1024 .f32) (x4 x5 : FVec Ideal Cert.Pre_finite2.S1x1024 .f32)
  (x6 : FVec Ideal Cert.Pre_finite2.S1x1024x5632 .f32) (x7 : FVec Ideal Cert.Pre_finite2.S1x3x2816 .f32) (x8 x9 : FVec Ideal Cert.Pre_finite2.S1x8192x2816 .f32) (x10 : FVec Ideal Cert.Pre_finite2.S1x8192x1024 .f32)

/-- The precondition says that every argument is a real number. -/
theorem finite_args (j : Cert.Pre_finite2.S_.Idx) (h : Cert.Pre_finite2.fn (F := Ideal) x0 x1 x2 x3 x4 x5 x6 x7 x8 x9 x10 j = 1#1) : (args x0 x1 x2 x3 x4 x5 x6 x7 x8 x9 x10).Real := by
  unfold Cert.Pre_finite2.fn Cert.Pre_finite2.fn_part1 Cert.Pre_finite2.fn_part2 Cert.Pre_finite2.fn_part3 at h
  obtain ⟨h, h10⟩ := IntOp.andi_eq_one.mp h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have sub : Subsingleton Cert.Pre_finite2.S_.Idx := ⟨fun a b => funext fun k => k.elim0⟩
  exact ⟨fun _ _ => all_fin _ _ _ _ _ (fun _ => bits_inf) _ h0 _, fun _ _ => all_fin _ _ _ _ _ (fun _ => bits_inf) _ h1 _, fun _ _ => all_fin _ _ _ _ _ (fun _ => bits_inf) _ h2 _, fun _ _ => all_fin _ _ _ _ _ (fun _ => bits_inf) _ h3 _, fun _ => all_fin _ _ _ _ _ (fun _ => bits_inf) _ h4 _, fun _ => all_fin _ _ _ _ _ (fun _ => bits_inf) _ h5 _, fun _ _ => all_fin _ _ _ _ _ (fun _ => bits_inf) _ h6 _, fun _ _ => all_fin _ _ _ _ _ (fun _ => bits_inf) _ h7 _, fun _ _ => all_fin _ _ _ _ _ (fun _ => bits_inf) _ h8 _, fun _ _ => all_fin _ _ _ _ _ (fun _ => bits_inf) _ h9 _, fun _ _ => all_fin _ _ _ _ _ (fun _ => bits_inf) _ h10 _⟩

variable (h : Cert.Pre_finite2.fn (F := Ideal) x0 x1 x2 x3 x4 x5 x6 x7 x8 x9 x10 = fun _ => 1#1)
include h

theorem d_eq (t : Fin 8192) (j : Fin 1024) : (val_main_v135 (F := Ideal) x0 x1 x2 x3 x4 x5 x6 x7 x8 x9 x10) (ix3 0 t j) = DX (args x0 x1 x2 x3 x4 x5 x6 x7 x8 x9 x10) t j :=
  (v135_apply x0 x1 x2 x3 x4 x5 x6 x7 x8 x9 x10 t j).trans (DX_eq (finite_args x0 x1 x2 x3 x4 x5 x6 x7 x8 x9 x10 (fun k => k.elim0) (congrFun h _)) t j)

theorem e_eq (t : Fin 8192) (j : Fin 1024) : (val_main_v158 (F := Ideal) x0 x1 x2 x3 x4 x5 x6 x7 x8 x9 x10) (ix3 0 t j) = DY (args x0 x1 x2 x3 x4 x5 x6 x7 x8 x9 x10) t j :=
  (v158_apply x0 x1 x2 x3 x4 x5 x6 x7 x8 x9 x10 (DX (args x0 x1 x2 x3 x4 x5 x6 x7 x8 x9 x10)) (d_eq x0 x1 x2 x3 x4 x5 x6 x7 x8 x9 x10 h) t j).trans (DY_eq (finite_args x0 x1 x2 x3 x4 x5 x6 x7 x8 x9 x10 (fun k => k.elim0) (congrFun h _)) t j)

/-- The eight results of the differentiated program. -/
theorem results :
    (val_main_v164 (F := Ideal) x7 x8) = (fun i => DG (args x0 x1 x2 x3 x4 x5 x6 x7 x8 x9 x10) (i 0) (i 1)) ∧ (val_main_v165 (F := Ideal) x0 x1 x2 x3 x4 x5 x6 x7 x8 x9 x10) = (fun i => DX (args x0 x1 x2 x3 x4 x5 x6 x7 x8 x9 x10) (i 0) (i 1)) ∧ (val_main_v167 (F := Ideal) x0 x1 x2 x3 x4 x5 x6 x7 x8 x9 x10) = (fun i => DY (args x0 x1 x2 x3 x4 x5 x6 x7 x8 x9 x10) (i 0) (i 1))
    ∧ (val_main_v169 (F := Ideal) x0 x1 x2 x3 x4 x5 x6 x7 x8 x9 x10) = (fun i => DS (args x0 x1 x2 x3 x4 x5 x6 x7 x8 x9 x10) (i 0) (i 1)) ∧ (val_main_v171 (F := Ideal) x0 x1 x2 x3 x4 x5 x6 x7 x8 x9 x10) = (fun i => DR (args x0 x1 x2 x3 x4 x5 x6 x7 x8 x9 x10) (i 0) (i 1))
    ∧ (val_main_v173 (F := Ideal) x0 x1 x2 x3 x4 x5 x6 x8) = (fun i => DC (args x0 x1 x2 x3 x4 x5 x6 x7 x8 x9 x10) (i 0) (i 1))
    ∧ (val_main_v136 (F := Ideal) x0 x1 x2 x3 x4 x6 x7 x8 x9) = (fun i => DF (args x0 x1 x2 x3 x4 x5 x6 x7 x8 x9 x10) (i 1)) ∧ (val_main_v159 (F := Ideal) x0 x1 x2 x3 x4 x5 x6 x7 x8 x9 x10) = (fun i => DM (args x0 x1 x2 x3 x4 x5 x6 x7 x8 x9 x10) (i 1)) := by
  have ext2 : ∀ (n w : ℕ) (f : (⟨2, ![n, w]⟩ : Shape).Idx → EReal) (g : Fin n → Fin w → EReal), (∀ a b, f (ix2 a b) = g a b) → f = fun i => g (i 0) (i 1) :=
    fun n w f g hfg => funext fun i => by
      obtain ⟨a, b, rfl⟩ : ∃ (a : Fin n) (b : Fin w), i = ix2 a b := ⟨i 0, i 1, funext fun k => by fin_cases k <;> rfl⟩
      exact hfg a b
  refine ⟨ext2 _ _ _ _ (v164_apply x0 x1 x2 x3 x4 x5 x6 x7 x8 x9 x10), ext2 _ _ _ _ fun t j => (v165_apply x0 x1 x2 x3 x4 x5 x6 x7 x8 x9 x10 t j).trans (d_eq x0 x1 x2 x3 x4 x5 x6 x7 x8 x9 x10 h t j),
    ext2 _ _ _ _ fun t j => (v167_apply x0 x1 x2 x3 x4 x5 x6 x7 x8 x9 x10 t j).trans (e_eq x0 x1 x2 x3 x4 x5 x6 x7 x8 x9 x10 h t j), ext2 _ _ _ _ fun t j => (v169_apply x0 x1 x2 x3 x4 x5 x6 x7 x8 x9 x10 t j).trans ?_,
    ext2 _ _ _ _ fun t j => (v171_apply x0 x1 x2 x3 x4 x5 x6 x7 x8 x9 x10 t j).trans ?_, ext2 _ _ _ _ (v173_apply x0 x1 x2 x3 x4 x5 x6 x7 x8 x9 x10),
    ext2 _ _ _ (fun _ j => DF (args x0 x1 x2 x3 x4 x5 x6 x7 x8 x9 x10) j) (v136_apply x0 x1 x2 x3 x4 x5 x6 x7 x8 x9 x10), ext2 _ _ _ (fun _ j => DM (args x0 x1 x2 x3 x4 x5 x6 x7 x8 x9 x10) j) fun u j => v159_apply x0 x1 x2 x3 x4 x5 x6 x7 x8 x9 x10 (DX (args x0 x1 x2 x3 x4 x5 x6 x7 x8 x9 x10)) (d_eq x0 x1 x2 x3 x4 x5 x6 x7 x8 x9 x10 h) u j⟩
  · simp only [e_eq x0 x1 x2 x3 x4 x5 x6 x7 x8 x9 x10 h]
    rfl
  · simp only [e_eq x0 x1 x2 x3 x4 x5 x6 x7 x8 x9 x10 h]
    rfl

omit h

/-- The differentiated program terminates with its arguments unchanged. -/
theorem frame_reference : quiescent_Reference2Ideal := fun m ρ _ =>
  (θ_run Cert.Reference2Ideal.defs _ _).mono (fun r h => ⟨fun c => (h c).2.2.2.2.2.2.2.2, Idealize.ShloMosaic.sem_eq_zero_of_no_sems (by decide) r.2⟩)
    (Cert.Reference2Ideal.Value.run (F := Ideal) m ρ)

variable (m' : (ℓ : Loc Cert.Reference2Ideal.nD Cert.Reference2Ideal.τ Cert.Reference2Ideal.sig) → Buf (Elt Ideal) ℓ)

/-- The differentiated program, run: each result, from arguments that satisfy the precondition. -/
theorem run_reference (ρ' : Dev Cert.Reference2Ideal.nD → PrngReg) (x : Dev Cert.Reference2Ideal.nD → Args)
    (hx : ∀ c : Dev Cert.Reference2Ideal.nD, x c = args (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) (m' (c.tc.loc Cert.Reference2Ideal.main_arg7)) (m' (c.tc.loc Cert.Reference2Ideal.main_arg8)) (m' (c.tc.loc Cert.Reference2Ideal.main_arg9)) (m' (c.tc.loc Cert.Reference2Ideal.main_arg10)))
    (hp : ∀ c : Dev Cert.Reference2Ideal.nD, Cert.Pre_finite2.fn (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) (m' (c.tc.loc Cert.Reference2Ideal.main_arg7)) (m' (c.tc.loc Cert.Reference2Ideal.main_arg8)) (m' (c.tc.loc Cert.Reference2Ideal.main_arg9)) (m' (c.tc.loc Cert.Reference2Ideal.main_arg10)) = fun _ => 1#1) :
    θ_run Cert.Reference2Ideal.defs (onTc (τ := Cert.Reference2Ideal.τ) (Cert.Reference2Ideal.main (F := Ideal))) ⟨m', fun _ => 0, ρ'⟩ fun r => ∀ c : Dev Cert.Reference2Ideal.nD,
      r.2.mem (c.tc.loc Cert.Reference2Ideal.main_v164) = (fun i => DG (x c) (i 0) (i 1))
      ∧ r.2.mem (c.tc.loc Cert.Reference2Ideal.main_v165) = (fun i => DX (x c) (i 0) (i 1))
      ∧ r.2.mem (c.tc.loc Cert.Reference2Ideal.main_v167) = (fun i => DY (x c) (i 0) (i 1))
      ∧ r.2.mem (c.tc.loc Cert.Reference2Ideal.main_v169) = (fun i => DS (x c) (i 0) (i 1))
      ∧ r.2.mem (c.tc.loc Cert.Reference2Ideal.main_v171) = (fun i => DR (x c) (i 0) (i 1))
      ∧ r.2.mem (c.tc.loc Cert.Reference2Ideal.main_v173) = (fun i => DC (x c) (i 0) (i 1))
      ∧ r.2.mem (c.tc.loc Cert.Reference2Ideal.main_v136) = (fun i => DF (x c) (i 1))
      ∧ r.2.mem (c.tc.loc Cert.Reference2Ideal.main_v159) = (fun i => DM (x c) (i 1))
      ∧ r.2.mem (c.tc.loc Cert.Reference2Ideal.main_arg0) = m' (c.tc.loc Cert.Reference2Ideal.main_arg0)
      ∧ r.2.mem (c.tc.loc Cert.Reference2Ideal.main_arg1) = m' (c.tc.loc Cert.Reference2Ideal.main_arg1)
      ∧ r.2.mem (c.tc.loc Cert.Reference2Ideal.main_arg2) = m' (c.tc.loc Cert.Reference2Ideal.main_arg2)
      ∧ r.2.mem (c.tc.loc Cert.Reference2Ideal.main_arg3) = m' (c.tc.loc Cert.Reference2Ideal.main_arg3)
      ∧ r.2.mem (c.tc.loc Cert.Reference2Ideal.main_arg4) = m' (c.tc.loc Cert.Reference2Ideal.main_arg4)
      ∧ r.2.mem (c.tc.loc Cert.Reference2Ideal.main_arg5) = m' (c.tc.loc Cert.Reference2Ideal.main_arg5)
      ∧ r.2.mem (c.tc.loc Cert.Reference2Ideal.main_arg6) = m' (c.tc.loc Cert.Reference2Ideal.main_arg6)
      ∧ r.2.mem (c.tc.loc Cert.Reference2Ideal.main_arg7) = m' (c.tc.loc Cert.Reference2Ideal.main_arg7)
      ∧ r.2.mem (c.tc.loc Cert.Reference2Ideal.main_arg8) = m' (c.tc.loc Cert.Reference2Ideal.main_arg8)
      ∧ r.2.mem (c.tc.loc Cert.Reference2Ideal.main_arg9) = m' (c.tc.loc Cert.Reference2Ideal.main_arg9)
      ∧ r.2.mem (c.tc.loc Cert.Reference2Ideal.main_arg10) = m' (c.tc.loc Cert.Reference2Ideal.main_arg10) :=
  (θ_run Cert.Reference2Ideal.defs _ _).mono
    (fun _ h c => by
      obtain ⟨r0, r1, r2, r3, r4, r5, r6, r7⟩ := results (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) (m' (c.tc.loc Cert.Reference2Ideal.main_arg7)) (m' (c.tc.loc Cert.Reference2Ideal.main_arg8)) (m' (c.tc.loc Cert.Reference2Ideal.main_arg9)) (m' (c.tc.loc Cert.Reference2Ideal.main_arg10)) (hp c)
      rw [← hx c] at r0 r1 r2 r3 r4 r5 r6 r7
      obtain ⟨h0, h1, h2, h3, h4, h5, h6, h7, h8⟩ := h c
      exact ⟨h0.trans ((val_main_v164_eq (launchContents m' c)).trans r0), h1.trans ((val_main_v165_eq (launchContents m' c)).trans r1), h2.trans ((val_main_v167_eq (launchContents m' c)).trans r2), h3.trans ((val_main_v169_eq (launchContents m' c)).trans r3), h4.trans ((val_main_v171_eq (launchContents m' c)).trans r4), h5.trans ((val_main_v173_eq (launchContents m' c)).trans r5), h6.trans ((val_main_v136_eq (launchContents m' c)).trans r6), h7.trans ((val_main_v159_eq (launchContents m' c)).trans r7), h8⟩)
    (Cert.Reference2Ideal.Value.run (F := Ideal) m' ρ')

/-- The kernel computes the derivative of the forward lines, all eight results. -/
theorem algebraic : algebraic_Kernel2Ideal_Reference2Ideal_pre_finite2 := fun m ρ m' ρ' hpre hargs =>
  ⟨fun c => (fun i => DG (Cert.Kernel2Ideal.Fb.A m c) (i 0) (i 1)), fun c => (fun i => DX (Cert.Kernel2Ideal.Fb.A m c) (i 0) (i 1)),
    fun c => (fun i => DY (Cert.Kernel2Ideal.Fb.A m c) (i 0) (i 1)), fun c => (fun i => DS (Cert.Kernel2Ideal.Fb.A m c) (i 0) (i 1)),
    fun c => (fun i => DR (Cert.Kernel2Ideal.Fb.A m c) (i 0) (i 1)),
    fun c => (fun i => DC (Cert.Kernel2Ideal.Fb.A m c) (i 0) (i 1)),
    fun c => (fun i => DF (Cert.Kernel2Ideal.Fb.A m c) (i 1)), fun c => (fun i => DM (Cert.Kernel2Ideal.Fb.A m c) (i 1)),
    (θ_run Cert.Kernel2Ideal.defs _ _).mono
      (fun _ h c => by
        obtain ⟨h0, h1, h2, h3, h4, h5, h6, h7, h8⟩ := h c
        exact ⟨h0.trans (Cert.Kernel2Ideal.Fb.final11 m c), h1.trans (Cert.Kernel2Ideal.Fb.final12 m c), h2.trans (Cert.Kernel2Ideal.Fb.final13 m c),
          h3.trans (Cert.Kernel2Ideal.Fb.final14 m c), h4.trans (Cert.Kernel2Ideal.Fb.final15 m c), h5.trans (Cert.Kernel2Ideal.Fb.final16 m c),
          h6.trans (Cert.Kernel2Ideal.Fb.final17 m c), h7.trans (Cert.Kernel2Ideal.Fb.final18 m c), h8⟩)
      (Cert.Kernel2Ideal.Value.run_blocks (F := Ideal) m ρ),
    run_reference m' ρ' _
      (fun c => by
        obtain ⟨a0, a1, a2, a3, a4, a5, a6, a7, a8, a9, a10⟩ := hargs c
        rw [a0, a1, a2, a3, a4, a5, a6, a7, a8, a9, a10]
        rfl)
      (fun c => by
        obtain ⟨a0, a1, a2, a3, a4, a5, a6, a7, a8, a9, a10⟩ := hargs c
        rw [a0, a1, a2, a3, a4, a5, a6, a7, a8, a9, a10]
        exact hpre c)⟩

end Cert.Fb
-- ==== Proof.RfOut.lean ====
module

public import proofs.«01_k».proof.Defs
public import proofs.«01_k».proof.Proof.Gen.Kernel3Ideal.Frame
public import proofs.«01_k».proof.Proof.Real
public import Idealize.ShloMosaic.Lib.Pipeline.Value
public import Idealize.ShloMosaic.Lib.WritesUnit
public import Idealize.ShloMosaic.Lib.VecWindow
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.Rf

open Cert.Kernel3Ideal Cert.Kernel3Ideal.Gen

variable {F : FTy → Type} [FloatOps F] [Named F]

theorem hz : (![0, 0] : Fin 2 → Nat) = fun _ => 0 := funext fun a => by fin_cases a <;> rfl

theorem hz3 : (![0, 0, 0] : Fin 3 → Nat) = fun _ => 0 := funext fun a => by fin_cases a <;> rfl

theorem hz4 : (![0, 0, 0, 0] : Fin 4 → Nat) = fun _ => 0 := funext fun a => by fin_cases a <;> rfl

/-! ### One head of a chunk, over the vectors the kernel cuts out for it -/

/-- The masked products of a chunk's queries with its keys. -/
def SCv (qs ks : FVec F S128x64 .f32) (dm : FVec F S128x128 .f32) : FVec F S128x128 .f32 :=
  mulf (matmul dot_S128x64_S128x64_S128x128_1_1_0_0_n_n none (truncf .bf16 qs bitsLt_bf16_f32) (truncf .bf16 ks bitsLt_bf16_f32) (constant S128x128 .f32 0x00000000#32)) dm

/-- The queries' products with the state before the chunk. -/
def CRv (qs qd : FVec F S128x64 .f32) (st : Vec F S1x64x128 .f32) : FVec F S128x128 .f32 :=
  matmul dot_S128x64_S64x128_S128x128_1_0_0_1_n_n none (truncf .bf16 (mulf qs qd) bitsLt_bf16_f32) (truncf .bf16 (shapeCast S64x128 st shapeCasts_S1x64x128_S64x128) bitsLt_bf16_f32) (constant S128x128 .f32 0x00000000#32)

/-- What a chunk adds to the state. -/
def KVv (kts : FVec F S64x128 .f32) (kd : FVec F S1x128 .f32) (v : Vec F S128x128 .bf16) : FVec F S64x128 .f32 :=
  matmul dot_S64x128_S128x128_S64x128_1_0_0_1_n_n none (truncf .bf16 (mulf kts (broadcastTo S64x128 kd broadcasts_S1x128_S64x128)) bitsLt_bf16_f32) (shapeCast S128x128 v shapeCasts_S128x128_S128x128) (constant S64x128 .f32 0x00000000#32)

/-- The head's output before its norm. -/
def Ov (sc cr : FVec F S128x128 .f32) (v : Vec F S128x128 .bf16) : FVec F S128x128 .f32 :=
  addf (matmul dot_S128x128_S128x128_S128x128_1_0_0_1_n_n none (truncf .bf16 sc bitsLt_bf16_f32) (shapeCast S128x128 v shapeCasts_S128x128_S128x128) (constant S128x128 .f32 0x00000000#32)) cr

/-- The state after the chunk. -/
def STv (γ : F .f32) (kv : FVec F S64x128 .f32) (st : Vec F S1x64x128 .f32) : FVec F S1x64x128 .f32 :=
  shapeCast S1x64x128 (addf (mulf (shapeCast S64x128 st shapeCasts_S1x64x128_S64x128) (broadcast S64x128 γ)) kv) shapeCasts_S64x128_S1x64x128

/-- A row index of the gate table, columns or rows of a head. -/
theorem colIn (h : Fin 8) : ∀ a, (![0, 128 * h.val] : Fin 2 → Nat) a + S128x128.size a ≤ S128x1024.size a := by
  revert h; decide

theorem wIn (h : Fin 8) : ∀ a, (![0, 128 * h.val] : Fin 2 → Nat) a + S1x128.size a ≤ S1x1024.size a := by
  revert h; decide

theorem stIn (h : Fin 8) : ∀ a, (![h.val, 0, 0] : Fin 3 → Nat) a + S1x64x128.size a ≤ S8x64x128.size a := by
  revert h; decide

theorem rtIn (h : Fin 8) (k : Fin 5) : ∀ a, (![h.val, k.val, 0, 0] : Fin 4 → Nat) a + S1x1x128x128.size a ≤ S8x5x128x128.size a := by
  revert h k; decide

theorem rowIn (h : Fin 8) : ∀ a, (![h.val, 4, 0, 0] : Fin 4 → Nat) a + S1x1x1x128.size a ≤ S8x5x128x128.size a := by
  revert h; decide

theorem slIn (h : Fin 8) : S128x512.Slices ![0, 64 * h.val] S128x64 := by
  match h with
  | 0 => exact slices_S128x512_o0_0_S128x64
  | 1 => exact slices_S128x512_o0_64_S128x64
  | 2 => exact slices_S128x512_o0_128_S128x64
  | 3 => exact slices_S128x512_o0_192_S128x64
  | 4 => exact slices_S128x512_o0_256_S128x64
  | 5 => exact slices_S128x512_o0_320_S128x64
  | 6 => exact slices_S128x512_o0_384_S128x64
  | 7 => exact slices_S128x512_o0_448_S128x64

theorem tlIn (h : Fin 8) : S512x128.Slices ![64 * h.val, 0] S64x128 := by
  match h with
  | 0 => exact slices_S512x128_o0_0_S64x128
  | 1 => exact slices_S512x128_o64_0_S64x128
  | 2 => exact slices_S512x128_o128_0_S64x128
  | 3 => exact slices_S512x128_o192_0_S64x128
  | 4 => exact slices_S512x128_o256_0_S64x128
  | 5 => exact slices_S512x128_o320_0_S64x128
  | 6 => exact slices_S512x128_o384_0_S64x128
  | 7 => exact slices_S512x128_o448_0_S64x128

/-- The decay of the state over a chunk, per head. -/
def gam (h : Fin 8) : F .f32 :=
  (![Named.named κ "chunk_decay_0" 0x3C8CC36A#32, Named.named κ "chunk_decay_1" 0x3E08698E#32, Named.named κ "chunk_decay_2" 0x3EBB9DB9#32, Named.named κ "chunk_decay_3" 0x3F1B1EB1#32, Named.named κ "chunk_decay_4" 0x3F475303#32, Named.named κ "chunk_decay_5" 0x3F61E7C9#32, Named.named κ "chunk_decay_6" 0x3F707C6F#32, Named.named κ "chunk_decay_7" 0x3F781F6D#32] : Fin 8 → F .f32) h

variable (x0 x1 : Vec F S128x512 .bf16) (x2 x3 : Vec F S128x1024 .bf16) (x4 x5 : Vec F S128x128 .f32) (x6 : Vec F S1x1024 .f32) (x7 : Vec F S8x5x128x128 .f32) (st : Vec F S8x64x128 .f32)

/-- A head's columns of a table of values. -/
def cl (X : Vec F S128x1024 .bf16) (h : Fin 8) : Vec F S128x128 .bf16 :=
  View.ld X (Rect.unit (s := S128x1024) ![0, 128 * h.val] S128x128.size (colIn h))

/-- A head's columns of the gain. -/
def wl (h : Fin 8) : Vec F S1x128 .f32 :=
  View.ld x6 (Rect.unit (s := S1x1024) ![0, 128 * h.val] S1x128.size (wIn h))

/-- One of a head's decay tables. -/
def tl (h : Fin 8) (k : Fin 5) : Vec F S1x1x128x128 .f32 :=
  View.ld x7 (Rect.unit (s := S8x5x128x128) ![h.val, k.val, 0, 0] S1x1x128x128.size (rtIn h k))

/-- The row of a head's key decays. -/
def rl (h : Fin 8) : Vec F S1x1x1x128 .f32 :=
  View.ld x7 (Rect.unit (s := S8x5x128x128) ![h.val, 4, 0, 0] S1x1x1x128.size (rowIn h))

/-- A head's state. -/
def stH (h : Fin 8) : Vec F S1x64x128 .f32 :=
  View.ld st (Rect.unit (s := S8x64x128) ![h.val, 0, 0] S1x64x128.size (stIn h))

/-- A head's columns of the rotated queries or keys. -/
def sl (X : FVec F S128x512 .f32) (h : Fin 8) : FVec F S128x64 .f32 :=
  extractStridedSlice S128x64 ![0, 64 * h.val] X (slIn h)

section Loads

variable (Q K : Vec F S128x512 .bf16) (V G : Fin 8 → Vec F S128x128 .bf16) (C D : Vec F S128x128 .f32) (W : Fin 8 → Vec F S1x128 .f32)
  (T : Fin 8 → Fin 5 → Vec F S1x1x128x128 .f32) (R : Fin 8 → Vec F S1x1x1x128 .f32) (S : Fin 8 → Vec F S1x64x128 .f32)

def Sc (h : Fin 8) : FVec F S128x128 .f32 :=
  SCv (sl (k0_pay4 C D Q) h) (sl (k0_pay5 C D K) h) (shapeCast S128x128 (T h 0) shapeCasts_S1x1x128x128_S128x128)

def Cr (h : Fin 8) : FVec F S128x128 .f32 :=
  CRv (sl (k0_pay4 C D Q) h) (extractStridedSlice S128x64 ![0, 0] (shapeCast S128x128 (T h 3) shapeCasts_S1x1x128x128_S128x128) slices_S128x128_o0_0_S128x64) (S h)

def Kv (h : Fin 8) : FVec F S64x128 .f32 :=
  KVv (extractStridedSlice S64x128 ![64 * h.val, 0] (k0_pay6 (k0_pay5 C D K)) (tlIn h)) (shapeCast S1x128 (R h) shapeCasts_S1x1x1x128_S1x128) (V h)

/-- A head's output before its norm. -/
def Oh (h : Fin 8) : FVec F S128x128 .f32 :=
  Ov (Sc Q K C D T h) (Cr Q C D T S h) (V h)

/-- A head's gated output. -/
def Yl (h : Fin 8) : FVec F S128x128 .bf16 :=
  k0_pay96 (Oh Q K V C D T S h) (G h) (W h)

/-- A head's state after the chunk. -/
def Nl (h : Fin 8) : FVec F S1x64x128 .f32 :=
  STv (gam h) (Kv K V C D R h) (S h)

end Loads

/-- A head's gated output from a chunk's blocks and the state before it. -/
def Yh : Fin 8 → FVec F S128x128 .bf16 :=
  Yl x0 x1 (cl x2) (cl x3) x4 x5 (wl x6) (tl x7) (stH st)

/-- A head's state after the chunk from its blocks and the state before it. -/
def Nh : Fin 8 → FVec F S1x64x128 .f32 :=
  Nl x1 (cl x2) x4 x5 (rl x7) (stH st)

/-- Eight heads side by side. -/
def colsG (W : Fin 8 → FVec F S128x128 .bf16) : Vec F S128x1024 .bf16 := fun y =>
  W ⟨(y 1).val / 128, by have := (y 1).isLt; change (y 1).val < 1024 at this; omega⟩ (ix2 (y 0) ⟨(y 1).val % 128, Nat.mod_lt _ (by decide)⟩)

/-- Eight heads one over another. -/
def headsG (W : Fin 8 → FVec F S1x64x128 .f32) : Vec F S8x64x128 .f32 := fun y => W (y 0) (ix3 0 (y 1) (y 2))

theorem col_step {κ : Kind} {sp : Space} (v : View sig κ sp S128x1024 .bf16) (f : v.ty.Contents (Elt F)) (o k : Nat) (ho : o = 128 * k)
    (i0) (w : FVec F S128x128 .bf16) (L : List (View.Piece (Elt F) S128x1024 .bf16)) (y : S128x1024.Idx) :
    v.read (Elt F) (v.writes (Elt F) f ((⟨Rect.unit (s := S128x1024) ![0, o] ![128, 128] i0, w⟩ : View.Piece (Elt F) S128x1024 .bf16) :: L)) y
      = if (y 1).val / 128 = k then w (ix2 (y 0) ⟨(y 1).val % 128, Nat.mod_lt _ (by decide)⟩) else v.read (Elt F) (v.writes (Elt F) f L) y := by
  split
  · rename_i h
    refine View.read_writes_cons_hit_of_coords v f (Rect.unit (s := S128x1024) ![0, o] ![128, 128] i0) w L (ix2 (n0 := 128) (n1 := 128) (y 0) ⟨(y 1).val % 128, Nat.mod_lt _ (by decide)⟩) y ?_
    intro a
    fin_cases a
    · show (y 0).val = 0 + 1 * (y 0).val
      omega
    · show (y 1).val = o + 1 * ((y 1).val % 128)
      omega
  · rename_i h
    refine View.read_writes_cons_miss_of_axis v f (⟨Rect.unit (s := S128x1024) ![0, o] ![128, 128] i0, w⟩ : View.Piece (Elt F) S128x1024 .bf16) L y 1 o 128 rfl rfl rfl ?_
    omega

theorem head_step {κ : Kind} {sp : Space} (v : View sig κ sp S8x64x128 .f32) (f : v.ty.Contents (Elt F)) (o : Nat)
    (i0) (w : FVec F S1x64x128 .f32) (L : List (View.Piece (Elt F) S8x64x128 .f32)) (y : S8x64x128.Idx) :
    v.read (Elt F) (v.writes (Elt F) f ((⟨Rect.unit (s := S8x64x128) ![o, 0, 0] ![1, 64, 128] i0, w⟩ : View.Piece (Elt F) S8x64x128 .f32) :: L)) y
      = if (y 0).val = o then w (ix3 0 (y 1) (y 2)) else v.read (Elt F) (v.writes (Elt F) f L) y := by
  split
  · rename_i h
    refine View.read_writes_cons_hit_of_coords v f (Rect.unit (s := S8x64x128) ![o, 0, 0] ![1, 64, 128] i0) w L (ix3 (n0 := 1) (n1 := 64) (n2 := 128) 0 (y 1) (y 2)) y ?_
    intro a
    fin_cases a
    · show (y 0).val = o + 1 * 0
      omega
    · show (y 1).val = 0 + 1 * (y 1).val
      omega
    · show (y 2).val = 0 + 1 * (y 2).val
      omega
  · rename_i h
    refine View.read_writes_cons_miss_of_axis v f (⟨Rect.unit (s := S8x64x128) ![o, 0, 0] ![1, 64, 128] i0, w⟩ : View.Piece (Elt F) S8x64x128 .f32) L y 0 o 1 rfl rfl rfl ?_
    omega

theorem cols8 {κ : Kind} {sp : Space} (v : View sig κ sp S128x1024 .bf16) (f : v.ty.Contents (Elt F)) (W : Fin 8 → FVec F S128x128 .bf16)
    (L : List (View.Piece (Elt F) S128x1024 .bf16)) (i7 i6 i5 i4 i3 i2 i1 i0) :
    v.read (Elt F) (v.writes (Elt F) f ((⟨Rect.unit (s := S128x1024) ![0, 896] ![128, 128] i7, W 7⟩ : View.Piece (Elt F) S128x1024 .bf16) :: (⟨Rect.unit (s := S128x1024) ![0, 768] ![128, 128] i6, W 6⟩ : View.Piece (Elt F) S128x1024 .bf16) :: (⟨Rect.unit (s := S128x1024) ![0, 640] ![128, 128] i5, W 5⟩ : View.Piece (Elt F) S128x1024 .bf16) :: (⟨Rect.unit (s := S128x1024) ![0, 512] ![128, 128] i4, W 4⟩ : View.Piece (Elt F) S128x1024 .bf16) :: (⟨Rect.unit (s := S128x1024) ![0, 384] ![128, 128] i3, W 3⟩ : View.Piece (Elt F) S128x1024 .bf16) :: (⟨Rect.unit (s := S128x1024) ![0, 256] ![128, 128] i2, W 2⟩ : View.Piece (Elt F) S128x1024 .bf16) :: (⟨Rect.unit (s := S128x1024) ![0, 128] ![128, 128] i1, W 1⟩ : View.Piece (Elt F) S128x1024 .bf16) :: (⟨Rect.unit (s := S128x1024) ![0, 0] ![128, 128] i0, W 0⟩ : View.Piece (Elt F) S128x1024 .bf16) :: L)) = colsG W := by
  funext y
  have hy : (y 1).val / 128 < 8 := by have := (y 1).isLt; change (y 1).val < 1024 at this; omega
  have hW : ∀ k : Fin 8, (y 1).val / 128 = k.val → W k (ix2 (y 0) ⟨(y 1).val % 128, Nat.mod_lt _ (by decide)⟩) = colsG W y := fun k hk => by
    unfold colsG
    congr 2
    exact Fin.ext hk.symm
  rw [col_step v f 896 7 rfl]
  by_cases h7 : (y 1).val / 128 = 7
  · rw [if_pos h7]
    exact hW 7 h7
  rw [if_neg h7]
  rw [col_step v f 768 6 rfl]
  by_cases h6 : (y 1).val / 128 = 6
  · rw [if_pos h6]
    exact hW 6 h6
  rw [if_neg h6]
  rw [col_step v f 640 5 rfl]
  by_cases h5 : (y 1).val / 128 = 5
  · rw [if_pos h5]
    exact hW 5 h5
  rw [if_neg h5]
  rw [col_step v f 512 4 rfl]
  by_cases h4 : (y 1).val / 128 = 4
  · rw [if_pos h4]
    exact hW 4 h4
  rw [if_neg h4]
  rw [col_step v f 384 3 rfl]
  by_cases h3 : (y 1).val / 128 = 3
  · rw [if_pos h3]
    exact hW 3 h3
  rw [if_neg h3]
  rw [col_step v f 256 2 rfl]
  by_cases h2 : (y 1).val / 128 = 2
  · rw [if_pos h2]
    exact hW 2 h2
  rw [if_neg h2]
  rw [col_step v f 128 1 rfl]
  by_cases h1 : (y 1).val / 128 = 1
  · rw [if_pos h1]
    exact hW 1 h1
  rw [if_neg h1]
  rw [col_step v f 0 0 rfl]
  by_cases h0 : (y 1).val / 128 = 0
  · rw [if_pos h0]
    exact hW 0 h0
  rw [if_neg h0]
  omega

theorem heads8 {κ : Kind} {sp : Space} (v : View sig κ sp S8x64x128 .f32) (f : v.ty.Contents (Elt F)) (W : Fin 8 → FVec F S1x64x128 .f32)
    (L : List (View.Piece (Elt F) S8x64x128 .f32)) (i7 i6 i5 i4 i3 i2 i1 i0) :
    v.read (Elt F) (v.writes (Elt F) f ((⟨Rect.unit (s := S8x64x128) ![7, 0, 0] ![1, 64, 128] i7, W 7⟩ : View.Piece (Elt F) S8x64x128 .f32) :: (⟨Rect.unit (s := S8x64x128) ![6, 0, 0] ![1, 64, 128] i6, W 6⟩ : View.Piece (Elt F) S8x64x128 .f32) :: (⟨Rect.unit (s := S8x64x128) ![5, 0, 0] ![1, 64, 128] i5, W 5⟩ : View.Piece (Elt F) S8x64x128 .f32) :: (⟨Rect.unit (s := S8x64x128) ![4, 0, 0] ![1, 64, 128] i4, W 4⟩ : View.Piece (Elt F) S8x64x128 .f32) :: (⟨Rect.unit (s := S8x64x128) ![3, 0, 0] ![1, 64, 128] i3, W 3⟩ : View.Piece (Elt F) S8x64x128 .f32) :: (⟨Rect.unit (s := S8x64x128) ![2, 0, 0] ![1, 64, 128] i2, W 2⟩ : View.Piece (Elt F) S8x64x128 .f32) :: (⟨Rect.unit (s := S8x64x128) ![1, 0, 0] ![1, 64, 128] i1, W 1⟩ : View.Piece (Elt F) S8x64x128 .f32) :: (⟨Rect.unit (s := S8x64x128) ![0, 0, 0] ![1, 64, 128] i0, W 0⟩ : View.Piece (Elt F) S8x64x128 .f32) :: L)) = headsG W := by
  funext y
  have hy : (y 0).val < 8 := (y 0).isLt
  have hW : ∀ k : Fin 8, (y 0).val = k.val → W k (ix3 0 (y 1) (y 2)) = headsG W y := fun k hk => by
    unfold headsG
    congr 2
    exact Fin.ext hk.symm
  rw [head_step v f 7]
  by_cases h7 : (y 0).val = 7
  · rw [if_pos h7]
    exact hW 7 h7
  rw [if_neg h7]
  rw [head_step v f 6]
  by_cases h6 : (y 0).val = 6
  · rw [if_pos h6]
    exact hW 6 h6
  rw [if_neg h6]
  rw [head_step v f 5]
  by_cases h5 : (y 0).val = 5
  · rw [if_pos h5]
    exact hW 5 h5
  rw [if_neg h5]
  rw [head_step v f 4]
  by_cases h4 : (y 0).val = 4
  · rw [if_pos h4]
    exact hW 4 h4
  rw [if_neg h4]
  rw [head_step v f 3]
  by_cases h3 : (y 0).val = 3
  · rw [if_pos h3]
    exact hW 3 h3
  rw [if_neg h3]
  rw [head_step v f 2]
  by_cases h2 : (y 0).val = 2
  · rw [if_pos h2]
    exact hW 2 h2
  rw [if_neg h2]
  rw [head_step v f 1]
  by_cases h1 : (y 0).val = 1
  · rw [if_pos h1]
    exact hW 1 h1
  rw [if_neg h1]
  rw [head_step v f 0]
  by_cases h0 : (y 0).val = 0
  · rw [if_pos h0]
    exact hW 0 h0
  rw [if_neg h0]
  omega

theorem covFill {κ : Kind} {sp : Space} (v : View sig κ sp S8x64x128 .f32) (i0) (Z : S8x64x128.Idx → Elt F .f32) (L : List (View.Piece (Elt F) S8x64x128 .f32)) (r : Rect S8x64x128) :
    v.readCov ((⟨Rect.unit (s := S8x64x128) ![0, 0, 0] ![8, 64, 128] i0, Z⟩ : View.Piece (Elt F) S8x64x128 .f32) :: L) r.toLoadRect = View.ld Z r :=
  View.readCov_fill v i0 Z L r (by decide)

theorem covSkip {κ : Kind} {sp : Space} (v : View sig κ sp S8x64x128 .f32) (o o' : Nat) (h : o + 1 ≤ o' ∨ o' + 1 ≤ o) (i0 i1) (Z : FVec F S1x64x128 .f32)
    (L : List (View.Piece (Elt F) S8x64x128 .f32)) :
    v.readCov ((⟨Rect.unit (s := S8x64x128) ![o, 0, 0] ![1, 64, 128] i0, Z⟩ : View.Piece (Elt F) S8x64x128 .f32) :: L) (Rect.unit (s := S8x64x128) ![o', 0, 0] ![1, 64, 128] i1).toLoadRect
      = v.readCov L (Rect.unit (s := S8x64x128) ![o', 0, 0] ![1, 64, 128] i1).toLoadRect :=
  View.readCov_cons_of_disjoint v _ L _ (Rect.unit_disjoint (inb := i0) (inb' := i1) 0 h)

variable (c : Dev nD) (i : grid0.Coords) (a1 : Memref sig .tc .vmem S128x512 .bf16) (h1 : a1.IsWhole) (a2 : Memref sig .tc .vmem S128x512 .bf16) (h2 : a2.IsWhole) (a3 : Memref sig .tc .vmem S128x1024 .bf16) (h3 : a3.IsWhole) (a4 : Memref sig .tc .vmem S128x1024 .bf16) (h4 : a4.IsWhole) (a5 : Memref sig .tc .vmem S128x128 .f32) (h5 : a5.IsWhole) (a6 : Memref sig .tc .vmem S128x128 .f32) (h6 : a6.IsWhole) (a7 : Memref sig .tc .vmem S1x1024 .f32) (h7 : a7.IsWhole) (a8 : Memref sig .tc .vmem S8x5x128x128 .f32) (h8 : a8.IsWhole) (a9 : Memref sig .tc .vmem S128x1024 .bf16) (h9 : a9.IsWhole) (a10 : Memref sig .tc .vmem S1x8x64x128 .f32) (h10 : a10.IsWhole) (a11 : Memref sig .tc .vmem S8x64x128 .f32) (h11 : a11.IsWhole) (hA : cond0_0 i) (hB : ¬cond0_0 i)

theorem loads : (View.readAt (Elt F) a1.view (Rect.unit (s := S128x512) ![0, 0] S128x512.size inb_S128x512_S128x512_0_0).toLoadRect (h1.unread x0)) = x0 ∧ (View.readAt (Elt F) a2.view (Rect.unit (s := S128x512) ![0, 0] S128x512.size inb_S128x512_S128x512_0_0).toLoadRect (h2.unread x1)) = x1 ∧ (View.readAt (Elt F) a5.view (Rect.unit (s := S128x128) ![0, 0] S128x128.size inb_S128x128_S128x128_0_0).toLoadRect (h5.unread x4)) = x4 ∧ (View.readAt (Elt F) a6.view (Rect.unit (s := S128x128) ![0, 0] S128x128.size inb_S128x128_S128x128_0_0).toLoadRect (h6.unread x5)) = x5 ∧ (fun h => (View.readAt (Elt F) a3.view (Rect.unit (s := S128x1024) ![0, 128 * h.val] S128x128.size (colIn h)).toLoadRect (h3.unread x2))) = cl x2 ∧ (fun h => (View.readAt (Elt F) a4.view (Rect.unit (s := S128x1024) ![0, 128 * h.val] S128x128.size (colIn h)).toLoadRect (h4.unread x3))) = cl x3 ∧ (fun h => (View.readAt (Elt F) a7.view (Rect.unit (s := S1x1024) ![0, 128 * h.val] S1x128.size (wIn h)).toLoadRect (h7.unread x6))) = wl x6 ∧ (fun h k => (View.readAt (Elt F) a8.view (Rect.unit (s := S8x5x128x128) ![h.val, k.val, 0, 0] S1x1x128x128.size (rtIn h k)).toLoadRect (h8.unread x7))) = tl x7 ∧ (fun h => (View.readAt (Elt F) a8.view (Rect.unit (s := S8x5x128x128) ![h.val, 4, 0, 0] S1x1x1x128.size (rowIn h)).toLoadRect (h8.unread x7))) = rl x7 ∧ (fun h => (View.readAt (Elt F) a11.view (Rect.unit (s := S8x64x128) ![h.val, 0, 0] S1x64x128.size (stIn h)).toLoadRect (h11.unread st))) = stH st := by
  simp only [View.readAt_eq_ld, Memref.IsWhole.read_unread, View.ld_unit_zero (S := S128x512) hz, View.ld_unit_zero (S := S128x128) hz]
  exact ⟨trivial, trivial, trivial, trivial, rfl, rfl, rfl, rfl, rfl, rfl⟩

theorem loadsA1 : (fun h => a11.view.readCov (kernelRun0_A.sl.HS0_1 (F := F)) (Rect.unit (s := S8x64x128) ![h.val, 0, 0] S1x64x128.size (stIn h)).toLoadRect) = stH k0_pay1 := funext fun h => covFill _ _ _ _ _

theorem load_0 : kernelRun0_A.sl.v300 (F := F) c a11 = stH k0_pay1 0 := by

  exact covFill _ _ _ _ _

theorem load_1 : kernelRun0_A.sl.v308 (F := F) c a2 h2 a3 h3 a5 h5 a6 h6 a8 h8 a11 x1 x2 x4 x5 x7 = stH k0_pay1 1 := by
  refine (covSkip _ 0 1 (by decide) _ _ _ _).trans ?_
  exact covFill _ _ _ _ _

theorem load_2 : kernelRun0_A.sl.v316 (F := F) c a2 h2 a3 h3 a5 h5 a6 h6 a8 h8 a11 x1 x2 x4 x5 x7 = stH k0_pay1 2 := by
  refine (covSkip _ 1 2 (by decide) _ _ _ _).trans ?_
  refine (covSkip _ 0 2 (by decide) _ _ _ _).trans ?_
  exact covFill _ _ _ _ _

theorem load_3 : kernelRun0_A.sl.v324 (F := F) c a2 h2 a3 h3 a5 h5 a6 h6 a8 h8 a11 x1 x2 x4 x5 x7 = stH k0_pay1 3 := by
  refine (covSkip _ 2 3 (by decide) _ _ _ _).trans ?_
  refine (covSkip _ 1 3 (by decide) _ _ _ _).trans ?_
  refine (covSkip _ 0 3 (by decide) _ _ _ _).trans ?_
  exact covFill _ _ _ _ _

theorem load_4 : kernelRun0_A.sl.v332 (F := F) c a2 h2 a3 h3 a5 h5 a6 h6 a8 h8 a11 x1 x2 x4 x5 x7 = stH k0_pay1 4 := by
  refine (covSkip _ 3 4 (by decide) _ _ _ _).trans ?_
  refine (covSkip _ 2 4 (by decide) _ _ _ _).trans ?_
  refine (covSkip _ 1 4 (by decide) _ _ _ _).trans ?_
  refine (covSkip _ 0 4 (by decide) _ _ _ _).trans ?_
  exact covFill _ _ _ _ _

theorem load_5 : kernelRun0_A.sl.v340 (F := F) c a2 h2 a3 h3 a5 h5 a6 h6 a8 h8 a11 x1 x2 x4 x5 x7 = stH k0_pay1 5 := by
  refine (covSkip _ 4 5 (by decide) _ _ _ _).trans ?_
  refine (covSkip _ 3 5 (by decide) _ _ _ _).trans ?_
  refine (covSkip _ 2 5 (by decide) _ _ _ _).trans ?_
  refine (covSkip _ 1 5 (by decide) _ _ _ _).trans ?_
  refine (covSkip _ 0 5 (by decide) _ _ _ _).trans ?_
  exact covFill _ _ _ _ _

theorem load_6 : kernelRun0_A.sl.v348 (F := F) c a2 h2 a3 h3 a5 h5 a6 h6 a8 h8 a11 x1 x2 x4 x5 x7 = stH k0_pay1 6 := by
  refine (covSkip _ 5 6 (by decide) _ _ _ _).trans ?_
  refine (covSkip _ 4 6 (by decide) _ _ _ _).trans ?_
  refine (covSkip _ 3 6 (by decide) _ _ _ _).trans ?_
  refine (covSkip _ 2 6 (by decide) _ _ _ _).trans ?_
  refine (covSkip _ 1 6 (by decide) _ _ _ _).trans ?_
  refine (covSkip _ 0 6 (by decide) _ _ _ _).trans ?_
  exact covFill _ _ _ _ _

theorem load_7 : kernelRun0_A.sl.v356 (F := F) c a2 h2 a3 h3 a5 h5 a6 h6 a8 h8 a11 x1 x2 x4 x5 x7 = stH k0_pay1 7 := by
  refine (covSkip _ 6 7 (by decide) _ _ _ _).trans ?_
  refine (covSkip _ 5 7 (by decide) _ _ _ _).trans ?_
  refine (covSkip _ 4 7 (by decide) _ _ _ _).trans ?_
  refine (covSkip _ 3 7 (by decide) _ _ _ _).trans ?_
  refine (covSkip _ 2 7 (by decide) _ _ _ _).trans ?_
  refine (covSkip _ 1 7 (by decide) _ _ _ _).trans ?_
  refine (covSkip _ 0 7 (by decide) _ _ _ _).trans ?_
  exact covFill _ _ _ _ _

theorem loadsA2 : (![kernelRun0_A.sl.v300 c a11, kernelRun0_A.sl.v308 c a2 h2 a3 h3 a5 h5 a6 h6 a8 h8 a11 x1 x2 x4 x5 x7, kernelRun0_A.sl.v316 c a2 h2 a3 h3 a5 h5 a6 h6 a8 h8 a11 x1 x2 x4 x5 x7, kernelRun0_A.sl.v324 c a2 h2 a3 h3 a5 h5 a6 h6 a8 h8 a11 x1 x2 x4 x5 x7, kernelRun0_A.sl.v332 c a2 h2 a3 h3 a5 h5 a6 h6 a8 h8 a11 x1 x2 x4 x5 x7, kernelRun0_A.sl.v340 c a2 h2 a3 h3 a5 h5 a6 h6 a8 h8 a11 x1 x2 x4 x5 x7, kernelRun0_A.sl.v348 c a2 h2 a3 h3 a5 h5 a6 h6 a8 h8 a11 x1 x2 x4 x5 x7, kernelRun0_A.sl.v356 c a2 h2 a3 h3 a5 h5 a6 h6 a8 h8 a11 x1 x2 x4 x5 x7] : Fin 8 → Vec F S1x64x128 .f32) = stH k0_pay1 := by
  funext h
  match h with
  | 0 => exact load_0 ..
  | 1 => exact load_1 ..
  | 2 => exact load_2 ..
  | 3 => exact load_3 ..
  | 4 => exact load_4 ..
  | 5 => exact load_5 ..
  | 6 => exact load_6 ..
  | 7 => exact load_7 ..

theorem out_B9 : out0_B_9 c i a1 h1 a2 h2 a3 h3 a4 h4 a5 h5 a6 h6 a7 h7 a8 h8 a9 h9 a10 h10 a11 h11 hB x0 x1 x2 x3 x4 x5 x6 x7 st
    = k0_pay7 st := by
  unfold out0_B_9
  rw [View.read_writes_eq_canon _ _ _ (cover0_B_9 c i a1 h1 a2 h2 a3 h3 a4 h4 a5 h5 a6 h6 a7 h7 a8 h8 a9 h9 a10 h10 a11 h11 hB x0 x1 x2 x3 x4 x5 x6 x7 st)]
  unfold kernelRun0_B
  dsimp only
  rw [View.canon_unit_zero (S := S1x8x64x128) hz4]
  have e : View.readAt (Elt F) a11.view (Rect.unit ![0, 0, 0] S8x64x128.size inb_S8x64x128_S8x64x128_0_0_0).toLoadRect (h11.unread st) = st := by
    simp only [View.readAt_eq_ld, Memref.IsWhole.read_unread, View.ld_unit_zero (S := S8x64x128) hz3]
  exact congrArg k0_pay7 e

theorem sout_B : sout0_B_0 c i a1 h1 a2 h2 a3 h3 a4 h4 a5 h5 a6 h6 a7 h7 a8 h8 a9 h9 a10 h10 a11 h11 hB x0 x1 x2 x3 x4 x5 x6 x7 st
    = headsG (Nh x1 x2 x4 x5 x7 st) := by
  unfold sout0_B_0 kernelRun0_B
  dsimp only
  obtain ⟨eQ, eK, eC, eD, eV, eG, eW, eT, eR, eS⟩ := loads x0 x1 x2 x3 x4 x5 x6 x7 st a1 h1 a2 h2 a3 h3 a4 h4 a5 h5 a6 h6 a7 h7 a8 h8 a11 h11
  refine Eq.trans (b := headsG (Nl (View.readAt (Elt F) a2.view (Rect.unit (s := S128x512) ![0, 0] S128x512.size inb_S128x512_S128x512_0_0).toLoadRect (h2.unread x1)) (fun h => (View.readAt (Elt F) a3.view (Rect.unit (s := S128x1024) ![0, 128 * h.val] S128x128.size (colIn h)).toLoadRect (h3.unread x2))) (View.readAt (Elt F) a5.view (Rect.unit (s := S128x128) ![0, 0] S128x128.size inb_S128x128_S128x128_0_0).toLoadRect (h5.unread x4)) (View.readAt (Elt F) a6.view (Rect.unit (s := S128x128) ![0, 0] S128x128.size inb_S128x128_S128x128_0_0).toLoadRect (h6.unread x5)) (fun h => (View.readAt (Elt F) a8.view (Rect.unit (s := S8x5x128x128) ![h.val, 4, 0, 0] S1x1x1x128.size (rowIn h)).toLoadRect (h8.unread x7))) (fun h => (View.readAt (Elt F) a11.view (Rect.unit (s := S8x64x128) ![h.val, 0, 0] S1x64x128.size (stIn h)).toLoadRect (h11.unread st))))) ?_ (by rw [eK, eV, eC, eD, eR, eS]; rfl)
  exact heads8 _ _ (Nl (View.readAt (Elt F) a2.view (Rect.unit (s := S128x512) ![0, 0] S128x512.size inb_S128x512_S128x512_0_0).toLoadRect (h2.unread x1)) (fun h => (View.readAt (Elt F) a3.view (Rect.unit (s := S128x1024) ![0, 128 * h.val] S128x128.size (colIn h)).toLoadRect (h3.unread x2))) (View.readAt (Elt F) a5.view (Rect.unit (s := S128x128) ![0, 0] S128x128.size inb_S128x128_S128x128_0_0).toLoadRect (h5.unread x4)) (View.readAt (Elt F) a6.view (Rect.unit (s := S128x128) ![0, 0] S128x128.size inb_S128x128_S128x128_0_0).toLoadRect (h6.unread x5)) (fun h => (View.readAt (Elt F) a8.view (Rect.unit (s := S8x5x128x128) ![h.val, 4, 0, 0] S1x1x1x128.size (rowIn h)).toLoadRect (h8.unread x7))) (fun h => (View.readAt (Elt F) a11.view (Rect.unit (s := S8x64x128) ![h.val, 0, 0] S1x64x128.size (stIn h)).toLoadRect (h11.unread st)))) _ _ _ _ _ _ _ _ _

theorem out_B8 : out0_B_8 c i a1 h1 a2 h2 a3 h3 a4 h4 a5 h5 a6 h6 a7 h7 a8 h8 a9 h9 a10 h10 a11 h11 hB x0 x1 x2 x3 x4 x5 x6 x7 st
    = colsG (Yh x0 x1 x2 x3 x4 x5 x6 x7 st) := by
  unfold out0_B_8 kernelRun0_B
  dsimp only
  obtain ⟨eQ, eK, eC, eD, eV, eG, eW, eT, eR, eS⟩ := loads x0 x1 x2 x3 x4 x5 x6 x7 st a1 h1 a2 h2 a3 h3 a4 h4 a5 h5 a6 h6 a7 h7 a8 h8 a11 h11
  refine Eq.trans (b := colsG (Yl (View.readAt (Elt F) a1.view (Rect.unit (s := S128x512) ![0, 0] S128x512.size inb_S128x512_S128x512_0_0).toLoadRect (h1.unread x0)) (View.readAt (Elt F) a2.view (Rect.unit (s := S128x512) ![0, 0] S128x512.size inb_S128x512_S128x512_0_0).toLoadRect (h2.unread x1)) (fun h => (View.readAt (Elt F) a3.view (Rect.unit (s := S128x1024) ![0, 128 * h.val] S128x128.size (colIn h)).toLoadRect (h3.unread x2))) (fun h => (View.readAt (Elt F) a4.view (Rect.unit (s := S128x1024) ![0, 128 * h.val] S128x128.size (colIn h)).toLoadRect (h4.unread x3))) (View.readAt (Elt F) a5.view (Rect.unit (s := S128x128) ![0, 0] S128x128.size inb_S128x128_S128x128_0_0).toLoadRect (h5.unread x4)) (View.readAt (Elt F) a6.view (Rect.unit (s := S128x128) ![0, 0] S128x128.size inb_S128x128_S128x128_0_0).toLoadRect (h6.unread x5)) (fun h => (View.readAt (Elt F) a7.view (Rect.unit (s := S1x1024) ![0, 128 * h.val] S1x128.size (wIn h)).toLoadRect (h7.unread x6))) (fun h k => (View.readAt (Elt F) a8.view (Rect.unit (s := S8x5x128x128) ![h.val, k.val, 0, 0] S1x1x128x128.size (rtIn h k)).toLoadRect (h8.unread x7))) (fun h => (View.readAt (Elt F) a11.view (Rect.unit (s := S8x64x128) ![h.val, 0, 0] S1x64x128.size (stIn h)).toLoadRect (h11.unread st))))) ?_ (by rw [eQ, eK, eV, eG, eC, eD, eW, eT, eS]; rfl)
  exact cols8 _ _ (Yl (View.readAt (Elt F) a1.view (Rect.unit (s := S128x512) ![0, 0] S128x512.size inb_S128x512_S128x512_0_0).toLoadRect (h1.unread x0)) (View.readAt (Elt F) a2.view (Rect.unit (s := S128x512) ![0, 0] S128x512.size inb_S128x512_S128x512_0_0).toLoadRect (h2.unread x1)) (fun h => (View.readAt (Elt F) a3.view (Rect.unit (s := S128x1024) ![0, 128 * h.val] S128x128.size (colIn h)).toLoadRect (h3.unread x2))) (fun h => (View.readAt (Elt F) a4.view (Rect.unit (s := S128x1024) ![0, 128 * h.val] S128x128.size (colIn h)).toLoadRect (h4.unread x3))) (View.readAt (Elt F) a5.view (Rect.unit (s := S128x128) ![0, 0] S128x128.size inb_S128x128_S128x128_0_0).toLoadRect (h5.unread x4)) (View.readAt (Elt F) a6.view (Rect.unit (s := S128x128) ![0, 0] S128x128.size inb_S128x128_S128x128_0_0).toLoadRect (h6.unread x5)) (fun h => (View.readAt (Elt F) a7.view (Rect.unit (s := S1x1024) ![0, 128 * h.val] S1x128.size (wIn h)).toLoadRect (h7.unread x6))) (fun h k => (View.readAt (Elt F) a8.view (Rect.unit (s := S8x5x128x128) ![h.val, k.val, 0, 0] S1x1x128x128.size (rtIn h k)).toLoadRect (h8.unread x7))) (fun h => (View.readAt (Elt F) a11.view (Rect.unit (s := S8x64x128) ![h.val, 0, 0] S1x64x128.size (stIn h)).toLoadRect (h11.unread st)))) _ _ _ _ _ _ _ _ _

theorem out_A9 : out0_A_9 c i a1 h1 a2 h2 a3 h3 a4 h4 a5 h5 a6 h6 a7 h7 a8 h8 a9 h9 a10 h10 a11 h11 hA x0 x1 x2 x3 x4 x5 x6 x7
    = k0_pay7 k0_pay1 := by
  unfold out0_A_9
  rw [View.read_writes_eq_canon _ _ _ (cover0_A_9 c i a1 h1 a2 h2 a3 h3 a4 h4 a5 h5 a6 h6 a7 h7 a8 h8 a9 h9 a10 h10 a11 h11 hA x0 x1 x2 x3 x4 x5 x6 x7)]
  unfold kernelRun0_A
  dsimp only
  rw [View.canon_unit_zero (S := S1x8x64x128) hz4]
  exact congrArg k0_pay7 (covFill _ _ _ _ _)

theorem sout_A : sout0_A_0 c i a1 h1 a2 h2 a3 h3 a4 h4 a5 h5 a6 h6 a7 h7 a8 h8 a9 h9 a10 h10 a11 h11 hA x0 x1 x2 x3 x4 x5 x6 x7
    = headsG (Nh x1 x2 x4 x5 x7 k0_pay1) := by
  unfold sout0_A_0 kernelRun0_A
  dsimp only
  obtain ⟨eQ, eK, eC, eD, eV, eG, eW, eT, eR, eS⟩ := loads x0 x1 x2 x3 x4 x5 x6 x7 (k0_pay1 (F := F)) a1 h1 a2 h2 a3 h3 a4 h4 a5 h5 a6 h6 a7 h7 a8 h8 a11 h11
  refine Eq.trans (b := headsG (Nl (View.readAt (Elt F) a2.view (Rect.unit (s := S128x512) ![0, 0] S128x512.size inb_S128x512_S128x512_0_0).toLoadRect (h2.unread x1)) (fun h => (View.readAt (Elt F) a3.view (Rect.unit (s := S128x1024) ![0, 128 * h.val] S128x128.size (colIn h)).toLoadRect (h3.unread x2))) (View.readAt (Elt F) a5.view (Rect.unit (s := S128x128) ![0, 0] S128x128.size inb_S128x128_S128x128_0_0).toLoadRect (h5.unread x4)) (View.readAt (Elt F) a6.view (Rect.unit (s := S128x128) ![0, 0] S128x128.size inb_S128x128_S128x128_0_0).toLoadRect (h6.unread x5)) (fun h => (View.readAt (Elt F) a8.view (Rect.unit (s := S8x5x128x128) ![h.val, 4, 0, 0] S1x1x1x128.size (rowIn h)).toLoadRect (h8.unread x7))) (![kernelRun0_A.sl.v300 c a11, kernelRun0_A.sl.v308 c a2 h2 a3 h3 a5 h5 a6 h6 a8 h8 a11 x1 x2 x4 x5 x7, kernelRun0_A.sl.v316 c a2 h2 a3 h3 a5 h5 a6 h6 a8 h8 a11 x1 x2 x4 x5 x7, kernelRun0_A.sl.v324 c a2 h2 a3 h3 a5 h5 a6 h6 a8 h8 a11 x1 x2 x4 x5 x7, kernelRun0_A.sl.v332 c a2 h2 a3 h3 a5 h5 a6 h6 a8 h8 a11 x1 x2 x4 x5 x7, kernelRun0_A.sl.v340 c a2 h2 a3 h3 a5 h5 a6 h6 a8 h8 a11 x1 x2 x4 x5 x7, kernelRun0_A.sl.v348 c a2 h2 a3 h3 a5 h5 a6 h6 a8 h8 a11 x1 x2 x4 x5 x7, kernelRun0_A.sl.v356 c a2 h2 a3 h3 a5 h5 a6 h6 a8 h8 a11 x1 x2 x4 x5 x7] : Fin 8 → Vec F S1x64x128 .f32))) ?_ (by rw [eK, eV, eC, eD, eR, loadsA2 x1 x2 x4 x5 x7 c a2 h2 a3 h3 a5 h5 a6 h6 a8 h8 a11]; rfl)
  exact heads8 _ _ (Nl (View.readAt (Elt F) a2.view (Rect.unit (s := S128x512) ![0, 0] S128x512.size inb_S128x512_S128x512_0_0).toLoadRect (h2.unread x1)) (fun h => (View.readAt (Elt F) a3.view (Rect.unit (s := S128x1024) ![0, 128 * h.val] S128x128.size (colIn h)).toLoadRect (h3.unread x2))) (View.readAt (Elt F) a5.view (Rect.unit (s := S128x128) ![0, 0] S128x128.size inb_S128x128_S128x128_0_0).toLoadRect (h5.unread x4)) (View.readAt (Elt F) a6.view (Rect.unit (s := S128x128) ![0, 0] S128x128.size inb_S128x128_S128x128_0_0).toLoadRect (h6.unread x5)) (fun h => (View.readAt (Elt F) a8.view (Rect.unit (s := S8x5x128x128) ![h.val, 4, 0, 0] S1x1x1x128.size (rowIn h)).toLoadRect (h8.unread x7))) (![kernelRun0_A.sl.v300 c a11, kernelRun0_A.sl.v308 c a2 h2 a3 h3 a5 h5 a6 h6 a8 h8 a11 x1 x2 x4 x5 x7, kernelRun0_A.sl.v316 c a2 h2 a3 h3 a5 h5 a6 h6 a8 h8 a11 x1 x2 x4 x5 x7, kernelRun0_A.sl.v324 c a2 h2 a3 h3 a5 h5 a6 h6 a8 h8 a11 x1 x2 x4 x5 x7, kernelRun0_A.sl.v332 c a2 h2 a3 h3 a5 h5 a6 h6 a8 h8 a11 x1 x2 x4 x5 x7, kernelRun0_A.sl.v340 c a2 h2 a3 h3 a5 h5 a6 h6 a8 h8 a11 x1 x2 x4 x5 x7, kernelRun0_A.sl.v348 c a2 h2 a3 h3 a5 h5 a6 h6 a8 h8 a11 x1 x2 x4 x5 x7, kernelRun0_A.sl.v356 c a2 h2 a3 h3 a5 h5 a6 h6 a8 h8 a11 x1 x2 x4 x5 x7] : Fin 8 → Vec F S1x64x128 .f32)) _ _ _ _ _ _ _ _ _

theorem out_A8 : out0_A_8 c i a1 h1 a2 h2 a3 h3 a4 h4 a5 h5 a6 h6 a7 h7 a8 h8 a9 h9 a10 h10 a11 h11 hA x0 x1 x2 x3 x4 x5 x6 x7
    = colsG (Yh x0 x1 x2 x3 x4 x5 x6 x7 k0_pay1) := by
  unfold out0_A_8 kernelRun0_A
  dsimp only
  obtain ⟨eQ, eK, eC, eD, eV, eG, eW, eT, eR, eS⟩ := loads x0 x1 x2 x3 x4 x5 x6 x7 (k0_pay1 (F := F)) a1 h1 a2 h2 a3 h3 a4 h4 a5 h5 a6 h6 a7 h7 a8 h8 a11 h11
  refine Eq.trans (b := colsG (Yl (View.readAt (Elt F) a1.view (Rect.unit (s := S128x512) ![0, 0] S128x512.size inb_S128x512_S128x512_0_0).toLoadRect (h1.unread x0)) (View.readAt (Elt F) a2.view (Rect.unit (s := S128x512) ![0, 0] S128x512.size inb_S128x512_S128x512_0_0).toLoadRect (h2.unread x1)) (fun h => (View.readAt (Elt F) a3.view (Rect.unit (s := S128x1024) ![0, 128 * h.val] S128x128.size (colIn h)).toLoadRect (h3.unread x2))) (fun h => (View.readAt (Elt F) a4.view (Rect.unit (s := S128x1024) ![0, 128 * h.val] S128x128.size (colIn h)).toLoadRect (h4.unread x3))) (View.readAt (Elt F) a5.view (Rect.unit (s := S128x128) ![0, 0] S128x128.size inb_S128x128_S128x128_0_0).toLoadRect (h5.unread x4)) (View.readAt (Elt F) a6.view (Rect.unit (s := S128x128) ![0, 0] S128x128.size inb_S128x128_S128x128_0_0).toLoadRect (h6.unread x5)) (fun h => (View.readAt (Elt F) a7.view (Rect.unit (s := S1x1024) ![0, 128 * h.val] S1x128.size (wIn h)).toLoadRect (h7.unread x6))) (fun h k => (View.readAt (Elt F) a8.view (Rect.unit (s := S8x5x128x128) ![h.val, k.val, 0, 0] S1x1x128x128.size (rtIn h k)).toLoadRect (h8.unread x7))) (fun h => a11.view.readCov (kernelRun0_A.sl.HS0_1 (F := F)) (Rect.unit (s := S8x64x128) ![h.val, 0, 0] S1x64x128.size (stIn h)).toLoadRect))) ?_ (by rw [eQ, eK, eV, eG, eC, eD, eW, eT, loadsA1 a11]; rfl)
  exact cols8 _ _ (Yl (View.readAt (Elt F) a1.view (Rect.unit (s := S128x512) ![0, 0] S128x512.size inb_S128x512_S128x512_0_0).toLoadRect (h1.unread x0)) (View.readAt (Elt F) a2.view (Rect.unit (s := S128x512) ![0, 0] S128x512.size inb_S128x512_S128x512_0_0).toLoadRect (h2.unread x1)) (fun h => (View.readAt (Elt F) a3.view (Rect.unit (s := S128x1024) ![0, 128 * h.val] S128x128.size (colIn h)).toLoadRect (h3.unread x2))) (fun h => (View.readAt (Elt F) a4.view (Rect.unit (s := S128x1024) ![0, 128 * h.val] S128x128.size (colIn h)).toLoadRect (h4.unread x3))) (View.readAt (Elt F) a5.view (Rect.unit (s := S128x128) ![0, 0] S128x128.size inb_S128x128_S128x128_0_0).toLoadRect (h5.unread x4)) (View.readAt (Elt F) a6.view (Rect.unit (s := S128x128) ![0, 0] S128x128.size inb_S128x128_S128x128_0_0).toLoadRect (h6.unread x5)) (fun h => (View.readAt (Elt F) a7.view (Rect.unit (s := S1x1024) ![0, 128 * h.val] S1x128.size (wIn h)).toLoadRect (h7.unread x6))) (fun h k => (View.readAt (Elt F) a8.view (Rect.unit (s := S8x5x128x128) ![h.val, k.val, 0, 0] S1x1x128x128.size (rtIn h k)).toLoadRect (h8.unread x7))) (fun h => a11.view.readCov (kernelRun0_A.sl.HS0_1 (F := F)) (Rect.unit (s := S8x64x128) ![h.val, 0, 0] S1x64x128.size (stIn h)).toLoadRect)) _ _ _ _ _ _ _ _ _

end Cert.Kernel3Ideal.Rf

end
-- ==== Proof.RfMath.lean ====
module

public import proofs.«01_k».proof.Proof.Real
public import Idealize.ShloMosaic.Lib.Pointwise

@[expose] public section

set_option maxRecDepth 16384

noncomputable section

open Idealize.ShloMosaic Idealize.ShloMosaic.TcCoe Idealize.SL.Sem

/-! The retention's forward pass, by entries: tables, rotation, one chunk, the state carried from chunk to chunk. -/

namespace Cert.RfMath

/-- Column `d` of head `h` among the queries' and keys' columns. -/
def hj (h : Fin 8) (d : Fin 64) : Fin 512 := ⟨64 * h.val + d.val, by omega⟩

/-- Column `e` of head `h` among the values' columns. -/
def he (h : Fin 8) (e : Fin 128) : Fin 1024 := ⟨128 * h.val + e.val, by omega⟩

section Chunk

variable (Qr Kr : Fin 128 → Fin 512 → EReal) (V G : Fin 128 → Fin 1024 → EReal) (W : Fin 1024 → EReal) (dm : Fin 8 → Fin 128 → Fin 128 → EReal)
  (qd : Fin 8 → Fin 128 → Fin 64 → EReal) (kd : Fin 8 → Fin 128 → EReal) (γ : Fin 8 → EReal) (S : Fin 8 → Fin 64 → Fin 128 → EReal)

/-- A head's output before its norm. -/
def oM (h : Fin 8) (l e : Fin 128) : EReal :=
  ∑ p : Fin 128, (∑ d : Fin 64, Qr l (hj h d) * Kr p (hj h d)) * dm h l p * V p (he h e) + ∑ d : Fin 64, Qr l (hj h d) * qd h l d * S h d e

/-- A head's gated output. -/
def yM (h : Fin 8) (l e : Fin 128) : EReal :=
  oM Qr Kr V dm qd S h l e * Ideal.rsqrt (Ideal.div (∑ x : Fin 128, oM Qr Kr V dm qd S h l x * oM Qr Kr V dm qd S h l x) (Ideal.ofBits FTy.f32 0x43000000#32) + Ideal.ofBits FTy.f32 0x358637BD#32)
    * W (he h e) * (G l (he h e) * Ideal.logistic (G l (he h e)))

/-- A head's state after the chunk. -/
def nM (h : Fin 8) (d : Fin 64) (e : Fin 128) : EReal :=
  S h d e * γ h + ∑ p : Fin 128, Kr p (hj h d) * kd h p * V p (he h e)

end Chunk

/-- The rotation of a row's pairs of columns, over the two tables of cosines and signed sines. -/
def rotM (C D : Fin 128 → Fin 128 → EReal) (X : Fin 128 → Fin 512 → EReal) (l : Fin 128) (j : Fin 512) : EReal :=
  X l j * C l ⟨j.val % 128, Nat.mod_lt _ (by decide)⟩
    + (if j.val % 64 < 32 then X l ⟨(j.val + 512 - 480) % 512, Nat.mod_lt _ (by decide)⟩ else X l ⟨(j.val + 512 - 32) % 512, Nat.mod_lt _ (by decide)⟩) * D l ⟨j.val % 128, Nat.mod_lt _ (by decide)⟩

/-- A counting number as a float. -/
def iF (n : ℕ) : EReal := FloatOps.sitofp (F := Ideal) FTy.f32 (BitVec.ofNat 32 n)

/-- The angle of row `t` and frequency `c`. -/
def ang (t c : ℕ) : EReal :=
  iF t * Ideal.pow (Ideal.ofBits FTy.f32 1176256512#32) (Ideal.div (-(Ideal.ofBits FTy.f32 1073741824#32 * iF c)) (Ideal.ofBits FTy.f32 1115684864#32))

/-- The logarithm of a head's decay. -/
def lg (h : ℕ) : EReal := Ideal.log1p (-Ideal.pow (Ideal.ofBits FTy.f32 1073741824#32) (Ideal.ofBits FTy.f32 3231711232#32 - iF h))

/-- The decay from row `l` of a chunk to its end. -/
def kdec (h : Fin 8) (l : Fin 128) : EReal := Ideal.exp (lg h.val * (Ideal.ofBits FTy.f32 1123942400#32 - iF l.val))

/-- The decay from the chunk before to row `l`. -/
def qdec (h : Fin 8) (l : Fin 128) : EReal := Ideal.exp (lg h.val * (iF l.val + 1))

/-- The decay from row `p` to row `l` of one chunk, none above the diagonal. -/
def dmask (h : Fin 8) (l p : Fin 128) : EReal :=
  if 0 ≤ iF l.val - iF p.val then Ideal.exp (lg h.val * max (iF l.val - iF p.val) 0) else 0

/-- The decay of a whole chunk. -/
def gamR (h : Fin 8) : EReal := Ideal.exp (lg h.val * Ideal.ofBits FTy.f32 1124073472#32)

/-- The rotation of row `r`'s pairs of columns. -/
def rotG (X : Fin 8192 → Fin 512 → EReal) (r : Fin 8192) (j : Fin 512) : EReal :=
  X r j * Ideal.cos (ang r.val (j.val % 32))
    + (if j.val % 64 < 32 then X r ⟨(j.val + 512 - 480) % 512, Nat.mod_lt _ (by decide)⟩ * -Ideal.sin (ang r.val (j.val % 32))
       else X r ⟨(j.val + 512 - 32) % 512, Nat.mod_lt _ (by decide)⟩ * Ideal.sin (ang r.val (j.val % 32)))

/-- Row `l` of chunk `n`. -/
def row (n : ℕ) (l : Fin 128) : Fin 8192 := ⟨(128 * n + l.val) % 8192, Nat.mod_lt _ (by decide)⟩

theorem row_val (n : ℕ) (hn : n < 64) (l : Fin 128) : (row n l).val = 128 * n + l.val := Nat.mod_eq_of_lt (by omega)

/-- The arguments by entry: queries, keys, values, gates, norm weight. -/
structure Args where
  q : Fin 8192 → Fin 512 → EReal
  k : Fin 8192 → Fin 512 → EReal
  v : Fin 8192 → Fin 1024 → EReal
  g : Fin 8192 → Fin 1024 → EReal
  w : Fin 1024 → EReal

/-- A chunk's rotated queries. -/
def QR (A : Args) (n : ℕ) (l : Fin 128) (j : Fin 512) : EReal := rotG A.q (row n l) j

/-- A chunk's rotated and scaled keys. -/
def KR (A : Args) (n : ℕ) (l : Fin 128) (j : Fin 512) : EReal := rotG A.k (row n l) j * Ideal.ofBits FTy.f32 0x3E000000#32

/-- A chunk's values. -/
def VV (A : Args) (n : ℕ) (l : Fin 128) (j : Fin 1024) : EReal := A.v (row n l) j

/-- A chunk's gates. -/
def GG (A : Args) (n : ℕ) (l : Fin 128) (j : Fin 1024) : EReal := A.g (row n l) j

/-- The state before chunk `n`. -/
def ST (A : Args) : ℕ → Fin 8 → Fin 64 → Fin 128 → EReal
  | 0 => fun _ _ _ => 0
  | n + 1 => nM (KR A n) (VV A n) kdec gamR (ST A n)

/-- A chunk's output. -/
def YY (A : Args) (n : ℕ) (h : Fin 8) (l e : Fin 128) : EReal :=
  yM (QR A n) (KR A n) (VV A n) (GG A n) A.w dmask (fun h l _ => qdec h l) (ST A n) h l e

/-- The tables of one chunk give the rotation of its rows. -/
theorem rotM_eq (X : Fin 8192 → Fin 512 → EReal) (C D : Fin 128 → Fin 128 → EReal) (n : ℕ) (hn : n < 64)
    (hC : ∀ l c, C l c = Ideal.cos (ang (row n l).val (c.val % 32)))
    (hD : ∀ l c, D l c = if c.val % 64 < 32 then -Ideal.sin (ang (row n l).val (c.val % 32)) else Ideal.sin (ang (row n l).val (c.val % 32)))
    (l : Fin 128) (j : Fin 512) : rotM C D (fun l j => X (row n l) j) l j = rotG X (row n l) j := by
  unfold rotM rotG
  rw [hC, hD]
  have e1 : j.val % 128 % 32 = j.val % 32 := by omega
  have e2 : j.val % 128 % 64 = j.val % 64 := by omega
  dsimp only
  rw [e1, e2]
  split <;> rfl

end Cert.RfMath

end
-- ==== Proof.RfPoint.lean ====
module

public import proofs.«01_k».proof.Proof.Real
public import proofs.«01_k».proof.Proof.RfOut
public import proofs.«01_k».proof.Proof.RfMath
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

/-! One chunk of the retention read at an index, over the extended reals. -/

namespace Cert.Kernel3Ideal.Rf

open Cert.Kernel3Ideal Cert.Kernel3Ideal.Gen Cert.RfMath

theorem four (C : Fin 128 → EReal) (j : Fin 512) :
    (if h : j.val < 128 then C ⟨j.val, h⟩ else if h : j.val - 128 < 128 then C ⟨j.val - 128, h⟩
      else if h : j.val - 128 - 128 < 128 then C ⟨j.val - 128 - 128, h⟩ else C ⟨j.val - 128 - 128 - 128, by omega⟩) = C ⟨j.val % 128, Nat.mod_lt _ (by decide)⟩ := by
  split_ifs <;> refine congrArg C (Fin.ext ?_) <;> dsimp only <;> omega

theorem pay2_at (C : Vec Ideal S128x128 .f32) (l : Fin 128) (j : Fin 512) : k0_pay2 C (ix2 l j) = C (ix2 l ⟨j.val % 128, Nat.mod_lt _ (by decide)⟩) := by
  unfold k0_pay2
  pointwise
  exact four (fun x => C (ix2 l x)) j

theorem pay3_at (C : Vec Ideal S128x128 .f32) (l : Fin 128) (j : Fin 512) : k0_pay3 C (ix2 l j) = C (ix2 l ⟨j.val % 128, Nat.mod_lt _ (by decide)⟩) := by
  unfold k0_pay3
  pointwise
  exact four (fun x => C (ix2 l x)) j

theorem half (j : Fin 512) : IntOp.cmpi CmpIPredicate.slt (IntOp.andi (BitVec.ofNat 32 j.val) 63#32) 32#32 = if j.val % 64 < 32 then 1#1 else 0#1 := by
  revert j
  decide +kernel

theorem pick (j : Fin 512) (a b : EReal) : Scalar.select (IntOp.cmpi CmpIPredicate.slt (IntOp.andi (BitVec.ofNat 32 j.val) 63#32) 32#32) a b = if j.val % 64 < 32 then a else b := by
  rw [half]
  split <;> rfl

variable (x0 x1 : Vec Ideal S128x512 .bf16) (x2 x3 : Vec Ideal S128x1024 .bf16) (x4 x5 : Vec Ideal S128x128 .f32) (x6 : Vec Ideal S1x1024 .f32) (x7 : Vec Ideal S8x5x128x128 .f32) (st : Vec Ideal S8x64x128 .f32)

theorem pay4_at (l : Fin 128) (j : Fin 512) : k0_pay4 x4 x5 x0 (ix2 l j) = rotM (fun l c => x4 (ix2 l c)) (fun l c => x5 (ix2 l c)) (fun l j => x0 (ix2 l j)) l j := by
  unfold k0_pay4 rotM
  pointwise [pay2_at, pay3_at, pick]

theorem pay5_at (l : Fin 128) (j : Fin 512) : k0_pay5 x4 x5 x1 (ix2 l j)
    = rotM (fun l c => x4 (ix2 l c)) (fun l c => x5 (ix2 l c)) (fun l j => x1 (ix2 l j)) l j * Ideal.ofBits FTy.f32 0x3E000000#32 := by
  unfold k0_pay5 rotM
  pointwise [pay2_at, pay3_at, pick]

theorem pay6_at (v : FVec Ideal S128x512 .f32) (j : Fin 512) (l : Fin 128) : k0_pay6 v (ix2 j l) = v (ix2 l j) := by
  unfold k0_pay6
  pointwise

theorem sl_at (X : FVec Ideal S128x512 .f32) (h : Fin 8) (l : Fin 128) (d : Fin 64) : sl X h (ix2 l d) = X (ix2 l (hj h d)) := by
  unfold sl hj
  pointwise

theorem tl_slice (X : FVec Ideal S512x128 .f32) (h : Fin 8) (d : Fin 64) (l : Fin 128) : extractStridedSlice S64x128 ![64 * h.val, 0] X (tlIn h) (ix2 d l) = X (ix2 (hj h d) l) := by
  unfold hj
  pointwise

theorem cl_at (X : Vec Ideal S128x1024 .bf16) (h : Fin 8) (l e : Fin 128) : cl X h (ix2 l e) = X (ix2 l (he h e)) := by
  unfold cl he
  pointwise

theorem wl_at (h : Fin 8) (e : Fin 128) : wl x6 h (ix2 0 e) = x6 (ix2 0 (he h e)) := by
  unfold wl he
  pointwise

theorem tl_at (h : Fin 8) (k : Fin 5) (l p : Fin 128) : tl x7 h k (ix4 0 0 l p) = x7 (ix4 h k l p) := by
  unfold tl
  pointwise

theorem rl_at (h : Fin 8) (p : Fin 128) : rl x7 h (ix4 0 0 0 p) = x7 (ix4 h 4 0 p) := by
  unfold rl
  pointwise

theorem stH_at (h : Fin 8) (d : Fin 64) (e : Fin 128) : stH st h (ix3 0 d e) = st (ix3 h d e) := by
  unfold stH
  pointwise

theorem Oh_at (h : Fin 8) (l e : Fin 128) : Oh x0 x1 (cl x2) x4 x5 (tl x7) (stH st) h (ix2 l e)
    = oM (fun l j => k0_pay4 x4 x5 x0 (ix2 l j)) (fun l j => k0_pay5 x4 x5 x1 (ix2 l j)) (fun l j => x2 (ix2 l j)) (fun h l p => x7 (ix4 h 0 l p)) (fun h l d => x7 (ix4 h 3 l ⟨d.val, by omega⟩)) (fun h d e => st (ix3 h d e)) h l e := by
  unfold Oh Ov Sc Cr SCv CRv oM
  pointwise [sl_at, cl_at, tl_at, stH_at]

theorem Yh_at (h : Fin 8) (l e : Fin 128) : Yh x0 x1 x2 x3 x4 x5 x6 x7 st h (ix2 l e)
    = yM (fun l j => k0_pay4 x4 x5 x0 (ix2 l j)) (fun l j => k0_pay5 x4 x5 x1 (ix2 l j)) (fun l j => x2 (ix2 l j)) (fun l j => x3 (ix2 l j)) (fun j => x6 (ix2 0 j)) (fun h l p => x7 (ix4 h 0 l p)) (fun h l d => x7 (ix4 h 3 l ⟨d.val, by omega⟩)) (fun h d e => st (ix3 h d e)) h l e := by
  unfold Yh Yl k0_pay96 yM
  pointwise [Oh_at, cl_at, wl_at]

theorem Nh_at (h : Fin 8) (d : Fin 64) (e : Fin 128) : Nh x1 x2 x4 x5 x7 st h (ix3 0 d e)
    = nM (fun l j => k0_pay5 x4 x5 x1 (ix2 l j)) (fun l j => x2 (ix2 l j)) (fun h l => x7 (ix4 h 4 0 l)) (gam (F := Ideal)) (fun h d e => st (ix3 h d e)) h d e := by
  unfold Nh Nl STv Kv KVv nM
  pointwise [tl_slice, pay6_at, cl_at, rl_at, stH_at]

theorem pay1_at (i : S8x64x128.Idx) : k0_pay1 (F := Ideal) i = 0 := by
  unfold k0_pay1
  pointwise

theorem pay7_at (h : Fin 8) (d : Fin 64) (e : Fin 128) : k0_pay7 st (ix4 0 h d e) = st (ix3 h d e) := by
  unfold k0_pay7
  pointwise

end Cert.Kernel3Ideal.Rf

end
-- ==== Proof.RfHost.lean ====
module

public import proofs.«01_k».proof.Proof.RfPoint
public import proofs.«01_k».proof.Proof.Gen.Kernel3Ideal.Value
public import Idealize.ShloMosaic.Lib.StableHlo.Run
public import Idealize.ShloMosaic.Lib.StableHlo.RunRead

@[expose] public section

set_option maxRecDepth 16384

noncomputable section

open Idealize.ShloMosaic Idealize.ShloMosaic.TcCoe Idealize.SL.Sem

/-! The arrays the retention kernel's host lines make, read at an index. -/

namespace Cert.Kernel3Ideal.Rf

open Cert.Kernel3Ideal Cert.Kernel3Ideal.Gen Cert.RfMath

variable (m : (ℓ : Loc nD τ sig) → Buf (Elt Ideal) ℓ) (c : Dev nD)

/-- The arguments, by entry. -/
def args (q k : FVec Ideal S1x8192x512 .f32) (v g : FVec Ideal S1x8192x1024 .f32) (w : FVec Ideal S1x1024 .f32) : Args where
  q t j := q (ix3 0 t j)
  k t j := k (ix3 0 t j)
  v t j := v (ix3 0 t j)
  g t j := g (ix3 0 t j)
  w j := w (ix2 0 j)

/-- The program's arguments. -/
def A : Args := args (m (c.tc.loc main_arg0)) (m (c.tc.loc main_arg1)) (m (c.tc.loc main_arg2)) (m (c.tc.loc main_arg3)) (m (c.tc.loc main_arg4))

theorem V_v1 (t : Fin 8192) (j : Fin 512) : (V m c main_v1 : FVec Ideal S8192x512 .bf16) (ix2 t j) = (A m c).q t j := by
  unfold_abbrev_sides
  after_reads_simp
  pointwise

theorem V_v3 (t : Fin 8192) (j : Fin 512) : (V m c main_v3 : FVec Ideal S8192x512 .bf16) (ix2 t j) = (A m c).k t j := by
  unfold_abbrev_sides
  after_reads_simp
  pointwise

theorem V_v5 (t : Fin 8192) (j : Fin 1024) : (V m c main_v5 : FVec Ideal S8192x1024 .bf16) (ix2 t j) = (A m c).v t j := by
  unfold_abbrev_sides
  after_reads_simp
  pointwise

theorem V_v7 (t : Fin 8192) (j : Fin 1024) : (V m c main_v7 : FVec Ideal S8192x1024 .bf16) (ix2 t j) = (A m c).g t j := by
  unfold_abbrev_sides
  after_reads_simp
  pointwise

theorem V_v24 (t : Fin 8192) (j : Fin 32) : (V m c main_v24 : FVec Ideal S8192x32 .f32) (ix2 t j) = Ideal.cos (ang t.val j.val) := by
  unfold_abbrev_sides
  after_reads_simp
  pointwise
  rfl

theorem four' (f : ℕ → EReal) (j : Fin 128) : (if j.val < 32 then f j.val else if j.val - 32 < 32 then f (j.val - 32)
      else if j.val - 32 - 32 < 32 then f (j.val - 32 - 32) else f (j.val - 32 - 32 - 32)) = f (j.val % 32) := by
  split_ifs <;> refine congrArg f ?_ <;> omega

theorem V_v26 (t : Fin 8192) (j : Fin 128) : (V m c main_v26 : FVec Ideal S8192x128 .f32) (ix2 t j) = Ideal.cos (ang t.val (j.val % 32)) := by
  unfold_abbrev_sides
  after_reads_simp
  pointwise
  after_reads_simp
  pointwise
  exact four' (fun x => Ideal.cos (ang t.val x)) j

theorem alt (f g : ℕ → EReal) (j : Fin 128) : (if j.val < 32 then f j.val else if j.val - 32 < 32 then g (j.val - 32)
      else if j.val - 32 - 32 < 32 then f (j.val - 32 - 32) else g (j.val - 32 - 32 - 32)) = if j.val % 64 < 32 then f (j.val % 32) else g (j.val % 32) := by
  split_ifs <;> first | omega | (refine congrArg f ?_; omega) | (refine congrArg g ?_; omega)

theorem V_v29 (t : Fin 8192) (j : Fin 128) : (V m c main_v29 : FVec Ideal S8192x128 .f32) (ix2 t j)
    = if j.val % 64 < 32 then -Ideal.sin (ang t.val (j.val % 32)) else Ideal.sin (ang t.val (j.val % 32)) := by
  unfold_abbrev_sides
  after_reads_simp
  pointwise
  after_reads_simp
  pointwise
  exact alt (fun x => -Ideal.sin (ang t.val x)) (fun x => Ideal.sin (ang t.val x)) j

theorem V_v80_0 (h : Fin 8) (l p : Fin 128) : (V m c main_v80 : FVec Ideal S8x5x128x128 .f32) (ix4 h 0 l p) = dmask h l p := by
  unfold_abbrev_sides
  after_reads_simp
  pointwise
  after_reads_simp
  unfold StableHlo.TRef.toBuf StableHlo.TRef.ofBuf
  simp only [cast_eq, eqRec_eq_cast, id]
  pointwise
  rfl

theorem V_v80_3 (h : Fin 8) (l p : Fin 128) : (V m c main_v80 : FVec Ideal S8x5x128x128 .f32) (ix4 h 3 l p) = qdec h l := by
  unfold_abbrev_sides
  after_reads_simp
  pointwise
  after_reads_simp
  pointwise
  rfl

theorem V_v80_4 (h : Fin 8) (p : Fin 128) : (V m c main_v80 : FVec Ideal S8x5x128x128 .f32) (ix4 h 4 0 p) = kdec h p := by
  unfold_abbrev_sides
  after_reads_simp
  pointwise
  after_reads_simp
  pointwise
  after_reads_simp
  pointwise
  rfl

end Cert.Kernel3Ideal.Rf

end
-- ==== Proof.RfGam.lean ====
module

public import proofs.«01_k».proof.Proof.RfPoint

@[expose] public section

set_option maxRecDepth 16384

noncomputable section

open Idealize.ShloMosaic Idealize.ShloMosaic.TcCoe Idealize.SL.Sem

/-! A chunk's whole decay: the named constants are the exponentials the retention's formula gives. -/

namespace Cert.RfMath

theorem bits_two : Ideal.ofBits .f32 1073741824#32 = ((2 : ℝ) : EReal) := by
  simp [Ideal.ofBits, Ideal.ieee]
  norm_num
  try rw [← EReal.coe_mul]
  try norm_num

theorem bits_neg_five : Ideal.ofBits .f32 3231711232#32 = ((-5 : ℝ) : EReal) := by
  simp [Ideal.ofBits, Ideal.ieee]
  norm_num
  try rw [← EReal.coe_mul]
  try norm_num

theorem bits_128 : Ideal.ofBits .f32 1124073472#32 = ((128 : ℝ) : EReal) := by
  simp [Ideal.ofBits, Ideal.ieee]
  norm_num
  try rw [← EReal.coe_mul]
  try norm_num

theorem iF_val (h : Fin 8) : iF h.val = (((h.val : ℕ) : ℝ) : EReal) := by
  have e : (BitVec.ofNat 32 h.val).toInt = (h.val : ℤ) := by
    revert h
    decide
  show (((BitVec.ofNat 32 h.val).toInt : ℝ) : EReal) = _
  rw [e]
  rfl

theorem lg_val (h : Fin 8) : lg h.val = ((Real.log (((2 : ℝ) ^ (5 + h.val) - 1) / 2 ^ (5 + h.val)) : ℝ) : EReal) := by
  have hp : (0 : ℝ) < 2 ^ (5 + h.val) := by positivity
  have h1 : (1 : ℝ) < 2 ^ (5 + h.val) := one_lt_pow₀ (by norm_num) (by omega)
  have e : Real.rpow 2 (-5 - (h.val : ℝ)) = (2 ^ (5 + h.val))⁻¹ := by
    show (2 : ℝ) ^ (-5 - (h.val : ℝ)) = _
    rw [show (-5 - (h.val : ℝ)) = -((5 + h.val : ℕ) : ℝ) by push_cast; ring, Real.rpow_neg (by norm_num), Real.rpow_natCast]
  have q : 1 + -(2 ^ (5 + h.val))⁻¹ = ((2 : ℝ) ^ (5 + h.val) - 1) / 2 ^ (5 + h.val) := by
    field_simp
    ring
  have r : (0 : ℝ) < ((2 : ℝ) ^ (5 + h.val) - 1) / 2 ^ (5 + h.val) := div_pos (by linarith) hp
  unfold lg Ideal.log1p
  rw [bits_two, bits_neg_five, iF_val, ← EReal.coe_sub, Ideal.pow_coe_coe, e, ← EReal.coe_neg, ← EReal.coe_one, ← EReal.coe_add, q, Ideal.log_coe, if_neg (not_le.mpr r)]

theorem gamR_val (h : Fin 8) : gamR h = (((((2 : ℝ) ^ (5 + h.val) - 1) / 2 ^ (5 + h.val)) ^ 128 : ℝ) : EReal) := by
  have hp : (0 : ℝ) < 2 ^ (5 + h.val) := by positivity
  have h1 : (1 : ℝ) < 2 ^ (5 + h.val) := one_lt_pow₀ (by norm_num) (by omega)
  have r : (0 : ℝ) < ((2 : ℝ) ^ (5 + h.val) - 1) / 2 ^ (5 + h.val) := div_pos (by linarith) hp
  unfold gamR
  rw [lg_val, bits_128, ← EReal.coe_mul, Ideal.exp_coe, mul_comm, show (128 : ℝ) = ((128 : ℕ) : ℝ) by norm_num, Real.exp_nat_mul, Real.exp_log r]

end Cert.RfMath

namespace Cert.Kernel3Ideal.Rf

open Cert.Kernel3Ideal Cert.Kernel3Ideal.Gen Cert.RfMath

theorem kap_0 : κ "chunk_decay_0" = some (((((2 : ℝ) ^ 5 - 1) / 2 ^ 5) ^ 128 : ℝ) : EReal) := by
  unfold κ
  refine congrArg (fun r : ℝ => some (r : EReal)) ?_
  norm_num

theorem kap_1 : κ "chunk_decay_1" = some (((((2 : ℝ) ^ 6 - 1) / 2 ^ 6) ^ 128 : ℝ) : EReal) := by
  unfold κ
  refine congrArg (fun r : ℝ => some (r : EReal)) ?_
  norm_num

theorem kap_2 : κ "chunk_decay_2" = some (((((2 : ℝ) ^ 7 - 1) / 2 ^ 7) ^ 128 : ℝ) : EReal) := by
  unfold κ
  refine congrArg (fun r : ℝ => some (r : EReal)) ?_
  norm_num

theorem kap_3 : κ "chunk_decay_3" = some (((((2 : ℝ) ^ 8 - 1) / 2 ^ 8) ^ 128 : ℝ) : EReal) := by
  unfold κ
  refine congrArg (fun r : ℝ => some (r : EReal)) ?_
  norm_num

theorem kap_4 : κ "chunk_decay_4" = some (((((2 : ℝ) ^ 9 - 1) / 2 ^ 9) ^ 128 : ℝ) : EReal) := by
  unfold κ
  refine congrArg (fun r : ℝ => some (r : EReal)) ?_
  norm_num

theorem kap_5 : κ "chunk_decay_5" = some (((((2 : ℝ) ^ 10 - 1) / 2 ^ 10) ^ 128 : ℝ) : EReal) := by
  unfold κ
  refine congrArg (fun r : ℝ => some (r : EReal)) ?_
  norm_num

theorem kap_6 : κ "chunk_decay_6" = some (((((2 : ℝ) ^ 11 - 1) / 2 ^ 11) ^ 128 : ℝ) : EReal) := by
  unfold κ
  refine congrArg (fun r : ℝ => some (r : EReal)) ?_
  norm_num

theorem kap_7 : κ "chunk_decay_7" = some (((((2 : ℝ) ^ 12 - 1) / 2 ^ 12) ^ 128 : ℝ) : EReal) := by
  unfold κ
  refine congrArg (fun r : ℝ => some (r : EReal)) ?_
  norm_num

theorem gam_eq (h : Fin 8) : gam (F := Ideal) h = gamR h := by
  rw [gamR_val]
  match h with
  | 0 => exact (congrArg (fun o => Option.getD o (Ideal.ofBits .f32 0x3C8CC36A#32)) kap_0)
  | 1 => exact (congrArg (fun o => Option.getD o (Ideal.ofBits .f32 0x3E08698E#32)) kap_1)
  | 2 => exact (congrArg (fun o => Option.getD o (Ideal.ofBits .f32 0x3EBB9DB9#32)) kap_2)
  | 3 => exact (congrArg (fun o => Option.getD o (Ideal.ofBits .f32 0x3F1B1EB1#32)) kap_3)
  | 4 => exact (congrArg (fun o => Option.getD o (Ideal.ofBits .f32 0x3F475303#32)) kap_4)
  | 5 => exact (congrArg (fun o => Option.getD o (Ideal.ofBits .f32 0x3F61E7C9#32)) kap_5)
  | 6 => exact (congrArg (fun o => Option.getD o (Ideal.ofBits .f32 0x3F707C6F#32)) kap_6)
  | 7 => exact (congrArg (fun o => Option.getD o (Ideal.ofBits .f32 0x3F781F6D#32)) kap_7)

end Cert.Kernel3Ideal.Rf

end
-- ==== Proof.RfRun.lean ====
module

public import Idealize.ShloMosaic.Lib.Pipeline.ValueKit
public import Idealize.ShloMosaic.Lib.Tactic
public import proofs.«01_k».proof.Proof.RfHost
public import proofs.«01_k».proof.Proof.RfGam

@[expose] public section

set_option maxRecDepth 16384

noncomputable section

open Idealize.ShloMosaic Idealize.ShloMosaic.TcCoe Idealize.SL.Sem

/-! What the retention kernel leaves in its result arrays, point by point of the grid. -/

namespace Cert.Kernel3Ideal.Rf

open Cert.Kernel3Ideal Cert.Kernel3Ideal.Gen Cert.Kernel3Ideal.Value Cert.RfMath

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])

theorem blk0 (t : Fin cfg0.N) (p : Fin 128) (j : Fin 512) :
    (iblk m c 0 t : FVec Ideal S128x512 .bf16) (ix2 p j) = (A m c).q (row t.val p) j := by
  refine Eq.trans ?_ (V_v1 m c (row t.val p) j)
  blk_simp [iblk]
  refine congrArg _ (funext fun a => Fin.ext ?_)
  fin_cases a <;> blk_simp [at0] <;> simp [row_val _ (lt_of_lt_of_eq t.isLt N_0)] <;> omega

theorem at1 : ∀ t : Fin cfg0.N, win0_1.index t = ![t.val, 0] := (by decide +kernel : ∀ t : Fin grid0.N, win0_1.index t = ![t.val, 0])

theorem blk1 (t : Fin cfg0.N) (p : Fin 128) (j : Fin 512) :
    (iblk m c 1 t : FVec Ideal S128x512 .bf16) (ix2 p j) = (A m c).k (row t.val p) j := by
  refine Eq.trans ?_ (V_v3 m c (row t.val p) j)
  blk_simp [iblk]
  refine congrArg _ (funext fun a => Fin.ext ?_)
  fin_cases a <;> blk_simp [at1] <;> simp [row_val _ (lt_of_lt_of_eq t.isLt N_0)] <;> omega

theorem at2 : ∀ t : Fin cfg0.N, win0_2.index t = ![t.val, 0] := (by decide +kernel : ∀ t : Fin grid0.N, win0_2.index t = ![t.val, 0])

theorem blk2 (t : Fin cfg0.N) (p : Fin 128) (j : Fin 1024) :
    (iblk m c 2 t : FVec Ideal S128x1024 .bf16) (ix2 p j) = (A m c).v (row t.val p) j := by
  refine Eq.trans ?_ (V_v5 m c (row t.val p) j)
  blk_simp [iblk]
  refine congrArg _ (funext fun a => Fin.ext ?_)
  fin_cases a <;> blk_simp [at2] <;> simp [row_val _ (lt_of_lt_of_eq t.isLt N_0)] <;> omega

theorem at3 : ∀ t : Fin cfg0.N, win0_3.index t = ![t.val, 0] := (by decide +kernel : ∀ t : Fin grid0.N, win0_3.index t = ![t.val, 0])

theorem blk3 (t : Fin cfg0.N) (p : Fin 128) (j : Fin 1024) :
    (iblk m c 3 t : FVec Ideal S128x1024 .bf16) (ix2 p j) = (A m c).g (row t.val p) j := by
  refine Eq.trans ?_ (V_v7 m c (row t.val p) j)
  blk_simp [iblk]
  refine congrArg _ (funext fun a => Fin.ext ?_)
  fin_cases a <;> blk_simp [at3] <;> simp [row_val _ (lt_of_lt_of_eq t.isLt N_0)] <;> omega

theorem at4 : ∀ t : Fin cfg0.N, win0_4.index t = ![t.val, 0] := (by decide +kernel : ∀ t : Fin grid0.N, win0_4.index t = ![t.val, 0])

theorem blk4 (t : Fin cfg0.N) (p : Fin 128) (j : Fin 128) :
    (iblk m c 4 t : FVec Ideal S128x128 .f32) (ix2 p j) = Ideal.cos (ang (row t.val p).val (j.val % 32)) := by
  refine Eq.trans ?_ (V_v26 m c (row t.val p) j)
  blk_simp [iblk]
  refine congrArg _ (funext fun a => Fin.ext ?_)
  fin_cases a <;> blk_simp [at4] <;> simp [row_val _ (lt_of_lt_of_eq t.isLt N_0)] <;> omega

theorem at5 : ∀ t : Fin cfg0.N, win0_5.index t = ![t.val, 0] := (by decide +kernel : ∀ t : Fin grid0.N, win0_5.index t = ![t.val, 0])

theorem blk5 (t : Fin cfg0.N) (p : Fin 128) (j : Fin 128) :
    (iblk m c 5 t : FVec Ideal S128x128 .f32) (ix2 p j) = if j.val % 64 < 32 then -Ideal.sin (ang (row t.val p).val (j.val % 32)) else Ideal.sin (ang (row t.val p).val (j.val % 32)) := by
  refine Eq.trans ?_ (V_v29 m c (row t.val p) j)
  blk_simp [iblk]
  refine congrArg _ (funext fun a => Fin.ext ?_)
  fin_cases a <;> blk_simp [at5] <;> simp [row_val _ (lt_of_lt_of_eq t.isLt N_0)] <;> omega

theorem at6 : ∀ t : Fin cfg0.N, win0_6.index t = ![0, 0] := (by decide +kernel : ∀ t : Fin grid0.N, win0_6.index t = ![0, 0])

theorem blk6 (t : Fin cfg0.N) (p : Fin 1) (j : Fin 1024) :
    (iblk m c 6 t : FVec Ideal S1x1024 .f32) (ix2 p j) = (A m c).w j := by
  refine Eq.trans ?_ (congrFun (V_main_arg4 m c) (ix2 0 j))
  blk_simp [iblk]
  refine congrArg _ (funext fun a => Fin.ext ?_)
  fin_cases a <;> blk_simp [at6] <;> simp

theorem at7 : ∀ t : Fin cfg0.N, win0_7.index t = ![0, 0, 0, 0] := (by decide +kernel : ∀ t : Fin grid0.N, win0_7.index t = ![0, 0, 0, 0])

theorem blk7 (t : Fin cfg0.N) (h : Fin 8) (k : Fin 5) (l p : Fin 128) :
    (iblk m c 7 t : FVec Ideal S8x5x128x128 .f32) (ix4 h k l p) = (V m c main_v80 : FVec Ideal S8x5x128x128 .f32) (ix4 h k l p) := by
  blk_simp [iblk]
  refine congrArg _ (funext fun a => Fin.ext ?_)
  fin_cases a <;> blk_simp [at7] <;> simp

/-- What a point leaves, from its blocks and the state before it. -/
def point (x0 x1 : Vec Ideal S128x512 .bf16) (x2 x3 : Vec Ideal S128x1024 .bf16) (x4 x5 : Vec Ideal S128x128 .f32) (x6 : Vec Ideal S1x1024 .f32)
    (x7 : Vec Ideal S8x5x128x128 .f32) (st : Vec Ideal S8x64x128 .f32) : Vec Ideal S128x1024 .bf16 × Vec Ideal S1x8x64x128 .f32 × Vec Ideal S8x64x128 .f32 :=
  (colsG (Yh x0 x1 x2 x3 x4 x5 x6 x7 st), k0_pay7 st, headsG (Nh x1 x2 x4 x5 x7 st))

theorem outs_A (t : Fin cfg0.N) (h0 : t.val % 64 = 0) : outsAt0 m c t.val t.isLt = point (iblk m c 0 t) (iblk m c 1 t) (iblk m c 2 t) (iblk m c 3 t) (iblk m c 4 t) (iblk m c 5 t) (iblk m c 6 t) (iblk m c 7 t) (k0_pay1 (F := Ideal)) := by
  rw [outsAt0_A m c t h0]
  unfold point
  refine congrArg₂ Prod.mk (out_A8 ..) ?_
  refine congrArg₂ Prod.mk (out_A9 ..) ?_
  exact sout_A ..

theorem outs_B (t : Fin cfg0.N) (h0 : ¬t.val % 64 = 0) : outsAt0 m c t.val t.isLt = point (iblk m c 0 t) (iblk m c 1 t) (iblk m c 2 t) (iblk m c 3 t) (iblk m c 4 t) (iblk m c 5 t) (iblk m c 6 t) (iblk m c 7 t) (outsAt0 m c (t.val - 1) (by omega)).2.2 := by
  rw [outsAt0_B m c t h0]
  generalize (outsAt0 m c (t.val - 1) _).2.2 = st
  unfold point
  refine congrArg₂ Prod.mk (out_B8 ..) ?_
  refine congrArg₂ Prod.mk (out_B9 ..) ?_
  exact sout_B ..

/-- The state before a point. -/
def prev : (n : ℕ) → n < cfg0.N → Vec Ideal S8x64x128 .f32
  | 0, _ => k0_pay1 (F := Ideal)
  | n + 1, hn => (outsAt0 m c n (Nat.lt_of_succ_lt hn)).2.2

theorem outs_eq (t : Fin cfg0.N) : outsAt0 m c t.val t.isLt = point (iblk m c 0 t) (iblk m c 1 t) (iblk m c 2 t) (iblk m c 3 t) (iblk m c 4 t) (iblk m c 5 t) (iblk m c 6 t) (iblk m c 7 t) (prev m c t.val t.isLt) := by
  have hN : cfg0.N = 64 := N_0
  obtain ⟨n, hn⟩ := t
  match n with
  | 0 => exact outs_A m c ⟨0, hn⟩ (Nat.zero_mod _)
  | n + 1 => exact outs_B m c ⟨n + 1, hn⟩ (by show ¬ (n + 1) % 64 = 0; omega)

/-! ### A point's values are the chunk's -/

theorem q_eq (t : Fin cfg0.N) : (fun l j => k0_pay4 (iblk m c 4 t) (iblk m c 5 t) (iblk m c 0 t) (ix2 l j)) = QR (A m c) t.val := by
  funext l j
  rw [pay4_at]
  unfold QR
  refine Eq.trans ?_ (rotM_eq (A m c).q (fun l j => iblk m c 4 t (ix2 l j)) (fun l j => iblk m c 5 t (ix2 l j)) t.val (lt_of_lt_of_eq t.isLt N_0) (fun l j => blk4 m c t l j) (fun l j => blk5 m c t l j) l j)
  exact congrArg (fun X => rotM _ _ X l j) (funext fun l => funext fun j => blk0 m c t l j)

theorem k_eq (t : Fin cfg0.N) : (fun l j => k0_pay5 (iblk m c 4 t) (iblk m c 5 t) (iblk m c 1 t) (ix2 l j)) = KR (A m c) t.val := by
  funext l j
  rw [pay5_at]
  unfold KR
  refine congrArg (fun y => y * _) ?_
  refine Eq.trans ?_ (rotM_eq (A m c).k (fun l j => iblk m c 4 t (ix2 l j)) (fun l j => iblk m c 5 t (ix2 l j)) t.val (lt_of_lt_of_eq t.isLt N_0) (fun l j => blk4 m c t l j) (fun l j => blk5 m c t l j) l j)
  exact congrArg (fun X => rotM _ _ X l j) (funext fun l => funext fun j => blk1 m c t l j)

theorem v_eq (t : Fin cfg0.N) : (fun l j => (iblk m c 2 t : FVec Ideal S128x1024 .bf16) (ix2 l j)) = VV (A m c) t.val :=
  funext fun l => funext fun j => blk2 m c t l j

theorem g_eq (t : Fin cfg0.N) : (fun l j => (iblk m c 3 t : FVec Ideal S128x1024 .bf16) (ix2 l j)) = GG (A m c) t.val :=
  funext fun l => funext fun j => blk3 m c t l j

theorem w_eq (t : Fin cfg0.N) : (fun j => (iblk m c 6 t : FVec Ideal S1x1024 .f32) (ix2 0 j)) = (A m c).w :=
  funext fun j => blk6 m c t 0 j

theorem dm_eq (t : Fin cfg0.N) : (fun h l p => (iblk m c 7 t : FVec Ideal S8x5x128x128 .f32) (ix4 h 0 l p)) = dmask :=
  funext fun h => funext fun l => funext fun p => (blk7 m c t h 0 l p).trans (V_v80_0 m c h l p)

theorem qd_eq (t : Fin cfg0.N) : (fun (h : Fin 8) (l : Fin 128) (d : Fin 64) => (iblk m c 7 t : FVec Ideal S8x5x128x128 .f32) (ix4 h 3 l ⟨d.val, by omega⟩)) = fun h l _ => qdec h l :=
  funext fun h => funext fun l => funext fun d => (blk7 m c t h 3 l ⟨d.val, by omega⟩).trans (V_v80_3 m c h l _)

theorem kd_eq (t : Fin cfg0.N) : (fun h l => (iblk m c 7 t : FVec Ideal S8x5x128x128 .f32) (ix4 h 4 0 l)) = kdec :=
  funext fun h => funext fun l => (blk7 m c t h 4 0 l).trans (V_v80_4 m c h l)

theorem n_eq (t : Fin cfg0.N) (st : Vec Ideal S8x64x128 .f32) (S : Fin 8 → Fin 64 → Fin 128 → EReal) (hS : ∀ h d e, st (ix3 h d e) = S h d e) (h : Fin 8) (d : Fin 64) (e : Fin 128) :
    headsG (Nh (iblk m c 1 t) (iblk m c 2 t) (iblk m c 4 t) (iblk m c 5 t) (iblk m c 7 t) st) (ix3 h d e) = nM (KR (A m c) t.val) (VV (A m c) t.val) kdec gamR S h d e := by
  refine (Nh_at (iblk m c 1 t) (iblk m c 2 t) (iblk m c 4 t) (iblk m c 5 t) (iblk m c 7 t) st h d e).trans ?_
  rw [k_eq, v_eq, kd_eq, show (fun h d e => st (ix3 h d e)) = S from funext fun h => funext fun d => funext fun e => hS h d e, show gam (F := Ideal) = gamR from funext gam_eq]

/-- The state before a point is the chunk's. -/
theorem prev_eq (n : ℕ) (hn : n < cfg0.N) (h : Fin 8) (d : Fin 64) (e : Fin 128) : prev m c n hn (ix3 h d e) = ST (A m c) n h d e := by
  induction n generalizing h d e with
  | zero => exact pay1_at _
  | succ n ih =>
    have hp : prev m c (n + 1) hn = headsG (Nh (iblk m c 1 ⟨n, Nat.lt_of_succ_lt hn⟩) (iblk m c 2 ⟨n, Nat.lt_of_succ_lt hn⟩) (iblk m c 4 ⟨n, Nat.lt_of_succ_lt hn⟩) (iblk m c 5 ⟨n, Nat.lt_of_succ_lt hn⟩) (iblk m c 7 ⟨n, Nat.lt_of_succ_lt hn⟩) (prev m c n (Nat.lt_of_succ_lt hn))) :=
      congrArg (fun o => o.2.2) (outs_eq m c ⟨n, Nat.lt_of_succ_lt hn⟩)
    rw [hp]
    exact n_eq m c ⟨n, Nat.lt_of_succ_lt hn⟩ _ _ (ih (Nat.lt_of_succ_lt hn)) h d e

/-- The states' block of a point. -/
theorem outs9 (t : Fin cfg0.N) (h : Fin 8) (d : Fin 64) (e : Fin 128) : (outsAt0 m c t.val t.isLt).2.1 (ix4 0 h d e) = ST (A m c) t.val h d e := by
  rw [outs_eq]
  refine (pay7_at _ h d e).trans (prev_eq m c t.val t.isLt h d e)

/-- The output's block of a point. -/
theorem outs8 (t : Fin cfg0.N) (l : Fin 128) (j : Fin 1024) :
    (outsAt0 m c t.val t.isLt).1 (ix2 l j) = YY (A m c) t.val ⟨j.val / 128, by omega⟩ l ⟨j.val % 128, Nat.mod_lt _ (by decide)⟩ := by
  rw [outs_eq]
  refine (Yh_at (iblk m c 0 t) (iblk m c 1 t) (iblk m c 2 t) (iblk m c 3 t) (iblk m c 4 t) (iblk m c 5 t) (iblk m c 6 t) (iblk m c 7 t) (prev m c t.val t.isLt) ⟨j.val / 128, by omega⟩ l ⟨j.val % 128, Nat.mod_lt _ (by decide)⟩).trans ?_
  rw [q_eq, k_eq, v_eq, g_eq, w_eq, dm_eq, qd_eq, show (fun h d e => prev m c t.val t.isLt (ix3 h d e)) = ST (A m c) t.val from funext fun h => funext fun d => funext fun e => prev_eq m c t.val t.isLt h d e]
  rfl

/-- The first result's array. -/
theorem G8_eq (r : Fin 8192) (j : Fin 1024) : (G8 m c : FVec Ideal S8192x1024 .bf16) (ix2 r j)
    = YY (A m c) (r.val / 128) ⟨j.val / 128, by omega⟩ ⟨r.val % 128, Nat.mod_lt _ (by decide)⟩ ⟨j.val % 128, Nat.mod_lt _ (by decide)⟩ := by
  have hN : cfg0.N = 64 := N_0
  have hp : pt8Of (ix2 r j) = r.val / 128 := by
    show 1 * (r.val / 128 - 0) + 1 * (j.val / 1024 - 0) = _
    omega
  have hlt : pt8Of (ix2 r j) < cfg0.N := by omega
  unfold G8
  rw [dif_pos hlt]
  have e := outs8 m c ⟨pt8Of (ix2 r j), hlt⟩ ⟨r.val % 128, Nat.mod_lt _ (by decide)⟩ j
  dsimp only at e
  rw [← outsAt0_sweep m c _ hlt]
  rw [show (loc8Of (ix2 r j)) = ix2 (n0 := 128) (n1 := 1024) ⟨r.val % 128, Nat.mod_lt _ (by decide)⟩ j from funext fun a => match a with
    | ⟨0, _⟩ => rfl
    | ⟨1, _⟩ => Fin.ext (Nat.mod_eq_of_lt j.isLt)]
  rw [e, hp]

/-- The second result's array. -/
theorem G9_eq (n : Fin 64) (h : Fin 8) (d : Fin 64) (e : Fin 128) : (G9 m c : FVec Ideal S64x8x64x128 .f32) (ix4 n h d e) = ST (A m c) n.val h d e := by
  have hN : cfg0.N = 64 := N_0
  have hp : pt9Of (ix4 n h d e) = n.val := by
    show 1 * (n.val / 1 - 0) + 1 * (h.val / 8 - 0) + 1 * (d.val / 64 - 0) + 1 * (e.val / 128 - 0) = _
    omega
  have hlt : pt9Of (ix4 n h d e) < cfg0.N := by omega
  unfold G9
  rw [dif_pos hlt]
  have e' := outs9 m c ⟨pt9Of (ix4 n h d e), hlt⟩ h d e
  dsimp only at e'
  rw [← outsAt0_sweep m c _ hlt]
  rw [show (loc9Of (ix4 n h d e)) = ix4 (n0 := 1) (n1 := 8) (n2 := 64) (n3 := 128) 0 h d e from funext fun a => match a with
    | ⟨0, _⟩ => Fin.ext (Nat.mod_one _)
    | ⟨1, _⟩ => Fin.ext (Nat.mod_eq_of_lt h.isLt)
    | ⟨2, _⟩ => Fin.ext (Nat.mod_eq_of_lt d.isLt)
    | ⟨3, _⟩ => Fin.ext (Nat.mod_eq_of_lt e.isLt)]
  rw [e', hp]

end Cert.Kernel3Ideal.Rf

end
-- ==== Proof.Stack.lean ====
module

public import Idealize.ShloMosaic.Lib.Pointwise

@[expose] public section

set_option maxRecDepth 16384

noncomputable section

open Idealize.ShloMosaic

/-! A stack of arrays along axis 0: one array of it read, one array of it written. -/

namespace Cert.Stack

variable {α : Type} {N A B C : ℕ}

/-- The stack's shape. -/
abbrev St (N A B C : ℕ) : Shape := ⟨5, ![N, 1, A, B, C]⟩

section Read

variable (start : Fin 5 → Int) (k : Fin N) (h0 : start 0 = (k.val : Int)) (h1 : ∀ a : Fin 5, a ≠ 0 → start a = 0)
include h0 h1

theorem clamp (h : (St N A B C).Slices (fun _ => 0) (St 1 A B C)) (a : Fin 5) :
    Host.clampedStart (St N A B C) (St 1 A B C) h.1 start a = if a = 0 then k.val else 0 := by
  have hk := k.isLt
  fin_cases a
  · exact Host.clampedStart_of_le (s := St N A B C) (t := St 1 A B C) h.1 start 0 k.val h0 (show k.val + 1 ≤ N by omega)
  · exact Host.clampedStart_of_le (s := St N A B C) (t := St 1 A B C) h.1 start 1 0 (h1 1 (by decide)) (show 0 + 1 ≤ 1 by omega)
  · exact Host.clampedStart_of_le (s := St N A B C) (t := St 1 A B C) h.1 start 2 0 (h1 2 (by decide)) (show 0 + A ≤ A by omega)
  · exact Host.clampedStart_of_le (s := St N A B C) (t := St 1 A B C) h.1 start 3 0 (h1 3 (by decide)) (show 0 + B ≤ B by omega)
  · exact Host.clampedStart_of_le (s := St N A B C) (t := St 1 A B C) h.1 start 4 0 (h1 4 (by decide)) (show 0 + C ≤ C by omega)

/-- Array `k` of the stack. -/
theorem slice (x : (St N A B C).Idx → α) (h : (St N A B C).Slices (fun _ => 0) (St 1 A B C)) (a : Fin A) (b : Fin B) (c : Fin C) :
    Host.dynamicSlice (St 1 A B C) x start h (ix5 0 0 a b c) = x (ix5 k 0 a b c) := by
  have hc := clamp start k h0 h1 h
  rw [Host.dynamicSlice_apply]
  refine congrArg x (funext fun i => Fin.ext ?_)
  fin_cases i
  · exact (congrArg (· + 0) (hc 0)).trans (Nat.add_zero _)
  · exact (congrArg (· + 0) (hc 1))
  · exact (congrArg (· + a.val) (hc 2)).trans (Nat.zero_add _)
  · exact (congrArg (· + b.val) (hc 3)).trans (Nat.zero_add _)
  · exact (congrArg (· + c.val) (hc 4)).trans (Nat.zero_add _)

/-- The stack with array `k` replaced. -/
theorem update (x : (St N A B C).Idx → α) (u : (St 1 A B C).Idx → α) (h : (St N A B C).Slices (fun _ => 0) (St 1 A B C)) (n : Fin N) (a : Fin A) (b : Fin B) (c : Fin C) :
    Host.dynamicUpdateSlice x u start h (ix5 n 0 a b c) = if n = k then u (ix5 0 0 a b c) else x (ix5 n 0 a b c) := by
  have hc := clamp start k h0 h1 h
  have c0 := hc 0
  have c1 := hc 1
  have c2 := hc 2
  have c3 := hc 3
  have c4 := hc 4
  simp only [if_true, if_neg (show ¬ (1 : Fin 5) = 0 by decide), if_neg (show ¬ (2 : Fin 5) = 0 by decide), if_neg (show ¬ (3 : Fin 5) = 0 by decide), if_neg (show ¬ (4 : Fin 5) = 0 by decide)] at c0 c1 c2 c3 c4
  rw [Host.dynamicUpdateSlice_apply]
  by_cases hn : n = k
  · subst hn
    rw [if_pos rfl, dif_pos]
    · refine congrArg u (funext fun i => Fin.ext ?_)
      fin_cases i
      · exact (congrArg (n.val - ·) c0).trans (Nat.sub_self _)
      · exact (congrArg (0 - ·) c1)
      · exact (congrArg (a.val - ·) c2)
      · exact (congrArg (b.val - ·) c3)
      · exact (congrArg (c.val - ·) c4)
    · intro i
      fin_cases i
      · exact ⟨c0.le, Nat.lt_of_lt_of_eq (Nat.lt_succ_self n.val) (congrArg (· + 1) c0.symm)⟩
      · exact ⟨c1.le, Nat.lt_of_lt_of_eq (Nat.lt_succ_self 0) (congrArg (· + 1) c1.symm)⟩
      · exact ⟨c2.le.trans (Nat.zero_le _), Nat.lt_of_lt_of_le a.isLt (Nat.le_add_left _ _)⟩
      · exact ⟨c3.le.trans (Nat.zero_le _), Nat.lt_of_lt_of_le b.isLt (Nat.le_add_left _ _)⟩
      · exact ⟨c4.le.trans (Nat.zero_le _), Nat.lt_of_lt_of_le c.isLt (Nat.le_add_left _ _)⟩
  · rw [if_neg hn, dif_neg]
    intro hh
    have h0' := hh 0
    rw [c0] at h0'
    exact hn (Fin.ext (Nat.le_antisymm (Nat.lt_succ_iff.mp h0'.2) h0'.1))

end Read

end Cert.Stack

end
-- ==== Proof.RfRef.lean ====
module

public import proofs.«01_k».proof.Proof.RfMath
public import proofs.«01_k».proof.Proof.Stack
public import proofs.«01_k».proof.Proof.Gen.Reference3Ideal.Run
public import Idealize.ShloMosaic.Lib.Pointwise
public import Idealize.ShloMosaic.Lib.StableHlo.Run
public import Idealize.ShloMosaic.Lib.StableHlo.RunRead

@[expose] public section

set_option maxRecDepth 16384

noncomputable section

open Idealize.ShloMosaic Idealize.ShloMosaic.TcCoe Idealize.SL.Sem

/-! The retention forward lines, read: each stretch's values, the loop's states, the two results. -/

namespace Cert.Reference3Ideal.Rf

open Cert.Reference3Ideal Cert.Reference3Ideal.Gen Cert.Reference3Ideal.Value Cert.RfMath
open Idealize.ShloMosaic.StableHlo

variable (V : Valuation τ sig (Elt Ideal))

/-- Column `64 h + d` of the rotation, as the two halves of a head. -/
theorem rot_lo (X : Fin 8192 → Fin 512 → EReal) (t : Fin 8192) (h : Fin 8) (d : Fin 64) (hd : d.val < 32) (hi : h.val * 64 + d.val < 512) (hi' : h.val * 64 + (32 + d.val) < 512) :
    X t ⟨h.val * 64 + d.val, hi⟩ * Ideal.cos (ang t.val d.val) - X t ⟨h.val * 64 + (32 + d.val), hi'⟩ * Ideal.sin (ang t.val d.val) = rotG X t (hj h d) := by
  have hh := h.isLt
  rw [show (⟨h.val * 64 + d.val, hi⟩ : Fin 512) = hj h d from Fin.ext (by show h.val * 64 + d.val = 64 * h.val + d.val; omega),
    show (⟨h.val * 64 + (32 + d.val), hi'⟩ : Fin 512) = ⟨((hj h d).val + 512 - 480) % 512, Nat.mod_lt _ (by decide)⟩ from
      Fin.ext (by show h.val * 64 + (32 + d.val) = (64 * h.val + d.val + 512 - 480) % 512; omega)]
  have e : (hj h d).val % 32 = d.val := by show (64 * h.val + d.val) % 32 = _; omega
  unfold rotG
  rw [e, if_pos (show (hj h d).val % 64 < 32 by show (64 * h.val + d.val) % 64 < 32; omega), mul_neg, sub_eq_add_neg]

theorem rot_hi (X : Fin 8192 → Fin 512 → EReal) (t : Fin 8192) (h : Fin 8) (d : Fin 64) (hd : ¬ d.val < 32) (hi : h.val * 64 + (32 + (d.val - 32)) < 512) (hi' : h.val * 64 + (d.val - 32) < 512) :
    X t ⟨h.val * 64 + (32 + (d.val - 32)), hi⟩ * Ideal.cos (ang t.val (d.val - 32)) + X t ⟨h.val * 64 + (d.val - 32), hi'⟩ * Ideal.sin (ang t.val (d.val - 32)) = rotG X t (hj h d) := by
  have hh := h.isLt
  have hd' := d.isLt
  rw [show (⟨h.val * 64 + (32 + (d.val - 32)), hi⟩ : Fin 512) = hj h d from Fin.ext (by show h.val * 64 + (32 + (d.val - 32)) = 64 * h.val + d.val; omega),
    show (⟨h.val * 64 + (d.val - 32), hi'⟩ : Fin 512) = ⟨((hj h d).val + 512 - 32) % 512, Nat.mod_lt _ (by decide)⟩ from
      Fin.ext (by show h.val * 64 + (d.val - 32) = (64 * h.val + d.val + 512 - 32) % 512; omega)]
  have e : (hj h d).val % 32 = d.val - 32 := by show (64 * h.val + d.val) % 32 = _; omega
  unfold rotG
  rw [e, if_neg (show ¬ (hj h d).val % 64 < 32 by show ¬ (64 * h.val + d.val) % 64 < 32; omega)]

theorem p_v34 (t : Fin 8192) (h : Fin 8) (d : Fin 64) : (after hostOps0 V (Proc.devRef .tc main_v34) : FVec Ideal S1x8192x8x64 .f32) (ix4 0 t h d)
    = rotG (fun t j => (V (Proc.devRef .tc main_arg0) : FVec Ideal S1x8192x512 .f32) (ix3 0 t j)) t (hj h d) := by
  after_reads_simp
  pointwise
  split
  · rename_i hd
    exact rot_lo (fun t j => (V (Proc.devRef .tc main_arg0) : FVec Ideal S1x8192x512 .f32) (ix3 0 t j)) t h d hd _ _
  · rename_i hd
    exact rot_hi (fun t j => (V (Proc.devRef .tc main_arg0) : FVec Ideal S1x8192x512 .f32) (ix3 0 t j)) t h d hd _ _

theorem p_v70 (t : Fin 8192) (h : Fin 8) (d : Fin 64) : (after hostOps0 V (Proc.devRef .tc main_v70) : FVec Ideal S1x8192x8x64 .f32) (ix4 0 t h d)
    = rotG (fun t j => (V (Proc.devRef .tc main_arg1) : FVec Ideal S1x8192x512 .f32) (ix3 0 t j)) t (hj h d) * Ideal.ofBits FTy.f32 0x3E000000#32 := by
  after_reads_simp
  pointwise
  refine congrArg (· * _) ?_
  split
  · rename_i hd
    after_reads_simp
    pointwise
    exact rot_lo (fun t j => (V (Proc.devRef .tc main_arg1) : FVec Ideal S1x8192x512 .f32) (ix3 0 t j)) t h d hd _ _
  · rename_i hd
    after_reads_simp
    pointwise
    exact rot_hi (fun t j => (V (Proc.devRef .tc main_arg1) : FVec Ideal S1x8192x512 .f32) (ix3 0 t j)) t h d hd _ _

theorem p_v71 (t : Fin 8192) (h : Fin 8) (e : Fin 128) : (after hostOps0 V (Proc.devRef .tc main_v71) : FVec Ideal S1x8192x8x128 .f32) (ix4 0 t h e)
    = (V (Proc.devRef .tc main_arg2) : FVec Ideal S1x8192x1024 .f32) (ix3 0 t (he h e)) := by
  after_reads_simp
  pointwise
  refine congrArg _ (congrArg (ix3 0 t) (Fin.ext ?_))
  show h.val * 128 + e.val = 128 * h.val + e.val
  omega

theorem p_v78 (h : Fin 8) : (after hostOps0 V (Proc.devRef .tc main_v78) : FVec Ideal S8 .f32) (ix1 h) = lg h.val := by
  after_reads_simp
  pointwise
  rfl

theorem p_v79 (l : Fin 128) : (after hostOps0 V (Proc.devRef .tc main_v79) : FVec Ideal S128 .f32) (ix1 l) = iF l.val := by
  after_reads_simp
  pointwise
  rfl

theorem p_v0 (j : Fin 1024) : (after hostOps0 V (Proc.devRef .tc main_v0) : FVec Ideal S1024 .f32) (ix1 j) = (V (Proc.devRef .tc main_arg4) : FVec Ideal S1x1024 .f32) (ix2 0 j) := by
  after_reads_simp
  pointwise

/-- The mask's values, its selection left to the next stretch. -/
theorem p_v95 (h : Fin 8) (l p : Fin 128) : (after hostOps0_1 (after hostOps0 V) (Proc.devRef .tc main_v95) : FVec Ideal S8x128x128 .f32) (ix3 h l p) = dmask h l p := by
  after_reads_simp
  unfold StableHlo.TRef.toBuf StableHlo.TRef.ofBuf
  simp only [cast_eq, eqRec_eq_cast, id]
  pointwise
  rfl

/-! ### The chunks' own outputs and states -/

theorem row_eq (n : Fin 64) (l : Fin 128) (hi : n.val * 128 + l.val < 8192) : (⟨n.val * 128 + l.val, hi⟩ : Fin 8192) = row n.val l :=
  Fin.ext (by rw [row_val n.val n.isLt]; show n.val * 128 + l.val = _; omega)

section Chunks

variable (A : Args)

theorem q_v96 (hq : ∀ t h d, (V (Proc.devRef .tc main_v34) : FVec Ideal S1x8192x8x64 .f32) (ix4 0 t h d) = rotG A.q t (hj h d)) (n : Fin 64) (l : Fin 128) (h : Fin 8) (d : Fin 64) :
    (after hostOps0_2 V (Proc.devRef .tc main_v96) : FVec Ideal S1x64x128x8x64 .f32) (ix5 0 n l h d) = QR A n.val l (hj h d) := by
  after_reads_simp
  pointwise
  rw [hq, row_eq]
  rfl

theorem q_v104 (hq : ∀ t h d, (V (Proc.devRef .tc main_v34) : FVec Ideal S1x8192x8x64 .f32) (ix4 0 t h d) = rotG A.q t (hj h d))
    (hk : ∀ t h d, (V (Proc.devRef .tc main_v70) : FVec Ideal S1x8192x8x64 .f32) (ix4 0 t h d) = rotG A.k t (hj h d) * Ideal.ofBits FTy.f32 0x3E000000#32)
    (hv : ∀ t h e, (V (Proc.devRef .tc main_v71) : FVec Ideal S1x8192x8x128 .f32) (ix4 0 t h e) = A.v t (he h e))
    (hm : ∀ h l p, (V (Proc.devRef .tc main_v95) : FVec Ideal S8x128x128 .f32) (ix3 h l p) = dmask h l p)
    (n : Fin 64) (l : Fin 128) (h : Fin 8) (e : Fin 128) :
    (after hostOps0_2 V (Proc.devRef .tc main_v104) : FVec Ideal S1x64x128x8x128 .f32) (ix5 0 n l h e)
      = (∑ p : Fin 128, (∑ d : Fin 64, QR A n.val l (hj h d) * KR A n.val p (hj h d)) * dmask h l p * VV A n.val p (he h e) : EReal) := by
  after_reads_simp
  pointwise
  show (_ : EReal) = _
  refine Finset.sum_congr rfl fun p _ => ?_
  rw [hv, hm, row_eq, mul_comm]
  refine congrArg (fun x : EReal => x * dmask h l p * VV A n.val p (he h e)) (Finset.sum_congr rfl fun d _ => ?_)
  rw [hq, hk, row_eq, row_eq]
  rfl

theorem q_v126_0 (hk : ∀ t h d, (V (Proc.devRef .tc main_v70) : FVec Ideal S1x8192x8x64 .f32) (ix4 0 t h d) = rotG A.k t (hj h d) * Ideal.ofBits FTy.f32 0x3E000000#32)
    (hv : ∀ t h e, (V (Proc.devRef .tc main_v71) : FVec Ideal S1x8192x8x128 .f32) (ix4 0 t h e) = A.v t (he h e))
    (hl : ∀ h, (V (Proc.devRef .tc main_v78) : FVec Ideal S8 .f32) (ix1 h) = lg h.val) (hi : ∀ l, (V (Proc.devRef .tc main_v79) : FVec Ideal S128 .f32) (ix1 l) = iF l.val)
    (n : Fin 64) (h : Fin 8) (d : Fin 64) (e : Fin 128) :
    (after hostOps0_2 V (Proc.devRef .tc main_v126_0) : FVec Ideal S64x1x8x64x128 .f32) (ix5 n 0 h d e)
      = (∑ p : Fin 128, KR A n.val p (hj h d) * kdec h p * VV A n.val p (he h e) : EReal) := by
  after_reads_simp
  simp only [id]
  pointwise
  show (_ : EReal) = _
  refine Finset.sum_congr rfl fun p _ => ?_
  rw [hk, hv, hl, hi, row_eq]
  rfl

theorem q_v126_1 (hl : ∀ h, (V (Proc.devRef .tc main_v78) : FVec Ideal S8 .f32) (ix1 h) = lg h.val) (h : Fin 8) :
    (after hostOps0_2 V (Proc.devRef .tc main_v126_1) : FVec Ideal S8 .f32) (ix1 h) = gamR h := by
  after_reads_simp
  simp only [id]
  pointwise
  rw [hl]
  rfl

theorem q_v126_3 (h : Fin 8) (d : Fin 64) (e : Fin 128) : (after hostOps0_2 V (Proc.devRef .tc main_v126_3) : FVec Ideal S1x8x64x128 .f32) (ix4 0 h d e) = (0 : EReal) := by
  after_reads_simp
  simp only [id]
  pointwise

end Chunks

/-! ### After the loop -/

section Post

theorem s_v162 (n : Fin 64) (h : Fin 8) (d : Fin 64) (e : Fin 128) : (after hostOps0_5 (after hostOps0_4 (after hostOps0_3 V)) (Proc.devRef .tc main_v162) : FVec Ideal S64x8x64x128 .f32) (ix4 n h d e)
    = (V (Proc.devRef .tc main_v126_4) : FVec Ideal S64x1x8x64x128 .f32) (ix5 n 0 h d e) := by
  after_reads_simp
  pointwise

theorem s_v157 (A : Args) (X : Fin 64 → Fin 128 → Fin 8 → Fin 128 → EReal) (Q : Fin 64 → Fin 128 → Fin 8 → Fin 64 → EReal) (S : Fin 64 → Fin 8 → Fin 64 → Fin 128 → EReal)
    (hx : ∀ n l h e, (V (Proc.devRef .tc main_v104) : FVec Ideal S1x64x128x8x128 .f32) (ix5 0 n l h e) = X n l h e)
    (hq : ∀ n l h d, (V (Proc.devRef .tc main_v96) : FVec Ideal S1x64x128x8x64 .f32) (ix5 0 n l h d) = Q n l h d)
    (hs : ∀ n h d e, (V (Proc.devRef .tc main_v126_4) : FVec Ideal S64x1x8x64x128 .f32) (ix5 n 0 h d e) = S n h d e)
    (hl : ∀ h, (V (Proc.devRef .tc main_v78) : FVec Ideal S8 .f32) (ix1 h) = lg h.val) (hi : ∀ l, (V (Proc.devRef .tc main_v79) : FVec Ideal S128 .f32) (ix1 l) = iF l.val)
    (hw : ∀ j, (V (Proc.devRef .tc main_v0) : FVec Ideal S1024 .f32) (ix1 j) = A.w j)
    (n : Fin 64) (l : Fin 128) (h : Fin 8) (e : Fin 128) (t : Fin 8192) (j : Fin 1024) (hn : n.val = t.val / 128) (hll : l.val = t.val % 128) (hh : h.val = j.val / 128) (hee : e.val = j.val % 128) :
    (after hostOps0_3 V (Proc.devRef .tc main_v157) : FVec Ideal S1x8192x1024 .f32) (ix3 0 t j)
      = ((X n l h e + ∑ d : Fin 64, Q n l h d * qdec h l * S n h d e)
        * Ideal.rsqrt (Ideal.div (∑ x : Fin 128, (X n l h x + ∑ d : Fin 64, Q n l h d * qdec h l * S n h d x) * (X n l h x + ∑ d : Fin 64, Q n l h d * qdec h l * S n h d x)) (Ideal.ofBits FTy.f32 0x43000000#32)
          + Ideal.ofBits FTy.f32 0x358637BD#32) * A.w j : EReal) := by
  after_reads_simp
  pointwise
  have e1 : ∀ hp, (⟨t.val / 128, hp⟩ : Fin 64) = n := fun _ => Fin.ext hn.symm
  have e2 : ∀ hp, (⟨t.val % 128, hp⟩ : Fin 128) = l := fun _ => Fin.ext hll.symm
  have e3 : ∀ hp, (⟨j.val / 128, hp⟩ : Fin 8) = h := fun _ => Fin.ext hh.symm
  have e4 : ∀ hp, (⟨j.val % 128, hp⟩ : Fin 128) = e := fun _ => Fin.ext hee.symm
  have key : ∀ x : Fin 128, (∑ d : Fin 64, S n h d x * (Q n l h d * Ideal.exp (lg h.val * (iF l.val + 1))) : EReal) = ∑ d : Fin 64, Q n l h d * qdec h l * S n h d x :=
    fun x => Finset.sum_congr rfl fun d _ => mul_comm _ _
  simp only [e1, e2, e3, e4, hx, hq, hs, hl, hi, hw]
  simp only [key]

theorem s_v158 (A : Args) (hg : ∀ t j, (V (Proc.devRef .tc main_arg3) : FVec Ideal S1x8192x1024 .f32) (ix3 0 t j) = A.g t j) (t : Fin 8192) (j : Fin 1024) :
    (after hostOps0_4 V (Proc.devRef .tc main_v158) : FVec Ideal S1x8192x1024 .f32) (ix3 0 t j) = (A.g t j * Ideal.logistic (A.g t j) : EReal) := by
  after_reads_simp
  unfold StableHlo.TRef.toBuf StableHlo.TRef.ofBuf
  simp only [cast_eq, eqRec_eq_cast, id]
  pointwise
  rw [hg]
  rfl

theorem s_v161 (a b : Fin 8192 → Fin 1024 → EReal) (ha : ∀ t j, (V (Proc.devRef .tc main_v157) : FVec Ideal S1x8192x1024 .f32) (ix3 0 t j) = a t j)
    (hb : ∀ t j, (V (Proc.devRef .tc main_v158) : FVec Ideal S1x8192x1024 .f32) (ix3 0 t j) = b t j) (t : Fin 8192) (j : Fin 1024) :
    (after hostOps0_5 V (Proc.devRef .tc main_v161) : FVec Ideal S8192x1024 .bf16) (ix2 t j) = (a t j * b t j : EReal) := by
  after_reads_simp
  pointwise
  rw [ha, hb]

end Post

/-! ### The loop -/

section Loop

variable (m : (ℓ : Loc nD τ sig) → Buf (Elt Ideal) ℓ) (c : Dev nD) (A : Args)

/-- Where a trip reads and writes the stacks. -/
def starts : Fin 5 → Int := fun k => (((![V (Proc.devRef .tc main_v126_2), constantI S_ 32 0#32, constantI S_ 32 0#32, constantI S_ 32 0#32, constantI S_ 32 0#32] : Fin 5 → (⟨S_, .i32⟩ : BufTy).Contents (Elt Ideal))) k (Shape.Idx.first h_S_)).toInt

theorem starts_ne (a : Fin 5) (ha : a ≠ 0) : starts V a = 0 := by
  fin_cases a
  · exact absurd rfl ha
  · rfl
  · rfl
  · rfl
  · rfl

section Trip

variable (k : Fin 64) (hc : V (Proc.devRef .tc main_v126_2) = fun _ => Scf.iv 0#32 1#32 k.val)
include hc

theorem starts_zero : starts V 0 = (k.val : Int) := by
  show BitVec.toInt ((V (Proc.devRef .tc main_v126_2) : (⟨S_, .i32⟩ : BufTy).Contents (Elt Ideal)) (Shape.Idx.first h_S_)) = _
  rw [hc]
  refine (Scf.toInt_iv (lb := 0#32) (ub := 64#32) (st := 1#32) (by decide) (show k.val ≤ 64 by omega)).trans ?_
  simp

/-- One trip's state. -/
theorem trip3 (g : Fin 8 → EReal) (B : Fin 8 → Fin 64 → Fin 128 → EReal) (S : Fin 8 → Fin 64 → Fin 128 → EReal)
    (h1 : ∀ h, (V (Proc.devRef .tc main_v126_1) : FVec Ideal S8 .f32) (ix1 h) = g h)
    (h0 : ∀ h d e, (V (Proc.devRef .tc main_v126_0) : FVec Ideal S64x1x8x64x128 .f32) (ix5 k 0 h d e) = B h d e)
    (h3 : ∀ h d e, (V (Proc.devRef .tc main_v126_3) : FVec Ideal S1x8x64x128 .f32) (ix4 0 h d e) = S h d e) (h : Fin 8) (d : Fin 64) (e : Fin 128) :
    (afterL bodyI V (Proc.devRef .tc main_v126_3) : FVec Ideal S1x8x64x128 .f32) (ix4 0 h d e) = (S h d e * g h + B h d e : EReal) := by
  rw [trip_main_v126_3, id]
  refine congr_arg₂ (· + · : EReal → EReal → EReal) (congr_arg₂ (· * · : EReal → EReal → EReal) (h3 h d e) ?_) ?_
  · refine Eq.trans ?_ (h1 h)
    pointwise
  · refine Eq.trans ?_ ((Cert.Stack.slice (N := 64) (A := 8) (B := 64) (C := 128) (starts V) k (starts_zero V k hc) (starts_ne V) (V (Proc.devRef .tc main_v126_0)) sliceFits_S64x1x8x64x128_S1x1x8x64x128 h d e).trans (h0 h d e))
    show shapeCast S1x8x64x128 (Host.dynamicSlice S1x1x8x64x128 (V (Proc.devRef .tc main_v126_0)) (starts V) sliceFits_S64x1x8x64x128_S1x1x8x64x128) shapeCasts_S1x1x8x64x128_S1x8x64x128 (ix4 0 h d e) = _
    generalize Host.dynamicSlice S1x1x8x64x128 (V (Proc.devRef .tc main_v126_0)) (starts V) sliceFits_S64x1x8x64x128_S1x1x8x64x128 = y
    pointwise

/-- One trip's stack of states. -/
theorem trip4 (S : Fin 8 → Fin 64 → Fin 128 → EReal) (n : Fin 64)
    (h3 : ∀ h d e, (V (Proc.devRef .tc main_v126_3) : FVec Ideal S1x8x64x128 .f32) (ix4 0 h d e) = S h d e) (h : Fin 8) (d : Fin 64) (e : Fin 128) :
    (afterL bodyI V (Proc.devRef .tc main_v126_4) : FVec Ideal S64x1x8x64x128 .f32) (ix5 n 0 h d e)
      = if n = k then S h d e else (V (Proc.devRef .tc main_v126_4) : FVec Ideal S64x1x8x64x128 .f32) (ix5 n 0 h d e) := by
  rw [trip_main_v126_4, id]
  refine (Cert.Stack.update (N := 64) (A := 8) (B := 64) (C := 128) (starts V) k (starts_zero V k hc) (starts_ne V) (V (Proc.devRef .tc main_v126_4)) _ updateFits_S64x1x8x64x128_S1x1x8x64x128 n h d e).trans ?_
  refine if_congr Iff.rfl (Eq.trans ?_ (h3 h d e)) rfl
  pointwise

end Trip

/-- The states before each trip. -/
theorem loop
    (h0 : ∀ n h d e, (entryContents preI m c (Proc.devRef .tc main_v126_0) : FVec Ideal S64x1x8x64x128 .f32) (ix5 n 0 h d e) = (∑ p : Fin 128, KR A n.val p (hj h d) * kdec h p * VV A n.val p (he h e) : EReal))
    (h1 : ∀ h, (entryContents preI m c (Proc.devRef .tc main_v126_1) : FVec Ideal S8 .f32) (ix1 h) = gamR h)
    (h3 : ∀ h d e, (entryContents preI m c (Proc.devRef .tc main_v126_3) : FVec Ideal S1x8x64x128 .f32) (ix4 0 h d e) = (0 : EReal)) :
    ∀ k : ℕ, k ≤ 64 → atK m k c (Proc.devRef .tc main_v126_0) = entryContents preI m c (Proc.devRef .tc main_v126_0)
      ∧ atK m k c (Proc.devRef .tc main_v126_1) = entryContents preI m c (Proc.devRef .tc main_v126_1)
      ∧ (∀ h d e, (atK m k c (Proc.devRef .tc main_v126_3) : FVec Ideal S1x8x64x128 .f32) (ix4 0 h d e) = ST A k h d e)
      ∧ ∀ n : Fin 64, n.val < k → ∀ h d e, (atK m k c (Proc.devRef .tc main_v126_4) : FVec Ideal S64x1x8x64x128 .f32) (ix5 n 0 h d e) = ST A n.val h d e
  | 0, _ => ⟨rfl, rfl, h3, fun n hn => absurd hn (Nat.not_lt_zero _)⟩
  | k + 1, hk => by
    obtain ⟨i0, i1, i3, i4⟩ := loop h0 h1 h3 k (by omega)
    have ag := cond_keeps (atK m k c)
    have a0 := (ag main_v126_0 (by decide)).trans i0
    have a1 := (ag main_v126_1 (by decide)).trans i1
    have a2 := (ag main_v126_2 (by decide)).trans (atK_ctr m c k)
    have a3 := ag main_v126_3 (by decide)
    have a4 := ag main_v126_4 (by decide)
    have s3 : ∀ h d e, (after condOps (atK m k c) (Proc.devRef .tc main_v126_3) : FVec Ideal S1x8x64x128 .f32) (ix4 0 h d e) = ST A k h d e := fun h d e => (congrFun a3 _).trans (i3 h d e)
    refine ⟨(trip_main_v126_0 _).trans a0, (trip_main_v126_1 _).trans a1, fun h d e => ?_, fun n hn h d e => ?_⟩
    · exact trip3 (after condOps (atK m k c)) ⟨k, by omega⟩ a2 gamR _ (ST A k) (fun h => (congrFun a1 _).trans (h1 h)) (fun h d e => (congrFun a0 _).trans (h0 ⟨k, by omega⟩ h d e)) s3 h d e
    · refine (trip4 (after condOps (atK m k c)) ⟨k, by omega⟩ a2 (ST A k) n s3 h d e).trans ?_
      by_cases hnk : n = ⟨k, by omega⟩
      · rw [if_pos hnk, hnk]
      · rw [if_neg hnk]
        exact (congrFun a4 _).trans (i4 n (Nat.lt_of_le_of_ne (Nat.lt_succ_iff.mp hn) fun hh => hnk (Fin.ext hh)) h d e)

end Loop

end Cert.Reference3Ideal.Rf

end
-- ==== Proof.RfFinal.lean ====
module

public import proofs.«01_k».proof.Defs
public import proofs.«01_k».proof.Proof.RfRun
public import proofs.«01_k».proof.Proof.RfRef
public import proofs.«01_k».proof.Proof.Gen.Kernel3.Frame

@[expose] public section

set_option maxRecDepth 16384

noncomputable section

open Idealize.ShloMosaic Idealize.ShloMosaic.TcCoe Idealize.SL.Sem Idealize.ShloMosaic.StableHlo

/-! The retention forward kernel and the forward lines give the same outputs and the same states. -/

namespace Cert.Reference3Ideal.Rf

open Cert.Reference3Ideal Cert.Reference3Ideal.Gen Cert.Reference3Ideal.Value Cert.RfMath

variable (m : (ℓ : Loc nD τ sig) → Buf (Elt Ideal) ℓ) (c : Dev nD)

/-- The forward lines' arguments, by entry. -/
def A : Args := Cert.Kernel3Ideal.Rf.args (m (c.tc.loc main_arg0)) (m (c.tc.loc main_arg1)) (m (c.tc.loc main_arg2)) (m (c.tc.loc main_arg3)) (m (c.tc.loc main_arg4))

/-- The contents before the last stretch ahead of the loop. -/
def W2 : Valuation τ sig (Elt Ideal) := after hostOps0_1 (after hostOps0 (launchContents m c))

theorem entry_eq : entryContents preI m c = after hostOps0_2 (W2 m c) := rfl

theorem keep1 (r : Ref sig .tc) (h : r ∉ hostOps0_1_W) : W2 m c (Proc.devRef .tc r) = after hostOps0 (launchContents m c) (Proc.devRef .tc r) :=
  after_of_writes_sub hostOps0_1 _ hostOps0_1_writes h

theorem keep2 (r : Ref sig .tc) (h : r ∉ hostOps0_2_W) : entryContents preI m c (Proc.devRef .tc r) = W2 m c (Proc.devRef .tc r) :=
  after_of_writes_sub hostOps0_2 _ hostOps0_2_writes h

/-- The buffers the loop writes. -/
abbrev loopW : List (Ref sig .tc) := condOps_W ++ while0Ops0_W ++ while0Ops0_1_W ++ while0Ops0_2_W ++ while0Ops0_3_W

theorem keepL (r : Ref sig .tc) (h : r ∉ loopW) : ∀ k, atK m k c (Proc.devRef .tc r) = entryContents preI m c (Proc.devRef .tc r)
  | 0 => rfl
  | k + 1 => by
    simp only [loopW, List.mem_append, not_or] at h
    obtain ⟨⟨⟨⟨h0, h1⟩, h2⟩, h3⟩, h4⟩ := h
    rw [show atK m (k + 1) c = afterL bodyI (after condOps (atK m k c)) from rfl]
    simp only [afterL_cons, afterL_nil]
    rw [after_of_writes_sub while0Ops0_3 _ while0Ops0_3_writes h4, after_of_writes_sub while0Ops0_2 _ while0Ops0_2_writes h3, after_of_writes_sub while0Ops0_1 _ while0Ops0_1_writes h2,
      after_of_writes_sub while0Ops0 _ while0Ops0_writes h1, after_of_writes_sub condOps _ condOps_writes h0]
    refine keepL r ?_ k
    simp only [loopW, List.mem_append, not_or]
    exact ⟨⟨⟨⟨h0, h1⟩, h2⟩, h3⟩, h4⟩

/-- The contents after the loop. -/
def L : Valuation τ sig (Elt Ideal) := after condOps (atK m 64 c)

theorem keep3 (r : Ref sig .tc) (h : r ∉ loopW) : L m c (Proc.devRef .tc r) = entryContents preI m c (Proc.devRef .tc r) := by
  refine (after_of_writes_sub condOps _ condOps_writes ?_).trans (keepL m c r h 64)
  simp only [loopW, List.mem_append, not_or] at h
  exact h.1.1.1.1

theorem w_q (t : Fin 8192) (h : Fin 8) (d : Fin 64) : (W2 m c (Proc.devRef .tc main_v34) : FVec Ideal S1x8192x8x64 .f32) (ix4 0 t h d) = rotG (A m c).q t (hj h d) :=
  (congrFun (keep1 m c main_v34 (by decide +kernel)) _).trans (p_v34 _ t h d)

theorem w_k (t : Fin 8192) (h : Fin 8) (d : Fin 64) : (W2 m c (Proc.devRef .tc main_v70) : FVec Ideal S1x8192x8x64 .f32) (ix4 0 t h d) = rotG (A m c).k t (hj h d) * Ideal.ofBits FTy.f32 0x3E000000#32 :=
  (congrFun (keep1 m c main_v70 (by decide +kernel)) _).trans (p_v70 _ t h d)

theorem w_v (t : Fin 8192) (h : Fin 8) (e : Fin 128) : (W2 m c (Proc.devRef .tc main_v71) : FVec Ideal S1x8192x8x128 .f32) (ix4 0 t h e) = (A m c).v t (he h e) :=
  (congrFun (keep1 m c main_v71 (by decide +kernel)) _).trans (p_v71 _ t h e)

theorem w_l (h : Fin 8) : (W2 m c (Proc.devRef .tc main_v78) : FVec Ideal S8 .f32) (ix1 h) = lg h.val :=
  (congrFun (keep1 m c main_v78 (by decide +kernel)) _).trans (p_v78 _ h)

theorem w_i (l : Fin 128) : (W2 m c (Proc.devRef .tc main_v79) : FVec Ideal S128 .f32) (ix1 l) = iF l.val :=
  (congrFun (keep1 m c main_v79 (by decide +kernel)) _).trans (p_v79 _ l)

theorem w_w (j : Fin 1024) : (W2 m c (Proc.devRef .tc main_v0) : FVec Ideal S1024 .f32) (ix1 j) = (A m c).w j :=
  (congrFun (keep1 m c main_v0 (by decide +kernel)) _).trans (p_v0 _ j)

/-- The states: one a chunk, each from the chunks before. -/
theorem states (n : Fin 64) (h : Fin 8) (d : Fin 64) (e : Fin 128) : (L m c (Proc.devRef .tc main_v126_4) : FVec Ideal S64x1x8x64x128 .f32) (ix5 n 0 h d e) = ST (A m c) n.val h d e :=
  (congrFun (cond_keeps (atK m 64 c) main_v126_4 (by decide)) _).trans
    ((loop m c (A m c) (q_v126_0 (W2 m c) (A m c) (w_k m c) (w_v m c) (w_l m c) (w_i m c)) (q_v126_1 (W2 m c) (w_l m c)) (q_v126_3 (W2 m c)) 64 (le_refl _)).2.2.2 n n.isLt h d e)

theorem out1 (n : Fin 64) (h : Fin 8) (d : Fin 64) (e : Fin 128) :
    (finalContents condOps preI bodyI postI 64 m c (Proc.devRef .tc main_v162) : FVec Ideal S64x8x64x128 .f32) (ix4 n h d e) = ST (A m c) n.val h d e :=
  (s_v162 (L m c) n h d e).trans (states m c n h d e)

theorem keep_arg3 : after hostOps0_3 (L m c) (Proc.devRef .tc main_arg3) = m (c.tc.loc main_arg3) := by
  refine Eq.trans ?_ ((keep3 m c main_arg3 (by decide +kernel)).trans ((keep2 m c main_arg3 (by decide +kernel)).trans ((keep1 m c main_arg3 (by decide +kernel)).trans (after_of_writes_sub hostOps0 _ hostOps0_writes (by decide +kernel)))))
  after_reads_simp

/-- The normed output before its gate. -/
def nrm (A : Args) (n : Fin 64) (l : Fin 128) (h : Fin 8) (e : Fin 128) (j : Fin 1024) : EReal :=
  oM (QR A n.val) (KR A n.val) (VV A n.val) dmask (fun h l _ => qdec h l) (ST A n.val) h l e
    * Ideal.rsqrt (Ideal.div (∑ x : Fin 128, oM (QR A n.val) (KR A n.val) (VV A n.val) dmask (fun h l _ => qdec h l) (ST A n.val) h l x * oM (QR A n.val) (KR A n.val) (VV A n.val) dmask (fun h l _ => qdec h l) (ST A n.val) h l x) (Ideal.ofBits FTy.f32 0x43000000#32)
      + Ideal.ofBits FTy.f32 0x358637BD#32) * A.w j

theorem normed (n : Fin 64) (l : Fin 128) (h : Fin 8) (e : Fin 128) (t : Fin 8192) (j : Fin 1024) (hn : n.val = t.val / 128) (hll : l.val = t.val % 128) (hh : h.val = j.val / 128) (hee : e.val = j.val % 128) :
    (after hostOps0_3 (L m c) (Proc.devRef .tc main_v157) : FVec Ideal S1x8192x1024 .f32) (ix3 0 t j) = nrm (A m c) n l h e j :=
  s_v157 (L m c) (A m c) _ _ _
    (fun n l h e => (congrFun (keep3 m c main_v104 (by decide +kernel)) _).trans
      (q_v104 (W2 m c) (A m c) (w_q m c) (w_k m c) (w_v m c) (fun h l p => p_v95 _ h l p) n l h e))
    (fun n l h d => (congrFun (keep3 m c main_v96 (by decide +kernel)) _).trans (q_v96 (W2 m c) (A m c) (w_q m c) n l h d))
    (states m c)
    (fun h => (congrFun ((keep3 m c main_v78 (by decide +kernel)).trans (keep2 m c main_v78 (by decide +kernel))) _).trans (w_l m c h))
    (fun l => (congrFun ((keep3 m c main_v79 (by decide +kernel)).trans (keep2 m c main_v79 (by decide +kernel))) _).trans (w_i m c l))
    (fun j => (congrFun ((keep3 m c main_v0 (by decide +kernel)).trans (keep2 m c main_v0 (by decide +kernel))) _).trans (w_w m c j))
    n l h e t j hn hll hh hee

/-- The output's chunk, row, head and column from its row and column. -/
theorem out0 (t : Fin 8192) (j : Fin 1024) :
    (finalContents condOps preI bodyI postI 64 m c (Proc.devRef .tc main_v161) : FVec Ideal S8192x1024 .bf16) (ix2 t j)
      = YY (A m c) (t.val / 128) ⟨j.val / 128, by omega⟩ ⟨t.val % 128, Nat.mod_lt _ (by decide)⟩ ⟨j.val % 128, Nat.mod_lt _ (by decide)⟩ := by
  have hg : ∀ t j, (after hostOps0_3 (L m c) (Proc.devRef .tc main_arg3) : FVec Ideal S1x8192x1024 .f32) (ix3 0 t j) = (A m c).g t j := fun t j => congrFun (keep_arg3 m c) _
  have hk : after hostOps0_4 (after hostOps0_3 (L m c)) (Proc.devRef .tc main_v157) = after hostOps0_3 (L m c) (Proc.devRef .tc main_v157) := by after_reads_simp
  refine (s_v161 (after hostOps0_4 (after hostOps0_3 (L m c)))
    (fun t j => nrm (A m c) ⟨t.val / 128, by omega⟩ ⟨t.val % 128, Nat.mod_lt _ (by decide)⟩ ⟨j.val / 128, by omega⟩ ⟨j.val % 128, Nat.mod_lt _ (by decide)⟩ j)
    (fun t j => (A m c).g t j * Ideal.logistic ((A m c).g t j))
    (fun t j => (congrFun hk _).trans (normed m c _ _ _ _ t j rfl rfl rfl rfl))
    (fun t j => s_v158 _ (A m c) hg t j) t j).trans ?_
  have ej : he ⟨j.val / 128, by omega⟩ ⟨j.val % 128, Nat.mod_lt _ (by decide)⟩ = j := Fin.ext (by show 128 * (j.val / 128) + j.val % 128 = j.val; omega)
  have et : row (t.val / 128) ⟨t.val % 128, Nat.mod_lt _ (by decide)⟩ = t := Fin.ext (by rw [row_val _ (by omega)]; show 128 * (t.val / 128) + t.val % 128 = t.val; omega)
  unfold YY yM
  rw [ej]
  unfold GG
  rw [et]
  rfl

/-- The forward lines, run. -/
theorem run_reference (ρ : Dev nD → PrngReg) (x : Dev nD → Args) (hx : ∀ c, x c = A m c) :
    θ_run defs (onTc (τ := τ) (main (F := Ideal))) ⟨m, fun _ => 0, ρ⟩ fun r => ∀ c : Dev nD,
      r.2.mem (c.tc.loc main_v161) = (fun i => YY (x c) ((i 0).val / 128) ⟨(i 1).val / 128, Nat.div_lt_of_lt_mul (i 1).isLt⟩ ⟨(i 0).val % 128, Nat.mod_lt _ (by decide)⟩ ⟨(i 1).val % 128, Nat.mod_lt _ (by decide)⟩)
      ∧ r.2.mem (c.tc.loc main_v162) = (fun i => ST (x c) (i 0).val (i 1) (i 2) (i 3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  have ka : ∀ (c : Dev nD) (r : Ref sig .tc), r ∉ loopW → r ∉ hostOps0_2_W → r ∉ hostOps0_1_W → r ∉ hostOps0_W → L m c (Proc.devRef .tc r) = launchContents m c (Proc.devRef .tc r) :=
    fun c r h3 h2 h1 h0 => (keep3 m c r h3).trans ((keep2 m c r h2).trans ((keep1 m c r h1).trans (after_of_writes_sub hostOps0 _ hostOps0_writes h0)))
  have kp0 : ∀ X : Valuation τ sig (Elt Ideal), afterL postI X (Proc.devRef .tc main_arg0) = X (Proc.devRef .tc main_arg0) := fun X => by simp only [afterL_cons, afterL_nil]; after_reads_simp
  have kp1 : ∀ X : Valuation τ sig (Elt Ideal), afterL postI X (Proc.devRef .tc main_arg1) = X (Proc.devRef .tc main_arg1) := fun X => by simp only [afterL_cons, afterL_nil]; after_reads_simp
  have kp2 : ∀ X : Valuation τ sig (Elt Ideal), afterL postI X (Proc.devRef .tc main_arg2) = X (Proc.devRef .tc main_arg2) := fun X => by simp only [afterL_cons, afterL_nil]; after_reads_simp
  have kp3 : ∀ X : Valuation τ sig (Elt Ideal), afterL postI X (Proc.devRef .tc main_arg3) = X (Proc.devRef .tc main_arg3) := fun X => by simp only [afterL_cons, afterL_nil]; after_reads_simp
  have kp4 : ∀ X : Valuation τ sig (Elt Ideal), afterL postI X (Proc.devRef .tc main_arg4) = X (Proc.devRef .tc main_arg4) := fun X => by simp only [afterL_cons, afterL_nil]; after_reads_simp
  refine (θ_run defs _ _).mono (fun r h c => ?_) (run_fold m ρ)
  have hb := h c
  refine ⟨(hb main_v161 rfl).trans (funext fun i => ?_), (hb main_v162 rfl).trans (funext fun i => ?_),
    (hb main_arg0 rfl).trans ((kp0 _).trans (ka c main_arg0 (by decide +kernel) (by decide +kernel) (by decide +kernel) (by decide +kernel))),
    (hb main_arg1 rfl).trans ((kp1 _).trans (ka c main_arg1 (by decide +kernel) (by decide +kernel) (by decide +kernel) (by decide +kernel))),
    (hb main_arg2 rfl).trans ((kp2 _).trans (ka c main_arg2 (by decide +kernel) (by decide +kernel) (by decide +kernel) (by decide +kernel))),
    (hb main_arg3 rfl).trans ((kp3 _).trans (ka c main_arg3 (by decide +kernel) (by decide +kernel) (by decide +kernel) (by decide +kernel))),
    (hb main_arg4 rfl).trans ((kp4 _).trans (ka c main_arg4 (by decide +kernel) (by decide +kernel) (by decide +kernel) (by decide +kernel)))⟩
  · obtain ⟨a, b, rfl⟩ : ∃ (a : Fin 8192) (b : Fin 1024), i = ix2 a b := ⟨i 0, i 1, funext fun k => by fin_cases k <;> rfl⟩
    rw [hx c]
    exact out0 m c a b
  · obtain ⟨n, h, d, e, rfl⟩ : ∃ (n : Fin 64) (h : Fin 8) (d : Fin 64) (e : Fin 128), i = ix4 n h d e := ⟨i 0, i 1, i 2, i 3, funext fun k => by fin_cases k <;> rfl⟩
    rw [hx c]
    exact out1 m c n h d e

end Cert.Reference3Ideal.Rf

namespace Cert.Rf

open Cert.RfMath

/-- The forward lines terminate with their arguments unchanged. -/
theorem frame_reference : quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Rf.run_reference m ρ _ fun _ => rfl)

/-- Each head's decay over a chunk is named for its exact value. -/
theorem preserves : preserves_Kernel3_Kernel3Ideal :=
  ⟨IdealRules.named_const.statement _ _ _ _ _ rfl, IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl, IdealRules.named_const.statement _ _ _ _ _ rfl⟩

theorem k0 (m : (ℓ : Loc Cert.Kernel3Ideal.nD Cert.Kernel3Ideal.τ Cert.Kernel3Ideal.sig) → Buf (Elt Ideal) ℓ) (c : Dev Cert.Kernel3Ideal.nD) :
    Cert.Kernel3Ideal.Value.G8 (F := Ideal) m c = (fun i => YY (Cert.Kernel3Ideal.Rf.A m c) ((i 0).val / 128) ⟨(i 1).val / 128, Nat.div_lt_of_lt_mul (i 1).isLt⟩ ⟨(i 0).val % 128, Nat.mod_lt _ (by decide)⟩ ⟨(i 1).val % 128, Nat.mod_lt _ (by decide)⟩) :=
  funext fun i => by
    obtain ⟨a, b, rfl⟩ : ∃ (a : Fin 8192) (b : Fin 1024), i = ix2 a b := ⟨i 0, i 1, funext fun k => by fin_cases k <;> rfl⟩
    exact Cert.Kernel3Ideal.Rf.G8_eq m c a b

theorem k1 (m : (ℓ : Loc Cert.Kernel3Ideal.nD Cert.Kernel3Ideal.τ Cert.Kernel3Ideal.sig) → Buf (Elt Ideal) ℓ) (c : Dev Cert.Kernel3Ideal.nD) :
    Cert.Kernel3Ideal.Value.G9 (F := Ideal) m c = (fun i => ST (Cert.Kernel3Ideal.Rf.A m c) (i 0).val (i 1) (i 2) (i 3)) :=
  funext fun i => by
    obtain ⟨n, h, d, e, rfl⟩ : ∃ (n : Fin 64) (h : Fin 8) (d : Fin 64) (e : Fin 128), i = ix4 n h d e := ⟨i 0, i 1, i 2, i 3, funext fun k => by fin_cases k <;> rfl⟩
    exact Cert.Kernel3Ideal.Rf.G9_eq m c n h d e

/-- The kernel computes the forward lines, the outputs and the states. -/
theorem algebraic : algebraic_Kernel3Ideal_Reference3Ideal := fun m ρ m' ρ' _ hargs =>
  ⟨fun c => (fun i => YY (Cert.Kernel3Ideal.Rf.A m c) ((i 0).val / 128) ⟨(i 1).val / 128, Nat.div_lt_of_lt_mul (i 1).isLt⟩ ⟨(i 0).val % 128, Nat.mod_lt _ (by decide)⟩ ⟨(i 1).val % 128, Nat.mod_lt _ (by decide)⟩),
    fun c => (fun i => ST (Cert.Kernel3Ideal.Rf.A m c) (i 0).val (i 1) (i 2) (i 3)),
    (θ_run Cert.Kernel3Ideal.defs _ _).mono (fun _ h c => ⟨(h c).1.trans (k0 m c), (h c).2.1.trans (k1 m c), (h c).2.2⟩) (Cert.Kernel3Ideal.Value.run (F := Ideal) m ρ),
    Cert.Reference3Ideal.Rf.run_reference m' ρ' _ fun c => by
      obtain ⟨a0, a1, a2, a3, a4⟩ := hargs c
      unfold Cert.Reference3Ideal.Rf.A
      rw [a0, a1, a2, a3, a4]
      rfl⟩

end Cert.Rf

end
-- ==== Proof.SfLib.lean ====
module

public import proofs.«01_k».proof.Defs
public import proofs.«01_k».proof.Proof.Gen.Kernel4Ideal.Frame
public import proofs.«01_k».proof.Proof.Real
public import Idealize.ShloMosaic.Lib.Pipeline.Value
public import Idealize.ShloMosaic.Lib.WritesUnit
public import Idealize.ShloMosaic.Lib.VecWindow
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.Sf

open Cert.Kernel4Ideal Cert.Kernel4Ideal.Gen

variable {F : FTy → Type} [FloatOps F] [Named F]

theorem hz : (![0, 0] : Fin 2 → Nat) = fun _ => 0 := funext fun a => by fin_cases a <;> rfl

theorem hz3 : (![0, 0, 0] : Fin 3 → Nat) = fun _ => 0 := funext fun a => by fin_cases a <;> rfl

/-! ### What one chunk computes, over the values it loads -/

/-- The values a chunk loads: its rows, the rows before it, the time steps, the taps, the bias, the
two rows of the decay, the state per group, the skip gains per group, and the two wide tables. -/
structure Ld (F : FTy → Type) [FloatOps F] where
  X : Vec F S128x1536 .bf16
  H : Vec F S16x1536 .bf16
  D : Vec F S128x128 .f32
  w : Fin 4 → Vec F S1x1536 .f32
  b : Vec F S1x1536 .f32
  tb : Vec F S1x128 .f32
  al : Vec F S1x128 .f32
  s : Fin 2 → Vec F S1x128x512 .f32
  k : Fin 2 → Vec F S1x512 .f32
  T : Vec F S128x1024 .f32
  C : Vec F S128x1024 .f32

theorem colIn (h : Fin 16) : S128x128.Slices ![0, h.val] S128x1 := by revert h; decide

theorem rowIn (h : Fin 16) : S128x128.Slices ![h.val, 0] S1x128 := by revert h; decide

theorem hdIn (h : Fin 16) : S128x1024.Slices ![0, 64 * h.val] S128x64 := by revert h; decide

theorem bIn (g : Fin 2) : S128x1536.Slices ![0, 1024 + 128 * g.val] S128x128 := by revert g; decide

theorem cIn (g : Fin 2) : S128x1536.Slices ![0, 1280 + 128 * g.val] S128x128 := by revert g; decide

theorem gIn (g : Fin 2) : S128x1024.Slices ![0, 512 * g.val] S128x512 := by revert g; decide

theorem eIn (g : Fin 2) : S1x1024.Slices ![0, 512 * g.val] S1x512 := by revert g; decide

theorem hdB (h : Fin 16) : ∀ a, (![0, 64 * h.val] : Fin 2 → Nat) a + S128x64.size a ≤ S128x1024.size a := by
  revert h; decide

theorem tapB (k : Fin 4) : ∀ a, (![k.val, 0] : Fin 2 → Nat) a + S1x1536.size a ≤ S8x1536.size a := by
  revert k; decide

theorem stB (g : Fin 2) : ∀ a, (![g.val, 0, 0] : Fin 3 → Nat) a + S1x128x512.size a ≤ S2x128x512.size a := by
  revert g; decide

theorem skB (g : Fin 2) : ∀ a, (![0, 512 * g.val] : Fin 2 → Nat) a + S1x512.size a ≤ S1x1024.size a := by
  revert g; decide

/-- A head's column of a table, over the head's channels. -/
def colv (v : FVec F S128x128 .f32) (h : Fin 16) : FVec F S128x64 .f32 :=
  shapeCast S128x64 (broadcastTo S128x64 (shapeCast S128x1 (extractStridedSlice S128x1 ![0, h.val] v (colIn h)) shapeCasts_S128x1_S128x1) broadcasts_S128x1_S128x64) shapeCasts_S128x64_S128x64

/-- Sixteen heads side by side. -/
def wide (W : Fin 16 → FVec F S128x64 .f32) : FVec F S128x1024 .f32 := fun y =>
  W ⟨(y 1).val / 64, by have := (y 1).isLt; change (y 1).val < 1024 at this; omega⟩ (ix2 (y 0) ⟨(y 1).val % 64, Nat.mod_lt _ (by decide)⟩)

/-- Two groups side by side. -/
def pair (W : Fin 2 → FVec F S128x512 .f32) : FVec F S128x1024 .f32 := fun y =>
  W ⟨(y 1).val / 512, by have := (y 1).isLt; change (y 1).val < 1024 at this; omega⟩ (ix2 (y 0) ⟨(y 1).val % 512, Nat.mod_lt _ (by decide)⟩)

/-- Two groups one over the other. -/
def stk (W : Fin 2 → FVec F S1x128x512 .f32) : Vec F S2x128x512 .f32 := fun y => W (y 0) (ix3 0 (y 1) (y 2))

/-- Two groups one over the other, as the output holds them. -/
def stk4 (W : Fin 2 → FVec F S1x1x128x512 .f32) : Vec F S1x2x128x512 .f32 := fun y => W (y 1) (ix4 0 0 (y 2) (y 3))

variable (i : grid0.Coords) (l : Ld F)

def act : FVec F S128x1536 .f32 :=
  k0_pay7 (k0_pay3 i l.X l.H) l.b (k0_pay4 i l.X l.H (l.w 0) (l.w 1) (l.w 2)) (l.w 3)

/-- The convolution of a chunk, as stored. -/
def uv : FVec F S128x1536 .bf16 :=
  k0_pay6 (k0_pay3 i l.X l.H) l.b (k0_pay4 i l.X l.H (l.w 0) (l.w 1) (l.w 2)) (l.w 3)

def xs : FVec F S128x1024 .f32 := k0_pay53 (act i l)

def xdt : FVec F S128x1024 .f32 := k0_pay54 (xs i l) l.T

def Bm (g : Fin 2) : FVec F S128x128 .f32 := extractStridedSlice S128x128 ![0, 1024 + 128 * g.val] (act i l) (bIn g)

def Cm (g : Fin 2) : FVec F S128x128 .f32 := extractStridedSlice S128x128 ![0, 1280 + 128 * g.val] (act i l) (cIn g)

/-- The products of a group's queries with its keys. -/
def cb (g : Fin 2) : FVec F S128x128 .f32 :=
  matmul dot_S128x128_S128x128_S128x128_1_1_0_0_n_n none (truncf .bf16 (Cm i l g) bitsLt_bf16_f32) (truncf .bf16 (Bm i l g) bitsLt_bf16_f32) (constant S128x128 .f32 0x00000000#32)

/-- The products of a group's queries with the state. -/
def yo (g : Fin 2) : FVec F S128x512 .f32 :=
  matmul dot_S128x128_S128x512_S128x512_1_0_0_1_n_n none (truncf .bf16 (Cm i l g) bitsLt_bf16_f32) (truncf .bf16 (shapeCast S128x512 (l.s g) shapeCasts_S1x128x512_S128x512) bitsLt_bf16_f32) (constant S128x512 .f32 0x00000000#32)

/-- What a chunk adds to a group's state. -/
def sl (g : Fin 2) : FVec F S128x512 .f32 :=
  matmul dot_S128x128_S128x512_S128x512_0_0_1_1_n_n none (truncf .bf16 (Bm i l g) bitsLt_bf16_f32) (truncf .bf16 (extractStridedSlice S128x512 ![0, 512 * g.val] (k0_pay55 (k0_pay51 l.C) (xs i l) l.T) (gIn g)) bitsLt_bf16_f32) (constant S128x512 .f32 0x00000000#32)

/-- A group's output without the products inside the chunk, over its parts. -/
def gbv (Y : FVec F S128x512 .f32) (E X : FVec F S128x1024 .f32) (k : Vec F S1x512 .f32) (g : Fin 2) : FVec F S128x512 .f32 :=
  shapeCast S128x512 (addf (mulf Y (extractStridedSlice S128x512 ![0, 512 * g.val] E (gIn g))) (mulf (extractStridedSlice S128x512 ![0, 512 * g.val] X (gIn g)) (broadcastTo S128x512 (shapeCast S1x512 k shapeCasts_S1x512_S1x512) broadcasts_S1x512_S128x512))) shapeCasts_S128x512_S128x512

/-- A group's output without the products inside the chunk. -/
def gb (g : Fin 2) : FVec F S128x512 .f32 := gbv (yo i l g) (k0_pay50 l.C) (xs i l) (l.k g) g

/-- A group's state after the chunk. -/
def ns (g : Fin 2) : FVec F S1x128x512 .f32 :=
  shapeCast S1x128x512 (addf (mulf (shapeCast S128x512 (l.s g) shapeCasts_S1x128x512_S128x512) (broadcastTo S128x512 (extractStridedSlice S1x512 ![0, 512 * g.val] (k0_pay52 l.C) (eIn g)) broadcasts_S1x512_S128x512)) (sl i l g)) shapeCasts_S128x512_S1x128x512

/-- A head's decay between two rows of a chunk, over the sums of the decays down and across. -/
def lmv (A B : FVec F S128x128 .f32) (h : Fin 16) : FVec F S128x128 .f32 :=
  exp (select (cmpi .sge (iota .tc S128x128 32 [0] iota_S128x128_d0_w32) (iota .tc S128x128 32 [1] iota_S128x128_d1_w32)) (subf (broadcastTo S128x128 (extractStridedSlice S128x1 ![0, h.val] A (colIn h)) broadcasts_S128x1_S128x128) (broadcastTo S128x128 (extractStridedSlice S1x128 ![h.val, 0] B (rowIn h)) broadcasts_S1x128_S128x128)) (broadcast S128x128 (Named.named κ "masked" 0xF149F2CA#32)))

/-- A head's products inside the chunk, over their parts. -/
def ydv (X : FVec F S128x1024 .f32) (C : Fin 2 → FVec F S128x128 .f32) (A B : FVec F S128x128 .f32) (h : Fin 16) : FVec F S128x64 .f32 :=
  matmul dot_S128x128_S128x64_S128x64_1_0_0_1_n_n none (truncf .bf16 (mulf (C ⟨h.val / 8, by have := h.isLt; omega⟩) (lmv A B h)) bitsLt_bf16_f32) (truncf .bf16 (extractStridedSlice S128x64 ![0, 64 * h.val] X (hdIn h)) bitsLt_bf16_f32) (constant S128x64 .f32 0x00000000#32)

/-- A head's products inside the chunk. -/
def yd : Fin 16 → FVec F S128x64 .f32 := ydv (xdt i l) (cb i l) (k0_pay10 l.D l.tb l.al) (k0_pay11 l.D l.tb l.al)

/-- The chunk's output before its norm. -/
def yv : FVec F S128x1024 .f32 := addf (pair (gb i l)) (wide (yd i l))

/-! ### Reading back what was written block by block -/

theorem canon_hit {S : Shape} {e : EltTy} (r : Rect S) (w : r.shape.Idx → Elt F e) (L : List (View.Piece (Elt F) S e)) (x : r.shape.Idx) (y : S.Idx)
    (hx : ∀ a, (y a).val = r.off a + r.stride a * (x a).val) : View.canon ((⟨r, w⟩ : View.Piece (Elt F) S e) :: L) y = w x := by
  rw [← r.emb_eq_of_coords x y hx, View.canon_cons_emb]

theorem canon_miss {S : Shape} {e : EltTy} (p : View.Piece (Elt F) S e) (L : List (View.Piece (Elt F) S e)) (y : S.Idx) (a : Fin S.rank) (o n : ℕ)
    (ho : p.1.off a = o) (hst : p.1.stride a = 1) (hn : p.1.size a = n) (h : (y a).val < o ∨ o + n ≤ (y a).val) :
    View.canon (p :: L) y = View.canon L y :=
  View.canon_cons_of_not_mem p L (p.1.not_mem_set_of_axis y a o n ho hst hn h)

/-- The first heads of a table hold their final values and the others what was there before. -/
def Upto (n : Nat) (Y B : S128x1024.Idx → Elt F .f32) (L : List (View.Piece (Elt F) S128x1024 .f32)) : Prop :=
  ∀ y : S128x1024.Idx, View.canon L y = if (y 1).val / 64 < n then Y y else B y

theorem upto_zero (L : List (View.Piece (Elt F) S128x1024 .f32)) (Y : S128x1024.Idx → Elt F .f32) : Upto 0 Y (View.canon L) L := fun y => by
  rw [if_neg (Nat.not_lt_zero _)]

theorem upto_full (v : View sig .tc .vmem S128x1024 .f32) {L : List (View.Piece (Elt F) S128x1024 .f32)} {Y B : S128x1024.Idx → Elt F .f32} (h : Upto 16 Y B L) :
    v.readCov L (Rect.unit (s := S128x1024) ![0, 0] S128x1024.size inb_S128x1024_S128x1024_0_0).toLoadRect = Y := by
  rw [View.readCov_eq_canon']
  funext y
  have e : (Rect.unit (s := S128x1024) ![0, 0] S128x1024.size inb_S128x1024_S128x1024_0_0).toLoadRect.idx y = y := by
    funext a
    apply Fin.ext
    fin_cases a
    · show 0 + 1 * (y 0).val = (y 0).val
      omega
    · show 0 + 1 * (y 1).val = (y 1).val
      omega
  have hy : (y 1).val / 64 < 16 := by have := (y 1).isLt; change (y 1).val < 1024 at this; omega
  show View.canon L ((Rect.unit (s := S128x1024) ![0, 0] S128x1024.size inb_S128x1024_S128x1024_0_0).toLoadRect.idx y) = _
  rw [e, h y, if_pos hy]

theorem upto_step {n : Nat} (hn : n < 16) (inb) {L : List (View.Piece (Elt F) S128x1024 .f32)} {Y B : S128x1024.Idx → Elt F .f32} (w : FVec F S128x64 .f32)
    (hw : ∀ (r : Fin 128) (q : Fin 64), w (ix2 r q) = Y (ix2 r ⟨64 * n + q.val, by have := q.isLt; omega⟩)) (h : Upto n Y B L) :
    Upto (n + 1) Y B ((⟨Rect.unit (s := S128x1024) ![0, 64 * n] S128x64.size inb, w⟩ : View.Piece (Elt F) S128x1024 .f32) :: L) := by
  intro y
  by_cases hy : (y 1).val / 64 = n
  · rw [if_pos (by omega)]
    refine (canon_hit (Rect.unit (s := S128x1024) ![0, 64 * n] S128x64.size inb) w L (ix2 (n0 := 128) (n1 := 64) (y 0) ⟨(y 1).val % 64, Nat.mod_lt _ (by decide)⟩) y ?_).trans ?_
    · intro a
      fin_cases a
      · show (y 0).val = 0 + 1 * (y 0).val
        omega
      · show (y 1).val = 64 * n + 1 * ((y 1).val % 64)
        omega
    · refine (hw _ _).trans (congrArg Y ?_)
      funext a
      apply Fin.ext
      fin_cases a
      · rfl
      · show 64 * n + (y 1).val % 64 = (y 1).val
        omega
  · rw [canon_miss _ _ y 1 (64 * n) 64 rfl rfl rfl (by omega), h y]
    by_cases h' : (y 1).val / 64 < n
    · rw [if_pos h', if_pos (by omega)]
    · rw [if_neg h', if_neg (by omega)]

theorem wide_at (W : Fin 16 → FVec F S128x64 .f32) {n : Nat} (hn : n < 16) (r : Fin 128) (q : Fin 64) (hq : 64 * n + q.val < 1024) :
    wide W (ix2 r ⟨64 * n + q.val, hq⟩) = W ⟨n, hn⟩ (ix2 r q) := by
  have e1 : (⟨(64 * n + q.val) / 64, by omega⟩ : Fin 16) = ⟨n, hn⟩ := Fin.ext (by show (64 * n + q.val) / 64 = n; have := q.isLt; omega)
  have e2 : (⟨(64 * n + q.val) % 64, Nat.mod_lt _ (by decide)⟩ : Fin 64) = q := Fin.ext (by show (64 * n + q.val) % 64 = q.val; have := q.isLt; omega)
  show W (⟨(64 * n + q.val) / 64, _⟩ : Fin 16) (ix2 r (⟨(64 * n + q.val) % 64, _⟩ : Fin 64)) = _
  rw [e1, e2]

/-- A head written straight into the table. -/
theorem upto_put {n : Nat} (hn : n < 16) (inb) {L : List (View.Piece (Elt F) S128x1024 .f32)} {B : S128x1024.Idx → Elt F .f32} (W : Fin 16 → FVec F S128x64 .f32)
    (h : Upto n (wide W) B L) :
    Upto (n + 1) (wide W) B ((⟨Rect.unit (s := S128x1024) ![0, 64 * n] S128x64.size inb, W ⟨n, hn⟩⟩ : View.Piece (Elt F) S128x1024 .f32) :: L) :=
  upto_step hn inb _ (fun r q => (wide_at W hn r q (by have := q.isLt; omega)).symm) h

/-- A head read, added to and written back. -/
theorem upto_add {n : Nat} (hn : n < 16) (inb inb') {L : List (View.Piece (Elt F) S128x1024 .f32)} {B : FVec F S128x1024 .f32} (W : Fin 16 → FVec F S128x64 .f32)
    (v : View sig .tc .vmem S128x1024 .f32) (h : Upto n (addf B (wide W)) B L) :
    Upto (n + 1) (addf B (wide W)) B ((⟨Rect.unit (s := S128x1024) ![0, 64 * n] S128x64.size inb, shapeCast S128x64 (addf (v.readCov L (Rect.unit (s := S128x1024) ![0, 64 * n] S128x64.size inb').toLoadRect) (W ⟨n, hn⟩)) shapeCasts_S128x64_S128x64⟩ : View.Piece (Elt F) S128x1024 .f32) :: L) := by
  refine upto_step hn inb _ (fun r q => ?_) h
  refine (congrFun (shapeCast_self (s := S128x64) _ shapeCasts_S128x64_S128x64) _).trans ?_
  have e : v.readCov L (Rect.unit (s := S128x1024) ![0, 64 * n] S128x64.size inb').toLoadRect (ix2 (n0 := 128) (n1 := 64) r q) = B (ix2 r ⟨64 * n + q.val, by have := q.isLt; omega⟩) := by
    rw [View.readCov_eq_canon']
    have e' : (Rect.unit (s := S128x1024) ![0, 64 * n] S128x64.size inb').toLoadRect.idx (ix2 (n0 := 128) (n1 := 64) r q) = ix2 r ⟨64 * n + q.val, by have := q.isLt; omega⟩ := by
      funext a
      apply Fin.ext
      fin_cases a
      · show 0 + 1 * r.val = r.val
        omega
      · show 64 * n + 1 * q.val = 64 * n + q.val
        omega
    show View.canon L ((Rect.unit (s := S128x1024) ![0, 64 * n] S128x64.size inb').toLoadRect.idx (ix2 (n0 := 128) (n1 := 64) r q)) = _
    rw [e', h]
    refine if_neg ?_
    show ¬ (64 * n + q.val) / 64 < n
    omega
  have e2 := wide_at W hn r q (by have := q.isLt; omega)
  show FloatOps.addf (φ := .f32) _ _ = FloatOps.addf (φ := .f32) _ _
  rw [e, e2]

theorem pair_base (W : Fin 2 → FVec F S128x512 .f32) (i1 i0) (L : List (View.Piece (Elt F) S128x1024 .f32)) :
    View.canon ((⟨Rect.unit (s := S128x1024) ![0, 512] S128x512.size i1, W 1⟩ : View.Piece (Elt F) S128x1024 .f32) :: (⟨Rect.unit (s := S128x1024) ![0, 0] S128x512.size i0, W 0⟩ : View.Piece (Elt F) S128x1024 .f32) :: L) = pair W := by
  funext y
  have hl : (y 1).val < 1024 := (y 1).isLt
  have hW : ∀ k : Fin 2, (y 1).val / 512 = k.val → W k (ix2 (y 0) ⟨(y 1).val % 512, Nat.mod_lt _ (by decide)⟩) = pair W y := fun k hk => by
    unfold pair
    congr 2
    exact Fin.ext hk.symm
  by_cases h1 : (y 1).val / 512 = 1
  · refine (canon_hit (F := F) (S := S128x1024) (e := .f32) (Rect.unit (s := S128x1024) ![0, 512] S128x512.size i1) (W 1) _ (ix2 (n0 := 128) (n1 := 512) (y 0) ⟨(y 1).val % 512, Nat.mod_lt _ (by decide)⟩) y ?_).trans (hW 1 h1)
    intro a
    fin_cases a
    · show (y 0).val = 0 + 1 * (y 0).val
      omega
    · show (y 1).val = 512 + 1 * ((y 1).val % 512)
      omega
  · rw [canon_miss _ _ y 1 512 512 rfl rfl rfl (by omega)]
    refine (canon_hit (F := F) (S := S128x1024) (e := .f32) (Rect.unit (s := S128x1024) ![0, 0] S128x512.size i0) (W 0) _ (ix2 (n0 := 128) (n1 := 512) (y 0) ⟨(y 1).val % 512, Nat.mod_lt _ (by decide)⟩) y ?_).trans (hW 0 (by show (y 1).val / 512 = 0; omega))
    intro a
    fin_cases a
    · show (y 0).val = 0 + 1 * (y 0).val
      omega
    · show (y 1).val = 0 + 1 * ((y 1).val % 512)
      omega

theorem stk_two {κ : Kind} {sp : Space} (v : View sig κ sp S2x128x512 .f32) (f : v.ty.Contents (Elt F)) (W : Fin 2 → FVec F S1x128x512 .f32) (i1 i0) (L : List (View.Piece (Elt F) S2x128x512 .f32)) :
    v.read (Elt F) (v.writes (Elt F) f ((⟨Rect.unit (s := S2x128x512) ![1, 0, 0] S1x128x512.size i1, W 1⟩ : View.Piece (Elt F) S2x128x512 .f32) :: (⟨Rect.unit (s := S2x128x512) ![0, 0, 0] S1x128x512.size i0, W 0⟩ : View.Piece (Elt F) S2x128x512 .f32) :: L)) = stk W := by
  funext y
  have hl : (y 0).val < 2 := (y 0).isLt
  have hW : ∀ k : Fin 2, (y 0).val = k.val → W k (ix3 0 (y 1) (y 2)) = stk W y := fun k hk => by
    unfold stk
    congr 2
    exact Fin.ext hk.symm
  by_cases h1 : (y 0).val = 1
  · refine (View.read_writes_cons_hit_of_coords v f (Rect.unit (s := S2x128x512) ![1, 0, 0] S1x128x512.size i1) (W 1) _ (ix3 (n0 := 1) (n1 := 128) (n2 := 512) 0 (y 1) (y 2)) y ?_).trans (hW 1 h1)
    intro a
    fin_cases a
    · show (y 0).val = 1 + 1 * 0
      omega
    · show (y 1).val = 0 + 1 * (y 1).val
      omega
    · show (y 2).val = 0 + 1 * (y 2).val
      omega
  · rw [View.read_writes_cons_miss_of_axis v f _ _ y 0 1 1 rfl rfl rfl (by omega)]
    refine (View.read_writes_cons_hit_of_coords v f (Rect.unit (s := S2x128x512) ![0, 0, 0] S1x128x512.size i0) (W 0) _ (ix3 (n0 := 1) (n1 := 128) (n2 := 512) 0 (y 1) (y 2)) y ?_).trans (hW 0 (by show (y 0).val = 0; omega))
    intro a
    fin_cases a
    · show (y 0).val = 0 + 1 * 0
      omega
    · show (y 1).val = 0 + 1 * (y 1).val
      omega
    · show (y 2).val = 0 + 1 * (y 2).val
      omega

theorem stk4_two {κ : Kind} {sp : Space} (v : View sig κ sp S1x2x128x512 .f32) (f : v.ty.Contents (Elt F)) (W : Fin 2 → FVec F S1x1x128x512 .f32) (i1 i0) (L : List (View.Piece (Elt F) S1x2x128x512 .f32)) :
    v.read (Elt F) (v.writes (Elt F) f ((⟨Rect.unit (s := S1x2x128x512) ![0, 1, 0, 0] S1x1x128x512.size i1, W 1⟩ : View.Piece (Elt F) S1x2x128x512 .f32) :: (⟨Rect.unit (s := S1x2x128x512) ![0, 0, 0, 0] S1x1x128x512.size i0, W 0⟩ : View.Piece (Elt F) S1x2x128x512 .f32) :: L)) = stk4 W := by
  funext y
  have hl : (y 1).val < 2 := (y 1).isLt
  have h0 : (y 0).val < 1 := (y 0).isLt
  have hW : ∀ k : Fin 2, (y 1).val = k.val → W k (ix4 0 0 (y 2) (y 3)) = stk4 W y := fun k hk => by
    unfold stk4
    congr 2
    exact Fin.ext hk.symm
  by_cases h1 : (y 1).val = 1
  · refine (View.read_writes_cons_hit_of_coords v f (Rect.unit (s := S1x2x128x512) ![0, 1, 0, 0] S1x1x128x512.size i1) (W 1) _ (ix4 (n0 := 1) (n1 := 1) (n2 := 128) (n3 := 512) 0 0 (y 2) (y 3)) y ?_).trans (hW 1 h1)
    intro a
    fin_cases a
    · show (y 0).val = 0 + 1 * 0
      omega
    · show (y 1).val = 1 + 1 * 0
      omega
    · show (y 2).val = 0 + 1 * (y 2).val
      omega
    · show (y 3).val = 0 + 1 * (y 3).val
      omega
  · rw [View.read_writes_cons_miss_of_axis v f _ _ y 1 1 1 rfl rfl rfl (by omega)]
    refine (View.read_writes_cons_hit_of_coords v f (Rect.unit (s := S1x2x128x512) ![0, 0, 0, 0] S1x1x128x512.size i0) (W 0) _ (ix4 (n0 := 1) (n1 := 1) (n2 := 128) (n3 := 512) 0 0 (y 2) (y 3)) y ?_).trans (hW 0 (by show (y 1).val = 0; omega))
    intro a
    fin_cases a
    · show (y 0).val = 0 + 1 * 0
      omega
    · show (y 1).val = 0 + 1 * 0
      omega
    · show (y 2).val = 0 + 1 * (y 2).val
      omega
    · show (y 3).val = 0 + 1 * (y 3).val
      omega

theorem covFill {κ : Kind} {sp : Space} (v : View sig κ sp S2x128x512 .f32) (i0) (Z : S2x128x512.Idx → Elt F .f32) (L : List (View.Piece (Elt F) S2x128x512 .f32)) (r : Rect S2x128x512) :
    v.readCov ((⟨Rect.unit (s := S2x128x512) ![0, 0, 0] S2x128x512.size i0, Z⟩ : View.Piece (Elt F) S2x128x512 .f32) :: L) r.toLoadRect = View.ld Z r :=
  View.readCov_fill v i0 Z L r (by decide)

theorem covSkip {κ : Kind} {sp : Space} (v : View sig κ sp S2x128x512 .f32) (o o' : Nat) (h : o + 1 ≤ o' ∨ o' + 1 ≤ o) (i0 i1) (Z : FVec F S1x128x512 .f32)
    (L : List (View.Piece (Elt F) S2x128x512 .f32)) :
    v.readCov ((⟨Rect.unit (s := S2x128x512) ![o, 0, 0] S1x128x512.size i0, Z⟩ : View.Piece (Elt F) S2x128x512 .f32) :: L) (Rect.unit (s := S2x128x512) ![o', 0, 0] S1x128x512.size i1).toLoadRect
      = v.readCov L (Rect.unit (s := S2x128x512) ![o', 0, 0] S1x128x512.size i1).toLoadRect :=
  View.readCov_cons_of_disjoint v _ L _ (Rect.unit_disjoint (inb := i0) (inb' := i1) 0 h)

end Cert.Kernel4Ideal.Sf

end
-- ==== Proof.SfOut.lean ====
module

public import proofs.«01_k».proof.Defs
public import proofs.«01_k».proof.Proof.Gen.Kernel4Ideal.Frame
public import proofs.«01_k».proof.Proof.SfLib
public import Idealize.ShloMosaic.Lib.Pipeline.Value
public import Idealize.ShloMosaic.Lib.WritesUnit
public import Idealize.ShloMosaic.Lib.VecWindow
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.Sf

open Cert.Kernel4Ideal Cert.Kernel4Ideal.Gen

variable {F : FTy → Type} [FloatOps F] [Named F]

/-- The values a chunk loads, from its blocks and the state before it. -/
def ld (x0 : Vec F S128x1536 .bf16) (x1 : Vec F S16x1536 .bf16) (x2 : Vec F S128x128 .f32) (x4 : Vec F S8x1536 .f32) (x5 : Vec F S1x1536 .f32) (x6 : Vec F S1x128 .f32) (x7 : Vec F S1x128 .f32) (x8 : Vec F S1x1024 .f32) (st : Vec F S2x128x512 .f32) : Ld F where
  X := x0
  H := x1
  D := x2
  w := fun k => View.ld x4 (Rect.unit (s := S8x1536) ![k.val, 0] S1x1536.size (tapB k))
  b := x5
  tb := x6
  al := x7
  s := fun g => View.ld st (Rect.unit (s := S2x128x512) ![g.val, 0, 0] S1x128x512.size (stB g))
  k := fun g => View.ld x8 (Rect.unit (s := S1x1024) ![0, 512 * g.val] S1x512.size (skB g))
  T := wide (colv (k0_pay8 x2 x6))
  C := wide (colv (k0_pay10 x2 x6 x7))

/-- The values a chunk loads, as the buffers hold them, the state and the two wide tables given. -/
def rdl (a1 : Memref sig .tc .vmem S128x1536 .bf16) (h1 : a1.IsWhole) (a2 : Memref sig .tc .vmem S16x1536 .bf16) (h2 : a2.IsWhole) (a3 : Memref sig .tc .vmem S128x128 .f32) (h3 : a3.IsWhole) (a5 : Memref sig .tc .vmem S8x1536 .f32) (h5 : a5.IsWhole) (a6 : Memref sig .tc .vmem S1x1536 .f32) (h6 : a6.IsWhole) (a7 : Memref sig .tc .vmem S1x128 .f32) (h7 : a7.IsWhole) (a8 : Memref sig .tc .vmem S1x128 .f32) (h8 : a8.IsWhole) (a9 : Memref sig .tc .vmem S1x1024 .f32) (h9 : a9.IsWhole) (x0 : Vec F S128x1536 .bf16) (x1 : Vec F S16x1536 .bf16) (x2 : Vec F S128x128 .f32) (x4 : Vec F S8x1536 .f32) (x5 : Vec F S1x1536 .f32) (x6 : Vec F S1x128 .f32) (x7 : Vec F S1x128 .f32) (x8 : Vec F S1x1024 .f32) (s : Fin 2 → Vec F S1x128x512 .f32) (T C : Vec F S128x1024 .f32) : Ld F where
  X := View.readAt (Elt F) a1.view (Rect.unit (s := S128x1536) ![0, 0] S128x1536.size inb_S128x1536_S128x1536_0_0).toLoadRect (h1.unread x0)
  H := View.readAt (Elt F) a2.view (Rect.unit (s := S16x1536) ![0, 0] S16x1536.size inb_S16x1536_S16x1536_0_0).toLoadRect (h2.unread x1)
  D := View.readAt (Elt F) a3.view (Rect.unit (s := S128x128) ![0, 0] S128x128.size inb_S128x128_S128x128_0_0).toLoadRect (h3.unread x2)
  w := fun k => View.readAt (Elt F) a5.view (Rect.unit (s := S8x1536) ![k.val, 0] S1x1536.size (tapB k)).toLoadRect (h5.unread x4)
  b := View.readAt (Elt F) a6.view (Rect.unit (s := S1x1536) ![0, 0] S1x1536.size inb_S1x1536_S1x1536_0_0).toLoadRect (h6.unread x5)
  tb := View.readAt (Elt F) a7.view (Rect.unit (s := S1x128) ![0, 0] S1x128.size inb_S1x128_S1x128_0_0).toLoadRect (h7.unread x6)
  al := View.readAt (Elt F) a8.view (Rect.unit (s := S1x128) ![0, 0] S1x128.size inb_S1x128_S1x128_0_0).toLoadRect (h8.unread x7)
  s := s
  k := fun g => View.readAt (Elt F) a9.view (Rect.unit (s := S1x1024) ![0, 512 * g.val] S1x512.size (skB g)).toLoadRect (h9.unread x8)
  T := T
  C := C

variable (i : grid0.Coords) (a1 : Memref sig .tc .vmem S128x1536 .bf16) (h1 : a1.IsWhole) (a2 : Memref sig .tc .vmem S16x1536 .bf16) (h2 : a2.IsWhole) (a3 : Memref sig .tc .vmem S128x128 .f32) (h3 : a3.IsWhole) (a4 : Memref sig .tc .vmem S128x1024 .bf16) (h4 : a4.IsWhole) (a5 : Memref sig .tc .vmem S8x1536 .f32) (h5 : a5.IsWhole) (a6 : Memref sig .tc .vmem S1x1536 .f32) (h6 : a6.IsWhole) (a7 : Memref sig .tc .vmem S1x128 .f32) (h7 : a7.IsWhole) (a8 : Memref sig .tc .vmem S1x128 .f32) (h8 : a8.IsWhole) (a9 : Memref sig .tc .vmem S1x1024 .f32) (h9 : a9.IsWhole) (a10 : Memref sig .tc .vmem S1x1024 .f32) (h10 : a10.IsWhole) (a11 : Memref sig .tc .vmem S128x1024 .bf16) (h11 : a11.IsWhole) (a12 : Memref sig .tc .vmem S128x1024 .bf16) (h12 : a12.IsWhole) (a13 : Memref sig .tc .vmem S128x1536 .bf16) (h13 : a13.IsWhole) (a14 : Memref sig .tc .vmem S1x2x128x512 .f32) (h14 : a14.IsWhole) (a15 : Memref sig .tc .vmem S2x128x512 .f32) (h15 : a15.IsWhole) (a16 : Memref sig .tc .vmem S128x1024 .f32) (h16 : a16.IsWhole) (a17 : Memref sig .tc .vmem S128x1024 .f32) (h17 : a17.IsWhole) (a18 : Memref sig .tc .vmem S128x1024 .f32) (h18 : a18.IsWhole)
  (x0 : Vec F S128x1536 .bf16) (x1 : Vec F S16x1536 .bf16) (x2 : Vec F S128x128 .f32) (x3 : Vec F S128x1024 .bf16) (x4 : Vec F S8x1536 .f32) (x5 : Vec F S1x1536 .f32) (x6 : Vec F S1x128 .f32) (x7 : Vec F S1x128 .f32) (x8 : Vec F S1x1024 .f32) (x9 : Vec F S1x1024 .f32) (xs0 : Vec F S2x128x512 .f32)

theorem rdl_eq (s : Fin 2 → Vec F S1x128x512 .f32) (T C : Vec F S128x1024 .f32) (hs : s = fun g => View.ld xs0 (Rect.unit (s := S2x128x512) ![g.val, 0, 0] S1x128x512.size (stB g)))
    (hT : T = wide (colv (k0_pay8 x2 x6))) (hC : C = wide (colv (k0_pay10 x2 x6 x7))) :
    rdl a1 h1 a2 h2 a3 h3 a5 h5 a6 h6 a7 h7 a8 h8 a9 h9 x0 x1 x2 x4 x5 x6 x7 x8 s T C = ld x0 x1 x2 x4 x5 x6 x7 x8 xs0 := by
  subst hs hT hC
  unfold rdl ld
  simp only [View.readAt_eq_ld, Memref.IsWhole.read_unread, View.ld_unit_zero (S := S128x1536) hz, View.ld_unit_zero (S := S16x1536) hz, View.ld_unit_zero (S := S128x128) hz, View.ld_unit_zero (S := S1x1536) hz, View.ld_unit_zero (S := S1x128) hz]

theorem whole3 : View.readAt (Elt F) a3.view (Rect.unit (s := S128x128) ![0, 0] S128x128.size inb_S128x128_S128x128_0_0).toLoadRect (h3.unread x2) = x2 ∧ View.readAt (Elt F) a7.view (Rect.unit (s := S1x128) ![0, 0] S1x128.size inb_S1x128_S1x128_0_0).toLoadRect (h7.unread x6) = x6 ∧ View.readAt (Elt F) a8.view (Rect.unit (s := S1x128) ![0, 0] S1x128.size inb_S1x128_S1x128_0_0).toLoadRect (h8.unread x7) = x7 := by
  simp only [View.readAt_eq_ld, Memref.IsWhole.read_unread, View.ld_unit_zero (S := S128x128) hz, View.ld_unit_zero (S := S1x128) hz]
  exact ⟨trivial, trivial, trivial⟩

theorem whole2 : View.readAt (Elt F) a3.view (Rect.unit (s := S128x128) ![0, 0] S128x128.size inb_S128x128_S128x128_0_0).toLoadRect (h3.unread x2) = x2 ∧ View.readAt (Elt F) a7.view (Rect.unit (s := S1x128) ![0, 0] S1x128.size inb_S1x128_S1x128_0_0).toLoadRect (h7.unread x6) = x6 := by
  simp only [View.readAt_eq_ld, Memref.IsWhole.read_unread, View.ld_unit_zero (S := S128x128) hz, View.ld_unit_zero (S := S1x128) hz]
  exact ⟨trivial, trivial⟩

theorem sk (g : Fin 2) : View.readAt (Elt F) a9.view (Rect.unit (s := S1x1024) ![0, 512 * g.val] S1x512.size (skB g)).toLoadRect (h9.unread x8) = View.ld x8 (Rect.unit (s := S1x1024) ![0, 512 * g.val] S1x512.size (skB g)) := by
  simp only [View.readAt_eq_ld, h9.read_unread]

theorem whole4 : View.readAt (Elt F) a4.view (Rect.unit (s := S128x1024) ![0, 0] S128x1024.size inb_S128x1024_S128x1024_0_0).toLoadRect (h4.unread x3) = x3 ∧ View.readAt (Elt F) a10.view (Rect.unit (s := S1x1024) ![0, 0] S1x1024.size inb_S1x1024_S1x1024_0_0).toLoadRect (h10.unread x9) = x9 := by
  simp only [View.readAt_eq_ld, Memref.IsWhole.read_unread, View.ld_unit_zero (S := S128x1024) hz, View.ld_unit_zero (S := S1x1024) hz]
  exact ⟨trivial, trivial⟩

variable (c : Dev nD) (hA : cond0_0 i) (hB : ¬cond0_0 i)

theorem v593 : kernelRun0_A.sl.v593 (F := F) c i a1 h1 a2 h2 a3 h3 a5 h5 a6 h6 a7 h7 a8 h8 a15 a17 a18 x0 x1 x2 x4 x5 x6 x7 = a15.view.readCov (kernelRun0_A.sl.HS0_1 (F := F)) (Rect.unit (s := S2x128x512) ![1, 0, 0] S1x128x512.size (stB 1)).toLoadRect :=
  covSkip _ 0 1 (by decide) _ _ _ _

theorem t_A : kernelRun0_A.sl.v281 (F := F) c a3 h3 a7 h7 a17 x2 x6 = wide (colv (k0_pay8 x2 x6)) := by
  obtain ⟨e2, e6⟩ := whole2 (F := F) a3 h3 a7 h7 x2 x6
  refine Eq.trans (b := wide (colv (k0_pay8 (View.readAt (Elt F) a3.view (Rect.unit (s := S128x128) ![0, 0] S128x128.size inb_S128x128_S128x128_0_0).toLoadRect (h3.unread x2)) (View.readAt (Elt F) a7.view (Rect.unit (s := S1x128) ![0, 0] S1x128.size inb_S1x128_S1x128_0_0).toLoadRect (h7.unread x6))))) (upto_full (B := View.canon []) _ ?_) (by rw [e2, e6])
  refine upto_put (F := F) (n := 15) (by decide) _ _ ?_
  refine upto_put (F := F) (n := 14) (by decide) _ _ ?_
  refine upto_put (F := F) (n := 13) (by decide) _ _ ?_
  refine upto_put (F := F) (n := 12) (by decide) _ _ ?_
  refine upto_put (F := F) (n := 11) (by decide) _ _ ?_
  refine upto_put (F := F) (n := 10) (by decide) _ _ ?_
  refine upto_put (F := F) (n := 9) (by decide) _ _ ?_
  refine upto_put (F := F) (n := 8) (by decide) _ _ ?_
  refine upto_put (F := F) (n := 7) (by decide) _ _ ?_
  refine upto_put (F := F) (n := 6) (by decide) _ _ ?_
  refine upto_put (F := F) (n := 5) (by decide) _ _ ?_
  refine upto_put (F := F) (n := 4) (by decide) _ _ ?_
  refine upto_put (F := F) (n := 3) (by decide) _ _ ?_
  refine upto_put (F := F) (n := 2) (by decide) _ _ ?_
  refine upto_put (F := F) (n := 1) (by decide) _ _ ?_
  refine upto_put (F := F) (n := 0) (by decide) _ _ ?_
  exact upto_zero _ _

theorem c_A : kernelRun0_A.sl.v273 (F := F) c a3 h3 a7 h7 a8 h8 a18 x2 x6 x7 = wide (colv (k0_pay10 x2 x6 x7)) := by
  obtain ⟨e2, e6, e7⟩ := whole3 (F := F) a3 h3 a7 h7 a8 h8 x2 x6 x7
  refine Eq.trans (b := wide (colv (k0_pay10 (View.readAt (Elt F) a3.view (Rect.unit (s := S128x128) ![0, 0] S128x128.size inb_S128x128_S128x128_0_0).toLoadRect (h3.unread x2)) (View.readAt (Elt F) a7.view (Rect.unit (s := S1x128) ![0, 0] S1x128.size inb_S1x128_S1x128_0_0).toLoadRect (h7.unread x6)) (View.readAt (Elt F) a8.view (Rect.unit (s := S1x128) ![0, 0] S1x128.size inb_S1x128_S1x128_0_0).toLoadRect (h8.unread x7))))) (upto_full (B := View.canon []) _ ?_) (by rw [e2, e6, e7])
  refine upto_put (F := F) (n := 15) (by decide) _ _ ?_
  refine upto_put (F := F) (n := 14) (by decide) _ _ ?_
  refine upto_put (F := F) (n := 13) (by decide) _ _ ?_
  refine upto_put (F := F) (n := 12) (by decide) _ _ ?_
  refine upto_put (F := F) (n := 11) (by decide) _ _ ?_
  refine upto_put (F := F) (n := 10) (by decide) _ _ ?_
  refine upto_put (F := F) (n := 9) (by decide) _ _ ?_
  refine upto_put (F := F) (n := 8) (by decide) _ _ ?_
  refine upto_put (F := F) (n := 7) (by decide) _ _ ?_
  refine upto_put (F := F) (n := 6) (by decide) _ _ ?_
  refine upto_put (F := F) (n := 5) (by decide) _ _ ?_
  refine upto_put (F := F) (n := 4) (by decide) _ _ ?_
  refine upto_put (F := F) (n := 3) (by decide) _ _ ?_
  refine upto_put (F := F) (n := 2) (by decide) _ _ ?_
  refine upto_put (F := F) (n := 1) (by decide) _ _ ?_
  refine upto_put (F := F) (n := 0) (by decide) _ _ ?_
  exact upto_zero _ _

theorem l_A : rdl a1 h1 a2 h2 a3 h3 a5 h5 a6 h6 a7 h7 a8 h8 a9 h9 x0 x1 x2 x4 x5 x6 x7 x8 (fun g => a15.view.readCov (kernelRun0_A.sl.HS0_1 (F := F)) (Rect.unit (s := S2x128x512) ![g.val, 0, 0] S1x128x512.size (stB g)).toLoadRect) (kernelRun0_A.sl.v281 (F := F) c a3 h3 a7 h7 a17 x2 x6) (kernelRun0_A.sl.v273 (F := F) c a3 h3 a7 h7 a8 h8 a18 x2 x6 x7) = ld x0 x1 x2 x4 x5 x6 x7 x8 k0_pay2 :=
  rdl_eq a1 h1 a2 h2 a3 h3 a5 h5 a6 h6 a7 h7 a8 h8 a9 h9 x0 x1 x2 x4 x5 x6 x7 x8 _ _ _ _ (funext fun g => covFill _ _ _ _ _) (t_A ..) (c_A ..)

theorem q3_A : kernelRun0_A.sl.r_3 (F := F) c i a1 h1 a2 h2 a5 h5 a6 h6 x0 x1 x4 x5 = act i (rdl a1 h1 a2 h2 a3 h3 a5 h5 a6 h6 a7 h7 a8 h8 a9 h9 x0 x1 x2 x4 x5 x6 x7 x8 (fun g => a15.view.readCov (kernelRun0_A.sl.HS0_1 (F := F)) (Rect.unit (s := S2x128x512) ![g.val, 0, 0] S1x128x512.size (stB g)).toLoadRect) (kernelRun0_A.sl.v281 (F := F) c a3 h3 a7 h7 a17 x2 x6) (kernelRun0_A.sl.v273 (F := F) c a3 h3 a7 h7 a8 h8 a18 x2 x6 x7)) := rfl

theorem q15_A : kernelRun0_A.sl.r_15 (F := F) c i a1 h1 a2 h2 a5 h5 a6 h6 x0 x1 x4 x5 = xs i (rdl a1 h1 a2 h2 a3 h3 a5 h5 a6 h6 a7 h7 a8 h8 a9 h9 x0 x1 x2 x4 x5 x6 x7 x8 (fun g => a15.view.readCov (kernelRun0_A.sl.HS0_1 (F := F)) (Rect.unit (s := S2x128x512) ![g.val, 0, 0] S1x128x512.size (stB g)).toLoadRect) (kernelRun0_A.sl.v281 (F := F) c a3 h3 a7 h7 a17 x2 x6) (kernelRun0_A.sl.v273 (F := F) c a3 h3 a7 h7 a8 h8 a18 x2 x6 x7)) := rfl

theorem q16_A : kernelRun0_A.sl.r_16 (F := F) c i a1 h1 a2 h2 a3 h3 a5 h5 a6 h6 a7 h7 a17 x0 x1 x2 x4 x5 x6 = xdt i (rdl a1 h1 a2 h2 a3 h3 a5 h5 a6 h6 a7 h7 a8 h8 a9 h9 x0 x1 x2 x4 x5 x6 x7 x8 (fun g => a15.view.readCov (kernelRun0_A.sl.HS0_1 (F := F)) (Rect.unit (s := S2x128x512) ![g.val, 0, 0] S1x128x512.size (stB g)).toLoadRect) (kernelRun0_A.sl.v281 (F := F) c a3 h3 a7 h7 a17 x2 x6) (kernelRun0_A.sl.v273 (F := F) c a3 h3 a7 h7 a8 h8 a18 x2 x6 x7)) := rfl

theorem qc_A : (![kernelRun0_A.sl.r_17 (F := F) c i a1 h1 a2 h2 a5 h5 a6 h6 x0 x1 x4 x5, kernelRun0_A.sl.r_18 (F := F) c i a1 h1 a2 h2 a5 h5 a6 h6 x0 x1 x4 x5] : Fin 2 → FVec F S128x128 .f32) = cb i (rdl a1 h1 a2 h2 a3 h3 a5 h5 a6 h6 a7 h7 a8 h8 a9 h9 x0 x1 x2 x4 x5 x6 x7 x8 (fun g => a15.view.readCov (kernelRun0_A.sl.HS0_1 (F := F)) (Rect.unit (s := S2x128x512) ![g.val, 0, 0] S1x128x512.size (stB g)).toLoadRect) (kernelRun0_A.sl.v281 (F := F) c a3 h3 a7 h7 a17 x2 x6) (kernelRun0_A.sl.v273 (F := F) c a3 h3 a7 h7 a8 h8 a18 x2 x6 x7)) := funext fun g => match g with
  | 0 => rfl
  | 1 => rfl

theorem qy_A : (![kernelRun0_A.sl.r_19 (F := F) c i a1 h1 a2 h2 a5 h5 a6 h6 a15 x0 x1 x4 x5, kernelRun0_A.sl.r_20 (F := F) c i a1 h1 a2 h2 a5 h5 a6 h6 a15 x0 x1 x4 x5] : Fin 2 → FVec F S128x512 .f32) = yo i (rdl a1 h1 a2 h2 a3 h3 a5 h5 a6 h6 a7 h7 a8 h8 a9 h9 x0 x1 x2 x4 x5 x6 x7 x8 (fun g => a15.view.readCov (kernelRun0_A.sl.HS0_1 (F := F)) (Rect.unit (s := S2x128x512) ![g.val, 0, 0] S1x128x512.size (stB g)).toLoadRect) (kernelRun0_A.sl.v281 (F := F) c a3 h3 a7 h7 a17 x2 x6) (kernelRun0_A.sl.v273 (F := F) c a3 h3 a7 h7 a8 h8 a18 x2 x6 x7)) := funext fun g => match g with
  | 0 => rfl
  | 1 => rfl

theorem y_A : kernelRun0_A.sl.v698 (F := F) c i a1 h1 a2 h2 a3 h3 a5 h5 a6 h6 a7 h7 a8 h8 a9 h9 a15 a16 a17 a18 x0 x1 x2 x4 x5 x6 x7 x8 = yv i (ld x0 x1 x2 x4 x5 x6 x7 x8 k0_pay2) := by
  have qc := qc_A (F := F) i a1 h1 a2 h2 a3 h3 a5 h5 a6 h6 a7 h7 a8 h8 a9 h9 a15 a17 a18 x0 x1 x2 x4 x5 x6 x7 x8 c
  have qy := qy_A (F := F) i a1 h1 a2 h2 a3 h3 a5 h5 a6 h6 a7 h7 a8 h8 a9 h9 a15 a17 a18 x0 x1 x2 x4 x5 x6 x7 x8 c
  have q15 := q15_A (F := F) i a1 h1 a2 h2 a3 h3 a5 h5 a6 h6 a7 h7 a8 h8 a9 h9 a15 a17 a18 x0 x1 x2 x4 x5 x6 x7 x8 c
  have q16 := q16_A (F := F) i a1 h1 a2 h2 a3 h3 a5 h5 a6 h6 a7 h7 a8 h8 a9 h9 a15 a17 a18 x0 x1 x2 x4 x5 x6 x7 x8 c
  rw [l_A] at qc qy q15 q16
  have eC := c_A (F := F) a3 h3 a7 h7 a8 h8 a18 x2 x6 x7 c
  have e5 : kernelRun0_A.sl.r_5 (F := F) c a3 h3 a7 h7 a8 h8 x2 x6 x7 = k0_pay10 x2 x6 x7 := by
    obtain ⟨e2, e6, e7⟩ := whole3 (F := F) a3 h3 a7 h7 a8 h8 x2 x6 x7
    refine Eq.trans (b := k0_pay10 (View.readAt (Elt F) a3.view (Rect.unit (s := S128x128) ![0, 0] S128x128.size inb_S128x128_S128x128_0_0).toLoadRect (h3.unread x2)) (View.readAt (Elt F) a7.view (Rect.unit (s := S1x128) ![0, 0] S1x128.size inb_S1x128_S1x128_0_0).toLoadRect (h7.unread x6)) (View.readAt (Elt F) a8.view (Rect.unit (s := S1x128) ![0, 0] S1x128.size inb_S1x128_S1x128_0_0).toLoadRect (h8.unread x7))) rfl ?_
    rw [e2, e6, e7]
  have e6 : kernelRun0_A.sl.r_6 (F := F) c a3 h3 a7 h7 a8 h8 x2 x6 x7 = k0_pay11 x2 x6 x7 := by
    obtain ⟨e2, e6, e7⟩ := whole3 (F := F) a3 h3 a7 h7 a8 h8 x2 x6 x7
    refine Eq.trans (b := k0_pay11 (View.readAt (Elt F) a3.view (Rect.unit (s := S128x128) ![0, 0] S128x128.size inb_S128x128_S128x128_0_0).toLoadRect (h3.unread x2)) (View.readAt (Elt F) a7.view (Rect.unit (s := S1x128) ![0, 0] S1x128.size inb_S1x128_S1x128_0_0).toLoadRect (h7.unread x6)) (View.readAt (Elt F) a8.view (Rect.unit (s := S1x128) ![0, 0] S1x128.size inb_S1x128_S1x128_0_0).toLoadRect (h8.unread x7))) rfl ?_
    rw [e2, e6, e7]
  have ek := sk (F := F) a9 h9 x8
  refine Eq.trans (b := addf (pair (fun g => gbv ((![kernelRun0_A.sl.r_19 (F := F) c i a1 h1 a2 h2 a5 h5 a6 h6 a15 x0 x1 x4 x5, kernelRun0_A.sl.r_20 (F := F) c i a1 h1 a2 h2 a5 h5 a6 h6 a15 x0 x1 x4 x5] : Fin 2 → FVec F S128x512 .f32) g) (k0_pay50 (kernelRun0_A.sl.v273 (F := F) c a3 h3 a7 h7 a8 h8 a18 x2 x6 x7)) (kernelRun0_A.sl.r_15 (F := F) c i a1 h1 a2 h2 a5 h5 a6 h6 x0 x1 x4 x5) (View.readAt (Elt F) a9.view (Rect.unit (s := S1x1024) ![0, 512 * g.val] S1x512.size (skB g)).toLoadRect (h9.unread x8)) g)) (wide (ydv (kernelRun0_A.sl.r_16 (F := F) c i a1 h1 a2 h2 a3 h3 a5 h5 a6 h6 a7 h7 a17 x0 x1 x2 x4 x5 x6) ![kernelRun0_A.sl.r_17 (F := F) c i a1 h1 a2 h2 a5 h5 a6 h6 x0 x1 x4 x5, kernelRun0_A.sl.r_18 (F := F) c i a1 h1 a2 h2 a5 h5 a6 h6 x0 x1 x4 x5] (kernelRun0_A.sl.r_5 (F := F) c a3 h3 a7 h7 a8 h8 x2 x6 x7) (kernelRun0_A.sl.r_6 (F := F) c a3 h3 a7 h7 a8 h8 x2 x6 x7)))) (upto_full _ (B := pair (fun g => gbv ((![kernelRun0_A.sl.r_19 (F := F) c i a1 h1 a2 h2 a5 h5 a6 h6 a15 x0 x1 x4 x5, kernelRun0_A.sl.r_20 (F := F) c i a1 h1 a2 h2 a5 h5 a6 h6 a15 x0 x1 x4 x5] : Fin 2 → FVec F S128x512 .f32) g) (k0_pay50 (kernelRun0_A.sl.v273 (F := F) c a3 h3 a7 h7 a8 h8 a18 x2 x6 x7)) (kernelRun0_A.sl.r_15 (F := F) c i a1 h1 a2 h2 a5 h5 a6 h6 x0 x1 x4 x5) (View.readAt (Elt F) a9.view (Rect.unit (s := S1x1024) ![0, 512 * g.val] S1x512.size (skB g)).toLoadRect (h9.unread x8)) g)) ?_) ?_
  refine upto_add (F := F) (n := 15) (by decide) _ _ _ _ ?_
  refine upto_add (F := F) (n := 14) (by decide) _ _ _ _ ?_
  refine upto_add (F := F) (n := 13) (by decide) _ _ _ _ ?_
  refine upto_add (F := F) (n := 12) (by decide) _ _ _ _ ?_
  refine upto_add (F := F) (n := 11) (by decide) _ _ _ _ ?_
  refine upto_add (F := F) (n := 10) (by decide) _ _ _ _ ?_
  refine upto_add (F := F) (n := 9) (by decide) _ _ _ _ ?_
  refine upto_add (F := F) (n := 8) (by decide) _ _ _ _ ?_
  refine upto_add (F := F) (n := 7) (by decide) _ _ _ _ ?_
  refine upto_add (F := F) (n := 6) (by decide) _ _ _ _ ?_
  refine upto_add (F := F) (n := 5) (by decide) _ _ _ _ ?_
  refine upto_add (F := F) (n := 4) (by decide) _ _ _ _ ?_
  refine upto_add (F := F) (n := 3) (by decide) _ _ _ _ ?_
  refine upto_add (F := F) (n := 2) (by decide) _ _ _ _ ?_
  refine upto_add (F := F) (n := 1) (by decide) _ _ _ _ ?_
  refine upto_add (F := F) (n := 0) (by decide) _ _ _ _ ?_
  · refine Eq.mp (congrArg (fun z => Upto 0 _ z _) ?_) (upto_zero _ _)
    exact pair_base (fun g => gbv ((![kernelRun0_A.sl.r_19 (F := F) c i a1 h1 a2 h2 a5 h5 a6 h6 a15 x0 x1 x4 x5, kernelRun0_A.sl.r_20 (F := F) c i a1 h1 a2 h2 a5 h5 a6 h6 a15 x0 x1 x4 x5] : Fin 2 → FVec F S128x512 .f32) g) (k0_pay50 (kernelRun0_A.sl.v273 (F := F) c a3 h3 a7 h7 a8 h8 a18 x2 x6 x7)) (kernelRun0_A.sl.r_15 (F := F) c i a1 h1 a2 h2 a5 h5 a6 h6 x0 x1 x4 x5) (View.readAt (Elt F) a9.view (Rect.unit (s := S1x1024) ![0, 512 * g.val] S1x512.size (skB g)).toLoadRect (h9.unread x8)) g) _ _ _
  · rw [qc, qy, q15, q16, e5, e6, eC]
    simp only [ek]
    rfl

theorem out_A11 : out0_A_11 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 = k0_pay129 (yv i (ld x0 x1 x2 x4 x5 x6 x7 x8 k0_pay2)) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9)]
  unfold kernelRun0_A
  dsimp only
  rw [View.canon_unit_zero (S := S128x1024) hz]
  exact congrArg k0_pay129 (y_A (F := F) i a1 h1 a2 h2 a3 h3 a5 h5 a6 h6 a7 h7 a8 h8 a9 h9 a15 a16 a17 a18 x0 x1 x2 x4 x5 x6 x7 x8 c)

theorem out_A10 : out0_A_10 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 = k0_pay1 (k0_pay130 (yv i (ld x0 x1 x2 x4 x5 x6 x7 x8 k0_pay2)) x3) (k0_pay131 (yv i (ld x0 x1 x2 x4 x5 x6 x7 x8 k0_pay2)) x3) x9 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9)]
  unfold kernelRun0_A
  dsimp only
  rw [View.canon_unit_zero (S := S128x1024) hz]
  obtain ⟨e3, e9⟩ := whole4 (F := F) a4 h4 a10 h10 x3 x9
  refine Eq.trans (b := k0_pay1 (k0_pay130 (kernelRun0_A.sl.v698 (F := F) c i a1 h1 a2 h2 a3 h3 a5 h5 a6 h6 a7 h7 a8 h8 a9 h9 a15 a16 a17 a18 x0 x1 x2 x4 x5 x6 x7 x8) (View.readAt (Elt F) a4.view (Rect.unit (s := S128x1024) ![0, 0] S128x1024.size inb_S128x1024_S128x1024_0_0).toLoadRect (h4.unread x3))) (k0_pay131 (kernelRun0_A.sl.v698 (F := F) c i a1 h1 a2 h2 a3 h3 a5 h5 a6 h6 a7 h7 a8 h8 a9 h9 a15 a16 a17 a18 x0 x1 x2 x4 x5 x6 x7 x8) (View.readAt (Elt F) a4.view (Rect.unit (s := S128x1024) ![0, 0] S128x1024.size inb_S128x1024_S128x1024_0_0).toLoadRect (h4.unread x3))) (View.readAt (Elt F) a10.view (Rect.unit (s := S1x1024) ![0, 0] S1x1024.size inb_S1x1024_S1x1024_0_0).toLoadRect (h10.unread x9))) rfl ?_
  rw [y_A (F := F) i a1 h1 a2 h2 a3 h3 a5 h5 a6 h6 a7 h7 a8 h8 a9 h9 a15 a16 a17 a18 x0 x1 x2 x4 x5 x6 x7 x8 c, e3, e9]

theorem out_A12 : out0_A_12 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 = uv i (ld x0 x1 x2 x4 x5 x6 x7 x8 k0_pay2) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9)]
  unfold kernelRun0_A
  dsimp only
  rw [View.canon_unit_zero (S := S128x1536) hz]
  refine Eq.trans (b := uv i (rdl a1 h1 a2 h2 a3 h3 a5 h5 a6 h6 a7 h7 a8 h8 a9 h9 x0 x1 x2 x4 x5 x6 x7 x8 (fun g => a15.view.readCov (kernelRun0_A.sl.HS0_1 (F := F)) (Rect.unit (s := S2x128x512) ![g.val, 0, 0] S1x128x512.size (stB g)).toLoadRect) (kernelRun0_A.sl.v281 (F := F) c a3 h3 a7 h7 a17 x2 x6) (kernelRun0_A.sl.v273 (F := F) c a3 h3 a7 h7 a8 h8 a18 x2 x6 x7))) rfl ?_
  rw [l_A]

theorem out_A13 : out0_A_13 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 = stk4 (fun g => k0_pay107 (View.ld (k0_pay2 (F := F)) (Rect.unit (s := S2x128x512) ![g.val, 0, 0] S1x128x512.size (stB g)))) := by
  unfold out0_A_13 kernelRun0_A
  dsimp only
  refine Eq.trans (b := stk4 (fun g => k0_pay107 ((fun g => a15.view.readCov (kernelRun0_A.sl.HS0_1 (F := F)) (Rect.unit (s := S2x128x512) ![g.val, 0, 0] S1x128x512.size (stB g)).toLoadRect) g))) ?_ ?_
  · have e := v593 (F := F) i a1 h1 a2 h2 a3 h3 a5 h5 a6 h6 a7 h7 a8 h8 a15 a17 a18 x0 x1 x2 x4 x5 x6 x7 c
    refine Eq.trans (congrArg (fun z => View.read (Elt F) VO0_13 (VO0_13.writes (Elt F) VO0_13.junk [⟨Rect.unit (s := S1x2x128x512) ![0, 1, 0, 0] ![1, 1, 128, 512] inb_S1x2x128x512_S1x1x128x512_0_1_0_0, k0_pay110 z⟩, ⟨Rect.unit (s := S1x2x128x512) ![0, 0, 0, 0] ![1, 1, 128, 512] inb_S1x2x128x512_S1x1x128x512_0_0_0_0, k0_pay107 (kernelRun0_A.sl.v294 c a15)⟩])) e) ?_
    have h := stk4_two (F := F) VO0_13 VO0_13.junk (fun g => k0_pay107 ((fun g => a15.view.readCov (kernelRun0_A.sl.HS0_1 (F := F)) (Rect.unit (s := S2x128x512) ![g.val, 0, 0] S1x128x512.size (stB g)).toLoadRect) g)) inb_S1x2x128x512_S1x1x128x512_0_1_0_0 inb_S1x2x128x512_S1x1x128x512_0_0_0_0 []
    exact h
  · refine congrArg stk4 (funext fun g => congrArg k0_pay107 ?_)
    exact covFill _ _ _ _ _

theorem sout_A : sout0_A_0 c i a1 h1 a2 h2 a3 h3 a4 h4 a5 h5 a6 h6 a7 h7 a8 h8 a9 h9 a10 h10 a11 h11 a12 h12 a13 h13 a14 h14 a15 h15 a16 h16 a17 h17 a18 h18 hA x0 x1 x2 x3 x4 x5 x6 x7 x8 x9 = stk (ns i (ld x0 x1 x2 x4 x5 x6 x7 x8 k0_pay2)) := by
  unfold sout0_A_0 kernelRun0_A
  dsimp only
  rw [← l_A (F := F) a1 h1 a2 h2 a3 h3 a5 h5 a6 h6 a7 h7 a8 h8 a9 h9 a15 a17 a18 x0 x1 x2 x4 x5 x6 x7 x8 c]
  rw [v593 (F := F) i a1 h1 a2 h2 a3 h3 a5 h5 a6 h6 a7 h7 a8 h8 a15 a17 a18 x0 x1 x2 x4 x5 x6 x7 c]
  exact stk_two _ _ (ns i (rdl a1 h1 a2 h2 a3 h3 a5 h5 a6 h6 a7 h7 a8 h8 a9 h9 x0 x1 x2 x4 x5 x6 x7 x8 (fun g => a15.view.readCov (kernelRun0_A.sl.HS0_1 (F := F)) (Rect.unit (s := S2x128x512) ![g.val, 0, 0] S1x128x512.size (stB g)).toLoadRect) (kernelRun0_A.sl.v281 (F := F) c a3 h3 a7 h7 a17 x2 x6) (kernelRun0_A.sl.v273 (F := F) c a3 h3 a7 h7 a8 h8 a18 x2 x6 x7))) _ _ _

theorem t_B : kernelRun0_B.sl.v281 (F := F) c a3 h3 a7 h7 a17 x2 x6 = wide (colv (k0_pay8 x2 x6)) := by
  obtain ⟨e2, e6⟩ := whole2 (F := F) a3 h3 a7 h7 x2 x6
  refine Eq.trans (b := wide (colv (k0_pay8 (View.readAt (Elt F) a3.view (Rect.unit (s := S128x128) ![0, 0] S128x128.size inb_S128x128_S128x128_0_0).toLoadRect (h3.unread x2)) (View.readAt (Elt F) a7.view (Rect.unit (s := S1x128) ![0, 0] S1x128.size inb_S1x128_S1x128_0_0).toLoadRect (h7.unread x6))))) (upto_full (B := View.canon []) _ ?_) (by rw [e2, e6])
  refine upto_put (F := F) (n := 15) (by decide) _ _ ?_
  refine upto_put (F := F) (n := 14) (by decide) _ _ ?_
  refine upto_put (F := F) (n := 13) (by decide) _ _ ?_
  refine upto_put (F := F) (n := 12) (by decide) _ _ ?_
  refine upto_put (F := F) (n := 11) (by decide) _ _ ?_
  refine upto_put (F := F) (n := 10) (by decide) _ _ ?_
  refine upto_put (F := F) (n := 9) (by decide) _ _ ?_
  refine upto_put (F := F) (n := 8) (by decide) _ _ ?_
  refine upto_put (F := F) (n := 7) (by decide) _ _ ?_
  refine upto_put (F := F) (n := 6) (by decide) _ _ ?_
  refine upto_put (F := F) (n := 5) (by decide) _ _ ?_
  refine upto_put (F := F) (n := 4) (by decide) _ _ ?_
  refine upto_put (F := F) (n := 3) (by decide) _ _ ?_
  refine upto_put (F := F) (n := 2) (by decide) _ _ ?_
  refine upto_put (F := F) (n := 1) (by decide) _ _ ?_
  refine upto_put (F := F) (n := 0) (by decide) _ _ ?_
  exact upto_zero _ _

theorem c_B : kernelRun0_B.sl.v273 (F := F) c a3 h3 a7 h7 a8 h8 a18 x2 x6 x7 = wide (colv (k0_pay10 x2 x6 x7)) := by
  obtain ⟨e2, e6, e7⟩ := whole3 (F := F) a3 h3 a7 h7 a8 h8 x2 x6 x7
  refine Eq.trans (b := wide (colv (k0_pay10 (View.readAt (Elt F) a3.view (Rect.unit (s := S128x128) ![0, 0] S128x128.size inb_S128x128_S128x128_0_0).toLoadRect (h3.unread x2)) (View.readAt (Elt F) a7.view (Rect.unit (s := S1x128) ![0, 0] S1x128.size inb_S1x128_S1x128_0_0).toLoadRect (h7.unread x6)) (View.readAt (Elt F) a8.view (Rect.unit (s := S1x128) ![0, 0] S1x128.size inb_S1x128_S1x128_0_0).toLoadRect (h8.unread x7))))) (upto_full (B := View.canon []) _ ?_) (by rw [e2, e6, e7])
  refine upto_put (F := F) (n := 15) (by decide) _ _ ?_
  refine upto_put (F := F) (n := 14) (by decide) _ _ ?_
  refine upto_put (F := F) (n := 13) (by decide) _ _ ?_
  refine upto_put (F := F) (n := 12) (by decide) _ _ ?_
  refine upto_put (F := F) (n := 11) (by decide) _ _ ?_
  refine upto_put (F := F) (n := 10) (by decide) _ _ ?_
  refine upto_put (F := F) (n := 9) (by decide) _ _ ?_
  refine upto_put (F := F) (n := 8) (by decide) _ _ ?_
  refine upto_put (F := F) (n := 7) (by decide) _ _ ?_
  refine upto_put (F := F) (n := 6) (by decide) _ _ ?_
  refine upto_put (F := F) (n := 5) (by decide) _ _ ?_
  refine upto_put (F := F) (n := 4) (by decide) _ _ ?_
  refine upto_put (F := F) (n := 3) (by decide) _ _ ?_
  refine upto_put (F := F) (n := 2) (by decide) _ _ ?_
  refine upto_put (F := F) (n := 1) (by decide) _ _ ?_
  refine upto_put (F := F) (n := 0) (by decide) _ _ ?_
  exact upto_zero _ _

theorem l_B : rdl a1 h1 a2 h2 a3 h3 a5 h5 a6 h6 a7 h7 a8 h8 a9 h9 x0 x1 x2 x4 x5 x6 x7 x8 (fun g => View.readAt (Elt F) a15.view (Rect.unit (s := S2x128x512) ![g.val, 0, 0] S1x128x512.size (stB g)).toLoadRect (h15.unread xs0)) (kernelRun0_B.sl.v281 (F := F) c a3 h3 a7 h7 a17 x2 x6) (kernelRun0_B.sl.v273 (F := F) c a3 h3 a7 h7 a8 h8 a18 x2 x6 x7) = ld x0 x1 x2 x4 x5 x6 x7 x8 xs0 :=
  rdl_eq a1 h1 a2 h2 a3 h3 a5 h5 a6 h6 a7 h7 a8 h8 a9 h9 x0 x1 x2 x4 x5 x6 x7 x8 _ _ _ _ (funext fun g => by simp only [View.readAt_eq_ld, h15.read_unread]) (t_B ..) (c_B ..)

theorem q3_B : kernelRun0_B.sl.r_3 (F := F) c i a1 h1 a2 h2 a5 h5 a6 h6 x0 x1 x4 x5 = act i (rdl a1 h1 a2 h2 a3 h3 a5 h5 a6 h6 a7 h7 a8 h8 a9 h9 x0 x1 x2 x4 x5 x6 x7 x8 (fun g => View.readAt (Elt F) a15.view (Rect.unit (s := S2x128x512) ![g.val, 0, 0] S1x128x512.size (stB g)).toLoadRect (h15.unread xs0)) (kernelRun0_B.sl.v281 (F := F) c a3 h3 a7 h7 a17 x2 x6) (kernelRun0_B.sl.v273 (F := F) c a3 h3 a7 h7 a8 h8 a18 x2 x6 x7)) := rfl

theorem q15_B : kernelRun0_B.sl.r_15 (F := F) c i a1 h1 a2 h2 a5 h5 a6 h6 x0 x1 x4 x5 = xs i (rdl a1 h1 a2 h2 a3 h3 a5 h5 a6 h6 a7 h7 a8 h8 a9 h9 x0 x1 x2 x4 x5 x6 x7 x8 (fun g => View.readAt (Elt F) a15.view (Rect.unit (s := S2x128x512) ![g.val, 0, 0] S1x128x512.size (stB g)).toLoadRect (h15.unread xs0)) (kernelRun0_B.sl.v281 (F := F) c a3 h3 a7 h7 a17 x2 x6) (kernelRun0_B.sl.v273 (F := F) c a3 h3 a7 h7 a8 h8 a18 x2 x6 x7)) := rfl

theorem q16_B : kernelRun0_B.sl.r_16 (F := F) c i a1 h1 a2 h2 a3 h3 a5 h5 a6 h6 a7 h7 a17 x0 x1 x2 x4 x5 x6 = xdt i (rdl a1 h1 a2 h2 a3 h3 a5 h5 a6 h6 a7 h7 a8 h8 a9 h9 x0 x1 x2 x4 x5 x6 x7 x8 (fun g => View.readAt (Elt F) a15.view (Rect.unit (s := S2x128x512) ![g.val, 0, 0] S1x128x512.size (stB g)).toLoadRect (h15.unread xs0)) (kernelRun0_B.sl.v281 (F := F) c a3 h3 a7 h7 a17 x2 x6) (kernelRun0_B.sl.v273 (F := F) c a3 h3 a7 h7 a8 h8 a18 x2 x6 x7)) := rfl

theorem qc_B : (![kernelRun0_B.sl.r_17 (F := F) c i a1 h1 a2 h2 a5 h5 a6 h6 x0 x1 x4 x5, kernelRun0_B.sl.r_18 (F := F) c i a1 h1 a2 h2 a5 h5 a6 h6 x0 x1 x4 x5] : Fin 2 → FVec F S128x128 .f32) = cb i (rdl a1 h1 a2 h2 a3 h3 a5 h5 a6 h6 a7 h7 a8 h8 a9 h9 x0 x1 x2 x4 x5 x6 x7 x8 (fun g => View.readAt (Elt F) a15.view (Rect.unit (s := S2x128x512) ![g.val, 0, 0] S1x128x512.size (stB g)).toLoadRect (h15.unread xs0)) (kernelRun0_B.sl.v281 (F := F) c a3 h3 a7 h7 a17 x2 x6) (kernelRun0_B.sl.v273 (F := F) c a3 h3 a7 h7 a8 h8 a18 x2 x6 x7)) := funext fun g => match g with
  | 0 => rfl
  | 1 => rfl

theorem qy_B : (![kernelRun0_B.sl.r_19 (F := F) c i a1 h1 a2 h2 a5 h5 a6 h6 a15 h15 x0 x1 x4 x5 xs0, kernelRun0_B.sl.r_20 (F := F) c i a1 h1 a2 h2 a5 h5 a6 h6 a15 h15 x0 x1 x4 x5 xs0] : Fin 2 → FVec F S128x512 .f32) = yo i (rdl a1 h1 a2 h2 a3 h3 a5 h5 a6 h6 a7 h7 a8 h8 a9 h9 x0 x1 x2 x4 x5 x6 x7 x8 (fun g => View.readAt (Elt F) a15.view (Rect.unit (s := S2x128x512) ![g.val, 0, 0] S1x128x512.size (stB g)).toLoadRect (h15.unread xs0)) (kernelRun0_B.sl.v281 (F := F) c a3 h3 a7 h7 a17 x2 x6) (kernelRun0_B.sl.v273 (F := F) c a3 h3 a7 h7 a8 h8 a18 x2 x6 x7)) := funext fun g => match g with
  | 0 => rfl
  | 1 => rfl

theorem y_B : kernelRun0_B.sl.v698 (F := F) c i a1 h1 a2 h2 a3 h3 a5 h5 a6 h6 a7 h7 a8 h8 a9 h9 a15 h15 a16 a17 a18 x0 x1 x2 x4 x5 x6 x7 x8 xs0 = yv i (ld x0 x1 x2 x4 x5 x6 x7 x8 xs0) := by
  have qc := qc_B (F := F) i a1 h1 a2 h2 a3 h3 a5 h5 a6 h6 a7 h7 a8 h8 a9 h9 a15 h15 a17 a18 x0 x1 x2 x4 x5 x6 x7 x8 xs0 c
  have qy := qy_B (F := F) i a1 h1 a2 h2 a3 h3 a5 h5 a6 h6 a7 h7 a8 h8 a9 h9 a15 h15 a17 a18 x0 x1 x2 x4 x5 x6 x7 x8 xs0 c
  have q15 := q15_B (F := F) i a1 h1 a2 h2 a3 h3 a5 h5 a6 h6 a7 h7 a8 h8 a9 h9 a15 h15 a17 a18 x0 x1 x2 x4 x5 x6 x7 x8 xs0 c
  have q16 := q16_B (F := F) i a1 h1 a2 h2 a3 h3 a5 h5 a6 h6 a7 h7 a8 h8 a9 h9 a15 h15 a17 a18 x0 x1 x2 x4 x5 x6 x7 x8 xs0 c
  rw [l_B] at qc qy q15 q16
  have eC := c_B (F := F) a3 h3 a7 h7 a8 h8 a18 x2 x6 x7 c
  have e5 : kernelRun0_B.sl.r_5 (F := F) c a3 h3 a7 h7 a8 h8 x2 x6 x7 = k0_pay10 x2 x6 x7 := by
    obtain ⟨e2, e6, e7⟩ := whole3 (F := F) a3 h3 a7 h7 a8 h8 x2 x6 x7
    refine Eq.trans (b := k0_pay10 (View.readAt (Elt F) a3.view (Rect.unit (s := S128x128) ![0, 0] S128x128.size inb_S128x128_S128x128_0_0).toLoadRect (h3.unread x2)) (View.readAt (Elt F) a7.view (Rect.unit (s := S1x128) ![0, 0] S1x128.size inb_S1x128_S1x128_0_0).toLoadRect (h7.unread x6)) (View.readAt (Elt F) a8.view (Rect.unit (s := S1x128) ![0, 0] S1x128.size inb_S1x128_S1x128_0_0).toLoadRect (h8.unread x7))) rfl ?_
    rw [e2, e6, e7]
  have e6 : kernelRun0_B.sl.r_6 (F := F) c a3 h3 a7 h7 a8 h8 x2 x6 x7 = k0_pay11 x2 x6 x7 := by
    obtain ⟨e2, e6, e7⟩ := whole3 (F := F) a3 h3 a7 h7 a8 h8 x2 x6 x7
    refine Eq.trans (b := k0_pay11 (View.readAt (Elt F) a3.view (Rect.unit (s := S128x128) ![0, 0] S128x128.size inb_S128x128_S128x128_0_0).toLoadRect (h3.unread x2)) (View.readAt (Elt F) a7.view (Rect.unit (s := S1x128) ![0, 0] S1x128.size inb_S1x128_S1x128_0_0).toLoadRect (h7.unread x6)) (View.readAt (Elt F) a8.view (Rect.unit (s := S1x128) ![0, 0] S1x128.size inb_S1x128_S1x128_0_0).toLoadRect (h8.unread x7))) rfl ?_
    rw [e2, e6, e7]
  have ek := sk (F := F) a9 h9 x8
  refine Eq.trans (b := addf (pair (fun g => gbv ((![kernelRun0_B.sl.r_19 (F := F) c i a1 h1 a2 h2 a5 h5 a6 h6 a15 h15 x0 x1 x4 x5 xs0, kernelRun0_B.sl.r_20 (F := F) c i a1 h1 a2 h2 a5 h5 a6 h6 a15 h15 x0 x1 x4 x5 xs0] : Fin 2 → FVec F S128x512 .f32) g) (k0_pay50 (kernelRun0_B.sl.v273 (F := F) c a3 h3 a7 h7 a8 h8 a18 x2 x6 x7)) (kernelRun0_B.sl.r_15 (F := F) c i a1 h1 a2 h2 a5 h5 a6 h6 x0 x1 x4 x5) (View.readAt (Elt F) a9.view (Rect.unit (s := S1x1024) ![0, 512 * g.val] S1x512.size (skB g)).toLoadRect (h9.unread x8)) g)) (wide (ydv (kernelRun0_B.sl.r_16 (F := F) c i a1 h1 a2 h2 a3 h3 a5 h5 a6 h6 a7 h7 a17 x0 x1 x2 x4 x5 x6) ![kernelRun0_B.sl.r_17 (F := F) c i a1 h1 a2 h2 a5 h5 a6 h6 x0 x1 x4 x5, kernelRun0_B.sl.r_18 (F := F) c i a1 h1 a2 h2 a5 h5 a6 h6 x0 x1 x4 x5] (kernelRun0_B.sl.r_5 (F := F) c a3 h3 a7 h7 a8 h8 x2 x6 x7) (kernelRun0_B.sl.r_6 (F := F) c a3 h3 a7 h7 a8 h8 x2 x6 x7)))) (upto_full _ (B := pair (fun g => gbv ((![kernelRun0_B.sl.r_19 (F := F) c i a1 h1 a2 h2 a5 h5 a6 h6 a15 h15 x0 x1 x4 x5 xs0, kernelRun0_B.sl.r_20 (F := F) c i a1 h1 a2 h2 a5 h5 a6 h6 a15 h15 x0 x1 x4 x5 xs0] : Fin 2 → FVec F S128x512 .f32) g) (k0_pay50 (kernelRun0_B.sl.v273 (F := F) c a3 h3 a7 h7 a8 h8 a18 x2 x6 x7)) (kernelRun0_B.sl.r_15 (F := F) c i a1 h1 a2 h2 a5 h5 a6 h6 x0 x1 x4 x5) (View.readAt (Elt F) a9.view (Rect.unit (s := S1x1024) ![0, 512 * g.val] S1x512.size (skB g)).toLoadRect (h9.unread x8)) g)) ?_) ?_
  refine upto_add (F := F) (n := 15) (by decide) _ _ _ _ ?_
  refine upto_add (F := F) (n := 14) (by decide) _ _ _ _ ?_
  refine upto_add (F := F) (n := 13) (by decide) _ _ _ _ ?_
  refine upto_add (F := F) (n := 12) (by decide) _ _ _ _ ?_
  refine upto_add (F := F) (n := 11) (by decide) _ _ _ _ ?_
  refine upto_add (F := F) (n := 10) (by decide) _ _ _ _ ?_
  refine upto_add (F := F) (n := 9) (by decide) _ _ _ _ ?_
  refine upto_add (F := F) (n := 8) (by decide) _ _ _ _ ?_
  refine upto_add (F := F) (n := 7) (by decide) _ _ _ _ ?_
  refine upto_add (F := F) (n := 6) (by decide) _ _ _ _ ?_
  refine upto_add (F := F) (n := 5) (by decide) _ _ _ _ ?_
  refine upto_add (F := F) (n := 4) (by decide) _ _ _ _ ?_
  refine upto_add (F := F) (n := 3) (by decide) _ _ _ _ ?_
  refine upto_add (F := F) (n := 2) (by decide) _ _ _ _ ?_
  refine upto_add (F := F) (n := 1) (by decide) _ _ _ _ ?_
  refine upto_add (F := F) (n := 0) (by decide) _ _ _ _ ?_
  · refine Eq.mp (congrArg (fun z => Upto 0 _ z _) ?_) (upto_zero _ _)
    exact pair_base (fun g => gbv ((![kernelRun0_B.sl.r_19 (F := F) c i a1 h1 a2 h2 a5 h5 a6 h6 a15 h15 x0 x1 x4 x5 xs0, kernelRun0_B.sl.r_20 (F := F) c i a1 h1 a2 h2 a5 h5 a6 h6 a15 h15 x0 x1 x4 x5 xs0] : Fin 2 → FVec F S128x512 .f32) g) (k0_pay50 (kernelRun0_B.sl.v273 (F := F) c a3 h3 a7 h7 a8 h8 a18 x2 x6 x7)) (kernelRun0_B.sl.r_15 (F := F) c i a1 h1 a2 h2 a5 h5 a6 h6 x0 x1 x4 x5) (View.readAt (Elt F) a9.view (Rect.unit (s := S1x1024) ![0, 512 * g.val] S1x512.size (skB g)).toLoadRect (h9.unread x8)) g) _ _ _
  · rw [qc, qy, q15, q16, e5, e6, eC]
    simp only [ek]
    rfl

theorem out_B11 : out0_B_11 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 xs0 = k0_pay129 (yv i (ld x0 x1 x2 x4 x5 x6 x7 x8 xs0)) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 xs0)]
  unfold kernelRun0_B
  dsimp only
  rw [View.canon_unit_zero (S := S128x1024) hz]
  exact congrArg k0_pay129 (y_B (F := F) i a1 h1 a2 h2 a3 h3 a5 h5 a6 h6 a7 h7 a8 h8 a9 h9 a15 h15 a16 a17 a18 x0 x1 x2 x4 x5 x6 x7 x8 xs0 c)

theorem out_B10 : out0_B_10 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 xs0 = k0_pay1 (k0_pay130 (yv i (ld x0 x1 x2 x4 x5 x6 x7 x8 xs0)) x3) (k0_pay131 (yv i (ld x0 x1 x2 x4 x5 x6 x7 x8 xs0)) x3) x9 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 xs0)]
  unfold kernelRun0_B
  dsimp only
  rw [View.canon_unit_zero (S := S128x1024) hz]
  obtain ⟨e3, e9⟩ := whole4 (F := F) a4 h4 a10 h10 x3 x9
  refine Eq.trans (b := k0_pay1 (k0_pay130 (kernelRun0_B.sl.v698 (F := F) c i a1 h1 a2 h2 a3 h3 a5 h5 a6 h6 a7 h7 a8 h8 a9 h9 a15 h15 a16 a17 a18 x0 x1 x2 x4 x5 x6 x7 x8 xs0) (View.readAt (Elt F) a4.view (Rect.unit (s := S128x1024) ![0, 0] S128x1024.size inb_S128x1024_S128x1024_0_0).toLoadRect (h4.unread x3))) (k0_pay131 (kernelRun0_B.sl.v698 (F := F) c i a1 h1 a2 h2 a3 h3 a5 h5 a6 h6 a7 h7 a8 h8 a9 h9 a15 h15 a16 a17 a18 x0 x1 x2 x4 x5 x6 x7 x8 xs0) (View.readAt (Elt F) a4.view (Rect.unit (s := S128x1024) ![0, 0] S128x1024.size inb_S128x1024_S128x1024_0_0).toLoadRect (h4.unread x3))) (View.readAt (Elt F) a10.view (Rect.unit (s := S1x1024) ![0, 0] S1x1024.size inb_S1x1024_S1x1024_0_0).toLoadRect (h10.unread x9))) rfl ?_
  rw [y_B (F := F) i a1 h1 a2 h2 a3 h3 a5 h5 a6 h6 a7 h7 a8 h8 a9 h9 a15 h15 a16 a17 a18 x0 x1 x2 x4 x5 x6 x7 x8 xs0 c, e3, e9]

theorem out_B12 : out0_B_12 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 xs0 = uv i (ld x0 x1 x2 x4 x5 x6 x7 x8 xs0) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 xs0)]
  unfold kernelRun0_B
  dsimp only
  rw [View.canon_unit_zero (S := S128x1536) hz]
  refine Eq.trans (b := uv i (rdl a1 h1 a2 h2 a3 h3 a5 h5 a6 h6 a7 h7 a8 h8 a9 h9 x0 x1 x2 x4 x5 x6 x7 x8 (fun g => View.readAt (Elt F) a15.view (Rect.unit (s := S2x128x512) ![g.val, 0, 0] S1x128x512.size (stB g)).toLoadRect (h15.unread xs0)) (kernelRun0_B.sl.v281 (F := F) c a3 h3 a7 h7 a17 x2 x6) (kernelRun0_B.sl.v273 (F := F) c a3 h3 a7 h7 a8 h8 a18 x2 x6 x7))) rfl ?_
  rw [l_B]

theorem out_B13 : out0_B_13 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 xs0 = stk4 (fun g => k0_pay107 (View.ld xs0 (Rect.unit (s := S2x128x512) ![g.val, 0, 0] S1x128x512.size (stB g)))) := by
  unfold out0_B_13 kernelRun0_B
  dsimp only
  refine Eq.trans (b := stk4 (fun g => k0_pay107 ((fun g => View.readAt (Elt F) a15.view (Rect.unit (s := S2x128x512) ![g.val, 0, 0] S1x128x512.size (stB g)).toLoadRect (h15.unread xs0)) g))) ?_ ?_
  · have h := stk4_two (F := F) VO0_13 VO0_13.junk (fun g => k0_pay107 ((fun g => View.readAt (Elt F) a15.view (Rect.unit (s := S2x128x512) ![g.val, 0, 0] S1x128x512.size (stB g)).toLoadRect (h15.unread xs0)) g)) inb_S1x2x128x512_S1x1x128x512_0_1_0_0 inb_S1x2x128x512_S1x1x128x512_0_0_0_0 []
    exact h
  · refine congrArg stk4 (funext fun g => congrArg k0_pay107 ?_)
    simp only [View.readAt_eq_ld, h15.read_unread]

theorem sout_B : sout0_B_0 c i a1 h1 a2 h2 a3 h3 a4 h4 a5 h5 a6 h6 a7 h7 a8 h8 a9 h9 a10 h10 a11 h11 a12 h12 a13 h13 a14 h14 a15 h15 a16 h16 a17 h17 a18 h18 hB x0 x1 x2 x3 x4 x5 x6 x7 x8 x9 xs0 = stk (ns i (ld x0 x1 x2 x4 x5 x6 x7 x8 xs0)) := by
  unfold sout0_B_0 kernelRun0_B
  dsimp only
  rw [← l_B (F := F) a1 h1 a2 h2 a3 h3 a5 h5 a6 h6 a7 h7 a8 h8 a9 h9 a15 h15 a17 a18 x0 x1 x2 x4 x5 x6 x7 x8 xs0 c]
  exact stk_two _ _ (ns i (rdl a1 h1 a2 h2 a3 h3 a5 h5 a6 h6 a7 h7 a8 h8 a9 h9 x0 x1 x2 x4 x5 x6 x7 x8 (fun g => View.readAt (Elt F) a15.view (Rect.unit (s := S2x128x512) ![g.val, 0, 0] S1x128x512.size (stB g)).toLoadRect (h15.unread xs0)) (kernelRun0_B.sl.v281 (F := F) c a3 h3 a7 h7 a17 x2 x6) (kernelRun0_B.sl.v273 (F := F) c a3 h3 a7 h7 a8 h8 a18 x2 x6 x7))) _ _ _

end Cert.Kernel4Ideal.Sf

end
-- ==== Proof.SfMath.lean ====
module

public import proofs.«01_k».proof.Proof.RfMath
public import Idealize.ShloMosaic.Lib.Pointwise

@[expose] public section

set_option maxRecDepth 16384

noncomputable section

open Idealize.ShloMosaic Idealize.ShloMosaic.TcCoe Idealize.SL.Sem

/-! The state-space mixer's forward pass, by entries: convolution, time steps, decays, one chunk, the state carried from chunk to chunk. -/

namespace Cert.SfMath

open Cert.RfMath (row row_val)

/-- The inputs' column `j` among the convolution's columns. -/
def xj (j : Fin 1024) : Fin 1536 := ⟨j.val, by omega⟩

/-- Key column `n` of group `g`. -/
def bj (g : Fin 2) (n : Fin 128) : Fin 1536 := ⟨1024 + 128 * g.val + n.val, by omega⟩

/-- Query column `n` of group `g`. -/
def cj (g : Fin 2) (n : Fin 128) : Fin 1536 := ⟨1280 + 128 * g.val + n.val, by omega⟩

/-- Column `q` of group `g`. -/
def gq (g : Fin 2) (q : Fin 512) : Fin 1024 := ⟨512 * g.val + q.val, by omega⟩

/-- The head of a column. -/
def hd (j : Fin 1024) : Fin 16 := ⟨j.val / 64, by omega⟩

/-- The group of a column. -/
def gr (j : Fin 1024) : Fin 2 := ⟨j.val / 512, by omega⟩

/-- A column's place in its group. -/
def pl (j : Fin 1024) : Fin 512 := ⟨j.val % 512, Nat.mod_lt _ (by decide)⟩

/-- The softplus of a number. -/
def sp (x : EReal) : EReal := max x 0 + Ideal.log1p (Ideal.exp (-max x (-x)))

section Chunk

variable (Act : Fin 128 → Fin 1536 → EReal) (Dt Cs : Fin 128 → Fin 16 → EReal) (S : Fin 2 → Fin 128 → Fin 512 → EReal) (ds : Fin 16 → EReal) (Z : Fin 128 → Fin 1024 → EReal) (W : Fin 1024 → EReal)

/-- The decay from row `s` to row `l`, none above the diagonal. -/
def lM (h : Fin 16) (l s : Fin 128) : EReal := if s.val ≤ l.val then Ideal.exp (Cs l h - Cs s h) else 0

/-- The products inside the chunk. -/
def ydM (l : Fin 128) (j : Fin 1024) : EReal :=
  ∑ s : Fin 128, (∑ n : Fin 128, Act l (cj (gr j) n) * Act s (bj (gr j) n)) * lM Cs (hd j) l s * (Act s (xj j) * Dt s (hd j))

/-- The products with the state. -/
def yoM (l : Fin 128) (j : Fin 1024) : EReal := ∑ n : Fin 128, Act l (cj (gr j) n) * S (gr j) n (pl j)

/-- The chunk's output before its gate and norm. -/
def yM (l : Fin 128) (j : Fin 1024) : EReal :=
  yoM Act S l j * Ideal.exp (Cs l (hd j)) + Act l (xj j) * ds (hd j) + ydM Act Dt Cs l j

/-- The state after the chunk. -/
def nM (g : Fin 2) (n : Fin 128) (q : Fin 512) : EReal :=
  S g n q * Ideal.exp (Cs 127 (hd (gq g q)))
    + ∑ l : Fin 128, Act l (bj g n) * (Act l (xj (gq g q)) * Dt l (hd (gq g q)) * Ideal.exp (Cs 127 (hd (gq g q)) - Cs l (hd (gq g q))))

/-- The gated output. -/
def gM (Y : Fin 128 → Fin 1024 → EReal) (l : Fin 128) (j : Fin 1024) : EReal := Y l j * (Z l j * Ideal.logistic (Z l j))

/-- The gated output normed. -/
def oM (Y : Fin 128 → Fin 1024 → EReal) (l : Fin 128) (j : Fin 1024) : EReal :=
  gM Z Y l j * Ideal.rsqrt (Ideal.div (∑ x : Fin 1024, gM Z Y l x * gM Z Y l x) (Ideal.ofBits FTy.f32 0x44800000#32) + Ideal.ofBits FTy.f32 0x358637BD#32) * W j

end Chunk

/-- The arguments by entry: gate, convolution input, time steps, taps, bias, time-step bias, decay logarithms, skip gains, norm weight. -/
structure Args where
  z : Fin 8192 → Fin 1024 → EReal
  x : Fin 8192 → Fin 1536 → EReal
  d : Fin 8192 → Fin 16 → EReal
  cw : Fin 4 → Fin 1536 → EReal
  cb : Fin 1536 → EReal
  db : Fin 16 → EReal
  al : Fin 16 → EReal
  ds : Fin 16 → EReal
  nw : Fin 1024 → EReal

variable (A : Args)

/-- The entry `s` rows before row `t`, nothing before the first. -/
def bk (s : ℕ) (t : Fin 8192) (j : Fin 1536) : EReal := if s ≤ t.val then A.x ⟨t.val - s, by omega⟩ j else 0

/-- The convolution. -/
def UU (t : Fin 8192) (j : Fin 1536) : EReal :=
  A.cb j + (A.cw 0 j * bk A 3 t j + A.cw 1 j * bk A 2 t j + A.cw 2 j * bk A 1 t j + A.cw 3 j * A.x t j)

/-- The activated convolution. -/
def AA (t : Fin 8192) (j : Fin 1536) : EReal := UU A t j * Ideal.logistic (UU A t j)

/-- The time steps. -/
def DT (t : Fin 8192) (h : Fin 16) : EReal := sp (A.d t h + A.db h)

/-- The logarithms of the decays. -/
def DA (t : Fin 8192) (h : Fin 16) : EReal := DT A t h * -Ideal.exp (A.al h)

/-- Their sums from the chunk's first row. -/
def CS (n : ℕ) (l : Fin 128) (h : Fin 16) : EReal := ∑ s : Fin 128, if s.val ≤ l.val then DA A (row n s) h else 0

/-- A chunk's activated convolution. -/
def AC (n : ℕ) (l : Fin 128) (j : Fin 1536) : EReal := AA A (row n l) j

/-- A chunk's time steps. -/
def DC (n : ℕ) (l : Fin 128) (h : Fin 16) : EReal := DT A (row n l) h

/-- The state before chunk `n`. -/
def ST : ℕ → Fin 2 → Fin 128 → Fin 512 → EReal
  | 0 => fun _ _ _ => 0
  | n + 1 => nM (AC A n) (DC A n) (CS A n) (ST n)

/-- A chunk's output before its gate and norm. -/
def YY (n : ℕ) (l : Fin 128) (j : Fin 1024) : EReal := yM (AC A n) (DC A n) (CS A n) (ST A n) A.ds l j

/-- A chunk's output. -/
def OO (n : ℕ) (l : Fin 128) (j : Fin 1024) : EReal := oM (fun l j => A.z (row n l) j) A.nw (YY A n) l j

end Cert.SfMath

end
-- ==== Proof.SfPoint.lean ====
module

public import proofs.«01_k».proof.Proof.Real
public import proofs.«01_k».proof.Proof.SfOut
public import proofs.«01_k».proof.Proof.SfMath
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

/-! One chunk of the state-space mixer read at an index, over the extended reals. -/

namespace Cert.Kernel4Ideal.Sf

open Cert.Kernel4Ideal Cert.Kernel4Ideal.Gen Cert.SfMath

/-! ### Comparisons of rows -/

theorem toInt_row : ∀ x : Fin 128, (BitVec.ofNat 32 x.val).toInt = (x.val : Int) := by decide +kernel

theorem sle_row (x l : Fin 128) : IntOp.cmpi CmpIPredicate.sle (BitVec.ofNat 32 x.val) (BitVec.ofNat 32 l.val) = if x.val ≤ l.val then 1#1 else 0#1 := by
  show BitVec.ofBool (decide ((BitVec.ofNat 32 x.val).toInt ≤ (BitVec.ofNat 32 l.val).toInt)) = _
  rw [toInt_row, toInt_row]
  by_cases h : x.val ≤ l.val
  · rw [if_pos h, decide_eq_true (by omega)]; rfl
  · rw [if_neg h, decide_eq_false (by omega)]; rfl

theorem sge_row (x l : Fin 128) : IntOp.cmpi CmpIPredicate.sge (BitVec.ofNat 32 l.val) (BitVec.ofNat 32 x.val) = if x.val ≤ l.val then 1#1 else 0#1 := by
  show BitVec.ofBool (decide ((BitVec.ofNat 32 x.val).toInt ≤ (BitVec.ofNat 32 l.val).toInt)) = _
  rw [toInt_row, toInt_row]
  by_cases h : x.val ≤ l.val
  · rw [if_pos h, decide_eq_true (by omega)]; rfl
  · rw [if_neg h, decide_eq_false (by omega)]; rfl

theorem ind (x l : Fin 128) : (FloatOps.sitofp FTy.f32 (BitVec.setWidth 32 (IntOp.cmpi CmpIPredicate.sle (BitVec.ofNat 32 x.val) (BitVec.ofNat 32 l.val))) : Ideal .f32) = (if x.val ≤ l.val then 1 else 0 : EReal) := by
  rw [sle_row]
  by_cases h : x.val ≤ l.val
  · rw [if_pos h, if_pos h]
    show (((BitVec.setWidth 32 1#1).toInt : ℝ) : EReal) = 1
    rw [show (BitVec.setWidth 32 1#1).toInt = 1 from by decide]
    norm_num
  · rw [if_neg h, if_neg h]
    show (((BitVec.setWidth 32 0#1).toInt : ℝ) : EReal) = 0
    rw [show (BitVec.setWidth 32 0#1).toInt = 0 from by decide]
    norm_num

theorem masked_eq : (Named.named κ "masked" 4048155338#32 : Ideal .f32) = (⊥ : EReal) := rfl

/-! ### The convolution -/

theorem pay3_at (i : grid0.Coords) (X : Vec Ideal S128x1536 .bf16) (H : Vec Ideal S16x1536 .bf16) (e : Fin 144) (j : Fin 1536) :
    k0_pay3 i X H (ix2 e j) = if h : e.val < 16 then Scalar.select (Scalar.cmpi CmpIPredicate.eq (BitVec.ofNat 32 (i 0).val) 0#32) (0 : EReal) (H (ix2 ⟨e.val, h⟩ j)) else X (ix2 ⟨e.val - 16, by omega⟩ j) := by
  unfold k0_pay3
  pointwise

theorem pay4_at (i : grid0.Coords) (X : Vec Ideal S128x1536 .bf16) (H : Vec Ideal S16x1536 .bf16) (a b c : Vec Ideal S1x1536 .f32) (E : Fin 144 → Fin 1536 → EReal) (hE : ∀ e j, k0_pay3 i X H (ix2 e j) = E e j) (l : Fin 128) (j : Fin 1536) :
    k0_pay4 i X H a b c (ix2 l j) = (a (ix2 0 j) * E ⟨l.val + 13, by omega⟩ j + b (ix2 0 j) * E ⟨l.val + 14, by omega⟩ j + c (ix2 0 j) * E ⟨l.val + 15, by omega⟩ j : EReal) := by
  unfold k0_pay4
  generalize k0_pay3 i X H = e at hE ⊢
  pointwise
  rw [hE, hE, hE]
  have e1 : ∀ hi, (⟨(16 + l.val + 144 - 3) % 144, hi⟩ : Fin 144) = ⟨l.val + 13, by omega⟩ := fun _ => Fin.ext (by show _ % 144 = l.val + 13; omega)
  have e2 : ∀ hi, (⟨(16 + l.val + 144 - 2) % 144, hi⟩ : Fin 144) = ⟨l.val + 14, by omega⟩ := fun _ => Fin.ext (by show _ % 144 = l.val + 14; omega)
  have e3 : ∀ hi, (⟨(16 + l.val + 144 - 1) % 144, hi⟩ : Fin 144) = ⟨l.val + 15, by omega⟩ := fun _ => Fin.ext (by show _ % 144 = l.val + 15; omega)
  rw [e1, e2, e3]

theorem pay5_at (e : FVec Ideal S144x1536 .f32) (b : Vec Ideal S1x1536 .f32) (p : FVec Ideal S128x1536 .f32) (w : Vec Ideal S1x1536 .f32) (l : Fin 128) (j : Fin 1536) :
    k0_pay5 e b p w (ix2 l j) = (b (ix2 0 j) + (p (ix2 l j) + w (ix2 0 j) * e (ix2 ⟨16 + l.val, by omega⟩ j)) : EReal) := by
  unfold k0_pay5
  pointwise

theorem pay6_at (e : FVec Ideal S144x1536 .f32) (b : Vec Ideal S1x1536 .f32) (p : FVec Ideal S128x1536 .f32) (w : Vec Ideal S1x1536 .f32) (l : Fin 128) (j : Fin 1536) :
    k0_pay6 e b p w (ix2 l j) = k0_pay5 e b p w (ix2 l j) := by
  unfold k0_pay6
  pointwise

theorem pay7_at (e : FVec Ideal S144x1536 .f32) (b : Vec Ideal S1x1536 .f32) (p : FVec Ideal S128x1536 .f32) (w : Vec Ideal S1x1536 .f32) (l : Fin 128) (j : Fin 1536) :
    k0_pay7 e b p w (ix2 l j) = (k0_pay5 e b p w (ix2 l j) * Ideal.logistic (k0_pay5 e b p w (ix2 l j)) : EReal) := by
  unfold k0_pay7
  pointwise

/-! ### The time steps and the decays' sums -/

section Steps

variable (D : Vec Ideal S128x128 .f32) (tb al : Vec Ideal S1x128 .f32)

theorem pay8_at (l h : Fin 128) : k0_pay8 D tb (ix2 l h) = sp (D (ix2 l h) + tb (ix2 0 h) : EReal) := by
  unfold k0_pay8
  pointwise
  rw [zero_sub]
  rfl

theorem pay9_at (l h : Fin 128) : k0_pay9 D tb al (ix2 l h) = (sp (D (ix2 l h) + tb (ix2 0 h) : EReal) * -Ideal.exp (al (ix2 0 h)) : EReal) := by
  unfold k0_pay9
  pointwise [pay8_at]
  rw [zero_sub]

theorem pay10_at (l h : Fin 128) : k0_pay10 D tb al (ix2 l h) = (∑ s : Fin 128, if s.val ≤ l.val then k0_pay9 D tb al (ix2 s h) else 0 : EReal) := by
  unfold k0_pay10
  pointwise
  show (_ : EReal) = _
  refine Finset.sum_congr rfl fun s _ => ?_
  rw [ind]
  split
  · exact one_mul _
  · exact zero_mul _

theorem pay11_at (h l : Fin 128) : k0_pay11 D tb al (ix2 h l) = (∑ s : Fin 128, if s.val ≤ l.val then k0_pay9 D tb al (ix2 s h) else 0 : EReal) := by
  unfold k0_pay11
  pointwise
  show (_ : EReal) = _
  refine Finset.sum_congr rfl fun s _ => ?_
  rw [ind]
  split
  · exact mul_one _
  · exact mul_zero _

end Steps

theorem colv_at (v : FVec Ideal S128x128 .f32) (h : Fin 16) (l : Fin 128) (p : Fin 64) : colv v h (ix2 l p) = v (ix2 l ⟨h.val, by omega⟩) := by
  unfold colv
  pointwise

theorem wide_at' (v : FVec Ideal S128x128 .f32) (l : Fin 128) (j : Fin 1024) : wide (colv v) (ix2 l j) = v (ix2 l ⟨(hd j).val, by omega⟩) :=
  colv_at v (hd j) l ⟨j.val % 64, Nat.mod_lt _ (by decide)⟩

/-! ### The chunk -/

theorem lmv_at (A B : FVec Ideal S128x128 .f32) (Cs : Fin 128 → Fin 16 → EReal) (hA : ∀ l (h : Fin 16), A (ix2 l ⟨h.val, by omega⟩) = Cs l h) (hB : ∀ l (h : Fin 16), B (ix2 ⟨h.val, by omega⟩ l) = Cs l h) (h : Fin 16) (l s : Fin 128) :
    lmv A B h (ix2 l s) = lM Cs h l s := by
  unfold lmv
  pointwise
  rw [sge_row, hA, hB, masked_eq]
  unfold lM
  by_cases hh : s.val ≤ l.val
  · rw [if_pos hh, if_pos hh]; rfl
  · rw [if_neg hh, if_neg hh]
    show Ideal.exp ⊥ = 0
    exact Ideal.exp_bot

section Chunk

variable (i : grid0.Coords) (L : Ld Ideal) (Act : Fin 128 → Fin 1536 → EReal) (Dt Cs : Fin 128 → Fin 16 → EReal) (S : Fin 2 → Fin 128 → Fin 512 → EReal) (ds : Fin 16 → EReal)
  (hAct : ∀ l j, act i L (ix2 l j) = Act l j) (hT : ∀ l j, L.T (ix2 l j) = Dt l (hd j)) (hC : ∀ l j, L.C (ix2 l j) = Cs l (hd j))
  (hA : ∀ l (h : Fin 16), k0_pay10 L.D L.tb L.al (ix2 l ⟨h.val, by omega⟩) = Cs l h) (hB : ∀ l (h : Fin 16), k0_pay11 L.D L.tb L.al (ix2 ⟨h.val, by omega⟩ l) = Cs l h)
  (hS : ∀ g n q, L.s g (ix3 0 n q) = S g n q) (hk : ∀ g q, L.k g (ix2 0 q) = ds (hd (gq g q)))
include hAct

theorem xs_at (l : Fin 128) (j : Fin 1024) : xs i L (ix2 l j) = Act l (xj j) := by
  unfold xs k0_pay53
  pointwise
  exact hAct l (xj j)

theorem Bm_at (g : Fin 2) (l n : Fin 128) : Bm i L g (ix2 l n) = Act l (bj g n) := by
  unfold Bm
  pointwise
  exact hAct l (bj g n)

theorem Cm_at (g : Fin 2) (l n : Fin 128) : Cm i L g (ix2 l n) = Act l (cj g n) := by
  unfold Cm
  pointwise
  exact hAct l (cj g n)

theorem cb_at (g : Fin 2) (l s : Fin 128) : cb i L g (ix2 l s) = (∑ n : Fin 128, Act l (cj g n) * Act s (bj g n) : EReal) := by
  unfold cb
  pointwise [Cm_at i L Act hAct, Bm_at i L Act hAct]

include hT in
theorem xdt_at (l : Fin 128) (j : Fin 1024) : xdt i L (ix2 l j) = (Act l (xj j) * Dt l (hd j) : EReal) := by
  unfold xdt k0_pay54
  pointwise [xs_at i L Act hAct, hT]

include hS in
theorem yo_at (g : Fin 2) (l : Fin 128) (q : Fin 512) : yo i L g (ix2 l q) = (∑ n : Fin 128, Act l (cj g n) * S g n q : EReal) := by
  unfold yo
  pointwise [Cm_at i L Act hAct, hS]

include hT hC in
theorem sl_at (g : Fin 2) (n : Fin 128) (q : Fin 512) : sl i L g (ix2 n q) = (∑ l : Fin 128, Act l (bj g n) * (Act l (xj (gq g q)) * Dt l (hd (gq g q)) * Ideal.exp (Cs 127 (hd (gq g q)) - Cs l (hd (gq g q)))) : EReal) := by
  unfold sl k0_pay55 k0_pay54 k0_pay51 k0_pay49
  pointwise [Bm_at i L Act hAct, xs_at i L Act hAct, hT, hC]
  rfl

include hC hS hk in
theorem gb_at (g : Fin 2) (l : Fin 128) (q : Fin 512) : gb i L g (ix2 l q)
    = ((∑ n : Fin 128, Act l (cj g n) * S g n q) * Ideal.exp (Cs l (hd (gq g q))) + Act l (xj (gq g q)) * ds (hd (gq g q)) : EReal) := by
  unfold gb gbv k0_pay50
  pointwise [yo_at i L Act S hAct hS, xs_at i L Act hAct, hC, hk]
  rfl

include hT hC hS in
theorem ns_at (g : Fin 2) (n : Fin 128) (q : Fin 512) : ns i L g (ix3 0 n q) = nM Act Dt Cs S g n q := by
  unfold ns k0_pay52 k0_pay49 nM
  pointwise [sl_at i L Act Dt Cs hAct hT hC, hC, hS]
  rfl

include hT hA hB in
theorem yd_at (h : Fin 16) (l : Fin 128) (p : Fin 64) (j : Fin 1024) (hj : j.val = 64 * h.val + p.val) : yd i L h (ix2 l p) = ydM Act Dt Cs l j := by
  have e1 : hd j = h := Fin.ext (by show j.val / 64 = _; omega)
  have e2 : gr j = ⟨h.val / 8, by omega⟩ := Fin.ext (by show j.val / 512 = h.val / 8; omega)
  unfold yd ydv ydM
  rw [e1, e2]
  pointwise [cb_at i L Act hAct, xdt_at i L Act Dt hAct hT, lmv_at _ _ Cs hA hB]
  have e3 : ∀ hi, (⟨64 * h.val + p.val, hi⟩ : Fin 1024) = j := fun _ => Fin.ext hj.symm
  simp only [e3, e1]

include hT hC hA hB hS hk in
theorem yv_at (l : Fin 128) (j : Fin 1024) : yv i L (ix2 l j) = yM Act Dt Cs S ds l j := by
  have e : gq (gr j) (pl j) = j := Fin.ext (by show 512 * (j.val / 512) + j.val % 512 = _; omega)
  have h1 : pair (gb i L) (ix2 l j) = _ := gb_at i L Act Cs S ds hAct hC hS hk (gr j) l (pl j)
  have h2 : wide (yd i L) (ix2 l j) = _ := yd_at i L Act Dt Cs hAct hT hA hB (hd j) l ⟨j.val % 64, Nat.mod_lt _ (by decide)⟩ j (by show j.val = 64 * (j.val / 64) + j.val % 64; omega)
  rw [e] at h1
  unfold yv
  rw [addf_apply, h1, h2]
  rfl

end Chunk

/-! ### The results -/

theorem pay129_at (y : Vec Ideal S128x1024 .f32) (l : Fin 128) (j : Fin 1024) : k0_pay129 y (ix2 l j) = y (ix2 l j) := by
  unfold k0_pay129
  pointwise

theorem pay1_at (y : Vec Ideal S128x1024 .f32) (z : Vec Ideal S128x1024 .bf16) (w : Vec Ideal S1x1024 .f32) (l : Fin 128) (j : Fin 1024) :
    k0_pay1 (k0_pay130 y z) (k0_pay131 y z) w (ix2 l j) = oM (fun l j => z (ix2 l j)) (fun j => w (ix2 0 j)) (fun l j => y (ix2 l j)) l j := by
  unfold k0_pay1 k0_pay131 k0_pay130 oM gM
  pointwise

theorem pay107_at (s : Vec Ideal S1x128x512 .f32) (n : Fin 128) (q : Fin 512) : k0_pay107 s (ix4 0 0 n q) = s (ix3 0 n q) := by
  unfold k0_pay107
  pointwise

theorem pay2_at (y : S2x128x512.Idx) : k0_pay2 (F := Ideal) y = 0 := by
  unfold k0_pay2
  pointwise

end Cert.Kernel4Ideal.Sf

end
-- ==== Proof.SfHost.lean ====
module

public import proofs.«01_k».proof.Proof.SfPoint
public import proofs.«01_k».proof.Proof.Gen.Kernel4Ideal.Value
public import Idealize.ShloMosaic.Lib.StableHlo.Run
public import Idealize.ShloMosaic.Lib.StableHlo.RunRead

@[expose] public section

set_option maxRecDepth 16384

noncomputable section

open Idealize.ShloMosaic Idealize.ShloMosaic.TcCoe Idealize.SL.Sem

/-! The arrays the state-space kernel's host lines make, read at an index. -/

namespace Cert.Kernel4Ideal.Sf

open Cert.Kernel4Ideal Cert.Kernel4Ideal.Gen Cert.SfMath Cert.RealFacts

variable (m : (ℓ : Loc nD τ sig) → Buf (Elt Ideal) ℓ) (c : Dev nD)

/-- The arguments, by entry. -/
def args (z : FVec Ideal S1x8192x1024 .f32) (x : FVec Ideal S1x8192x1536 .f32) (d : FVec Ideal S1x8192x16 .f32) (cw : FVec Ideal S1x4x1536 .f32) (cb : FVec Ideal S1x1536 .f32)
    (db al ds : FVec Ideal S1x16 .f32) (nw : FVec Ideal S1x1024 .f32) : Args where
  z t j := z (ix3 0 t j)
  x t j := x (ix3 0 t j)
  d t h := d (ix3 0 t h)
  cw k j := cw (ix3 0 k j)
  cb j := cb (ix2 0 j)
  db h := db (ix2 0 h)
  al h := al (ix2 0 h)
  ds h := ds (ix2 0 h)
  nw j := nw (ix2 0 j)

/-- The program's arguments. -/
def A : Args := args (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))

theorem V_v9 (t : Fin 8192) (j : Fin 1536) : (V m c main_v9 : FVec Ideal S8192x1536 .bf16) (ix2 t j) = (A m c).x t j := by
  unfold_abbrev_sides
  after_reads_simp
  pointwise

theorem V_v11 (t : Fin 8192) (j : Fin 1024) : (V m c main_v11 : FVec Ideal S8192x1024 .bf16) (ix2 t j) = (A m c).z t j := by
  unfold_abbrev_sides
  after_reads_simp
  pointwise

theorem V_v7 (j : Fin 1024) : (V m c main_v7 : FVec Ideal S1x1024 .f32) (ix2 0 j) = (A m c).ds (hd j) := by
  unfold_abbrev_sides
  after_reads_simp
  pointwise
  rfl

theorem cast_d (x : FVec Ideal S1x8192x16 .f32) (t : Fin 8192) (h : Fin 16) : shapeCast S8192x16 x shapeCasts_S1x8192x16_S8192x16 (ix2 t h) = x (ix3 0 t h) := by
  pointwise

theorem cast_w (x : FVec Ideal S1x4x1536 .f32) (k : Fin 4) (j : Fin 1536) : shapeCast S4x1536 x shapeCasts_S1x4x1536_S4x1536 (ix2 k j) = x (ix3 0 k j) := by
  pointwise

theorem V_v1 (t : Fin 8192) (h : Fin 16) : (V m c main_v1 : FVec Ideal S8192x128 .f32) (ix2 t ⟨h.val, by omega⟩) = (A m c).d t h := by
  unfold_abbrev_sides
  after_reads_simp
  unfold StableHlo.TRef.toBuf StableHlo.TRef.ofBuf
  simp only [cast_eq, eqRec_eq_cast, id]
  refine (pad2_in (a := 8192) (b := 16) (a' := 8192) (b' := 128) _ _ _ _ _ t ⟨h.val, by omega⟩ t.isLt h.isLt).trans ?_
  exact cast_d _ t h

theorem V_v3 (k : Fin 4) (j : Fin 1536) : (V m c main_v3 : FVec Ideal S8x1536 .f32) (ix2 ⟨k.val, by omega⟩ j) = (A m c).cw k j := by
  unfold_abbrev_sides
  after_reads_simp
  unfold StableHlo.TRef.toBuf StableHlo.TRef.ofBuf
  simp only [cast_eq, eqRec_eq_cast, id]
  refine (pad2_in (a := 4) (b := 1536) (a' := 8) (b' := 1536) _ _ _ _ _ ⟨k.val, by omega⟩ j k.isLt j.isLt).trans ?_
  exact cast_w _ k j

theorem V_v4 (h : Fin 16) : (V m c main_v4 : FVec Ideal S1x128 .f32) (ix2 0 ⟨h.val, by omega⟩) = (A m c).db h := by
  unfold_abbrev_sides
  after_reads_simp
  unfold StableHlo.TRef.toBuf StableHlo.TRef.ofBuf
  simp only [cast_eq, eqRec_eq_cast, id]
  exact pad2_in (a := 1) (b := 16) (a' := 1) (b' := 128) _ _ _ _ _ (0 : Fin 1) ⟨h.val, by omega⟩ (by decide) h.isLt

theorem V_v5 (h : Fin 16) : (V m c main_v5 : FVec Ideal S1x128 .f32) (ix2 0 ⟨h.val, by omega⟩) = (A m c).al h := by
  unfold_abbrev_sides
  after_reads_simp
  unfold StableHlo.TRef.toBuf StableHlo.TRef.ofBuf
  simp only [cast_eq, eqRec_eq_cast, id]
  exact pad2_in (a := 1) (b := 16) (a' := 1) (b' := 128) _ _ _ _ _ (0 : Fin 1) ⟨h.val, by omega⟩ (by decide) h.isLt

end Cert.Kernel4Ideal.Sf

end
-- ==== Proof.SfRun.lean ====
module

public import Idealize.ShloMosaic.Lib.Pipeline.ValueKit
public import Idealize.ShloMosaic.Lib.Tactic
public import proofs.«01_k».proof.Proof.SfHost

@[expose] public section

set_option maxRecDepth 16384

noncomputable section

open Idealize.ShloMosaic Idealize.ShloMosaic.TcCoe Idealize.SL.Sem

/-! What the state-space kernel leaves in its result arrays, point by point of the grid. -/

namespace Cert.Kernel4Ideal.Sf

open Cert.Kernel4Ideal Cert.Kernel4Ideal.Gen Cert.Kernel4Ideal.Value Cert.SfMath
open Cert.RfMath (row row_val)

variable (m : (ℓ : Loc nD τ sig) → Buf (Elt Ideal) ℓ) (c : Dev nD)

/-! ### The blocks of a point -/

theorem at0 : ∀ t : Fin cfg0.N, win0_0.index t = ![t.val, 0] := (by decide +kernel : ∀ t : Fin grid0.N, win0_0.index t = ![t.val, 0])

theorem blk0 (t : Fin cfg0.N) (p : Fin 128) (j : Fin 1536) :
    (iblk m c 0 t : FVec Ideal S128x1536 .bf16) (ix2 p j) = (A m c).x (row t.val p) j := by
  refine Eq.trans ?_ (V_v9 m c (row t.val p) j)
  blk_simp [iblk]
  refine congrArg _ (funext fun a => Fin.ext ?_)
  fin_cases a <;> blk_simp [at0] <;> simp [row_val _ (lt_of_lt_of_eq t.isLt N_0)] <;> omega

theorem at2 : ∀ t : Fin cfg0.N, win0_2.index t = ![t.val, 0] := (by decide +kernel : ∀ t : Fin grid0.N, win0_2.index t = ![t.val, 0])

theorem blk2 (t : Fin cfg0.N) (p : Fin 128) (j : Fin 16) :
    (iblk m c 2 t : FVec Ideal S128x128 .f32) (ix2 p ⟨j.val, by omega⟩) = (A m c).d (row t.val p) j := by
  refine Eq.trans ?_ (V_v1 m c (row t.val p) j)
  blk_simp [iblk]
  refine congrArg _ (funext fun a => Fin.ext ?_)
  fin_cases a <;> blk_simp [at2] <;> simp [row_val _ (lt_of_lt_of_eq t.isLt N_0)] <;> omega

theorem at3 : ∀ t : Fin cfg0.N, win0_3.index t = ![t.val, 0] := (by decide +kernel : ∀ t : Fin grid0.N, win0_3.index t = ![t.val, 0])

theorem blk3 (t : Fin cfg0.N) (p : Fin 128) (j : Fin 1024) :
    (iblk m c 3 t : FVec Ideal S128x1024 .bf16) (ix2 p j) = (A m c).z (row t.val p) j := by
  refine Eq.trans ?_ (V_v11 m c (row t.val p) j)
  blk_simp [iblk]
  refine congrArg _ (funext fun a => Fin.ext ?_)
  fin_cases a <;> blk_simp [at3] <;> simp [row_val _ (lt_of_lt_of_eq t.isLt N_0)] <;> omega

theorem at4 : ∀ t : Fin cfg0.N, win0_4.index t = ![0, 0] := (by decide +kernel : ∀ t : Fin grid0.N, win0_4.index t = ![0, 0])

theorem blk4 (t : Fin cfg0.N) (p : Fin 4) (j : Fin 1536) :
    (iblk m c 4 t : FVec Ideal S8x1536 .f32) (ix2 ⟨p.val, by omega⟩ j) = (A m c).cw p j := by
  refine Eq.trans ?_ (V_v3 m c p j)
  blk_simp [iblk]
  refine congrArg _ (funext fun a => Fin.ext ?_)
  fin_cases a <;> blk_simp [at4] <;> simp

theorem at5 : ∀ t : Fin cfg0.N, win0_5.index t = ![0, 0] := (by decide +kernel : ∀ t : Fin grid0.N, win0_5.index t = ![0, 0])

theorem blk5 (t : Fin cfg0.N) (j : Fin 1536) :
    (iblk m c 5 t : FVec Ideal S1x1536 .f32) (ix2 0 j) = (A m c).cb j := by
  refine Eq.trans ?_ (congrFun (V_main_arg4 m c) (ix2 0 j))
  blk_simp [iblk]
  refine congrArg _ (funext fun a => Fin.ext ?_)
  fin_cases a <;> blk_simp [at5] <;> simp

theorem at6 : ∀ t : Fin cfg0.N, win0_6.index t = ![0, 0] := (by decide +kernel : ∀ t : Fin grid0.N, win0_6.index t = ![0, 0])

theorem blk6 (t : Fin cfg0.N) (j : Fin 16) :
    (iblk m c 6 t : FVec Ideal S1x128 .f32) (ix2 0 ⟨j.val, by omega⟩) = (A m c).db j := by
  refine Eq.trans ?_ (V_v4 m c j)
  blk_simp [iblk]
  refine congrArg _ (funext fun a => Fin.ext ?_)
  fin_cases a <;> blk_simp [at6] <;> simp

theorem at7 : ∀ t : Fin cfg0.N, win0_7.index t = ![0, 0] := (by decide +kernel : ∀ t : Fin grid0.N, win0_7.index t = ![0, 0])

theorem blk7 (t : Fin cfg0.N) (j : Fin 16) :
    (iblk m c 7 t : FVec Ideal S1x128 .f32) (ix2 0 ⟨j.val, by omega⟩) = (A m c).al j := by
  refine Eq.trans ?_ (V_v5 m c j)
  blk_simp [iblk]
  refine congrArg _ (funext fun a => Fin.ext ?_)
  fin_cases a <;> blk_simp [at7] <;> simp

theorem at8 : ∀ t : Fin cfg0.N, win0_8.index t = ![0, 0] := (by decide +kernel : ∀ t : Fin grid0.N, win0_8.index t = ![0, 0])

theorem blk8 (t : Fin cfg0.N) (j : Fin 1024) :
    (iblk m c 8 t : FVec Ideal S1x1024 .f32) (ix2 0 j) = (A m c).ds (hd j) := by
  refine Eq.trans ?_ (V_v7 m c j)
  blk_simp [iblk]
  refine congrArg _ (funext fun a => Fin.ext ?_)
  fin_cases a <;> blk_simp [at8] <;> simp

theorem at9 : ∀ t : Fin cfg0.N, win0_9.index t = ![0, 0] := (by decide +kernel : ∀ t : Fin grid0.N, win0_9.index t = ![0, 0])

theorem blk9 (t : Fin cfg0.N) (j : Fin 1024) :
    (iblk m c 9 t : FVec Ideal S1x1024 .f32) (ix2 0 j) = (A m c).nw j := by
  refine Eq.trans ?_ (congrFun (V_main_arg8 m c) (ix2 0 j))
  blk_simp [iblk]
  refine congrArg _ (funext fun a => Fin.ext ?_)
  fin_cases a <;> blk_simp [at9] <;> simp

theorem at1 : ∀ t : Fin cfg0.N, win0_1.index t = ![8 * t.val - 1, 0] := (by decide +kernel : ∀ t : Fin grid0.N, win0_1.index t = ![8 * t.val - 1, 0])

/-- The rows before a chunk. -/
theorem blk1 (t : Fin cfg0.N) (p : Fin 16) (j : Fin 1536) (ht : 0 < t.val) (hi : 128 * t.val + p.val - 16 < 8192) :
    (iblk m c 1 t : FVec Ideal S16x1536 .bf16) (ix2 p j) = (A m c).x ⟨128 * t.val + p.val - 16, hi⟩ j := by
  refine Eq.trans ?_ (V_v9 m c ⟨128 * t.val + p.val - 16, hi⟩ j)
  blk_simp [iblk]
  refine congrArg _ (funext fun a => Fin.ext ?_)
  fin_cases a <;> blk_simp [at1] <;> simp <;> omega

theorem first : ∀ t : Fin cfg0.N, Scalar.cmpi CmpIPredicate.eq (BitVec.ofNat 32 (grid0.coords t 0).val) 0#32 = if t.val = 0 then 1#1 else 0#1 :=
  (by decide +kernel : ∀ t : Fin grid0.N, Scalar.cmpi CmpIPredicate.eq (BitVec.ofNat 32 (grid0.coords t 0).val) 0#32 = if t.val = 0 then 1#1 else 0#1)

/-! ### A point -/

/-- The values point `t` loads, the state before it given. -/
def LD (t : Fin cfg0.N) (st : Vec Ideal S2x128x512 .f32) : Ld Ideal :=
  ld (iblk m c 0 t) (iblk m c 1 t) (iblk m c 2 t) (iblk m c 4 t) (iblk m c 5 t) (iblk m c 6 t) (iblk m c 7 t) (iblk m c 8 t) st

/-- What a point leaves, the state before it given. -/
def point (t : Fin cfg0.N) (st : Vec Ideal S2x128x512 .f32) : Vec Ideal S128x1024 .bf16 × Vec Ideal S128x1024 .bf16 × Vec Ideal S128x1536 .bf16 × Vec Ideal S1x2x128x512 .f32 × Vec Ideal S2x128x512 .f32 :=
  (k0_pay1 (k0_pay130 (yv (grid0.coords t) (LD m c t st)) (iblk m c 3 t)) (k0_pay131 (yv (grid0.coords t) (LD m c t st)) (iblk m c 3 t)) (iblk m c 9 t),
    k0_pay129 (yv (grid0.coords t) (LD m c t st)), uv (grid0.coords t) (LD m c t st),
    stk4 (fun g => k0_pay107 (View.ld st (Rect.unit (s := S2x128x512) ![g.val, 0, 0] S1x128x512.size (stB g)))), stk (ns (grid0.coords t) (LD m c t st)))

theorem outs_A (t : Fin cfg0.N) (h0 : t.val % 64 = 0) : outsAt0 m c t.val t.isLt = point m c t (k0_pay2 (F := Ideal)) := by
  rw [outsAt0_A m c t h0]
  unfold point LD
  refine congrArg₂ Prod.mk (out_A10 ..) ?_
  refine congrArg₂ Prod.mk (out_A11 ..) ?_
  refine congrArg₂ Prod.mk (out_A12 ..) ?_
  refine congrArg₂ Prod.mk (out_A13 ..) ?_
  exact sout_A ..

theorem outs_B (t : Fin cfg0.N) (h0 : ¬t.val % 64 = 0) : outsAt0 m c t.val t.isLt = point m c t (outsAt0 m c (t.val - 1) (by omega)).2.2.2.2 := by
  rw [outsAt0_B m c t h0]
  generalize (outsAt0 m c (t.val - 1) _).2.2.2.2 = st
  unfold point LD
  refine congrArg₂ Prod.mk (out_B10 ..) ?_
  refine congrArg₂ Prod.mk (out_B11 ..) ?_
  refine congrArg₂ Prod.mk (out_B12 ..) ?_
  refine congrArg₂ Prod.mk (out_B13 ..) ?_
  exact sout_B ..

/-- The state before a point. -/
def prev : (n : ℕ) → n < cfg0.N → Vec Ideal S2x128x512 .f32
  | 0, _ => k0_pay2 (F := Ideal)
  | n + 1, hn => (outsAt0 m c n (Nat.lt_of_succ_lt hn)).2.2.2.2

theorem outs_eq (t : Fin cfg0.N) : outsAt0 m c t.val t.isLt = point m c t (prev m c t.val t.isLt) := by
  have hN : cfg0.N = 64 := N_0
  obtain ⟨n, hn⟩ := t
  match n with
  | 0 => exact outs_A m c ⟨0, hn⟩ (Nat.zero_mod _)
  | n + 1 => exact outs_B m c ⟨n + 1, hn⟩ (by show ¬ (n + 1) % 64 = 0; omega)

/-! ### A point's values are the chunk's -/

section Point

variable (t : Fin cfg0.N) (st : Vec Ideal S2x128x512 .f32)

/-- A chunk's rows with the sixteen before it, zeros before the first chunk. -/
def EE (A : Args) (n : ℕ) (e : Fin 144) (j : Fin 1536) : EReal := if 128 * n + e.val < 16 then 0 else A.x ⟨(128 * n + e.val - 16) % 8192, Nat.mod_lt _ (by decide)⟩ j

theorem ext_eq (e : Fin 144) (j : Fin 1536) : k0_pay3 (grid0.coords t) (LD m c t st).X (LD m c t st).H (ix2 e j) = EE (A m c) t.val e j := by
  have ht : t.val < 64 := lt_of_lt_of_eq t.isLt N_0
  refine (pay3_at _ _ _ e j).trans ?_
  unfold EE
  rw [first t]
  split
  · rename_i he
    by_cases h0 : t.val = 0
    · rw [if_pos h0, if_pos (by omega)]; rfl
    · rw [if_neg h0, if_neg (by omega)]
      refine (blk1 m c t ⟨e.val, he⟩ j (by omega) (by dsimp only; omega)).trans (congrArg (fun r => (A m c).x r j) (Fin.ext ?_))
      show 128 * t.val + e.val - 16 = (128 * t.val + e.val - 16) % 8192
      omega
  · rename_i he
    rw [if_neg (by omega)]
    refine (blk0 m c t ⟨e.val - 16, by omega⟩ j).trans (congrArg (fun r => (A m c).x r j) (Fin.ext ?_))
    rw [row_val _ ht]
    show 128 * t.val + (e.val - 16) = (128 * t.val + e.val - 16) % 8192
    omega

theorem EE_bk (A : Args) (n : ℕ) (hn : n < 64) (l : Fin 128) (s : ℕ) (hs : s ≤ 16) (e : Fin 144) (he : e.val + s = l.val + 16) (j : Fin 1536) : EE A n e j = bk A s (row n l) j := by
  have hr := row_val n hn l
  unfold EE bk
  by_cases h : 128 * n + e.val < 16
  · rw [if_pos h, if_neg (by omega)]
  · rw [if_neg h, if_pos (by omega)]
    refine congrArg (fun r => A.x r j) (Fin.ext ?_)
    show (128 * n + e.val - 16) % 8192 = (row n l).val - s
    omega

theorem w_eq (k : Fin 4) (j : Fin 1536) : (LD m c t st).w k (ix2 0 j) = (A m c).cw k j := by
  refine Eq.trans (b := (iblk m c 4 t : FVec Ideal S8x1536 .f32) (ix2 ⟨k.val, by omega⟩ j)) ?_ (blk4 m c t k j)
  unfold LD ld
  dsimp only
  pointwise

theorem u_eq (l : Fin 128) (j : Fin 1536) : k0_pay5 (k0_pay3 (grid0.coords t) (LD m c t st).X (LD m c t st).H) (LD m c t st).b
    (k0_pay4 (grid0.coords t) (LD m c t st).X (LD m c t st).H ((LD m c t st).w 0) ((LD m c t st).w 1) ((LD m c t st).w 2)) ((LD m c t st).w 3) (ix2 l j) = UU (A m c) (row t.val l) j := by
  have ht : t.val < 64 := lt_of_lt_of_eq t.isLt N_0
  rw [pay5_at, pay4_at _ _ _ _ _ _ _ (ext_eq m c t st), ext_eq, w_eq, w_eq, w_eq, w_eq, EE_bk _ _ ht l 3 (by omega) _ rfl, EE_bk _ _ ht l 2 (by omega) _ rfl, EE_bk _ _ ht l 1 (by omega) _ rfl,
    EE_bk _ _ ht l 0 (by omega) _ (Nat.add_comm 16 l.val)]
  rw [show (LD m c t st).b (ix2 0 j) = (A m c).cb j from blk5 m c t j]
  rw [show bk (A m c) 0 (row t.val l) j = (A m c).x (row t.val l) j from if_pos (Nat.zero_le _)]
  rfl

theorem uv_eq (l : Fin 128) (j : Fin 1536) : uv (grid0.coords t) (LD m c t st) (ix2 l j) = UU (A m c) (row t.val l) j := by
  unfold uv
  rw [pay6_at]
  exact u_eq m c t st l j

theorem act_eq (l : Fin 128) (j : Fin 1536) : act (grid0.coords t) (LD m c t st) (ix2 l j) = AC (A m c) t.val l j := by
  unfold act
  rw [pay7_at, u_eq]
  rfl

theorem T_eq (l : Fin 128) (j : Fin 1024) : (LD m c t st).T (ix2 l j) = DC (A m c) t.val l (hd j) := by
  refine (wide_at' _ l j).trans ((pay8_at _ _ _ _).trans ?_)
  exact congrArg₂ (fun x y : EReal => sp (x + y)) (blk2 m c t l (hd j)) (blk6 m c t (hd j))

theorem da_eq (s : Fin 128) (h : Fin 16) (hi : h.val < 128) : k0_pay9 (LD m c t st).D (LD m c t st).tb (LD m c t st).al (ix2 s ⟨h.val, hi⟩) = DA (A m c) (row t.val s) h := by
  refine (pay9_at _ _ _ _ _).trans ?_
  unfold DA DT
  refine congrArg₂ (fun x y : EReal => x * -Ideal.exp y) ?_ (blk7 m c t h)
  exact congrArg₂ (fun x y : EReal => sp (x + y)) (blk2 m c t s h) (blk6 m c t h)

theorem cs_eq (l : Fin 128) (h : Fin 16) (hi : h.val < 128) : k0_pay10 (LD m c t st).D (LD m c t st).tb (LD m c t st).al (ix2 l ⟨h.val, hi⟩) = CS (A m c) t.val l h := by
  refine (pay10_at _ _ _ _ _).trans (Finset.sum_congr rfl fun s _ => ?_)
  rw [da_eq]

theorem cst_eq (l : Fin 128) (h : Fin 16) (hi : h.val < 128) : k0_pay11 (LD m c t st).D (LD m c t st).tb (LD m c t st).al (ix2 ⟨h.val, hi⟩ l) = CS (A m c) t.val l h := by
  refine (pay11_at _ _ _ _ _).trans (Finset.sum_congr rfl fun s _ => ?_)
  rw [da_eq]

theorem C_eq (l : Fin 128) (j : Fin 1024) : (LD m c t st).C (ix2 l j) = CS (A m c) t.val l (hd j) :=
  (wide_at' _ l j).trans (cs_eq m c t st l (hd j) _)

theorem k_eq (g : Fin 2) (q : Fin 512) : (LD m c t st).k g (ix2 0 q) = (A m c).ds (hd (gq g q)) := by
  refine Eq.trans (b := (iblk m c 8 t : FVec Ideal S1x1024 .f32) (ix2 0 (gq g q))) ?_ (blk8 m c t (gq g q))
  unfold LD ld gq
  dsimp only
  pointwise

variable (S : Fin 2 → Fin 128 → Fin 512 → EReal) (hS : ∀ g n q, st (ix3 g n q) = S g n q)
include hS

theorem s_eq (g : Fin 2) (n : Fin 128) (q : Fin 512) : View.ld st (Rect.unit (s := S2x128x512) ![g.val, 0, 0] S1x128x512.size (stB g)) (ix3 0 n q) = S g n q := by
  refine Eq.trans (b := st (ix3 g n q)) ?_ (hS g n q)
  pointwise

theorem y_eq (l : Fin 128) (j : Fin 1024) : yv (grid0.coords t) (LD m c t st) (ix2 l j) = yM (AC (A m c) t.val) (DC (A m c) t.val) (CS (A m c) t.val) S (A m c).ds l j :=
  yv_at _ _ _ _ _ _ _ (act_eq m c t st) (T_eq m c t st) (C_eq m c t st) (fun l h => cs_eq m c t st l h _) (fun l h => cst_eq m c t st l h _) (s_eq st S hS) (k_eq m c t st) l j

theorem n_eq (g : Fin 2) (n : Fin 128) (q : Fin 512) : stk (ns (grid0.coords t) (LD m c t st)) (ix3 g n q) = nM (AC (A m c) t.val) (DC (A m c) t.val) (CS (A m c) t.val) S g n q :=
  ns_at _ _ _ _ _ _ (act_eq m c t st) (T_eq m c t st) (C_eq m c t st) (s_eq st S hS) g n q

end Point

/-- The state before a point is the chunk's. -/
theorem prev_eq (n : ℕ) (hn : n < cfg0.N) (g : Fin 2) (k : Fin 128) (q : Fin 512) : prev m c n hn (ix3 g k q) = ST (A m c) n g k q := by
  induction n generalizing g k q with
  | zero => exact pay2_at _
  | succ n ih =>
    have hp : prev m c (n + 1) hn = stk (ns (grid0.coords ⟨n, Nat.lt_of_succ_lt hn⟩) (LD m c ⟨n, Nat.lt_of_succ_lt hn⟩ (prev m c n (Nat.lt_of_succ_lt hn)))) :=
      congrArg (fun o => o.2.2.2.2) (outs_eq m c ⟨n, Nat.lt_of_succ_lt hn⟩)
    rw [hp]
    exact n_eq m c ⟨n, Nat.lt_of_succ_lt hn⟩ _ _ (ih (Nat.lt_of_succ_lt hn)) g k q

theorem yy_eq (t : Fin cfg0.N) (l : Fin 128) (j : Fin 1024) : yv (grid0.coords t) (LD m c t (prev m c t.val t.isLt)) (ix2 l j) = YY (A m c) t.val l j :=
  y_eq m c t _ (ST (A m c) t.val) (prev_eq m c t.val t.isLt) l j

theorem outs10 (t : Fin cfg0.N) (l : Fin 128) (j : Fin 1024) : (outsAt0 m c t.val t.isLt).1 (ix2 l j) = OO (A m c) t.val l j := by
  rw [outs_eq]
  refine (pay1_at _ _ _ l j).trans ?_
  unfold OO
  rw [show (fun l j => yv (grid0.coords t) (LD m c t (prev m c t.val t.isLt)) (ix2 l j)) = YY (A m c) t.val from funext fun l => funext fun j => yy_eq m c t l j,
    show (fun l j => (iblk m c 3 t : FVec Ideal S128x1024 .bf16) (ix2 l j)) = fun l j => (A m c).z (row t.val l) j from funext fun l => funext fun j => blk3 m c t l j,
    show (fun j => (iblk m c 9 t : FVec Ideal S1x1024 .f32) (ix2 0 j)) = (A m c).nw from funext fun j => blk9 m c t j]

theorem outs11 (t : Fin cfg0.N) (l : Fin 128) (j : Fin 1024) : (outsAt0 m c t.val t.isLt).2.1 (ix2 l j) = YY (A m c) t.val l j := by
  rw [outs_eq]
  exact (pay129_at _ l j).trans (yy_eq m c t l j)

theorem outs12 (t : Fin cfg0.N) (l : Fin 128) (j : Fin 1536) : (outsAt0 m c t.val t.isLt).2.2.1 (ix2 l j) = UU (A m c) (row t.val l) j := by
  rw [outs_eq]
  exact uv_eq m c t _ l j

theorem outs13 (t : Fin cfg0.N) (g : Fin 2) (k : Fin 128) (q : Fin 512) : (outsAt0 m c t.val t.isLt).2.2.2.1 (ix4 0 g k q) = ST (A m c) t.val g k q := by
  rw [outs_eq]
  exact (pay107_at _ k q).trans (s_eq _ _ (prev_eq m c t.val t.isLt) g k q)

/-! ### The result arrays -/

theorem row_div (r : Fin 8192) : row (r.val / 128) ⟨r.val % 128, Nat.mod_lt _ (by decide)⟩ = r :=
  Fin.ext (by rw [row_val _ (by omega)]; show 128 * (r.val / 128) + r.val % 128 = r.val; omega)

theorem G10_eq (r : Fin 8192) (j : Fin 1024) : (G10 m c : FVec Ideal S8192x1024 .bf16) (ix2 r j) = OO (A m c) (r.val / 128) ⟨r.val % 128, Nat.mod_lt _ (by decide)⟩ j := by
  have hN : cfg0.N = 64 := N_0
  have hp : pt10Of (ix2 r j) = r.val / 128 := by
    show 1 * (r.val / 128 - 0) + 1 * (j.val / 1024 - 0) = _
    omega
  have hlt : pt10Of (ix2 r j) < cfg0.N := by omega
  unfold G10
  rw [dif_pos hlt]
  have e := outs10 m c ⟨pt10Of (ix2 r j), hlt⟩ ⟨r.val % 128, Nat.mod_lt _ (by decide)⟩ j
  dsimp only at e
  rw [← outsAt0_sweep m c _ hlt]
  rw [show (loc10Of (ix2 r j)) = ix2 (n0 := 128) (n1 := 1024) ⟨r.val % 128, Nat.mod_lt _ (by decide)⟩ j from funext fun a => match a with
    | ⟨0, _⟩ => rfl
    | ⟨1, _⟩ => Fin.ext (Nat.mod_eq_of_lt j.isLt)]
  rw [e, hp]

theorem G11_eq (r : Fin 8192) (j : Fin 1024) : (G11 m c : FVec Ideal S8192x1024 .bf16) (ix2 r j) = YY (A m c) (r.val / 128) ⟨r.val % 128, Nat.mod_lt _ (by decide)⟩ j := by
  have hN : cfg0.N = 64 := N_0
  have hp : pt11Of (ix2 r j) = r.val / 128 := by
    show 1 * (r.val / 128 - 0) + 1 * (j.val / 1024 - 0) = _
    omega
  have hlt : pt11Of (ix2 r j) < cfg0.N := by omega
  unfold G11
  rw [dif_pos hlt]
  have e := outs11 m c ⟨pt11Of (ix2 r j), hlt⟩ ⟨r.val % 128, Nat.mod_lt _ (by decide)⟩ j
  dsimp only at e
  rw [← outsAt0_sweep m c _ hlt]
  rw [show (loc11Of (ix2 r j)) = ix2 (n0 := 128) (n1 := 1024) ⟨r.val % 128, Nat.mod_lt _ (by decide)⟩ j from funext fun a => match a with
    | ⟨0, _⟩ => rfl
    | ⟨1, _⟩ => Fin.ext (Nat.mod_eq_of_lt j.isLt)]
  rw [e, hp]

theorem G12_eq (r : Fin 8192) (j : Fin 1536) : (G12 m c : FVec Ideal S8192x1536 .bf16) (ix2 r j) = UU (A m c) r j := by
  have hN : cfg0.N = 64 := N_0
  have hp : pt12Of (ix2 r j) = r.val / 128 := by
    show 1 * (r.val / 128 - 0) + 1 * (j.val / 1536 - 0) = _
    omega
  have hlt : pt12Of (ix2 r j) < cfg0.N := by omega
  unfold G12
  rw [dif_pos hlt]
  have e := outs12 m c ⟨pt12Of (ix2 r j), hlt⟩ ⟨r.val % 128, Nat.mod_lt _ (by decide)⟩ j
  dsimp only at e
  rw [← outsAt0_sweep m c _ hlt]
  rw [show (loc12Of (ix2 r j)) = ix2 (n0 := 128) (n1 := 1536) ⟨r.val % 128, Nat.mod_lt _ (by decide)⟩ j from funext fun a => match a with
    | ⟨0, _⟩ => rfl
    | ⟨1, _⟩ => Fin.ext (Nat.mod_eq_of_lt j.isLt)]
  rw [e, hp, row_div]

theorem G13_eq (n : Fin 64) (g : Fin 2) (k : Fin 128) (q : Fin 512) : (G13 m c : FVec Ideal S64x2x128x512 .f32) (ix4 n g k q) = ST (A m c) n.val g k q := by
  have hN : cfg0.N = 64 := N_0
  have hp : pt13Of (ix4 n g k q) = n.val := by
    show 1 * (n.val / 1 - 0) + 1 * (g.val / 2 - 0) + 1 * (k.val / 128 - 0) + 1 * (q.val / 512 - 0) = _
    omega
  have hlt : pt13Of (ix4 n g k q) < cfg0.N := by omega
  unfold G13
  rw [dif_pos hlt]
  have e' := outs13 m c ⟨pt13Of (ix4 n g k q), hlt⟩ g k q
  dsimp only at e'
  rw [← outsAt0_sweep m c _ hlt]
  rw [show (loc13Of (ix4 n g k q)) = ix4 (n0 := 1) (n1 := 2) (n2 := 128) (n3 := 512) 0 g k q from funext fun a => match a with
    | ⟨0, _⟩ => Fin.ext (Nat.mod_one _)
    | ⟨1, _⟩ => Fin.ext (Nat.mod_eq_of_lt g.isLt)
    | ⟨2, _⟩ => Fin.ext (Nat.mod_eq_of_lt k.isLt)
    | ⟨3, _⟩ => Fin.ext (Nat.mod_eq_of_lt q.isLt)]
  rw [e', hp]

end Cert.Kernel4Ideal.Sf

end
-- ==== Proof.SfCum.lean ====
module

public import Idealize.ShloMosaic.Lib.Pointwise

@[expose] public section

set_option maxRecDepth 16384

noncomputable section

open Idealize.ShloMosaic

/-! Running sums along the last axis, and stacks along axis 0 of arrays with five axes and with three. -/

namespace Cert.Stack

/-- A fold that adds is a sum. -/
theorem foldl_sum {n : ℕ} (f : Fin n → EReal) : (List.finRange n).foldl (fun r k => r + f k) 0 = ∑ k : Fin n, f k := by
  rw [Fin.sum_univ_def, List.sum_eq_foldl, List.foldl_map]

/-- A window of 128 ending at the entry: the sum of the entries up to it. -/
theorem cumsum5 (x : FVec Ideal ⟨5, ![1, 64, 2, 8, 128]⟩ .f32) (init : FVec Ideal ⟨0, ![]⟩ .f32) (hinit : ∀ i, init i = (0 : EReal))
    (h : (⟨5, ![1, 64, 2, 8, 128]⟩ : Shape).ReduceWindows ![1, 1, 1, 1, 128] ![1, 1, 1, 1, 1] ![0, 0, 0, 0, 127] ![0, 0, 0, 0, 0] ⟨5, ![1, 64, 2, 8, 128]⟩) (hu : 0 < (⟨0, ![]⟩ : Shape).numel)
    (c : Fin 64) (g : Fin 2) (k : Fin 8) (l : Fin 128) :
    Host.reduceWindowAdd ![1, 1, 1, 1, 128] ![1, 1, 1, 1, 1] ![0, 0, 0, 0, 127] ![0, 0, 0, 0, 0] x init h hu (ix5 0 c g k l)
      = (∑ s : Fin 128, if s.val ≤ l.val then x (ix5 0 c g k s) else 0 : EReal) := by
  set f : (⟨5, ![1, 1, 1, 1, 128]⟩ : Shape).Idx → EReal := fun w =>
    if hl : 127 ≤ l.val + (w 4).val then x (ix5 0 c g k ⟨l.val + (w 4).val - 127, by have := l.isLt; have : (w 4).val < 128 := (w 4).isLt; omega⟩) else 0 with hf
  have e : Host.reduceWindowAdd ![1, 1, 1, 1, 128] ![1, 1, 1, 1, 1] ![0, 0, 0, 0, 127] ![0, 0, 0, 0, 0] x init h hu (ix5 0 c g k l)
      = (List.finRange (⟨5, ![1, 1, 1, 1, 128]⟩ : Shape).numel).foldl (fun r n => r + f ((⟨5, ![1, 1, 1, 1, 128]⟩ : Shape).rowMajor.symm n)) 0 := by
    show Host.reduceWindow (· + · : EReal → EReal → EReal) ![1, 1, 1, 1, 128] ![1, 1, 1, 1, 1] ![0, 0, 0, 0, 127] ![0, 0, 0, 0, 0] x (fun _ : (⟨0, ![]⟩ : Shape).Idx => init (Shape.Idx.first hu)) h (by decide) (ix5 0 c g k l) = _
    unfold Host.reduceWindow
    rw [hinit]
    refine congrArg (fun q : EReal → Fin (⟨5, ![1, 1, 1, 1, 128]⟩ : Shape).numel → EReal => (List.finRange (⟨5, ![1, 1, 1, 1, 128]⟩ : Shape).numel).foldl q 0) (funext fun r => funext fun n => congrArg (r + ·) ?_)
    obtain ⟨w, ew⟩ : ∃ w, (⟨5, ![1, 1, 1, 1, 128]⟩ : Shape).rowMajor.symm n = w := ⟨_, rfl⟩
    refine Eq.trans ?_ (congrArg f ew.symm)
    have w0 : (w 0).val = 0 := Nat.lt_one_iff.mp (w 0).isLt
    have w1 : (w 1).val = 0 := Nat.lt_one_iff.mp (w 1).isLt
    have w2 : (w 2).val = 0 := Nat.lt_one_iff.mp (w 2).isLt
    have w3 : (w 3).val = 0 := Nat.lt_one_iff.mp (w 3).isLt
    have w4 : (w 4).val < 128 := (w 4).isLt
    have hl := l.isLt
    by_cases hw : 127 ≤ l.val + (w 4).val
    · have fp : f w = x (ix5 0 c g k ⟨l.val + (w 4).val - 127, by omega⟩) := by rw [hf]; exact dif_pos hw
      refine Eq.trans (dif_pos ?_) (Eq.trans (congrArg x (funext fun a => Fin.ext ?_)) fp.symm)
      rotate_left
      · match a with
        | ⟨0, _⟩ => show 0 * 1 + ((⟨5, ![1, 1, 1, 1, 128]⟩ : Shape).rowMajor.symm n 0).val - 0 = 0; rw [ew]; omega
        | ⟨1, _⟩ => show c.val * 1 + ((⟨5, ![1, 1, 1, 1, 128]⟩ : Shape).rowMajor.symm n 1).val - 0 = c.val; rw [ew]; omega
        | ⟨2, _⟩ => show g.val * 1 + ((⟨5, ![1, 1, 1, 1, 128]⟩ : Shape).rowMajor.symm n 2).val - 0 = g.val; rw [ew]; omega
        | ⟨3, _⟩ => show k.val * 1 + ((⟨5, ![1, 1, 1, 1, 128]⟩ : Shape).rowMajor.symm n 3).val - 0 = k.val; rw [ew]; omega
        | ⟨4, _⟩ => show l.val * 1 + ((⟨5, ![1, 1, 1, 1, 128]⟩ : Shape).rowMajor.symm n 4).val - 127 = l.val + (w 4).val - 127; rw [ew]; omega
      · intro a
        match a with
        | ⟨0, _⟩ => show 0 ≤ 0 * 1 + ((⟨5, ![1, 1, 1, 1, 128]⟩ : Shape).rowMajor.symm n 0).val ∧ 0 * 1 + ((⟨5, ![1, 1, 1, 1, 128]⟩ : Shape).rowMajor.symm n 0).val - 0 < 1; rw [ew]; omega
        | ⟨1, _⟩ => show 0 ≤ c.val * 1 + ((⟨5, ![1, 1, 1, 1, 128]⟩ : Shape).rowMajor.symm n 1).val ∧ c.val * 1 + ((⟨5, ![1, 1, 1, 1, 128]⟩ : Shape).rowMajor.symm n 1).val - 0 < 64; rw [ew]; omega
        | ⟨2, _⟩ => show 0 ≤ g.val * 1 + ((⟨5, ![1, 1, 1, 1, 128]⟩ : Shape).rowMajor.symm n 2).val ∧ g.val * 1 + ((⟨5, ![1, 1, 1, 1, 128]⟩ : Shape).rowMajor.symm n 2).val - 0 < 2; rw [ew]; omega
        | ⟨3, _⟩ => show 0 ≤ k.val * 1 + ((⟨5, ![1, 1, 1, 1, 128]⟩ : Shape).rowMajor.symm n 3).val ∧ k.val * 1 + ((⟨5, ![1, 1, 1, 1, 128]⟩ : Shape).rowMajor.symm n 3).val - 0 < 8; rw [ew]; omega
        | ⟨4, _⟩ => show 127 ≤ l.val * 1 + ((⟨5, ![1, 1, 1, 1, 128]⟩ : Shape).rowMajor.symm n 4).val ∧ l.val * 1 + ((⟨5, ![1, 1, 1, 1, 128]⟩ : Shape).rowMajor.symm n 4).val - 127 < 128; rw [ew]; omega
    · have fn : f w = 0 := by rw [hf]; exact dif_neg hw
      refine Eq.trans (dif_neg ?_) fn.symm
      intro hh
      have h4 : 127 ≤ l.val * 1 + ((⟨5, ![1, 1, 1, 1, 128]⟩ : Shape).rowMajor.symm n 4).val ∧ l.val * 1 + ((⟨5, ![1, 1, 1, 1, 128]⟩ : Shape).rowMajor.symm n 4).val - 127 < 128 := hh 4
      rw [ew] at h4
      omega
  rw [e, foldl_sum, Equiv.sum_comp ((⟨5, ![1, 1, 1, 1, 128]⟩ : Shape).rowMajor.symm) f, sum_idx5]
  simp only [Fin.sum_univ_one]
  refine Fintype.sum_equiv (Equiv.addRight (l + 1)) _ _ fun w => ?_
  have hl := l.isLt
  have hw := w.isLt
  have hv : (w + (l + 1)).val = (w.val + (l.val + 1) % 128) % 128 := by
    rw [Fin.val_add, Fin.val_add]
    rfl
  show (if hl : 127 ≤ l.val + w.val then x (ix5 0 c g k ⟨l.val + w.val - 127, _⟩) else 0) = if (w + (l + 1)).val ≤ l.val then x (ix5 0 c g k (w + (l + 1))) else 0
  by_cases hh : 127 ≤ l.val + w.val
  · have hq : (w + (l + 1)).val = l.val + w.val - 127 := by rw [hv]; omega
    rw [dif_pos hh, if_pos (by omega)]
    exact congrArg (fun s => x (ix5 0 c g k s)) (Fin.ext hq.symm)
  · have hq : (w + (l + 1)).val = l.val + w.val + 1 := by rw [hv]; omega
    rw [dif_neg hh, if_neg (by omega)]

variable {α : Type} {N A B C D : ℕ}

/-- The shape of a stack of arrays with five axes. -/
abbrev St6 (N A B C D : ℕ) : Shape := ⟨6, ![N, 1, A, B, C, D]⟩

section Six

variable (start : Fin 6 → Int) (k : Fin N) (h0 : start 0 = (k.val : Int)) (h1 : ∀ a : Fin 6, a ≠ 0 → start a = 0)
include h0 h1

theorem clamp6 (h : (St6 N A B C D).Slices (fun _ => 0) (St6 1 A B C D)) (a : Fin 6) :
    Host.clampedStart (St6 N A B C D) (St6 1 A B C D) h.1 start a = if a = 0 then k.val else 0 := by
  have hk := k.isLt
  fin_cases a
  · exact Host.clampedStart_of_le (s := St6 N A B C D) (t := St6 1 A B C D) h.1 start 0 k.val h0 (show k.val + 1 ≤ N by omega)
  · exact Host.clampedStart_of_le (s := St6 N A B C D) (t := St6 1 A B C D) h.1 start 1 0 (h1 1 (by decide)) (show 0 + 1 ≤ 1 by omega)
  · exact Host.clampedStart_of_le (s := St6 N A B C D) (t := St6 1 A B C D) h.1 start 2 0 (h1 2 (by decide)) (show 0 + A ≤ A by omega)
  · exact Host.clampedStart_of_le (s := St6 N A B C D) (t := St6 1 A B C D) h.1 start 3 0 (h1 3 (by decide)) (show 0 + B ≤ B by omega)
  · exact Host.clampedStart_of_le (s := St6 N A B C D) (t := St6 1 A B C D) h.1 start 4 0 (h1 4 (by decide)) (show 0 + C ≤ C by omega)
  · exact Host.clampedStart_of_le (s := St6 N A B C D) (t := St6 1 A B C D) h.1 start 5 0 (h1 5 (by decide)) (show 0 + D ≤ D by omega)

/-- Array `k` of the stack. -/
theorem slice6 (x : (St6 N A B C D).Idx → α) (h : (St6 N A B C D).Slices (fun _ => 0) (St6 1 A B C D)) (a : Fin A) (b : Fin B) (c : Fin C) (d : Fin D) :
    Host.dynamicSlice (St6 1 A B C D) x start h (ix6 0 0 a b c d) = x (ix6 k 0 a b c d) := by
  have hc := clamp6 start k h0 h1 h
  rw [Host.dynamicSlice_apply]
  refine congrArg x (funext fun i => Fin.ext ?_)
  fin_cases i
  · exact (congrArg (· + 0) (hc 0)).trans (Nat.add_zero _)
  · exact (congrArg (· + 0) (hc 1))
  · exact (congrArg (· + a.val) (hc 2)).trans (Nat.zero_add _)
  · exact (congrArg (· + b.val) (hc 3)).trans (Nat.zero_add _)
  · exact (congrArg (· + c.val) (hc 4)).trans (Nat.zero_add _)
  · exact (congrArg (· + d.val) (hc 5)).trans (Nat.zero_add _)

/-- The stack with array `k` replaced. -/
theorem update6 (x : (St6 N A B C D).Idx → α) (u : (St6 1 A B C D).Idx → α) (h : (St6 N A B C D).Slices (fun _ => 0) (St6 1 A B C D)) (n : Fin N) (a : Fin A) (b : Fin B) (c : Fin C) (d : Fin D) :
    Host.dynamicUpdateSlice x u start h (ix6 n 0 a b c d) = if n = k then u (ix6 0 0 a b c d) else x (ix6 n 0 a b c d) := by
  have hc := clamp6 start k h0 h1 h
  have c0 := hc 0
  have c1 := hc 1
  have c2 := hc 2
  have c3 := hc 3
  have c4 := hc 4
  have c5 := hc 5
  simp only [if_true, if_neg (show ¬ (1 : Fin 6) = 0 by decide), if_neg (show ¬ (2 : Fin 6) = 0 by decide), if_neg (show ¬ (3 : Fin 6) = 0 by decide), if_neg (show ¬ (4 : Fin 6) = 0 by decide), if_neg (show ¬ (5 : Fin 6) = 0 by decide)] at c0 c1 c2 c3 c4 c5
  rw [Host.dynamicUpdateSlice_apply]
  by_cases hn : n = k
  · subst hn
    rw [if_pos rfl, dif_pos]
    · refine congrArg u (funext fun i => Fin.ext ?_)
      fin_cases i
      · exact (congrArg (n.val - ·) c0).trans (Nat.sub_self _)
      · exact (congrArg (0 - ·) c1)
      · exact (congrArg (a.val - ·) c2)
      · exact (congrArg (b.val - ·) c3)
      · exact (congrArg (c.val - ·) c4)
      · exact (congrArg (d.val - ·) c5)
    · intro i
      fin_cases i
      · exact ⟨c0.le, Nat.lt_of_lt_of_eq (Nat.lt_succ_self n.val) (congrArg (· + 1) c0.symm)⟩
      · exact ⟨c1.le, Nat.lt_of_lt_of_eq (Nat.lt_succ_self 0) (congrArg (· + 1) c1.symm)⟩
      · exact ⟨c2.le.trans (Nat.zero_le _), Nat.lt_of_lt_of_le a.isLt (Nat.le_add_left _ _)⟩
      · exact ⟨c3.le.trans (Nat.zero_le _), Nat.lt_of_lt_of_le b.isLt (Nat.le_add_left _ _)⟩
      · exact ⟨c4.le.trans (Nat.zero_le _), Nat.lt_of_lt_of_le c.isLt (Nat.le_add_left _ _)⟩
      · exact ⟨c5.le.trans (Nat.zero_le _), Nat.lt_of_lt_of_le d.isLt (Nat.le_add_left _ _)⟩
  · rw [if_neg hn, dif_neg]
    intro hh
    have h0' := hh 0
    rw [c0] at h0'
    exact hn (Fin.ext (Nat.le_antisymm (Nat.lt_succ_iff.mp h0'.2) h0'.1))

end Six

/-- The shape of a stack of arrays with three axes. -/
abbrev St4 (N A B : ℕ) : Shape := ⟨4, ![N, 1, A, B]⟩

section Four

variable (start : Fin 4 → Int) (k : Fin N) (h0 : start 0 = (k.val : Int)) (h1 : ∀ a : Fin 4, a ≠ 0 → start a = 0)
include h0 h1

theorem clamp4 (h : (St4 N A B).Slices (fun _ => 0) (St4 1 A B)) (a : Fin 4) :
    Host.clampedStart (St4 N A B) (St4 1 A B) h.1 start a = if a = 0 then k.val else 0 := by
  have hk := k.isLt
  fin_cases a
  · exact Host.clampedStart_of_le (s := St4 N A B) (t := St4 1 A B) h.1 start 0 k.val h0 (show k.val + 1 ≤ N by omega)
  · exact Host.clampedStart_of_le (s := St4 N A B) (t := St4 1 A B) h.1 start 1 0 (h1 1 (by decide)) (show 0 + 1 ≤ 1 by omega)
  · exact Host.clampedStart_of_le (s := St4 N A B) (t := St4 1 A B) h.1 start 2 0 (h1 2 (by decide)) (show 0 + A ≤ A by omega)
  · exact Host.clampedStart_of_le (s := St4 N A B) (t := St4 1 A B) h.1 start 3 0 (h1 3 (by decide)) (show 0 + B ≤ B by omega)

/-- Array `k` of the stack. -/
theorem slice4 (x : (St4 N A B).Idx → α) (h : (St4 N A B).Slices (fun _ => 0) (St4 1 A B)) (a : Fin A) (b : Fin B) :
    Host.dynamicSlice (St4 1 A B) x start h (ix4 0 0 a b) = x (ix4 k 0 a b) := by
  have hc := clamp4 start k h0 h1 h
  rw [Host.dynamicSlice_apply]
  refine congrArg x (funext fun i => Fin.ext ?_)
  fin_cases i
  · exact (congrArg (· + 0) (hc 0)).trans (Nat.add_zero _)
  · exact (congrArg (· + 0) (hc 1))
  · exact (congrArg (· + a.val) (hc 2)).trans (Nat.zero_add _)
  · exact (congrArg (· + b.val) (hc 3)).trans (Nat.zero_add _)

end Four

end Cert.Stack

end
-- ==== Proof.SfRef.lean ====
module

public import proofs.«01_k».proof.Proof.SfMath
public import proofs.«01_k».proof.Proof.SfPoint
public import proofs.«01_k».proof.Proof.SfCum
public import proofs.«01_k».proof.Proof.Gen.Reference4Ideal.Run
public import Idealize.ShloMosaic.Lib.Pointwise
public import Idealize.ShloMosaic.Lib.StableHlo.Run
public import Idealize.ShloMosaic.Lib.StableHlo.RunRead

@[expose] public section

set_option maxRecDepth 16384

noncomputable section

open Idealize.ShloMosaic Idealize.ShloMosaic.TcCoe Idealize.SL.Sem

/-! The state-space forward lines, read: convolution, activation, time steps and their running sums. -/

namespace Cert.Reference4Ideal.Sf

open Cert.Reference4Ideal Cert.Reference4Ideal.Gen Cert.Reference4Ideal.Value Cert.SfMath
open Cert.RfMath (row row_val)
open Idealize.ShloMosaic.StableHlo

/-- Head `k` of group `g`. -/
def hgk (g : Fin 2) (k : Fin 8) : Fin 16 := ⟨8 * g.val + k.val, by omega⟩

/-- Column `p` of head `k` in its group. -/
def qk (k : Fin 8) (p : Fin 64) : Fin 512 := ⟨64 * k.val + p.val, by omega⟩

/-- Column `p` of head `k` of group `g`. -/
def cgk (g : Fin 2) (k : Fin 8) (p : Fin 64) : Fin 1024 := gq g (qk k p)

theorem hd_cgk (g : Fin 2) (k : Fin 8) (p : Fin 64) : hd (cgk g k p) = hgk g k := Fin.ext (by show (512 * g.val + (64 * k.val + p.val)) / 64 = 8 * g.val + k.val; omega)

theorem gr_cgk (g : Fin 2) (k : Fin 8) (p : Fin 64) : gr (cgk g k p) = g := Fin.ext (by show (512 * g.val + (64 * k.val + p.val)) / 512 = g.val; omega)

theorem pl_cgk (g : Fin 2) (k : Fin 8) (p : Fin 64) : pl (cgk g k p) = qk k p := Fin.ext (by show (512 * g.val + (64 * k.val + p.val)) % 512 = 64 * k.val + p.val; omega)

theorem row_eq (n : Fin 64) (l : Fin 128) (hi : n.val * 128 + l.val < 8192) : (⟨n.val * 128 + l.val, hi⟩ : Fin 8192) = row n.val l :=
  Fin.ext (by rw [row_val n.val n.isLt]; show n.val * 128 + l.val = _; omega)

variable (V : Valuation τ sig (Elt Ideal)) (A : Args)

theorem p_v39 (hx : ∀ t j, (V (Proc.devRef .tc main_arg1) : FVec Ideal S1x8192x1536 .f32) (ix3 0 t j) = A.x t j)
    (hw : ∀ k j, (V (Proc.devRef .tc main_arg3) : FVec Ideal S1x4x1536 .f32) (ix3 0 k j) = A.cw k j)
    (hb : ∀ j, (V (Proc.devRef .tc main_arg4) : FVec Ideal S1x1536 .f32) (ix2 0 j) = A.cb j) (t : Fin 8192) (j : Fin 1536) :
    (after hostOps0 V (Proc.devRef .tc main_v39) : FVec Ideal S1x8192x1536 .f32) (ix3 0 t j) = UU A t j := by
  have k1 : upto hostOps0 V 8 (Proc.devRef .tc main_arg1) = V (Proc.devRef .tc main_arg1) := by after_reads_simp
  have k6 : ∀ i, (upto hostOps0 V 8 (Proc.devRef .tc main_v6) : FVec Ideal S1x3x1536 .f32) i = (0 : EReal) := fun i => by
    after_reads_simp
    pointwise
  after_reads_simp
  pointwise
  unfold UU bk
  rw [add_comm (A.cb j)]
  refine congr_arg₂ (· + · : EReal → EReal → EReal) (congr_arg₂ (· + · : EReal → EReal → EReal) (congr_arg₂ (· + · : EReal → EReal → EReal) (congr_arg₂ (· + · : EReal → EReal → EReal)
    (congr_arg₂ (· * · : EReal → EReal → EReal) (hw 0 j) ?_) (congr_arg₂ (· * · : EReal → EReal → EReal) (hw 1 j) ?_))
    (congr_arg₂ (· * · : EReal → EReal → EReal) (hw 2 j) ?_)) (congr_arg₂ (· * · : EReal → EReal → EReal) (hw 3 j) ?_)) (hb j)
  · by_cases h : t.val < 3
    · refine (dif_pos h).trans (Eq.trans (k6 _) (if_neg (show ¬ 3 ≤ t.val by omega)).symm)
    · refine (dif_neg h).trans (Eq.trans ((congrFun k1 _).trans ((hx _ j).trans (congrArg (A.x · j) (Fin.ext ?_)))) (if_pos (show 3 ≤ t.val by omega)).symm)
      show t.val - 3 = t.val - 3
      omega
  · by_cases h : 1 + t.val < 3
    · refine (dif_pos h).trans (Eq.trans (k6 _) (if_neg (show ¬ 2 ≤ t.val by omega)).symm)
    · refine (dif_neg h).trans (Eq.trans ((congrFun k1 _).trans ((hx _ j).trans (congrArg (A.x · j) (Fin.ext ?_)))) (if_pos (show 2 ≤ t.val by omega)).symm)
      show 1 + t.val - 3 = t.val - 2
      omega
  · by_cases h : 2 + t.val < 3
    · refine (dif_pos h).trans (Eq.trans (k6 _) (if_neg (show ¬ 1 ≤ t.val by omega)).symm)
    · refine (dif_neg h).trans (Eq.trans ((congrFun k1 _).trans ((hx _ j).trans (congrArg (A.x · j) (Fin.ext ?_)))) (if_pos (show 1 ≤ t.val by omega)).symm)
      show 2 + t.val - 3 = t.val - 1
      omega
  · exact (congrFun k1 _).trans (hx t j)

theorem p_v2 (h : Fin 16) : (after hostOps0 V (Proc.devRef .tc main_v2) : FVec Ideal S16 .f32) (ix1 h) = (V (Proc.devRef .tc main_arg5) : FVec Ideal S1x16 .f32) (ix2 0 h) := by
  after_reads_simp
  pointwise

theorem p_v3 (h : Fin 16) : (after hostOps0 V (Proc.devRef .tc main_v3) : FVec Ideal S16 .f32) (ix1 h) = (V (Proc.devRef .tc main_arg6) : FVec Ideal S1x16 .f32) (ix2 0 h) := by
  after_reads_simp
  pointwise

theorem p_v4 (h : Fin 16) : (after hostOps0 V (Proc.devRef .tc main_v4) : FVec Ideal S16 .f32) (ix1 h) = (V (Proc.devRef .tc main_arg7) : FVec Ideal S1x16 .f32) (ix2 0 h) := by
  after_reads_simp
  pointwise

theorem p_v5 (j : Fin 1024) : (after hostOps0 V (Proc.devRef .tc main_v5) : FVec Ideal S1024 .f32) (ix1 j) = (V (Proc.devRef .tc main_arg8) : FVec Ideal S1x1024 .f32) (ix2 0 j) := by
  after_reads_simp
  pointwise

theorem p_v40 (h : ∀ t j, (V (Proc.devRef .tc main_v39) : FVec Ideal S1x8192x1536 .f32) (ix3 0 t j) = UU A t j) (t : Fin 8192) (j : Fin 1536) :
    (after hostOps0_1 V (Proc.devRef .tc main_v40) : FVec Ideal S1x8192x1536 .f32) (ix3 0 t j) = AA A t j := by
  after_reads_simp
  unfold StableHlo.TRef.toBuf StableHlo.TRef.ofBuf
  simp only [cast_eq, eqRec_eq_cast, id]
  pointwise
  rw [h]
  rfl

section Splits

variable (h : ∀ t j, (V (Proc.devRef .tc main_v40) : FVec Ideal S1x8192x1536 .f32) (ix3 0 t j) = AA A t j)
include h

theorem p_v44 (n : Fin 64) (l : Fin 128) (g : Fin 2) (k : Fin 8) (p : Fin 64) :
    (after hostOps0_2 V (Proc.devRef .tc main_v44) : FVec Ideal S1x64x128x2x8x64 .f32) (ix6 0 n l g k p) = AC A n.val l (xj (cgk g k p)) := by
  after_reads_simp
  pointwise
  rw [h, row_eq]
  refine congrArg (AA A _) (Fin.ext ?_)
  show g.val * 512 + k.val * 64 + p.val = 512 * g.val + (64 * k.val + p.val)
  omega

theorem p_v45 (n : Fin 64) (l : Fin 128) (g : Fin 2) (s : Fin 128) :
    (after hostOps0_2 V (Proc.devRef .tc main_v45) : FVec Ideal S1x64x128x2x128 .f32) (ix5 0 n l g s) = AC A n.val l (bj g s) := by
  after_reads_simp
  pointwise
  rw [h, row_eq]
  refine congrArg (AA A _) (Fin.ext ?_)
  show 1024 + (g.val * 128 + s.val) = 1024 + 128 * g.val + s.val
  omega

theorem p_v46 (n : Fin 64) (l : Fin 128) (g : Fin 2) (s : Fin 128) :
    (after hostOps0_2 V (Proc.devRef .tc main_v46) : FVec Ideal S1x64x128x2x128 .f32) (ix5 0 n l g s) = AC A n.val l (cj g s) := by
  after_reads_simp
  pointwise
  rw [h, row_eq]
  refine congrArg (AA A _) (Fin.ext ?_)
  show 1280 + (g.val * 128 + s.val) = 1280 + 128 * g.val + s.val
  omega

end Splits

theorem p_v49 (hd : ∀ t h, (V (Proc.devRef .tc main_arg2) : FVec Ideal S1x8192x16 .f32) (ix3 0 t h) = A.d t h) (hb : ∀ h, (V (Proc.devRef .tc main_v2) : FVec Ideal S16 .f32) (ix1 h) = A.db h)
    (t : Fin 8192) (h : Fin 16) : (after hostOps0_2 V (Proc.devRef .tc main_v49) : FVec Ideal S1x8192x16 .f32) (ix3 0 t h) = (A.d t h + A.db h : EReal) := by
  after_reads_simp
  pointwise
  rw [hd, hb]

theorem p_v50 (hh : ∀ t h, (V (Proc.devRef .tc main_v49) : FVec Ideal S1x8192x16 .f32) (ix3 0 t h) = (A.d t h + A.db h : EReal)) (t : Fin 8192) (h : Fin 16) :
    (after hostOps0_3 V (Proc.devRef .tc main_v50) : FVec Ideal S1x8192x16 .f32) (ix3 0 t h) = DT A t h := by
  after_reads_simp
  unfold StableHlo.TRef.toBuf StableHlo.TRef.ofBuf
  simp only [cast_eq, eqRec_eq_cast, id]
  pointwise
  rw [if_neg (fun hn => hn rfl), hh]
  rfl

section Steps

variable (h : ∀ t h, (V (Proc.devRef .tc main_v50) : FVec Ideal S1x8192x16 .f32) (ix3 0 t h) = DT A t h)
include h

theorem p_v53 (n : Fin 64) (l : Fin 128) (g : Fin 2) (k : Fin 8) :
    (after hostOps0_4 V (Proc.devRef .tc main_v53) : FVec Ideal S1x64x128x2x8 .f32) (ix5 0 n l g k) = DC A n.val l (hgk g k) := by
  after_reads_simp
  pointwise
  rw [h, row_eq]
  refine congrArg (DT A _) (Fin.ext ?_)
  show g.val * 8 + k.val = 8 * g.val + k.val
  omega

theorem p_v58 (ha : ∀ h, (V (Proc.devRef .tc main_v3) : FVec Ideal S16 .f32) (ix1 h) = A.al h) (n : Fin 64) (g : Fin 2) (k : Fin 8) (l : Fin 128) :
    (after hostOps0_4 V (Proc.devRef .tc main_v58) : FVec Ideal S1x64x2x8x128 .f32) (ix5 0 n g k l) = DA A (row n.val l) (hgk g k) := by
  after_reads_simp
  pointwise
  rw [h, ha, row_eq]
  unfold DA
  rw [show ∀ hi, (⟨g.val * 8 + k.val, hi⟩ : Fin 16) = hgk g k from fun _ => Fin.ext (by show g.val * 8 + k.val = 8 * g.val + k.val; omega)]

end Steps

theorem p_v59 (h : ∀ n g k l, (V (Proc.devRef .tc main_v58) : FVec Ideal S1x64x2x8x128 .f32) (ix5 0 n g k l) = DA A (row n.val l) (hgk g k)) (n : Fin 64) (g : Fin 2) (k : Fin 8) (l : Fin 128) :
    (after hostOps0_5 V (Proc.devRef .tc main_v59) : FVec Ideal S1x64x2x8x128 .f32) (ix5 0 n g k l) = CS A n.val l (hgk g k) := by
  after_reads_simp
  unfold StableHlo.TRef.toBuf StableHlo.TRef.ofBuf
  simp only [cast_eq, eqRec_eq_cast, id]
  refine (Cert.Stack.cumsum5 (V (Proc.devRef .tc main_v58)) _ (fun i => by pointwise) _ _ n g k l).trans ?_
  exact Finset.sum_congr rfl fun s _ => by rw [h]

theorem p_v62 (hx : ∀ n l g k p, (V (Proc.devRef .tc main_v44) : FVec Ideal S1x64x128x2x8x64 .f32) (ix6 0 n l g k p) = AC A n.val l (xj (cgk g k p)))
    (hd : ∀ n l g k, (V (Proc.devRef .tc main_v53) : FVec Ideal S1x64x128x2x8 .f32) (ix5 0 n l g k) = DC A n.val l (hgk g k)) (n : Fin 64) (l : Fin 128) (g : Fin 2) (k : Fin 8) (p : Fin 64) :
    (after hostOps0_6 V (Proc.devRef .tc main_v62) : FVec Ideal S1x64x128x2x8x64 .f32) (ix6 0 n l g k p) = (AC A n.val l (xj (cgk g k p)) * DC A n.val l (hgk g k) : EReal) := by
  after_reads_simp
  pointwise
  rw [hx, hd]

theorem p_v63 (l s : Fin 128) : (after hostOps0_6 V (Proc.devRef .tc main_v63) : IVec S128x128 1) (ix2 l s) = 1#1 := by
  after_reads_simp
  pointwise

theorem p_v64 (h : ∀ l s, (V (Proc.devRef .tc main_v63) : IVec S128x128 1) (ix2 l s) = 1#1) (l s : Fin 128) :
    (after hostOps0_7 V (Proc.devRef .tc main_v64) : IVec S128x128 1) (ix2 l s) = if s.val ≤ l.val then 1#1 else 0#1 := by
  after_reads_simp
  unfold StableHlo.TRef.toBuf StableHlo.TRef.ofBuf
  simp only [cast_eq, eqRec_eq_cast, id]
  pointwise
  rw [h, show IntOp.addi (BitVec.ofNat 32 l.val) 0#32 = BitVec.ofNat 32 l.val from BitVec.add_zero _, Cert.Kernel4Ideal.Sf.sge_row]
  split <;> rfl

theorem p_v69 (n : Fin 64) (g : Fin 2) (k : Fin 8) (h : ∀ l, (V (Proc.devRef .tc main_v59) : FVec Ideal S1x64x2x8x128 .f32) (ix5 0 n g k l) = CS A n.val l (hgk g k)) (l s : Fin 128) :
    (after hostOps0_8 V (Proc.devRef .tc main_v69) : FVec Ideal S1x64x2x8x128x128 .f32) (ix6 0 n g k l s) = (CS A n.val l (hgk g k) - CS A n.val s (hgk g k) : EReal) := by
  after_reads_simp
  pointwise
  rw [h, h]

theorem p_cst_1 : (after hostOps0_8 V (Proc.devRef .tc main_cst_1) : FVec Ideal S_ .f32) = fun _ => (⊥ : EReal) := by
  after_reads_simp
  funext i
  pointwise
  simp [Ideal.ofBits, Ideal.ieee]

theorem p_v70 (n : Fin 64) (g : Fin 2) (k : Fin 8) (l s : Fin 128) (h : (V (Proc.devRef .tc main_v69) : FVec Ideal S1x64x2x8x128x128 .f32) (ix6 0 n g k l s) = (CS A n.val l (hgk g k) - CS A n.val s (hgk g k) : EReal))
    (hm : (V (Proc.devRef .tc main_v64) : IVec S128x128 1) (ix2 l s) = if s.val ≤ l.val then 1#1 else 0#1)
    (hc : (V (Proc.devRef .tc main_cst_1) : FVec Ideal S_ .f32) = fun _ => (⊥ : EReal)) :
    (after hostOps0_9 V (Proc.devRef .tc main_v70) : FVec Ideal S1x64x2x8x128x128 .f32) (ix6 0 n g k l s)
      = if s.val ≤ l.val then (CS A n.val l (hgk g k) - CS A n.val s (hgk g k) : EReal) else ⊥ := by
  after_reads_simp
  unfold StableHlo.TRef.toBuf StableHlo.TRef.ofBuf
  simp only [cast_eq, eqRec_eq_cast, id]
  pointwise
  rw [h, hm, hc]
  split <;> rfl

end Cert.Reference4Ideal.Sf

end
-- ==== Proof.SfRef2.lean ====
module

public import proofs.«01_k».proof.Proof.SfMath
public import proofs.«01_k».proof.Proof.SfRef
public import proofs.«01_k».proof.Proof.SfCum
public import proofs.«01_k».proof.Proof.Gen.Reference4Ideal.Run
public import Idealize.ShloMosaic.Lib.Pointwise
public import Idealize.ShloMosaic.Lib.StableHlo.Run
public import Idealize.ShloMosaic.Lib.StableHlo.RunRead

@[expose] public section

set_option maxRecDepth 16384

noncomputable section

open Idealize.ShloMosaic Idealize.ShloMosaic.TcCoe Idealize.SL.Sem

/-! The state-space forward lines, read: the chunks' own products, the loop's states, the results. -/

namespace Cert.Reference4Ideal.Sf

open Cert.Reference4Ideal Cert.Reference4Ideal.Gen Cert.Reference4Ideal.Value Cert.SfMath
open Cert.RfMath (row row_val)
open Idealize.ShloMosaic.StableHlo

variable (V : Valuation τ sig (Elt Ideal)) (A : Args)

/-- A chunk's own share of the state after it. -/
def SA (n : ℕ) (g : Fin 2) (k : Fin 8) (p : Fin 64) (s : Fin 128) : EReal :=
  ∑ l : Fin 128, AC A n l (bj g s) * (AC A n l (xj (cgk g k p)) * DC A n l (hgk g k) * Ideal.exp (CS A n 127 (hgk g k) - CS A n l (hgk g k)))

/-- The state before a chunk, with its axes in the forward lines' order. -/
def SP (n : ℕ) (g : Fin 2) (k : Fin 8) (p : Fin 64) (s : Fin 128) : EReal := ST A n g s (qk k p)

theorem SP_succ (n : ℕ) (g : Fin 2) (k : Fin 8) (p : Fin 64) (s : Fin 128) : SP A (n + 1) g k p s = SP A n g k p s * Ideal.exp (CS A n 127 (hgk g k)) + SA A n g k p s := by
  show nM (AC A n) (DC A n) (CS A n) (ST A n) g s (qk k p) = _
  unfold nM
  rw [show hd (gq g (qk k p)) = hgk g k from hd_cgk g k p]
  rfl

section Chunks

variable (h62 : ∀ n l g k p, (V (Proc.devRef .tc main_v62) : FVec Ideal S1x64x128x2x8x64 .f32) (ix6 0 n l g k p) = (AC A n.val l (xj (cgk g k p)) * DC A n.val l (hgk g k) : EReal))
  (h45 : ∀ n l g s, (V (Proc.devRef .tc main_v45) : FVec Ideal S1x64x128x2x128 .f32) (ix5 0 n l g s) = AC A n.val l (bj g s))
  (h46 : ∀ n l g s, (V (Proc.devRef .tc main_v46) : FVec Ideal S1x64x128x2x128 .f32) (ix5 0 n l g s) = AC A n.val l (cj g s))
  (h59 : ∀ n g k l, (V (Proc.devRef .tc main_v59) : FVec Ideal S1x64x2x8x128 .f32) (ix5 0 n g k l) = CS A n.val l (hgk g k))
  (h70 : ∀ n g k l s, (V (Proc.devRef .tc main_v70) : FVec Ideal S1x64x2x8x128x128 .f32) (ix6 0 n g k l s)
      = if s.val ≤ l.val then (CS A n.val l (hgk g k) - CS A n.val s (hgk g k) : EReal) else ⊥)

include h62 h45 h46 h70 in
theorem q_v77 (n : Fin 64) (l : Fin 128) (g : Fin 2) (k : Fin 8) (p : Fin 64) :
    (after hostOps0_10 V (Proc.devRef .tc main_v77) : FVec Ideal S1x64x128x2x8x64 .f32) (ix6 0 n l g k p) = ydM (AC A n.val) (DC A n.val) (CS A n.val) l (cgk g k p) := by
  after_reads_simp
  pointwise
  unfold ydM lM
  rw [hd_cgk, gr_cgk]
  show (_ : EReal) = _
  refine Finset.sum_congr rfl fun s _ => ?_
  rw [h62, h70, mul_comm]
  refine congrArg (fun x : EReal => x * (AC A n.val s (xj (cgk g k p)) * DC A n.val s (hgk g k))) (congr_arg₂ (· * · : EReal → EReal → EReal) (Finset.sum_congr rfl fun i _ => ?_) ?_)
  · rw [h45, h46]
  · split
    · rfl
    · exact Ideal.exp_bot

include h62 h45 h59 in
theorem q_v96_0 (n : Fin 64) (g : Fin 2) (k : Fin 8) (p : Fin 64) (s : Fin 128) :
    (after hostOps0_10 V (Proc.devRef .tc main_v96_0) : FVec Ideal S64x1x2x8x64x128 .f32) (ix6 n 0 g k p s) = SA A n.val g k p s := by
  after_reads_simp
  simp only [id]
  pointwise
  show (_ : EReal) = _
  refine Finset.sum_congr rfl fun l _ => ?_
  rw [h62, h45, h59, h59, mul_comm]

include h59 in
theorem q_v96_1 (n : Fin 64) (g : Fin 2) (k : Fin 8) :
    (after hostOps0_10 V (Proc.devRef .tc main_v96_1) : FVec Ideal S64x1x2x8 .f32) (ix4 n 0 g k) = Ideal.exp (CS A n.val 127 (hgk g k)) := by
  after_reads_simp
  simp only [id]
  pointwise
  rw [h59]

theorem q_v96_3 (g : Fin 2) (k : Fin 8) (p : Fin 64) (s : Fin 128) : (after hostOps0_10 V (Proc.devRef .tc main_v96_3) : FVec Ideal S1x2x8x64x128 .f32) (ix5 0 g k p s) = (0 : EReal) := by
  after_reads_simp
  simp only [id]
  pointwise

end Chunks

/-! ### After the loop -/

section Post

theorem s_v97 (n : Fin 64) (g : Fin 2) (k : Fin 8) (p : Fin 64) (s : Fin 128) : (after hostOps0_11 V (Proc.devRef .tc main_v97) : FVec Ideal S1x64x2x8x64x128 .f32) (ix6 0 n g k p s)
    = (V (Proc.devRef .tc main_v96_4) : FVec Ideal S64x1x2x8x64x128 .f32) (ix6 n 0 g k p s) := by
  after_reads_simp
  pointwise

theorem s_v111 (h77 : ∀ n l g k p, (V (Proc.devRef .tc main_v77) : FVec Ideal S1x64x128x2x8x64 .f32) (ix6 0 n l g k p) = ydM (AC A n.val) (DC A n.val) (CS A n.val) l (cgk g k p))
    (h96 : ∀ n g k p s, (V (Proc.devRef .tc main_v96_4) : FVec Ideal S64x1x2x8x64x128 .f32) (ix6 n 0 g k p s) = SP A n.val g k p s)
    (h46 : ∀ n l g s, (V (Proc.devRef .tc main_v46) : FVec Ideal S1x64x128x2x128 .f32) (ix5 0 n l g s) = AC A n.val l (cj g s))
    (h44 : ∀ n l g k p, (V (Proc.devRef .tc main_v44) : FVec Ideal S1x64x128x2x8x64 .f32) (ix6 0 n l g k p) = AC A n.val l (xj (cgk g k p)))
    (h59 : ∀ n g k l, (V (Proc.devRef .tc main_v59) : FVec Ideal S1x64x2x8x128 .f32) (ix5 0 n g k l) = CS A n.val l (hgk g k))
    (h4 : ∀ h, (V (Proc.devRef .tc main_v4) : FVec Ideal S16 .f32) (ix1 h) = A.ds h)
    (n : Fin 64) (l : Fin 128) (g : Fin 2) (k : Fin 8) (p : Fin 64) (t : Fin 8192) (j : Fin 1024) (hn : n.val = t.val / 128) (hl : l.val = t.val % 128) (hj : j = cgk g k p) :
    (after hostOps0_11 V (Proc.devRef .tc main_v111) : FVec Ideal S1x8192x1024 .f32) (ix3 0 t j) = YY A n.val l j := by
  after_reads_simp
  pointwise
  have e1 : ∀ hp, (⟨t.val / 128, hp⟩ : Fin 64) = n := fun _ => Fin.ext hn.symm
  have e2 : ∀ hp, (⟨t.val % 128, hp⟩ : Fin 128) = l := fun _ => Fin.ext hl.symm
  have hjv : j.val = 512 * g.val + (64 * k.val + p.val) := congrArg Fin.val hj
  have e3 : ∀ hp, (⟨j.val / 512, hp⟩ : Fin 2) = g := fun _ => Fin.ext (by show j.val / 512 = g.val; omega)
  have e4 : ∀ hp, (⟨j.val / 64 % 8, hp⟩ : Fin 8) = k := fun _ => Fin.ext (by show j.val / 64 % 8 = k.val; omega)
  have e5 : ∀ hp, (⟨j.val % 64, hp⟩ : Fin 64) = p := fun _ => Fin.ext (by show j.val % 64 = p.val; omega)
  have e6 : ∀ hp, (⟨j.val / 512 * 8 + j.val / 64 % 8, hp⟩ : Fin 16) = hgk g k := fun _ => Fin.ext (by show j.val / 512 * 8 + j.val / 64 % 8 = 8 * g.val + k.val; omega)
  have arr : ∀ a b c : EReal, a + b + c = b + c + a := fun a b c => (add_assoc a b c).trans (add_comm a _)
  have key : (∑ s : Fin 128, SP A n.val g k p s * AC A n.val l (cj g s) : EReal) = yoM (AC A n.val) (ST A n.val) l (cgk g k p) := by
    unfold yoM
    rw [gr_cgk, pl_cgk]
    exact Finset.sum_congr rfl fun s _ => mul_comm _ _
  simp only [e1, e2, e3, e4, e5, e6, h77, h96, h46, h44, h59, h4]
  rw [key, hj]
  unfold YY yM
  rw [hd_cgk]
  exact arr _ _ _

theorem s_v112 (hz : ∀ t j, (V (Proc.devRef .tc main_arg0) : FVec Ideal S1x8192x1024 .f32) (ix3 0 t j) = A.z t j) (t : Fin 8192) (j : Fin 1024) :
    (after hostOps0_12 V (Proc.devRef .tc main_v112) : FVec Ideal S1x8192x1024 .f32) (ix3 0 t j) = (A.z t j * Ideal.logistic (A.z t j) : EReal) := by
  after_reads_simp
  unfold StableHlo.TRef.toBuf StableHlo.TRef.ofBuf
  simp only [cast_eq, eqRec_eq_cast, id]
  pointwise
  rw [hz]
  rfl

theorem s_v131 (Y : Fin 8192 → Fin 1024 → EReal) (hy : ∀ t j, (V (Proc.devRef .tc main_v111) : FVec Ideal S1x8192x1024 .f32) (ix3 0 t j) = Y t j)
    (hz : ∀ t j, (V (Proc.devRef .tc main_v112) : FVec Ideal S1x8192x1024 .f32) (ix3 0 t j) = (A.z t j * Ideal.logistic (A.z t j) : EReal))
    (hw : ∀ j, (V (Proc.devRef .tc main_v5) : FVec Ideal S1024 .f32) (ix1 j) = A.nw j) (t : Fin 8192) (j : Fin 1024) :
    (after hostOps0_13 V (Proc.devRef .tc main_v131) : FVec Ideal S8192x1024 .bf16) (ix2 t j)
      = (Y t j * (A.z t j * Ideal.logistic (A.z t j)) * Ideal.rsqrt (Ideal.div (∑ x : Fin 1024, Y t x * (A.z t x * Ideal.logistic (A.z t x)) * (Y t x * (A.z t x * Ideal.logistic (A.z t x)))) (Ideal.ofBits FTy.f32 0x44800000#32)
          + Ideal.ofBits FTy.f32 0x358637BD#32) * A.nw j : EReal) := by
  after_reads_simp
  pointwise
  simp only [hy, hz, hw]

theorem s_v129 (n : Fin 64) (g : Fin 2) (s : Fin 128) (q : Fin 512) (hs : ∀ n g k p s, (V (Proc.devRef .tc main_v97) : FVec Ideal S1x64x2x8x64x128 .f32) (ix6 0 n g k p s) = SP A n.val g k p s) :
    (after hostOps0_13 V (Proc.devRef .tc main_v129) : FVec Ideal S64x2x128x512 .f32) (ix4 n g s q) = ST A n.val g s q := by
  after_reads_simp
  pointwise
  rw [hs]
  refine congrArg (ST A n.val g s) (Fin.ext ?_)
  show 64 * (q.val / 64) + q.val % 64 = q.val
  omega

theorem s_v133 (t : Fin 8192) (j : Fin 1024) :
    (after hostOps0_13 V (Proc.devRef .tc main_v133) : FVec Ideal S8192x1024 .bf16) (ix2 t j) = (V (Proc.devRef .tc main_v111) : FVec Ideal S1x8192x1024 .f32) (ix3 0 t j) := by
  after_reads_simp
  pointwise

theorem s_v135 (t : Fin 8192) (j : Fin 1536) :
    (after hostOps0_13 V (Proc.devRef .tc main_v135) : FVec Ideal S8192x1536 .bf16) (ix2 t j) = (V (Proc.devRef .tc main_v39) : FVec Ideal S1x8192x1536 .f32) (ix3 0 t j) := by
  after_reads_simp
  pointwise

end Post

/-! ### The loop -/

section Loop

variable (m : (ℓ : Loc nD τ sig) → Buf (Elt Ideal) ℓ) (c : Dev nD)

/-- Where a trip reads and writes the stacks of states. -/
def starts6 : Fin 6 → Int := fun k => (((![V (Proc.devRef .tc main_v96_2), constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt

/-- Where a trip reads the stack of decays. -/
def starts4 : Fin 4 → Int := fun k => (((![V (Proc.devRef .tc main_v96_2), constantI S_ 32 0#32, constantI S_ 32 0#32, constantI S_ 32 0#32] : Fin 4 → (⟨S_, .i32⟩ : BufTy).Contents (Elt Ideal))) k (Shape.Idx.first h_S_)).toInt

theorem starts6_ne (a : Fin 6) (ha : a ≠ 0) : starts6 V a = 0 := by
  fin_cases a
  · exact absurd rfl ha
  · rfl
  · rfl
  · rfl
  · rfl
  · rfl

theorem starts4_ne (a : Fin 4) (ha : a ≠ 0) : starts4 V a = 0 := by
  fin_cases a
  · exact absurd rfl ha
  · rfl
  · rfl
  · rfl

section Trip

variable (i : Fin 64) (hc : V (Proc.devRef .tc main_v96_2) = fun _ => Scf.iv 0#32 1#32 i.val)
include hc

theorem starts6_zero : starts6 V 0 = (i.val : Int) := by
  show BitVec.toInt ((V (Proc.devRef .tc main_v96_2) : (⟨S_, .i32⟩ : BufTy).Contents (Elt Ideal)) (Shape.Idx.first h_S_)) = _
  rw [hc]
  refine (Scf.toInt_iv (lb := 0#32) (ub := 64#32) (st := 1#32) (by decide) (show i.val ≤ 64 by omega)).trans ?_
  simp

theorem starts4_zero : starts4 V 0 = (i.val : Int) := starts6_zero V i hc

/-- One trip's state. -/
theorem trip3 (G : Fin 2 → Fin 8 → EReal) (B S : Fin 2 → Fin 8 → Fin 64 → Fin 128 → EReal)
    (h1 : ∀ g k, (V (Proc.devRef .tc main_v96_1) : FVec Ideal S64x1x2x8 .f32) (ix4 i 0 g k) = G g k)
    (h0 : ∀ g k p s, (V (Proc.devRef .tc main_v96_0) : FVec Ideal S64x1x2x8x64x128 .f32) (ix6 i 0 g k p s) = B g k p s)
    (h3 : ∀ g k p s, (V (Proc.devRef .tc main_v96_3) : FVec Ideal S1x2x8x64x128 .f32) (ix5 0 g k p s) = S g k p s) (g : Fin 2) (k : Fin 8) (p : Fin 64) (s : Fin 128) :
    (afterL bodyI V (Proc.devRef .tc main_v96_3) : FVec Ideal S1x2x8x64x128 .f32) (ix5 0 g k p s) = (S g k p s * G g k + B g k p s : EReal) := by
  rw [trip_main_v96_3, id]
  refine congr_arg₂ (· + · : EReal → EReal → EReal) (congr_arg₂ (· * · : EReal → EReal → EReal) (h3 g k p s) ?_) ?_
  · refine Eq.trans ?_ ((Cert.Stack.slice4 (N := 64) (A := 2) (B := 8) (starts4 V) i (starts4_zero V i hc) (starts4_ne V) (V (Proc.devRef .tc main_v96_1)) sliceFits_S64x1x2x8_S1x1x2x8 g k).trans (h1 g k))
    show broadcastInDim S1x2x8x64x128 ![0, 1, 2, 3, 4] bcast_S1x2x8x1x1_S1x2x8x64x128_0_1_2_3_4 (broadcastInDim S1x2x8x1x1 ![0, 1, 2] bcast_S1x2x8_S1x2x8x1x1_0_1_2
      (shapeCast S1x2x8 (Host.dynamicSlice S1x1x2x8 (V (Proc.devRef .tc main_v96_1)) (starts4 V) sliceFits_S64x1x2x8_S1x1x2x8) shapeCasts_S1x1x2x8_S1x2x8)) (ix5 0 g k p s) = _
    generalize Host.dynamicSlice S1x1x2x8 (V (Proc.devRef .tc main_v96_1)) (starts4 V) sliceFits_S64x1x2x8_S1x1x2x8 = y
    pointwise
  · refine Eq.trans ?_ ((Cert.Stack.slice6 (N := 64) (A := 2) (B := 8) (C := 64) (D := 128) (starts6 V) i (starts6_zero V i hc) (starts6_ne V) (V (Proc.devRef .tc main_v96_0)) sliceFits_S64x1x2x8x64x128_S1x1x2x8x64x128 g k p s).trans (h0 g k p s))
    show shapeCast S1x2x8x64x128 (Host.dynamicSlice S1x1x2x8x64x128 (V (Proc.devRef .tc main_v96_0)) (starts6 V) sliceFits_S64x1x2x8x64x128_S1x1x2x8x64x128) shapeCasts_S1x1x2x8x64x128_S1x2x8x64x128 (ix5 0 g k p s) = _
    generalize Host.dynamicSlice S1x1x2x8x64x128 (V (Proc.devRef .tc main_v96_0)) (starts6 V) sliceFits_S64x1x2x8x64x128_S1x1x2x8x64x128 = y
    pointwise

/-- One trip's stack of states. -/
theorem trip4 (S : Fin 2 → Fin 8 → Fin 64 → Fin 128 → EReal) (n : Fin 64)
    (h3 : ∀ g k p s, (V (Proc.devRef .tc main_v96_3) : FVec Ideal S1x2x8x64x128 .f32) (ix5 0 g k p s) = S g k p s) (g : Fin 2) (k : Fin 8) (p : Fin 64) (s : Fin 128) :
    (afterL bodyI V (Proc.devRef .tc main_v96_4) : FVec Ideal S64x1x2x8x64x128 .f32) (ix6 n 0 g k p s)
      = if n = i then S g k p s else (V (Proc.devRef .tc main_v96_4) : FVec Ideal S64x1x2x8x64x128 .f32) (ix6 n 0 g k p s) := by
  rw [trip_main_v96_4, id]
  refine (Cert.Stack.update6 (N := 64) (A := 2) (B := 8) (C := 64) (D := 128) (starts6 V) i (starts6_zero V i hc) (starts6_ne V) (V (Proc.devRef .tc main_v96_4)) _ updateFits_S64x1x2x8x64x128_S1x1x2x8x64x128 n g k p s).trans ?_
  refine if_congr Iff.rfl (Eq.trans ?_ (h3 g k p s)) rfl
  pointwise

end Trip

/-- The states before each trip. -/
theorem loop
    (h0 : ∀ n g k p s, (entryContents preI m c (Proc.devRef .tc main_v96_0) : FVec Ideal S64x1x2x8x64x128 .f32) (ix6 n 0 g k p s) = SA A n.val g k p s)
    (h1 : ∀ n g k, (entryContents preI m c (Proc.devRef .tc main_v96_1) : FVec Ideal S64x1x2x8 .f32) (ix4 n 0 g k) = Ideal.exp (CS A n.val 127 (hgk g k)))
    (h3 : ∀ g k p s, (entryContents preI m c (Proc.devRef .tc main_v96_3) : FVec Ideal S1x2x8x64x128 .f32) (ix5 0 g k p s) = (0 : EReal)) :
    ∀ i : ℕ, i ≤ 64 → atK m i c (Proc.devRef .tc main_v96_0) = entryContents preI m c (Proc.devRef .tc main_v96_0)
      ∧ atK m i c (Proc.devRef .tc main_v96_1) = entryContents preI m c (Proc.devRef .tc main_v96_1)
      ∧ (∀ g k p s, (atK m i c (Proc.devRef .tc main_v96_3) : FVec Ideal S1x2x8x64x128 .f32) (ix5 0 g k p s) = SP A i g k p s)
      ∧ ∀ n : Fin 64, n.val < i → ∀ g k p s, (atK m i c (Proc.devRef .tc main_v96_4) : FVec Ideal S64x1x2x8x64x128 .f32) (ix6 n 0 g k p s) = SP A n.val g k p s
  | 0, _ => ⟨rfl, rfl, h3, fun n hn => absurd hn (Nat.not_lt_zero _)⟩
  | i + 1, hk => by
    obtain ⟨i0, i1, i3, i4⟩ := loop h0 h1 h3 i (by omega)
    have ag := cond_keeps (atK m i c)
    have a0 := (ag main_v96_0 (by decide)).trans i0
    have a1 := (ag main_v96_1 (by decide)).trans i1
    have a2 := (ag main_v96_2 (by decide)).trans (atK_ctr m c i)
    have a3 := ag main_v96_3 (by decide)
    have a4 := ag main_v96_4 (by decide)
    have s3 : ∀ g k p s, (after condOps (atK m i c) (Proc.devRef .tc main_v96_3) : FVec Ideal S1x2x8x64x128 .f32) (ix5 0 g k p s) = SP A i g k p s := fun g k p s => (congrFun a3 _).trans (i3 g k p s)
    refine ⟨(trip_main_v96_0 _).trans a0, (trip_main_v96_1 _).trans a1, fun g k p s => ?_, fun n hn g k p s => ?_⟩
    · exact (trip3 (after condOps (atK m i c)) ⟨i, by omega⟩ a2 (fun g k => Ideal.exp (CS A i 127 (hgk g k))) (SA A i) (SP A i) (fun g k => (congrFun a1 _).trans (h1 ⟨i, by omega⟩ g k))
        (fun g k p s => (congrFun a0 _).trans (h0 ⟨i, by omega⟩ g k p s)) s3 g k p s).trans (SP_succ A i g k p s).symm
    · refine (trip4 (after condOps (atK m i c)) ⟨i, by omega⟩ a2 (SP A i) n s3 g k p s).trans ?_
      by_cases hni : n = ⟨i, by omega⟩
      · rw [if_pos hni, hni]
      · rw [if_neg hni]
        exact (congrFun a4 _).trans (i4 n (Nat.lt_of_le_of_ne (Nat.lt_succ_iff.mp hn) fun hh => hni (Fin.ext hh)) g k p s)

end Loop

end Cert.Reference4Ideal.Sf

end
-- ==== Proof.SfFinal.lean ====
module

public import proofs.«01_k».proof.Defs
public import proofs.«01_k».proof.Proof.SfRun
public import proofs.«01_k».proof.Proof.SfRef2
public import proofs.«01_k».proof.Proof.Gen.Kernel4.Frame

@[expose] public section

set_option maxRecDepth 16384

noncomputable section

open Idealize.ShloMosaic Idealize.ShloMosaic.TcCoe Idealize.SL.Sem Idealize.ShloMosaic.StableHlo

/-! The state-space forward kernel and the forward lines give the same outputs, convolutions and states. -/

namespace Cert.Reference4Ideal.Sf

open Cert.Reference4Ideal Cert.Reference4Ideal.Gen Cert.Reference4Ideal.Value Cert.SfMath
open Cert.RfMath (row row_val)

variable (m : (ℓ : Loc nD τ sig) → Buf (Elt Ideal) ℓ) (c : Dev nD)

/-- The forward lines' arguments, by entry. -/
def A : Args := Cert.Kernel4Ideal.Sf.args (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))

/-! The contents after each stretch ahead of the loop. -/

def W0 : Valuation τ sig (Elt Ideal) := after hostOps0 (launchContents m c)
def W1 : Valuation τ sig (Elt Ideal) := after hostOps0_1 (W0 m c)
def W2 : Valuation τ sig (Elt Ideal) := after hostOps0_2 (W1 m c)
def W3 : Valuation τ sig (Elt Ideal) := after hostOps0_3 (W2 m c)
def W4 : Valuation τ sig (Elt Ideal) := after hostOps0_4 (W3 m c)
def W5 : Valuation τ sig (Elt Ideal) := after hostOps0_5 (W4 m c)
def W6 : Valuation τ sig (Elt Ideal) := after hostOps0_6 (W5 m c)
def W7 : Valuation τ sig (Elt Ideal) := after hostOps0_7 (W6 m c)
def W8 : Valuation τ sig (Elt Ideal) := after hostOps0_8 (W7 m c)
def W9 : Valuation τ sig (Elt Ideal) := after hostOps0_9 (W8 m c)
def W10 : Valuation τ sig (Elt Ideal) := after hostOps0_10 (W9 m c)

theorem entry_eq : entryContents preI m c = W10 m c := rfl

variable (r : Ref sig .tc)

theorem k0 (h : r ∉ hostOps0_W) : W0 m c (Proc.devRef .tc r) = launchContents m c (Proc.devRef .tc r) := after_of_writes_sub hostOps0 _ hostOps0_writes h
theorem k1 (h : r ∉ hostOps0_1_W) : W1 m c (Proc.devRef .tc r) = W0 m c (Proc.devRef .tc r) := after_of_writes_sub hostOps0_1 _ hostOps0_1_writes h
theorem k2 (h : r ∉ hostOps0_2_W) : W2 m c (Proc.devRef .tc r) = W1 m c (Proc.devRef .tc r) := after_of_writes_sub hostOps0_2 _ hostOps0_2_writes h
theorem k3 (h : r ∉ hostOps0_3_W) : W3 m c (Proc.devRef .tc r) = W2 m c (Proc.devRef .tc r) := after_of_writes_sub hostOps0_3 _ hostOps0_3_writes h
theorem k4 (h : r ∉ hostOps0_4_W) : W4 m c (Proc.devRef .tc r) = W3 m c (Proc.devRef .tc r) := after_of_writes_sub hostOps0_4 _ hostOps0_4_writes h
theorem k5 (h : r ∉ hostOps0_5_W) : W5 m c (Proc.devRef .tc r) = W4 m c (Proc.devRef .tc r) := after_of_writes_sub hostOps0_5 _ hostOps0_5_writes h
theorem k6 (h : r ∉ hostOps0_6_W) : W6 m c (Proc.devRef .tc r) = W5 m c (Proc.devRef .tc r) := after_of_writes_sub hostOps0_6 _ hostOps0_6_writes h
theorem k7 (h : r ∉ hostOps0_7_W) : W7 m c (Proc.devRef .tc r) = W6 m c (Proc.devRef .tc r) := after_of_writes_sub hostOps0_7 _ hostOps0_7_writes h
theorem k8 (h : r ∉ hostOps0_8_W) : W8 m c (Proc.devRef .tc r) = W7 m c (Proc.devRef .tc r) := after_of_writes_sub hostOps0_8 _ hostOps0_8_writes h
theorem k9 (h : r ∉ hostOps0_9_W) : W9 m c (Proc.devRef .tc r) = W8 m c (Proc.devRef .tc r) := after_of_writes_sub hostOps0_9 _ hostOps0_9_writes h
theorem k10 (h : r ∉ hostOps0_10_W) : W10 m c (Proc.devRef .tc r) = W9 m c (Proc.devRef .tc r) := after_of_writes_sub hostOps0_10 _ hostOps0_10_writes h

/-! Buffers kept over several stretches. -/

theorem k0_3 (h : r ∉ hostOps0_1_W ++ hostOps0_2_W ++ hostOps0_3_W) : W3 m c (Proc.devRef .tc r) = W0 m c (Proc.devRef .tc r) := by
  simp only [List.mem_append, not_or] at h
  obtain ⟨⟨h1, h2⟩, h3⟩ := h
  exact (k3 m c r h3).trans ((k2 m c r h2).trans (k1 m c r h1))

theorem k2_5 (h : r ∉ hostOps0_3_W ++ hostOps0_4_W ++ hostOps0_5_W) : W5 m c (Proc.devRef .tc r) = W2 m c (Proc.devRef .tc r) := by
  simp only [List.mem_append, not_or] at h
  obtain ⟨⟨h1, h2⟩, h3⟩ := h
  exact (k5 m c r h3).trans ((k4 m c r h2).trans (k3 m c r h1))

theorem k5_7 (h : r ∉ hostOps0_6_W ++ hostOps0_7_W) : W7 m c (Proc.devRef .tc r) = W5 m c (Proc.devRef .tc r) := by
  simp only [List.mem_append, not_or] at h
  obtain ⟨h1, h2⟩ := h
  exact (k7 m c r h2).trans (k6 m c r h1)

theorem k2_9 (h : r ∉ hostOps0_3_W ++ hostOps0_4_W ++ hostOps0_5_W ++ hostOps0_6_W ++ hostOps0_7_W ++ hostOps0_8_W ++ hostOps0_9_W) : W9 m c (Proc.devRef .tc r) = W2 m c (Proc.devRef .tc r) := by
  simp only [List.mem_append, not_or] at h
  obtain ⟨⟨⟨⟨⟨⟨h1, h2⟩, h3⟩, h4⟩, h5⟩, h6⟩, h7⟩ := h
  exact (k9 m c r h7).trans ((k8 m c r h6).trans ((k7 m c r h5).trans ((k6 m c r h4).trans ((k5 m c r h3).trans ((k4 m c r h2).trans (k3 m c r h1))))))

theorem k5_9 (h : r ∉ hostOps0_6_W ++ hostOps0_7_W ++ hostOps0_8_W ++ hostOps0_9_W) : W9 m c (Proc.devRef .tc r) = W5 m c (Proc.devRef .tc r) := by
  simp only [List.mem_append, not_or] at h
  obtain ⟨⟨⟨h1, h2⟩, h3⟩, h4⟩ := h
  exact (k9 m c r h4).trans ((k8 m c r h3).trans ((k7 m c r h2).trans (k6 m c r h1)))

theorem k6_9 (h : r ∉ hostOps0_7_W ++ hostOps0_8_W ++ hostOps0_9_W) : W9 m c (Proc.devRef .tc r) = W6 m c (Proc.devRef .tc r) := by
  simp only [List.mem_append, not_or] at h
  obtain ⟨⟨h1, h2⟩, h3⟩ := h
  exact (k9 m c r h3).trans ((k8 m c r h2).trans (k7 m c r h1))

theorem k0_10 (h : r ∉ hostOps0_1_W ++ hostOps0_2_W ++ hostOps0_3_W ++ hostOps0_4_W ++ hostOps0_5_W ++ hostOps0_6_W ++ hostOps0_7_W ++ hostOps0_8_W ++ hostOps0_9_W ++ hostOps0_10_W) : W10 m c (Proc.devRef .tc r) = W0 m c (Proc.devRef .tc r) := by
  simp only [List.mem_append, not_or] at h
  obtain ⟨⟨⟨⟨⟨⟨⟨⟨⟨h1, h2⟩, h3⟩, h4⟩, h5⟩, h6⟩, h7⟩, h8⟩, h9⟩, h10⟩ := h
  exact (k10 m c r h10).trans ((k9 m c r h9).trans ((k8 m c r h8).trans ((k7 m c r h7).trans ((k6 m c r h6).trans ((k5 m c r h5).trans ((k4 m c r h4).trans ((k3 m c r h3).trans ((k2 m c r h2).trans (k1 m c r h1)))))))))

/-- The buffers the loop writes. -/
abbrev loopW : List (Ref sig .tc) := condOps_W ++ while0Ops0_W ++ while0Ops0_1_W ++ while0Ops0_2_W ++ while0Ops0_3_W ++ while0Ops0_4_W

theorem keepL (h : r ∉ loopW) : ∀ k, atK m k c (Proc.devRef .tc r) = W10 m c (Proc.devRef .tc r)
  | 0 => rfl
  | k + 1 => by
    have hh := h
    simp only [loopW, List.mem_append, not_or] at h
    obtain ⟨⟨⟨⟨⟨h0, h1⟩, h2⟩, h3⟩, h4⟩, h5⟩ := h
    rw [show atK m (k + 1) c = afterL bodyI (after condOps (atK m k c)) from rfl]
    simp only [afterL_cons, afterL_nil]
    rw [after_of_writes_sub while0Ops0_4 _ while0Ops0_4_writes h5, after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1, after_of_writes_sub condOps _ condOps_writes h0]
    exact keepL hh k

/-- The contents after the loop. -/
def L : Valuation τ sig (Elt Ideal) := after condOps (atK m 64 c)

theorem kL (h : r ∉ loopW) : L m c (Proc.devRef .tc r) = W10 m c (Proc.devRef .tc r) := by
  refine (after_of_writes_sub condOps _ condOps_writes ?_).trans (keepL m c r h 64)
  simp only [loopW, List.mem_append, not_or] at h
  exact h.1.1.1.1.1

/-- What the loop and the stretches around it leave of the first stretch's contents. -/
theorem kL_0 (h : r ∉ loopW) (h' : r ∉ hostOps0_1_W ++ hostOps0_2_W ++ hostOps0_3_W ++ hostOps0_4_W ++ hostOps0_5_W ++ hostOps0_6_W ++ hostOps0_7_W ++ hostOps0_8_W ++ hostOps0_9_W ++ hostOps0_10_W) :
    L m c (Proc.devRef .tc r) = W0 m c (Proc.devRef .tc r) := (kL m c r h).trans (k0_10 m c r h')

/-- An argument after the loop. -/
theorem kL_arg (h : r ∉ loopW) (h' : r ∉ hostOps0_1_W ++ hostOps0_2_W ++ hostOps0_3_W ++ hostOps0_4_W ++ hostOps0_5_W ++ hostOps0_6_W ++ hostOps0_7_W ++ hostOps0_8_W ++ hostOps0_9_W ++ hostOps0_10_W) (h0 : r ∉ hostOps0_W) :
    L m c (Proc.devRef .tc r) = launchContents m c (Proc.devRef .tc r) := (kL_0 m c r h h').trans (k0 m c r h0)

/-! ### The stretches ahead of the loop -/

theorem w39 (t : Fin 8192) (j : Fin 1536) : (W0 m c (Proc.devRef .tc main_v39) : FVec Ideal S1x8192x1536 .f32) (ix3 0 t j) = UU (A m c) t j :=
  p_v39 (launchContents m c) (A m c) (fun _ _ => rfl) (fun _ _ => rfl) (fun _ => rfl) t j

theorem w40 (t : Fin 8192) (j : Fin 1536) : (W1 m c (Proc.devRef .tc main_v40) : FVec Ideal S1x8192x1536 .f32) (ix3 0 t j) = AA (A m c) t j := p_v40 (W0 m c) (A m c) (w39 m c) t j

theorem w44 (n : Fin 64) (l : Fin 128) (g : Fin 2) (k : Fin 8) (p : Fin 64) : (W2 m c (Proc.devRef .tc main_v44) : FVec Ideal S1x64x128x2x8x64 .f32) (ix6 0 n l g k p) = AC (A m c) n.val l (xj (cgk g k p)) :=
  p_v44 (W1 m c) (A m c) (w40 m c) n l g k p

theorem w45 (n : Fin 64) (l : Fin 128) (g : Fin 2) (s : Fin 128) : (W2 m c (Proc.devRef .tc main_v45) : FVec Ideal S1x64x128x2x128 .f32) (ix5 0 n l g s) = AC (A m c) n.val l (bj g s) :=
  p_v45 (W1 m c) (A m c) (w40 m c) n l g s

theorem w46 (n : Fin 64) (l : Fin 128) (g : Fin 2) (s : Fin 128) : (W2 m c (Proc.devRef .tc main_v46) : FVec Ideal S1x64x128x2x128 .f32) (ix5 0 n l g s) = AC (A m c) n.val l (cj g s) :=
  p_v46 (W1 m c) (A m c) (w40 m c) n l g s

theorem w49 (t : Fin 8192) (h : Fin 16) : (W2 m c (Proc.devRef .tc main_v49) : FVec Ideal S1x8192x16 .f32) (ix3 0 t h) = ((A m c).d t h + (A m c).db h : EReal) :=
  p_v49 (W1 m c) (A m c) (fun t h => congrFun ((k1 m c main_arg2 (by decide +kernel)).trans (k0 m c main_arg2 (by decide +kernel))) _)
    (fun h => (congrFun (k1 m c main_v2 (by decide +kernel)) _).trans (p_v2 (launchContents m c) h)) t h

theorem w50 (t : Fin 8192) (h : Fin 16) : (W3 m c (Proc.devRef .tc main_v50) : FVec Ideal S1x8192x16 .f32) (ix3 0 t h) = DT (A m c) t h := p_v50 (W2 m c) (A m c) (w49 m c) t h

theorem w53 (n : Fin 64) (l : Fin 128) (g : Fin 2) (k : Fin 8) : (W4 m c (Proc.devRef .tc main_v53) : FVec Ideal S1x64x128x2x8 .f32) (ix5 0 n l g k) = DC (A m c) n.val l (hgk g k) :=
  p_v53 (W3 m c) (A m c) (w50 m c) n l g k

theorem w58 (n : Fin 64) (g : Fin 2) (k : Fin 8) (l : Fin 128) : (W4 m c (Proc.devRef .tc main_v58) : FVec Ideal S1x64x2x8x128 .f32) (ix5 0 n g k l) = DA (A m c) (row n.val l) (hgk g k) :=
  p_v58 (W3 m c) (A m c) (w50 m c) (fun h => (congrFun (k0_3 m c main_v3 (by decide +kernel)) _).trans (p_v3 (launchContents m c) h)) n g k l

theorem w59 (n : Fin 64) (g : Fin 2) (k : Fin 8) (l : Fin 128) : (W5 m c (Proc.devRef .tc main_v59) : FVec Ideal S1x64x2x8x128 .f32) (ix5 0 n g k l) = CS (A m c) n.val l (hgk g k) :=
  p_v59 (W4 m c) (A m c) (w58 m c) n g k l

theorem w62 (n : Fin 64) (l : Fin 128) (g : Fin 2) (k : Fin 8) (p : Fin 64) : (W6 m c (Proc.devRef .tc main_v62) : FVec Ideal S1x64x128x2x8x64 .f32) (ix6 0 n l g k p)
    = (AC (A m c) n.val l (xj (cgk g k p)) * DC (A m c) n.val l (hgk g k) : EReal) :=
  p_v62 (W5 m c) (A m c) (fun n l g k p => (congrFun (k2_5 m c main_v44 (by decide +kernel)) _).trans (w44 m c n l g k p))
    (fun n l g k => (congrFun (k5 m c main_v53 (by decide +kernel)) _).trans (w53 m c n l g k)) n l g k p

theorem w64 (l s : Fin 128) : (W7 m c (Proc.devRef .tc main_v64) : IVec S128x128 1) (ix2 l s) = if s.val ≤ l.val then 1#1 else 0#1 := p_v64 (W6 m c) (p_v63 (W5 m c)) l s

theorem w69 (n : Fin 64) (g : Fin 2) (k : Fin 8) (l s : Fin 128) : (W8 m c (Proc.devRef .tc main_v69) : FVec Ideal S1x64x2x8x128x128 .f32) (ix6 0 n g k l s)
    = (CS (A m c) n.val l (hgk g k) - CS (A m c) n.val s (hgk g k) : EReal) :=
  p_v69 (W7 m c) (A m c) n g k (fun l => (congrFun (k5_7 m c main_v59 (by decide +kernel)) _).trans (w59 m c n g k l)) l s

theorem w70 (n : Fin 64) (g : Fin 2) (k : Fin 8) (l s : Fin 128) : (W9 m c (Proc.devRef .tc main_v70) : FVec Ideal S1x64x2x8x128x128 .f32) (ix6 0 n g k l s)
    = if s.val ≤ l.val then (CS (A m c) n.val l (hgk g k) - CS (A m c) n.val s (hgk g k) : EReal) else ⊥ :=
  p_v70 (W8 m c) (A m c) n g k l s (w69 m c n g k l s) ((congrFun (k8 m c main_v64 (by decide +kernel)) _).trans (w64 m c l s)) (p_cst_1 (W7 m c))

theorem e62 (n : Fin 64) (l : Fin 128) (g : Fin 2) (k : Fin 8) (p : Fin 64) : (W9 m c (Proc.devRef .tc main_v62) : FVec Ideal S1x64x128x2x8x64 .f32) (ix6 0 n l g k p)
    = (AC (A m c) n.val l (xj (cgk g k p)) * DC (A m c) n.val l (hgk g k) : EReal) := (congrFun (k6_9 m c main_v62 (by decide +kernel)) _).trans (w62 m c n l g k p)

theorem e45 (n : Fin 64) (l : Fin 128) (g : Fin 2) (s : Fin 128) : (W9 m c (Proc.devRef .tc main_v45) : FVec Ideal S1x64x128x2x128 .f32) (ix5 0 n l g s) = AC (A m c) n.val l (bj g s) :=
  (congrFun (k2_9 m c main_v45 (by decide +kernel)) _).trans (w45 m c n l g s)

theorem e46 (n : Fin 64) (l : Fin 128) (g : Fin 2) (s : Fin 128) : (W9 m c (Proc.devRef .tc main_v46) : FVec Ideal S1x64x128x2x128 .f32) (ix5 0 n l g s) = AC (A m c) n.val l (cj g s) :=
  (congrFun (k2_9 m c main_v46 (by decide +kernel)) _).trans (w46 m c n l g s)

theorem e59 (n : Fin 64) (g : Fin 2) (k : Fin 8) (l : Fin 128) : (W9 m c (Proc.devRef .tc main_v59) : FVec Ideal S1x64x2x8x128 .f32) (ix5 0 n g k l) = CS (A m c) n.val l (hgk g k) :=
  (congrFun (k5_9 m c main_v59 (by decide +kernel)) _).trans (w59 m c n g k l)

/-! ### The loop and what follows -/

/-- The states: one a chunk, each from the chunks before. -/
theorem states (n : Fin 64) (g : Fin 2) (k : Fin 8) (p : Fin 64) (s : Fin 128) : (L m c (Proc.devRef .tc main_v96_4) : FVec Ideal S64x1x2x8x64x128 .f32) (ix6 n 0 g k p s) = SP (A m c) n.val g k p s :=
  (congrFun (cond_keeps (atK m 64 c) main_v96_4 (by decide)) _).trans
    ((loop (A m c) m c (q_v96_0 (W9 m c) (A m c) (e62 m c) (e45 m c) (e59 m c)) (q_v96_1 (W9 m c) (A m c) (e59 m c)) (q_v96_3 (W9 m c)) 64 (le_refl _)).2.2.2 n n.isLt g k p s)

/-- The output before its gate and norm. -/
theorem y (t : Fin 8192) (j : Fin 1024) : (after hostOps0_11 (L m c) (Proc.devRef .tc main_v111) : FVec Ideal S1x8192x1024 .f32) (ix3 0 t j) = YY (A m c) (t.val / 128) ⟨t.val % 128, Nat.mod_lt _ (by decide)⟩ j :=
  s_v111 (L m c) (A m c)
    (fun n l g k p => (congrFun (kL m c main_v77 (by decide +kernel)) _).trans (q_v77 (W9 m c) (A m c) (e62 m c) (e45 m c) (e46 m c) (w70 m c) n l g k p))
    (states m c)
    (fun n l g s => (congrFun ((kL m c main_v46 (by decide +kernel)).trans (k10 m c main_v46 (by decide +kernel))) _).trans (e46 m c n l g s))
    (fun n l g k p => (congrFun ((kL m c main_v44 (by decide +kernel)).trans ((k10 m c main_v44 (by decide +kernel)).trans (k2_9 m c main_v44 (by decide +kernel)))) _).trans (w44 m c n l g k p))
    (fun n g k l => (congrFun ((kL m c main_v59 (by decide +kernel)).trans (k10 m c main_v59 (by decide +kernel))) _).trans (e59 m c n g k l))
    (fun h => (congrFun (kL_0 m c main_v4 (by decide +kernel) (by decide +kernel)) _).trans (p_v4 (launchContents m c) h))
    ⟨t.val / 128, by omega⟩ ⟨t.val % 128, Nat.mod_lt _ (by decide)⟩ ⟨j.val / 512, by omega⟩ ⟨j.val / 64 % 8, by omega⟩ ⟨j.val % 64, by omega⟩ t j rfl rfl
    (Fin.ext (by show j.val = 512 * (j.val / 512) + (64 * (j.val / 64 % 8) + j.val % 64); omega))

/-- The contents before the last stretch. -/
def E : Valuation τ sig (Elt Ideal) := after hostOps0_12 (after hostOps0_11 (L m c))

/-! What the stretches after the loop leave. -/

variable (V : Valuation τ sig (Elt Ideal))

theorem z12_v111 : after hostOps0_12 V (Proc.devRef .tc main_v111) = V (Proc.devRef .tc main_v111) := by after_reads_simp

theorem z12_v97 : after hostOps0_12 V (Proc.devRef .tc main_v97) = V (Proc.devRef .tc main_v97) := by after_reads_simp

theorem z11_arg0 : after hostOps0_11 V (Proc.devRef .tc main_arg0) = V (Proc.devRef .tc main_arg0) := by after_reads_simp

theorem z_v5 : after hostOps0_12 (after hostOps0_11 V) (Proc.devRef .tc main_v5) = V (Proc.devRef .tc main_v5) := by after_reads_simp

theorem z_v39 : after hostOps0_12 (after hostOps0_11 V) (Proc.devRef .tc main_v39) = V (Proc.devRef .tc main_v39) := by after_reads_simp

theorem z_arg0 : after hostOps0_13 (after hostOps0_12 (after hostOps0_11 V)) (Proc.devRef .tc main_arg0) = V (Proc.devRef .tc main_arg0) := by after_reads_simp

theorem z_arg1 : after hostOps0_13 (after hostOps0_12 (after hostOps0_11 V)) (Proc.devRef .tc main_arg1) = V (Proc.devRef .tc main_arg1) := by after_reads_simp

theorem z_arg2 : after hostOps0_13 (after hostOps0_12 (after hostOps0_11 V)) (Proc.devRef .tc main_arg2) = V (Proc.devRef .tc main_arg2) := by after_reads_simp

theorem z_arg3 : after hostOps0_13 (after hostOps0_12 (after hostOps0_11 V)) (Proc.devRef .tc main_arg3) = V (Proc.devRef .tc main_arg3) := by after_reads_simp

theorem z_arg4 : after hostOps0_13 (after hostOps0_12 (after hostOps0_11 V)) (Proc.devRef .tc main_arg4) = V (Proc.devRef .tc main_arg4) := by after_reads_simp

theorem z_arg5 : after hostOps0_13 (after hostOps0_12 (after hostOps0_11 V)) (Proc.devRef .tc main_arg5) = V (Proc.devRef .tc main_arg5) := by after_reads_simp

theorem z_arg6 : after hostOps0_13 (after hostOps0_12 (after hostOps0_11 V)) (Proc.devRef .tc main_arg6) = V (Proc.devRef .tc main_arg6) := by after_reads_simp

theorem z_arg7 : after hostOps0_13 (after hostOps0_12 (after hostOps0_11 V)) (Proc.devRef .tc main_arg7) = V (Proc.devRef .tc main_arg7) := by after_reads_simp

theorem z_arg8 : after hostOps0_13 (after hostOps0_12 (after hostOps0_11 V)) (Proc.devRef .tc main_arg8) = V (Proc.devRef .tc main_arg8) := by after_reads_simp

theorem yE (t : Fin 8192) (j : Fin 1024) : (E m c (Proc.devRef .tc main_v111) : FVec Ideal S1x8192x1024 .f32) (ix3 0 t j) = YY (A m c) (t.val / 128) ⟨t.val % 128, Nat.mod_lt _ (by decide)⟩ j :=
  (congrFun (z12_v111 (after hostOps0_11 (L m c))) _).trans (y m c t j)

theorem out0 (t : Fin 8192) (j : Fin 1024) :
    (finalContents condOps preI bodyI postI 64 m c (Proc.devRef .tc main_v131) : FVec Ideal S8192x1024 .bf16) (ix2 t j) = OO (A m c) (t.val / 128) ⟨t.val % 128, Nat.mod_lt _ (by decide)⟩ j := by
  refine (s_v131 (E m c) (A m c) (fun t j => YY (A m c) (t.val / 128) ⟨t.val % 128, Nat.mod_lt _ (by decide)⟩ j) (yE m c)
    (s_v112 (after hostOps0_11 (L m c)) (A m c) fun t j => congrFun ((z11_arg0 (L m c)).trans (kL_arg m c main_arg0 (by decide +kernel) (by decide +kernel) (by decide +kernel))) _)
    (fun j => (congrFun ((z_v5 (L m c)).trans (kL_0 m c main_v5 (by decide +kernel) (by decide +kernel))) _).trans (p_v5 (launchContents m c) j)) t j).trans ?_
  unfold OO oM gM
  simp only [Cert.Kernel4Ideal.Sf.row_div]

theorem out1 (t : Fin 8192) (j : Fin 1024) :
    (finalContents condOps preI bodyI postI 64 m c (Proc.devRef .tc main_v133) : FVec Ideal S8192x1024 .bf16) (ix2 t j) = YY (A m c) (t.val / 128) ⟨t.val % 128, Nat.mod_lt _ (by decide)⟩ j :=
  (s_v133 (E m c) t j).trans (yE m c t j)

theorem out2 (t : Fin 8192) (j : Fin 1536) :
    (finalContents condOps preI bodyI postI 64 m c (Proc.devRef .tc main_v135) : FVec Ideal S8192x1536 .bf16) (ix2 t j) = UU (A m c) t j :=
  (s_v135 (E m c) t j).trans ((congrFun ((z_v39 (L m c)).trans (kL_0 m c main_v39 (by decide +kernel) (by decide +kernel))) _).trans (w39 m c t j))

theorem out3 (n : Fin 64) (g : Fin 2) (s : Fin 128) (q : Fin 512) :
    (finalContents condOps preI bodyI postI 64 m c (Proc.devRef .tc main_v129) : FVec Ideal S64x2x128x512 .f32) (ix4 n g s q) = ST (A m c) n.val g s q :=
  s_v129 (E m c) (A m c) n g s q fun n g k p s => (congrFun (z12_v97 (after hostOps0_11 (L m c))) _).trans ((s_v97 (L m c) n g k p s).trans (states m c n g k p s))

end Cert.Reference4Ideal.Sf

namespace Cert.Sf

open Cert.SfMath

/-! The four results, from the arguments by entry. -/

def o0 (x : Args) : FVec Ideal ⟨2, ![8192, 1024]⟩ .bf16 := fun i => OO x ((i 0).val / 128) ⟨(i 0).val % 128, Nat.mod_lt _ (by decide)⟩ (i 1)
def o1 (x : Args) : FVec Ideal ⟨2, ![8192, 1024]⟩ .bf16 := fun i => YY x ((i 0).val / 128) ⟨(i 0).val % 128, Nat.mod_lt _ (by decide)⟩ (i 1)
def o2 (x : Args) : FVec Ideal ⟨2, ![8192, 1536]⟩ .bf16 := fun i => UU x (i 0) (i 1)
def o3 (x : Args) : FVec Ideal ⟨4, ![64, 2, 128, 512]⟩ .f32 := fun i => ST x (i 0).val (i 1) (i 2) (i 3)

theorem ext2 {a b : ℕ} {f g : (⟨2, ![a, b]⟩ : Shape).Idx → EReal} (h : ∀ i j, f (ix2 i j) = g (ix2 i j)) : f = g := funext fun i => by
  rw [show i = ix2 (i 0) (i 1) from funext fun k => by fin_cases k <;> rfl]
  exact h _ _

theorem ext4 {a b c d : ℕ} {f g : (⟨4, ![a, b, c, d]⟩ : Shape).Idx → EReal} (h : ∀ i j k l, f (ix4 i j k l) = g (ix4 i j k l)) : f = g := funext fun i => by
  rw [show i = ix4 (i 0) (i 1) (i 2) (i 3) from funext fun k => by fin_cases k <;> rfl]
  exact h _ _ _ _

section Reference

open Cert.Reference4Ideal Cert.Reference4Ideal.Gen Cert.Reference4Ideal.Value Cert.Reference4Ideal.Sf

variable (m : (ℓ : Loc nD τ sig) → Buf (Elt Ideal) ℓ)

/-- The forward lines, run. -/
theorem run_reference (ρ : Dev nD → PrngReg) (x : Dev nD → Args) (hx : ∀ c, x c = Cert.Reference4Ideal.Sf.A m c) :
    θ_run defs (onTc (τ := τ) (main (F := Ideal))) ⟨m, fun _ => 0, ρ⟩ fun r => ∀ c : Dev nD,
      r.2.mem (c.tc.loc main_v131) = o0 (x c)
      ∧ r.2.mem (c.tc.loc main_v133) = o1 (x c)
      ∧ r.2.mem (c.tc.loc main_v135) = o2 (x c)
      ∧ r.2.mem (c.tc.loc main_v129) = o3 (x c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) := by
  refine (θ_run defs _ _).mono (fun r h c => ?_) (run_fold m ρ)
  have hb := h c
  rw [hx c]
  refine ⟨(hb main_v131 rfl).trans (ext2 (out0 m c)), (hb main_v133 rfl).trans (ext2 (out1 m c)), (hb main_v135 rfl).trans (ext2 (out2 m c)), (hb main_v129 rfl).trans (ext4 (out3 m c)),
    (hb main_arg0 rfl).trans ((z_arg0 (L m c)).trans (kL_arg m c main_arg0 (by decide +kernel) (by decide +kernel) (by decide +kernel))),
    (hb main_arg1 rfl).trans ((z_arg1 (L m c)).trans (kL_arg m c main_arg1 (by decide +kernel) (by decide +kernel) (by decide +kernel))),
    (hb main_arg2 rfl).trans ((z_arg2 (L m c)).trans (kL_arg m c main_arg2 (by decide +kernel) (by decide +kernel) (by decide +kernel))),
    (hb main_arg3 rfl).trans ((z_arg3 (L m c)).trans (kL_arg m c main_arg3 (by decide +kernel) (by decide +kernel) (by decide +kernel))),
    (hb main_arg4 rfl).trans ((z_arg4 (L m c)).trans (kL_arg m c main_arg4 (by decide +kernel) (by decide +kernel) (by decide +kernel))),
    (hb main_arg5 rfl).trans ((z_arg5 (L m c)).trans (kL_arg m c main_arg5 (by decide +kernel) (by decide +kernel) (by decide +kernel))),
    (hb main_arg6 rfl).trans ((z_arg6 (L m c)).trans (kL_arg m c main_arg6 (by decide +kernel) (by decide +kernel) (by decide +kernel))),
    (hb main_arg7 rfl).trans ((z_arg7 (L m c)).trans (kL_arg m c main_arg7 (by decide +kernel) (by decide +kernel) (by decide +kernel))),
    (hb main_arg8 rfl).trans ((z_arg8 (L m c)).trans (kL_arg m c main_arg8 (by decide +kernel) (by decide +kernel) (by decide +kernel)))⟩

end Reference

/-- The forward lines terminate with their arguments unchanged. -/
theorem frame_reference : quiescent_Reference4Ideal := fun m ρ _ =>
  (θ_run Cert.Reference4Ideal.defs _ _).mono (fun r h => ⟨fun c => (h c).2.2.2.2, Idealize.ShloMosaic.sem_eq_zero_of_no_sems (by decide) r.2⟩)
    (run_reference m ρ _ fun _ => rfl)

/-- The masked entries' logarithm is named for the exact value, minus infinity. -/
theorem preserves : preserves_Kernel4_Kernel4Ideal := IdealRules.named_const.statement _ _ _ _ _ rfl

section Kernel

open Cert.Kernel4Ideal

variable (m : (ℓ : Loc nD τ sig) → Buf (Elt Ideal) ℓ) (c : Dev nD)

theorem k0 : Value.G10 (F := Ideal) m c = o0 (Cert.Kernel4Ideal.Sf.A m c) := ext2 (Cert.Kernel4Ideal.Sf.G10_eq m c)

theorem k1 : Value.G11 (F := Ideal) m c = o1 (Cert.Kernel4Ideal.Sf.A m c) := ext2 (Cert.Kernel4Ideal.Sf.G11_eq m c)

theorem k2 : Value.G12 (F := Ideal) m c = o2 (Cert.Kernel4Ideal.Sf.A m c) := ext2 (Cert.Kernel4Ideal.Sf.G12_eq m c)

theorem k3 : Value.G13 (F := Ideal) m c = o3 (Cert.Kernel4Ideal.Sf.A m c) := ext4 (Cert.Kernel4Ideal.Sf.G13_eq m c)

end Kernel

/-- The kernel computes the forward lines: the outputs, the outputs before gate and norm, the convolutions, the states. -/
theorem algebraic : algebraic_Kernel4Ideal_Reference4Ideal := fun m ρ m' ρ' _ hargs =>
  ⟨fun c => o0 (Cert.Kernel4Ideal.Sf.A m c), fun c => o1 (Cert.Kernel4Ideal.Sf.A m c), fun c => o2 (Cert.Kernel4Ideal.Sf.A m c), fun c => o3 (Cert.Kernel4Ideal.Sf.A m c),
    (θ_run Cert.Kernel4Ideal.defs _ _).mono (fun _ h c => ⟨(h c).1.trans (k0 m c), (h c).2.1.trans (k1 m c), (h c).2.2.1.trans (k2 m c), (h c).2.2.2.1.trans (k3 m c), (h c).2.2.2.2⟩) (Cert.Kernel4Ideal.Value.run (F := Ideal) m ρ),
    run_reference m' ρ' _ fun c => by
      obtain ⟨a0, a1, a2, a3, a4, a5, a6, a7, a8⟩ := hargs c
      unfold Cert.Reference4Ideal.Sf.A
      rw [a0, a1, a2, a3, a4, a5, a6, a7, a8]
      rfl⟩

end Cert.Sf

end
-- ==== Proof.FtOut.lean ====
module

public import proofs.«01_k».proof.Defs
public import proofs.«01_k».proof.Proof.Gen.Kernel5Ideal.Frame
public import proofs.«01_k».proof.Proof.Real
public import Idealize.ShloMosaic.Lib.Pipeline.Value
public import Idealize.ShloMosaic.Lib.WritesUnit
public import Idealize.ShloMosaic.Lib.VecWindow
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem

/-! What one point of the feed-forward's last kernel stores, as functions of its blocks. -/

namespace Cert.Kernel5Ideal.Ft

open Cert.Kernel5Ideal Cert.Kernel5Ideal.Gen

variable {F : FTy → Type} [FloatOps F]

theorem hz : (![0, 0] : Fin 2 → Nat) = fun _ => 0 := funext fun a => by fin_cases a <;> rfl

theorem ldz {Val : EltTy → Type} {e : EltTy} {n k : ℕ} (X : (⟨2, ![n, k]⟩ : Shape).Idx → Val e) (inb) : View.ld X (Rect.unit (s := ⟨2, ![n, k]⟩) ![0, 0] ![n, k] inb) = X :=
  View.ld_unit_zero (S := ⟨2, ![n, k]⟩) hz inb X

theorem rcz {Val : EltTy → Type} [∀ e, Nonempty (Val e)] {sig : RefSig} {κ : Kind} {sp : Space} {e : EltTy} {n k : ℕ} (v : View sig κ sp ⟨2, ![n, k]⟩ e) (inb) (w : (⟨2, ![n, k]⟩ : Shape).Idx → Val e) :
    v.readCov [(⟨Rect.unit ![0, 0] ![n, k] inb, w⟩ : View.Piece Val ⟨2, ![n, k]⟩ e)] (Rect.unit ![0, 0] ![n, k] inb).toLoadRect = w :=
  View.readCov_unit_zero (S := ⟨2, ![n, k]⟩) v hz inb w

section
variable (x0 : Vec F S256x2816 .bf16) (cy : Vec F S8x2816 .f32) (x4 : Vec F S8x2816 .f32) (x5 : Vec F S1x2816 .f32)
  (x1 : Vec F S256x2816 .bf16) (x6 : Vec F S2816x1024 .bf16) (x7 : Vec F S1x1024 .f32) (x2 x3 : Vec F S256x1024 .f32)

/-- The gate after the convolution, one block, over the rows `cy` carried from the block before it. -/
def GT : FVec F S256x2816 .bf16 :=
  k0_pay9 x0 cy x5 (View.ld x4 (Rect.unit (s := S8x2816) ![0, 0] S1x2816.size inb_S8x2816_S1x2816_0_0)) (View.ld x4 (Rect.unit (s := S8x2816) ![1, 0] S1x2816.size inb_S8x2816_S1x2816_1_0)) (View.ld x4 (Rect.unit (s := S8x2816) ![2, 0] S1x2816.size inb_S8x2816_S1x2816_2_0))

/-- Its logistic. -/
def SG : FVec F S256x2816 .bf16 :=
  k0_pay10 x0 cy x5 (View.ld x4 (Rect.unit (s := S8x2816) ![0, 0] S1x2816.size inb_S8x2816_S1x2816_0_0)) (View.ld x4 (Rect.unit (s := S8x2816) ![1, 0] S1x2816.size inb_S8x2816_S1x2816_1_0)) (View.ld x4 (Rect.unit (s := S8x2816) ![2, 0] S1x2816.size inb_S8x2816_S1x2816_2_0))

/-- The down projection, one block. -/
def FF : FVec F S256x1024 .f32 := k0_pay14 (GT x0 cy x4 x5) (SG x0 cy x4 x5) x1 x6

/-- The inverse roots of its rows' mean squares. -/
def RR : FVec F S256x1 .f32 := k0_pay15 (GT x0 cy x4 x5) (SG x0 cy x4 x5) x1 x6

/-- The error against the target, one block. -/
def EE : FVec F S256x1024 .f32 := k0_pay16 (GT x0 cy x4 x5) (SG x0 cy x4 x5) x1 x6 x7 x2 x3

/-- The gradient of the activation times the value, one block. -/
def DA : FVec F S256x2816 .bf16 :=
  k0_pay23 (k0_pay12 x1) (FF x0 cy x4 x5 x1 x6) (RR x0 cy x4 x5 x1 x6) x7 (EE x0 cy x4 x5 x1 x6 x7 x2 x3) x6

end

variable (c : Dev nD) (i : grid0.Coords) (a1 : Memref sig .tc .vmem S256x2816 .bf16) (h1 : a1.IsWhole) (a2 : Memref sig .tc .vmem S256x2816 .bf16) (h2 : a2.IsWhole) (a3 : Memref sig .tc .vmem S256x1024 .f32) (h3 : a3.IsWhole) (a4 : Memref sig .tc .vmem S256x1024 .f32) (h4 : a4.IsWhole) (a5 : Memref sig .tc .vmem S8x2816 .f32) (h5 : a5.IsWhole) (a6 : Memref sig .tc .vmem S1x2816 .f32) (h6 : a6.IsWhole) (a7 : Memref sig .tc .vmem S2816x1024 .bf16) (h7 : a7.IsWhole) (a8 : Memref sig .tc .vmem S1x1024 .f32) (h8 : a8.IsWhole) (a9 : Memref sig .tc .vmem S256x2816 .bf16) (h9 : a9.IsWhole) (a10 : Memref sig .tc .vmem S256x1024 .bf16) (h10 : a10.IsWhole) (a11 : Memref sig .tc .vmem S256x2816 .bf16) (h11 : a11.IsWhole) (a12 : Memref sig .tc .vmem S256x2816 .bf16) (h12 : a12.IsWhole) (a13 : Memref sig .tc .vmem S256x1024 .f32) (h13 : a13.IsWhole) (a14 : Memref sig .tc .vmem S8x128 .f32) (h14 : a14.IsWhole) (a15 : Memref sig .tc .vmem S1x1024 .f32) (h15 : a15.IsWhole) (a16 : Memref sig .tc .vmem S1x2816 .f32) (h16 : a16.IsWhole) (a17 : Memref sig .tc .vmem S8x2816 .f32) (h17 : a17.IsWhole) (hA : cond0_0 i) (hB : ¬cond0_0 i)
  (x0 : Vec F S256x2816 .bf16) (x1 : Vec F S256x2816 .bf16) (x2 : Vec F S256x1024 .f32) (x3 : Vec F S256x1024 .f32) (x4 : Vec F S8x2816 .f32) (x5 : Vec F S1x2816 .f32) (x6 : Vec F S2816x1024 .bf16) (x7 : Vec F S1x1024 .f32) (xo13 : Vec F S8x128 .f32) (xo14 : Vec F S1x1024 .f32) (xo15 : Vec F S1x2816 .f32) (xs0 : Vec F S8x2816 .f32)

theorem out_A8 : out0_A_8 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7
    = k0_pay13 (GT x0 k0_pay3 x4 x5) (SG x0 k0_pay3 x4 x5) x1 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7)]
  unfold kernelRun0_A
  dsimp only
  sl_unfold_words
  rw [View.canon_unit_zero (S := S256x2816) hz]
  simp only [rcz, View.readAt_eq_ld, Memref.IsWhole.read_unread, ldz]
  rfl

theorem out_A9 : out0_A_9 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7
    = k0_pay20 (FF x0 k0_pay3 x4 x5 x1 x6) (RR x0 k0_pay3 x4 x5 x1 x6) x7 (EE x0 k0_pay3 x4 x5 x1 x6 x7 x2 x3) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7)]
  unfold kernelRun0_A
  dsimp only
  sl_unfold_words
  rw [View.canon_unit_zero (S := S256x1024) hz]
  simp only [rcz, View.readAt_eq_ld, Memref.IsWhole.read_unread, ldz]
  rfl

theorem out_A10 : out0_A_10 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7
    = k0_pay22 (k0_pay11 (GT x0 k0_pay3 x4 x5) (SG x0 k0_pay3 x4 x5)) (FF x0 k0_pay3 x4 x5 x1 x6) (RR x0 k0_pay3 x4 x5 x1 x6) x7 (EE x0 k0_pay3 x4 x5 x1 x6 x7 x2 x3) x6 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7)]
  unfold kernelRun0_A
  dsimp only
  sl_unfold_words
  rw [View.canon_unit_zero (S := S256x2816) hz]
  simp only [rcz, View.readAt_eq_ld, Memref.IsWhole.read_unread, ldz]
  rfl

theorem out_A11 : out0_A_11 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7
    = k0_pay1 (GT x0 k0_pay3 x4 x5) (SG x0 k0_pay3 x4 x5) (DA x0 k0_pay3 x4 x5 x1 x6 x7 x2 x3) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7)]
  unfold kernelRun0_A
  dsimp only
  sl_unfold_words
  rw [View.canon_unit_zero (S := S256x2816) hz]
  simp only [rcz, View.readAt_eq_ld, Memref.IsWhole.read_unread, ldz]
  rfl

theorem out_A12 : out0_A_12 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7
    = k0_pay18 (EE x0 k0_pay3 x4 x5 x1 x6 x7 x2 x3) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7)]
  unfold kernelRun0_A
  dsimp only
  sl_unfold_words
  rw [View.canon_unit_zero (S := S256x1024) hz]
  simp only [rcz, View.readAt_eq_ld, Memref.IsWhole.read_unread, ldz]
  rfl

theorem out_A13 : out0_A_13 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7
    = k0_pay17 (GT x0 k0_pay3 x4 x5) (SG x0 k0_pay3 x4 x5) x1 x6 x7 x2 x3 k0_pay4 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7)]
  unfold kernelRun0_A
  dsimp only
  sl_unfold_words
  rw [View.canon_cons_unit_zero (S := S8x128) hz]
  simp only [rcz, View.readAt_eq_ld, Memref.IsWhole.read_unread, ldz]
  rfl

theorem out_A14 : out0_A_14 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7
    = k0_pay19 (FF x0 k0_pay3 x4 x5 x1 x6) (RR x0 k0_pay3 x4 x5 x1 x6) (EE x0 k0_pay3 x4 x5 x1 x6 x7 x2 x3) k0_pay5 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7)]
  unfold kernelRun0_A
  dsimp only
  sl_unfold_words
  rw [View.canon_cons_unit_zero (S := S1x1024) hz]
  simp only [rcz, View.readAt_eq_ld, Memref.IsWhole.read_unread, ldz]
  rfl

theorem out_A15 : out0_A_15 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7
    = k0_pay2 (GT x0 k0_pay3 x4 x5) (SG x0 k0_pay3 x4 x5) (DA x0 k0_pay3 x4 x5 x1 x6 x7 x2 x3) k0_pay6 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7)]
  unfold kernelRun0_A
  dsimp only
  sl_unfold_words
  rw [View.canon_cons_unit_zero (S := S1x2816) hz]
  simp only [rcz, View.readAt_eq_ld, Memref.IsWhole.read_unread, ldz]
  rfl

theorem sout_A : sout0_A_0 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7
    = k0_pay8 x0 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 hA x0 x1 x2 x3 x4 x5 x6 x7)]
  unfold kernelRun0_A
  dsimp only
  sl_unfold_words
  rw [View.canon_cons_unit_zero (S := S8x2816) hz]
  simp only [rcz, View.readAt_eq_ld, Memref.IsWhole.read_unread, ldz]

theorem out_B8 : out0_B_8 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0
    = k0_pay13 (GT x0 xs0 x4 x5) (SG x0 xs0 x4 x5) x1 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0)]
  unfold kernelRun0_B
  dsimp only
  sl_unfold_words
  rw [View.canon_unit_zero (S := S256x2816) hz]
  simp only [rcz, View.readAt_eq_ld, Memref.IsWhole.read_unread, ldz]
  rfl

theorem out_B9 : out0_B_9 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0
    = k0_pay20 (FF x0 xs0 x4 x5 x1 x6) (RR x0 xs0 x4 x5 x1 x6) x7 (EE x0 xs0 x4 x5 x1 x6 x7 x2 x3) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0)]
  unfold kernelRun0_B
  dsimp only
  sl_unfold_words
  rw [View.canon_unit_zero (S := S256x1024) hz]
  simp only [rcz, View.readAt_eq_ld, Memref.IsWhole.read_unread, ldz]
  rfl

theorem out_B10 : out0_B_10 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0
    = k0_pay22 (k0_pay11 (GT x0 xs0 x4 x5) (SG x0 xs0 x4 x5)) (FF x0 xs0 x4 x5 x1 x6) (RR x0 xs0 x4 x5 x1 x6) x7 (EE x0 xs0 x4 x5 x1 x6 x7 x2 x3) x6 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0)]
  unfold kernelRun0_B
  dsimp only
  sl_unfold_words
  rw [View.canon_unit_zero (S := S256x2816) hz]
  simp only [rcz, View.readAt_eq_ld, Memref.IsWhole.read_unread, ldz]
  rfl

theorem out_B11 : out0_B_11 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0
    = k0_pay1 (GT x0 xs0 x4 x5) (SG x0 xs0 x4 x5) (DA x0 xs0 x4 x5 x1 x6 x7 x2 x3) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0)]
  unfold kernelRun0_B
  dsimp only
  sl_unfold_words
  rw [View.canon_unit_zero (S := S256x2816) hz]
  simp only [rcz, View.readAt_eq_ld, Memref.IsWhole.read_unread, ldz]
  rfl

theorem out_B12 : out0_B_12 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0
    = k0_pay18 (EE x0 xs0 x4 x5 x1 x6 x7 x2 x3) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0)]
  unfold kernelRun0_B
  dsimp only
  sl_unfold_words
  rw [View.canon_unit_zero (S := S256x1024) hz]
  simp only [rcz, View.readAt_eq_ld, Memref.IsWhole.read_unread, ldz]
  rfl

theorem out_B13 : out0_B_13 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0
    = k0_pay17 (GT x0 xs0 x4 x5) (SG x0 xs0 x4 x5) x1 x6 x7 x2 x3 xo13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0)]
  unfold kernelRun0_B
  dsimp only
  sl_unfold_words
  rw [View.canon_unit_zero (S := S8x128) hz]
  simp only [rcz, View.readAt_eq_ld, Memref.IsWhole.read_unread, ldz]
  rfl

theorem out_B14 : out0_B_14 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0
    = k0_pay19 (FF x0 xs0 x4 x5 x1 x6) (RR x0 xs0 x4 x5 x1 x6) (EE x0 xs0 x4 x5 x1 x6 x7 x2 x3) xo14 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0)]
  unfold kernelRun0_B
  dsimp only
  sl_unfold_words
  rw [View.canon_unit_zero (S := S1x1024) hz]
  simp only [rcz, View.readAt_eq_ld, Memref.IsWhole.read_unread, ldz]
  rfl

theorem out_B15 : out0_B_15 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0
    = k0_pay2 (GT x0 xs0 x4 x5) (SG x0 xs0 x4 x5) (DA x0 xs0 x4 x5 x1 x6 x7 x2 x3) xo15 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0)]
  unfold kernelRun0_B
  dsimp only
  sl_unfold_words
  rw [View.canon_unit_zero (S := S1x2816) hz]
  simp only [rcz, View.readAt_eq_ld, Memref.IsWhole.read_unread, ldz]
  rfl

theorem sout_B : sout0_B_0 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0
    = k0_pay8 x0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 hB x0 x1 x2 x3 x4 x5 x6 x7 xo13 xo14 xo15 xs0)]
  unfold kernelRun0_B
  dsimp only
  sl_unfold_words
  rw [View.canon_unit_zero (S := S8x2816) hz]
  simp only [rcz, View.readAt_eq_ld, Memref.IsWhole.read_unread, ldz]

end Cert.Kernel5Ideal.Ft
-- ==== Proof.FtMath.lean ====
module

public import proofs.«01_k».proof.Proof.FbMath

@[expose] public section

set_option maxRecDepth 16384

noncomputable section

open Idealize.ShloMosaic Idealize.ShloMosaic.TcCoe Idealize.SL.Sem

/-! The last feed-forward entry, at extended reals: the gated activation, the loss and its gradients. -/

namespace Cert.FtMath

open Cert.RealFacts
open Cert.FbMath (rs rk rm rs_fin div_fin rk_fin rk_eq)

/-- The arguments, read at an index. -/
structure Args where
  g : Fin 8192 → Fin 2816 → EReal
  v : Fin 8192 → Fin 2816 → EReal
  x : Fin 8192 → Fin 1024 → EReal
  y : Fin 8192 → Fin 1024 → EReal
  cw : Fin 3 → Fin 2816 → EReal
  cb : Fin 2816 → EReal
  wd : Fin 2816 → Fin 1024 → EReal
  pf : Fin 1024 → EReal

/-- The arguments of the two programs, by entry. -/
def args (x0 x1 : Vec Ideal ⟨3, ![1, 8192, 2816]⟩ .f32) (x2 x3 : Vec Ideal ⟨3, ![1, 8192, 1024]⟩ .f32) (x4 : Vec Ideal ⟨3, ![1, 3, 2816]⟩ .f32)
    (x5 : Vec Ideal ⟨2, ![1, 2816]⟩ .f32) (x6 : Vec Ideal ⟨3, ![1, 2816, 1024]⟩ .f32) (x7 : Vec Ideal ⟨2, ![1, 1024]⟩ .f32) : Args where
  g t j := x0 (ix3 0 t j)
  v t j := x1 (ix3 0 t j)
  x t j := x2 (ix3 0 t j)
  y t j := x3 (ix3 0 t j)
  cw t j := x4 (ix3 0 t j)
  cb j := x5 (ix2 0 j)
  wd t j := x6 (ix3 0 t j)
  pf j := x7 (ix2 0 j)

variable (a : Args)

/-- The gate's rows with eight rows of zeros before the first. -/
def E (r : ℕ) (j : Fin 2816) : EReal := if h : 8 ≤ r ∧ r - 8 < 8192 then a.g ⟨r - 8, h.2⟩ j else 0
/-- The gate after its convolution. -/
def Z (t : Fin 8192) (j : Fin 2816) : EReal := a.cb j + (a.cw 0 j * E a (t.val + 6) j + a.cw 1 j * E a (t.val + 7) j + a.cw 2 j * E a (t.val + 8) j)
def S (t : Fin 8192) (j : Fin 2816) : EReal := Z a t j * Ideal.logistic (Z a t j)
def AC (t : Fin 8192) (j : Fin 2816) : EReal := S a t j * a.v t j
def Fd (t : Fin 8192) (j : Fin 1024) : EReal := ∑ k : Fin 2816, AC a t k * a.wd k j
/-- The error against the target. -/
def Er (t : Fin 8192) (j : Fin 1024) : EReal := a.x t j + Fd a t j * rs (Fd a t) * a.pf j - a.y t j
def DX (t : Fin 8192) (j : Fin 1024) : EReal := Er a t j * Ideal.ofBits .f32 0x3A800000#32
def DF (t : Fin 8192) (j : Fin 1024) : EReal := rk (Fd a t) a.pf (DX a t) j
def DA (t : Fin 8192) (k : Fin 2816) : EReal := ∑ j : Fin 1024, DF a t j * a.wd k j
def DV (t : Fin 8192) (k : Fin 2816) : EReal := DA a t k * S a t k
def DG (t : Fin 8192) (k : Fin 2816) : EReal :=
  DA a t k * a.v t k * (Ideal.logistic (Z a t k) * (1 + Z a t k * (1 - Ideal.logistic (Z a t k))))
/-- One row's part of the loss. -/
def LR (t : Fin 8192) : EReal := (∑ j : Fin 1024, Er a t j * Er a t j) * Ideal.ofBits .f32 0x3A000000#32
def LO : EReal := ∑ t : Fin 8192, LR a t
def DW (j : Fin 1024) : EReal := ∑ t : Fin 8192, DX a t j * Fd a t j * rs (Fd a t)
def DC (j : Fin 2816) : EReal := ∑ t : Fin 8192, DG a t j

/-- Every argument is a real number. -/
def Args.Real : Prop :=
  (∀ t j, Fin' (a.g t j)) ∧ (∀ t j, Fin' (a.v t j)) ∧ (∀ t j, Fin' (a.x t j)) ∧ (∀ t j, Fin' (a.y t j)) ∧ (∀ t j, Fin' (a.cw t j)) ∧ (∀ j, Fin' (a.cb j))
    ∧ (∀ t j, Fin' (a.wd t j)) ∧ (∀ j, Fin' (a.pf j))

theorem bits_1024th : Ideal.ofBits .f32 0x3A800000#32 = ((1 / 1024 : ℝ) : EReal) := by
  simp [Ideal.ofBits, Ideal.ieee]
  norm_num
  rw [← EReal.coe_mul]
  norm_num

theorem bits_2048th : Ideal.ofBits .f32 0x3A000000#32 = ((1 / 2048 : ℝ) : EReal) := by
  simp [Ideal.ofBits, Ideal.ieee]
  norm_num
  rw [← EReal.coe_mul]
  norm_num

theorem bits_half : Ideal.ofBits .f32 0x3F000000#32 = ((1 / 2 : ℝ) : EReal) := by
  simp [Ideal.ofBits, Ideal.ieee]
  norm_num
  rw [← EReal.coe_mul]
  norm_num

theorem bits_two : Ideal.ofBits .f32 0x40000000#32 = ((2 : ℝ) : EReal) := by
  simp [Ideal.ofBits, Ideal.ieee]
  norm_num
  rw [← EReal.coe_mul]
  norm_num

theorem sq_nonneg (x : EReal) : 0 ≤ x * x := by
  induction x with
  | bot => simp
  | coe r => rw [← EReal.coe_mul]; exact EReal.coe_nonneg.mpr (mul_self_nonneg r)
  | top => simp

/-- A factor goes into a sum of terms that are not negative. -/
theorem sum_mul_nonneg {ι : Type*} (s : Finset ι) (f : ι → EReal) (hf : ∀ i, 0 ≤ f i) (c : EReal) : (∑ i ∈ s, f i) * c = ∑ i ∈ s, f i * c := by
  classical
  induction s using Finset.induction_on with
  | empty => simp
  | insert i s hi ih => rw [Finset.sum_insert hi, Finset.sum_insert hi, EReal.right_distrib_of_nonneg (hf i) (Finset.sum_nonneg fun i _ => hf i), ih]

theorem row_nonneg (t : Fin 8192) : 0 ≤ ∑ j : Fin 1024, Er a t j * Er a t j := Finset.sum_nonneg fun j _ => sq_nonneg _

/-- Half of the sum of the rows' mean squares is the sum of the rows' parts. -/
theorem LO_eq : Ideal.ofBits .f32 0x3F000000#32 * ∑ t : Fin 8192, Ideal.div (∑ j : Fin 1024, Er a t j * Er a t j) (Ideal.ofBits .f32 0x44800000#32) = LO a := by
  unfold LO LR
  rw [bits_1024, bits_half, bits_2048th]
  simp only [Ideal.div_coe (show (1024 : ℝ) ≠ 0 by norm_num)]
  rw [mul_comm, ← sum_mul_nonneg _ _ (row_nonneg a), ← sum_mul_nonneg _ _ (row_nonneg a), mul_assoc, ← EReal.coe_mul]
  norm_num

theorem DX_eq (t : Fin 8192) (j : Fin 1024) : Ideal.div (Ideal.ofBits .f32 0x3F000000#32 * 1) (Ideal.ofBits .f32 0x44800000#32) * (Ideal.ofBits .f32 0x40000000#32 * Er a t j) = DX a t j := by
  unfold DX
  rw [bits_1024, bits_half, bits_1024th, bits_two, Ideal.div_coe (by norm_num), mul_one, ← EReal.coe_mul, ← mul_assoc, ← EReal.coe_mul, mul_comm]
  norm_num

theorem logistic_fin {x : EReal} (h : Fin' x) : Fin' (Ideal.logistic x) := by
  obtain ⟨r, rfl⟩ := h
  rw [Ideal.logistic_coe]
  exact ⟨_, rfl⟩

/-- The two forms of the gate's derivative agree on real numbers. -/
theorem gate_eq {d s z : EReal} (hd : Fin' d) (hs : Fin' s) (hz : Fin' z) : d * s + z * d * (s * (1 - s)) = d * (s * (1 + z * (1 - s))) := by
  obtain ⟨d, rfl⟩ := hd
  obtain ⟨s, rfl⟩ := hs
  obtain ⟨z, rfl⟩ := hz
  rw [← EReal.coe_one]
  simp only [← EReal.coe_mul, ← EReal.coe_sub, ← EReal.coe_add]
  congr 1
  ring

variable {a}

theorem E_fin (h : a.Real) (r j) : Fin' (E a r j) := by
  unfold E
  split
  exacts [h.1 _ _, Fin'.zero]

theorem Z_fin (h : a.Real) (t j) : Fin' (Z a t j) := by
  have c := h.2.2.2.2.1
  exact (h.2.2.2.2.2.1 j).add ((((c 0 j).mul (E_fin h _ j)).add ((c 1 j).mul (E_fin h _ j))).add ((c 2 j).mul (E_fin h _ j)))

theorem Fd_fin (h : a.Real) (t j) : Fin' (Fd a t j) :=
  Fin'.sum _ _ fun k _ => (((Z_fin h t k).mul (logistic_fin (Z_fin h t k))).mul (h.2.1 t k)).mul (h.2.2.2.2.2.2.1 k j)

theorem DX_fin (h : a.Real) (t j) : Fin' (DX a t j) :=
  (((h.2.2.1 t j).add (((Fd_fin h t j).mul (rs_fin (Fd_fin h t))).mul (h.2.2.2.2.2.2.2 j))).sub (h.2.2.2.1 t j)).mul ⟨_, bits_1024th⟩

theorem DA_fin (h : a.Real) (t k) : Fin' (DA a t k) :=
  Fin'.sum _ _ fun j _ => (rk_fin (Fd_fin h t) h.2.2.2.2.2.2.2 (DX_fin h t) j).mul (h.2.2.2.2.2.2.1 k j)

theorem DF_eq (h : a.Real) (t : Fin 8192) (j : Fin 1024) :
    DX a t j * a.pf j * rs (Fd a t) + Fd a t j * rm (Fd a t) a.pf (DX a t) + rm (Fd a t) a.pf (DX a t) * Fd a t j = DF a t j := by
  have e := rk_eq (Fd_fin h t) h.2.2.2.2.2.2.2 (DX_fin h t) 0 j
  rw [zero_add, zero_add] at e
  exact e

theorem DG_eq (h : a.Real) (t : Fin 8192) (k : Fin 2816) :
    DA a t k * a.v t k * Ideal.logistic (Z a t k) + Z a t k * (DA a t k * a.v t k) * (Ideal.logistic (Z a t k) * (1 - Ideal.logistic (Z a t k))) = DG a t k :=
  gate_eq ((DA_fin h t k).mul (h.2.1 t k)) (logistic_fin (Z_fin h t k)) (Z_fin h t k)

end Cert.FtMath
-- ==== Proof.FtPoint.lean ====
module

public import proofs.«01_k».proof.Proof.FtOut
public import proofs.«01_k».proof.Proof.FtMath

@[expose] public section

set_option maxRecDepth 16384

noncomputable section

open Idealize.ShloMosaic Idealize.ShloMosaic.TcCoe Idealize.SL.Sem

/-! The stores of one point of the feed-forward's last kernel, read at an index. -/

namespace Cert.Kernel5Ideal.Ft

open Cert.Kernel5Ideal Cert.Kernel5Ideal.Gen Cert.RealFacts
open Cert.FbMath (rs rk)

variable (x0 : Vec Ideal S256x2816 .bf16) (cy : Vec Ideal S8x2816 .f32) (x4 : Vec Ideal S8x2816 .f32) (x5 : Vec Ideal S1x2816 .f32)
  (x1 : Vec Ideal S256x2816 .bf16) (x6 : Vec Ideal S2816x1024 .bf16) (x7 : Vec Ideal S1x1024 .f32) (x2 x3 : Vec Ideal S256x1024 .f32)

/-- The block's rows after the eight carried rows. -/
def EX (r : ℕ) (j : Fin 2816) : EReal := if h : r < 8 then cy (ix2 ⟨r, h⟩ j) else if h : r - 8 < 256 then x0 (ix2 ⟨r - 8, h⟩ j) else 0

theorem ex_at (j : Fin 2816) (q r : ℕ) (e : q = r) (h : q < 264) :
    (if h' : q < 8 then cy (ix2 ⟨q, h'⟩ j) else x0 (ix2 ⟨q - 8, by omega⟩ j) : EReal) = EX x0 cy r j := by
  subst e
  unfold EX
  split
  · rfl
  · rw [dif_pos (by omega)]

theorem ex_last (p : Fin 256) (j : Fin 2816) : EX x0 cy (p.val + 8) j = x0 (ix2 p j) := by
  unfold EX
  rw [dif_neg (by omega), dif_pos (by omega)]
  rfl

theorem GT_apply (p : Fin 256) (j : Fin 2816) : (GT x0 cy x4 x5) (ix2 p j)
    = (x5 (ix2 0 j) + (x4 (ix2 0 j) * EX x0 cy (p.val + 6) j + x4 (ix2 1 j) * EX x0 cy (p.val + 7) j + x4 (ix2 2 j) * EX x0 cy (p.val + 8) j) : EReal) := by
  unfold GT k0_pay9 k0_pay7
  pointwise
  rw [ex_at x0 cy j _ (p.val + 6) (by omega) (by omega), ex_at x0 cy j _ (p.val + 7) (by omega) (by omega), ex_last]

theorem SG_apply (p : Fin 256) (j : Fin 2816) : (SG x0 cy x4 x5) (ix2 p j) = Ideal.logistic ((GT x0 cy x4 x5) (ix2 p j)) := by
  unfold SG k0_pay10
  rfl

theorem pay13_apply (g s : FVec Ideal S256x2816 .bf16) (p : Fin 256) (j : Fin 2816) : k0_pay13 g s x1 (ix2 p j) = (g (ix2 p j) * s (ix2 p j) * x1 (ix2 p j) : EReal) := by
  unfold_payloads
  pointwise

theorem FF_apply (p : Fin 256) (j : Fin 1024) : (FF x0 cy x4 x5 x1 x6) (ix2 p j) = (∑ k : Fin 2816, (GT x0 cy x4 x5) (ix2 p k) * (SG x0 cy x4 x5) (ix2 p k) * x1 (ix2 p k) * x6 (ix2 k j) : EReal) := by
  unfold FF k0_pay14
  pointwise [pay13_apply]

theorem RR_apply (p : Fin 256) (u : Fin 1) : (RR x0 cy x4 x5 x1 x6) (ix2 p u) = rs fun k => (FF x0 cy x4 x5 x1 x6) (ix2 p k) := by
  unfold RR k0_pay15
  have h : ∀ k, k0_pay14 (GT x0 cy x4 x5) (SG x0 cy x4 x5) x1 x6 (ix2 p k) = (FF x0 cy x4 x5 x1 x6) (ix2 p k) := fun k => rfl
  pointwise [h, rs, msq]

theorem EE_apply (p : Fin 256) (j : Fin 1024) : (EE x0 cy x4 x5 x1 x6 x7 x2 x3) (ix2 p j)
    = (x2 (ix2 p j) + (FF x0 cy x4 x5 x1 x6) (ix2 p j) * rs (fun k => (FF x0 cy x4 x5 x1 x6) (ix2 p k)) * x7 (ix2 0 j) - x3 (ix2 p j) : EReal) := by
  unfold EE k0_pay16
  have h : ∀ k, k0_pay14 (GT x0 cy x4 x5) (SG x0 cy x4 x5) x1 x6 (ix2 p k) = (FF x0 cy x4 x5 x1 x6) (ix2 p k) := fun k => rfl
  have h' : ∀ u, k0_pay15 (GT x0 cy x4 x5) (SG x0 cy x4 x5) x1 x6 (ix2 p u) = rs fun k => (FF x0 cy x4 x5 x1 x6) (ix2 p k) := fun u => RR_apply _ _ _ _ _ _ _ _
  pointwise [h, h']

variable (f e : FVec Ideal S256x1024 .f32) (r : FVec Ideal S256x1 .f32)

theorem pay18_apply (p : Fin 256) (j : Fin 1024) : k0_pay18 e (ix2 p j) = (e (ix2 p j) * Ideal.ofBits .f32 0x3A800000#32 : EReal) := by
  unfold_payloads
  pointwise

theorem pay20_apply (p : Fin 256) (j : Fin 1024) (hr : r (ix2 p 0) = rs fun k => f (ix2 p k)) : k0_pay20 f r x7 e (ix2 p j)
    = rk (fun k => f (ix2 p k)) (fun k => x7 (ix2 0 k)) (fun k => e (ix2 p k) * Ideal.ofBits .f32 0x3A800000#32) j := by
  unfold k0_pay20
  pointwise [pay18_apply, hr, rk]

theorem pay21_apply (p : Fin 256) (k : Fin 2816) : k0_pay21 f r x7 e x6 (ix2 p k) = (∑ j : Fin 1024, k0_pay20 f r x7 e (ix2 p j) * x6 (ix2 k j) : EReal) := by
  unfold k0_pay21
  pointwise

theorem pay22_apply (g s : FVec Ideal S256x2816 .bf16) (p : Fin 256) (k : Fin 2816) : k0_pay22 (k0_pay11 g s) f r x7 e x6 (ix2 p k)
    = (k0_pay21 f r x7 e x6 (ix2 p k) * (g (ix2 p k) * s (ix2 p k)) : EReal) := by
  unfold k0_pay22 k0_pay11
  pointwise

theorem DA_apply (p : Fin 256) (k : Fin 2816) : (DA x0 cy x4 x5 x1 x6 x7 x2 x3) (ix2 p k) = (k0_pay21 (FF x0 cy x4 x5 x1 x6) (RR x0 cy x4 x5 x1 x6) x7 (EE x0 cy x4 x5 x1 x6 x7 x2 x3) x6 (ix2 p k) * x1 (ix2 p k) : EReal) := by
  unfold DA k0_pay23 k0_pay12
  pointwise

theorem pay1_apply (g s d : FVec Ideal S256x2816 .bf16) (p : Fin 256) (k : Fin 2816) : k0_pay1 g s d (ix2 p k)
    = (d (ix2 p k) * (s (ix2 p k) * (1 + g (ix2 p k) * (1 - s (ix2 p k)))) : EReal) := by
  unfold_payloads
  pointwise

theorem pay2_apply (g s d : FVec Ideal S256x2816 .bf16) (b : Vec Ideal S1x2816 .f32) (u : Fin 1) (k : Fin 2816) : k0_pay2 g s d b (ix2 u k)
    = (b (ix2 u k) + ∑ p : Fin 256, k0_pay1 g s d (ix2 p k) : EReal) := by
  unfold k0_pay2
  pointwise

theorem pay19_apply (b : Vec Ideal S1x1024 .f32) (u : Fin 1) (j : Fin 1024) : k0_pay19 f r e b (ix2 u j)
    = (b (ix2 u j) + ∑ p : Fin 256, e (ix2 p j) * Ideal.ofBits .f32 0x3A800000#32 * f (ix2 p j) * r (ix2 p 0) : EReal) := by
  unfold k0_pay19
  pointwise [pay18_apply]

theorem pay17_apply (b : Vec Ideal S8x128 .f32) (q : Fin 8) (l : Fin 128) : k0_pay17 (GT x0 cy x4 x5) (SG x0 cy x4 x5) x1 x6 x7 x2 x3 b (ix2 q l)
    = (b (ix2 q l) + (∑ p : Fin 256, ∑ j : Fin 1024, (EE x0 cy x4 x5 x1 x6 x7 x2 x3) (ix2 p j) * (EE x0 cy x4 x5 x1 x6 x7 x2 x3) (ix2 p j)) * Ideal.ofBits .f32 0x3A000000#32 : EReal) := by
  unfold k0_pay17
  have h : ∀ p k, k0_pay16 (GT x0 cy x4 x5) (SG x0 cy x4 x5) x1 x6 x7 x2 x3 (ix2 p k) = (EE x0 cy x4 x5 x1 x6 x7 x2 x3) (ix2 p k) := fun p k => rfl
  pointwise [h]

theorem pay8_apply (q : Fin 8) (j : Fin 2816) : k0_pay8 x0 (ix2 q j) = x0 (ix2 ⟨248 + q, by omega⟩ j) := by
  unfold k0_pay8 k0_pay7
  pointwise

theorem pay3_apply (u : Fin 8) (j : Fin 2816) : (k0_pay3 : FVec Ideal S8x2816 .f32) (ix2 u j) = 0 := by
  unfold k0_pay3
  pointwise

theorem pay4_apply (u : Fin 8) (j : Fin 128) : (k0_pay4 : FVec Ideal S8x128 .f32) (ix2 u j) = 0 := by
  unfold k0_pay4
  pointwise

theorem pay5_apply (u : Fin 1) (j : Fin 1024) : (k0_pay5 : FVec Ideal S1x1024 .f32) (ix2 u j) = 0 := by
  unfold k0_pay5
  pointwise

theorem pay6_apply (u : Fin 1) (j : Fin 2816) : (k0_pay6 : FVec Ideal S1x2816 .f32) (ix2 u j) = 0 := by
  unfold k0_pay6
  pointwise

end Cert.Kernel5Ideal.Ft
-- ==== Proof.FtHost.lean ====
module

public import proofs.«01_k».proof.Proof.FtPoint
public import proofs.«01_k».proof.Proof.Gen.Kernel5Ideal.Value
public import Idealize.ShloMosaic.Lib.StableHlo.Run
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! The arrays the last feed-forward kernel's host lines make, read at an index. -/

namespace Cert.Kernel5Ideal.Ft

open Cert.Kernel5Ideal Cert.Kernel5Ideal.Gen Cert.RealFacts Cert.FtMath

variable (m : (ℓ : Loc nD τ sig) → Buf (Elt Ideal) ℓ) (c : Dev nD)

/-- The arguments, by entry. -/
def A : Args := args (m (c.tc.loc main_arg0)) (m (c.tc.loc main_arg1)) (m (c.tc.loc main_arg2)) (m (c.tc.loc main_arg3)) (m (c.tc.loc main_arg4))
  (m (c.tc.loc main_arg5)) (m (c.tc.loc main_arg6)) (m (c.tc.loc main_arg7))

theorem V_v3 (t : Fin 8192) (j : Fin 2816) : (V m c main_v3 : FVec Ideal S8192x2816 .bf16) (ix2 t j) = (A m c).g t j := by
  unfold_abbrev_sides
  after_reads_simp
  pointwise

theorem V_v5 (t : Fin 8192) (j : Fin 2816) : (V m c main_v5 : FVec Ideal S8192x2816 .bf16) (ix2 t j) = (A m c).v t j := by
  unfold_abbrev_sides
  after_reads_simp
  pointwise

theorem V_v6 (t : Fin 8192) (j : Fin 1024) : (V m c main_v6 : FVec Ideal S8192x1024 .f32) (ix2 t j) = (A m c).x t j := by
  unfold_abbrev_sides
  after_reads_simp
  pointwise

theorem V_v7 (t : Fin 8192) (j : Fin 1024) : (V m c main_v7 : FVec Ideal S8192x1024 .f32) (ix2 t j) = (A m c).y t j := by
  unfold_abbrev_sides
  after_reads_simp
  pointwise

theorem V_v9 (t : Fin 2816) (j : Fin 1024) : (V m c main_v9 : FVec Ideal S2816x1024 .bf16) (ix2 t j) = (A m c).wd t j := by
  unfold_abbrev_sides
  after_reads_simp
  pointwise

theorem cast_row (w : FVec Ideal S1x3x2816 .f32) (r : Fin 3) (j : Fin 2816) : shapeCast S3x2816 w shapeCasts_S1x3x2816_S3x2816 (ix2 r j) = w (ix3 0 r j) := by
  pointwise

theorem V_v1 (q : Fin 8) (j : Fin 2816) : (V m c main_v1 : FVec Ideal S8x2816 .f32) (ix2 q j) = if h : q.val < 3 then (A m c).cw ⟨q, h⟩ j else 0 := by
  unfold_abbrev_sides
  after_reads_simp
  refine (show _ = pad S8x2816 ![0, 0] ![5, 0] ![0, 0]
    (shapeCast S3x2816 (m (c.tc.loc main_arg4) : FVec Ideal S1x3x2816 .f32) shapeCasts_S1x3x2816_S3x2816)
    (sitofp .f32 (constantI S_ 32 0#32) : FVec Ideal S_ .f32) pads_S3x2816_S8x2816_050_000 h_S_ (ix2 q j) from rfl).trans ?_
  by_cases hq : q.val < 3
  · rw [dif_pos hq, pad2_in _ _ _ _ _ _ _ hq j.isLt]
    exact cast_row _ _ _
  · rw [dif_neg hq, pad2_out _ _ _ _ _ _ _ (Or.inl (by omega)), sitofp_zero']

end Cert.Kernel5Ideal.Ft
-- ==== Proof.FtRun.lean ====
module

public import proofs.«01_k».proof.Proof.FtHost
public import proofs.«01_k».proof.Proof.Rows
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

/-! What the last feed-forward kernel leaves in its result arrays, point by point of the grid. -/

namespace Cert.Kernel5Ideal.Ft

open Cert.Kernel5Ideal Cert.Kernel5Ideal.Gen Cert.RealFacts
open Cert.FbMath (rs rk)
open Cert.FtMath (Args E Z S AC Fd Er LR LO DV DW DC)

variable (m : (ℓ : Loc nD τ sig) → Buf (Elt Ideal) ℓ) (c : Dev nD)

/-- Row `p` of the block of grid point `n`. -/
def row (n : ℕ) (hn : n < cfg0.N) (p : Fin 256) : Fin 8192 := ⟨256 * n + p, by have : cfg0.N = 32 := N_0; omega⟩

theorem row_val (n : ℕ) (hn : n < cfg0.N) (p : Fin 256) : (row n hn p).val = 256 * n + p.val := rfl

theorem at0 : ∀ t : Fin cfg0.N, win0_0.index t = ![t.val, 0] := (by decide +kernel : ∀ t : Fin grid0.N, win0_0.index t = ![t.val, 0])

theorem blk0 (t : Fin cfg0.N) (p : Fin 256) (k : Fin 2816) :
    (iblk m c 0 t : FVec Ideal S256x2816 .bf16) (ix2 p k) = (A m c).g (row t.val t.isLt p) k := by
  refine Eq.trans ?_ (V_v3 m c (row t.val t.isLt p) k)
  blk_simp [iblk]
  refine congrArg _ (funext fun a => Fin.ext ?_)
  fin_cases a <;> blk_simp [at0] <;> simp [row] <;> omega

theorem at1 : ∀ t : Fin cfg0.N, win0_1.index t = ![t.val, 0] := (by decide +kernel : ∀ t : Fin grid0.N, win0_1.index t = ![t.val, 0])

theorem blk1 (t : Fin cfg0.N) (p : Fin 256) (k : Fin 2816) :
    (iblk m c 1 t : FVec Ideal S256x2816 .bf16) (ix2 p k) = (A m c).v (row t.val t.isLt p) k := by
  refine Eq.trans ?_ (V_v5 m c (row t.val t.isLt p) k)
  blk_simp [iblk]
  refine congrArg _ (funext fun a => Fin.ext ?_)
  fin_cases a <;> blk_simp [at1] <;> simp [row] <;> omega

theorem at2 : ∀ t : Fin cfg0.N, win0_2.index t = ![t.val, 0] := (by decide +kernel : ∀ t : Fin grid0.N, win0_2.index t = ![t.val, 0])

theorem blk2 (t : Fin cfg0.N) (p : Fin 256) (k : Fin 1024) :
    (iblk m c 2 t : FVec Ideal S256x1024 .f32) (ix2 p k) = (A m c).x (row t.val t.isLt p) k := by
  refine Eq.trans ?_ (V_v6 m c (row t.val t.isLt p) k)
  blk_simp [iblk]
  refine congrArg _ (funext fun a => Fin.ext ?_)
  fin_cases a <;> blk_simp [at2] <;> simp [row] <;> omega

theorem at3 : ∀ t : Fin cfg0.N, win0_3.index t = ![t.val, 0] := (by decide +kernel : ∀ t : Fin grid0.N, win0_3.index t = ![t.val, 0])

theorem blk3 (t : Fin cfg0.N) (p : Fin 256) (k : Fin 1024) :
    (iblk m c 3 t : FVec Ideal S256x1024 .f32) (ix2 p k) = (A m c).y (row t.val t.isLt p) k := by
  refine Eq.trans ?_ (V_v7 m c (row t.val t.isLt p) k)
  blk_simp [iblk]
  refine congrArg _ (funext fun a => Fin.ext ?_)
  fin_cases a <;> blk_simp [at3] <;> simp [row] <;> omega

theorem at4 : ∀ t : Fin cfg0.N, win0_4.index t = ![0, 0] := (by decide +kernel : ∀ t : Fin grid0.N, win0_4.index t = ![0, 0])

theorem blk4 (t : Fin cfg0.N) (p : Fin 8) (k : Fin 2816) :
    (iblk m c 4 t : FVec Ideal S8x2816 .f32) (ix2 p k) = if h : p.val < 3 then (A m c).cw ⟨p, h⟩ k else 0 := by
  refine Eq.trans ?_ (V_v1 m c p k)
  blk_simp [iblk]
  refine congrArg _ (funext fun a => Fin.ext ?_)
  fin_cases a <;> blk_simp [at4] <;> simp

theorem at5 : ∀ t : Fin cfg0.N, win0_5.index t = ![0, 0] := (by decide +kernel : ∀ t : Fin grid0.N, win0_5.index t = ![0, 0])

theorem blk5 (t : Fin cfg0.N) (p : Fin 1) (k : Fin 2816) :
    (iblk m c 5 t : FVec Ideal S1x2816 .f32) (ix2 p k) = (A m c).cb k := by
  refine Eq.trans ?_ (congrFun (V_main_arg5 m c) (ix2 0 k))
  blk_simp [iblk]
  refine congrArg _ (funext fun a => Fin.ext ?_)
  fin_cases a <;> blk_simp [at5] <;> simp

theorem at6 : ∀ t : Fin cfg0.N, win0_6.index t = ![0, 0] := (by decide +kernel : ∀ t : Fin grid0.N, win0_6.index t = ![0, 0])

theorem blk6 (t : Fin cfg0.N) (p : Fin 2816) (k : Fin 1024) :
    (iblk m c 6 t : FVec Ideal S2816x1024 .bf16) (ix2 p k) = (A m c).wd p k := by
  refine Eq.trans ?_ (V_v9 m c p k)
  blk_simp [iblk]
  refine congrArg _ (funext fun a => Fin.ext ?_)
  fin_cases a <;> blk_simp [at6] <;> simp

theorem at7 : ∀ t : Fin cfg0.N, win0_7.index t = ![0, 0] := (by decide +kernel : ∀ t : Fin grid0.N, win0_7.index t = ![0, 0])

theorem blk7 (t : Fin cfg0.N) (p : Fin 1) (k : Fin 1024) :
    (iblk m c 7 t : FVec Ideal S1x1024 .f32) (ix2 p k) = (A m c).pf k := by
  refine Eq.trans ?_ (congrFun (V_main_arg7 m c) (ix2 0 k))
  blk_simp [iblk]
  refine congrArg _ (funext fun a => Fin.ext ?_)
  fin_cases a <;> blk_simp [at7] <;> simp

/-- What a point leaves, from its blocks, the sums before it and the rows carried into it. -/
def point (x0 x1 : Vec Ideal S256x2816 .bf16) (x2 x3 : Vec Ideal S256x1024 .f32) (x4 : Vec Ideal S8x2816 .f32) (x5 : Vec Ideal S1x2816 .f32) (x6 : Vec Ideal S2816x1024 .bf16)
    (x7 : Vec Ideal S1x1024 .f32) (b13 : Vec Ideal S8x128 .f32) (b14 : Vec Ideal S1x1024 .f32) (b15 : Vec Ideal S1x2816 .f32) (cy : Vec Ideal S8x2816 .f32) :
    Vec Ideal S256x2816 .bf16 × Vec Ideal S256x1024 .bf16 × Vec Ideal S256x2816 .bf16 × Vec Ideal S256x2816 .bf16 × Vec Ideal S256x1024 .f32 × Vec Ideal S8x128 .f32 × Vec Ideal S1x1024 .f32 × Vec Ideal S1x2816 .f32 × Vec Ideal S8x2816 .f32 :=
  (k0_pay13 (GT x0 cy x4 x5) (SG x0 cy x4 x5) x1, k0_pay20 (FF x0 cy x4 x5 x1 x6) (RR x0 cy x4 x5 x1 x6) x7 (EE x0 cy x4 x5 x1 x6 x7 x2 x3), k0_pay22 (k0_pay11 (GT x0 cy x4 x5) (SG x0 cy x4 x5)) (FF x0 cy x4 x5 x1 x6) (RR x0 cy x4 x5 x1 x6) x7 (EE x0 cy x4 x5 x1 x6 x7 x2 x3) x6, k0_pay1 (GT x0 cy x4 x5) (SG x0 cy x4 x5) (DA x0 cy x4 x5 x1 x6 x7 x2 x3), k0_pay18 (EE x0 cy x4 x5 x1 x6 x7 x2 x3),
    k0_pay17 (GT x0 cy x4 x5) (SG x0 cy x4 x5) x1 x6 x7 x2 x3 b13, k0_pay19 (FF x0 cy x4 x5 x1 x6) (RR x0 cy x4 x5 x1 x6) (EE x0 cy x4 x5 x1 x6 x7 x2 x3) b14, k0_pay2 (GT x0 cy x4 x5) (SG x0 cy x4 x5) (DA x0 cy x4 x5 x1 x6 x7 x2 x3) b15, k0_pay8 x0)

theorem outs_A (t : Fin cfg0.N) (h0 : t.val % 32 = 0) :
    outsAt0 m c t.val t.isLt = point (iblk m c 0 t) (iblk m c 1 t) (iblk m c 2 t) (iblk m c 3 t) (iblk m c 4 t) (iblk m c 5 t) (iblk m c 6 t) (iblk m c 7 t) (k0_pay4 (F := Ideal)) (k0_pay5 (F := Ideal)) (k0_pay6 (F := Ideal)) (k0_pay3 (F := Ideal)) := by
  rw [outsAt0_A m c t h0]
  unfold point
  refine congrArg₂ Prod.mk (out_A8 ..) ?_
  refine congrArg₂ Prod.mk (out_A9 ..) ?_
  refine congrArg₂ Prod.mk (out_A10 ..) ?_
  refine congrArg₂ Prod.mk (out_A11 ..) ?_
  refine congrArg₂ Prod.mk (out_A12 ..) ?_
  refine congrArg₂ Prod.mk (out_A13 ..) ?_
  refine congrArg₂ Prod.mk (out_A14 ..) ?_
  refine congrArg₂ Prod.mk (out_A15 ..) ?_
  exact sout_A ..

theorem outs_B (t : Fin cfg0.N) (h0 : ¬ t.val % 32 = 0) :
    outsAt0 m c t.val t.isLt = point (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le t.val 1) t.isLt)).2.2.2.2.2.1 (outsAt0 m c (t.val - 1) (Nat.lt_of_le_of_lt (Nat.sub_le t.val 1) t.isLt)).2.2.2.2.2.2.1 (outsAt0 m c (t.val - 1) (Nat.lt_of_le_of_lt (Nat.sub_le t.val 1) t.isLt)).2.2.2.2.2.2.2.1 (outsAt0 m c (t.val - 1) (Nat.lt_of_le_of_lt (Nat.sub_le t.val 1) t.isLt)).2.2.2.2.2.2.2.2 := by
  rw [outsAt0_B m c t h0]
  generalize (outsAt0 m c (t.val - 1) (Nat.lt_of_le_of_lt (Nat.sub_le t.val 1) t.isLt)).2.2.2.2.2.1 = b13, (outsAt0 m c (t.val - 1) (Nat.lt_of_le_of_lt (Nat.sub_le t.val 1) t.isLt)).2.2.2.2.2.2.1 = b14, (outsAt0 m c (t.val - 1) (Nat.lt_of_le_of_lt (Nat.sub_le t.val 1) t.isLt)).2.2.2.2.2.2.2.1 = b15, (outsAt0 m c (t.val - 1) (Nat.lt_of_le_of_lt (Nat.sub_le t.val 1) t.isLt)).2.2.2.2.2.2.2.2 = cy
  unfold point
  refine congrArg₂ Prod.mk (out_B8 ..) ?_
  refine congrArg₂ Prod.mk (out_B9 ..) ?_
  refine congrArg₂ Prod.mk (out_B10 ..) ?_
  refine congrArg₂ Prod.mk (out_B11 ..) ?_
  refine congrArg₂ Prod.mk (out_B12 ..) ?_
  refine congrArg₂ Prod.mk (out_B13 ..) ?_
  refine congrArg₂ Prod.mk (out_B14 ..) ?_
  refine congrArg₂ Prod.mk (out_B15 ..) ?_
  exact sout_B ..

/-- The sums before a point and the rows carried into it. -/
def prev : (n : ℕ) → n < cfg0.N → Vec Ideal S8x128 .f32 × Vec Ideal S1x1024 .f32 × Vec Ideal S1x2816 .f32 × Vec Ideal S8x2816 .f32
  | 0, _ => (k0_pay4 (F := Ideal), k0_pay5 (F := Ideal), k0_pay6 (F := Ideal), k0_pay3 (F := Ideal))
  | n + 1, hn => (outsAt0 m c n (Nat.lt_of_succ_lt hn)).2.2.2.2.2

theorem outs_eq (n : ℕ) (hn : n < cfg0.N) :
    outsAt0 m c n hn = point (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (prev m c n hn).1 (prev m c n hn).2.1 (prev m c n hn).2.2.1 (prev m c n hn).2.2.2 := by
  have hN : cfg0.N = 32 := N_0
  match n with
  | 0 => exact outs_A m c ⟨0, hn⟩ (Nat.zero_mod _)
  | n + 1 => exact outs_B m c ⟨n + 1, hn⟩ (by show ¬ (n + 1) % 32 = 0; omega)

theorem scr_eq (n : ℕ) (hn : n < cfg0.N) : (outsAt0 m c n hn).2.2.2.2.2.2.2.2 = k0_pay8 (iblk m c 0 ⟨n, hn⟩) := by
  rw [outs_eq]
  rfl

/-- The carried rows are the last rows of the block before. -/
theorem carry (n : ℕ) (hn : n < cfg0.N) (q : Fin 8) (j : Fin 2816) :
    (prev m c n hn).2.2.2 (ix2 q j) = E (A m c) (256 * n + q.val) j := by
  have hN : cfg0.N = 32 := N_0
  match n with
  | 0 => rw [E, dif_neg (by omega)]; exact pay3_apply q j
  | n + 1 =>
    refine (congrFun (scr_eq m c n (Nat.lt_of_succ_lt hn)) _).trans ?_
    rw [pay8_apply, blk0, E, dif_pos (by omega)]
    exact congrArg (fun r => (A m c).g r j) (Fin.ext (by show 256 * n + (248 + q.val) = 256 * (n + 1) + q.val - 8; omega))

theorem ex_eq (n : ℕ) (hn : n < cfg0.N) (r : ℕ) (hr : r < 264) (j : Fin 2816) :
    EX (iblk m c 0 ⟨n, hn⟩) (prev m c n hn).2.2.2 r j = E (A m c) (256 * n + r) j := by
  have hN : cfg0.N = 32 := N_0
  unfold EX
  by_cases h : r < 8
  · rw [dif_pos h, carry]
  · rw [dif_neg h, dif_pos (by omega), blk0, E, dif_pos (by omega)]
    exact congrArg (fun r => (A m c).g r j) (Fin.ext (by show 256 * n + (r - 8) = 256 * n + r - 8; omega))

theorem gt_eq (n : ℕ) (hn : n < cfg0.N) (p : Fin 256) (j : Fin 2816) : GT (iblk m c 0 ⟨n, hn⟩) (prev m c n hn).2.2.2 (iblk m c 4 ⟨n, hn⟩) (iblk m c 5 ⟨n, hn⟩) (ix2 p j) = Z (A m c) (row n hn p) j := by
  rw [GT_apply, ex_eq m c n hn _ (by omega), ex_eq m c n hn _ (by omega), ex_eq m c n hn _ (by omega), blk4, blk4, blk4, blk5]
  rfl

theorem sg_eq (n : ℕ) (hn : n < cfg0.N) (p : Fin 256) (j : Fin 2816) : SG (iblk m c 0 ⟨n, hn⟩) (prev m c n hn).2.2.2 (iblk m c 4 ⟨n, hn⟩) (iblk m c 5 ⟨n, hn⟩) (ix2 p j) = Ideal.logistic (Z (A m c) (row n hn p) j) := by
  rw [SG_apply, gt_eq]

theorem ff_eq (n : ℕ) (hn : n < cfg0.N) (p : Fin 256) (j : Fin 1024) : FF (iblk m c 0 ⟨n, hn⟩) (prev m c n hn).2.2.2 (iblk m c 4 ⟨n, hn⟩) (iblk m c 5 ⟨n, hn⟩) (iblk m c 1 ⟨n, hn⟩) (iblk m c 6 ⟨n, hn⟩) (ix2 p j) = Fd (A m c) (row n hn p) j := by
  rw [FF_apply]
  simp only [gt_eq, sg_eq, blk1, blk6]
  rfl

theorem rr_eq (n : ℕ) (hn : n < cfg0.N) (p : Fin 256) (u : Fin 1) : RR (iblk m c 0 ⟨n, hn⟩) (prev m c n hn).2.2.2 (iblk m c 4 ⟨n, hn⟩) (iblk m c 5 ⟨n, hn⟩) (iblk m c 1 ⟨n, hn⟩) (iblk m c 6 ⟨n, hn⟩) (ix2 p u) = rs (Fd (A m c) (row n hn p)) := by
  rw [RR_apply]
  simp only [ff_eq]

theorem ee_eq (n : ℕ) (hn : n < cfg0.N) (p : Fin 256) (j : Fin 1024) : EE (iblk m c 0 ⟨n, hn⟩) (prev m c n hn).2.2.2 (iblk m c 4 ⟨n, hn⟩) (iblk m c 5 ⟨n, hn⟩) (iblk m c 1 ⟨n, hn⟩) (iblk m c 6 ⟨n, hn⟩) (iblk m c 7 ⟨n, hn⟩) (iblk m c 2 ⟨n, hn⟩) (iblk m c 3 ⟨n, hn⟩) (ix2 p j) = Er (A m c) (row n hn p) j := by
  rw [EE_apply]
  simp only [ff_eq, blk2, blk3, blk7]
  rfl

theorem df_eq (n : ℕ) (hn : n < cfg0.N) (p : Fin 256) (j : Fin 1024) :
    k0_pay20 (FF (iblk m c 0 ⟨n, hn⟩) (prev m c n hn).2.2.2 (iblk m c 4 ⟨n, hn⟩) (iblk m c 5 ⟨n, hn⟩) (iblk m c 1 ⟨n, hn⟩) (iblk m c 6 ⟨n, hn⟩)) (RR (iblk m c 0 ⟨n, hn⟩) (prev m c n hn).2.2.2 (iblk m c 4 ⟨n, hn⟩) (iblk m c 5 ⟨n, hn⟩) (iblk m c 1 ⟨n, hn⟩) (iblk m c 6 ⟨n, hn⟩)) (iblk m c 7 ⟨n, hn⟩) (EE (iblk m c 0 ⟨n, hn⟩) (prev m c n hn).2.2.2 (iblk m c 4 ⟨n, hn⟩) (iblk m c 5 ⟨n, hn⟩) (iblk m c 1 ⟨n, hn⟩) (iblk m c 6 ⟨n, hn⟩) (iblk m c 7 ⟨n, hn⟩) (iblk m c 2 ⟨n, hn⟩) (iblk m c 3 ⟨n, hn⟩)) (ix2 p j) = Cert.FtMath.DF (A m c) (row n hn p) j := by
  rw [pay20_apply _ _ _ _ p j (RR_apply _ _ _ _ _ _ p 0)]
  simp only [ff_eq, ee_eq, blk7]
  rfl

theorem da_eq (n : ℕ) (hn : n < cfg0.N) (p : Fin 256) (j : Fin 2816) :
    k0_pay21 (FF (iblk m c 0 ⟨n, hn⟩) (prev m c n hn).2.2.2 (iblk m c 4 ⟨n, hn⟩) (iblk m c 5 ⟨n, hn⟩) (iblk m c 1 ⟨n, hn⟩) (iblk m c 6 ⟨n, hn⟩)) (RR (iblk m c 0 ⟨n, hn⟩) (prev m c n hn).2.2.2 (iblk m c 4 ⟨n, hn⟩) (iblk m c 5 ⟨n, hn⟩) (iblk m c 1 ⟨n, hn⟩) (iblk m c 6 ⟨n, hn⟩)) (iblk m c 7 ⟨n, hn⟩) (EE (iblk m c 0 ⟨n, hn⟩) (prev m c n hn).2.2.2 (iblk m c 4 ⟨n, hn⟩) (iblk m c 5 ⟨n, hn⟩) (iblk m c 1 ⟨n, hn⟩) (iblk m c 6 ⟨n, hn⟩) (iblk m c 7 ⟨n, hn⟩) (iblk m c 2 ⟨n, hn⟩) (iblk m c 3 ⟨n, hn⟩)) (iblk m c 6 ⟨n, hn⟩) (ix2 p j) = Cert.FtMath.DA (A m c) (row n hn p) j := by
  rw [pay21_apply]
  simp only [df_eq, blk6]
  rfl

theorem dg_eq (n : ℕ) (hn : n < cfg0.N) (p : Fin 256) (j : Fin 2816) :
    k0_pay1 (GT (iblk m c 0 ⟨n, hn⟩) (prev m c n hn).2.2.2 (iblk m c 4 ⟨n, hn⟩) (iblk m c 5 ⟨n, hn⟩)) (SG (iblk m c 0 ⟨n, hn⟩) (prev m c n hn).2.2.2 (iblk m c 4 ⟨n, hn⟩) (iblk m c 5 ⟨n, hn⟩)) (DA (iblk m c 0 ⟨n, hn⟩) (prev m c n hn).2.2.2 (iblk m c 4 ⟨n, hn⟩) (iblk m c 5 ⟨n, hn⟩) (iblk m c 1 ⟨n, hn⟩) (iblk m c 6 ⟨n, hn⟩) (iblk m c 7 ⟨n, hn⟩) (iblk m c 2 ⟨n, hn⟩) (iblk m c 3 ⟨n, hn⟩)) (ix2 p j) = Cert.FtMath.DG (A m c) (row n hn p) j := by
  rw [pay1_apply, DA_apply, da_eq, gt_eq, sg_eq, blk1]
  rfl

theorem outs8 (n : ℕ) (hn : n < cfg0.N) (p : Fin 256) (j : Fin 2816) :
    ((outsAt0 m c n hn).1 : FVec Ideal S256x2816 .bf16) (ix2 p j) = Cert.FtMath.AC (A m c) (row n hn p) j := by
  rw [outs_eq]
  refine (pay13_apply _ _ _ p j).trans ?_
  simp only [gt_eq, sg_eq, blk1]
  rfl

theorem outs9 (n : ℕ) (hn : n < cfg0.N) (p : Fin 256) (j : Fin 1024) :
    ((outsAt0 m c n hn).2.1 : FVec Ideal S256x1024 .bf16) (ix2 p j) = Cert.FtMath.DF (A m c) (row n hn p) j := by
  rw [outs_eq]
  exact df_eq m c n hn p j

theorem outs10 (n : ℕ) (hn : n < cfg0.N) (p : Fin 256) (j : Fin 2816) :
    ((outsAt0 m c n hn).2.2.1 : FVec Ideal S256x2816 .bf16) (ix2 p j) = Cert.FtMath.DV (A m c) (row n hn p) j := by
  rw [outs_eq]
  refine (pay22_apply _ _ _ _ _ _ _ p j).trans ?_
  simp only [da_eq, gt_eq, sg_eq]
  rfl

theorem outs11 (n : ℕ) (hn : n < cfg0.N) (p : Fin 256) (j : Fin 2816) :
    ((outsAt0 m c n hn).2.2.2.1 : FVec Ideal S256x2816 .bf16) (ix2 p j) = Cert.FtMath.DG (A m c) (row n hn p) j := by
  rw [outs_eq]
  exact dg_eq m c n hn p j

theorem outs12 (n : ℕ) (hn : n < cfg0.N) (p : Fin 256) (j : Fin 1024) :
    ((outsAt0 m c n hn).2.2.2.2.1 : FVec Ideal S256x1024 .f32) (ix2 p j) = Cert.FtMath.DX (A m c) (row n hn p) j := by
  rw [outs_eq]
  refine (pay18_apply _ p j).trans ?_
  simp only [ee_eq]
  rfl

/-- What grid point `n` adds to a sum over the rows. -/
def part (f : Fin 8192 → EReal) (n : ℕ) : EReal := if hn : n < cfg0.N then ∑ p : Fin 256, f (row n hn p) else 0

/-- The thirty-two points' parts are the sum over all rows. -/
theorem total (f : Fin 8192 → EReal) : ∑ s ∈ Finset.range (31 + 1), part f s = ∑ r, f r := by
  have hN : cfg0.N = 32 := N_0
  rw [Finset.sum_range, Fin.sum_univ_tiles 32 256 rfl]
  refine Finset.sum_congr rfl fun s _ => ?_
  unfold part
  rw [dif_pos (by omega)]
  refine Finset.sum_congr rfl fun p _ => congrArg f (Fin.ext ?_)
  show 256 * s.val + p.val = s.val * 256 + p.val
  omega

/-- Sums carried from point to point. -/
theorem accum (o pr : (n : ℕ) → n < cfg0.N → EReal) (f : Fin 8192 → EReal) (ho : ∀ n hn, o n hn = pr n hn + ∑ p : Fin 256, f (row n hn p))
    (h0 : ∀ h, pr 0 h = 0) (hs : ∀ n hn, pr (n + 1) hn = o n (Nat.lt_of_succ_lt hn)) (n : ℕ) (hn : n < cfg0.N) :
    o n hn = ∑ s ∈ Finset.range (n + 1), part f s := by
  have hp : ∀ n (hn : n < cfg0.N), ∑ p : Fin 256, f (row n hn p) = part f n := fun n hn => by rw [part, dif_pos hn]
  induction n with
  | zero => rw [ho, h0, hp, zero_add, Finset.sum_range_one]
  | succ n ih => rw [ho, hs, hp, ih (by omega), Finset.sum_range_succ _ (n + 1)]

theorem outs13 (n : ℕ) (hn : n < cfg0.N) (u : Fin 8) (j : Fin 128) :
    ((outsAt0 m c n hn).2.2.2.2.2.1 : FVec Ideal S8x128 .f32) (ix2 u j) = ∑ s ∈ Finset.range (n + 1), part (LR (A m c)) s := by
  refine accum (fun n hn => (outsAt0 m c n hn).2.2.2.2.2.1 (ix2 u j)) (fun n hn => (prev m c n hn).1 (ix2 u j)) _ (fun n hn => ?_) (fun _ => pay4_apply u j) (fun n hn => rfl) n hn
  rw [outs_eq]
  refine (pay17_apply _ _ _ _ _ _ _ _ _ _ u j).trans (congrArg (_ + ·) ?_)
  rw [Cert.FtMath.sum_mul_nonneg _ _ fun p => Finset.sum_nonneg fun j _ => Cert.FtMath.sq_nonneg _]
  simp only [ee_eq]
  rfl

theorem outs14 (n : ℕ) (hn : n < cfg0.N) (u : Fin 1) (j : Fin 1024) :
    ((outsAt0 m c n hn).2.2.2.2.2.2.1 : FVec Ideal S1x1024 .f32) (ix2 u j) = ∑ s ∈ Finset.range (n + 1), part (fun r => Cert.FtMath.DX (A m c) r j * Fd (A m c) r j * rs (Fd (A m c) r)) s := by
  refine accum (fun n hn => (outsAt0 m c n hn).2.2.2.2.2.2.1 (ix2 u j)) (fun n hn => (prev m c n hn).2.1 (ix2 u j)) _ (fun n hn => ?_) (fun _ => pay5_apply u j) (fun n hn => rfl) n hn
  rw [outs_eq]
  refine (pay19_apply _ _ _ _ u j).trans (congrArg (_ + ·) ?_)
  simp only [ee_eq, ff_eq, rr_eq]
  rfl

theorem outs15 (n : ℕ) (hn : n < cfg0.N) (u : Fin 1) (j : Fin 2816) :
    ((outsAt0 m c n hn).2.2.2.2.2.2.2.1 : FVec Ideal S1x2816 .f32) (ix2 u j) = ∑ s ∈ Finset.range (n + 1), part (fun r => Cert.FtMath.DG (A m c) r j) s := by
  refine accum (fun n hn => (outsAt0 m c n hn).2.2.2.2.2.2.2.1 (ix2 u j)) (fun n hn => (prev m c n hn).2.2.1 (ix2 u j)) _ (fun n hn => ?_) (fun _ => pay6_apply u j) (fun n hn => rfl) n hn
  rw [outs_eq]
  refine (pay2_apply _ _ _ _ u j).trans (congrArg (_ + ·) ?_)
  simp only [dg_eq]

theorem at8 : ∀ t : Fin cfg0.N, win0_8.index t = ![t.val, 0] := (by decide +kernel : ∀ t : Fin grid0.N, win0_8.index t = ![t.val, 0])

theorem final8 : (dats m 0 c).arrAt 8 cfg0.N = (fun i => Cert.FtMath.AC (A m c) (i 0) (i 1) : FVec Ideal S8192x2816 .bf16) := by
  refine (dats m 0 c).arrAt_eq_of_covers 8 _ (by decide +kernel) fun t hf y => ?_
  obtain ⟨p, j, rfl⟩ : ∃ (p : Fin 256) (j : Fin 2816), y = ix2 p j := ⟨y 0, y 1, eq_ix2 y⟩
  blk_simp
  have hy : ((win0_8.blk t).view.emb (ix2 p j) : S8192x2816.Idx) = ix2 (row t.val t.isLt p) j := by
    refine funext fun a => Fin.ext ?_
    fin_cases a <;> blk_simp [at8] <;> simp [row] <;> omega
  exact (outs8 m c t.val t.isLt p j).trans (congrArg (fun i => Cert.FtMath.AC (A m c) (i 0) (i 1) : FVec Ideal S8192x2816 .bf16) hy).symm

theorem at9 : ∀ t : Fin cfg0.N, win0_9.index t = ![t.val, 0] := (by decide +kernel : ∀ t : Fin grid0.N, win0_9.index t = ![t.val, 0])

theorem final9 : (dats m 0 c).arrAt 9 cfg0.N = (fun i => Cert.FtMath.DF (A m c) (i 0) (i 1) : FVec Ideal S8192x1024 .bf16) := by
  refine (dats m 0 c).arrAt_eq_of_covers 9 _ (by decide +kernel) fun t hf y => ?_
  obtain ⟨p, j, rfl⟩ : ∃ (p : Fin 256) (j : Fin 1024), y = ix2 p j := ⟨y 0, y 1, eq_ix2 y⟩
  blk_simp
  have hy : ((win0_9.blk t).view.emb (ix2 p j) : S8192x1024.Idx) = ix2 (row t.val t.isLt p) j := by
    refine funext fun a => Fin.ext ?_
    fin_cases a <;> blk_simp [at9] <;> simp [row] <;> omega
  exact (outs9 m c t.val t.isLt p j).trans (congrArg (fun i => Cert.FtMath.DF (A m c) (i 0) (i 1) : FVec Ideal S8192x1024 .bf16) hy).symm

theorem at10 : ∀ t : Fin cfg0.N, win0_10.index t = ![t.val, 0] := (by decide +kernel : ∀ t : Fin grid0.N, win0_10.index t = ![t.val, 0])

theorem final10 : (dats m 0 c).arrAt 10 cfg0.N = (fun i => Cert.FtMath.DV (A m c) (i 0) (i 1) : FVec Ideal S8192x2816 .bf16) := by
  refine (dats m 0 c).arrAt_eq_of_covers 10 _ (by decide +kernel) fun t hf y => ?_
  obtain ⟨p, j, rfl⟩ : ∃ (p : Fin 256) (j : Fin 2816), y = ix2 p j := ⟨y 0, y 1, eq_ix2 y⟩
  blk_simp
  have hy : ((win0_10.blk t).view.emb (ix2 p j) : S8192x2816.Idx) = ix2 (row t.val t.isLt p) j := by
    refine funext fun a => Fin.ext ?_
    fin_cases a <;> blk_simp [at10] <;> simp [row] <;> omega
  exact (outs10 m c t.val t.isLt p j).trans (congrArg (fun i => Cert.FtMath.DV (A m c) (i 0) (i 1) : FVec Ideal S8192x2816 .bf16) hy).symm

theorem at11 : ∀ t : Fin cfg0.N, win0_11.index t = ![t.val, 0] := (by decide +kernel : ∀ t : Fin grid0.N, win0_11.index t = ![t.val, 0])

theorem final11 : (dats m 0 c).arrAt 11 cfg0.N = (fun i => Cert.FtMath.DG (A m c) (i 0) (i 1) : FVec Ideal S8192x2816 .bf16) := by
  refine (dats m 0 c).arrAt_eq_of_covers 11 _ (by decide +kernel) fun t hf y => ?_
  obtain ⟨p, j, rfl⟩ : ∃ (p : Fin 256) (j : Fin 2816), y = ix2 p j := ⟨y 0, y 1, eq_ix2 y⟩
  blk_simp
  have hy : ((win0_11.blk t).view.emb (ix2 p j) : S8192x2816.Idx) = ix2 (row t.val t.isLt p) j := by
    refine funext fun a => Fin.ext ?_
    fin_cases a <;> blk_simp [at11] <;> simp [row] <;> omega
  exact (outs11 m c t.val t.isLt p j).trans (congrArg (fun i => Cert.FtMath.DG (A m c) (i 0) (i 1) : FVec Ideal S8192x2816 .bf16) hy).symm

theorem at12 : ∀ t : Fin cfg0.N, win0_12.index t = ![t.val, 0] := (by decide +kernel : ∀ t : Fin grid0.N, win0_12.index t = ![t.val, 0])

theorem final12 : (dats m 0 c).arrAt 12 cfg0.N = (fun i => Cert.FtMath.DX (A m c) (i 0) (i 1) : FVec Ideal S8192x1024 .f32) := by
  refine (dats m 0 c).arrAt_eq_of_covers 12 _ (by decide +kernel) fun t hf y => ?_
  obtain ⟨p, j, rfl⟩ : ∃ (p : Fin 256) (j : Fin 1024), y = ix2 p j := ⟨y 0, y 1, eq_ix2 y⟩
  blk_simp
  have hy : ((win0_12.blk t).view.emb (ix2 p j) : S8192x1024.Idx) = ix2 (row t.val t.isLt p) j := by
    refine funext fun a => Fin.ext ?_
    fin_cases a <;> blk_simp [at12] <;> simp [row] <;> omega
  exact (outs12 m c t.val t.isLt p j).trans (congrArg (fun i => Cert.FtMath.DX (A m c) (i 0) (i 1) : FVec Ideal S8192x1024 .f32) hy).symm

theorem final13 : (dats m 0 c).arrAt 13 cfg0.N = (fun _ => LO (A m c) : FVec Ideal S8x128 .f32) := by
  refine (dats m 0 c).arrAt_eq_of_covers 13 _ (by decide +kernel) fun t hf y => ?_
  obtain ⟨p, j, rfl⟩ : ∃ (p : Fin 8) (j : Fin 128), y = ix2 p j := ⟨y 0, y 1, eq_ix2 y⟩
  have hl : t.val = 31 := by have hN : cfg0.N = 32 := N_0; have := (flush0_13 t).mp hf; have := t.isLt; omega
  refine (outs13 m c t.val t.isLt p j).trans ?_
  rw [hl, total]
  rfl

theorem at14 : ∀ t : Fin cfg0.N, win0_14.index t = ![0, 0] := (by decide +kernel : ∀ t : Fin grid0.N, win0_14.index t = ![0, 0])

theorem final14 : (dats m 0 c).arrAt 14 cfg0.N = (fun i => DW (A m c) (i 1) : FVec Ideal S1x1024 .f32) := by
  refine (dats m 0 c).arrAt_eq_of_covers 14 _ (by decide +kernel) fun t hf y => ?_
  obtain ⟨p, j, rfl⟩ : ∃ (p : Fin 1) (j : Fin 1024), y = ix2 p j := ⟨y 0, y 1, eq_ix2 y⟩
  blk_simp
  have hy : ((win0_14.blk t).view.emb (ix2 p j) : S1x1024.Idx) = ix2 p j := by
    refine funext fun a => Fin.ext ?_
    fin_cases a <;> blk_simp [at14] <;> simp
  have hl : t.val = 31 := by have hN : cfg0.N = 32 := N_0; have := (flush0_14 t).mp hf; have := t.isLt; omega
  refine (outs14 m c t.val t.isLt p j).trans (Eq.trans ?_ (congrArg (fun i => DW (A m c) (i 1) : FVec Ideal S1x1024 .f32) hy).symm)
  rw [hl, total]
  rfl

theorem at15 : ∀ t : Fin cfg0.N, win0_15.index t = ![0, 0] := (by decide +kernel : ∀ t : Fin grid0.N, win0_15.index t = ![0, 0])

theorem final15 : (dats m 0 c).arrAt 15 cfg0.N = (fun i => DC (A m c) (i 1) : FVec Ideal S1x2816 .f32) := by
  refine (dats m 0 c).arrAt_eq_of_covers 15 _ (by decide +kernel) fun t hf y => ?_
  obtain ⟨p, j, rfl⟩ : ∃ (p : Fin 1) (j : Fin 2816), y = ix2 p j := ⟨y 0, y 1, eq_ix2 y⟩
  blk_simp
  have hy : ((win0_15.blk t).view.emb (ix2 p j) : S1x2816.Idx) = ix2 p j := by
    refine funext fun a => Fin.ext ?_
    fin_cases a <;> blk_simp [at15] <;> simp
  have hl : t.val = 31 := by have hN : cfg0.N = 32 := N_0; have := (flush0_15 t).mp hf; have := t.isLt; omega
  refine (outs15 m c t.val t.isLt p j).trans (Eq.trans ?_ (congrArg (fun i => DC (A m c) (i 1) : FVec Ideal S1x2816 .f32) hy).symm)
  rw [hl, total]
  rfl

end Cert.Kernel5Ideal.Ft
-- ==== Proof.FtRef.lean ====
module

public import proofs.«01_k».proof.Proof.FtMath
public import proofs.«01_k».proof.Proof.Rows
public import proofs.«01_k».proof.Proof.Gen.Reference5Ideal.Read

@[expose] public section

set_option maxRecDepth 16384

noncomputable section

open Idealize.ShloMosaic Idealize.ShloMosaic.TcCoe Idealize.SL.Sem

/-! The differentiated last feed-forward lines, stage by stage, read at an index. -/

namespace Cert.Reference5Ideal.Ft

open Cert.Reference5Ideal Cert.Reference5Ideal.Gen Cert.Reference5Ideal.Read Cert.RealFacts Cert.FtMath
open Cert.FbMath (rs rk rm)

variable (x0 x1 : Vec Ideal S1x8192x2816 .f32) (x2 x3 : Vec Ideal S1x8192x1024 .f32) (x4 : Vec Ideal S1x3x2816 .f32)
  (x5 : Vec Ideal S1x2816 .f32) (x6 : Vec Ideal S1x2816x1024 .f32) (x7 : Vec Ideal S1x1024 .f32)

/-- A sum over the first two axes, the first of one entry. -/
theorem rows_sum {n m : ℕ} (h : (⟨3, ![1, n, m]⟩ : Shape).ReducesTo [0, 1] ⟨1, ![m]⟩) (y : (⟨3, ![1, n, m]⟩ : Shape).Idx → EReal) (init : EReal) (j : Fin m) :
    Ideal.hostReduceAdd h y init (ix1 j) = init + ∑ t : Fin n, y (ix3 0 t j) := by
  unfold Ideal.hostReduceAdd
  refine congrArg (init + ·) (Finset.sum_nbij' (fun i => i 1) (fun t => ix3 0 t j) (fun _ _ => Finset.mem_univ _) (fun t _ => ?_) (fun i hi => ?_) (fun _ _ => rfl) (fun i hi => ?_))
  · exact Finset.mem_filter.mpr ⟨Finset.mem_univ _, funext fun b => by fin_cases b; rfl⟩
  all_goals
    have e : i = ix3 0 (i 1) j := by
      have h1 := congrFun (Finset.mem_filter.mp hi).2 0
      funext b
      fin_cases b
      · exact Fin.ext (by have : (i 0).val < 1 := (i 0).isLt; show (i 0).val = 0; omega)
      · rfl
      · exact Fin.ext (congrArg Fin.val h1)
  · exact e.symm
  · exact congrArg y e

/-- A sum over the whole of one row. -/
theorem row_sum {n : ℕ} (h : (⟨2, ![1, n]⟩ : Shape).ReducesTo [0, 1] ⟨0, ![]⟩) (y : (⟨2, ![1, n]⟩ : Shape).Idx → EReal) (init : EReal) (i : (⟨0, ![]⟩ : Shape).Idx) :
    Ideal.hostReduceAdd h y init i = init + ∑ t : Fin n, y (ix2 0 t) := by
  unfold Ideal.hostReduceAdd
  refine congrArg (init + ·) (Finset.sum_nbij' (fun i => i 1) (fun t => ix2 0 t) (fun _ _ => Finset.mem_univ _) (fun t _ => ?_) (fun i hi => ?_) (fun _ _ => rfl) (fun i hi => ?_))
  · exact Finset.mem_filter.mpr ⟨Finset.mem_univ _, funext fun b => b.elim0⟩
  all_goals
    have e : i = ix2 0 (i 1) := by
      funext b
      fin_cases b
      · exact Fin.ext (by have : (i 0).val < 1 := (i 0).isLt; show (i 0).val = 0; omega)
      · rfl
  · exact e.symm
  · exact congrArg y e

/-- The rows after two rows of zeros. -/
theorem v5_apply (t : Fin 8192) (s : ℕ) (hs : s < 3) (j : Fin 2816) : (val_main_v5 (F := Ideal) x0) (ix3 0 ⟨t.val + s, by omega⟩ j) = E (args x0 x1 x2 x3 x4 x5 x6 x7) (t.val + (6 + s)) j := by
  unfold E
  pointwise [val_main_v5, val_main_v4, val_main_cst_1]
  by_cases h : t.val + s < 2
  · rw [dif_pos h, dif_neg (by omega)]
  · rw [dif_neg h, dif_pos (by omega)]
    exact congrArg (fun k => x0 (ix3 0 k j)) (Fin.ext (by show t.val + s - 2 = t.val + (6 + s) - 8; omega))

theorem v31_apply (t : Fin 8192) (j : Fin 2816) : (val_main_v31 (F := Ideal) x0 x4 x5) (ix3 0 t j) = Z (args x0 x1 x2 x3 x4 x5 x6 x7) t j := by
  pointwise [val_main_v31, val_main_v0, val_main_cst, val_main_v30, val_main_v29, val_main_v28, val_main_v3, val_main_v27, val_main_v26, val_main_v23, val_main_v25, val_main_v24, val_main_v22, val_main_v21, val_main_v2, val_main_v20, val_main_v19, val_main_v16, val_main_v18, val_main_v17, val_main_v15, val_main_v14, val_main_v13, val_main_v11, val_main_v8, val_main_v10, val_main_v9, val_main_v7, val_main_v6, val_main_v12, val_main_cst_2]
  have h0 := v5_apply x0 x1 x2 x3 x4 x5 x6 x7 t 0 (by omega) j
  have h1 := v5_apply x0 x1 x2 x3 x4 x5 x6 x7 t 1 (by omega) j
  have h2 := v5_apply x0 x1 x2 x3 x4 x5 x6 x7 t 2 (by omega) j
  simp only [Nat.add_comm t.val 1, Nat.add_comm t.val 2] at h1 h2
  rw [h1, h2]
  refine (congrArg (fun e => x4 (ix3 0 0 j) * e + _ + _ + _) h0).trans ?_
  exact add_comm _ _

theorem v32_2_apply (t : Fin 8192) (j : Fin 2816) : (val_main_v32_2 (F := Ideal) x0 x4 x5) (ix3 0 t j) = Ideal.logistic (Z (args x0 x1 x2 x3 x4 x5 x6 x7) t j) := by
  have h := v31_apply x0 x1 x2 x3 x4 x5 x6 x7
  pointwise [val_main_v32_2, val_main_call0_v3, val_main_call0_v1, val_main_call0_v0, val_main_call0_v2, val_main_call0_cst, val_main_call0_v4, val_main_call0_cst_0, h]
  rfl

theorem v32_0_apply (t : Fin 8192) (j : Fin 2816) : (val_main_v32_0 (F := Ideal) x0 x4 x5) (ix3 0 t j) = S (args x0 x1 x2 x3 x4 x5 x6 x7) t j := by
  have h := v31_apply x0 x1 x2 x3 x4 x5 x6 x7
  have h2 := v32_2_apply x0 x1 x2 x3 x4 x5 x6 x7
  pointwise [val_main_v32_0, h, h2]
  rfl

theorem v32_1_apply (t : Fin 8192) (j : Fin 2816) : (val_main_v32_1 (F := Ideal) x0 x4 x5) (ix3 0 t j) = Ideal.logistic (Z (args x0 x1 x2 x3 x4 x5 x6 x7) t j) * (1 - Ideal.logistic (Z (args x0 x1 x2 x3 x4 x5 x6 x7) t j)) := by
  have h2 := v32_2_apply x0 x1 x2 x3 x4 x5 x6 x7
  pointwise [val_main_v32_1, val_main_call0_v7, val_main_call0_v6, val_main_call0_cst_1, h2]

theorem v33_apply (t : Fin 8192) (j : Fin 2816) : (val_main_v33 (F := Ideal) x0 x1 x4 x5) (ix3 0 t j) = AC (args x0 x1 x2 x3 x4 x5 x6 x7) t j := by
  have h := v32_0_apply x0 x1 x2 x3 x4 x5 x6 x7
  pointwise [val_main_v33, h]
  rfl

theorem v36_apply (t : Fin 8192) (j : Fin 1024) : (val_main_v36 (F := Ideal) x0 x1 x4 x5 x6) (ix3 0 t j) = Fd (args x0 x1 x2 x3 x4 x5 x6 x7) t j := by
  have h := v33_apply x0 x1 x2 x3 x4 x5 x6 x7
  pointwise [val_main_v36, val_main_v1, val_main_cst_0, val_main_v35, val_main_v34, h]
  rfl

theorem v44_apply (t : Fin 8192) : (val_main_v44 (F := Ideal) x0 x1 x4 x5 x6) (ix3 0 t 0) = msq (Fd (args x0 x1 x2 x3 x4 x5 x6 x7) t) := by
  have h := v36_apply x0 x1 x2 x3 x4 x5 x6 x7
  pointwise [val_main_v44, val_main_v43, val_main_cst_5, val_main_v42, val_main_v41, val_main_cst_4, val_main_v40, val_main_v39, val_main_cst_3, val_main_v38, h, msq]

theorem v55_apply (t : Fin 8192) (j : Fin 1024) : (val_main_v55 (F := Ideal) x0 x1 x2 x3 x4 x5 x6 x7) (ix3 0 t j) = Er (args x0 x1 x2 x3 x4 x5 x6 x7) t j := by
  have h := v36_apply x0 x1 x2 x3 x4 x5 x6 x7
  have h' := v44_apply x0 x1 x2 x3 x4 x5 x6 x7
  pointwise [val_main_v55, val_main_v54, val_main_v53, val_main_v52, val_main_v51, val_main_v37, val_main_v50, val_main_v49, val_main_v45, h, h']
  rfl

theorem v69_apply (t : Fin 8192) (j : Fin 1024) : (val_main_v69 (F := Ideal) x0 x1 x2 x3 x4 x5 x6 x7) (ix3 0 t j) = DX (args x0 x1 x2 x3 x4 x5 x6 x7) t j := by
  have h := v55_apply x0 x1 x2 x3 x4 x5 x6 x7
  pointwise [val_main_v69, val_main_v58, val_main_v57, val_main_cst_7, val_main_v68, val_main_v67, val_main_v66, val_main_cst_14, val_main_v65, val_main_v64, val_main_cst_13, val_main_cst_12, h]
  rw [← DX_eq, mul_one]

theorem v63_apply (i : S_.Idx) : (val_main_v63 (F := Ideal) x0 x1 x2 x3 x4 x5 x6 x7) (i) = LO (args x0 x1 x2 x3 x4 x5 x6 x7) := by
  have h := v55_apply x0 x1 x2 x3 x4 x5 x6 x7
  pointwise [val_main_v63, val_main_v62, val_main_cst_10, val_main_v61, val_main_v60, val_main_cst_9, val_main_v59, val_main_cst_8, val_main_v56, val_main_cst_11, h, row_sum]
  exact LO_eq _

theorem v91_apply (u : Fin 1) (j : Fin 1024) : (val_main_v91 (F := Ideal) x0 x1 x2 x3 x4 x5 x6 x7) (ix2 u j) = DW (args x0 x1 x2 x3 x4 x5 x6 x7) j := by
  have h := v36_apply x0 x1 x2 x3 x4 x5 x6 x7
  have h' := v44_apply x0 x1 x2 x3 x4 x5 x6 x7
  have h'' := v69_apply x0 x1 x2 x3 x4 x5 x6 x7
  pointwise [val_main_v91, val_main_v75, val_main_cst_16, val_main_v72, val_main_v71, val_main_cst_15, val_main_v70, val_main_v50, val_main_v49, val_main_v45, h, h', h'', red01]
  exact Finset.sum_congr rfl fun t _ => (mul_comm _ _).trans (mul_assoc _ _ _).symm

theorem v90_apply (t : Fin 8192) (j : Fin 1024) : (val_main_v90 (F := Ideal) x0 x1 x2 x3 x4 x5 x6 x7) (ix3 0 t j) = DX (args x0 x1 x2 x3 x4 x5 x6 x7) t j * (args x0 x1 x2 x3 x4 x5 x6 x7).pf j * rs (Fd (args x0 x1 x2 x3 x4 x5 x6 x7) t) + Fd (args x0 x1 x2 x3 x4 x5 x6 x7) t j * rm (Fd (args x0 x1 x2 x3 x4 x5 x6 x7) t) (args x0 x1 x2 x3 x4 x5 x6 x7).pf (DX (args x0 x1 x2 x3 x4 x5 x6 x7) t) + rm (Fd (args x0 x1 x2 x3 x4 x5 x6 x7) t) (args x0 x1 x2 x3 x4 x5 x6 x7).pf (DX (args x0 x1 x2 x3 x4 x5 x6 x7) t) * Fd (args x0 x1 x2 x3 x4 x5 x6 x7) t j := by
  have h := v36_apply x0 x1 x2 x3 x4 x5 x6 x7
  have h' := v44_apply x0 x1 x2 x3 x4 x5 x6 x7
  have h'' := v69_apply x0 x1 x2 x3 x4 x5 x6 x7
  pointwise [val_main_v90, val_main_v89, val_main_v86, val_main_v85, val_main_v84, val_main_cst_19, val_main_v83, val_main_v82, val_main_cst_18, val_main_v81, val_main_v48, val_main_v46, val_main_v45, val_main_v47, val_main_cst_6, val_main_v78, val_main_v77, val_main_cst_17, val_main_v76, val_main_v74, val_main_v73, val_main_v51, val_main_v37, val_main_v88, val_main_v87, val_main_v80, val_main_v79, h, h', h'', red02]
  rfl

theorem v92_apply (d : Fin 8192 → Fin 1024 → EReal) (hd : ∀ t j, (val_main_v90 (F := Ideal) x0 x1 x2 x3 x4 x5 x6 x7) (ix3 0 t j) = d t j) (t : Fin 8192) (j : Fin 2816) : (val_main_v92 (F := Ideal) x0 x1 x2 x3 x4 x5 x6 x7) (ix3 0 t j) = ∑ k : Fin 1024, d t k * (args x0 x1 x2 x3 x4 x5 x6 x7).wd j k := by
  pointwise [val_main_v92, val_main_v34, hd]
  rfl

theorem v95_apply (d : Fin 8192 → Fin 2816 → EReal) (hd : ∀ t j, (val_main_v92 (F := Ideal) x0 x1 x2 x3 x4 x5 x6 x7) (ix3 0 t j) = d t j) (t : Fin 8192) (j : Fin 2816) : (val_main_v95 (F := Ideal) x0 x1 x2 x3 x4 x5 x6 x7) (ix3 0 t j) = d t j * (args x0 x1 x2 x3 x4 x5 x6 x7).v t j * Ideal.logistic (Z (args x0 x1 x2 x3 x4 x5 x6 x7) t j) + Z (args x0 x1 x2 x3 x4 x5 x6 x7) t j * (d t j * (args x0 x1 x2 x3 x4 x5 x6 x7).v t j) * (Ideal.logistic (Z (args x0 x1 x2 x3 x4 x5 x6 x7) t j) * (1 - Ideal.logistic (Z (args x0 x1 x2 x3 x4 x5 x6 x7) t j))) := by
  have h := v31_apply x0 x1 x2 x3 x4 x5 x6 x7
  have h1 := v32_1_apply x0 x1 x2 x3 x4 x5 x6 x7
  have h2 := v32_2_apply x0 x1 x2 x3 x4 x5 x6 x7
  pointwise [val_main_v95, val_main_call1_v2, val_main_call1_v0, val_main_v94, val_main_call1_v1, h, h1, h2, hd]
  rfl

theorem v106_apply (d : Fin 8192 → Fin 2816 → EReal) (hd : ∀ t j, (val_main_v92 (F := Ideal) x0 x1 x2 x3 x4 x5 x6 x7) (ix3 0 t j) = d t j) (t : Fin 8192) (j : Fin 2816) : (val_main_v106 (F := Ideal) x0 x1 x2 x3 x4 x5 x6 x7) (ix2 t j) = d t j * S (args x0 x1 x2 x3 x4 x5 x6 x7) t j := by
  have h := v32_0_apply x0 x1 x2 x3 x4 x5 x6 x7
  pointwise [val_main_v106, val_main_v105, val_main_v93, h, hd]
  exact mul_comm _ _

theorem v100_apply (d : Fin 8192 → Fin 2816 → EReal) (hd : ∀ t j, (val_main_v95 (F := Ideal) x0 x1 x2 x3 x4 x5 x6 x7) (ix3 0 t j) = d t j) (u : Fin 1) (j : Fin 2816) : (val_main_v100 (F := Ideal) x0 x1 x2 x3 x4 x5 x6 x7) (ix2 u j) = ∑ t : Fin 8192, d t j := by
  pointwise [val_main_v100, val_main_v99, val_main_cst_21, val_main_v98, val_main_v97, val_main_v96, val_main_cst_20, hd, red01, rows_sum]

theorem v108_apply (t : Fin 8192) (j : Fin 2816) : (val_main_v108 (F := Ideal) x0 x1 x2 x3 x4 x5 x6 x7) (ix2 t j) = (val_main_v95 (F := Ideal) x0 x1 x2 x3 x4 x5 x6 x7) (ix3 0 t j) := by
  pointwise [val_main_v108, val_main_v107]

theorem v104_apply (t : Fin 8192) (j : Fin 1024) : (val_main_v104 (F := Ideal) x0 x1 x2 x3 x4 x5 x6 x7) (ix2 t j) = (val_main_v90 (F := Ideal) x0 x1 x2 x3 x4 x5 x6 x7) (ix3 0 t j) := by
  pointwise [val_main_v104, val_main_v103]

theorem v102_apply (t : Fin 8192) (j : Fin 2816) : (val_main_v102 (F := Ideal) x0 x1 x4 x5) (ix2 t j) = AC (args x0 x1 x2 x3 x4 x5 x6 x7) t j := by
  have h := v33_apply x0 x1 x2 x3 x4 x5 x6 x7
  pointwise [val_main_v102, val_main_v101, h]

theorem v109_apply (t : Fin 8192) (j : Fin 1024) : (val_main_v109 (F := Ideal) x0 x1 x2 x3 x4 x5 x6 x7) (ix2 t j) = DX (args x0 x1 x2 x3 x4 x5 x6 x7) t j := by
  have h := v69_apply x0 x1 x2 x3 x4 x5 x6 x7
  pointwise [val_main_v109, h]

theorem v110_apply (p : Fin 8) (q : Fin 128) : (val_main_v110 (F := Ideal) x0 x1 x2 x3 x4 x5 x6 x7) (ix2 p q) = LO (args x0 x1 x2 x3 x4 x5 x6 x7) := by
  have h := v63_apply x0 x1 x2 x3 x4 x5 x6 x7
  pointwise [val_main_v110, h]

end Cert.Reference5Ideal.Ft
-- ==== Proof.FtFinal.lean ====
module

public import proofs.«01_k».proof.Defs
public import proofs.«01_k».proof.Proof.FtRun
public import proofs.«01_k».proof.Proof.FtRef
public import proofs.«01_k».proof.Proof.Finite
public import proofs.«01_k».proof.Proof.Gen.Kernel5.Frame
public import proofs.«01_k».proof.Proof.Gen.Pre_finite5

@[expose] public section

set_option maxRecDepth 16384

noncomputable section

open Idealize.ShloMosaic Idealize.ShloMosaic.TcCoe Idealize.SL.Sem Idealize.ShloMosaic.StableHlo

/-! The last feed-forward kernel and the differentiated forward lines give the same arrays. -/

namespace Cert.Ft

open Cert.RealFacts Cert.FtMath Cert.Reference5Ideal.Read Cert.Reference5Ideal.Ft

variable (x0 x1 : FVec Ideal Cert.Pre_finite5.S1x8192x2816 .f32) (x2 x3 : FVec Ideal Cert.Pre_finite5.S1x8192x1024 .f32) (x4 : FVec Ideal Cert.Pre_finite5.S1x3x2816 .f32)
  (x5 : FVec Ideal Cert.Pre_finite5.S1x2816 .f32) (x6 : FVec Ideal Cert.Pre_finite5.S1x2816x1024 .f32) (x7 : FVec Ideal Cert.Pre_finite5.S1x1024 .f32)

/-- The precondition says that every argument is a real number. -/
theorem finite_args (j : Cert.Pre_finite5.S_.Idx) (h : Cert.Pre_finite5.fn (F := Ideal) x0 x1 x2 x3 x4 x5 x6 x7 j = 1#1) : (args x0 x1 x2 x3 x4 x5 x6 x7).Real := by
  unfold Cert.Pre_finite5.fn Cert.Pre_finite5.fn_part1 Cert.Pre_finite5.fn_part2 at h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have sub : Subsingleton Cert.Pre_finite5.S_.Idx := ⟨fun a b => funext fun k => k.elim0⟩
  exact ⟨fun _ _ => all_fin _ _ _ _ _ (fun _ => bits_inf) _ h0 _, fun _ _ => all_fin _ _ _ _ _ (fun _ => bits_inf) _ h1 _, fun _ _ => all_fin _ _ _ _ _ (fun _ => bits_inf) _ h2 _, fun _ _ => all_fin _ _ _ _ _ (fun _ => bits_inf) _ h3 _, fun _ _ => all_fin _ _ _ _ _ (fun _ => bits_inf) _ h4 _, fun _ => all_fin _ _ _ _ _ (fun _ => bits_inf) _ h5 _, fun _ _ => all_fin _ _ _ _ _ (fun _ => bits_inf) _ h6 _, fun _ => all_fin _ _ _ _ _ (fun _ => bits_inf) _ h7 _⟩

variable (h : Cert.Pre_finite5.fn (F := Ideal) x0 x1 x2 x3 x4 x5 x6 x7 = fun _ => 1#1)
include h

theorem f_eq (t : Fin 8192) (j : Fin 1024) : (val_main_v90 (F := Ideal) x0 x1 x2 x3 x4 x5 x6 x7) (ix3 0 t j) = DF (args x0 x1 x2 x3 x4 x5 x6 x7) t j :=
  (v90_apply x0 x1 x2 x3 x4 x5 x6 x7 t j).trans (DF_eq (finite_args x0 x1 x2 x3 x4 x5 x6 x7 (fun k => k.elim0) (congrFun h _)) t j)

theorem a_eq (t : Fin 8192) (j : Fin 2816) : (val_main_v92 (F := Ideal) x0 x1 x2 x3 x4 x5 x6 x7) (ix3 0 t j) = DA (args x0 x1 x2 x3 x4 x5 x6 x7) t j :=
  v92_apply x0 x1 x2 x3 x4 x5 x6 x7 (DF (args x0 x1 x2 x3 x4 x5 x6 x7)) (f_eq x0 x1 x2 x3 x4 x5 x6 x7 h) t j

theorem g_eq (t : Fin 8192) (j : Fin 2816) : (val_main_v95 (F := Ideal) x0 x1 x2 x3 x4 x5 x6 x7) (ix3 0 t j) = DG (args x0 x1 x2 x3 x4 x5 x6 x7) t j :=
  (v95_apply x0 x1 x2 x3 x4 x5 x6 x7 (DA (args x0 x1 x2 x3 x4 x5 x6 x7)) (a_eq x0 x1 x2 x3 x4 x5 x6 x7 h) t j).trans (DG_eq (finite_args x0 x1 x2 x3 x4 x5 x6 x7 (fun k => k.elim0) (congrFun h _)) t j)

/-- The eight results of the differentiated program. -/
theorem results :
    (val_main_v102 (F := Ideal) x0 x1 x4 x5) = (fun i => Cert.FtMath.AC (args x0 x1 x2 x3 x4 x5 x6 x7) (i 0) (i 1)) ∧ (val_main_v104 (F := Ideal) x0 x1 x2 x3 x4 x5 x6 x7) = (fun i => Cert.FtMath.DF (args x0 x1 x2 x3 x4 x5 x6 x7) (i 0) (i 1)) ∧ (val_main_v106 (F := Ideal) x0 x1 x2 x3 x4 x5 x6 x7) = (fun i => Cert.FtMath.DV (args x0 x1 x2 x3 x4 x5 x6 x7) (i 0) (i 1)) ∧ (val_main_v108 (F := Ideal) x0 x1 x2 x3 x4 x5 x6 x7) = (fun i => Cert.FtMath.DG (args x0 x1 x2 x3 x4 x5 x6 x7) (i 0) (i 1)) ∧ (val_main_v109 (F := Ideal) x0 x1 x2 x3 x4 x5 x6 x7) = (fun i => Cert.FtMath.DX (args x0 x1 x2 x3 x4 x5 x6 x7) (i 0) (i 1)) ∧ (val_main_v110 (F := Ideal) x0 x1 x2 x3 x4 x5 x6 x7) = (fun _ => Cert.FtMath.LO (args x0 x1 x2 x3 x4 x5 x6 x7)) ∧ (val_main_v91 (F := Ideal) x0 x1 x2 x3 x4 x5 x6 x7) = (fun i => Cert.FtMath.DW (args x0 x1 x2 x3 x4 x5 x6 x7) (i 1)) ∧ (val_main_v100 (F := Ideal) x0 x1 x2 x3 x4 x5 x6 x7) = (fun i => Cert.FtMath.DC (args x0 x1 x2 x3 x4 x5 x6 x7) (i 1)) := by
  have ext2 : ∀ (n w : ℕ) (f : (⟨2, ![n, w]⟩ : Shape).Idx → EReal) (g : Fin n → Fin w → EReal), (∀ a b, f (ix2 a b) = g a b) → f = fun i => g (i 0) (i 1) :=
    fun n w f g hfg => funext fun i => by
      obtain ⟨a, b, rfl⟩ : ∃ (a : Fin n) (b : Fin w), i = ix2 a b := ⟨i 0, i 1, funext fun k => by fin_cases k <;> rfl⟩
      exact hfg a b
  exact ⟨ext2 _ _ _ _ (v102_apply x0 x1 x2 x3 x4 x5 x6 x7), ext2 _ _ _ _ fun t j => (v104_apply x0 x1 x2 x3 x4 x5 x6 x7 t j).trans (f_eq x0 x1 x2 x3 x4 x5 x6 x7 h t j),
    ext2 _ _ _ _ (v106_apply x0 x1 x2 x3 x4 x5 x6 x7 (DA (args x0 x1 x2 x3 x4 x5 x6 x7)) (a_eq x0 x1 x2 x3 x4 x5 x6 x7 h)), ext2 _ _ _ _ fun t j => (v108_apply x0 x1 x2 x3 x4 x5 x6 x7 t j).trans (g_eq x0 x1 x2 x3 x4 x5 x6 x7 h t j),
    ext2 _ _ _ _ (v109_apply x0 x1 x2 x3 x4 x5 x6 x7), ext2 _ _ _ (fun _ _ => LO (args x0 x1 x2 x3 x4 x5 x6 x7)) (v110_apply x0 x1 x2 x3 x4 x5 x6 x7),
    ext2 _ _ _ (fun _ j => DW (args x0 x1 x2 x3 x4 x5 x6 x7) j) (v91_apply x0 x1 x2 x3 x4 x5 x6 x7), ext2 _ _ _ (fun _ j => DC (args x0 x1 x2 x3 x4 x5 x6 x7) j) (v100_apply x0 x1 x2 x3 x4 x5 x6 x7 (DG (args x0 x1 x2 x3 x4 x5 x6 x7)) (g_eq x0 x1 x2 x3 x4 x5 x6 x7 h))⟩

omit h

/-- The differentiated program terminates with its arguments unchanged. -/
theorem frame_reference : quiescent_Reference5Ideal := fun m ρ _ =>
  (θ_run Cert.Reference5Ideal.defs _ _).mono (fun r h => ⟨fun c => (h c).2.2.2.2.2.2.2.2, Idealize.ShloMosaic.sem_eq_zero_of_no_sems (by decide) r.2⟩)
    (Cert.Reference5Ideal.Value.run (F := Ideal) m ρ)

variable (m' : (ℓ : Loc Cert.Reference5Ideal.nD Cert.Reference5Ideal.τ Cert.Reference5Ideal.sig) → Buf (Elt Ideal) ℓ)

/-- The differentiated program, run: each result, from arguments that satisfy the precondition. -/
theorem run_reference (ρ' : Dev Cert.Reference5Ideal.nD → PrngReg) (x : Dev Cert.Reference5Ideal.nD → Args)
    (hx : ∀ c : Dev Cert.Reference5Ideal.nD, x c = args (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)))
    (hp : ∀ c : Dev Cert.Reference5Ideal.nD, Cert.Pre_finite5.fn (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) = fun _ => 1#1) :
    θ_run Cert.Reference5Ideal.defs (onTc (τ := Cert.Reference5Ideal.τ) (Cert.Reference5Ideal.main (F := Ideal))) ⟨m', fun _ => 0, ρ'⟩ fun r => ∀ c : Dev Cert.Reference5Ideal.nD,
      r.2.mem (c.tc.loc Cert.Reference5Ideal.main_v102) = (fun i => Cert.FtMath.AC (x c) (i 0) (i 1))
      ∧ r.2.mem (c.tc.loc Cert.Reference5Ideal.main_v104) = (fun i => Cert.FtMath.DF (x c) (i 0) (i 1))
      ∧ r.2.mem (c.tc.loc Cert.Reference5Ideal.main_v106) = (fun i => Cert.FtMath.DV (x c) (i 0) (i 1))
      ∧ r.2.mem (c.tc.loc Cert.Reference5Ideal.main_v108) = (fun i => Cert.FtMath.DG (x c) (i 0) (i 1))
      ∧ r.2.mem (c.tc.loc Cert.Reference5Ideal.main_v109) = (fun i => Cert.FtMath.DX (x c) (i 0) (i 1))
      ∧ r.2.mem (c.tc.loc Cert.Reference5Ideal.main_v110) = (fun _ => Cert.FtMath.LO (x c))
      ∧ r.2.mem (c.tc.loc Cert.Reference5Ideal.main_v91) = (fun i => Cert.FtMath.DW (x c) (i 1))
      ∧ r.2.mem (c.tc.loc Cert.Reference5Ideal.main_v100) = (fun i => Cert.FtMath.DC (x c) (i 1))
      ∧ r.2.mem (c.tc.loc Cert.Reference5Ideal.main_arg0) = m' (c.tc.loc Cert.Reference5Ideal.main_arg0)
      ∧ r.2.mem (c.tc.loc Cert.Reference5Ideal.main_arg1) = m' (c.tc.loc Cert.Reference5Ideal.main_arg1)
      ∧ r.2.mem (c.tc.loc Cert.Reference5Ideal.main_arg2) = m' (c.tc.loc Cert.Reference5Ideal.main_arg2)
      ∧ r.2.mem (c.tc.loc Cert.Reference5Ideal.main_arg3) = m' (c.tc.loc Cert.Reference5Ideal.main_arg3)
      ∧ r.2.mem (c.tc.loc Cert.Reference5Ideal.main_arg4) = m' (c.tc.loc Cert.Reference5Ideal.main_arg4)
      ∧ r.2.mem (c.tc.loc Cert.Reference5Ideal.main_arg5) = m' (c.tc.loc Cert.Reference5Ideal.main_arg5)
      ∧ r.2.mem (c.tc.loc Cert.Reference5Ideal.main_arg6) = m' (c.tc.loc Cert.Reference5Ideal.main_arg6)
      ∧ r.2.mem (c.tc.loc Cert.Reference5Ideal.main_arg7) = m' (c.tc.loc Cert.Reference5Ideal.main_arg7) :=
  (θ_run Cert.Reference5Ideal.defs _ _).mono
    (fun _ h c => by
      obtain ⟨r0, r1, r2, r3, r4, r5, r6, r7⟩ := results (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (hp c)
      rw [← hx c] at r0 r1 r2 r3 r4 r5 r6 r7
      obtain ⟨h0, h1, h2, h3, h4, h5, h6, h7, h8⟩ := h c
      exact ⟨h0.trans ((val_main_v102_eq (launchContents m' c)).trans r0), h1.trans ((val_main_v104_eq (launchContents m' c)).trans r1), h2.trans ((val_main_v106_eq (launchContents m' c)).trans r2), h3.trans ((val_main_v108_eq (launchContents m' c)).trans r3), h4.trans ((val_main_v109_eq (launchContents m' c)).trans r4), h5.trans ((val_main_v110_eq (launchContents m' c)).trans r5), h6.trans ((val_main_v91_eq (launchContents m' c)).trans r6), h7.trans ((val_main_v100_eq (launchContents m' c)).trans r7), h8⟩)
    (Cert.Reference5Ideal.Value.run (F := Ideal) m' ρ')

/-- The kernel computes the loss and its derivatives, all eight results. -/
theorem algebraic : algebraic_Kernel5Ideal_Reference5Ideal_pre_finite5 := fun m ρ m' ρ' hpre hargs =>
  ⟨fun c => (fun i => Cert.FtMath.AC (Cert.Kernel5Ideal.Ft.A m c) (i 0) (i 1)), fun c => (fun i => Cert.FtMath.DF (Cert.Kernel5Ideal.Ft.A m c) (i 0) (i 1)), fun c => (fun i => Cert.FtMath.DV (Cert.Kernel5Ideal.Ft.A m c) (i 0) (i 1)), fun c => (fun i => Cert.FtMath.DG (Cert.Kernel5Ideal.Ft.A m c) (i 0) (i 1)), fun c => (fun i => Cert.FtMath.DX (Cert.Kernel5Ideal.Ft.A m c) (i 0) (i 1)), fun c => (fun _ => Cert.FtMath.LO (Cert.Kernel5Ideal.Ft.A m c)), fun c => (fun i => Cert.FtMath.DW (Cert.Kernel5Ideal.Ft.A m c) (i 1)), fun c => (fun i => Cert.FtMath.DC (Cert.Kernel5Ideal.Ft.A m c) (i 1)),
    (θ_run Cert.Kernel5Ideal.defs _ _).mono
      (fun _ h c => by
        obtain ⟨h0, h1, h2, h3, h4, h5, h6, h7, h8⟩ := h c
        exact ⟨h0.trans (Cert.Kernel5Ideal.Ft.final8 m c), h1.trans (Cert.Kernel5Ideal.Ft.final9 m c), h2.trans (Cert.Kernel5Ideal.Ft.final10 m c), h3.trans (Cert.Kernel5Ideal.Ft.final11 m c), h4.trans (Cert.Kernel5Ideal.Ft.final12 m c), h5.trans (Cert.Kernel5Ideal.Ft.final13 m c), h6.trans (Cert.Kernel5Ideal.Ft.final14 m c), h7.trans (Cert.Kernel5Ideal.Ft.final15 m c), h8⟩)
      (Cert.Kernel5Ideal.Value.run_blocks (F := Ideal) m ρ),
    run_reference m' ρ' _
      (fun c => by
        obtain ⟨a0, a1, a2, a3, a4, a5, a6, a7⟩ := hargs c
        rw [a0, a1, a2, a3, a4, a5, a6, a7]
        rfl)
      (fun c => by
        obtain ⟨a0, a1, a2, a3, a4, a5, a6, a7⟩ := hargs c
        rw [a0, a1, a2, a3, a4, a5, a6, a7]
        exact hpre c)⟩

end Cert.Ft
-- ==== Proof.FiFinal.lean ====
module

public import proofs.«01_k».proof.Defs
public import proofs.«01_k».proof.Proof.Gen.Kernel7Ideal.Value
public import proofs.«01_k».proof.Proof.Gen.Reference7Ideal.Read
public import proofs.«01_k».proof.Proof.Gen.Reference7Ideal.Run
public import Idealize.ShloMosaic.Lib.StableHlo.Run
public import Idealize.ShloMosaic.Lib.StableHlo.RunRead
public import Idealize.ShloMosaic.Lib.Pipeline.ValueKit
public import Idealize.ShloMosaic.Lib.Tactic
public import proofs.«01_k».proof.Proof.Real

@[expose] public section

set_option maxRecDepth 16384

noncomputable section

open Idealize.ShloMosaic Idealize.ShloMosaic.TcCoe Idealize.SL.Sem Idealize.ShloMosaic.StableHlo
open Idealize.ShloMosaic.Pipeline (Dat)

/-! The input projection's forward call: the normed rows and their products with the columns of the projection. -/

namespace Cert.Kernel7Ideal.Fi

open Cert.Kernel7Ideal Cert.Kernel7Ideal.Gen Cert.RealFacts

variable (m : (ℓ : Loc nD τ sig) → Buf (Elt Ideal) ℓ) (c : Dev nD)

abbrev xin : FVec Ideal S1x8192x1024 .f32 := m (c.tc.loc main_arg0)
abbrev w0 : FVec Ideal S1x1024 .f32 := m (c.tc.loc main_arg1)
abbrev win : FVec Ideal S1x1024x5648 .f32 := m (c.tc.loc main_arg2)

/-- A normed row. -/
def nrm (x w : Fin 1024 → EReal) (j : Fin 1024) : EReal := x j * Ideal.rsqrt (msq x) * w j

section point
variable (x0 : Vec Ideal S512x1024 .f32) (x1 : Vec Ideal S1x1024 .f32) (x2 : Vec Ideal S5648x1024 .bf16) (x3 : Vec Ideal S128x1024 .bf16)

theorem o4 (p : Fin 512) (j : Fin 1024) : out0_4 x0 x1 x2 x3 (ix2 p j) = nrm (fun k => x0 (ix2 p k)) (fun k => x1 (ix2 0 k)) j := by
  frame_out
  unfold_payloads
  pointwise [msq, nrm]

theorem o5 (p : Fin 512) (j : Fin 1024) : out0_5 x0 x1 x2 x3 (ix2 p j)
    = ∑ l : Fin 1024, nrm (fun k => x0 (ix2 p k)) (fun k => x1 (ix2 0 k)) l * x2 (ix2 ⟨j, by omega⟩ l) := by
  frame_out
  unfold_payloads
  pointwise [msq, nrm]

theorem o6 (p : Fin 512) (j : Fin 1536) : out0_6 x0 x1 x2 x3 (ix2 p j)
    = ∑ l : Fin 1024, nrm (fun k => x0 (ix2 p k)) (fun k => x1 (ix2 0 k)) l * x2 (ix2 ⟨1024 + j, by omega⟩ l) := by
  frame_out
  unfold_payloads
  pointwise [msq, nrm]

theorem o7 (p : Fin 512) (j : Fin 512) : out0_7 x0 x1 x2 x3 (ix2 p j)
    = ∑ l : Fin 1024, nrm (fun k => x0 (ix2 p k)) (fun k => x1 (ix2 0 k)) l * x2 (ix2 ⟨2576 + j, by omega⟩ l) := by
  frame_out
  unfold_payloads
  pointwise [msq, nrm]

theorem o8 (p : Fin 512) (j : Fin 512) : out0_8 x0 x1 x2 x3 (ix2 p j)
    = ∑ l : Fin 1024, nrm (fun k => x0 (ix2 p k)) (fun k => x1 (ix2 0 k)) l * x2 (ix2 ⟨3088 + j, by omega⟩ l) := by
  frame_out
  unfold_payloads
  pointwise [msq, nrm]

theorem o9 (p : Fin 512) (j : Fin 1024) : out0_9 x0 x1 x2 x3 (ix2 p j)
    = ∑ l : Fin 1024, nrm (fun k => x0 (ix2 p k)) (fun k => x1 (ix2 0 k)) l * x2 (ix2 ⟨3600 + j, by omega⟩ l) := by
  frame_out
  unfold_payloads
  pointwise [msq, nrm]

theorem o10 (p : Fin 512) (j : Fin 1024) : out0_10 x0 x1 x2 x3 (ix2 p j)
    = ∑ l : Fin 1024, nrm (fun k => x0 (ix2 p k)) (fun k => x1 (ix2 0 k)) l * x2 (ix2 ⟨4624 + j, by omega⟩ l) := by
  frame_out
  unfold_payloads
  pointwise [msq, nrm]

theorem o11 (p : Fin 512) (j : Fin 128) : out0_11 x0 x1 x2 x3 (ix2 p j)
    = ∑ l : Fin 1024, nrm (fun k => x0 (ix2 p k)) (fun k => x1 (ix2 0 k)) l * x3 (ix2 j l) := by
  frame_out
  unfold_payloads
  pointwise [msq, nrm]

end point

theorem V_v2 (i : Fin 5648) (j : Fin 1024) : (V m c main_v2 : FVec Ideal S5648x1024 .bf16) (ix2 i j) = win m c (ix3 0 j i) := by
  unfold_abbrev_sides
  after_reads_simp
  pointwise

theorem V_v4 (i : Fin 128) (j : Fin 1024) :
    (V m c main_v4 : FVec Ideal S128x1024 .bf16) (ix2 i j) = if h : i.val < 16 then win m c (ix3 0 j ⟨2560 + i, by omega⟩) else 0 := by
  unfold_abbrev_sides
  after_reads_simp
  refine (show _ = pad S128x1024 ![0, 0] ![112, 0] ![0, 0] (extractStridedSlice S16x1024 ![2560, 0] (truncf .bf16 (transpose S5648x1024 [1, 0]
    (shapeCast S1024x5648 (win m c) shapeCasts_S1x1024x5648_S1024x5648)
    transposes_S1024x5648_S5648x1024_1_0 : FVec Ideal S5648x1024 .f32) bitsLt_bf16_f32 : FVec Ideal S5648x1024 .bf16) slices_S5648x1024_S16x1024_2560_0)
    (sitofp .bf16 (constantI S_ 32 0#32) : FVec Ideal S_ .bf16) pads_S16x1024_S128x1024_01120_000 h_S_ (ix2 i j) from rfl).trans ?_
  by_cases hi : i.val < 16
  · rw [dif_pos hi, pad2_in _ _ _ _ _ _ _ hi j.isLt]
    pointwise
  · rw [dif_neg hi, pad2_out _ _ _ _ _ _ _ (Or.inl (by omega)), sitofp_zero']

theorem V_v5 (t : Fin 8192) (k : Fin 1024) : (V m c main_v5 : FVec Ideal S8192x1024 .f32) (ix2 t k) = xin m c (ix3 0 t k) := by
  unfold_abbrev_sides
  after_reads_simp
  pointwise

/-- Row `p` of the block of grid point `t`. -/
def row (t : Fin cfg0.N) (p : Fin 512) : Fin 8192 := ⟨512 * t + p, by have : cfg0.N = 16 := N_0; omega⟩

theorem at0 : ∀ t : Fin cfg0.N, win0_0.index t = ![t.val, 0] := (by decide +kernel : ∀ t : Fin grid0.N, win0_0.index t = ![t.val, 0])
theorem at1 : ∀ t : Fin cfg0.N, win0_1.index t = ![0, 0] := (by decide +kernel : ∀ t : Fin grid0.N, win0_1.index t = ![0, 0])
theorem at2 : ∀ t : Fin cfg0.N, win0_2.index t = ![0, 0] := (by decide +kernel : ∀ t : Fin grid0.N, win0_2.index t = ![0, 0])
theorem at3 : ∀ t : Fin cfg0.N, win0_3.index t = ![0, 0] := (by decide +kernel : ∀ t : Fin grid0.N, win0_3.index t = ![0, 0])
theorem at4 : ∀ t : Fin cfg0.N, win0_4.index t = ![t.val, 0] := (by decide +kernel : ∀ t : Fin grid0.N, win0_4.index t = ![t.val, 0])
theorem at5 : ∀ t : Fin cfg0.N, win0_5.index t = ![t.val, 0] := (by decide +kernel : ∀ t : Fin grid0.N, win0_5.index t = ![t.val, 0])
theorem at6 : ∀ t : Fin cfg0.N, win0_6.index t = ![t.val, 0] := (by decide +kernel : ∀ t : Fin grid0.N, win0_6.index t = ![t.val, 0])
theorem at7 : ∀ t : Fin cfg0.N, win0_7.index t = ![t.val, 0] := (by decide +kernel : ∀ t : Fin grid0.N, win0_7.index t = ![t.val, 0])
theorem at8 : ∀ t : Fin cfg0.N, win0_8.index t = ![t.val, 0] := (by decide +kernel : ∀ t : Fin grid0.N, win0_8.index t = ![t.val, 0])
theorem at9 : ∀ t : Fin cfg0.N, win0_9.index t = ![t.val, 0] := (by decide +kernel : ∀ t : Fin grid0.N, win0_9.index t = ![t.val, 0])
theorem at10 : ∀ t : Fin cfg0.N, win0_10.index t = ![t.val, 0] := (by decide +kernel : ∀ t : Fin grid0.N, win0_10.index t = ![t.val, 0])
theorem at11 : ∀ t : Fin cfg0.N, win0_11.index t = ![t.val, 0] := (by decide +kernel : ∀ t : Fin grid0.N, win0_11.index t = ![t.val, 0])

theorem blk0 (t : Fin cfg0.N) (p : Fin 512) (k : Fin 1024) :
    (iblk m c 0 t : FVec Ideal S512x1024 .f32) (ix2 p k) = xin m c (ix3 0 (row t p) k) := by
  rw [← V_v5]
  blk_simp [iblk]
  refine congrArg _ (funext fun a => Fin.ext ?_)
  fin_cases a <;> blk_simp [at0] <;> simp [row] <;> omega

theorem blk1 (t : Fin cfg0.N) (k : Fin 1024) : (iblk m c 1 t : FVec Ideal S1x1024 .f32) (ix2 0 k) = w0 m c (ix2 0 k) := by
  refine Eq.trans ?_ (congrFun (V_main_arg1 m c) (ix2 0 k))
  blk_simp [iblk]
  refine congrArg _ (funext fun a => Fin.ext ?_)
  fin_cases a <;> blk_simp [at1] <;> simp

theorem blk2 (t : Fin cfg0.N) (i : Fin 5648) (k : Fin 1024) : (iblk m c 2 t : FVec Ideal S5648x1024 .bf16) (ix2 i k) = win m c (ix3 0 k i) := by
  rw [← V_v2]
  blk_simp [iblk]
  refine congrArg _ (funext fun a => Fin.ext ?_)
  fin_cases a <;> blk_simp [at2] <;> simp

theorem blk3 (t : Fin cfg0.N) (i : Fin 128) (k : Fin 1024) : (iblk m c 3 t : FVec Ideal S128x1024 .bf16) (ix2 i k)
    = if h : i.val < 16 then win m c (ix3 0 k ⟨2560 + i, by omega⟩) else 0 := by
  rw [← V_v4]
  blk_simp [iblk]
  refine congrArg _ (funext fun a => Fin.ext ?_)
  fin_cases a <;> blk_simp [at3] <;> simp

section reference
open Cert.Reference7Ideal.Read
variable (x0 : Vec Ideal S1x8192x1024 .f32) (x1 : Vec Ideal S1x1024 .f32) (x2 : Vec Ideal S1x1024x5648 .f32)

theorem v13_apply (t : Fin 8192) (j : Fin 1024) : val_main_v13 (F := Ideal) x0 x1 (ix3 0 t j) = nrm (fun k => x0 (ix3 0 t k)) (fun k => x1 (ix2 0 k)) j := by
  pointwise [val_main_v13, val_main_v12, val_main_v11, val_main_v0, val_main_v10, val_main_v9, val_main_v8, val_main_v7, val_main_v6, val_main_v5, val_main_v4, val_main_v3, val_main_v2, val_main_v1, val_main_cst, val_main_cst_0, val_main_cst_1, msq, nrm]

theorem v24_apply (t : Fin 8192) (j : Fin 1024) : val_main_v24 (F := Ideal) x0 x1 (ix2 t j) = nrm (fun k => x0 (ix3 0 t k)) (fun k => x1 (ix2 0 k)) j := by
  pointwise [val_main_v24, val_main_v23, v13_apply]

theorem v26_apply (t : Fin 8192) (j : Fin 1024) : val_main_v26 (F := Ideal) x0 x1 x2 (ix2 t j)
    = ∑ l : Fin 1024, nrm (fun k => x0 (ix3 0 t k)) (fun k => x1 (ix2 0 k)) l * x2 (ix3 0 l ⟨j, by omega⟩) := by
  pointwise [val_main_v26, val_main_v25, val_main_v16, val_main_v15, val_main_v14, v13_apply]

theorem v28_apply (t : Fin 8192) (j : Fin 1536) : val_main_v28 (F := Ideal) x0 x1 x2 (ix2 t j)
    = ∑ l : Fin 1024, nrm (fun k => x0 (ix3 0 t k)) (fun k => x1 (ix2 0 k)) l * x2 (ix3 0 l ⟨1024 + j, by omega⟩) := by
  pointwise [val_main_v28, val_main_v27, val_main_v17, val_main_v15, val_main_v14, v13_apply]

theorem v30_apply (t : Fin 8192) (j : Fin 512) : val_main_v30 (F := Ideal) x0 x1 x2 (ix2 t j)
    = ∑ l : Fin 1024, nrm (fun k => x0 (ix3 0 t k)) (fun k => x1 (ix2 0 k)) l * x2 (ix3 0 l ⟨2576 + j, by omega⟩) := by
  pointwise [val_main_v30, val_main_v29, val_main_v19, val_main_v15, val_main_v14, v13_apply]

theorem v32_apply (t : Fin 8192) (j : Fin 512) : val_main_v32 (F := Ideal) x0 x1 x2 (ix2 t j)
    = ∑ l : Fin 1024, nrm (fun k => x0 (ix3 0 t k)) (fun k => x1 (ix2 0 k)) l * x2 (ix3 0 l ⟨3088 + j, by omega⟩) := by
  pointwise [val_main_v32, val_main_v31, val_main_v20, val_main_v15, val_main_v14, v13_apply]

theorem v34_apply (t : Fin 8192) (j : Fin 1024) : val_main_v34 (F := Ideal) x0 x1 x2 (ix2 t j)
    = ∑ l : Fin 1024, nrm (fun k => x0 (ix3 0 t k)) (fun k => x1 (ix2 0 k)) l * x2 (ix3 0 l ⟨3600 + j, by omega⟩) := by
  pointwise [val_main_v34, val_main_v33, val_main_v21, val_main_v15, val_main_v14, v13_apply]

theorem v36_apply (t : Fin 8192) (j : Fin 1024) : val_main_v36 (F := Ideal) x0 x1 x2 (ix2 t j)
    = ∑ l : Fin 1024, nrm (fun k => x0 (ix3 0 t k)) (fun k => x1 (ix2 0 k)) l * x2 (ix3 0 l ⟨4624 + j, by omega⟩) := by
  pointwise [val_main_v36, val_main_v35, val_main_v22, val_main_v15, val_main_v14, v13_apply]

theorem v38_apply (t : Fin 8192) (j : Fin 128) : val_main_v38 (F := Ideal) x0 x1 x2 (ix2 t j)
    = ∑ l : Fin 1024, nrm (fun k => x0 (ix3 0 t k)) (fun k => x1 (ix2 0 k)) l * (if h : j.val < 16 then x2 (ix3 0 l ⟨2560 + j, by omega⟩) else 0) := by
  unfold val_main_v38
  by_cases hj : j.val < 16
  · rw [pad2_in _ _ _ _ _ _ _ t.isLt hj]
    simp only [dif_pos hj]
    pointwise [val_main_v37, val_main_v18, val_main_v15, val_main_v14, v13_apply]
  · rw [pad2_out _ _ _ _ _ _ _ (Or.inr (by omega))]
    simp only [dif_neg hj, mul_zero, Finset.sum_const_zero]
    exact sitofp_zero' _

end reference

theorem final4 : (dats m 0 c).arrAt 4 cfg0.N = Cert.Reference7Ideal.Read.val_main_v24 (F := Ideal) (xin m c) (w0 m c) := by
  refine (dats m 0 c).arrAt_eq_of_covers 4 _ (by decide +kernel) fun t hf y => ?_
  obtain ⟨p, j, rfl⟩ : ∃ (p : Fin 512) (j : Fin 1024), y = ix2 p j := ⟨y 0, y 1, eq_ix2 y⟩
  blk_simp
  have hy : ((win0_4.blk t).view.emb (ix2 p j) : S8192x1024.Idx) = ix2 (row t p) j := by
    funext a
    refine Fin.ext ?_
    fin_cases a <;> blk_simp [at4] <;> simp [row] <;> omega
  rw [after0_4]
  refine ((o4 _ _ _ _ _ _).trans ?_).trans ((congrArg _ hy).trans (v24_apply _ _ _ _)).symm
  simp only [blk0, blk1]

theorem final5 : (dats m 0 c).arrAt 5 cfg0.N = Cert.Reference7Ideal.Read.val_main_v26 (F := Ideal) (xin m c) (w0 m c) (win m c) := by
  refine (dats m 0 c).arrAt_eq_of_covers 5 _ (by decide +kernel) fun t hf y => ?_
  obtain ⟨p, j, rfl⟩ : ∃ (p : Fin 512) (j : Fin 1024), y = ix2 p j := ⟨y 0, y 1, eq_ix2 y⟩
  blk_simp
  have hy : ((win0_5.blk t).view.emb (ix2 p j) : S8192x1024.Idx) = ix2 (row t p) j := by
    funext a
    refine Fin.ext ?_
    fin_cases a <;> blk_simp [at5] <;> simp [row] <;> omega
  rw [after0_5]
  refine ((o5 _ _ _ _ _ _).trans ?_).trans ((congrArg _ hy).trans (v26_apply _ _ _ _ _)).symm
  simp only [blk0, blk1, blk2]

theorem final6 : (dats m 0 c).arrAt 6 cfg0.N = Cert.Reference7Ideal.Read.val_main_v28 (F := Ideal) (xin m c) (w0 m c) (win m c) := by
  refine (dats m 0 c).arrAt_eq_of_covers 6 _ (by decide +kernel) fun t hf y => ?_
  obtain ⟨p, j, rfl⟩ : ∃ (p : Fin 512) (j : Fin 1536), y = ix2 p j := ⟨y 0, y 1, eq_ix2 y⟩
  blk_simp
  have hy : ((win0_6.blk t).view.emb (ix2 p j) : S8192x1536.Idx) = ix2 (row t p) j := by
    funext a
    refine Fin.ext ?_
    fin_cases a <;> blk_simp [at6] <;> simp [row] <;> omega
  rw [after0_6]
  refine ((o6 _ _ _ _ _ _).trans ?_).trans ((congrArg _ hy).trans (v28_apply _ _ _ _ _)).symm
  simp only [blk0, blk1, blk2]

theorem final7 : (dats m 0 c).arrAt 7 cfg0.N = Cert.Reference7Ideal.Read.val_main_v30 (F := Ideal) (xin m c) (w0 m c) (win m c) := by
  refine (dats m 0 c).arrAt_eq_of_covers 7 _ (by decide +kernel) fun t hf y => ?_
  obtain ⟨p, j, rfl⟩ : ∃ (p : Fin 512) (j : Fin 512), y = ix2 p j := ⟨y 0, y 1, eq_ix2 y⟩
  blk_simp
  have hy : ((win0_7.blk t).view.emb (ix2 p j) : S8192x512.Idx) = ix2 (row t p) j := by
    funext a
    refine Fin.ext ?_
    fin_cases a <;> blk_simp [at7] <;> simp [row] <;> omega
  rw [after0_7]
  refine ((o7 _ _ _ _ _ _).trans ?_).trans ((congrArg _ hy).trans (v30_apply _ _ _ _ _)).symm
  simp only [blk0, blk1, blk2]

theorem final8 : (dats m 0 c).arrAt 8 cfg0.N = Cert.Reference7Ideal.Read.val_main_v32 (F := Ideal) (xin m c) (w0 m c) (win m c) := by
  refine (dats m 0 c).arrAt_eq_of_covers 8 _ (by decide +kernel) fun t hf y => ?_
  obtain ⟨p, j, rfl⟩ : ∃ (p : Fin 512) (j : Fin 512), y = ix2 p j := ⟨y 0, y 1, eq_ix2 y⟩
  blk_simp
  have hy : ((win0_8.blk t).view.emb (ix2 p j) : S8192x512.Idx) = ix2 (row t p) j := by
    funext a
    refine Fin.ext ?_
    fin_cases a <;> blk_simp [at8] <;> simp [row] <;> omega
  rw [after0_8]
  refine ((o8 _ _ _ _ _ _).trans ?_).trans ((congrArg _ hy).trans (v32_apply _ _ _ _ _)).symm
  simp only [blk0, blk1, blk2]

theorem final9 : (dats m 0 c).arrAt 9 cfg0.N = Cert.Reference7Ideal.Read.val_main_v34 (F := Ideal) (xin m c) (w0 m c) (win m c) := by
  refine (dats m 0 c).arrAt_eq_of_covers 9 _ (by decide +kernel) fun t hf y => ?_
  obtain ⟨p, j, rfl⟩ : ∃ (p : Fin 512) (j : Fin 1024), y = ix2 p j := ⟨y 0, y 1, eq_ix2 y⟩
  blk_simp
  have hy : ((win0_9.blk t).view.emb (ix2 p j) : S8192x1024.Idx) = ix2 (row t p) j := by
    funext a
    refine Fin.ext ?_
    fin_cases a <;> blk_simp [at9] <;> simp [row] <;> omega
  rw [after0_9]
  refine ((o9 _ _ _ _ _ _).trans ?_).trans ((congrArg _ hy).trans (v34_apply _ _ _ _ _)).symm
  simp only [blk0, blk1, blk2]

theorem final10 : (dats m 0 c).arrAt 10 cfg0.N = Cert.Reference7Ideal.Read.val_main_v36 (F := Ideal) (xin m c) (w0 m c) (win m c) := by
  refine (dats m 0 c).arrAt_eq_of_covers 10 _ (by decide +kernel) fun t hf y => ?_
  obtain ⟨p, j, rfl⟩ : ∃ (p : Fin 512) (j : Fin 1024), y = ix2 p j := ⟨y 0, y 1, eq_ix2 y⟩
  blk_simp
  have hy : ((win0_10.blk t).view.emb (ix2 p j) : S8192x1024.Idx) = ix2 (row t p) j := by
    funext a
    refine Fin.ext ?_
    fin_cases a <;> blk_simp [at10] <;> simp [row] <;> omega
  rw [after0_10]
  refine ((o10 _ _ _ _ _ _).trans ?_).trans ((congrArg _ hy).trans (v36_apply _ _ _ _ _)).symm
  simp only [blk0, blk1, blk2]

theorem final11 : (dats m 0 c).arrAt 11 cfg0.N = Cert.Reference7Ideal.Read.val_main_v38 (F := Ideal) (xin m c) (w0 m c) (win m c) := by
  refine (dats m 0 c).arrAt_eq_of_covers 11 _ (by decide +kernel) fun t hf y => ?_
  obtain ⟨p, j, rfl⟩ : ∃ (p : Fin 512) (j : Fin 128), y = ix2 p j := ⟨y 0, y 1, eq_ix2 y⟩
  blk_simp
  have hy : ((win0_11.blk t).view.emb (ix2 p j) : S8192x128.Idx) = ix2 (row t p) j := by
    funext a
    refine Fin.ext ?_
    fin_cases a <;> blk_simp [at11] <;> simp [row] <;> omega
  rw [after0_11]
  refine ((o11 _ _ _ _ _ _).trans ?_).trans ((congrArg _ hy).trans (v38_apply _ _ _ _ _)).symm
  simp only [blk0, blk1, blk3]

end Cert.Kernel7Ideal.Fi

namespace Cert.Fi

theorem frame_reference : quiescent_Reference7Ideal := fun m ρ _ =>
  (θ_run Cert.Reference7Ideal.defs _ _).mono (fun r h => ⟨fun c => (h c).2.2.2.2.2.2.2.2, Idealize.ShloMosaic.sem_eq_zero_of_no_sems (by decide) r.2⟩)
    (Cert.Reference7Ideal.Value.run (F := Ideal) m ρ)

open Cert.Kernel7Ideal.Fi Cert.Reference7Ideal.Read in
/-- The input projection's forward call computes the reference's normed rows and the seven parts of its projection. -/
theorem algebraic : algebraic_Kernel7Ideal_Reference7Ideal := fun m ρ m' ρ' _ hargs =>
  ⟨fun c => val_main_v24 (F := Ideal) (xin m c) (w0 m c),
    fun c => val_main_v26 (F := Ideal) (xin m c) (w0 m c) (win m c),
    fun c => val_main_v28 (F := Ideal) (xin m c) (w0 m c) (win m c),
    fun c => val_main_v30 (F := Ideal) (xin m c) (w0 m c) (win m c),
    fun c => val_main_v32 (F := Ideal) (xin m c) (w0 m c) (win m c),
    fun c => val_main_v34 (F := Ideal) (xin m c) (w0 m c) (win m c),
    fun c => val_main_v36 (F := Ideal) (xin m c) (w0 m c) (win m c),
    fun c => val_main_v38 (F := Ideal) (xin m c) (w0 m c) (win m c),
    (θ_run Cert.Kernel7Ideal.defs _ _).mono
      (fun _ h c => by
        obtain ⟨h0, h1, h2, h3, h4, h5, h6, h7, h⟩ := h c
        exact ⟨h0.trans (final4 m c), h1.trans (final5 m c), h2.trans (final6 m c), h3.trans (final7 m c), h4.trans (final8 m c), h5.trans (final9 m c), h6.trans (final10 m c), h7.trans (final11 m c), h⟩)
      (Cert.Kernel7Ideal.Value.run_blocks (F := Ideal) m ρ),
    (θ_run Cert.Reference7Ideal.defs _ _).mono
      (fun _ h c => by
        obtain ⟨a0, a1, a2⟩ := hargs c
        obtain ⟨h0, h1, h2, h3, h4, h5, h6, h7, h⟩ := h c
        have e0 := h0.trans (val_main_v24_eq ..)
        have e1 := h1.trans (val_main_v26_eq ..)
        have e2 := h2.trans (val_main_v28_eq ..)
        have e3 := h3.trans (val_main_v30_eq ..)
        have e4 := h4.trans (val_main_v32_eq ..)
        have e5 := h5.trans (val_main_v34_eq ..)
        have e6 := h6.trans (val_main_v36_eq ..)
        have e7 := h7.trans (val_main_v38_eq ..)
        simp only [a0, a1, a2] at e0 e1 e2 e3 e4 e5 e6 e7
        exact ⟨e0, e1, e2, e3, e4, e5, e6, e7, h⟩)
      (Cert.Reference7Ideal.Value.run (F := Ideal) m' ρ')⟩

end Cert.Fi

end
-- ==== Proof.FmFinal.lean ====
module

public import proofs.«01_k».proof.Defs
public import proofs.«01_k».proof.Proof.Gen.Kernel6Ideal.Value
public import proofs.«01_k».proof.Proof.Gen.Reference6Ideal.Read
public import proofs.«01_k».proof.Proof.Gen.Reference6Ideal.Run
public import Idealize.ShloMosaic.Lib.StableHlo.Run
public import Idealize.ShloMosaic.Lib.StableHlo.RunRead
public import Idealize.ShloMosaic.Lib.Pipeline.ValueKit
public import Idealize.ShloMosaic.Lib.Tactic
public import proofs.«01_k».proof.Proof.Rows
public import proofs.«01_k».proof.Proof.FiFinal

@[expose] public section

set_option maxRecDepth 16384

noncomputable section

open Idealize.ShloMosaic Idealize.ShloMosaic.TcCoe Idealize.SL.Sem Idealize.ShloMosaic.StableHlo
open Idealize.ShloMosaic.Pipeline (Dat)

/-! The forward call between the mixers and the feed-forward network: the projected mixers, the residual stream, its normed
rows and their products with the two halves of the up projection. -/

namespace Cert.Kernel6Ideal.Fm

open Cert.Kernel6Ideal Cert.Kernel6Ideal.Gen Cert.RealFacts Cert.Kernel7Ideal.Fi

variable (m : (ℓ : Loc nD τ sig) → Buf (Elt Ideal) ℓ) (c : Dev nD)

abbrev xs : FVec Ideal S1x8192x1024 .f32 := m (c.tc.loc main_arg0)
abbrev ys : FVec Ideal S1x8192x1024 .f32 := m (c.tc.loc main_arg1)
abbrev yr : FVec Ideal S1x8192x1024 .f32 := m (c.tc.loc main_arg2)
abbrev wo : FVec Ideal S1x2048x1024 .f32 := m (c.tc.loc main_arg3)
abbrev pm : FVec Ideal S1x1024 .f32 := m (c.tc.loc main_arg4)
abbrev pf : FVec Ideal S1x1024 .f32 := m (c.tc.loc main_arg5)
abbrev up : FVec Ideal S1x1024x5632 .f32 := m (c.tc.loc main_arg6)

theorem hz : (![0, 0] : Fin 2 → Nat) = fun _ => 0 := funext fun a => by fin_cases a <;> rfl

/-- A row of the two mixers against the output projection. -/
def mix (a b : Fin 1024 → EReal) (w : Fin 2048 → Fin 1024 → EReal) (j : Fin 1024) : EReal :=
  ∑ k : Fin 1024, a k * w ⟨k, by omega⟩ j + ∑ k : Fin 1024, b k * w ⟨1024 + k, by omega⟩ j

/-- A row of the residual stream after the mixers. -/
def res (x a b : Fin 1024 → EReal) (w : Fin 2048 → Fin 1024 → EReal) (pm : Fin 1024 → EReal) (j : Fin 1024) : EReal := x j + nrm (mix a b w) pm j

section point
variable (x0 x1 : Vec Ideal S512x1024 .bf16) (x2 : Vec Ideal S512x1024 .f32) (x3 : Vec Ideal S2048x1024 .bf16) (x4 x5 : Vec Ideal S1x1024 .f32) (x6 : Vec Ideal S5632x1024 .bf16)

theorem o7 (p : Fin 512) (j : Fin 1024) : out0_7 x0 x1 x2 x3 x4 x5 x6 (ix2 p j) = mix (fun k => x0 (ix2 p k)) (fun k => x1 (ix2 p k)) (fun i k => x3 (ix2 i k)) j := by
  frame_out
  unfold_payloads
  pointwise [mix]

theorem o8 (p : Fin 512) (j : Fin 1024) : out0_8 x0 x1 x2 x3 x4 x5 x6 (ix2 p j)
    = res (fun k => x2 (ix2 p k)) (fun k => x0 (ix2 p k)) (fun k => x1 (ix2 p k)) (fun i k => x3 (ix2 i k)) (fun k => x4 (ix2 0 k)) j := by
  have h := o7 x0 x1 x2 x3 x4 x5 x6
  revert h
  frame_out
  intro h
  unfold k0_pay5
  generalize k0_pay4 (F := Ideal) _ _ _ _ = d at h ⊢
  pointwise [msq, nrm, res, h]

theorem p7 (p : Fin 512) (j : Fin 1024) : k0_pay7 x0 x1 x2 x3 x4 x5 x6 (ix2 p j)
    = res (fun k => x2 (ix2 p k)) (fun k => x0 (ix2 p k)) (fun k => x1 (ix2 p k)) (fun i k => x3 (ix2 i k)) (fun k => x4 (ix2 0 k)) j := by
  refine Eq.trans ?_ (o8 x0 x1 x2 x3 x4 x5 x6 p j)
  unfold out0_8
  rw [View.canon_unit_zero (S := S512x1024) hz]
  rfl

theorem p8 (p : Fin 512) (u : Fin 1) : k0_pay8 x0 x1 x2 x3 x4 x5 x6 (ix2 p u) + Ideal.ofBits .f32 0x358637BD#32
    = msq (res (fun k => x2 (ix2 p k)) (fun k => x0 (ix2 p k)) (fun k => x1 (ix2 p k)) (fun i k => x3 (ix2 i k)) (fun k => x4 (ix2 0 k))) := by
  have h := p7 x0 x1 x2 x3 x4 x5 x6
  unfold k0_pay7 at h
  unfold k0_pay8 k0_pay6
  generalize k0_pay5 (F := Ideal) _ _ _ _ _ _ = d at h ⊢
  pointwise [msq, h]

theorem o9 (p : Fin 512) (j : Fin 1024) : out0_9 x0 x1 x2 x3 x4 x5 x6 (ix2 p j)
    = nrm (res (fun k => x2 (ix2 p k)) (fun k => x0 (ix2 p k)) (fun k => x1 (ix2 p k)) (fun i k => x3 (ix2 i k)) (fun k => x4 (ix2 0 k))) (fun k => x5 (ix2 0 k)) j := by
  frame_out
  pointwise [k0_pay1, nrm, p7, p8]

theorem o10 (p : Fin 512) (j : Fin 2816) : out0_10 x0 x1 x2 x3 x4 x5 x6 (ix2 p j)
    = ∑ l, nrm (res (fun k => x2 (ix2 p k)) (fun k => x0 (ix2 p k)) (fun k => x1 (ix2 p k)) (fun i k => x3 (ix2 i k)) (fun k => x4 (ix2 0 k))) (fun k => x5 (ix2 0 k)) l
        * x6 (ix2 ⟨j, by omega⟩ l) := by
  frame_out
  pointwise [k0_pay2, k0_pay1, nrm, p7, p8]

theorem o11 (p : Fin 512) (j : Fin 2816) : out0_11 x0 x1 x2 x3 x4 x5 x6 (ix2 p j)
    = ∑ l, nrm (res (fun k => x2 (ix2 p k)) (fun k => x0 (ix2 p k)) (fun k => x1 (ix2 p k)) (fun i k => x3 (ix2 i k)) (fun k => x4 (ix2 0 k))) (fun k => x5 (ix2 0 k)) l
        * x6 (ix2 ⟨2816 + j, by omega⟩ l) := by
  frame_out
  pointwise [k0_pay3, k0_pay1, nrm, p7, p8]

end point

theorem V_v2 (t : Fin 5632) (k : Fin 1024) : (V m c main_v2 : FVec Ideal S5632x1024 .bf16) (ix2 t k) = up m c (ix3 0 k t) := by
  unfold_abbrev_sides
  after_reads_simp
  pointwise

theorem V_v4 (t : Fin 8192) (k : Fin 1024) : (V m c main_v4 : FVec Ideal S8192x1024 .bf16) (ix2 t k) = ys m c (ix3 0 t k) := by
  unfold_abbrev_sides
  after_reads_simp
  pointwise

theorem V_v6 (t : Fin 8192) (k : Fin 1024) : (V m c main_v6 : FVec Ideal S8192x1024 .bf16) (ix2 t k) = yr m c (ix3 0 t k) := by
  unfold_abbrev_sides
  after_reads_simp
  pointwise

theorem V_v7 (t : Fin 8192) (k : Fin 1024) : (V m c main_v7 : FVec Ideal S8192x1024 .f32) (ix2 t k) = xs m c (ix3 0 t k) := by
  unfold_abbrev_sides
  after_reads_simp
  pointwise

theorem V_v9 (t : Fin 2048) (k : Fin 1024) : (V m c main_v9 : FVec Ideal S2048x1024 .bf16) (ix2 t k) = wo m c (ix3 0 t k) := by
  unfold_abbrev_sides
  after_reads_simp
  pointwise

/-- Row `p` of the block of grid point `t`. -/
def row (t : Fin cfg0.N) (p : Fin 512) : Fin 8192 := ⟨512 * t + p, by have : cfg0.N = 16 := N_0; omega⟩

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 0] := (by decide +kernel : ∀ t : Fin grid0.N, win0_2.index t = ![t.val, 0])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])
theorem at5 : ∀ t : Fin cfg0.N, win0_5.index t = ![0, 0] := (by decide +kernel : ∀ t : Fin grid0.N, win0_5.index t = ![0, 0])
theorem at6 : ∀ t : Fin cfg0.N, win0_6.index t = ![0, 0] := (by decide +kernel : ∀ t : Fin grid0.N, win0_6.index t = ![0, 0])
theorem at7 : ∀ t : Fin cfg0.N, win0_7.index t = ![t.val, 0] := (by decide +kernel : ∀ t : Fin grid0.N, win0_7.index t = ![t.val, 0])
theorem at8 : ∀ t : Fin cfg0.N, win0_8.index t = ![t.val, 0] := (by decide +kernel : ∀ t : Fin grid0.N, win0_8.index t = ![t.val, 0])
theorem at9 : ∀ t : Fin cfg0.N, win0_9.index t = ![t.val, 0] := (by decide +kernel : ∀ t : Fin grid0.N, win0_9.index t = ![t.val, 0])
theorem at10 : ∀ t : Fin cfg0.N, win0_10.index t = ![t.val, 0] := (by decide +kernel : ∀ t : Fin grid0.N, win0_10.index t = ![t.val, 0])
theorem at11 : ∀ t : Fin cfg0.N, win0_11.index t = ![t.val, 0] := (by decide +kernel : ∀ t : Fin grid0.N, win0_11.index t = ![t.val, 0])

theorem blk0 (t : Fin cfg0.N) (p : Fin 512) (k : Fin 1024) : (iblk m c 0 t : FVec Ideal S512x1024 .bf16) (ix2 p k) = ys m c (ix3 0 (row t p) k) := by
  rw [← V_v4]
  blk_simp [iblk]
  refine congrArg _ (funext fun a => Fin.ext ?_)
  fin_cases a <;> blk_simp [at0] <;> simp [row] <;> omega

theorem blk1 (t : Fin cfg0.N) (p : Fin 512) (k : Fin 1024) : (iblk m c 1 t : FVec Ideal S512x1024 .bf16) (ix2 p k) = yr m c (ix3 0 (row t p) k) := by
  rw [← V_v6]
  blk_simp [iblk]
  refine congrArg _ (funext fun a => Fin.ext ?_)
  fin_cases a <;> blk_simp [at1] <;> simp [row] <;> omega

theorem blk2 (t : Fin cfg0.N) (p : Fin 512) (k : Fin 1024) : (iblk m c 2 t : FVec Ideal S512x1024 .f32) (ix2 p k) = xs m c (ix3 0 (row t p) k) := by
  rw [← V_v7]
  blk_simp [iblk]
  refine congrArg _ (funext fun a => Fin.ext ?_)
  fin_cases a <;> blk_simp [at2] <;> simp [row] <;> omega

theorem blk3 (t : Fin cfg0.N) (i : Fin 2048) (k : Fin 1024) : (iblk m c 3 t : FVec Ideal S2048x1024 .bf16) (ix2 i k) = wo m c (ix3 0 i k) := by
  rw [← V_v9]
  blk_simp [iblk]
  refine congrArg _ (funext fun a => Fin.ext ?_)
  fin_cases a <;> blk_simp [at3] <;> simp

theorem blk6 (t : Fin cfg0.N) (i : Fin 5632) (k : Fin 1024) : (iblk m c 6 t : FVec Ideal S5632x1024 .bf16) (ix2 i k) = up m c (ix3 0 k i) := by
  rw [← V_v2]
  blk_simp [iblk]
  refine congrArg _ (funext fun a => Fin.ext ?_)
  fin_cases a <;> blk_simp [at6] <;> simp

theorem blk4 (t : Fin cfg0.N) (k : Fin 1024) : (iblk m c 4 t : FVec Ideal S1x1024 .f32) (ix2 0 k) = pm m c (ix2 0 k) := by
  refine Eq.trans ?_ (congrFun (V_main_arg4 m c) (ix2 0 k))
  blk_simp [iblk]
  refine congrArg _ (funext fun a => Fin.ext ?_)
  fin_cases a <;> blk_simp [at4] <;> simp

theorem blk5 (t : Fin cfg0.N) (k : Fin 1024) : (iblk m c 5 t : FVec Ideal S1x1024 .f32) (ix2 0 k) = pf m c (ix2 0 k) := by
  refine Eq.trans ?_ (congrFun (V_main_arg5 m c) (ix2 0 k))
  blk_simp [iblk]
  refine congrArg _ (funext fun a => Fin.ext ?_)
  fin_cases a <;> blk_simp [at5] <;> simp

section reference
open Cert.Reference6Ideal.Read
variable (x0 x1 x2 : Vec Ideal S1x8192x1024 .f32) (x3 : Vec Ideal S1x2048x1024 .f32) (x4 x5 : Vec Ideal S1x1024 .f32) (x6 : Vec Ideal S1x1024x5632 .f32)

theorem v2_apply (t : Fin 8192) (j : Fin 1024) : val_main_v2 (F := Ideal) x1 x2 x3 (ix3 0 t j) = mix (fun k => x1 (ix3 0 t k)) (fun k => x2 (ix3 0 t k)) (fun i k => x3 (ix3 0 i k)) j := by
  pointwise [val_main_v2, val_main_v1, mix]
  rw [sum_parts 1024 1024 rfl]
  refine congrArg₂ (· + ·) (Finset.sum_congr rfl fun k _ => ?_) (Finset.sum_congr rfl fun k _ => ?_) <;> pointwise [val_main_v0]

theorem v17_apply (t : Fin 8192) (j : Fin 1024) : val_main_v17 (F := Ideal) x0 x1 x2 x3 x4 (ix3 0 t j) = res (fun k => x0 (ix3 0 t k)) (fun k => x1 (ix3 0 t k)) (fun k => x2 (ix3 0 t k)) (fun i k => x3 (ix3 0 i k)) (fun k => x4 (ix2 0 k)) j := by
  pointwise [val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, v2_apply, msq, nrm, res]

theorem v31_apply (t : Fin 8192) (j : Fin 1024) : val_main_v31 (F := Ideal) x0 x1 x2 x3 x4 x5 (ix3 0 t j) = nrm (res (fun k => x0 (ix3 0 t k)) (fun k => x1 (ix3 0 t k)) (fun k => x2 (ix3 0 t k)) (fun i k => x3 (ix3 0 i k)) (fun k => x4 (ix2 0 k))) (fun k => x5 (ix2 0 k)) j := by
  pointwise [val_main_v31, val_main_v30, val_main_v29, val_main_v28, val_main_v27, val_main_v26, val_main_v25, val_main_v24, val_main_v23, val_main_v22, val_main_v21, val_main_v20, val_main_v19, val_main_v18, val_main_cst_2, val_main_cst_3, val_main_cst_4, v17_apply, msq, nrm]

theorem v36_apply (t : Fin 8192) (j : Fin 1024) : val_main_v36 (F := Ideal) x1 x2 x3 (ix2 t j) = mix (fun k => x1 (ix3 0 t k)) (fun k => x2 (ix3 0 t k)) (fun i k => x3 (ix3 0 i k)) j := by
  pointwise [val_main_v36, v2_apply]

theorem v37_apply (t : Fin 8192) (j : Fin 1024) : val_main_v37 (F := Ideal) x0 x1 x2 x3 x4 (ix2 t j) = res (fun k => x0 (ix3 0 t k)) (fun k => x1 (ix3 0 t k)) (fun k => x2 (ix3 0 t k)) (fun i k => x3 (ix3 0 i k)) (fun k => x4 (ix2 0 k)) j := by
  pointwise [val_main_v37, v17_apply]

theorem v39_apply (t : Fin 8192) (j : Fin 1024) : val_main_v39 (F := Ideal) x0 x1 x2 x3 x4 x5 (ix2 t j) = nrm (res (fun k => x0 (ix3 0 t k)) (fun k => x1 (ix3 0 t k)) (fun k => x2 (ix3 0 t k)) (fun i k => x3 (ix3 0 i k)) (fun k => x4 (ix2 0 k))) (fun k => x5 (ix2 0 k)) j := by
  pointwise [val_main_v39, val_main_v38, v31_apply]

theorem v41_apply (t : Fin 8192) (j : Fin 2816) : val_main_v41 (F := Ideal) x0 x1 x2 x3 x4 x5 x6 (ix2 t j)
    = ∑ l, nrm (res (fun k => x0 (ix3 0 t k)) (fun k => x1 (ix3 0 t k)) (fun k => x2 (ix3 0 t k)) (fun i k => x3 (ix3 0 i k)) (fun k => x4 (ix2 0 k))) (fun k => x5 (ix2 0 k)) l * x6 (ix3 0 l ⟨j, by omega⟩) := by
  pointwise [val_main_v41, val_main_v40, val_main_v34, val_main_v33, val_main_v32, v31_apply]

theorem v43_apply (t : Fin 8192) (j : Fin 2816) : val_main_v43 (F := Ideal) x0 x1 x2 x3 x4 x5 x6 (ix2 t j)
    = ∑ l, nrm (res (fun k => x0 (ix3 0 t k)) (fun k => x1 (ix3 0 t k)) (fun k => x2 (ix3 0 t k)) (fun i k => x3 (ix3 0 i k)) (fun k => x4 (ix2 0 k))) (fun k => x5 (ix2 0 k)) l * x6 (ix3 0 l ⟨2816 + j, by omega⟩) := by
  pointwise [val_main_v43, val_main_v42, val_main_v35, val_main_v33, val_main_v32, v31_apply]

end reference

theorem final7 : (dats m 0 c).arrAt 7 cfg0.N = Cert.Reference6Ideal.Read.val_main_v36 (F := Ideal) (ys m c) (yr m c) (wo m c) := by
  refine (dats m 0 c).arrAt_eq_of_covers 7 _ (by decide +kernel) fun t hf y => ?_
  obtain ⟨p, j, rfl⟩ : ∃ (p : Fin 512) (j : Fin 1024), y = ix2 p j := ⟨y 0, y 1, eq_ix2 y⟩
  blk_simp
  have hy : ((win0_7.blk t).view.emb (ix2 p j) : S8192x1024.Idx) = ix2 (row t p) j := by
    funext a
    refine Fin.ext ?_
    fin_cases a <;> blk_simp [at7] <;> simp [row] <;> omega
  rw [after0_7]
  refine ((o7 _ _ _ _ _ _ _ _ _).trans ?_).trans ((congrArg _ hy).trans (v36_apply _ _ _ _ _)).symm
  simp only [blk0, blk1, blk3]

theorem final8 : (dats m 0 c).arrAt 8 cfg0.N = Cert.Reference6Ideal.Read.val_main_v37 (F := Ideal) (xs m c) (ys m c) (yr m c) (wo m c) (pm m c) := by
  refine (dats m 0 c).arrAt_eq_of_covers 8 _ (by decide +kernel) fun t hf y => ?_
  obtain ⟨p, j, rfl⟩ : ∃ (p : Fin 512) (j : Fin 1024), y = ix2 p j := ⟨y 0, y 1, eq_ix2 y⟩
  blk_simp
  have hy : ((win0_8.blk t).view.emb (ix2 p j) : S8192x1024.Idx) = ix2 (row t p) j := by
    funext a
    refine Fin.ext ?_
    fin_cases a <;> blk_simp [at8] <;> simp [row] <;> omega
  rw [after0_8]
  refine ((o8 _ _ _ _ _ _ _ _ _).trans ?_).trans ((congrArg _ hy).trans (v37_apply _ _ _ _ _ _ _)).symm
  simp only [blk0, blk1, blk2, blk3, blk4]

theorem final9 : (dats m 0 c).arrAt 9 cfg0.N = Cert.Reference6Ideal.Read.val_main_v39 (F := Ideal) (xs m c) (ys m c) (yr m c) (wo m c) (pm m c) (pf m c) := by
  refine (dats m 0 c).arrAt_eq_of_covers 9 _ (by decide +kernel) fun t hf y => ?_
  obtain ⟨p, j, rfl⟩ : ∃ (p : Fin 512) (j : Fin 1024), y = ix2 p j := ⟨y 0, y 1, eq_ix2 y⟩
  blk_simp
  have hy : ((win0_9.blk t).view.emb (ix2 p j) : S8192x1024.Idx) = ix2 (row t p) j := by
    funext a
    refine Fin.ext ?_
    fin_cases a <;> blk_simp [at9] <;> simp [row] <;> omega
  rw [after0_9]
  refine ((o9 _ _ _ _ _ _ _ _ _).trans ?_).trans ((congrArg _ hy).trans (v39_apply _ _ _ _ _ _ _ _)).symm
  simp only [blk0, blk1, blk2, blk3, blk4, blk5]

theorem final10 : (dats m 0 c).arrAt 10 cfg0.N = Cert.Reference6Ideal.Read.val_main_v41 (F := Ideal) (xs m c) (ys m c) (yr m c) (wo m c) (pm m c) (pf m c) (up m c) := by
  refine (dats m 0 c).arrAt_eq_of_covers 10 _ (by decide +kernel) fun t hf y => ?_
  obtain ⟨p, j, rfl⟩ : ∃ (p : Fin 512) (j : Fin 2816), y = ix2 p j := ⟨y 0, y 1, eq_ix2 y⟩
  blk_simp
  have hy : ((win0_10.blk t).view.emb (ix2 p j) : S8192x2816.Idx) = ix2 (row t p) j := by
    funext a
    refine Fin.ext ?_
    fin_cases a <;> blk_simp [at10] <;> simp [row] <;> omega
  rw [after0_10]
  refine ((o10 _ _ _ _ _ _ _ _ _).trans ?_).trans ((congrArg _ hy).trans (v41_apply _ _ _ _ _ _ _ _ _)).symm
  simp only [blk0, blk1, blk2, blk3, blk4, blk5, blk6]

theorem final11 : (dats m 0 c).arrAt 11 cfg0.N = Cert.Reference6Ideal.Read.val_main_v43 (F := Ideal) (xs m c) (ys m c) (yr m c) (wo m c) (pm m c) (pf m c) (up m c) := by
  refine (dats m 0 c).arrAt_eq_of_covers 11 _ (by decide +kernel) fun t hf y => ?_
  obtain ⟨p, j, rfl⟩ : ∃ (p : Fin 512) (j : Fin 2816), y = ix2 p j := ⟨y 0, y 1, eq_ix2 y⟩
  blk_simp
  have hy : ((win0_11.blk t).view.emb (ix2 p j) : S8192x2816.Idx) = ix2 (row t p) j := by
    funext a
    refine Fin.ext ?_
    fin_cases a <;> blk_simp [at11] <;> simp [row] <;> omega
  rw [after0_11]
  refine ((o11 _ _ _ _ _ _ _ _ _).trans ?_).trans ((congrArg _ hy).trans (v43_apply _ _ _ _ _ _ _ _ _)).symm
  simp only [blk0, blk1, blk2, blk3, blk4, blk5, blk6]

end Cert.Kernel6Ideal.Fm

namespace Cert.Fm

theorem frame_reference : quiescent_Reference6Ideal := fun m ρ _ =>
  (θ_run Cert.Reference6Ideal.defs _ _).mono (fun r h => ⟨fun c => (h c).2.2.2.2.2, Idealize.ShloMosaic.sem_eq_zero_of_no_sems (by decide) r.2⟩)
    (Cert.Reference6Ideal.Value.run (F := Ideal) m ρ)

open Cert.Kernel6Ideal.Fm Cert.Reference6Ideal.Read in
/-- The forward call between the mixers and the feed-forward network computes the reference's lines, all five results. -/
theorem algebraic : algebraic_Kernel6Ideal_Reference6Ideal := fun m ρ m' ρ' _ hargs =>
  ⟨fun c => val_main_v36 (F := Ideal) (ys m c) (yr m c) (wo m c),
    fun c => val_main_v37 (F := Ideal) (xs m c) (ys m c) (yr m c) (wo m c) (pm m c),
    fun c => val_main_v39 (F := Ideal) (xs m c) (ys m c) (yr m c) (wo m c) (pm m c) (pf m c),
    fun c => val_main_v41 (F := Ideal) (xs m c) (ys m c) (yr m c) (wo m c) (pm m c) (pf m c) (up m c),
    fun c => val_main_v43 (F := Ideal) (xs m c) (ys m c) (yr m c) (wo m c) (pm m c) (pf m c) (up m c),
    (θ_run Cert.Kernel6Ideal.defs _ _).mono
      (fun _ h c => by
        obtain ⟨h0, h1, h2, h3, h4, h⟩ := h c
        exact ⟨h0.trans (final7 m c), h1.trans (final8 m c), h2.trans (final9 m c), h3.trans (final10 m c), h4.trans (final11 m c), h⟩)
      (Cert.Kernel6Ideal.Value.run_blocks (F := Ideal) m ρ),
    (θ_run Cert.Reference6Ideal.defs _ _).mono
      (fun _ h c => by
        obtain ⟨a0, a1, a2, a3, a4, a5, a6⟩ := hargs c
        obtain ⟨h0, h1, h2, h3, h4, h⟩ := h c
        have e0 := h0.trans (val_main_v36_eq ..)
        have e1 := h1.trans (val_main_v37_eq ..)
        have e2 := h2.trans (val_main_v39_eq m' c)
        have e3 := h3.trans (val_main_v41_eq m' c)
        have e4 := h4.trans (val_main_v43_eq m' c)
        simp only [a0, a1, a2, a3, a4, a5, a6] at e0 e1 e2 e3 e4
        exact ⟨e0, e1, e2, e3, e4, h⟩)
      (Cert.Reference6Ideal.Value.run (F := Ideal) m' ρ')⟩

end Cert.Fm

end
-- ==== Proof.MtFinal.lean ====
module

public import proofs.«01_k».proof.Defs
public import proofs.«01_k».proof.Proof.Gen.Kernel8Ideal.Value
public import proofs.«01_k».proof.Proof.Gen.Reference8Ideal.Read
public import proofs.«01_k».proof.Proof.Gen.Reference8Ideal.Run
public import Idealize.ShloMosaic.Lib.StableHlo.Run
public import Idealize.ShloMosaic.Lib.StableHlo.RunRead
public import Idealize.ShloMosaic.Lib.Pipeline.ValueKit
public import Idealize.ShloMosaic.Lib.Tactic
public import proofs.«01_k».proof.Proof.Real

@[expose] public section

set_option maxRecDepth 16384

noncomputable section

open Idealize.ShloMosaic Idealize.ShloMosaic.TcCoe Idealize.SL.Sem Idealize.ShloMosaic.StableHlo
open Idealize.ShloMosaic.Pipeline (Dat)

/-! The down projection's weight gradient: the product of the transposed activation and the output's gradient, summed over eight
    blocks of rows. -/

namespace Cert.Kernel8Ideal.Mt

open Cert.Kernel8Ideal Cert.Kernel8Ideal.Gen Cert.RealFacts

theorem hz : (![0, 0] : Fin 2 → ℕ) = fun _ => 0 := funext fun a => by fin_cases a <;> rfl

section outs

variable {F : FTy → Type} [FloatOps F] (c : Dev nD) (i : grid0.Coords) (a1 : Memref sig .tc .vmem S1024x1408 .bf16) (h1 : a1.IsWhole) (a2 : Memref sig .tc .vmem S1024x1024 .bf16) (h2 : a2.IsWhole)
  (a3 : Memref sig .tc .vmem S1408x1024 .bf16) (h3 : a3.IsWhole) (a4 : Memref sig .tc .vmem S1408x1024 .f32) (h4 : a4.IsWhole)
  (p0 : cond0_0 i) (n0 : ¬cond0_0 i) (p1 : cond0_1 i) (n1 : ¬cond0_1 i)
  (x0 : Vec F S1024x1408 .bf16) (x1 : Vec F S1024x1024 .bf16) (s : Vec F S1408x1024 .f32)

theorem sA : sout0_A_0 c i a1 h1 a2 h2 a3 h3 a4 h4 p0 n1 x0 x1 = k0_pay2 k0_pay1 x0 x1 := by
  unfold sout0_A_0
  rw [View.read_writes_eq_canon _ _ _ (scover0_A_0 c i a1 h1 a2 h2 a3 h3 a4 h4 p0 n1 x0 x1)]
  unfold kernelRun0_A
  dsimp only
  sl_unfold_words
  rw [View.canon_cons_unit_zero (S := S1408x1024) hz]
  simp only [View.readCov_unit_zero (S := S1408x1024) _ hz, View.readAt_eq_ld, Memref.IsWhole.read_unread, View.ld_unit_zero (S := S1024x1408) hz, View.ld_unit_zero (S := S1408x1024) hz, View.ld_unit_zero (S := S1024x1024) hz, View.ld_unit_zero (S := S1024x1024) hz]

theorem sB : sout0_B_0 c i a1 h1 a2 h2 a3 h3 a4 h4 n0 n1 x0 x1 s = k0_pay2 s x0 x1 := by
  unfold sout0_B_0
  rw [View.read_writes_eq_canon _ _ _ (scover0_B_0 c i a1 h1 a2 h2 a3 h3 a4 h4 n0 n1 x0 x1 s)]
  unfold kernelRun0_B
  dsimp only
  sl_unfold_words
  rw [View.canon_unit_zero (S := S1408x1024) hz]
  simp only [View.readCov_unit_zero (S := S1408x1024) _ hz, View.readAt_eq_ld, Memref.IsWhole.read_unread, View.ld_unit_zero (S := S1024x1408) hz, View.ld_unit_zero (S := S1408x1024) hz, View.ld_unit_zero (S := S1024x1024) hz, View.ld_unit_zero (S := S1024x1024) hz]

theorem oC : out0_C_2 c i a1 h1 a2 h2 a3 h3 a4 h4 n0 p1 x0 x1 s = k0_pay3 (k0_pay2 s x0 x1) := by
  unfold out0_C_2
  rw [View.read_writes_eq_canon _ _ _ (cover0_C_2 c i a1 h1 a2 h2 a3 h3 a4 h4 n0 p1 x0 x1 s)]
  unfold kernelRun0_C
  dsimp only
  sl_unfold_words
  rw [View.canon_unit_zero (S := S1408x1024) hz]
  simp only [View.readCov_unit_zero (S := S1408x1024) _ hz, View.readAt_eq_ld, Memref.IsWhole.read_unread, View.ld_unit_zero (S := S1024x1408) hz, View.ld_unit_zero (S := S1408x1024) hz, View.ld_unit_zero (S := S1024x1024) hz, View.ld_unit_zero (S := S1024x1024) hz]

end outs

variable (m : (ℓ : Loc nD τ sig) → Buf (Elt Ideal) ℓ) (c : Dev nD)

abbrev act : FVec Ideal S1x8192x2816 .f32 := m (c.tc.loc main_arg0)
abbrev dff : FVec Ideal S1x8192x1024 .f32 := m (c.tc.loc main_arg1)

theorem pay1 (p : Fin 1408) (j : Fin 1024) : k0_pay1 (F := Ideal) (ix2 p j) = (0 : EReal) := by
  pointwise [k0_pay1]

theorem pay2 (s : FVec Ideal S1408x1024 .f32) (x0 : FVec Ideal S1024x1408 .bf16) (x1 : FVec Ideal S1024x1024 .bf16) (p : Fin 1408) (j : Fin 1024) :
    k0_pay2 (F := Ideal) s x0 x1 (ix2 p j) = (s (ix2 p j) + ∑ q, x0 (ix2 q p) * x1 (ix2 q j) : EReal) := by
  pointwise [k0_pay2]

theorem V_v1 (r : Fin 8192) (k : Fin 2816) : (V m c main_v1 : FVec Ideal S8192x2816 .bf16) (ix2 r k) = act m c (ix3 0 r k) := by
  unfold_abbrev_sides
  after_reads_simp
  pointwise

theorem V_v3 (r : Fin 8192) (k : Fin 1024) : (V m c main_v3 : FVec Ideal S8192x1024 .bf16) (ix2 r k) = dff m c (ix3 0 r k) := by
  unfold_abbrev_sides
  after_reads_simp
  pointwise

/-- Row `q` of the rows' block of a grid point, and column `p` of its columns' block. -/
def row (t : Fin cfg0.N) (q : Fin 1024) : Fin 8192 := ⟨1024 * (t.val % 8) + q, by omega⟩
def col (t : Fin cfg0.N) (p : Fin 1408) : Fin 2816 := ⟨1408 * (t.val / 8) + p, by have hN : cfg0.N = 16 := N_0; have := t.isLt; omega⟩

theorem at0 : ∀ t : Fin cfg0.N, win0_0.index t = ![t.val % 8, t.val / 8] := (by decide +kernel : ∀ t : Fin grid0.N, win0_0.index t = ![t.val % 8, t.val / 8])
theorem at1 : ∀ t : Fin cfg0.N, win0_1.index t = ![t.val % 8, 0] := (by decide +kernel : ∀ t : Fin grid0.N, win0_1.index t = ![t.val % 8, 0])
theorem at2 : ∀ t : Fin cfg0.N, win0_2.index t = ![t.val / 8, 0] := (by decide +kernel : ∀ t : Fin grid0.N, win0_2.index t = ![t.val / 8, 0])

theorem blk0 (t : Fin cfg0.N) (q : Fin 1024) (p : Fin 1408) : (iblk m c 0 t : FVec Ideal S1024x1408 .bf16) (ix2 q p) = act m c (ix3 0 (row t q) (col t p)) := by
  rw [← V_v1]
  blk_simp [iblk]
  refine congrArg _ (funext fun a => Fin.ext ?_)
  fin_cases a <;> blk_simp [at0] <;> simp [row, col] <;> omega

theorem blk1 (t : Fin cfg0.N) (q : Fin 1024) (j : Fin 1024) : (iblk m c 1 t : FVec Ideal S1024x1024 .bf16) (ix2 q j) = dff m c (ix3 0 (row t q) j) := by
  rw [← V_v3]
  blk_simp [iblk]
  refine congrArg _ (funext fun a => Fin.ext ?_)
  fin_cases a <;> blk_simp [at1] <;> simp [row] <;> omega

theorem outs_A (t : Fin cfg0.N) (h0 : t.val % 8 = 0) (h1 : ¬t.val % 8 = 7) : (outsAt0 m c t.val t.isLt).2 = k0_pay2 k0_pay1 (iblk m c 0 t) (iblk m c 1 t) := by
  rw [outsAt0_A m c t h0 h1]
  dsimp only
  exact sA ..

theorem outs_B (t : Fin cfg0.N) (h0 : ¬t.val % 8 = 0) (h1 : ¬t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact sB ..

theorem outs_C (t : Fin cfg0.N) (h0 : ¬t.val % 8 = 0) (h1 : t.val % 8 = 7) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_C m c t h0 h1]
  dsimp only
  exact oC ..

/-- The part of entry `(i, j)` that block `s` of the rows gives. -/
def part (i : ℕ) (j : Fin 1024) (s : ℕ) : EReal :=
  if h : s < 8 ∧ i < 2816 then ∑ q : Fin 1024, act m c (ix3 0 ⟨1024 * s + q, by omega⟩ ⟨i, h.2⟩) * dff m c (ix3 0 ⟨1024 * s + q, by omega⟩ j) else 0

theorem step (s : FVec Ideal S1408x1024 .f32) (t : Fin cfg0.N) (p : Fin 1408) (j : Fin 1024) :
    k0_pay2 (F := Ideal) s (iblk m c 0 t) (iblk m c 1 t) (ix2 p j) = (s (ix2 p j) + part m c (1408 * (t.val / 8) + p) j (t.val % 8) : EReal) := by
  refine (pay2 ..).trans ?_
  have hN : cfg0.N = 16 := N_0
  have := t.isLt
  unfold part
  rw [dif_pos (by omega)]
  simp only [blk0, blk1]
  rfl

theorem accum (n : ℕ) : ∀ (hn : n < cfg0.N) (h7 : ¬n % 8 = 7) (p : Fin 1408) (j : Fin 1024),
    (outsAt0 m c n hn).2 (ix2 p j) = ∑ s ∈ Finset.range (n % 8 + 1), part m c (1408 * (n / 8) + p) j s := by
  induction n using Nat.strong_induction_on with
  | _ n ih =>
    intro hn h7 p j
    by_cases h0 : n % 8 = 0
    · refine ((congrFun (outs_A m c ⟨n, hn⟩ h0 h7) (ix2 p j)).trans (step ..)).trans ?_
      rw [pay1, zero_add, Finset.sum_range_succ]
      simp [h0]
    · refine ((congrFun (outs_B m c ⟨n, hn⟩ h0 h7) (ix2 p j)).trans (step ..)).trans ?_
      rw [Finset.sum_range_succ]
      refine congrArg (· + _) ((ih (n - 1) (by omega) _ (by omega) p j).trans ?_)
      rw [show (n - 1) % 8 + 1 = n % 8 by omega, show (n - 1) / 8 = n / 8 by omega]

theorem total (i : Fin 2816) (j : Fin 1024) : ∑ s ∈ Finset.range 8, part m c i j s = ∑ r, act m c (ix3 0 r i) * dff m c (ix3 0 r j) := by
  rw [Finset.sum_range, Fin.sum_univ_tiles 8 1024 rfl]
  refine Finset.sum_congr rfl fun s _ => ?_
  unfold part
  rw [dif_pos (by omega)]
  refine Finset.sum_congr rfl fun q _ => ?_
  have e : (⟨1024 * s.val + q.val, by omega⟩ : Fin 8192) = ⟨s.val * 1024 + q.val, by omega⟩ := Fin.ext (by dsimp only; omega)
  exact congrArg (fun r => act m c (ix3 0 r i) * dff m c (ix3 0 r j)) e

theorem v6_apply (y0 : FVec Ideal S1x8192x2816 .f32) (y1 : FVec Ideal S1x8192x1024 .f32) (i : Fin 2816) (j : Fin 1024) :
    Cert.Reference8Ideal.Read.val_main_v6 (F := Ideal) y0 y1 (ix2 i j) = (∑ r, y0 (ix3 0 r i) * y1 (ix3 0 r j) : EReal) := by
  refine Eq.trans ?_ (Finset.sum_congr rfl fun r _ => mul_comm (y1 (ix3 0 r j) : EReal) (y0 (ix3 0 r i)))
  pointwise [Cert.Reference8Ideal.Read.val_main_v6, Cert.Reference8Ideal.Read.val_main_v5, Cert.Reference8Ideal.Read.val_main_v4, Cert.Reference8Ideal.Read.val_main_v3, Cert.Reference8Ideal.Read.val_main_v1]

theorem final2 : (dats m 0 c).arrAt 2 cfg0.N = Cert.Reference8Ideal.Read.val_main_v6 (F := Ideal) (act m c) (dff m c) := by
  refine (dats m 0 c).arrAt_eq_of_covers 2 _ (by decide +kernel) fun t hf y => ?_
  obtain ⟨p, j, rfl⟩ : ∃ (p : Fin 1408) (j : Fin 1024), y = ix2 p j := ⟨y 0, y 1, eq_ix2 y⟩
  blk_simp
  have hy : ((win0_2.blk t).view.emb (ix2 p j) : S2816x1024.Idx) = ix2 (col t p) j := by
    refine funext fun a => Fin.ext ?_
    fin_cases a <;> blk_simp [at2] <;> simp [col] <;> omega
  have h7 : t.val % 8 = 7 := (flush0_2 t).mp hf
  rw [after0_2]
  refine ((congrFun (outs_C m c t (by omega) h7) (ix2 p j)).trans ?_).trans ((congrArg _ hy).trans (v6_apply ..)).symm
  refine (step ..).trans ?_
  rw [← total, Finset.sum_range_succ, accum m c _ _ (by omega), show (t.val - 1) % 8 + 1 = 7 by omega, show (t.val - 1) / 8 = t.val / 8 by omega, h7]
  rfl

end Cert.Kernel8Ideal.Mt

namespace Cert.Mt

theorem frame_reference : quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

open Cert.Kernel8Ideal.Mt Cert.Reference8Ideal.Read in
/-- The call computes the reference's gradient of the down projection's weight. -/
theorem algebraic : algebraic_Kernel8Ideal_Reference8Ideal := fun m ρ m' ρ' _ hargs =>
  ⟨fun c => val_main_v6 (F := Ideal) (act m c) (dff m c),
    (θ_run Cert.Kernel8Ideal.defs _ _).mono
      (fun _ h c => by
        obtain ⟨h0, h⟩ := h c
        exact ⟨h0.trans (final2 m c), h⟩)
      (Cert.Kernel8Ideal.Value.run_blocks (F := Ideal) m ρ),
    (θ_run Cert.Reference8Ideal.defs _ _).mono
      (fun _ h c => by
        obtain ⟨a0, a1⟩ := hargs c
        obtain ⟨h0, h⟩ := h c
        have e0 := h0.trans (val_main_v6_eq ..)
        simp only [a0, a1] at e0
        exact ⟨e0, h⟩)
      (Cert.Reference8Ideal.Value.run (F := Ideal) m' ρ')⟩

end Cert.Mt

end
-- ==== Proof.MgFinal.lean ====
module

public import proofs.«01_k».proof.Defs
public import proofs.«01_k».proof.Proof.Gen.Kernel9Ideal.Value
public import proofs.«01_k».proof.Proof.Gen.Reference9Ideal.Read
public import proofs.«01_k».proof.Proof.Gen.Reference9Ideal.Run
public import Idealize.ShloMosaic.Lib.StableHlo.Run
public import Idealize.ShloMosaic.Lib.StableHlo.RunRead
public import Idealize.ShloMosaic.Lib.Pipeline.ValueKit
public import Idealize.ShloMosaic.Lib.Tactic
public import proofs.«01_k».proof.Proof.Real

@[expose] public section

set_option maxRecDepth 16384

noncomputable section

open Idealize.ShloMosaic Idealize.ShloMosaic.TcCoe Idealize.SL.Sem Idealize.ShloMosaic.StableHlo
open Idealize.ShloMosaic.Pipeline (Dat)

/-! The output projection's weight gradient, in two halves: the products of the transposed mixed rows and the output's gradient, summed
    over eight blocks of rows. -/

namespace Cert.Kernel9Ideal.Mg

open Cert.Kernel9Ideal Cert.Kernel9Ideal.Gen Cert.RealFacts

theorem hz : (![0, 0] : Fin 2 → ℕ) = fun _ => 0 := funext fun a => by fin_cases a <;> rfl

section outs

variable {F : FTy → Type} [FloatOps F] (c : Dev nD) (i : grid0.Coords) (a1 : Memref sig .tc .vmem S1024x1024 .bf16) (h1 : a1.IsWhole) (a2 : Memref sig .tc .vmem S1024x1024 .bf16) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (a7 : Memref sig .tc .vmem S1024x1024 .f32) (h7 : a7.IsWhole)
  (p0 : cond0_0 i) (n0 : ¬cond0_0 i) (p1 : cond0_1 i) (n1 : ¬cond0_1 i)
  (x0 x1 x2 : Vec F S1024x1024 .bf16) (s0 s1 : Vec F S1024x1024 .f32)

theorem sA0 : sout0_A_0 c i a1 h1 a2 h2 a3 h3 a4 h4 a5 h5 a6 h6 a7 h7 p0 n1 x0 x1 x2 = k0_pay4 x2 k0_pay1 x0 := by
  unfold sout0_A_0
  rw [View.read_writes_eq_canon _ _ _ (scover0_A_0 c i a1 h1 a2 h2 a3 h3 a4 h4 a5 h5 a6 h6 a7 h7 p0 n1 x0 x1 x2)]
  unfold kernelRun0_A
  dsimp only
  sl_unfold_words
  rw [View.canon_cons_unit_zero (S := S1024x1024) hz]
  simp only [View.readCov_unit_zero (S := S1024x1024) _ hz, View.readAt_eq_ld, Memref.IsWhole.read_unread, View.ld_unit_zero (S := S1024x1024) hz]

theorem sB0 : sout0_B_0 c i a1 h1 a2 h2 a3 h3 a4 h4 a5 h5 a6 h6 a7 h7 n0 n1 x0 x1 x2 s0 s1 = k0_pay4 x2 s0 x0 := by
  unfold sout0_B_0
  rw [View.read_writes_eq_canon _ _ _ (scover0_B_0 c i a1 h1 a2 h2 a3 h3 a4 h4 a5 h5 a6 h6 a7 h7 n0 n1 x0 x1 x2 s0 s1)]
  unfold kernelRun0_B
  dsimp only
  sl_unfold_words
  rw [View.canon_unit_zero (S := S1024x1024) hz]
  simp only [View.readCov_unit_zero (S := S1024x1024) _ hz, View.readAt_eq_ld, Memref.IsWhole.read_unread, View.ld_unit_zero (S := S1024x1024) hz]

theorem oC0 : out0_C_3 c i a1 h1 a2 h2 a3 h3 a4 h4 a5 h5 a6 h6 a7 h7 n0 p1 x0 x1 x2 s0 s1 = k0_pay6 (k0_pay4 x2 s0 x0) := by
  unfold out0_C_3
  rw [View.read_writes_eq_canon _ _ _ (cover0_C_3 c i a1 h1 a2 h2 a3 h3 a4 h4 a5 h5 a6 h6 a7 h7 n0 p1 x0 x1 x2 s0 s1)]
  unfold kernelRun0_C
  dsimp only
  sl_unfold_words
  rw [View.canon_unit_zero (S := S1024x1024) hz]
  simp only [View.readCov_unit_zero (S := S1024x1024) _ hz, View.readAt_eq_ld, Memref.IsWhole.read_unread, View.ld_unit_zero (S := S1024x1024) hz]

theorem sA1 : sout0_A_1 c i a1 h1 a2 h2 a3 h3 a4 h4 a5 h5 a6 h6 a7 h7 p0 n1 x0 x1 x2 = k0_pay5 x2 k0_pay2 x1 := by
  unfold sout0_A_1
  rw [View.read_writes_eq_canon _ _ _ (scover0_A_1 c i a1 h1 a2 h2 a3 h3 a4 h4 a5 h5 a6 h6 a7 h7 p0 n1 x0 x1 x2)]
  unfold kernelRun0_A
  dsimp only
  sl_unfold_words
  rw [View.canon_cons_unit_zero (S := S1024x1024) hz]
  simp only [View.readCov_unit_zero (S := S1024x1024) _ hz, View.readAt_eq_ld, Memref.IsWhole.read_unread, View.ld_unit_zero (S := S1024x1024) hz]

theorem sB1 : sout0_B_1 c i a1 h1 a2 h2 a3 h3 a4 h4 a5 h5 a6 h6 a7 h7 n0 n1 x0 x1 x2 s0 s1 = k0_pay5 x2 s1 x1 := by
  unfold sout0_B_1
  rw [View.read_writes_eq_canon _ _ _ (scover0_B_1 c i a1 h1 a2 h2 a3 h3 a4 h4 a5 h5 a6 h6 a7 h7 n0 n1 x0 x1 x2 s0 s1)]
  unfold kernelRun0_B
  dsimp only
  sl_unfold_words
  rw [View.canon_unit_zero (S := S1024x1024) hz]
  simp only [View.readCov_unit_zero (S := S1024x1024) _ hz, View.readAt_eq_ld, Memref.IsWhole.read_unread, View.ld_unit_zero (S := S1024x1024) hz]

theorem oC1 : out0_C_4 c i a1 h1 a2 h2 a3 h3 a4 h4 a5 h5 a6 h6 a7 h7 n0 p1 x0 x1 x2 s0 s1 = k0_pay7 (k0_pay5 x2 s1 x1) := by
  unfold out0_C_4
  rw [View.read_writes_eq_canon _ _ _ (cover0_C_4 c i a1 h1 a2 h2 a3 h3 a4 h4 a5 h5 a6 h6 a7 h7 n0 p1 x0 x1 x2 s0 s1)]
  unfold kernelRun0_C
  dsimp only
  sl_unfold_words
  rw [View.canon_unit_zero (S := S1024x1024) hz]
  simp only [View.readCov_unit_zero (S := S1024x1024) _ hz, View.readAt_eq_ld, Memref.IsWhole.read_unread, View.ld_unit_zero (S := S1024x1024) hz]

end outs

variable (m : (ℓ : Loc nD τ sig) → Buf (Elt Ideal) ℓ) (c : Dev nD)

abbrev mix0 : FVec Ideal S1x8192x1024 .f32 := m (c.tc.loc main_arg0)
abbrev mix1 : FVec Ideal S1x8192x1024 .f32 := m (c.tc.loc main_arg1)
abbrev dy : FVec Ideal S1x8192x1024 .f32 := m (c.tc.loc main_arg2)

theorem V_v1 (r : Fin 8192) (k : Fin 1024) : (V m c main_v1 : FVec Ideal S8192x1024 .bf16) (ix2 r k) = mix0 m c (ix3 0 r k) := by
  unfold_abbrev_sides
  after_reads_simp
  pointwise

theorem V_v3 (r : Fin 8192) (k : Fin 1024) : (V m c main_v3 : FVec Ideal S8192x1024 .bf16) (ix2 r k) = mix1 m c (ix3 0 r k) := by
  unfold_abbrev_sides
  after_reads_simp
  pointwise

theorem V_v5 (r : Fin 8192) (k : Fin 1024) : (V m c main_v5 : FVec Ideal S8192x1024 .bf16) (ix2 r k) = dy m c (ix3 0 r k) := by
  unfold_abbrev_sides
  after_reads_simp
  pointwise

/-- Row `q` of the block of a grid point. -/
def row (t : Fin cfg0.N) (q : Fin 1024) : Fin 8192 := ⟨1024 * t.val + q, by have hN : cfg0.N = 8 := N_0; have := t.isLt; omega⟩

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 0] := (by decide +kernel : ∀ t : Fin grid0.N, win0_2.index t = ![t.val, 0])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])

theorem blk0 (t : Fin cfg0.N) (q p : Fin 1024) : (iblk m c 0 t : FVec Ideal S1024x1024 .bf16) (ix2 q p) = mix0 m c (ix3 0 (row t q) p) := by
  rw [← V_v1]
  blk_simp [iblk]
  refine congrArg _ (funext fun a => Fin.ext ?_)
  fin_cases a <;> blk_simp [at0] <;> simp [row] <;> omega

theorem blk1 (t : Fin cfg0.N) (q p : Fin 1024) : (iblk m c 1 t : FVec Ideal S1024x1024 .bf16) (ix2 q p) = mix1 m c (ix3 0 (row t q) p) := by
  rw [← V_v3]
  blk_simp [iblk]
  refine congrArg _ (funext fun a => Fin.ext ?_)
  fin_cases a <;> blk_simp [at1] <;> simp [row] <;> omega

theorem blk2 (t : Fin cfg0.N) (q p : Fin 1024) : (iblk m c 2 t : FVec Ideal S1024x1024 .bf16) (ix2 q p) = dy m c (ix3 0 (row t q) p) := by
  rw [← V_v5]
  blk_simp [iblk]
  refine congrArg _ (funext fun a => Fin.ext ?_)
  fin_cases a <;> blk_simp [at2] <;> simp [row] <;> omega

/-- The part of entry `(i, j)` of a product that block `s` of the rows gives. -/
def part (f g : FVec Ideal S1x8192x1024 .f32) (i j : Fin 1024) (s : ℕ) : EReal :=
  if h : s < 8 then ∑ q : Fin 1024, f (ix3 0 ⟨1024 * s + q, by omega⟩ i) * g (ix3 0 ⟨1024 * s + q, by omega⟩ j) else 0

theorem total (f g : FVec Ideal S1x8192x1024 .f32) (i j : Fin 1024) :
    ∑ s ∈ Finset.range 8, part f g i j s = (∑ r, f (ix3 0 r i) * g (ix3 0 r j) : EReal) := by
  rw [Finset.sum_range, Fin.sum_univ_tiles 8 1024 rfl]
  refine Finset.sum_congr rfl fun s _ => ?_
  unfold part
  rw [dif_pos (by omega)]
  refine Finset.sum_congr rfl fun q _ => ?_
  have e : (⟨1024 * s.val + q.val, by omega⟩ : Fin 8192) = ⟨s.val * 1024 + q.val, by omega⟩ := Fin.ext (by dsimp only; omega)
  exact congrArg (fun r => (f (ix3 0 r i) * g (ix3 0 r j) : EReal)) e

theorem step0 (s : FVec Ideal S1024x1024 .f32) (t : Fin cfg0.N) (p j : Fin 1024) :
    k0_pay4 (F := Ideal) (iblk m c 2 t) s (iblk m c 0 t) (ix2 p j) = (s (ix2 p j) + part (mix0 m c) (dy m c) p j t.val : EReal) := by
  have h : ∀ (s : FVec Ideal S1024x1024 .f32) (x y : FVec Ideal S1024x1024 .bf16), k0_pay4 (F := Ideal) y s x (ix2 p j) = (s (ix2 p j) + ∑ q, x (ix2 q p) * y (ix2 q j) : EReal) := fun s x y => by
    pointwise [k0_pay4, k0_pay3]
  refine (h ..).trans ?_
  have hN : cfg0.N = 8 := N_0
  have := t.isLt
  unfold part
  rw [dif_pos (by omega)]
  simp only [blk0, blk2]
  rfl

theorem outs_A0 (t : Fin cfg0.N) (h0 : t.val % 8 = 0) (h1 : ¬t.val % 8 = 7) : (outsAt0 m c t.val t.isLt).2.2.1 = k0_pay4 (iblk m c 2 t) (k0_pay1 (F := Ideal)) (iblk m c 0 t) := by
  rw [outsAt0_A m c t h0 h1]
  dsimp only
  exact sA0 ..

theorem outs_B0 (t : Fin cfg0.N) (h0 : ¬t.val % 8 = 0) (h1 : ¬t.val % 8 = 7) :
    (outsAt0 m c t.val t.isLt).2.2.1 = k0_pay4 (iblk m c 2 t) (outsAt0 m c (t.val - 1) (Nat.lt_of_le_of_lt (Nat.sub_le _ _) t.isLt)).2.2.1 (iblk m c 0 t) := by
  rw [outsAt0_B m c t h0 h1]
  dsimp only
  exact sB0 ..

theorem outs_C0 (t : Fin cfg0.N) (h0 : ¬t.val % 8 = 0) (h1 : t.val % 8 = 7) :
    (outsAt0 m c t.val t.isLt).1 = k0_pay6 (k0_pay4 (iblk m c 2 t) (outsAt0 m c (t.val - 1) (Nat.lt_of_le_of_lt (Nat.sub_le _ _) t.isLt)).2.2.1 (iblk m c 0 t)) := by
  rw [outsAt0_C m c t h0 h1]
  dsimp only
  exact oC0 ..

theorem accum0 (n : ℕ) : ∀ (hn : n < cfg0.N) (h7 : ¬n = 7) (p j : Fin 1024),
    (outsAt0 m c n hn).2.2.1 (ix2 p j) = (∑ s ∈ Finset.range (n + 1), part (mix0 m c) (dy m c) p j s : EReal) := by
  have hN : cfg0.N = 8 := N_0
  induction n with
  | zero =>
    intro hn h7 p j
    refine ((congrFun (outs_A0 m c ⟨0, hn⟩ (by simp) (by simp)) (ix2 p j)).trans (step0 ..)).trans ?_
    rw [show k0_pay1 (F := Ideal) (ix2 p j) = (0 : EReal) by pointwise [k0_pay1]]
    simp
  | succ n ih =>
    intro hn h7 p j
    refine ((congrFun (outs_B0 m c ⟨n + 1, hn⟩ (by dsimp only; omega) (by dsimp only; omega)) (ix2 p j)).trans (step0 ..)).trans ?_
    rw [Finset.sum_range_succ]
    exact congrArg (· + _) (ih (by omega) (by omega) p j)

theorem v8_apply (y0 y1 y2 : FVec Ideal S1x8192x1024 .f32) (i j : Fin 1024) :
    Cert.Reference9Ideal.Read.val_main_v8 (F := Ideal) y0 y1 y2 (ix2 i j) = (∑ r, y0 (ix3 0 r i) * y2 (ix3 0 r j) : EReal) := by
  refine Eq.trans ?_ (Finset.sum_congr rfl fun r _ => mul_comm (y2 (ix3 0 r j) : EReal) (y0 (ix3 0 r i)))
  have h : ∀ r : Fin 8192, Cert.Reference9Ideal.Read.val_main_v1 (F := Ideal) y0 y1 (ix3 0 r ⟨i, by omega⟩) = y0 (ix3 0 r i) := fun r => by
    pointwise [Cert.Reference9Ideal.Read.val_main_v1]
  pointwise [Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v2, h]

theorem final3 : (dats m 0 c).arrAt 3 cfg0.N = Cert.Reference9Ideal.Read.val_main_v8 (F := Ideal) (mix0 m c) (mix1 m c) (dy m c) := by
  refine (dats m 0 c).arrAt_eq_of_covers 3 _ (by decide +kernel) fun t hf y => ?_
  obtain ⟨p, j, rfl⟩ : ∃ p j : Fin 1024, y = ix2 p j := ⟨y 0, y 1, eq_ix2 y⟩
  blk_simp
  have hy : ((win0_3.blk t).view.emb (ix2 p j) : S1024x1024.Idx) = ix2 p j := by
    refine funext fun a => Fin.ext ?_
    fin_cases a <;> blk_simp [at3] <;> simp
  have h7 : t.val = 7 := by have hN : cfg0.N = 8 := N_0; have := (flush0_3 t).mp hf; have := t.isLt; omega
  rw [after0_3]
  refine ((congrFun (outs_C0 m c t (by omega) (by omega)) (ix2 p j)).trans ?_).trans ((congrArg _ hy).trans (v8_apply ..)).symm
  refine (step0 ..).trans ?_
  rw [← total, Finset.sum_range_succ, accum0 m c _ _ (by omega), show t.val - 1 + 1 = 7 by omega, h7]

theorem step1 (s : FVec Ideal S1024x1024 .f32) (t : Fin cfg0.N) (p j : Fin 1024) :
    k0_pay5 (F := Ideal) (iblk m c 2 t) s (iblk m c 1 t) (ix2 p j) = (s (ix2 p j) + part (mix1 m c) (dy m c) p j t.val : EReal) := by
  have h : ∀ (s : FVec Ideal S1024x1024 .f32) (x y : FVec Ideal S1024x1024 .bf16), k0_pay5 (F := Ideal) y s x (ix2 p j) = (s (ix2 p j) + ∑ q, x (ix2 q p) * y (ix2 q j) : EReal) := fun s x y => by
    pointwise [k0_pay5, k0_pay3]
  refine (h ..).trans ?_
  have hN : cfg0.N = 8 := N_0
  have := t.isLt
  unfold part
  rw [dif_pos (by omega)]
  simp only [blk1, blk2]
  rfl

theorem outs_A1 (t : Fin cfg0.N) (h0 : t.val % 8 = 0) (h1 : ¬t.val % 8 = 7) : (outsAt0 m c t.val t.isLt).2.2.2 = k0_pay5 (iblk m c 2 t) (k0_pay2 (F := Ideal)) (iblk m c 1 t) := by
  rw [outsAt0_A m c t h0 h1]
  dsimp only
  exact sA1 ..

theorem outs_B1 (t : Fin cfg0.N) (h0 : ¬t.val % 8 = 0) (h1 : ¬t.val % 8 = 7) :
    (outsAt0 m c t.val t.isLt).2.2.2 = k0_pay5 (iblk m c 2 t) (outsAt0 m c (t.val - 1) (Nat.lt_of_le_of_lt (Nat.sub_le _ _) t.isLt)).2.2.2 (iblk m c 1 t) := by
  rw [outsAt0_B m c t h0 h1]
  dsimp only
  exact sB1 ..

theorem outs_C1 (t : Fin cfg0.N) (h0 : ¬t.val % 8 = 0) (h1 : t.val % 8 = 7) :
    (outsAt0 m c t.val t.isLt).2.1 = k0_pay7 (k0_pay5 (iblk m c 2 t) (outsAt0 m c (t.val - 1) (Nat.lt_of_le_of_lt (Nat.sub_le _ _) t.isLt)).2.2.2 (iblk m c 1 t)) := by
  rw [outsAt0_C m c t h0 h1]
  dsimp only
  exact oC1 ..

theorem accum1 (n : ℕ) : ∀ (hn : n < cfg0.N) (h7 : ¬n = 7) (p j : Fin 1024),
    (outsAt0 m c n hn).2.2.2 (ix2 p j) = (∑ s ∈ Finset.range (n + 1), part (mix1 m c) (dy m c) p j s : EReal) := by
  have hN : cfg0.N = 8 := N_0
  induction n with
  | zero =>
    intro hn h7 p j
    refine ((congrFun (outs_A1 m c ⟨0, hn⟩ (by simp) (by simp)) (ix2 p j)).trans (step1 ..)).trans ?_
    rw [show k0_pay2 (F := Ideal) (ix2 p j) = (0 : EReal) by pointwise [k0_pay2]]
    simp
  | succ n ih =>
    intro hn h7 p j
    refine ((congrFun (outs_B1 m c ⟨n + 1, hn⟩ (by dsimp only; omega) (by dsimp only; omega)) (ix2 p j)).trans (step1 ..)).trans ?_
    rw [Finset.sum_range_succ]
    exact congrArg (· + _) (ih (by omega) (by omega) p j)

theorem v10_apply (y0 y1 y2 : FVec Ideal S1x8192x1024 .f32) (i j : Fin 1024) :
    Cert.Reference9Ideal.Read.val_main_v10 (F := Ideal) y0 y1 y2 (ix2 i j) = (∑ r, y1 (ix3 0 r i) * y2 (ix3 0 r j) : EReal) := by
  refine Eq.trans ?_ (Finset.sum_congr rfl fun r _ => mul_comm (y2 (ix3 0 r j) : EReal) (y1 (ix3 0 r i)))
  have h : ∀ r : Fin 8192, Cert.Reference9Ideal.Read.val_main_v1 (F := Ideal) y0 y1 (ix3 0 r ⟨1024 + i, by omega⟩) = y1 (ix3 0 r i) := fun r => by
    pointwise [Cert.Reference9Ideal.Read.val_main_v1]
  pointwise [Cert.Reference9Ideal.Read.val_main_v10, Cert.Reference9Ideal.Read.val_main_v9, Cert.Reference9Ideal.Read.val_main_v6, Cert.Reference9Ideal.Read.val_main_v5, Cert.Reference9Ideal.Read.val_main_v4, Cert.Reference9Ideal.Read.val_main_v2, h]

theorem final4 : (dats m 0 c).arrAt 4 cfg0.N = Cert.Reference9Ideal.Read.val_main_v10 (F := Ideal) (mix0 m c) (mix1 m c) (dy m c) := by
  refine (dats m 0 c).arrAt_eq_of_covers 4 _ (by decide +kernel) fun t hf y => ?_
  obtain ⟨p, j, rfl⟩ : ∃ p j : Fin 1024, y = ix2 p j := ⟨y 0, y 1, eq_ix2 y⟩
  blk_simp
  have hy : ((win0_4.blk t).view.emb (ix2 p j) : S1024x1024.Idx) = ix2 p j := by
    refine funext fun a => Fin.ext ?_
    fin_cases a <;> blk_simp [at4] <;> simp
  have h7 : t.val = 7 := by have hN : cfg0.N = 8 := N_0; have := (flush0_4 t).mp hf; have := t.isLt; omega
  rw [after0_4]
  refine ((congrFun (outs_C1 m c t (by omega) (by omega)) (ix2 p j)).trans ?_).trans ((congrArg _ hy).trans (v10_apply ..)).symm
  refine (step1 ..).trans ?_
  rw [← total, Finset.sum_range_succ, accum1 m c _ _ (by omega), show t.val - 1 + 1 = 7 by omega, h7]

end Cert.Kernel9Ideal.Mg

namespace Cert.Mg

theorem frame_reference : quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

open Cert.Kernel9Ideal.Mg Cert.Reference9Ideal.Read in
/-- The call computes the two halves of the reference's gradient of the output projection's weight. -/
theorem algebraic : algebraic_Kernel9Ideal_Reference9Ideal := fun m ρ m' ρ' _ hargs =>
  ⟨fun c => val_main_v8 (F := Ideal) (mix0 m c) (mix1 m c) (dy m c),
    fun c => val_main_v10 (F := Ideal) (mix0 m c) (mix1 m c) (dy m c),
    (θ_run Cert.Kernel9Ideal.defs _ _).mono
      (fun _ h c => by
        obtain ⟨h0, h1, h⟩ := h c
        exact ⟨h0.trans (final3 m c), h1.trans (final4 m c), h⟩)
      (Cert.Kernel9Ideal.Value.run_blocks (F := Ideal) m ρ),
    (θ_run Cert.Reference9Ideal.defs _ _).mono
      (fun _ h c => by
        obtain ⟨a0, a1, a2⟩ := hargs c
        obtain ⟨h0, h1, h⟩ := h c
        have e0 := h0.trans (val_main_v8_eq ..)
        have e1 := h1.trans (val_main_v10_eq ..)
        simp only [a0, a1, a2] at e0 e1
        exact ⟨e0, e1, h⟩)
      (Cert.Reference9Ideal.Value.run (F := Ideal) m' ρ')⟩

end Cert.Mg

end
-- ==== Proof.AdFinal.lean ====
module

public import proofs.«01_k».proof.Defs
public import proofs.«01_k».proof.Proof.Gen.Kernel10Ideal.Value
public import proofs.«01_k».proof.Proof.Gen.Reference10Ideal.Read
public import proofs.«01_k».proof.Proof.Gen.Reference10Ideal.Run
public import Idealize.ShloMosaic.Lib.StableHlo.Run
public import Idealize.ShloMosaic.Lib.StableHlo.RunRead
public import Idealize.ShloMosaic.Lib.Pipeline.ValueKit
public import Idealize.ShloMosaic.Lib.Tactic
public import proofs.«01_k».proof.Proof.Real

@[expose] public section

set_option maxRecDepth 16384

noncomputable section

open Idealize.ShloMosaic Idealize.ShloMosaic.TcCoe Idealize.SL.Sem Idealize.ShloMosaic.StableHlo
open Idealize.ShloMosaic.Pipeline (Dat)

/-! The optimiser's call on the down projection: the sum of the eight parts, and AdamW's step on it. -/

namespace Cert.Kernel10Ideal.Ad

open Cert.Kernel10Ideal Cert.Kernel10Ideal.Gen Cert.RealFacts

variable (m : (ℓ : Loc nD τ sig) → Buf (Elt Ideal) ℓ) (c : Dev nD)

abbrev parts : FVec Ideal S8x352x1024 .f32 := m (c.tc.loc main_arg0)
abbrev wt : FVec Ideal S1x352x1024 .f32 := m (c.tc.loc main_arg1)
abbrev mom : FVec Ideal S1x352x1024 .f32 := m (c.tc.loc main_arg2)
abbrev vel : FVec Ideal S1x352x1024 .f32 := m (c.tc.loc main_arg3)

/-- The new first moment, the new second moment, and the step. -/
def nm (g a : EReal) : EReal := Ideal.ofBits .f32 0x3F666666#32 * a + Ideal.ofBits .f32 0x3DCCCCCD#32 * g
def nv (g b : EReal) : EReal := Ideal.ofBits .f32 0x3F7FBE77#32 * b + Ideal.ofBits .f32 0x3A83126F#32 * (g * g)
def stp (g w a b : EReal) : EReal := Ideal.ofBits .f32 0xBA83126F#32 * (Ideal.div (Ideal.div (nm g a) (Ideal.ofBits .f32 0x3F26BD02#32))
  (Ideal.sqrt (Ideal.div (nv g b) (Ideal.ofBits .f32 0x3C231ACC#32)) + Ideal.ofBits .f32 0x322BCC77#32) + Ideal.ofBits .f32 0x3C23D70A#32 * w)

section point

variable (x0 : FVec Ideal S8x352x1024 .bf16) (x1 x2 x3 : FVec Ideal S352x1024 .f32) (p : Fin 352) (j : Fin 1024)

theorem hz : (![0, 0] : Fin 2 → ℕ) = fun _ => 0 := funext fun a => by fin_cases a <;> rfl

theorem o4 : out0_4 (F := Ideal) x0 x1 x2 x3 (ix2 p j) = (∑ s, x0 (ix3 s p j) : EReal) := by
  frame_out
  unfold_payloads
  pointwise [Fin.sum_univ_eight]

theorem p5 : k0_pay5 (F := Ideal) x0 x1 x2 x3 (ix2 p j) = (∑ s, x0 (ix3 s p j) : EReal) := by
  refine Eq.trans ?_ (o4 x0 x1 x2 x3 p j)
  unfold out0_4
  rw [View.canon_unit_zero (S := S352x1024) hz]

theorem o6 : out0_6 (F := Ideal) x0 x1 x2 x3 (ix2 p j) = nm (∑ s, x0 (ix3 s p j)) (x2 (ix2 p j)) := by
  rw [← p5 x0 x1 x2 x3]
  frame_out
  pointwise [k0_pay1, nm]

theorem o7 : out0_7 (F := Ideal) x0 x1 x2 x3 (ix2 p j) = nv (∑ s, x0 (ix3 s p j)) (x3 (ix2 p j)) := by
  rw [← p5 x0 x1 x2 x3]
  frame_out
  pointwise [k0_pay2, nv]

theorem o5 : out0_5 (F := Ideal) x0 x1 x2 x3 (ix2 p j) = stp (∑ s, x0 (ix3 s p j)) (x1 (ix2 p j)) (x2 (ix2 p j)) (x3 (ix2 p j)) := by
  rw [← p5 x0 x1 x2 x3]
  frame_out
  pointwise [k0_pay3, k0_pay1, k0_pay2, stp, nm, nv]

end point

theorem V_v0 (s : Fin 8) (p : Fin 352) (j : Fin 1024) : (V m c main_v0 : FVec Ideal S8x352x1024 .bf16) (ix3 s p j) = parts m c (ix3 s p j) := by
  unfold_abbrev_sides
  after_reads_simp
  pointwise

theorem V_v1 (p : Fin 352) (j : Fin 1024) : (V m c main_v1 : FVec Ideal S352x1024 .f32) (ix2 p j) = wt m c (ix3 0 p j) := by
  unfold_abbrev_sides
  after_reads_simp
  pointwise

theorem V_v2 (p : Fin 352) (j : Fin 1024) : (V m c main_v2 : FVec Ideal S352x1024 .f32) (ix2 p j) = mom m c (ix3 0 p j) := by
  unfold_abbrev_sides
  after_reads_simp
  pointwise

theorem V_v3 (p : Fin 352) (j : Fin 1024) : (V m c main_v3 : FVec Ideal S352x1024 .f32) (ix2 p j) = vel m c (ix3 0 p j) := by
  unfold_abbrev_sides
  after_reads_simp
  pointwise

theorem at0 : ∀ t : Fin cfg0.N, win0_0.index t = ![0, 0, 0] := (by decide +kernel : ∀ t : Fin grid0.N, win0_0.index t = ![0, 0, 0])
theorem at1 : ∀ t : Fin cfg0.N, win0_1.index t = ![0, 0] := (by decide +kernel : ∀ t : Fin grid0.N, win0_1.index t = ![0, 0])
theorem at2 : ∀ t : Fin cfg0.N, win0_2.index t = ![0, 0] := (by decide +kernel : ∀ t : Fin grid0.N, win0_2.index t = ![0, 0])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])
theorem at5 : ∀ t : Fin cfg0.N, win0_5.index t = ![0, 0] := (by decide +kernel : ∀ t : Fin grid0.N, win0_5.index t = ![0, 0])
theorem at6 : ∀ t : Fin cfg0.N, win0_6.index t = ![0, 0] := (by decide +kernel : ∀ t : Fin grid0.N, win0_6.index t = ![0, 0])
theorem at7 : ∀ t : Fin cfg0.N, win0_7.index t = ![0, 0] := (by decide +kernel : ∀ t : Fin grid0.N, win0_7.index t = ![0, 0])

theorem blk0 (t : Fin cfg0.N) (s : Fin 8) (p : Fin 352) (j : Fin 1024) : (iblk m c 0 t : FVec Ideal S8x352x1024 .bf16) (ix3 s p j) = parts m c (ix3 s p j) := by
  rw [← V_v0]
  blk_simp [iblk]
  refine congrArg _ (funext fun a => Fin.ext ?_)
  fin_cases a <;> blk_simp [at0] <;> simp

theorem blk1 (t : Fin cfg0.N) (p : Fin 352) (j : Fin 1024) : (iblk m c 1 t : FVec Ideal S352x1024 .f32) (ix2 p j) = wt m c (ix3 0 p j) := by
  rw [← V_v1]
  blk_simp [iblk]
  refine congrArg _ (funext fun a => Fin.ext ?_)
  fin_cases a <;> blk_simp [at1] <;> simp

theorem blk2 (t : Fin cfg0.N) (p : Fin 352) (j : Fin 1024) : (iblk m c 2 t : FVec Ideal S352x1024 .f32) (ix2 p j) = mom m c (ix3 0 p j) := by
  rw [← V_v2]
  blk_simp [iblk]
  refine congrArg _ (funext fun a => Fin.ext ?_)
  fin_cases a <;> blk_simp [at2] <;> simp

theorem blk3 (t : Fin cfg0.N) (p : Fin 352) (j : Fin 1024) : (iblk m c 3 t : FVec Ideal S352x1024 .f32) (ix2 p j) = vel m c (ix3 0 p j) := by
  rw [← V_v3]
  blk_simp [iblk]
  refine congrArg _ (funext fun a => Fin.ext ?_)
  fin_cases a <;> blk_simp [at3] <;> simp

section reference

open Cert.Reference10Ideal.Read

variable (y0 : FVec Ideal S8x352x1024 .f32) (y1 y2 y3 : FVec Ideal S1x352x1024 .f32) (p : Fin 352) (j : Fin 1024)

theorem v26_apply : val_main_v26 (F := Ideal) y0 (ix2 p j) = ∑ s, y0 (ix3 s p j) := by
  unfold_abbrev_sides
  pointwise [val_main_v26, val_main_v1, val_main_v0, val_main_cst]

theorem v28_apply : val_main_v28 (F := Ideal) y0 y2 (ix2 p j) = nm (∑ s, y0 (ix3 s p j)) (y2 (ix3 0 p j)) := by
  unfold_abbrev_sides
  pointwise [val_main_v28, val_main_v6, val_main_v5, val_main_v4, val_main_v3, val_main_v2, val_main_v1, val_main_v0, val_main_cst, val_main_cst_0, val_main_cst_1, nm, nv, stp]

theorem v29_apply : val_main_v29 (F := Ideal) y0 y3 (ix2 p j) = nv (∑ s, y0 (ix3 s p j)) (y3 (ix3 0 p j)) := by
  unfold_abbrev_sides
  pointwise [val_main_v29, val_main_v12, val_main_v11, val_main_v10, val_main_v9, val_main_v8, val_main_v7, val_main_cst_2, val_main_cst_3, val_main_v1, val_main_v0, val_main_cst, nm, nv, stp]

theorem v27_apply : val_main_v27 (F := Ideal) y0 y1 y2 y3 (ix2 p j) = stp (∑ s, y0 (ix3 s p j)) (y1 (ix3 0 p j)) (y2 (ix3 0 p j)) (y3 (ix3 0 p j)) := by
  unfold_abbrev_sides
  pointwise [val_main_v27, val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8, val_main_v6, val_main_v5, val_main_v4, val_main_v3, val_main_v2, val_main_v1, val_main_v0, val_main_cst, val_main_cst_0, val_main_cst_1, val_main_v12, val_main_v11, val_main_v10, val_main_v9, val_main_v8, val_main_v7, val_main_cst_2, val_main_cst_3, nm, nv, stp]

end reference

theorem final4 : (dats m 0 c).arrAt 4 cfg0.N = Cert.Reference10Ideal.Read.val_main_v26 (F := Ideal) (parts m c) := by
  refine (dats m 0 c).arrAt_eq_of_covers 4 _ (by decide +kernel) fun t hf y => ?_
  obtain ⟨p, j, rfl⟩ : ∃ (p : Fin 352) (j : Fin 1024), y = ix2 p j := ⟨y 0, y 1, eq_ix2 y⟩
  blk_simp
  have hy : ((win0_4.blk t).view.emb (ix2 p j) : S352x1024.Idx) = ix2 p j := by
    refine funext fun a => Fin.ext ?_
    fin_cases a <;> blk_simp [at4] <;> simp
  rw [after0_4]
  refine ((o4 ..).trans ?_).trans ((congrArg _ hy).trans (v26_apply ..)).symm
  simp only [blk0]

theorem final5 : (dats m 0 c).arrAt 5 cfg0.N = Cert.Reference10Ideal.Read.val_main_v27 (F := Ideal) (parts m c) (wt m c) (mom m c) (vel m c) := by
  refine (dats m 0 c).arrAt_eq_of_covers 5 _ (by decide +kernel) fun t hf y => ?_
  obtain ⟨p, j, rfl⟩ : ∃ (p : Fin 352) (j : Fin 1024), y = ix2 p j := ⟨y 0, y 1, eq_ix2 y⟩
  blk_simp
  have hy : ((win0_5.blk t).view.emb (ix2 p j) : S352x1024.Idx) = ix2 p j := by
    refine funext fun a => Fin.ext ?_
    fin_cases a <;> blk_simp [at5] <;> simp
  rw [after0_5]
  refine ((o5 ..).trans ?_).trans ((congrArg _ hy).trans (v27_apply ..)).symm
  simp only [blk0, blk1, blk2, blk3]

theorem final6 : (dats m 0 c).arrAt 6 cfg0.N = Cert.Reference10Ideal.Read.val_main_v28 (F := Ideal) (parts m c) (mom m c) := by
  refine (dats m 0 c).arrAt_eq_of_covers 6 _ (by decide +kernel) fun t hf y => ?_
  obtain ⟨p, j, rfl⟩ : ∃ (p : Fin 352) (j : Fin 1024), y = ix2 p j := ⟨y 0, y 1, eq_ix2 y⟩
  blk_simp
  have hy : ((win0_6.blk t).view.emb (ix2 p j) : S352x1024.Idx) = ix2 p j := by
    refine funext fun a => Fin.ext ?_
    fin_cases a <;> blk_simp [at6] <;> simp
  rw [after0_6]
  refine ((o6 ..).trans ?_).trans ((congrArg _ hy).trans (v28_apply ..)).symm
  simp only [blk0, blk2]

theorem final7 : (dats m 0 c).arrAt 7 cfg0.N = Cert.Reference10Ideal.Read.val_main_v29 (F := Ideal) (parts m c) (vel m c) := by
  refine (dats m 0 c).arrAt_eq_of_covers 7 _ (by decide +kernel) fun t hf y => ?_
  obtain ⟨p, j, rfl⟩ : ∃ (p : Fin 352) (j : Fin 1024), y = ix2 p j := ⟨y 0, y 1, eq_ix2 y⟩
  blk_simp
  have hy : ((win0_7.blk t).view.emb (ix2 p j) : S352x1024.Idx) = ix2 p j := by
    refine funext fun a => Fin.ext ?_
    fin_cases a <;> blk_simp [at7] <;> simp
  rw [after0_7]
  refine ((o7 ..).trans ?_).trans ((congrArg _ hy).trans (v29_apply ..)).symm
  simp only [blk0, blk3]

end Cert.Kernel10Ideal.Ad

namespace Cert.Ad

theorem frame_reference : quiescent_Reference10Ideal := fun m ρ _ =>
  (θ_run Cert.Reference10Ideal.defs _ _).mono (fun r h => ⟨fun c => (h c).2.2.2.2, Idealize.ShloMosaic.sem_eq_zero_of_no_sems (by decide) r.2⟩)
    (Cert.Reference10Ideal.Value.run (F := Ideal) m ρ)

open Cert.Kernel10Ideal.Ad Cert.Reference10Ideal.Read in
/-- The optimiser's call computes the reference's summed gradient, step and new moments. -/
theorem algebraic : algebraic_Kernel10Ideal_Reference10Ideal := fun m ρ m' ρ' _ hargs =>
  ⟨fun c => val_main_v26 (F := Ideal) (parts m c),
    fun c => val_main_v27 (F := Ideal) (parts m c) (wt m c) (mom m c) (vel m c),
    fun c => val_main_v28 (F := Ideal) (parts m c) (mom m c),
    fun c => val_main_v29 (F := Ideal) (parts m c) (vel m c),
    (θ_run Cert.Kernel10Ideal.defs _ _).mono
      (fun _ h c => by
        obtain ⟨h0, h1, h2, h3, h⟩ := h c
        exact ⟨h0.trans (final4 m c), h1.trans (final5 m c), h2.trans (final6 m c), h3.trans (final7 m c), h⟩)
      (Cert.Kernel10Ideal.Value.run_blocks (F := Ideal) m ρ),
    (θ_run Cert.Reference10Ideal.defs _ _).mono
      (fun _ h c => by
        obtain ⟨a0, a1, a2, a3⟩ := hargs c
        obtain ⟨h0, h1, h2, h3, h⟩ := h c
        have e0 := h0.trans (val_main_v26_eq ..)
        have e1 := h1.trans (val_main_v27_eq ..)
        have e2 := h2.trans (val_main_v28_eq ..)
        have e3 := h3.trans (val_main_v29_eq ..)
        simp only [a0, a1, a2, a3] at e0 e1 e2 e3
        exact ⟨e0, e1, e2, e3, h⟩)
      (Cert.Reference10Ideal.Value.run (F := Ideal) m' ρ')⟩

end Cert.Ad

end
-- ==== Proof.SsFinal.lean ====
module

public import proofs.«01_k».proof.Defs
public import proofs.«01_k».proof.Proof.Gen.Kernel11Ideal.Value
public import proofs.«01_k».proof.Proof.Gen.Reference11Ideal.Read
public import proofs.«01_k».proof.Proof.Gen.Reference11Ideal.Run
public import Idealize.ShloMosaic.Lib.StableHlo.Run
public import Idealize.ShloMosaic.Lib.StableHlo.RunRead
public import Idealize.ShloMosaic.Lib.Pipeline.ValueKit
public import Idealize.ShloMosaic.Lib.Tactic
public import proofs.«01_k».proof.Proof.Real

@[expose] public section

set_option maxRecDepth 16384

noncomputable section

open Idealize.ShloMosaic Idealize.ShloMosaic.TcCoe Idealize.SL.Sem Idealize.ShloMosaic.StableHlo
open Idealize.ShloMosaic.Pipeline (Dat)

/-! The sum of the eight parts of the small tensors. -/

namespace Cert.Kernel11Ideal.Ss

open Cert.Kernel11Ideal Cert.Kernel11Ideal.Gen Cert.RealFacts

variable (m : (ℓ : Loc nD τ sig) → Buf (Elt Ideal) ℓ) (c : Dev nD)

abbrev parts : FVec Ideal S8x200x128 .f32 := m (c.tc.loc main_arg0)

theorem o1 (x0 : FVec Ideal S8x200x128 .f32) (p : Fin 200) (j : Fin 128) : out0_1 (F := Ideal) x0 (ix2 p j) = (∑ s, x0 (ix3 s p j) : EReal) := by
  frame_out
  unfold_payloads
  pointwise [Fin.sum_univ_eight]

theorem at0 : ∀ t : Fin cfg0.N, win0_0.index t = ![0, 0, 0] := (by decide +kernel : ∀ t : Fin grid0.N, win0_0.index t = ![0, 0, 0])
theorem at1 : ∀ t : Fin cfg0.N, win0_1.index t = ![0, 0] := (by decide +kernel : ∀ t : Fin grid0.N, win0_1.index t = ![0, 0])

theorem blk0 (t : Fin cfg0.N) (s : Fin 8) (p : Fin 200) (j : Fin 128) : (iblk m c 0 t : FVec Ideal S8x200x128 .f32) (ix3 s p j) = parts m c (ix3 s p j) := by
  refine Eq.trans ?_ (congrFun (V_main_arg0 m c) (ix3 s p j))
  blk_simp [iblk]
  refine congrArg _ (funext fun a => Fin.ext ?_)
  fin_cases a <;> blk_simp [at0] <;> simp

theorem v0_apply (y0 : FVec Ideal S8x200x128 .f32) (p : Fin 200) (j : Fin 128) :
    Cert.Reference11Ideal.Read.val_main_v0 (F := Ideal) y0 (ix2 p j) = ∑ s, y0 (ix3 s p j) := by
  unfold_abbrev_sides
  pointwise [Cert.Reference11Ideal.Read.val_main_v0, Cert.Reference11Ideal.Read.val_main_cst]

theorem final1 : (dats m 0 c).arrAt 1 cfg0.N = Cert.Reference11Ideal.Read.val_main_v0 (F := Ideal) (parts m c) := by
  refine (dats m 0 c).arrAt_eq_of_covers 1 _ (by decide +kernel) fun t hf y => ?_
  obtain ⟨p, j, rfl⟩ : ∃ (p : Fin 200) (j : Fin 128), y = ix2 p j := ⟨y 0, y 1, eq_ix2 y⟩
  blk_simp
  have hy : ((win0_1.blk t).view.emb (ix2 p j) : S200x128.Idx) = ix2 p j := by
    refine funext fun a => Fin.ext ?_
    fin_cases a <;> blk_simp [at1] <;> simp
  rw [after0_1]
  refine ((o1 ..).trans ?_).trans ((congrArg _ hy).trans (v0_apply ..)).symm
  simp only [blk0]

end Cert.Kernel11Ideal.Ss

namespace Cert.Ss

theorem frame_reference : quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

open Cert.Kernel11Ideal.Ss Cert.Reference11Ideal.Read in
/-- The call sums the eight parts as the reference does. -/
theorem algebraic : algebraic_Kernel11Ideal_Reference11Ideal := fun m ρ m' ρ' _ hargs =>
  ⟨fun c => val_main_v0 (F := Ideal) (parts m c),
    (θ_run Cert.Kernel11Ideal.defs _ _).mono
      (fun _ h c => by
        obtain ⟨h0, h⟩ := h c
        exact ⟨h0.trans (final1 m c), h⟩)
      (Cert.Kernel11Ideal.Value.run_blocks (F := Ideal) m ρ),
    (θ_run Cert.Reference11Ideal.defs _ _).mono
      (fun _ h c => by
        have a0 := hargs c
        obtain ⟨h0, h⟩ := h c
        have e0 := h0.trans (val_main_v0_eq ..)
        simp only [a0] at e0
        exact ⟨e0, h⟩)
      (Cert.Reference11Ideal.Value.run (F := Ideal) m' ρ')⟩

end Cert.Ss

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.Pre_finite
public import proofs.«01_k».proof.Proof.InFinal
public import proofs.«01_k».proof.Proof.FbFinal
public import proofs.«01_k».proof.Proof.RfFinal
public import proofs.«01_k».proof.Proof.SfFinal
public import proofs.«01_k».proof.Proof.FtFinal
public import proofs.«01_k».proof.Proof.FiFinal
public import proofs.«01_k».proof.Proof.FmFinal
public import proofs.«01_k».proof.Proof.MtFinal
public import proofs.«01_k».proof.Proof.MgFinal
public import proofs.«01_k».proof.Proof.AdFinal
public import proofs.«01_k».proof.Proof.SsFinal
public import proofs.«01_k».proof.Proof.Gen.Kernel5Ideal.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run

@[expose] public section

noncomputable section

namespace Cert.Proof

open Idealize.ShloMosaic Idealize.SL.Sem Cert.Kernel

/-- The differentiated input projection terminates with its arguments unchanged. -/
theorem frame_reference : quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The input gradient's kernel computes the derivative of the reference's input projection. -/
theorem algebraic : algebraic_KernelIdeal_ReferenceIdeal_pre_finite := fun m ρ m' ρ' hpre hargs =>
  ⟨fun c => Cert.KernelIdeal.In.GX m c, fun c => Cert.KernelIdeal.In.GW m c,
    (θ_run Cert.KernelIdeal.defs _ _).mono
      (fun _ h c => ⟨(h c).1.trans (Cert.KernelIdeal.In.final12 m c), (h c).2.1.trans (Cert.KernelIdeal.In.final13 m c), (h c).2.2⟩)
      (Cert.KernelIdeal.Value.run_blocks (F := Ideal) m ρ),
    (θ_run Cert.ReferenceIdeal.defs _ _).mono
      (fun _ h c => by
        obtain ⟨a0, a1, a2, a3, a4, a5, a6, a7, a8, a9, a10⟩ := hargs c
        refine ⟨(h c).1.trans ((Cert.ReferenceIdeal.Read.val_main_v51_eq m' c).trans ?_), (h c).2.1.trans ((Cert.ReferenceIdeal.Read.val_main_v50_eq ..).trans ?_), (h c).2.2⟩
        · rw [a0, a1, a2, a3, a4, a5, a6, a7, a8, a9, a10]
          exact Cert.In.gx_eq m c (hpre c)
        · rw [a0, a2, a4, a5, a6, a7, a8, a9, a10]
          exact Cert.In.gw_eq m c)
      (Cert.ReferenceIdeal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, Cert.Pre_finite.Gen.facts, Cert.Pre_finite2.Gen.facts,
  Cert.Pre_finite5.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  Cert.Fb.frame_reference,
  fun m ρ _ => Cert.Fb.frame_reference m ρ trivial,
  fun m ρ _ => Cert.Kernel3.Gen.frame m ρ,
  fun m ρ _ => Cert.Kernel3Ideal.Gen.frame m ρ,
  Cert.Rf.frame_reference,
  fun m ρ _ => Cert.Kernel4.Gen.frame m ρ,
  fun m ρ _ => Cert.Kernel4Ideal.Gen.frame m ρ,
  Cert.Sf.frame_reference,
  fun m ρ _ => Cert.Kernel5.Gen.frame m ρ,
  fun m ρ _ => Cert.Kernel5Ideal.Gen.frame m ρ,
  fun m ρ _ => Cert.Kernel5Ideal.Gen.frame m ρ,
  Cert.Ft.frame_reference,
  fun m ρ _ => Cert.Ft.frame_reference m ρ trivial,
  fun m ρ _ => Cert.Kernel6.Gen.frame m ρ,
  fun m ρ _ => Cert.Kernel6Ideal.Gen.frame m ρ,
  Cert.Fm.frame_reference,
  fun m ρ _ => Cert.Kernel7.Gen.frame m ρ,
  fun m ρ _ => Cert.Kernel7Ideal.Gen.frame m ρ,
  Cert.Fi.frame_reference,
  fun m ρ _ => Cert.Kernel8.Gen.frame m ρ, fun m ρ _ => Cert.Kernel8Ideal.Gen.frame m ρ, Cert.Mt.frame_reference,
  fun m ρ _ => Cert.Kernel9.Gen.frame m ρ, fun m ρ _ => Cert.Kernel9Ideal.Gen.frame m ρ, Cert.Mg.frame_reference,
  fun m ρ _ => Cert.Kernel10.Gen.frame m ρ, fun m ρ _ => Cert.Kernel10Ideal.Gen.frame m ρ, Cert.Ad.frame_reference,
  fun m ρ _ => Cert.Kernel11.Gen.frame m ρ, fun m ρ _ => Cert.Kernel11Ideal.Gen.frame m ρ, Cert.Ss.frame_reference,
  trivial,
  algebraic,
  trivial,
  Cert.Fb.algebraic,
  Cert.Rf.preserves,
  Cert.Rf.algebraic,
  Cert.Sf.preserves,
  Cert.Sf.algebraic,
  trivial,
  Cert.Ft.algebraic,
  trivial,
  Cert.Fm.algebraic,
  trivial,
  Cert.Fi.algebraic, trivial, Cert.Mt.algebraic, trivial, Cert.Mg.algebraic, trivial, Cert.Ad.algebraic,
  trivial, Cert.Ss.algebraic⟩

end Cert.Proof

end
